-- ==== Defs.lean ====
def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_sgu_finite [hPre_sgu_finite : Cert.Pre_sgu_finite.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.2.2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_finite [hPre_norm_finite : Cert.Pre_norm_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.2.2 = (fun _ => 1#1)

def Pre_NormABwd (m : (ℓ : Loc Cert.NormABwd.nD Cert.NormABwd.τ Cert.NormABwd.sig) → Buf (Elt Bits) ℓ) : Prop :=
  True

def Pre_NormABwdIdeal (m : (ℓ : Loc Cert.NormABwdIdeal.nD Cert.NormABwdIdeal.τ Cert.NormABwdIdeal.sig) → Buf (Elt Ideal) ℓ) : Prop :=
  True

def Pre_NormABwdIdeal_first_norm_finite [hPre_first_norm_finite : Cert.Pre_first_norm_finite.Facts] (m : (ℓ : Loc Cert.NormABwdIdeal.nD Cert.NormABwdIdeal.τ Cert.NormABwdIdeal.sig) → Buf (Elt Ideal) ℓ) : Prop :=
  ∀ c : Dev Cert.NormABwdIdeal.nD,
    (Cert.Pre_first_norm_finite.fn (F := Ideal) (m ((c.tc : Thread Cert.NormABwdIdeal.nD Cert.NormABwdIdeal.τ).loc Cert.NormABwdIdeal.main_arg0)) (m ((c.tc : Thread Cert.NormABwdIdeal.nD Cert.NormABwdIdeal.τ).loc Cert.NormABwdIdeal.main_arg1)) (m ((c.tc : Thread Cert.NormABwdIdeal.nD Cert.NormABwdIdeal.τ).loc Cert.NormABwdIdeal.main_arg2)) (m ((c.tc : Thread Cert.NormABwdIdeal.nD Cert.NormABwdIdeal.τ).loc Cert.NormABwdIdeal.main_arg3)) (m ((c.tc : Thread Cert.NormABwdIdeal.nD Cert.NormABwdIdeal.τ).loc Cert.NormABwdIdeal.main_arg4)) (m ((c.tc : Thread Cert.NormABwdIdeal.nD Cert.NormABwdIdeal.τ).loc Cert.NormABwdIdeal.main_arg5))).1 = (fun _ => 1#1)
    ∧ (Cert.Pre_first_norm_finite.fn (F := Ideal) (m ((c.tc : Thread Cert.NormABwdIdeal.nD Cert.NormABwdIdeal.τ).loc Cert.NormABwdIdeal.main_arg0)) (m ((c.tc : Thread Cert.NormABwdIdeal.nD Cert.NormABwdIdeal.τ).loc Cert.NormABwdIdeal.main_arg1)) (m ((c.tc : Thread Cert.NormABwdIdeal.nD Cert.NormABwdIdeal.τ).loc Cert.NormABwdIdeal.main_arg2)) (m ((c.tc : Thread Cert.NormABwdIdeal.nD Cert.NormABwdIdeal.τ).loc Cert.NormABwdIdeal.main_arg3)) (m ((c.tc : Thread Cert.NormABwdIdeal.nD Cert.NormABwdIdeal.τ).loc Cert.NormABwdIdeal.main_arg4)) (m ((c.tc : Thread Cert.NormABwdIdeal.nD Cert.NormABwdIdeal.τ).loc Cert.NormABwdIdeal.main_arg5))).2.1 = (fun _ => 1#1)
    ∧ (Cert.Pre_first_norm_finite.fn (F := Ideal) (m ((c.tc : Thread Cert.NormABwdIdeal.nD Cert.NormABwdIdeal.τ).loc Cert.NormABwdIdeal.main_arg0)) (m ((c.tc : Thread Cert.NormABwdIdeal.nD Cert.NormABwdIdeal.τ).loc Cert.NormABwdIdeal.main_arg1)) (m ((c.tc : Thread Cert.NormABwdIdeal.nD Cert.NormABwdIdeal.τ).loc Cert.NormABwdIdeal.main_arg2)) (m ((c.tc : Thread Cert.NormABwdIdeal.nD Cert.NormABwdIdeal.τ).loc Cert.NormABwdIdeal.main_arg3)) (m ((c.tc : Thread Cert.NormABwdIdeal.nD Cert.NormABwdIdeal.τ).loc Cert.NormABwdIdeal.main_arg4)) (m ((c.tc : Thread Cert.NormABwdIdeal.nD Cert.NormABwdIdeal.τ).loc Cert.NormABwdIdeal.main_arg5))).2.2.1 = (fun _ => 1#1)
    ∧ (Cert.Pre_first_norm_finite.fn (F := Ideal) (m ((c.tc : Thread Cert.NormABwdIdeal.nD Cert.NormABwdIdeal.τ).loc Cert.NormABwdIdeal.main_arg0)) (m ((c.tc : Thread Cert.NormABwdIdeal.nD Cert.NormABwdIdeal.τ).loc Cert.NormABwdIdeal.main_arg1)) (m ((c.tc : Thread Cert.NormABwdIdeal.nD Cert.NormABwdIdeal.τ).loc Cert.NormABwdIdeal.main_arg2)) (m ((c.tc : Thread Cert.NormABwdIdeal.nD Cert.NormABwdIdeal.τ).loc Cert.NormABwdIdeal.main_arg3)) (m ((c.tc : Thread Cert.NormABwdIdeal.nD Cert.NormABwdIdeal.τ).loc Cert.NormABwdIdeal.main_arg4)) (m ((c.tc : Thread Cert.NormABwdIdeal.nD Cert.NormABwdIdeal.τ).loc Cert.NormABwdIdeal.main_arg5))).2.2.2.1 = (fun _ => 1#1)
    ∧ (Cert.Pre_first_norm_finite.fn (F := Ideal) (m ((c.tc : Thread Cert.NormABwdIdeal.nD Cert.NormABwdIdeal.τ).loc Cert.NormABwdIdeal.main_arg0)) (m ((c.tc : Thread Cert.NormABwdIdeal.nD Cert.NormABwdIdeal.τ).loc Cert.NormABwdIdeal.main_arg1)) (m ((c.tc : Thread Cert.NormABwdIdeal.nD Cert.NormABwdIdeal.τ).loc Cert.NormABwdIdeal.main_arg2)) (m ((c.tc : Thread Cert.NormABwdIdeal.nD Cert.NormABwdIdeal.τ).loc Cert.NormABwdIdeal.main_arg3)) (m ((c.tc : Thread Cert.NormABwdIdeal.nD Cert.NormABwdIdeal.τ).loc Cert.NormABwdIdeal.main_arg4)) (m ((c.tc : Thread Cert.NormABwdIdeal.nD Cert.NormABwdIdeal.τ).loc Cert.NormABwdIdeal.main_arg5))).2.2.2.2.1 = (fun _ => 1#1)
    ∧ (Cert.Pre_first_norm_finite.fn (F := Ideal) (m ((c.tc : Thread Cert.NormABwdIdeal.nD Cert.NormABwdIdeal.τ).loc Cert.NormABwdIdeal.main_arg0)) (m ((c.tc : Thread Cert.NormABwdIdeal.nD Cert.NormABwdIdeal.τ).loc Cert.NormABwdIdeal.main_arg1)) (m ((c.tc : Thread Cert.NormABwdIdeal.nD Cert.NormABwdIdeal.τ).loc Cert.NormABwdIdeal.main_arg2)) (m ((c.tc : Thread Cert.NormABwdIdeal.nD Cert.NormABwdIdeal.τ).loc Cert.NormABwdIdeal.main_arg3)) (m ((c.tc : Thread Cert.NormABwdIdeal.nD Cert.NormABwdIdeal.τ).loc Cert.NormABwdIdeal.main_arg4)) (m ((c.tc : Thread Cert.NormABwdIdeal.nD Cert.NormABwdIdeal.τ).loc Cert.NormABwdIdeal.main_arg5))).2.2.2.2.2 = (fun _ => 1#1)

def Pre_NormARefIdeal (m : (ℓ : Loc Cert.NormARefIdeal.nD Cert.NormARefIdeal.τ Cert.NormARefIdeal.sig) → Buf (Elt Ideal) ℓ) : Prop :=
  True

def Pre_NormARefIdeal_first_norm_finite [hPre_first_norm_finite : Cert.Pre_first_norm_finite.Facts] (m : (ℓ : Loc Cert.NormARefIdeal.nD Cert.NormARefIdeal.τ Cert.NormARefIdeal.sig) → Buf (Elt Ideal) ℓ) : Prop :=
  ∀ c : Dev Cert.NormARefIdeal.nD,
    (Cert.Pre_first_norm_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4)) (m ((c.tc : Thread Cert.NormARefIdeal.nD Cert.NormARefIdeal.τ).loc Cert.NormARefIdeal.main_arg5))).1 = (fun _ => 1#1)
    ∧ (Cert.Pre_first_norm_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4)) (m ((c.tc : Thread Cert.NormARefIdeal.nD Cert.NormARefIdeal.τ).loc Cert.NormARefIdeal.main_arg5))).2.1 = (fun _ => 1#1)
    ∧ (Cert.Pre_first_norm_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4)) (m ((c.tc : Thread Cert.NormARefIdeal.nD Cert.NormARefIdeal.τ).loc Cert.NormARefIdeal.main_arg5))).2.2.1 = (fun _ => 1#1)
    ∧ (Cert.Pre_first_norm_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4)) (m ((c.tc : Thread Cert.NormARefIdeal.nD Cert.NormARefIdeal.τ).loc Cert.NormARefIdeal.main_arg5))).2.2.2.1 = (fun _ => 1#1)
    ∧ (Cert.Pre_first_norm_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4)) (m ((c.tc : Thread Cert.NormARefIdeal.nD Cert.NormARefIdeal.τ).loc Cert.NormARefIdeal.main_arg5))).2.2.2.2.1 = (fun _ => 1#1)
    ∧ (Cert.Pre_first_norm_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4)) (m ((c.tc : Thread Cert.NormARefIdeal.nD Cert.NormARefIdeal.τ).loc Cert.NormARefIdeal.main_arg5))).2.2.2.2.2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_finite [hPre_mix_finite : Cert.Pre_mix_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4))).1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4))).2.1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4))).2.2.1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4))).2.2.2.1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4))).2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))).2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))).2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))).2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))).2.2.2.2 = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InpFwd (m : (ℓ : Loc Cert.InpFwd.nD Cert.InpFwd.τ Cert.InpFwd.sig) → Buf (Elt Bits) ℓ) : Prop :=
  True

def Pre_InpFwdIdeal (m : (ℓ : Loc Cert.InpFwdIdeal.nD Cert.InpFwdIdeal.τ Cert.InpFwdIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_BiasUpd (m : (ℓ : Loc Cert.BiasUpd.nD Cert.BiasUpd.τ Cert.BiasUpd.sig) → Buf (Elt Bits) ℓ) : Prop :=
  True

def Pre_BiasUpdIdeal (m : (ℓ : Loc Cert.BiasUpdIdeal.nD Cert.BiasUpdIdeal.τ Cert.BiasUpdIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_ModuFwd (m : (ℓ : Loc Cert.ModuFwd.nD Cert.ModuFwd.τ Cert.ModuFwd.sig) → Buf (Elt Bits) ℓ) : Prop :=
  True

def Pre_ModuFwdIdeal (m : (ℓ : Loc Cert.ModuFwdIdeal.nD Cert.ModuFwdIdeal.τ Cert.ModuFwdIdeal.sig) → Buf (Elt Ideal) ℓ) : Prop :=
  True

def Pre_ModuRefIdeal (m : (ℓ : Loc Cert.ModuRefIdeal.nD Cert.ModuRefIdeal.τ Cert.ModuRefIdeal.sig) → Buf (Elt Ideal) ℓ) : Prop :=
  True

def Pre_ScanFwd (m : (ℓ : Loc Cert.ScanFwd.nD Cert.ScanFwd.τ Cert.ScanFwd.sig) → Buf (Elt Bits) ℓ) : Prop :=
  True

def Pre_ScanFwdIdeal (m : (ℓ : Loc Cert.ScanFwdIdeal.nD Cert.ScanFwdIdeal.τ Cert.ScanFwdIdeal.sig) → Buf (Elt Ideal) ℓ) : Prop :=
  True

def Pre_WinBwd (m : (ℓ : Loc Cert.WinBwd.nD Cert.WinBwd.τ Cert.WinBwd.sig) → Buf (Elt Bits) ℓ) : Prop :=
  True

def Pre_WinBwdIdeal (m : (ℓ : Loc Cert.WinBwdIdeal.nD Cert.WinBwdIdeal.τ Cert.WinBwdIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_WoutBwd (m : (ℓ : Loc Cert.WoutBwd.nD Cert.WoutBwd.τ Cert.WoutBwd.sig) → Buf (Elt Bits) ℓ) : Prop :=
  True

def Pre_WoutBwdIdeal (m : (ℓ : Loc Cert.WoutBwdIdeal.nD Cert.WoutBwdIdeal.τ Cert.WoutBwdIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_SumParts (m : (ℓ : Loc Cert.SumParts.nD Cert.SumParts.τ Cert.SumParts.sig) → Buf (Elt Bits) ℓ) : Prop :=
  True

def Pre_SumPartsIdeal (m : (ℓ : Loc Cert.SumPartsIdeal.nD Cert.SumPartsIdeal.τ Cert.SumPartsIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_PairUpd (m : (ℓ : Loc Cert.PairUpd.nD Cert.PairUpd.τ Cert.PairUpd.sig) → Buf (Elt Bits) ℓ) : Prop :=
  True

def Pre_PairUpdIdeal (m : (ℓ : Loc Cert.PairUpdIdeal.nD Cert.PairUpdIdeal.τ Cert.PairUpdIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdIdeal_pre_sgu_finite [hSguBwdIdeal : Cert.SguBwdIdeal.Facts] [hPre_sgu_finite : Cert.Pre_sgu_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_sgu_finite m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdIdeal_pre_norm_finite [hNormBwdIdeal : Cert.NormBwdIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormABwd [hNormABwd : Cert.NormABwd.Facts] : Prop :=
  ∀ (m : (ℓ : Loc Cert.NormABwd.nD Cert.NormABwd.τ Cert.NormABwd.sig) → Buf (Elt Bits) ℓ) (g : Dev Cert.NormABwd.nD → PrngReg), Pre_NormABwd m →
    θ_run (Cert.NormABwd.defs (F := Bits)) (onTc (τ := Cert.NormABwd.τ) (Cert.NormABwd.main (F := Bits))) ⟨m, fun _ => 0, g⟩ (fun r => (∀ c : Dev Cert.NormABwd.nD,
      r.2.mem ((c.tc : Thread Cert.NormABwd.nD Cert.NormABwd.τ).loc Cert.NormABwd.main_arg0) = m ((c.tc : Thread Cert.NormABwd.nD Cert.NormABwd.τ).loc Cert.NormABwd.main_arg0)
      ∧ r.2.mem ((c.tc : Thread Cert.NormABwd.nD Cert.NormABwd.τ).loc Cert.NormABwd.main_arg1) = m ((c.tc : Thread Cert.NormABwd.nD Cert.NormABwd.τ).loc Cert.NormABwd.main_arg1)
      ∧ r.2.mem ((c.tc : Thread Cert.NormABwd.nD Cert.NormABwd.τ).loc Cert.NormABwd.main_arg2) = m ((c.tc : Thread Cert.NormABwd.nD Cert.NormABwd.τ).loc Cert.NormABwd.main_arg2)
      ∧ r.2.mem ((c.tc : Thread Cert.NormABwd.nD Cert.NormABwd.τ).loc Cert.NormABwd.main_arg3) = m ((c.tc : Thread Cert.NormABwd.nD Cert.NormABwd.τ).loc Cert.NormABwd.main_arg3)
      ∧ r.2.mem ((c.tc : Thread Cert.NormABwd.nD Cert.NormABwd.τ).loc Cert.NormABwd.main_arg4) = m ((c.tc : Thread Cert.NormABwd.nD Cert.NormABwd.τ).loc Cert.NormABwd.main_arg4)
      ∧ r.2.mem ((c.tc : Thread Cert.NormABwd.nD Cert.NormABwd.τ).loc Cert.NormABwd.main_arg5) = m ((c.tc : Thread Cert.NormABwd.nD Cert.NormABwd.τ).loc Cert.NormABwd.main_arg5))
      ∧ r.2.sem = fun _ => 0)

def quiescent_NormABwdIdeal [hNormABwdIdeal : Cert.NormABwdIdeal.Facts] : Prop :=
  ∀ (m : (ℓ : Loc Cert.NormABwdIdeal.nD Cert.NormABwdIdeal.τ Cert.NormABwdIdeal.sig) → Buf (Elt Ideal) ℓ) (g : Dev Cert.NormABwdIdeal.nD → PrngReg), Pre_NormABwdIdeal m →
    θ_run (Cert.NormABwdIdeal.defs (F := Ideal)) (onTc (τ := Cert.NormABwdIdeal.τ) (Cert.NormABwdIdeal.main (F := Ideal))) ⟨m, fun _ => 0, g⟩ (fun r => (∀ c : Dev Cert.NormABwdIdeal.nD,
      r.2.mem ((c.tc : Thread Cert.NormABwdIdeal.nD Cert.NormABwdIdeal.τ).loc Cert.NormABwdIdeal.main_arg0) = m ((c.tc : Thread Cert.NormABwdIdeal.nD Cert.NormABwdIdeal.τ).loc Cert.NormABwdIdeal.main_arg0)
      ∧ r.2.mem ((c.tc : Thread Cert.NormABwdIdeal.nD Cert.NormABwdIdeal.τ).loc Cert.NormABwdIdeal.main_arg1) = m ((c.tc : Thread Cert.NormABwdIdeal.nD Cert.NormABwdIdeal.τ).loc Cert.NormABwdIdeal.main_arg1)
      ∧ r.2.mem ((c.tc : Thread Cert.NormABwdIdeal.nD Cert.NormABwdIdeal.τ).loc Cert.NormABwdIdeal.main_arg2) = m ((c.tc : Thread Cert.NormABwdIdeal.nD Cert.NormABwdIdeal.τ).loc Cert.NormABwdIdeal.main_arg2)
      ∧ r.2.mem ((c.tc : Thread Cert.NormABwdIdeal.nD Cert.NormABwdIdeal.τ).loc Cert.NormABwdIdeal.main_arg3) = m ((c.tc : Thread Cert.NormABwdIdeal.nD Cert.NormABwdIdeal.τ).loc Cert.NormABwdIdeal.main_arg3)
      ∧ r.2.mem ((c.tc : Thread Cert.NormABwdIdeal.nD Cert.NormABwdIdeal.τ).loc Cert.NormABwdIdeal.main_arg4) = m ((c.tc : Thread Cert.NormABwdIdeal.nD Cert.NormABwdIdeal.τ).loc Cert.NormABwdIdeal.main_arg4)
      ∧ r.2.mem ((c.tc : Thread Cert.NormABwdIdeal.nD Cert.NormABwdIdeal.τ).loc Cert.NormABwdIdeal.main_arg5) = m ((c.tc : Thread Cert.NormABwdIdeal.nD Cert.NormABwdIdeal.τ).loc Cert.NormABwdIdeal.main_arg5))
      ∧ r.2.sem = fun _ => 0)

def quiescent_NormABwdIdeal_pre_first_norm_finite [hNormABwdIdeal : Cert.NormABwdIdeal.Facts] [hPre_first_norm_finite : Cert.Pre_first_norm_finite.Facts] : Prop :=
  ∀ (m : (ℓ : Loc Cert.NormABwdIdeal.nD Cert.NormABwdIdeal.τ Cert.NormABwdIdeal.sig) → Buf (Elt Ideal) ℓ) (g : Dev Cert.NormABwdIdeal.nD → PrngReg), Pre_NormABwdIdeal_first_norm_finite m →
    θ_run (Cert.NormABwdIdeal.defs (F := Ideal)) (onTc (τ := Cert.NormABwdIdeal.τ) (Cert.NormABwdIdeal.main (F := Ideal))) ⟨m, fun _ => 0, g⟩ (fun r => (∀ c : Dev Cert.NormABwdIdeal.nD,
      r.2.mem ((c.tc : Thread Cert.NormABwdIdeal.nD Cert.NormABwdIdeal.τ).loc Cert.NormABwdIdeal.main_arg0) = m ((c.tc : Thread Cert.NormABwdIdeal.nD Cert.NormABwdIdeal.τ).loc Cert.NormABwdIdeal.main_arg0)
      ∧ r.2.mem ((c.tc : Thread Cert.NormABwdIdeal.nD Cert.NormABwdIdeal.τ).loc Cert.NormABwdIdeal.main_arg1) = m ((c.tc : Thread Cert.NormABwdIdeal.nD Cert.NormABwdIdeal.τ).loc Cert.NormABwdIdeal.main_arg1)
      ∧ r.2.mem ((c.tc : Thread Cert.NormABwdIdeal.nD Cert.NormABwdIdeal.τ).loc Cert.NormABwdIdeal.main_arg2) = m ((c.tc : Thread Cert.NormABwdIdeal.nD Cert.NormABwdIdeal.τ).loc Cert.NormABwdIdeal.main_arg2)
      ∧ r.2.mem ((c.tc : Thread Cert.NormABwdIdeal.nD Cert.NormABwdIdeal.τ).loc Cert.NormABwdIdeal.main_arg3) = m ((c.tc : Thread Cert.NormABwdIdeal.nD Cert.NormABwdIdeal.τ).loc Cert.NormABwdIdeal.main_arg3)
      ∧ r.2.mem ((c.tc : Thread Cert.NormABwdIdeal.nD Cert.NormABwdIdeal.τ).loc Cert.NormABwdIdeal.main_arg4) = m ((c.tc : Thread Cert.NormABwdIdeal.nD Cert.NormABwdIdeal.τ).loc Cert.NormABwdIdeal.main_arg4)
      ∧ r.2.mem ((c.tc : Thread Cert.NormABwdIdeal.nD Cert.NormABwdIdeal.τ).loc Cert.NormABwdIdeal.main_arg5) = m ((c.tc : Thread Cert.NormABwdIdeal.nD Cert.NormABwdIdeal.τ).loc Cert.NormABwdIdeal.main_arg5))
      ∧ r.2.sem = fun _ => 0)

def quiescent_NormARefIdeal [hNormARefIdeal : Cert.NormARefIdeal.Facts] : Prop :=
  ∀ (m : (ℓ : Loc Cert.NormARefIdeal.nD Cert.NormARefIdeal.τ Cert.NormARefIdeal.sig) → Buf (Elt Ideal) ℓ) (g : Dev Cert.NormARefIdeal.nD → PrngReg), Pre_NormARefIdeal m →
    θ_run (Cert.NormARefIdeal.defs (F := Ideal)) (onTc (τ := Cert.NormARefIdeal.τ) (Cert.NormARefIdeal.main (F := Ideal))) ⟨m, fun _ => 0, g⟩ (fun r => (∀ c : Dev Cert.NormARefIdeal.nD,
      r.2.mem ((c.tc : Thread Cert.NormARefIdeal.nD Cert.NormARefIdeal.τ).loc Cert.NormARefIdeal.main_arg0) = m ((c.tc : Thread Cert.NormARefIdeal.nD Cert.NormARefIdeal.τ).loc Cert.NormARefIdeal.main_arg0)
      ∧ r.2.mem ((c.tc : Thread Cert.NormARefIdeal.nD Cert.NormARefIdeal.τ).loc Cert.NormARefIdeal.main_arg1) = m ((c.tc : Thread Cert.NormARefIdeal.nD Cert.NormARefIdeal.τ).loc Cert.NormARefIdeal.main_arg1)
      ∧ r.2.mem ((c.tc : Thread Cert.NormARefIdeal.nD Cert.NormARefIdeal.τ).loc Cert.NormARefIdeal.main_arg2) = m ((c.tc : Thread Cert.NormARefIdeal.nD Cert.NormARefIdeal.τ).loc Cert.NormARefIdeal.main_arg2)
      ∧ r.2.mem ((c.tc : Thread Cert.NormARefIdeal.nD Cert.NormARefIdeal.τ).loc Cert.NormARefIdeal.main_arg3) = m ((c.tc : Thread Cert.NormARefIdeal.nD Cert.NormARefIdeal.τ).loc Cert.NormARefIdeal.main_arg3)
      ∧ r.2.mem ((c.tc : Thread Cert.NormARefIdeal.nD Cert.NormARefIdeal.τ).loc Cert.NormARefIdeal.main_arg4) = m ((c.tc : Thread Cert.NormARefIdeal.nD Cert.NormARefIdeal.τ).loc Cert.NormARefIdeal.main_arg4)
      ∧ r.2.mem ((c.tc : Thread Cert.NormARefIdeal.nD Cert.NormARefIdeal.τ).loc Cert.NormARefIdeal.main_arg5) = m ((c.tc : Thread Cert.NormARefIdeal.nD Cert.NormARefIdeal.τ).loc Cert.NormARefIdeal.main_arg5))
      ∧ r.2.sem = fun _ => 0)

def quiescent_NormARefIdeal_pre_first_norm_finite [hNormARefIdeal : Cert.NormARefIdeal.Facts] [hPre_first_norm_finite : Cert.Pre_first_norm_finite.Facts] : Prop :=
  ∀ (m : (ℓ : Loc Cert.NormARefIdeal.nD Cert.NormARefIdeal.τ Cert.NormARefIdeal.sig) → Buf (Elt Ideal) ℓ) (g : Dev Cert.NormARefIdeal.nD → PrngReg), Pre_NormARefIdeal_first_norm_finite m →
    θ_run (Cert.NormARefIdeal.defs (F := Ideal)) (onTc (τ := Cert.NormARefIdeal.τ) (Cert.NormARefIdeal.main (F := Ideal))) ⟨m, fun _ => 0, g⟩ (fun r => (∀ c : Dev Cert.NormARefIdeal.nD,
      r.2.mem ((c.tc : Thread Cert.NormARefIdeal.nD Cert.NormARefIdeal.τ).loc Cert.NormARefIdeal.main_arg0) = m ((c.tc : Thread Cert.NormARefIdeal.nD Cert.NormARefIdeal.τ).loc Cert.NormARefIdeal.main_arg0)
      ∧ r.2.mem ((c.tc : Thread Cert.NormARefIdeal.nD Cert.NormARefIdeal.τ).loc Cert.NormARefIdeal.main_arg1) = m ((c.tc : Thread Cert.NormARefIdeal.nD Cert.NormARefIdeal.τ).loc Cert.NormARefIdeal.main_arg1)
      ∧ r.2.mem ((c.tc : Thread Cert.NormARefIdeal.nD Cert.NormARefIdeal.τ).loc Cert.NormARefIdeal.main_arg2) = m ((c.tc : Thread Cert.NormARefIdeal.nD Cert.NormARefIdeal.τ).loc Cert.NormARefIdeal.main_arg2)
      ∧ r.2.mem ((c.tc : Thread Cert.NormARefIdeal.nD Cert.NormARefIdeal.τ).loc Cert.NormARefIdeal.main_arg3) = m ((c.tc : Thread Cert.NormARefIdeal.nD Cert.NormARefIdeal.τ).loc Cert.NormARefIdeal.main_arg3)
      ∧ r.2.mem ((c.tc : Thread Cert.NormARefIdeal.nD Cert.NormARefIdeal.τ).loc Cert.NormARefIdeal.main_arg4) = m ((c.tc : Thread Cert.NormARefIdeal.nD Cert.NormARefIdeal.τ).loc Cert.NormARefIdeal.main_arg4)
      ∧ r.2.mem ((c.tc : Thread Cert.NormARefIdeal.nD Cert.NormARefIdeal.τ).loc Cert.NormARefIdeal.main_arg5) = m ((c.tc : Thread Cert.NormARefIdeal.nD Cert.NormARefIdeal.τ).loc Cert.NormARefIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixFwdIdeal_pre_mix_finite [hMixFwdIdeal : Cert.MixFwdIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_InpFwd [hInpFwd : Cert.InpFwd.Facts] : Prop :=
  ∀ (m : (ℓ : Loc Cert.InpFwd.nD Cert.InpFwd.τ Cert.InpFwd.sig) → Buf (Elt Bits) ℓ) (g : Dev Cert.InpFwd.nD → PrngReg), Pre_InpFwd m →
    θ_run (Cert.InpFwd.defs (F := Bits)) (onTc (τ := Cert.InpFwd.τ) (Cert.InpFwd.main (F := Bits))) ⟨m, fun _ => 0, g⟩ (fun r => (∀ c : Dev Cert.InpFwd.nD,
      r.2.mem ((c.tc : Thread Cert.InpFwd.nD Cert.InpFwd.τ).loc Cert.InpFwd.main_arg0) = m ((c.tc : Thread Cert.InpFwd.nD Cert.InpFwd.τ).loc Cert.InpFwd.main_arg0)
      ∧ r.2.mem ((c.tc : Thread Cert.InpFwd.nD Cert.InpFwd.τ).loc Cert.InpFwd.main_arg1) = m ((c.tc : Thread Cert.InpFwd.nD Cert.InpFwd.τ).loc Cert.InpFwd.main_arg1)
      ∧ r.2.mem ((c.tc : Thread Cert.InpFwd.nD Cert.InpFwd.τ).loc Cert.InpFwd.main_arg2) = m ((c.tc : Thread Cert.InpFwd.nD Cert.InpFwd.τ).loc Cert.InpFwd.main_arg2)
      ∧ r.2.mem ((c.tc : Thread Cert.InpFwd.nD Cert.InpFwd.τ).loc Cert.InpFwd.main_arg3) = m ((c.tc : Thread Cert.InpFwd.nD Cert.InpFwd.τ).loc Cert.InpFwd.main_arg3))
      ∧ r.2.sem = fun _ => 0)

def quiescent_InpFwdIdeal [hInpFwdIdeal : Cert.InpFwdIdeal.Facts] : Prop :=
  ∀ (m : (ℓ : Loc Cert.InpFwdIdeal.nD Cert.InpFwdIdeal.τ Cert.InpFwdIdeal.sig) → Buf (Elt Ideal) ℓ) (g : Dev Cert.InpFwdIdeal.nD → PrngReg), Pre_InpFwdIdeal m →
    θ_run (Cert.InpFwdIdeal.defs (F := Ideal)) (onTc (τ := Cert.InpFwdIdeal.τ) (Cert.InpFwdIdeal.main (F := Ideal))) ⟨m, fun _ => 0, g⟩ (fun r => (∀ c : Dev Cert.InpFwdIdeal.nD,
      r.2.mem ((c.tc : Thread Cert.InpFwdIdeal.nD Cert.InpFwdIdeal.τ).loc Cert.InpFwdIdeal.main_arg0) = m ((c.tc : Thread Cert.InpFwdIdeal.nD Cert.InpFwdIdeal.τ).loc Cert.InpFwdIdeal.main_arg0)
      ∧ r.2.mem ((c.tc : Thread Cert.InpFwdIdeal.nD Cert.InpFwdIdeal.τ).loc Cert.InpFwdIdeal.main_arg1) = m ((c.tc : Thread Cert.InpFwdIdeal.nD Cert.InpFwdIdeal.τ).loc Cert.InpFwdIdeal.main_arg1)
      ∧ r.2.mem ((c.tc : Thread Cert.InpFwdIdeal.nD Cert.InpFwdIdeal.τ).loc Cert.InpFwdIdeal.main_arg2) = m ((c.tc : Thread Cert.InpFwdIdeal.nD Cert.InpFwdIdeal.τ).loc Cert.InpFwdIdeal.main_arg2)
      ∧ r.2.mem ((c.tc : Thread Cert.InpFwdIdeal.nD Cert.InpFwdIdeal.τ).loc Cert.InpFwdIdeal.main_arg3) = m ((c.tc : Thread Cert.InpFwdIdeal.nD Cert.InpFwdIdeal.τ).loc Cert.InpFwdIdeal.main_arg3))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_BiasUpd [hBiasUpd : Cert.BiasUpd.Facts] : Prop :=
  ∀ (m : (ℓ : Loc Cert.BiasUpd.nD Cert.BiasUpd.τ Cert.BiasUpd.sig) → Buf (Elt Bits) ℓ) (g : Dev Cert.BiasUpd.nD → PrngReg), Pre_BiasUpd m →
    θ_run (Cert.BiasUpd.defs (F := Bits)) (onTc (τ := Cert.BiasUpd.τ) (Cert.BiasUpd.main (F := Bits))) ⟨m, fun _ => 0, g⟩ (fun r => (∀ c : Dev Cert.BiasUpd.nD,
      r.2.mem ((c.tc : Thread Cert.BiasUpd.nD Cert.BiasUpd.τ).loc Cert.BiasUpd.main_arg0) = m ((c.tc : Thread Cert.BiasUpd.nD Cert.BiasUpd.τ).loc Cert.BiasUpd.main_arg0)
      ∧ r.2.mem ((c.tc : Thread Cert.BiasUpd.nD Cert.BiasUpd.τ).loc Cert.BiasUpd.main_arg1) = m ((c.tc : Thread Cert.BiasUpd.nD Cert.BiasUpd.τ).loc Cert.BiasUpd.main_arg1)
      ∧ r.2.mem ((c.tc : Thread Cert.BiasUpd.nD Cert.BiasUpd.τ).loc Cert.BiasUpd.main_arg2) = m ((c.tc : Thread Cert.BiasUpd.nD Cert.BiasUpd.τ).loc Cert.BiasUpd.main_arg2)
      ∧ r.2.mem ((c.tc : Thread Cert.BiasUpd.nD Cert.BiasUpd.τ).loc Cert.BiasUpd.main_arg3) = m ((c.tc : Thread Cert.BiasUpd.nD Cert.BiasUpd.τ).loc Cert.BiasUpd.main_arg3))
      ∧ r.2.sem = fun _ => 0)

def quiescent_BiasUpdIdeal [hBiasUpdIdeal : Cert.BiasUpdIdeal.Facts] : Prop :=
  ∀ (m : (ℓ : Loc Cert.BiasUpdIdeal.nD Cert.BiasUpdIdeal.τ Cert.BiasUpdIdeal.sig) → Buf (Elt Ideal) ℓ) (g : Dev Cert.BiasUpdIdeal.nD → PrngReg), Pre_BiasUpdIdeal m →
    θ_run (Cert.BiasUpdIdeal.defs (F := Ideal)) (onTc (τ := Cert.BiasUpdIdeal.τ) (Cert.BiasUpdIdeal.main (F := Ideal))) ⟨m, fun _ => 0, g⟩ (fun r => (∀ c : Dev Cert.BiasUpdIdeal.nD,
      r.2.mem ((c.tc : Thread Cert.BiasUpdIdeal.nD Cert.BiasUpdIdeal.τ).loc Cert.BiasUpdIdeal.main_arg0) = m ((c.tc : Thread Cert.BiasUpdIdeal.nD Cert.BiasUpdIdeal.τ).loc Cert.BiasUpdIdeal.main_arg0)
      ∧ r.2.mem ((c.tc : Thread Cert.BiasUpdIdeal.nD Cert.BiasUpdIdeal.τ).loc Cert.BiasUpdIdeal.main_arg1) = m ((c.tc : Thread Cert.BiasUpdIdeal.nD Cert.BiasUpdIdeal.τ).loc Cert.BiasUpdIdeal.main_arg1)
      ∧ r.2.mem ((c.tc : Thread Cert.BiasUpdIdeal.nD Cert.BiasUpdIdeal.τ).loc Cert.BiasUpdIdeal.main_arg2) = m ((c.tc : Thread Cert.BiasUpdIdeal.nD Cert.BiasUpdIdeal.τ).loc Cert.BiasUpdIdeal.main_arg2)
      ∧ r.2.mem ((c.tc : Thread Cert.BiasUpdIdeal.nD Cert.BiasUpdIdeal.τ).loc Cert.BiasUpdIdeal.main_arg3) = m ((c.tc : Thread Cert.BiasUpdIdeal.nD Cert.BiasUpdIdeal.τ).loc Cert.BiasUpdIdeal.main_arg3))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2)
      ∧ r.2.mem ((c.tc : Thread Cert.BiasRefIdeal.nD Cert.BiasRefIdeal.τ).loc Cert.BiasRefIdeal.main_arg3) = m ((c.tc : Thread Cert.BiasRefIdeal.nD Cert.BiasRefIdeal.τ).loc Cert.BiasRefIdeal.main_arg3))
      ∧ r.2.sem = fun _ => 0)

def quiescent_ModuFwd [hModuFwd : Cert.ModuFwd.Facts] : Prop :=
  ∀ (m : (ℓ : Loc Cert.ModuFwd.nD Cert.ModuFwd.τ Cert.ModuFwd.sig) → Buf (Elt Bits) ℓ) (g : Dev Cert.ModuFwd.nD → PrngReg), Pre_ModuFwd m →
    θ_run (Cert.ModuFwd.defs (F := Bits)) (onTc (τ := Cert.ModuFwd.τ) (Cert.ModuFwd.main (F := Bits))) ⟨m, fun _ => 0, g⟩ (fun r => (∀ c : Dev Cert.ModuFwd.nD,
      r.2.mem ((c.tc : Thread Cert.ModuFwd.nD Cert.ModuFwd.τ).loc Cert.ModuFwd.main_arg0) = m ((c.tc : Thread Cert.ModuFwd.nD Cert.ModuFwd.τ).loc Cert.ModuFwd.main_arg0)
      ∧ r.2.mem ((c.tc : Thread Cert.ModuFwd.nD Cert.ModuFwd.τ).loc Cert.ModuFwd.main_arg1) = m ((c.tc : Thread Cert.ModuFwd.nD Cert.ModuFwd.τ).loc Cert.ModuFwd.main_arg1)
      ∧ r.2.mem ((c.tc : Thread Cert.ModuFwd.nD Cert.ModuFwd.τ).loc Cert.ModuFwd.main_arg2) = m ((c.tc : Thread Cert.ModuFwd.nD Cert.ModuFwd.τ).loc Cert.ModuFwd.main_arg2)
      ∧ r.2.mem ((c.tc : Thread Cert.ModuFwd.nD Cert.ModuFwd.τ).loc Cert.ModuFwd.main_arg3) = m ((c.tc : Thread Cert.ModuFwd.nD Cert.ModuFwd.τ).loc Cert.ModuFwd.main_arg3))
      ∧ r.2.sem = fun _ => 0)

def quiescent_ModuFwdIdeal [hModuFwdIdeal : Cert.ModuFwdIdeal.Facts] : Prop :=
  ∀ (m : (ℓ : Loc Cert.ModuFwdIdeal.nD Cert.ModuFwdIdeal.τ Cert.ModuFwdIdeal.sig) → Buf (Elt Ideal) ℓ) (g : Dev Cert.ModuFwdIdeal.nD → PrngReg), Pre_ModuFwdIdeal m →
    θ_run (Cert.ModuFwdIdeal.defs (F := Ideal)) (onTc (τ := Cert.ModuFwdIdeal.τ) (Cert.ModuFwdIdeal.main (F := Ideal))) ⟨m, fun _ => 0, g⟩ (fun r => (∀ c : Dev Cert.ModuFwdIdeal.nD,
      r.2.mem ((c.tc : Thread Cert.ModuFwdIdeal.nD Cert.ModuFwdIdeal.τ).loc Cert.ModuFwdIdeal.main_arg0) = m ((c.tc : Thread Cert.ModuFwdIdeal.nD Cert.ModuFwdIdeal.τ).loc Cert.ModuFwdIdeal.main_arg0)
      ∧ r.2.mem ((c.tc : Thread Cert.ModuFwdIdeal.nD Cert.ModuFwdIdeal.τ).loc Cert.ModuFwdIdeal.main_arg1) = m ((c.tc : Thread Cert.ModuFwdIdeal.nD Cert.ModuFwdIdeal.τ).loc Cert.ModuFwdIdeal.main_arg1)
      ∧ r.2.mem ((c.tc : Thread Cert.ModuFwdIdeal.nD Cert.ModuFwdIdeal.τ).loc Cert.ModuFwdIdeal.main_arg2) = m ((c.tc : Thread Cert.ModuFwdIdeal.nD Cert.ModuFwdIdeal.τ).loc Cert.ModuFwdIdeal.main_arg2)
      ∧ r.2.mem ((c.tc : Thread Cert.ModuFwdIdeal.nD Cert.ModuFwdIdeal.τ).loc Cert.ModuFwdIdeal.main_arg3) = m ((c.tc : Thread Cert.ModuFwdIdeal.nD Cert.ModuFwdIdeal.τ).loc Cert.ModuFwdIdeal.main_arg3))
      ∧ r.2.sem = fun _ => 0)

def quiescent_ModuRefIdeal [hModuRefIdeal : Cert.ModuRefIdeal.Facts] : Prop :=
  ∀ (m : (ℓ : Loc Cert.ModuRefIdeal.nD Cert.ModuRefIdeal.τ Cert.ModuRefIdeal.sig) → Buf (Elt Ideal) ℓ) (g : Dev Cert.ModuRefIdeal.nD → PrngReg), Pre_ModuRefIdeal m →
    θ_run (Cert.ModuRefIdeal.defs (F := Ideal)) (onTc (τ := Cert.ModuRefIdeal.τ) (Cert.ModuRefIdeal.main (F := Ideal))) ⟨m, fun _ => 0, g⟩ (fun r => (∀ c : Dev Cert.ModuRefIdeal.nD,
      r.2.mem ((c.tc : Thread Cert.ModuRefIdeal.nD Cert.ModuRefIdeal.τ).loc Cert.ModuRefIdeal.main_arg0) = m ((c.tc : Thread Cert.ModuRefIdeal.nD Cert.ModuRefIdeal.τ).loc Cert.ModuRefIdeal.main_arg0)
      ∧ r.2.mem ((c.tc : Thread Cert.ModuRefIdeal.nD Cert.ModuRefIdeal.τ).loc Cert.ModuRefIdeal.main_arg1) = m ((c.tc : Thread Cert.ModuRefIdeal.nD Cert.ModuRefIdeal.τ).loc Cert.ModuRefIdeal.main_arg1)
      ∧ r.2.mem ((c.tc : Thread Cert.ModuRefIdeal.nD Cert.ModuRefIdeal.τ).loc Cert.ModuRefIdeal.main_arg2) = m ((c.tc : Thread Cert.ModuRefIdeal.nD Cert.ModuRefIdeal.τ).loc Cert.ModuRefIdeal.main_arg2)
      ∧ r.2.mem ((c.tc : Thread Cert.ModuRefIdeal.nD Cert.ModuRefIdeal.τ).loc Cert.ModuRefIdeal.main_arg3) = m ((c.tc : Thread Cert.ModuRefIdeal.nD Cert.ModuRefIdeal.τ).loc Cert.ModuRefIdeal.main_arg3))
      ∧ r.2.sem = fun _ => 0)

def quiescent_ScanFwd [hScanFwd : Cert.ScanFwd.Facts] : Prop :=
  ∀ (m : (ℓ : Loc Cert.ScanFwd.nD Cert.ScanFwd.τ Cert.ScanFwd.sig) → Buf (Elt Bits) ℓ) (g : Dev Cert.ScanFwd.nD → PrngReg), Pre_ScanFwd m →
    θ_run (Cert.ScanFwd.defs (F := Bits)) (onTc (τ := Cert.ScanFwd.τ) (Cert.ScanFwd.main (F := Bits))) ⟨m, fun _ => 0, g⟩ (fun r => (∀ c : Dev Cert.ScanFwd.nD,
      r.2.mem ((c.tc : Thread Cert.ScanFwd.nD Cert.ScanFwd.τ).loc Cert.ScanFwd.main_arg0) = m ((c.tc : Thread Cert.ScanFwd.nD Cert.ScanFwd.τ).loc Cert.ScanFwd.main_arg0)
      ∧ r.2.mem ((c.tc : Thread Cert.ScanFwd.nD Cert.ScanFwd.τ).loc Cert.ScanFwd.main_arg1) = m ((c.tc : Thread Cert.ScanFwd.nD Cert.ScanFwd.τ).loc Cert.ScanFwd.main_arg1)
      ∧ r.2.mem ((c.tc : Thread Cert.ScanFwd.nD Cert.ScanFwd.τ).loc Cert.ScanFwd.main_arg2) = m ((c.tc : Thread Cert.ScanFwd.nD Cert.ScanFwd.τ).loc Cert.ScanFwd.main_arg2))
      ∧ r.2.sem = fun _ => 0)

def quiescent_ScanFwdIdeal [hScanFwdIdeal : Cert.ScanFwdIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg), Pre_ScanFwdIdeal m →
    θ_run (Cert.ScanFwdIdeal.defs (F := Ideal)) (onTc (τ := Cert.ScanFwdIdeal.τ) (Cert.ScanFwdIdeal.main (F := Ideal))) ⟨m, fun _ => 0, g⟩ (fun r => (∀ c : Dev Cert.ScanFwdIdeal.nD,
      r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0)
      ∧ r.2.mem ((c.tc : Thread Cert.ScanFwdIdeal.nD Cert.ScanFwdIdeal.τ).loc Cert.ScanFwdIdeal.main_arg1) = m ((c.tc : Thread Cert.ScanFwdIdeal.nD Cert.ScanFwdIdeal.τ).loc Cert.ScanFwdIdeal.main_arg1)
      ∧ r.2.mem ((c.tc : Thread Cert.ScanFwdIdeal.nD Cert.ScanFwdIdeal.τ).loc Cert.ScanFwdIdeal.main_arg2) = m ((c.tc : Thread Cert.ScanFwdIdeal.nD Cert.ScanFwdIdeal.τ).loc Cert.ScanFwdIdeal.main_arg2))
      ∧ r.2.sem = fun _ => 0)

def quiescent_WinBwd [hWinBwd : Cert.WinBwd.Facts] : Prop :=
  ∀ (m : (ℓ : Loc Cert.WinBwd.nD Cert.WinBwd.τ Cert.WinBwd.sig) → Buf (Elt Bits) ℓ) (g : Dev Cert.WinBwd.nD → PrngReg), Pre_WinBwd m →
    θ_run (Cert.WinBwd.defs (F := Bits)) (onTc (τ := Cert.WinBwd.τ) (Cert.WinBwd.main (F := Bits))) ⟨m, fun _ => 0, g⟩ (fun r => (∀ c : Dev Cert.WinBwd.nD,
      r.2.mem ((c.tc : Thread Cert.WinBwd.nD Cert.WinBwd.τ).loc Cert.WinBwd.main_arg0) = m ((c.tc : Thread Cert.WinBwd.nD Cert.WinBwd.τ).loc Cert.WinBwd.main_arg0)
      ∧ r.2.mem ((c.tc : Thread Cert.WinBwd.nD Cert.WinBwd.τ).loc Cert.WinBwd.main_arg1) = m ((c.tc : Thread Cert.WinBwd.nD Cert.WinBwd.τ).loc Cert.WinBwd.main_arg1))
      ∧ r.2.sem = fun _ => 0)

def quiescent_WinBwdIdeal [hWinBwdIdeal : Cert.WinBwdIdeal.Facts] : Prop :=
  ∀ (m : (ℓ : Loc Cert.WinBwdIdeal.nD Cert.WinBwdIdeal.τ Cert.WinBwdIdeal.sig) → Buf (Elt Ideal) ℓ) (g : Dev Cert.WinBwdIdeal.nD → PrngReg), Pre_WinBwdIdeal m →
    θ_run (Cert.WinBwdIdeal.defs (F := Ideal)) (onTc (τ := Cert.WinBwdIdeal.τ) (Cert.WinBwdIdeal.main (F := Ideal))) ⟨m, fun _ => 0, g⟩ (fun r => (∀ c : Dev Cert.WinBwdIdeal.nD,
      r.2.mem ((c.tc : Thread Cert.WinBwdIdeal.nD Cert.WinBwdIdeal.τ).loc Cert.WinBwdIdeal.main_arg0) = m ((c.tc : Thread Cert.WinBwdIdeal.nD Cert.WinBwdIdeal.τ).loc Cert.WinBwdIdeal.main_arg0)
      ∧ r.2.mem ((c.tc : Thread Cert.WinBwdIdeal.nD Cert.WinBwdIdeal.τ).loc Cert.WinBwdIdeal.main_arg1) = m ((c.tc : Thread Cert.WinBwdIdeal.nD Cert.WinBwdIdeal.τ).loc Cert.WinBwdIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WoutBwd [hWoutBwd : Cert.WoutBwd.Facts] : Prop :=
  ∀ (m : (ℓ : Loc Cert.WoutBwd.nD Cert.WoutBwd.τ Cert.WoutBwd.sig) → Buf (Elt Bits) ℓ) (g : Dev Cert.WoutBwd.nD → PrngReg), Pre_WoutBwd m →
    θ_run (Cert.WoutBwd.defs (F := Bits)) (onTc (τ := Cert.WoutBwd.τ) (Cert.WoutBwd.main (F := Bits))) ⟨m, fun _ => 0, g⟩ (fun r => (∀ c : Dev Cert.WoutBwd.nD,
      r.2.mem ((c.tc : Thread Cert.WoutBwd.nD Cert.WoutBwd.τ).loc Cert.WoutBwd.main_arg0) = m ((c.tc : Thread Cert.WoutBwd.nD Cert.WoutBwd.τ).loc Cert.WoutBwd.main_arg0)
      ∧ r.2.mem ((c.tc : Thread Cert.WoutBwd.nD Cert.WoutBwd.τ).loc Cert.WoutBwd.main_arg1) = m ((c.tc : Thread Cert.WoutBwd.nD Cert.WoutBwd.τ).loc Cert.WoutBwd.main_arg1))
      ∧ r.2.sem = fun _ => 0)

def quiescent_WoutBwdIdeal [hWoutBwdIdeal : Cert.WoutBwdIdeal.Facts] : Prop :=
  ∀ (m : (ℓ : Loc Cert.WoutBwdIdeal.nD Cert.WoutBwdIdeal.τ Cert.WoutBwdIdeal.sig) → Buf (Elt Ideal) ℓ) (g : Dev Cert.WoutBwdIdeal.nD → PrngReg), Pre_WoutBwdIdeal m →
    θ_run (Cert.WoutBwdIdeal.defs (F := Ideal)) (onTc (τ := Cert.WoutBwdIdeal.τ) (Cert.WoutBwdIdeal.main (F := Ideal))) ⟨m, fun _ => 0, g⟩ (fun r => (∀ c : Dev Cert.WoutBwdIdeal.nD,
      r.2.mem ((c.tc : Thread Cert.WoutBwdIdeal.nD Cert.WoutBwdIdeal.τ).loc Cert.WoutBwdIdeal.main_arg0) = m ((c.tc : Thread Cert.WoutBwdIdeal.nD Cert.WoutBwdIdeal.τ).loc Cert.WoutBwdIdeal.main_arg0)
      ∧ r.2.mem ((c.tc : Thread Cert.WoutBwdIdeal.nD Cert.WoutBwdIdeal.τ).loc Cert.WoutBwdIdeal.main_arg1) = m ((c.tc : Thread Cert.WoutBwdIdeal.nD Cert.WoutBwdIdeal.τ).loc Cert.WoutBwdIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_SumParts [hSumParts : Cert.SumParts.Facts] : Prop :=
  ∀ (m : (ℓ : Loc Cert.SumParts.nD Cert.SumParts.τ Cert.SumParts.sig) → Buf (Elt Bits) ℓ) (g : Dev Cert.SumParts.nD → PrngReg), Pre_SumParts m →
    θ_run (Cert.SumParts.defs (F := Bits)) (onTc (τ := Cert.SumParts.τ) (Cert.SumParts.main (F := Bits))) ⟨m, fun _ => 0, g⟩ (fun r => (∀ c : Dev Cert.SumParts.nD,
      r.2.mem ((c.tc : Thread Cert.SumParts.nD Cert.SumParts.τ).loc Cert.SumParts.main_arg0) = m ((c.tc : Thread Cert.SumParts.nD Cert.SumParts.τ).loc Cert.SumParts.main_arg0)
      ∧ r.2.mem ((c.tc : Thread Cert.SumParts.nD Cert.SumParts.τ).loc Cert.SumParts.main_arg1) = m ((c.tc : Thread Cert.SumParts.nD Cert.SumParts.τ).loc Cert.SumParts.main_arg1))
      ∧ r.2.sem = fun _ => 0)

def quiescent_SumPartsIdeal [hSumPartsIdeal : Cert.SumPartsIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg), Pre_SumPartsIdeal m →
    θ_run (Cert.SumPartsIdeal.defs (F := Ideal)) (onTc (τ := Cert.SumPartsIdeal.τ) (Cert.SumPartsIdeal.main (F := Ideal))) ⟨m, fun _ => 0, g⟩ (fun r => (∀ c : Dev Cert.SumPartsIdeal.nD,
      r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0)
      ∧ r.2.mem ((c.tc : Thread Cert.SumPartsIdeal.nD Cert.SumPartsIdeal.τ).loc Cert.SumPartsIdeal.main_arg1) = m ((c.tc : Thread Cert.SumPartsIdeal.nD Cert.SumPartsIdeal.τ).loc Cert.SumPartsIdeal.main_arg1))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0)
      ∧ r.2.mem ((c.tc : Thread Cert.SumRefIdeal.nD Cert.SumRefIdeal.τ).loc Cert.SumRefIdeal.main_arg1) = m ((c.tc : Thread Cert.SumRefIdeal.nD Cert.SumRefIdeal.τ).loc Cert.SumRefIdeal.main_arg1))
      ∧ r.2.sem = fun _ => 0)

def quiescent_PairUpd [hPairUpd : Cert.PairUpd.Facts] : Prop :=
  ∀ (m : (ℓ : Loc Cert.PairUpd.nD Cert.PairUpd.τ Cert.PairUpd.sig) → Buf (Elt Bits) ℓ) (g : Dev Cert.PairUpd.nD → PrngReg), Pre_PairUpd m →
    θ_run (Cert.PairUpd.defs (F := Bits)) (onTc (τ := Cert.PairUpd.τ) (Cert.PairUpd.main (F := Bits))) ⟨m, fun _ => 0, g⟩ (fun r => (∀ c : Dev Cert.PairUpd.nD,
      r.2.mem ((c.tc : Thread Cert.PairUpd.nD Cert.PairUpd.τ).loc Cert.PairUpd.main_arg0) = m ((c.tc : Thread Cert.PairUpd.nD Cert.PairUpd.τ).loc Cert.PairUpd.main_arg0)
      ∧ r.2.mem ((c.tc : Thread Cert.PairUpd.nD Cert.PairUpd.τ).loc Cert.PairUpd.main_arg1) = m ((c.tc : Thread Cert.PairUpd.nD Cert.PairUpd.τ).loc Cert.PairUpd.main_arg1)
      ∧ r.2.mem ((c.tc : Thread Cert.PairUpd.nD Cert.PairUpd.τ).loc Cert.PairUpd.main_arg2) = m ((c.tc : Thread Cert.PairUpd.nD Cert.PairUpd.τ).loc Cert.PairUpd.main_arg2)
      ∧ r.2.mem ((c.tc : Thread Cert.PairUpd.nD Cert.PairUpd.τ).loc Cert.PairUpd.main_arg3) = m ((c.tc : Thread Cert.PairUpd.nD Cert.PairUpd.τ).loc Cert.PairUpd.main_arg3)
      ∧ r.2.mem ((c.tc : Thread Cert.PairUpd.nD Cert.PairUpd.τ).loc Cert.PairUpd.main_arg4) = m ((c.tc : Thread Cert.PairUpd.nD Cert.PairUpd.τ).loc Cert.PairUpd.main_arg4))
      ∧ r.2.sem = fun _ => 0)

def quiescent_PairUpdIdeal [hPairUpdIdeal : Cert.PairUpdIdeal.Facts] : Prop :=
  ∀ (m : (ℓ : Loc Cert.PairUpdIdeal.nD Cert.PairUpdIdeal.τ Cert.PairUpdIdeal.sig) → Buf (Elt Ideal) ℓ) (g : Dev Cert.PairUpdIdeal.nD → PrngReg), Pre_PairUpdIdeal m →
    θ_run (Cert.PairUpdIdeal.defs (F := Ideal)) (onTc (τ := Cert.PairUpdIdeal.τ) (Cert.PairUpdIdeal.main (F := Ideal))) ⟨m, fun _ => 0, g⟩ (fun r => (∀ c : Dev Cert.PairUpdIdeal.nD,
      r.2.mem ((c.tc : Thread Cert.PairUpdIdeal.nD Cert.PairUpdIdeal.τ).loc Cert.PairUpdIdeal.main_arg0) = m ((c.tc : Thread Cert.PairUpdIdeal.nD Cert.PairUpdIdeal.τ).loc Cert.PairUpdIdeal.main_arg0)
      ∧ r.2.mem ((c.tc : Thread Cert.PairUpdIdeal.nD Cert.PairUpdIdeal.τ).loc Cert.PairUpdIdeal.main_arg1) = m ((c.tc : Thread Cert.PairUpdIdeal.nD Cert.PairUpdIdeal.τ).loc Cert.PairUpdIdeal.main_arg1)
      ∧ r.2.mem ((c.tc : Thread Cert.PairUpdIdeal.nD Cert.PairUpdIdeal.τ).loc Cert.PairUpdIdeal.main_arg2) = m ((c.tc : Thread Cert.PairUpdIdeal.nD Cert.PairUpdIdeal.τ).loc Cert.PairUpdIdeal.main_arg2)
      ∧ r.2.mem ((c.tc : Thread Cert.PairUpdIdeal.nD Cert.PairUpdIdeal.τ).loc Cert.PairUpdIdeal.main_arg3) = m ((c.tc : Thread Cert.PairUpdIdeal.nD Cert.PairUpdIdeal.τ).loc Cert.PairUpdIdeal.main_arg3)
      ∧ r.2.mem ((c.tc : Thread Cert.PairUpdIdeal.nD Cert.PairUpdIdeal.τ).loc Cert.PairUpdIdeal.main_arg4) = m ((c.tc : Thread Cert.PairUpdIdeal.nD Cert.PairUpdIdeal.τ).loc Cert.PairUpdIdeal.main_arg4))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2)
      ∧ r.2.mem ((c.tc : Thread Cert.PairRefIdeal.nD Cert.PairRefIdeal.τ).loc Cert.PairRefIdeal.main_arg3) = m ((c.tc : Thread Cert.PairRefIdeal.nD Cert.PairRefIdeal.τ).loc Cert.PairRefIdeal.main_arg3)
      ∧ r.2.mem ((c.tc : Thread Cert.PairRefIdeal.nD Cert.PairRefIdeal.τ).loc Cert.PairRefIdeal.main_arg4) = m ((c.tc : Thread Cert.PairRefIdeal.nD Cert.PairRefIdeal.τ).loc Cert.PairRefIdeal.main_arg4))
      ∧ r.2.sem = fun _ => 0)

def preserves_GateBwd_GateBwdIdeal : Prop :=
  True

def algebraic_GateBwdIdeal_GateRefIdeal [hGateBwdIdeal : Cert.GateBwdIdeal.Facts] [hGateRefIdeal : Cert.GateRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateBwdIdeal m →
    (∀ c : Dev Cert.GateBwdIdeal.nD,
      m' ((c.tc : Thread Cert.GateRefIdeal.nD Cert.GateRefIdeal.τ).loc Cert.GateRefIdeal.main_arg0) = m ((c.tc : Thread Cert.GateBwdIdeal.nD Cert.GateBwdIdeal.τ).loc Cert.GateBwdIdeal.main_arg0)
      ∧ m' ((c.tc : Thread Cert.GateRefIdeal.nD Cert.GateRefIdeal.τ).loc Cert.GateRefIdeal.main_arg1) = m ((c.tc : Thread Cert.GateBwdIdeal.nD Cert.GateBwdIdeal.τ).loc Cert.GateBwdIdeal.main_arg1)
      ∧ m' ((c.tc : Thread Cert.GateRefIdeal.nD Cert.GateRefIdeal.τ).loc Cert.GateRefIdeal.main_arg2) = m ((c.tc : Thread Cert.GateBwdIdeal.nD Cert.GateBwdIdeal.τ).loc Cert.GateBwdIdeal.main_arg2)
      ∧ m' ((c.tc : Thread Cert.GateRefIdeal.nD Cert.GateRefIdeal.τ).loc Cert.GateRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v5_0)) (v1 : (c : Dev Cert.GateBwdIdeal.nD) → Buf (Elt Ideal) ((c.tc : Thread Cert.GateBwdIdeal.nD Cert.GateBwdIdeal.τ).loc Cert.GateBwdIdeal.main_v5_1)) (v2 : (c : Dev Cert.GateBwdIdeal.nD) → Buf (Elt Ideal) ((c.tc : Thread Cert.GateBwdIdeal.nD Cert.GateBwdIdeal.τ).loc Cert.GateBwdIdeal.main_v5_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v5_0) = v0 c
          ∧ r.2.mem ((c.tc : Thread Cert.GateBwdIdeal.nD Cert.GateBwdIdeal.τ).loc Cert.GateBwdIdeal.main_v5_1) = v1 c
          ∧ r.2.mem ((c.tc : Thread Cert.GateBwdIdeal.nD Cert.GateBwdIdeal.τ).loc Cert.GateBwdIdeal.main_v5_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_v11) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_SguBwd_SguBwdIdeal : Prop :=
  IdealRules.named_const.Statement Cert.SguBwdIdeal.κ "gelu_c1" .f32 0x3D372713#32 ((8943 / 200000 : ℝ) : EReal)
  ∧ IdealRules.named_const.Statement Cert.SguBwdIdeal.κ "gelu_3c1" .f32 0x3E095D4F#32 ((26829 / 200000 : ℝ) : EReal)

def algebraic_SguBwdIdeal_SguRefIdeal_pre_sgu_finite [hSguBwdIdeal : Cert.SguBwdIdeal.Facts] [hSguRefIdeal : Cert.SguRefIdeal.Facts] [hPre_sgu_finite : Cert.Pre_sgu_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguBwdIdeal_sgu_finite m →
    (∀ c : Dev Cert.SguBwdIdeal.nD,
      m' ((c.tc : Thread Cert.SguRefIdeal.nD Cert.SguRefIdeal.τ).loc Cert.SguRefIdeal.main_arg0) = m ((c.tc : Thread Cert.SguBwdIdeal.nD Cert.SguBwdIdeal.τ).loc Cert.SguBwdIdeal.main_arg0)
      ∧ m' ((c.tc : Thread Cert.SguRefIdeal.nD Cert.SguRefIdeal.τ).loc Cert.SguRefIdeal.main_arg1) = m ((c.tc : Thread Cert.SguBwdIdeal.nD Cert.SguBwdIdeal.τ).loc Cert.SguBwdIdeal.main_arg1)
      ∧ m' ((c.tc : Thread Cert.SguRefIdeal.nD Cert.SguRefIdeal.τ).loc Cert.SguRefIdeal.main_arg2) = m ((c.tc : Thread Cert.SguBwdIdeal.nD Cert.SguBwdIdeal.τ).loc Cert.SguBwdIdeal.main_arg2)
      ∧ m' ((c.tc : Thread Cert.SguRefIdeal.nD Cert.SguRefIdeal.τ).loc Cert.SguRefIdeal.main_arg3) = m ((c.tc : Thread Cert.SguBwdIdeal.nD Cert.SguBwdIdeal.τ).loc Cert.SguBwdIdeal.main_arg3)
      ∧ m' ((c.tc : Thread Cert.SguRefIdeal.nD Cert.SguRefIdeal.τ).loc Cert.SguRefIdeal.main_arg4) = m ((c.tc : Thread Cert.SguBwdIdeal.nD Cert.SguBwdIdeal.τ).loc Cert.SguBwdIdeal.main_arg4)
      ∧ m' ((c.tc : Thread Cert.SguRefIdeal.nD Cert.SguRefIdeal.τ).loc Cert.SguRefIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v4_0)) (v1 : (c : Dev Cert.SguBwdIdeal.nD) → Buf (Elt Ideal) ((c.tc : Thread Cert.SguBwdIdeal.nD Cert.SguBwdIdeal.τ).loc Cert.SguBwdIdeal.main_v4_1)) (v2 : (c : Dev Cert.SguBwdIdeal.nD) → Buf (Elt Ideal) ((c.tc : Thread Cert.SguBwdIdeal.nD Cert.SguBwdIdeal.τ).loc Cert.SguBwdIdeal.main_v4_2)) (v3 : (c : Dev Cert.SguBwdIdeal.nD) → Buf (Elt Ideal) ((c.tc : Thread Cert.SguBwdIdeal.nD Cert.SguBwdIdeal.τ).loc Cert.SguBwdIdeal.main_v4_3)) (v4 : (c : Dev Cert.SguBwdIdeal.nD) → Buf (Elt Ideal) ((c.tc : Thread Cert.SguBwdIdeal.nD Cert.SguBwdIdeal.τ).loc Cert.SguBwdIdeal.main_v4_4)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v4_0) = v0 c
          ∧ r.2.mem ((c.tc : Thread Cert.SguBwdIdeal.nD Cert.SguBwdIdeal.τ).loc Cert.SguBwdIdeal.main_v4_1) = v1 c
          ∧ r.2.mem ((c.tc : Thread Cert.SguBwdIdeal.nD Cert.SguBwdIdeal.τ).loc Cert.SguBwdIdeal.main_v4_2) = v2 c
          ∧ r.2.mem ((c.tc : Thread Cert.SguBwdIdeal.nD Cert.SguBwdIdeal.τ).loc Cert.SguBwdIdeal.main_v4_3) = v3 c
          ∧ r.2.mem ((c.tc : Thread Cert.SguBwdIdeal.nD Cert.SguBwdIdeal.τ).loc Cert.SguBwdIdeal.main_v4_4) = v4 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v149) = v0 c
          ∧ r.2.mem ((c.tc : Thread Cert.SguRefIdeal.nD Cert.SguRefIdeal.τ).loc Cert.SguRefIdeal.main_v93) = v1 c
          ∧ r.2.mem ((c.tc : Thread Cert.SguRefIdeal.nD Cert.SguRefIdeal.τ).loc Cert.SguRefIdeal.main_v150) = v2 c
          ∧ r.2.mem ((c.tc : Thread Cert.SguRefIdeal.nD Cert.SguRefIdeal.τ).loc Cert.SguRefIdeal.main_v151) = v3 c
          ∧ r.2.mem ((c.tc : Thread Cert.SguRefIdeal.nD Cert.SguRefIdeal.τ).loc Cert.SguRefIdeal.main_v152) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_LossBwd_LossBwdIdeal : Prop :=
  True

def algebraic_LossBwdIdeal_LossRefIdeal_pre_loss_finite [hLossBwdIdeal : Cert.LossBwdIdeal.Facts] [hLossRefIdeal : Cert.LossRefIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_loss_finite m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)
      ∧ m' ((c.tc : Thread Cert.LossRefIdeal.nD Cert.LossRefIdeal.τ).loc Cert.LossRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v5_0)) (v1 : (c : Dev Cert.LossBwdIdeal.nD) → Buf (Elt Ideal) ((c.tc : Thread Cert.LossBwdIdeal.nD Cert.LossBwdIdeal.τ).loc Cert.LossBwdIdeal.main_v5_1)) (v2 : (c : Dev Cert.LossBwdIdeal.nD) → Buf (Elt Ideal) ((c.tc : Thread Cert.LossBwdIdeal.nD Cert.LossBwdIdeal.τ).loc Cert.LossBwdIdeal.main_v5_2)) (v3 : (c : Dev Cert.LossBwdIdeal.nD) → Buf (Elt Ideal) ((c.tc : Thread Cert.LossBwdIdeal.nD Cert.LossBwdIdeal.τ).loc Cert.LossBwdIdeal.main_v5_3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v5_0) = v0 c
          ∧ r.2.mem ((c.tc : Thread Cert.LossBwdIdeal.nD Cert.LossBwdIdeal.τ).loc Cert.LossBwdIdeal.main_v5_1) = v1 c
          ∧ r.2.mem ((c.tc : Thread Cert.LossBwdIdeal.nD Cert.LossBwdIdeal.τ).loc Cert.LossBwdIdeal.main_v5_2) = v2 c
          ∧ r.2.mem ((c.tc : Thread Cert.LossBwdIdeal.nD Cert.LossBwdIdeal.τ).loc Cert.LossBwdIdeal.main_v5_3) = v3 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v60) = v0 c
          ∧ r.2.mem ((c.tc : Thread Cert.LossRefIdeal.nD Cert.LossRefIdeal.τ).loc Cert.LossRefIdeal.main_v61) = v1 c
          ∧ r.2.mem ((c.tc : Thread Cert.LossRefIdeal.nD Cert.LossRefIdeal.τ).loc Cert.LossRefIdeal.main_v62) = v2 c
          ∧ r.2.mem ((c.tc : Thread Cert.LossRefIdeal.nD Cert.LossRefIdeal.τ).loc Cert.LossRefIdeal.main_v63) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_NormBwd_NormBwdIdeal : Prop :=
  True

def algebraic_NormBwdIdeal_NormRefIdeal_pre_norm_finite [hNormBwdIdeal : Cert.NormBwdIdeal.Facts] [hNormRefIdeal : Cert.NormRefIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBwdIdeal_norm_finite m →
    (∀ c : Dev Cert.NormBwdIdeal.nD,
      m' ((c.tc : Thread Cert.NormRefIdeal.nD Cert.NormRefIdeal.τ).loc Cert.NormRefIdeal.main_arg0) = m ((c.tc : Thread Cert.NormBwdIdeal.nD Cert.NormBwdIdeal.τ).loc Cert.NormBwdIdeal.main_arg0)
      ∧ m' ((c.tc : Thread Cert.NormRefIdeal.nD Cert.NormRefIdeal.τ).loc Cert.NormRefIdeal.main_arg1) = m ((c.tc : Thread Cert.NormBwdIdeal.nD Cert.NormBwdIdeal.τ).loc Cert.NormBwdIdeal.main_arg1)
      ∧ m' ((c.tc : Thread Cert.NormRefIdeal.nD Cert.NormRefIdeal.τ).loc Cert.NormRefIdeal.main_arg2) = m ((c.tc : Thread Cert.NormBwdIdeal.nD Cert.NormBwdIdeal.τ).loc Cert.NormBwdIdeal.main_arg2)
      ∧ m' ((c.tc : Thread Cert.NormRefIdeal.nD Cert.NormRefIdeal.τ).loc Cert.NormRefIdeal.main_arg3) = m ((c.tc : Thread Cert.NormBwdIdeal.nD Cert.NormBwdIdeal.τ).loc Cert.NormBwdIdeal.main_arg3)
      ∧ m' ((c.tc : Thread Cert.NormRefIdeal.nD Cert.NormRefIdeal.τ).loc Cert.NormRefIdeal.main_arg4) = m ((c.tc : Thread Cert.NormBwdIdeal.nD Cert.NormBwdIdeal.τ).loc Cert.NormBwdIdeal.main_arg4)
      ∧ m' ((c.tc : Thread Cert.NormRefIdeal.nD Cert.NormRefIdeal.τ).loc Cert.NormRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v8_0)) (v1 : (c : Dev Cert.NormBwdIdeal.nD) → Buf (Elt Ideal) ((c.tc : Thread Cert.NormBwdIdeal.nD Cert.NormBwdIdeal.τ).loc Cert.NormBwdIdeal.main_v8_1)) (v2 : (c : Dev Cert.NormBwdIdeal.nD) → Buf (Elt Ideal) ((c.tc : Thread Cert.NormBwdIdeal.nD Cert.NormBwdIdeal.τ).loc Cert.NormBwdIdeal.main_v8_2)) (v3 : (c : Dev Cert.NormBwdIdeal.nD) → Buf (Elt Ideal) ((c.tc : Thread Cert.NormBwdIdeal.nD Cert.NormBwdIdeal.τ).loc Cert.NormBwdIdeal.main_v8_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v8_0) = v0 c
          ∧ r.2.mem ((c.tc : Thread Cert.NormBwdIdeal.nD Cert.NormBwdIdeal.τ).loc Cert.NormBwdIdeal.main_v8_1) = v1 c
          ∧ r.2.mem ((c.tc : Thread Cert.NormBwdIdeal.nD Cert.NormBwdIdeal.τ).loc Cert.NormBwdIdeal.main_v8_2) = v2 c
          ∧ r.2.mem ((c.tc : Thread Cert.NormBwdIdeal.nD Cert.NormBwdIdeal.τ).loc Cert.NormBwdIdeal.main_v8_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v58) = v0 c
          ∧ r.2.mem ((c.tc : Thread Cert.NormRefIdeal.nD Cert.NormRefIdeal.τ).loc Cert.NormRefIdeal.main_v31) = v1 c
          ∧ r.2.mem ((c.tc : Thread Cert.NormRefIdeal.nD Cert.NormRefIdeal.τ).loc Cert.NormRefIdeal.main_v34) = v2 c
          ∧ r.2.mem ((c.tc : Thread Cert.NormRefIdeal.nD Cert.NormRefIdeal.τ).loc Cert.NormRefIdeal.main_v59) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_NormABwd_NormABwdIdeal : Prop :=
  True

def algebraic_NormABwdIdeal_NormARefIdeal_pre_first_norm_finite [hNormABwdIdeal : Cert.NormABwdIdeal.Facts] [hNormARefIdeal : Cert.NormARefIdeal.Facts] [hPre_first_norm_finite : Cert.Pre_first_norm_finite.Facts] : Prop :=
  ∀ (m : (ℓ : Loc Cert.NormABwdIdeal.nD Cert.NormABwdIdeal.τ Cert.NormABwdIdeal.sig) → Buf (Elt Ideal) ℓ) (g : Dev Cert.NormABwdIdeal.nD → PrngReg)
    (m' : (ℓ : Loc Cert.NormARefIdeal.nD Cert.NormARefIdeal.τ Cert.NormARefIdeal.sig) → Buf (Elt Ideal) ℓ) (g' : Dev Cert.NormARefIdeal.nD → PrngReg), Pre_NormABwdIdeal_first_norm_finite m →
    (∀ c : Dev Cert.NormABwdIdeal.nD,
      m' ((c.tc : Thread Cert.NormARefIdeal.nD Cert.NormARefIdeal.τ).loc Cert.NormARefIdeal.main_arg0) = m ((c.tc : Thread Cert.NormABwdIdeal.nD Cert.NormABwdIdeal.τ).loc Cert.NormABwdIdeal.main_arg0)
      ∧ m' ((c.tc : Thread Cert.NormARefIdeal.nD Cert.NormARefIdeal.τ).loc Cert.NormARefIdeal.main_arg1) = m ((c.tc : Thread Cert.NormABwdIdeal.nD Cert.NormABwdIdeal.τ).loc Cert.NormABwdIdeal.main_arg1)
      ∧ m' ((c.tc : Thread Cert.NormARefIdeal.nD Cert.NormARefIdeal.τ).loc Cert.NormARefIdeal.main_arg2) = m ((c.tc : Thread Cert.NormABwdIdeal.nD Cert.NormABwdIdeal.τ).loc Cert.NormABwdIdeal.main_arg2)
      ∧ m' ((c.tc : Thread Cert.NormARefIdeal.nD Cert.NormARefIdeal.τ).loc Cert.NormARefIdeal.main_arg3) = m ((c.tc : Thread Cert.NormABwdIdeal.nD Cert.NormABwdIdeal.τ).loc Cert.NormABwdIdeal.main_arg3)
      ∧ m' ((c.tc : Thread Cert.NormARefIdeal.nD Cert.NormARefIdeal.τ).loc Cert.NormARefIdeal.main_arg4) = m ((c.tc : Thread Cert.NormABwdIdeal.nD Cert.NormABwdIdeal.τ).loc Cert.NormABwdIdeal.main_arg4)
      ∧ m' ((c.tc : Thread Cert.NormARefIdeal.nD Cert.NormARefIdeal.τ).loc Cert.NormARefIdeal.main_arg5) = m ((c.tc : Thread Cert.NormABwdIdeal.nD Cert.NormABwdIdeal.τ).loc Cert.NormABwdIdeal.main_arg5)) →
    ∃ (v0 : (c : Dev Cert.NormABwdIdeal.nD) → Buf (Elt Ideal) ((c.tc : Thread Cert.NormABwdIdeal.nD Cert.NormABwdIdeal.τ).loc Cert.NormABwdIdeal.main_v7_0)) (v1 : (c : Dev Cert.NormABwdIdeal.nD) → Buf (Elt Ideal) ((c.tc : Thread Cert.NormABwdIdeal.nD Cert.NormABwdIdeal.τ).loc Cert.NormABwdIdeal.main_v7_1)) (v2 : (c : Dev Cert.NormABwdIdeal.nD) → Buf (Elt Ideal) ((c.tc : Thread Cert.NormABwdIdeal.nD Cert.NormABwdIdeal.τ).loc Cert.NormABwdIdeal.main_v7_2)) (v3 : (c : Dev Cert.NormABwdIdeal.nD) → Buf (Elt Ideal) ((c.tc : Thread Cert.NormABwdIdeal.nD Cert.NormABwdIdeal.τ).loc Cert.NormABwdIdeal.main_v7_3)),
      θ_run (Cert.NormABwdIdeal.defs (F := Ideal)) (onTc (τ := Cert.NormABwdIdeal.τ) (Cert.NormABwdIdeal.main (F := Ideal))) ⟨m, fun _ => 0, g⟩ (fun r => ∀ c : Dev Cert.NormABwdIdeal.nD,
          r.2.mem ((c.tc : Thread Cert.NormABwdIdeal.nD Cert.NormABwdIdeal.τ).loc Cert.NormABwdIdeal.main_v7_0) = v0 c
          ∧ r.2.mem ((c.tc : Thread Cert.NormABwdIdeal.nD Cert.NormABwdIdeal.τ).loc Cert.NormABwdIdeal.main_v7_1) = v1 c
          ∧ r.2.mem ((c.tc : Thread Cert.NormABwdIdeal.nD Cert.NormABwdIdeal.τ).loc Cert.NormABwdIdeal.main_v7_2) = v2 c
          ∧ r.2.mem ((c.tc : Thread Cert.NormABwdIdeal.nD Cert.NormABwdIdeal.τ).loc Cert.NormABwdIdeal.main_v7_3) = v3 c
          ∧ r.2.mem ((c.tc : Thread Cert.NormABwdIdeal.nD Cert.NormABwdIdeal.τ).loc Cert.NormABwdIdeal.main_arg0) = m ((c.tc : Thread Cert.NormABwdIdeal.nD Cert.NormABwdIdeal.τ).loc Cert.NormABwdIdeal.main_arg0)
          ∧ r.2.mem ((c.tc : Thread Cert.NormABwdIdeal.nD Cert.NormABwdIdeal.τ).loc Cert.NormABwdIdeal.main_arg1) = m ((c.tc : Thread Cert.NormABwdIdeal.nD Cert.NormABwdIdeal.τ).loc Cert.NormABwdIdeal.main_arg1)
          ∧ r.2.mem ((c.tc : Thread Cert.NormABwdIdeal.nD Cert.NormABwdIdeal.τ).loc Cert.NormABwdIdeal.main_arg2) = m ((c.tc : Thread Cert.NormABwdIdeal.nD Cert.NormABwdIdeal.τ).loc Cert.NormABwdIdeal.main_arg2)
          ∧ r.2.mem ((c.tc : Thread Cert.NormABwdIdeal.nD Cert.NormABwdIdeal.τ).loc Cert.NormABwdIdeal.main_arg3) = m ((c.tc : Thread Cert.NormABwdIdeal.nD Cert.NormABwdIdeal.τ).loc Cert.NormABwdIdeal.main_arg3)
          ∧ r.2.mem ((c.tc : Thread Cert.NormABwdIdeal.nD Cert.NormABwdIdeal.τ).loc Cert.NormABwdIdeal.main_arg4) = m ((c.tc : Thread Cert.NormABwdIdeal.nD Cert.NormABwdIdeal.τ).loc Cert.NormABwdIdeal.main_arg4)
          ∧ r.2.mem ((c.tc : Thread Cert.NormABwdIdeal.nD Cert.NormABwdIdeal.τ).loc Cert.NormABwdIdeal.main_arg5) = m ((c.tc : Thread Cert.NormABwdIdeal.nD Cert.NormABwdIdeal.τ).loc Cert.NormABwdIdeal.main_arg5))
      ∧ θ_run (Cert.NormARefIdeal.defs (F := Ideal)) (onTc (τ := Cert.NormARefIdeal.τ) (Cert.NormARefIdeal.main (F := Ideal))) ⟨m', fun _ => 0, g'⟩ (fun r => ∀ c : Dev Cert.NormARefIdeal.nD,
          r.2.mem ((c.tc : Thread Cert.NormARefIdeal.nD Cert.NormARefIdeal.τ).loc Cert.NormARefIdeal.main_v58) = v0 c
          ∧ r.2.mem ((c.tc : Thread Cert.NormARefIdeal.nD Cert.NormARefIdeal.τ).loc Cert.NormARefIdeal.main_v31) = v1 c
          ∧ r.2.mem ((c.tc : Thread Cert.NormARefIdeal.nD Cert.NormARefIdeal.τ).loc Cert.NormARefIdeal.main_v34) = v2 c
          ∧ r.2.mem ((c.tc : Thread Cert.NormARefIdeal.nD Cert.NormARefIdeal.τ).loc Cert.NormARefIdeal.main_v59) = v3 c
          ∧ r.2.mem ((c.tc : Thread Cert.NormARefIdeal.nD Cert.NormARefIdeal.τ).loc Cert.NormARefIdeal.main_arg0) = m' ((c.tc : Thread Cert.NormARefIdeal.nD Cert.NormARefIdeal.τ).loc Cert.NormARefIdeal.main_arg0)
          ∧ r.2.mem ((c.tc : Thread Cert.NormARefIdeal.nD Cert.NormARefIdeal.τ).loc Cert.NormARefIdeal.main_arg1) = m' ((c.tc : Thread Cert.NormARefIdeal.nD Cert.NormARefIdeal.τ).loc Cert.NormARefIdeal.main_arg1)
          ∧ r.2.mem ((c.tc : Thread Cert.NormARefIdeal.nD Cert.NormARefIdeal.τ).loc Cert.NormARefIdeal.main_arg2) = m' ((c.tc : Thread Cert.NormARefIdeal.nD Cert.NormARefIdeal.τ).loc Cert.NormARefIdeal.main_arg2)
          ∧ r.2.mem ((c.tc : Thread Cert.NormARefIdeal.nD Cert.NormARefIdeal.τ).loc Cert.NormARefIdeal.main_arg3) = m' ((c.tc : Thread Cert.NormARefIdeal.nD Cert.NormARefIdeal.τ).loc Cert.NormARefIdeal.main_arg3)
          ∧ r.2.mem ((c.tc : Thread Cert.NormARefIdeal.nD Cert.NormARefIdeal.τ).loc Cert.NormARefIdeal.main_arg4) = m' ((c.tc : Thread Cert.NormARefIdeal.nD Cert.NormARefIdeal.τ).loc Cert.NormARefIdeal.main_arg4)
          ∧ r.2.mem ((c.tc : Thread Cert.NormARefIdeal.nD Cert.NormARefIdeal.τ).loc Cert.NormARefIdeal.main_arg5) = m' ((c.tc : Thread Cert.NormARefIdeal.nD Cert.NormARefIdeal.τ).loc Cert.NormARefIdeal.main_arg5))

def preserves_MixFwd_MixFwdIdeal : Prop :=
  IdealRules.named_const.Statement Cert.MixFwdIdeal.κ "gelu_c1" .f32 0x3D372713#32 ((8943 / 200000 : ℝ) : EReal)

def algebraic_MixFwdIdeal_MixRefIdeal_pre_mix_finite [hMixFwdIdeal : Cert.MixFwdIdeal.Facts] [hMixRefIdeal : Cert.MixRefIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixFwdIdeal_mix_finite m →
    (∀ c : Dev Cert.MixFwdIdeal.nD,
      m' ((c.tc : Thread Cert.MixRefIdeal.nD Cert.MixRefIdeal.τ).loc Cert.MixRefIdeal.main_arg0) = m ((c.tc : Thread Cert.MixFwdIdeal.nD Cert.MixFwdIdeal.τ).loc Cert.MixFwdIdeal.main_arg0)
      ∧ m' ((c.tc : Thread Cert.MixRefIdeal.nD Cert.MixRefIdeal.τ).loc Cert.MixRefIdeal.main_arg1) = m ((c.tc : Thread Cert.MixFwdIdeal.nD Cert.MixFwdIdeal.τ).loc Cert.MixFwdIdeal.main_arg1)
      ∧ m' ((c.tc : Thread Cert.MixRefIdeal.nD Cert.MixRefIdeal.τ).loc Cert.MixRefIdeal.main_arg2) = m ((c.tc : Thread Cert.MixFwdIdeal.nD Cert.MixFwdIdeal.τ).loc Cert.MixFwdIdeal.main_arg2)
      ∧ m' ((c.tc : Thread Cert.MixRefIdeal.nD Cert.MixRefIdeal.τ).loc Cert.MixRefIdeal.main_arg3) = m ((c.tc : Thread Cert.MixFwdIdeal.nD Cert.MixFwdIdeal.τ).loc Cert.MixFwdIdeal.main_arg3)
      ∧ m' ((c.tc : Thread Cert.MixRefIdeal.nD Cert.MixRefIdeal.τ).loc Cert.MixRefIdeal.main_arg4) = m ((c.tc : Thread Cert.MixFwdIdeal.nD Cert.MixFwdIdeal.τ).loc Cert.MixFwdIdeal.main_arg4)) →
    ∃ (v0 : (c : Dev Cert.MixFwdIdeal.nD) → Buf (Elt Ideal) ((c.tc : Thread Cert.MixFwdIdeal.nD Cert.MixFwdIdeal.τ).loc Cert.MixFwdIdeal.main_v5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v5) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v65) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_OutFwd_OutFwdIdeal : Prop :=
  True

def algebraic_OutFwdIdeal_OutRefIdeal [hOutFwdIdeal : Cert.OutFwdIdeal.Facts] [hOutRefIdeal : Cert.OutRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutFwdIdeal m →
    (∀ c : Dev Cert.OutFwdIdeal.nD,
      m' ((c.tc : Thread Cert.OutRefIdeal.nD Cert.OutRefIdeal.τ).loc Cert.OutRefIdeal.main_arg0) = m ((c.tc : Thread Cert.OutFwdIdeal.nD Cert.OutFwdIdeal.τ).loc Cert.OutFwdIdeal.main_arg0)
      ∧ m' ((c.tc : Thread Cert.OutRefIdeal.nD Cert.OutRefIdeal.τ).loc Cert.OutRefIdeal.main_arg1) = m ((c.tc : Thread Cert.OutFwdIdeal.nD Cert.OutFwdIdeal.τ).loc Cert.OutFwdIdeal.main_arg1)
      ∧ m' ((c.tc : Thread Cert.OutRefIdeal.nD Cert.OutRefIdeal.τ).loc Cert.OutRefIdeal.main_arg2) = m ((c.tc : Thread Cert.OutFwdIdeal.nD Cert.OutFwdIdeal.τ).loc Cert.OutFwdIdeal.main_arg2)
      ∧ m' ((c.tc : Thread Cert.OutRefIdeal.nD Cert.OutRefIdeal.τ).loc Cert.OutRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v3_0)) (v1 : (c : Dev Cert.OutFwdIdeal.nD) → Buf (Elt Ideal) ((c.tc : Thread Cert.OutFwdIdeal.nD Cert.OutFwdIdeal.τ).loc Cert.OutFwdIdeal.main_v3_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v3_0) = v0 c
          ∧ r.2.mem ((c.tc : Thread Cert.OutFwdIdeal.nD Cert.OutFwdIdeal.τ).loc Cert.OutFwdIdeal.main_v3_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v8) = v0 c
          ∧ r.2.mem ((c.tc : Thread Cert.OutRefIdeal.nD Cert.OutRefIdeal.τ).loc Cert.OutRefIdeal.main_v10) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_InpFwd_InpFwdIdeal : Prop :=
  True

def algebraic_InpFwdIdeal_InpRefIdeal [hInpFwdIdeal : Cert.InpFwdIdeal.Facts] [hInpRefIdeal : Cert.InpRefIdeal.Facts] : Prop :=
  ∀ (m : (ℓ : Loc Cert.InpFwdIdeal.nD Cert.InpFwdIdeal.τ Cert.InpFwdIdeal.sig) → Buf (Elt Ideal) ℓ) (g : Dev Cert.InpFwdIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpFwdIdeal m →
    (∀ c : Dev Cert.InpFwdIdeal.nD,
      m' ((c.tc : Thread Cert.InpRefIdeal.nD Cert.InpRefIdeal.τ).loc Cert.InpRefIdeal.main_arg0) = m ((c.tc : Thread Cert.InpFwdIdeal.nD Cert.InpFwdIdeal.τ).loc Cert.InpFwdIdeal.main_arg0)
      ∧ m' ((c.tc : Thread Cert.InpRefIdeal.nD Cert.InpRefIdeal.τ).loc Cert.InpRefIdeal.main_arg1) = m ((c.tc : Thread Cert.InpFwdIdeal.nD Cert.InpFwdIdeal.τ).loc Cert.InpFwdIdeal.main_arg1)
      ∧ m' ((c.tc : Thread Cert.InpRefIdeal.nD Cert.InpRefIdeal.τ).loc Cert.InpRefIdeal.main_arg2) = m ((c.tc : Thread Cert.InpFwdIdeal.nD Cert.InpFwdIdeal.τ).loc Cert.InpFwdIdeal.main_arg2)
      ∧ m' ((c.tc : Thread Cert.InpRefIdeal.nD Cert.InpRefIdeal.τ).loc Cert.InpRefIdeal.main_arg3) = m ((c.tc : Thread Cert.InpFwdIdeal.nD Cert.InpFwdIdeal.τ).loc Cert.InpFwdIdeal.main_arg3)) →
    ∃ (v0 : (c : Dev Cert.InpFwdIdeal.nD) → Buf (Elt Ideal) ((c.tc : Thread Cert.InpFwdIdeal.nD Cert.InpFwdIdeal.τ).loc Cert.InpFwdIdeal.main_v5_0)) (v1 : (c : Dev Cert.InpFwdIdeal.nD) → Buf (Elt Ideal) ((c.tc : Thread Cert.InpFwdIdeal.nD Cert.InpFwdIdeal.τ).loc Cert.InpFwdIdeal.main_v5_1)),
      θ_run (Cert.InpFwdIdeal.defs (F := Ideal)) (onTc (τ := Cert.InpFwdIdeal.τ) (Cert.InpFwdIdeal.main (F := Ideal))) ⟨m, fun _ => 0, g⟩ (fun r => ∀ c : Dev Cert.InpFwdIdeal.nD,
          r.2.mem ((c.tc : Thread Cert.InpFwdIdeal.nD Cert.InpFwdIdeal.τ).loc Cert.InpFwdIdeal.main_v5_0) = v0 c
          ∧ r.2.mem ((c.tc : Thread Cert.InpFwdIdeal.nD Cert.InpFwdIdeal.τ).loc Cert.InpFwdIdeal.main_v5_1) = v1 c
          ∧ r.2.mem ((c.tc : Thread Cert.InpFwdIdeal.nD Cert.InpFwdIdeal.τ).loc Cert.InpFwdIdeal.main_arg0) = m ((c.tc : Thread Cert.InpFwdIdeal.nD Cert.InpFwdIdeal.τ).loc Cert.InpFwdIdeal.main_arg0)
          ∧ r.2.mem ((c.tc : Thread Cert.InpFwdIdeal.nD Cert.InpFwdIdeal.τ).loc Cert.InpFwdIdeal.main_arg1) = m ((c.tc : Thread Cert.InpFwdIdeal.nD Cert.InpFwdIdeal.τ).loc Cert.InpFwdIdeal.main_arg1)
          ∧ r.2.mem ((c.tc : Thread Cert.InpFwdIdeal.nD Cert.InpFwdIdeal.τ).loc Cert.InpFwdIdeal.main_arg2) = m ((c.tc : Thread Cert.InpFwdIdeal.nD Cert.InpFwdIdeal.τ).loc Cert.InpFwdIdeal.main_arg2)
          ∧ r.2.mem ((c.tc : Thread Cert.InpFwdIdeal.nD Cert.InpFwdIdeal.τ).loc Cert.InpFwdIdeal.main_arg3) = m ((c.tc : Thread Cert.InpFwdIdeal.nD Cert.InpFwdIdeal.τ).loc Cert.InpFwdIdeal.main_arg3))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v25) = v0 c
          ∧ r.2.mem ((c.tc : Thread Cert.InpRefIdeal.nD Cert.InpRefIdeal.τ).loc Cert.InpRefIdeal.main_v27) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3))

def preserves_AdaBwd_AdaBwdIdeal : Prop :=
  True

def algebraic_AdaBwdIdeal_AdaRefIdeal [hAdaBwdIdeal : Cert.AdaBwdIdeal.Facts] [hAdaRefIdeal : Cert.AdaRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaBwdIdeal m →
    (∀ c : Dev Cert.AdaBwdIdeal.nD,
      m' ((c.tc : Thread Cert.AdaRefIdeal.nD Cert.AdaRefIdeal.τ).loc Cert.AdaRefIdeal.main_arg0) = m ((c.tc : Thread Cert.AdaBwdIdeal.nD Cert.AdaBwdIdeal.τ).loc Cert.AdaBwdIdeal.main_arg0)
      ∧ m' ((c.tc : Thread Cert.AdaRefIdeal.nD Cert.AdaRefIdeal.τ).loc Cert.AdaRefIdeal.main_arg1) = m ((c.tc : Thread Cert.AdaBwdIdeal.nD Cert.AdaBwdIdeal.τ).loc Cert.AdaBwdIdeal.main_arg1)
      ∧ m' ((c.tc : Thread Cert.AdaRefIdeal.nD Cert.AdaRefIdeal.τ).loc Cert.AdaRefIdeal.main_arg2) = m ((c.tc : Thread Cert.AdaBwdIdeal.nD Cert.AdaBwdIdeal.τ).loc Cert.AdaBwdIdeal.main_arg2)
      ∧ m' ((c.tc : Thread Cert.AdaRefIdeal.nD Cert.AdaRefIdeal.τ).loc Cert.AdaRefIdeal.main_arg3) = m ((c.tc : Thread Cert.AdaBwdIdeal.nD Cert.AdaBwdIdeal.τ).loc Cert.AdaBwdIdeal.main_arg3)
      ∧ m' ((c.tc : Thread Cert.AdaRefIdeal.nD Cert.AdaRefIdeal.τ).loc Cert.AdaRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)) (v3 : (c : Dev Cert.AdaBwdIdeal.nD) → Buf (Elt Ideal) ((c.tc : Thread Cert.AdaBwdIdeal.nD Cert.AdaBwdIdeal.τ).loc Cert.AdaBwdIdeal.main_v0_3)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_v0_3) = v3 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_v29) = v1 c
          ∧ r.2.mem ((c.tc : Thread Cert.AdaRefIdeal.nD Cert.AdaRefIdeal.τ).loc Cert.AdaRefIdeal.main_v10) = v2 c
          ∧ r.2.mem ((c.tc : Thread Cert.AdaRefIdeal.nD Cert.AdaRefIdeal.τ).loc Cert.AdaRefIdeal.main_v16) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_BiasUpd_BiasUpdIdeal : Prop :=
  True

def algebraic_BiasUpdIdeal_BiasRefIdeal [hBiasUpdIdeal : Cert.BiasUpdIdeal.Facts] [hBiasRefIdeal : Cert.BiasRefIdeal.Facts] : Prop :=
  ∀ (m : (ℓ : Loc Cert.BiasUpdIdeal.nD Cert.BiasUpdIdeal.τ Cert.BiasUpdIdeal.sig) → Buf (Elt Ideal) ℓ) (g : Dev Cert.BiasUpdIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasUpdIdeal m →
    (∀ c : Dev Cert.BiasUpdIdeal.nD,
      m' ((c.tc : Thread Cert.BiasRefIdeal.nD Cert.BiasRefIdeal.τ).loc Cert.BiasRefIdeal.main_arg0) = m ((c.tc : Thread Cert.BiasUpdIdeal.nD Cert.BiasUpdIdeal.τ).loc Cert.BiasUpdIdeal.main_arg0)
      ∧ m' ((c.tc : Thread Cert.BiasRefIdeal.nD Cert.BiasRefIdeal.τ).loc Cert.BiasRefIdeal.main_arg1) = m ((c.tc : Thread Cert.BiasUpdIdeal.nD Cert.BiasUpdIdeal.τ).loc Cert.BiasUpdIdeal.main_arg1)
      ∧ m' ((c.tc : Thread Cert.BiasRefIdeal.nD Cert.BiasRefIdeal.τ).loc Cert.BiasRefIdeal.main_arg2) = m ((c.tc : Thread Cert.BiasUpdIdeal.nD Cert.BiasUpdIdeal.τ).loc Cert.BiasUpdIdeal.main_arg2)
      ∧ m' ((c.tc : Thread Cert.BiasRefIdeal.nD Cert.BiasRefIdeal.τ).loc Cert.BiasRefIdeal.main_arg3) = m ((c.tc : Thread Cert.BiasUpdIdeal.nD Cert.BiasUpdIdeal.τ).loc Cert.BiasUpdIdeal.main_arg3)) →
    ∃ (v0 : (c : Dev Cert.BiasUpdIdeal.nD) → Buf (Elt Ideal) ((c.tc : Thread Cert.BiasUpdIdeal.nD Cert.BiasUpdIdeal.τ).loc Cert.BiasUpdIdeal.main_v4_0)) (v1 : (c : Dev Cert.BiasUpdIdeal.nD) → Buf (Elt Ideal) ((c.tc : Thread Cert.BiasUpdIdeal.nD Cert.BiasUpdIdeal.τ).loc Cert.BiasUpdIdeal.main_v4_1)) (v2 : (c : Dev Cert.BiasUpdIdeal.nD) → Buf (Elt Ideal) ((c.tc : Thread Cert.BiasUpdIdeal.nD Cert.BiasUpdIdeal.τ).loc Cert.BiasUpdIdeal.main_v4_2)) (v3 : (c : Dev Cert.BiasUpdIdeal.nD) → Buf (Elt Ideal) ((c.tc : Thread Cert.BiasUpdIdeal.nD Cert.BiasUpdIdeal.τ).loc Cert.BiasUpdIdeal.main_v4_3)),
      θ_run (Cert.BiasUpdIdeal.defs (F := Ideal)) (onTc (τ := Cert.BiasUpdIdeal.τ) (Cert.BiasUpdIdeal.main (F := Ideal))) ⟨m, fun _ => 0, g⟩ (fun r => ∀ c : Dev Cert.BiasUpdIdeal.nD,
          r.2.mem ((c.tc : Thread Cert.BiasUpdIdeal.nD Cert.BiasUpdIdeal.τ).loc Cert.BiasUpdIdeal.main_v4_0) = v0 c
          ∧ r.2.mem ((c.tc : Thread Cert.BiasUpdIdeal.nD Cert.BiasUpdIdeal.τ).loc Cert.BiasUpdIdeal.main_v4_1) = v1 c
          ∧ r.2.mem ((c.tc : Thread Cert.BiasUpdIdeal.nD Cert.BiasUpdIdeal.τ).loc Cert.BiasUpdIdeal.main_v4_2) = v2 c
          ∧ r.2.mem ((c.tc : Thread Cert.BiasUpdIdeal.nD Cert.BiasUpdIdeal.τ).loc Cert.BiasUpdIdeal.main_v4_3) = v3 c
          ∧ r.2.mem ((c.tc : Thread Cert.BiasUpdIdeal.nD Cert.BiasUpdIdeal.τ).loc Cert.BiasUpdIdeal.main_arg0) = m ((c.tc : Thread Cert.BiasUpdIdeal.nD Cert.BiasUpdIdeal.τ).loc Cert.BiasUpdIdeal.main_arg0)
          ∧ r.2.mem ((c.tc : Thread Cert.BiasUpdIdeal.nD Cert.BiasUpdIdeal.τ).loc Cert.BiasUpdIdeal.main_arg1) = m ((c.tc : Thread Cert.BiasUpdIdeal.nD Cert.BiasUpdIdeal.τ).loc Cert.BiasUpdIdeal.main_arg1)
          ∧ r.2.mem ((c.tc : Thread Cert.BiasUpdIdeal.nD Cert.BiasUpdIdeal.τ).loc Cert.BiasUpdIdeal.main_arg2) = m ((c.tc : Thread Cert.BiasUpdIdeal.nD Cert.BiasUpdIdeal.τ).loc Cert.BiasUpdIdeal.main_arg2)
          ∧ r.2.mem ((c.tc : Thread Cert.BiasUpdIdeal.nD Cert.BiasUpdIdeal.τ).loc Cert.BiasUpdIdeal.main_arg3) = m ((c.tc : Thread Cert.BiasUpdIdeal.nD Cert.BiasUpdIdeal.τ).loc Cert.BiasUpdIdeal.main_arg3))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v29) = v0 c
          ∧ r.2.mem ((c.tc : Thread Cert.BiasRefIdeal.nD Cert.BiasRefIdeal.τ).loc Cert.BiasRefIdeal.main_v30) = v1 c
          ∧ r.2.mem ((c.tc : Thread Cert.BiasRefIdeal.nD Cert.BiasRefIdeal.τ).loc Cert.BiasRefIdeal.main_v31) = v2 c
          ∧ r.2.mem ((c.tc : Thread Cert.BiasRefIdeal.nD Cert.BiasRefIdeal.τ).loc Cert.BiasRefIdeal.main_v32) = v3 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1)
          ∧ r.2.mem ((c.tc : Thread Cert.BiasRefIdeal.nD Cert.BiasRefIdeal.τ).loc Cert.BiasRefIdeal.main_arg2) = m' ((c.tc : Thread Cert.BiasRefIdeal.nD Cert.BiasRefIdeal.τ).loc Cert.BiasRefIdeal.main_arg2)
          ∧ r.2.mem ((c.tc : Thread Cert.BiasRefIdeal.nD Cert.BiasRefIdeal.τ).loc Cert.BiasRefIdeal.main_arg3) = m' ((c.tc : Thread Cert.BiasRefIdeal.nD Cert.BiasRefIdeal.τ).loc Cert.BiasRefIdeal.main_arg3))

def preserves_ModuFwd_ModuFwdIdeal : Prop :=
  True

def algebraic_ModuFwdIdeal_ModuRefIdeal [hModuFwdIdeal : Cert.ModuFwdIdeal.Facts] [hModuRefIdeal : Cert.ModuRefIdeal.Facts] : Prop :=
  ∀ (m : (ℓ : Loc Cert.ModuFwdIdeal.nD Cert.ModuFwdIdeal.τ Cert.ModuFwdIdeal.sig) → Buf (Elt Ideal) ℓ) (g : Dev Cert.ModuFwdIdeal.nD → PrngReg)
    (m' : (ℓ : Loc Cert.ModuRefIdeal.nD Cert.ModuRefIdeal.τ Cert.ModuRefIdeal.sig) → Buf (Elt Ideal) ℓ) (g' : Dev Cert.ModuRefIdeal.nD → PrngReg), Pre_ModuFwdIdeal m →
    (∀ c : Dev Cert.ModuFwdIdeal.nD,
      m' ((c.tc : Thread Cert.ModuRefIdeal.nD Cert.ModuRefIdeal.τ).loc Cert.ModuRefIdeal.main_arg0) = m ((c.tc : Thread Cert.ModuFwdIdeal.nD Cert.ModuFwdIdeal.τ).loc Cert.ModuFwdIdeal.main_arg0)
      ∧ m' ((c.tc : Thread Cert.ModuRefIdeal.nD Cert.ModuRefIdeal.τ).loc Cert.ModuRefIdeal.main_arg1) = m ((c.tc : Thread Cert.ModuFwdIdeal.nD Cert.ModuFwdIdeal.τ).loc Cert.ModuFwdIdeal.main_arg1)
      ∧ m' ((c.tc : Thread Cert.ModuRefIdeal.nD Cert.ModuRefIdeal.τ).loc Cert.ModuRefIdeal.main_arg2) = m ((c.tc : Thread Cert.ModuFwdIdeal.nD Cert.ModuFwdIdeal.τ).loc Cert.ModuFwdIdeal.main_arg2)
      ∧ m' ((c.tc : Thread Cert.ModuRefIdeal.nD Cert.ModuRefIdeal.τ).loc Cert.ModuRefIdeal.main_arg3) = m ((c.tc : Thread Cert.ModuFwdIdeal.nD Cert.ModuFwdIdeal.τ).loc Cert.ModuFwdIdeal.main_arg3)) →
    ∃ (v0 : (c : Dev Cert.ModuFwdIdeal.nD) → Buf (Elt Ideal) ((c.tc : Thread Cert.ModuFwdIdeal.nD Cert.ModuFwdIdeal.τ).loc Cert.ModuFwdIdeal.main_v1)),
      θ_run (Cert.ModuFwdIdeal.defs (F := Ideal)) (onTc (τ := Cert.ModuFwdIdeal.τ) (Cert.ModuFwdIdeal.main (F := Ideal))) ⟨m, fun _ => 0, g⟩ (fun r => ∀ c : Dev Cert.ModuFwdIdeal.nD,
          r.2.mem ((c.tc : Thread Cert.ModuFwdIdeal.nD Cert.ModuFwdIdeal.τ).loc Cert.ModuFwdIdeal.main_v1) = v0 c
          ∧ r.2.mem ((c.tc : Thread Cert.ModuFwdIdeal.nD Cert.ModuFwdIdeal.τ).loc Cert.ModuFwdIdeal.main_arg0) = m ((c.tc : Thread Cert.ModuFwdIdeal.nD Cert.ModuFwdIdeal.τ).loc Cert.ModuFwdIdeal.main_arg0)
          ∧ r.2.mem ((c.tc : Thread Cert.ModuFwdIdeal.nD Cert.ModuFwdIdeal.τ).loc Cert.ModuFwdIdeal.main_arg1) = m ((c.tc : Thread Cert.ModuFwdIdeal.nD Cert.ModuFwdIdeal.τ).loc Cert.ModuFwdIdeal.main_arg1)
          ∧ r.2.mem ((c.tc : Thread Cert.ModuFwdIdeal.nD Cert.ModuFwdIdeal.τ).loc Cert.ModuFwdIdeal.main_arg2) = m ((c.tc : Thread Cert.ModuFwdIdeal.nD Cert.ModuFwdIdeal.τ).loc Cert.ModuFwdIdeal.main_arg2)
          ∧ r.2.mem ((c.tc : Thread Cert.ModuFwdIdeal.nD Cert.ModuFwdIdeal.τ).loc Cert.ModuFwdIdeal.main_arg3) = m ((c.tc : Thread Cert.ModuFwdIdeal.nD Cert.ModuFwdIdeal.τ).loc Cert.ModuFwdIdeal.main_arg3))
      ∧ θ_run (Cert.ModuRefIdeal.defs (F := Ideal)) (onTc (τ := Cert.ModuRefIdeal.τ) (Cert.ModuRefIdeal.main (F := Ideal))) ⟨m', fun _ => 0, g'⟩ (fun r => ∀ c : Dev Cert.ModuRefIdeal.nD,
          r.2.mem ((c.tc : Thread Cert.ModuRefIdeal.nD Cert.ModuRefIdeal.τ).loc Cert.ModuRefIdeal.main_v5) = v0 c
          ∧ r.2.mem ((c.tc : Thread Cert.ModuRefIdeal.nD Cert.ModuRefIdeal.τ).loc Cert.ModuRefIdeal.main_arg0) = m' ((c.tc : Thread Cert.ModuRefIdeal.nD Cert.ModuRefIdeal.τ).loc Cert.ModuRefIdeal.main_arg0)
          ∧ r.2.mem ((c.tc : Thread Cert.ModuRefIdeal.nD Cert.ModuRefIdeal.τ).loc Cert.ModuRefIdeal.main_arg1) = m' ((c.tc : Thread Cert.ModuRefIdeal.nD Cert.ModuRefIdeal.τ).loc Cert.ModuRefIdeal.main_arg1)
          ∧ r.2.mem ((c.tc : Thread Cert.ModuRefIdeal.nD Cert.ModuRefIdeal.τ).loc Cert.ModuRefIdeal.main_arg2) = m' ((c.tc : Thread Cert.ModuRefIdeal.nD Cert.ModuRefIdeal.τ).loc Cert.ModuRefIdeal.main_arg2)
          ∧ r.2.mem ((c.tc : Thread Cert.ModuRefIdeal.nD Cert.ModuRefIdeal.τ).loc Cert.ModuRefIdeal.main_arg3) = m' ((c.tc : Thread Cert.ModuRefIdeal.nD Cert.ModuRefIdeal.τ).loc Cert.ModuRefIdeal.main_arg3))

def preserves_ScanFwd_ScanFwdIdeal : Prop :=
  True

def preserves_WinBwd_WinBwdIdeal : Prop :=
  True

def algebraic_WinBwdIdeal_WinRefIdeal [hWinBwdIdeal : Cert.WinBwdIdeal.Facts] [hWinRefIdeal : Cert.WinRefIdeal.Facts] : Prop :=
  ∀ (m : (ℓ : Loc Cert.WinBwdIdeal.nD Cert.WinBwdIdeal.τ Cert.WinBwdIdeal.sig) → Buf (Elt Ideal) ℓ) (g : Dev Cert.WinBwdIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinBwdIdeal m →
    (∀ c : Dev Cert.WinBwdIdeal.nD,
      m' ((c.tc : Thread Cert.WinRefIdeal.nD Cert.WinRefIdeal.τ).loc Cert.WinRefIdeal.main_arg0) = m ((c.tc : Thread Cert.WinBwdIdeal.nD Cert.WinBwdIdeal.τ).loc Cert.WinBwdIdeal.main_arg0)
      ∧ m' ((c.tc : Thread Cert.WinRefIdeal.nD Cert.WinRefIdeal.τ).loc Cert.WinRefIdeal.main_arg1) = m ((c.tc : Thread Cert.WinBwdIdeal.nD Cert.WinBwdIdeal.τ).loc Cert.WinBwdIdeal.main_arg1)) →
    ∃ (v0 : (c : Dev Cert.WinBwdIdeal.nD) → Buf (Elt Ideal) ((c.tc : Thread Cert.WinBwdIdeal.nD Cert.WinBwdIdeal.τ).loc Cert.WinBwdIdeal.main_v3)),
      θ_run (Cert.WinBwdIdeal.defs (F := Ideal)) (onTc (τ := Cert.WinBwdIdeal.τ) (Cert.WinBwdIdeal.main (F := Ideal))) ⟨m, fun _ => 0, g⟩ (fun r => ∀ c : Dev Cert.WinBwdIdeal.nD,
          r.2.mem ((c.tc : Thread Cert.WinBwdIdeal.nD Cert.WinBwdIdeal.τ).loc Cert.WinBwdIdeal.main_v3) = v0 c
          ∧ r.2.mem ((c.tc : Thread Cert.WinBwdIdeal.nD Cert.WinBwdIdeal.τ).loc Cert.WinBwdIdeal.main_arg0) = m ((c.tc : Thread Cert.WinBwdIdeal.nD Cert.WinBwdIdeal.τ).loc Cert.WinBwdIdeal.main_arg0)
          ∧ r.2.mem ((c.tc : Thread Cert.WinBwdIdeal.nD Cert.WinBwdIdeal.τ).loc Cert.WinBwdIdeal.main_arg1) = m ((c.tc : Thread Cert.WinBwdIdeal.nD Cert.WinBwdIdeal.τ).loc Cert.WinBwdIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v10) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_WoutBwd_WoutBwdIdeal : Prop :=
  True

def algebraic_WoutBwdIdeal_WoutRefIdeal [hWoutBwdIdeal : Cert.WoutBwdIdeal.Facts] [hWoutRefIdeal : Cert.WoutRefIdeal.Facts] : Prop :=
  ∀ (m : (ℓ : Loc Cert.WoutBwdIdeal.nD Cert.WoutBwdIdeal.τ Cert.WoutBwdIdeal.sig) → Buf (Elt Ideal) ℓ) (g : Dev Cert.WoutBwdIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutBwdIdeal m →
    (∀ c : Dev Cert.WoutBwdIdeal.nD,
      m' ((c.tc : Thread Cert.WoutRefIdeal.nD Cert.WoutRefIdeal.τ).loc Cert.WoutRefIdeal.main_arg0) = m ((c.tc : Thread Cert.WoutBwdIdeal.nD Cert.WoutBwdIdeal.τ).loc Cert.WoutBwdIdeal.main_arg0)
      ∧ m' ((c.tc : Thread Cert.WoutRefIdeal.nD Cert.WoutRefIdeal.τ).loc Cert.WoutRefIdeal.main_arg1) = m ((c.tc : Thread Cert.WoutBwdIdeal.nD Cert.WoutBwdIdeal.τ).loc Cert.WoutBwdIdeal.main_arg1)) →
    ∃ (v0 : (c : Dev Cert.WoutBwdIdeal.nD) → Buf (Elt Ideal) ((c.tc : Thread Cert.WoutBwdIdeal.nD Cert.WoutBwdIdeal.τ).loc Cert.WoutBwdIdeal.main_v0)),
      θ_run (Cert.WoutBwdIdeal.defs (F := Ideal)) (onTc (τ := Cert.WoutBwdIdeal.τ) (Cert.WoutBwdIdeal.main (F := Ideal))) ⟨m, fun _ => 0, g⟩ (fun r => ∀ c : Dev Cert.WoutBwdIdeal.nD,
          r.2.mem ((c.tc : Thread Cert.WoutBwdIdeal.nD Cert.WoutBwdIdeal.τ).loc Cert.WoutBwdIdeal.main_v0) = v0 c
          ∧ r.2.mem ((c.tc : Thread Cert.WoutBwdIdeal.nD Cert.WoutBwdIdeal.τ).loc Cert.WoutBwdIdeal.main_arg0) = m ((c.tc : Thread Cert.WoutBwdIdeal.nD Cert.WoutBwdIdeal.τ).loc Cert.WoutBwdIdeal.main_arg0)
          ∧ r.2.mem ((c.tc : Thread Cert.WoutBwdIdeal.nD Cert.WoutBwdIdeal.τ).loc Cert.WoutBwdIdeal.main_arg1) = m ((c.tc : Thread Cert.WoutBwdIdeal.nD Cert.WoutBwdIdeal.τ).loc Cert.WoutBwdIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v6) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_SumParts_SumPartsIdeal : Prop :=
  True

def algebraic_SumPartsIdeal_SumRefIdeal [hSumPartsIdeal : Cert.SumPartsIdeal.Facts] [hSumRefIdeal : Cert.SumRefIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumPartsIdeal m →
    (∀ c : Dev Cert.SumPartsIdeal.nD,
      m' ((c.tc : Thread Cert.SumRefIdeal.nD Cert.SumRefIdeal.τ).loc Cert.SumRefIdeal.main_arg0) = m ((c.tc : Thread Cert.SumPartsIdeal.nD Cert.SumPartsIdeal.τ).loc Cert.SumPartsIdeal.main_arg0)
      ∧ m' ((c.tc : Thread Cert.SumRefIdeal.nD Cert.SumRefIdeal.τ).loc Cert.SumRefIdeal.main_arg1) = m ((c.tc : Thread Cert.SumPartsIdeal.nD Cert.SumPartsIdeal.τ).loc Cert.SumPartsIdeal.main_arg1)) →
    ∃ (v0 : (c : Dev Cert.SumPartsIdeal.nD) → Buf (Elt Ideal) ((c.tc : Thread Cert.SumPartsIdeal.nD Cert.SumPartsIdeal.τ).loc Cert.SumPartsIdeal.main_v1)),
      θ_run (Cert.SumPartsIdeal.defs (F := Ideal)) (onTc (τ := Cert.SumPartsIdeal.τ) (Cert.SumPartsIdeal.main (F := Ideal))) ⟨m, fun _ => 0, g⟩ (fun r => ∀ c : Dev Cert.SumPartsIdeal.nD,
          r.2.mem ((c.tc : Thread Cert.SumPartsIdeal.nD Cert.SumPartsIdeal.τ).loc Cert.SumPartsIdeal.main_v1) = v0 c
          ∧ r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0)
          ∧ r.2.mem ((c.tc : Thread Cert.SumPartsIdeal.nD Cert.SumPartsIdeal.τ).loc Cert.SumPartsIdeal.main_arg1) = m ((c.tc : Thread Cert.SumPartsIdeal.nD Cert.SumPartsIdeal.τ).loc Cert.SumPartsIdeal.main_arg1))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v6) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0)
          ∧ r.2.mem ((c.tc : Thread Cert.SumRefIdeal.nD Cert.SumRefIdeal.τ).loc Cert.SumRefIdeal.main_arg1) = m' ((c.tc : Thread Cert.SumRefIdeal.nD Cert.SumRefIdeal.τ).loc Cert.SumRefIdeal.main_arg1))

def preserves_PairUpd_PairUpdIdeal : Prop :=
  True

def algebraic_PairUpdIdeal_PairRefIdeal [hPairUpdIdeal : Cert.PairUpdIdeal.Facts] [hPairRefIdeal : Cert.PairRefIdeal.Facts] : Prop :=
  ∀ (m : (ℓ : Loc Cert.PairUpdIdeal.nD Cert.PairUpdIdeal.τ Cert.PairUpdIdeal.sig) → Buf (Elt Ideal) ℓ) (g : Dev Cert.PairUpdIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairUpdIdeal m →
    (∀ c : Dev Cert.PairUpdIdeal.nD,
      m' ((c.tc : Thread Cert.PairRefIdeal.nD Cert.PairRefIdeal.τ).loc Cert.PairRefIdeal.main_arg0) = m ((c.tc : Thread Cert.PairUpdIdeal.nD Cert.PairUpdIdeal.τ).loc Cert.PairUpdIdeal.main_arg0)
      ∧ m' ((c.tc : Thread Cert.PairRefIdeal.nD Cert.PairRefIdeal.τ).loc Cert.PairRefIdeal.main_arg1) = m ((c.tc : Thread Cert.PairUpdIdeal.nD Cert.PairUpdIdeal.τ).loc Cert.PairUpdIdeal.main_arg1)
      ∧ m' ((c.tc : Thread Cert.PairRefIdeal.nD Cert.PairRefIdeal.τ).loc Cert.PairRefIdeal.main_arg2) = m ((c.tc : Thread Cert.PairUpdIdeal.nD Cert.PairUpdIdeal.τ).loc Cert.PairUpdIdeal.main_arg2)
      ∧ m' ((c.tc : Thread Cert.PairRefIdeal.nD Cert.PairRefIdeal.τ).loc Cert.PairRefIdeal.main_arg3) = m ((c.tc : Thread Cert.PairUpdIdeal.nD Cert.PairUpdIdeal.τ).loc Cert.PairUpdIdeal.main_arg3)
      ∧ m' ((c.tc : Thread Cert.PairRefIdeal.nD Cert.PairRefIdeal.τ).loc Cert.PairRefIdeal.main_arg4) = m ((c.tc : Thread Cert.PairUpdIdeal.nD Cert.PairUpdIdeal.τ).loc Cert.PairUpdIdeal.main_arg4)) →
    ∃ (v0 : (c : Dev Cert.PairUpdIdeal.nD) → Buf (Elt Ideal) ((c.tc : Thread Cert.PairUpdIdeal.nD Cert.PairUpdIdeal.τ).loc Cert.PairUpdIdeal.main_v0_0)) (v1 : (c : Dev Cert.PairUpdIdeal.nD) → Buf (Elt Ideal) ((c.tc : Thread Cert.PairUpdIdeal.nD Cert.PairUpdIdeal.τ).loc Cert.PairUpdIdeal.main_v0_1)) (v2 : (c : Dev Cert.PairUpdIdeal.nD) → Buf (Elt Ideal) ((c.tc : Thread Cert.PairUpdIdeal.nD Cert.PairUpdIdeal.τ).loc Cert.PairUpdIdeal.main_v0_2)) (v3 : (c : Dev Cert.PairUpdIdeal.nD) → Buf (Elt Ideal) ((c.tc : Thread Cert.PairUpdIdeal.nD Cert.PairUpdIdeal.τ).loc Cert.PairUpdIdeal.main_v0_3)),
      θ_run (Cert.PairUpdIdeal.defs (F := Ideal)) (onTc (τ := Cert.PairUpdIdeal.τ) (Cert.PairUpdIdeal.main (F := Ideal))) ⟨m, fun _ => 0, g⟩ (fun r => ∀ c : Dev Cert.PairUpdIdeal.nD,
          r.2.mem ((c.tc : Thread Cert.PairUpdIdeal.nD Cert.PairUpdIdeal.τ).loc Cert.PairUpdIdeal.main_v0_0) = v0 c
          ∧ r.2.mem ((c.tc : Thread Cert.PairUpdIdeal.nD Cert.PairUpdIdeal.τ).loc Cert.PairUpdIdeal.main_v0_1) = v1 c
          ∧ r.2.mem ((c.tc : Thread Cert.PairUpdIdeal.nD Cert.PairUpdIdeal.τ).loc Cert.PairUpdIdeal.main_v0_2) = v2 c
          ∧ r.2.mem ((c.tc : Thread Cert.PairUpdIdeal.nD Cert.PairUpdIdeal.τ).loc Cert.PairUpdIdeal.main_v0_3) = v3 c
          ∧ r.2.mem ((c.tc : Thread Cert.PairUpdIdeal.nD Cert.PairUpdIdeal.τ).loc Cert.PairUpdIdeal.main_arg0) = m ((c.tc : Thread Cert.PairUpdIdeal.nD Cert.PairUpdIdeal.τ).loc Cert.PairUpdIdeal.main_arg0)
          ∧ r.2.mem ((c.tc : Thread Cert.PairUpdIdeal.nD Cert.PairUpdIdeal.τ).loc Cert.PairUpdIdeal.main_arg1) = m ((c.tc : Thread Cert.PairUpdIdeal.nD Cert.PairUpdIdeal.τ).loc Cert.PairUpdIdeal.main_arg1)
          ∧ r.2.mem ((c.tc : Thread Cert.PairUpdIdeal.nD Cert.PairUpdIdeal.τ).loc Cert.PairUpdIdeal.main_arg2) = m ((c.tc : Thread Cert.PairUpdIdeal.nD Cert.PairUpdIdeal.τ).loc Cert.PairUpdIdeal.main_arg2)
          ∧ r.2.mem ((c.tc : Thread Cert.PairUpdIdeal.nD Cert.PairUpdIdeal.τ).loc Cert.PairUpdIdeal.main_arg3) = m ((c.tc : Thread Cert.PairUpdIdeal.nD Cert.PairUpdIdeal.τ).loc Cert.PairUpdIdeal.main_arg3)
          ∧ r.2.mem ((c.tc : Thread Cert.PairUpdIdeal.nD Cert.PairUpdIdeal.τ).loc Cert.PairUpdIdeal.main_arg4) = m ((c.tc : Thread Cert.PairUpdIdeal.nD Cert.PairUpdIdeal.τ).loc Cert.PairUpdIdeal.main_arg4))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v2) = v0 c
          ∧ r.2.mem ((c.tc : Thread Cert.PairRefIdeal.nD Cert.PairRefIdeal.τ).loc Cert.PairRefIdeal.main_v26) = v1 c
          ∧ r.2.mem ((c.tc : Thread Cert.PairRefIdeal.nD Cert.PairRefIdeal.τ).loc Cert.PairRefIdeal.main_v7) = v2 c
          ∧ r.2.mem ((c.tc : Thread Cert.PairRefIdeal.nD Cert.PairRefIdeal.τ).loc Cert.PairRefIdeal.main_v13) = v3 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1)
          ∧ r.2.mem ((c.tc : Thread Cert.PairRefIdeal.nD Cert.PairRefIdeal.τ).loc Cert.PairRefIdeal.main_arg2) = m' ((c.tc : Thread Cert.PairRefIdeal.nD Cert.PairRefIdeal.τ).loc Cert.PairRefIdeal.main_arg2)
          ∧ r.2.mem ((c.tc : Thread Cert.PairRefIdeal.nD Cert.PairRefIdeal.τ).loc Cert.PairRefIdeal.main_arg3) = m' ((c.tc : Thread Cert.PairRefIdeal.nD Cert.PairRefIdeal.τ).loc Cert.PairRefIdeal.main_arg3)
          ∧ r.2.mem ((c.tc : Thread Cert.PairRefIdeal.nD Cert.PairRefIdeal.τ).loc Cert.PairRefIdeal.main_arg4) = m' ((c.tc : Thread Cert.PairRefIdeal.nD Cert.PairRefIdeal.τ).loc Cert.PairRefIdeal.main_arg4))

def Claim : Prop :=
  ∃ (hGateBwd : Cert.GateBwd.Facts) (hGateBwdIdeal : Cert.GateBwdIdeal.Facts) (hGateRefIdeal : Cert.GateRefIdeal.Facts) (hSguBwd : Cert.SguBwd.Facts) (hSguBwdIdeal : Cert.SguBwdIdeal.Facts) (hSguRefIdeal : Cert.SguRefIdeal.Facts) (hLossBwd : Cert.LossBwd.Facts) (hLossBwdIdeal : Cert.LossBwdIdeal.Facts) (hLossRefIdeal : Cert.LossRefIdeal.Facts) (hNormBwd : Cert.NormBwd.Facts) (hNormBwdIdeal : Cert.NormBwdIdeal.Facts) (hNormRefIdeal : Cert.NormRefIdeal.Facts) (hNormABwd : Cert.NormABwd.Facts) (hNormABwdIdeal : Cert.NormABwdIdeal.Facts) (hNormARefIdeal : Cert.NormARefIdeal.Facts) (hMixFwd : Cert.MixFwd.Facts) (hMixFwdIdeal : Cert.MixFwdIdeal.Facts) (hMixRefIdeal : Cert.MixRefIdeal.Facts) (hOutFwd : Cert.OutFwd.Facts) (hOutFwdIdeal : Cert.OutFwdIdeal.Facts) (hOutRefIdeal : Cert.OutRefIdeal.Facts) (hInpFwd : Cert.InpFwd.Facts) (hInpFwdIdeal : Cert.InpFwdIdeal.Facts) (hInpRefIdeal : Cert.InpRefIdeal.Facts) (hAdaBwd : Cert.AdaBwd.Facts) (hAdaBwdIdeal : Cert.AdaBwdIdeal.Facts) (hAdaRefIdeal : Cert.AdaRefIdeal.Facts) (hBiasUpd : Cert.BiasUpd.Facts) (hBiasUpdIdeal : Cert.BiasUpdIdeal.Facts) (hBiasRefIdeal : Cert.BiasRefIdeal.Facts) (hModuFwd : Cert.ModuFwd.Facts) (hModuFwdIdeal : Cert.ModuFwdIdeal.Facts) (hModuRefIdeal : Cert.ModuRefIdeal.Facts) (hScanFwd : Cert.ScanFwd.Facts) (hScanFwdIdeal : Cert.ScanFwdIdeal.Facts) (hWinBwd : Cert.WinBwd.Facts) (hWinBwdIdeal : Cert.WinBwdIdeal.Facts) (hWinRefIdeal : Cert.WinRefIdeal.Facts) (hWoutBwd : Cert.WoutBwd.Facts) (hWoutBwdIdeal : Cert.WoutBwdIdeal.Facts) (hWoutRefIdeal : Cert.WoutRefIdeal.Facts) (hSumParts : Cert.SumParts.Facts) (hSumPartsIdeal : Cert.SumPartsIdeal.Facts) (hSumRefIdeal : Cert.SumRefIdeal.Facts) (hPairUpd : Cert.PairUpd.Facts) (hPairUpdIdeal : Cert.PairUpdIdeal.Facts) (hPairRefIdeal : Cert.PairRefIdeal.Facts) (hPre_sgu_finite : Cert.Pre_sgu_finite.Facts) (hPre_loss_finite : Cert.Pre_loss_finite.Facts) (hPre_norm_finite : Cert.Pre_norm_finite.Facts) (hPre_first_norm_finite : Cert.Pre_first_norm_finite.Facts) (hPre_mix_finite : Cert.Pre_mix_finite.Facts),
    quiescent_GateBwd (hGateBwd := hGateBwd)
    ∧ quiescent_GateBwdIdeal (hGateBwdIdeal := hGateBwdIdeal)
    ∧ quiescent_GateRefIdeal (hGateRefIdeal := hGateRefIdeal)
    ∧ quiescent_SguBwd (hSguBwd := hSguBwd)
    ∧ quiescent_SguBwdIdeal (hSguBwdIdeal := hSguBwdIdeal)
    ∧ quiescent_SguBwdIdeal_pre_sgu_finite (hSguBwdIdeal := hSguBwdIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_NormBwd (hNormBwd := hNormBwd)
    ∧ quiescent_NormBwdIdeal (hNormBwdIdeal := hNormBwdIdeal)
    ∧ quiescent_NormBwdIdeal_pre_norm_finite (hNormBwdIdeal := hNormBwdIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_NormABwd (hNormABwd := hNormABwd)
    ∧ quiescent_NormABwdIdeal (hNormABwdIdeal := hNormABwdIdeal)
    ∧ quiescent_NormABwdIdeal_pre_first_norm_finite (hNormABwdIdeal := hNormABwdIdeal) (hPre_first_norm_finite := hPre_first_norm_finite)
    ∧ quiescent_NormARefIdeal (hNormARefIdeal := hNormARefIdeal)
    ∧ quiescent_NormARefIdeal_pre_first_norm_finite (hNormARefIdeal := hNormARefIdeal) (hPre_first_norm_finite := hPre_first_norm_finite)
    ∧ quiescent_MixFwd (hMixFwd := hMixFwd)
    ∧ quiescent_MixFwdIdeal (hMixFwdIdeal := hMixFwdIdeal)
    ∧ quiescent_MixFwdIdeal_pre_mix_finite (hMixFwdIdeal := hMixFwdIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_OutFwd (hOutFwd := hOutFwd)
    ∧ quiescent_OutFwdIdeal (hOutFwdIdeal := hOutFwdIdeal)
    ∧ quiescent_OutRefIdeal (hOutRefIdeal := hOutRefIdeal)
    ∧ quiescent_InpFwd (hInpFwd := hInpFwd)
    ∧ quiescent_InpFwdIdeal (hInpFwdIdeal := hInpFwdIdeal)
    ∧ quiescent_InpRefIdeal (hInpRefIdeal := hInpRefIdeal)
    ∧ quiescent_AdaBwd (hAdaBwd := hAdaBwd)
    ∧ quiescent_AdaBwdIdeal (hAdaBwdIdeal := hAdaBwdIdeal)
    ∧ quiescent_AdaRefIdeal (hAdaRefIdeal := hAdaRefIdeal)
    ∧ quiescent_BiasUpd (hBiasUpd := hBiasUpd)
    ∧ quiescent_BiasUpdIdeal (hBiasUpdIdeal := hBiasUpdIdeal)
    ∧ quiescent_BiasRefIdeal (hBiasRefIdeal := hBiasRefIdeal)
    ∧ quiescent_ModuFwd (hModuFwd := hModuFwd)
    ∧ quiescent_ModuFwdIdeal (hModuFwdIdeal := hModuFwdIdeal)
    ∧ quiescent_ModuRefIdeal (hModuRefIdeal := hModuRefIdeal)
    ∧ quiescent_ScanFwd (hScanFwd := hScanFwd)
    ∧ quiescent_ScanFwdIdeal (hScanFwdIdeal := hScanFwdIdeal)
    ∧ quiescent_WinBwd (hWinBwd := hWinBwd)
    ∧ quiescent_WinBwdIdeal (hWinBwdIdeal := hWinBwdIdeal)
    ∧ quiescent_WinRefIdeal (hWinRefIdeal := hWinRefIdeal)
    ∧ quiescent_WoutBwd (hWoutBwd := hWoutBwd)
    ∧ quiescent_WoutBwdIdeal (hWoutBwdIdeal := hWoutBwdIdeal)
    ∧ quiescent_WoutRefIdeal (hWoutRefIdeal := hWoutRefIdeal)
    ∧ quiescent_SumParts (hSumParts := hSumParts)
    ∧ quiescent_SumPartsIdeal (hSumPartsIdeal := hSumPartsIdeal)
    ∧ quiescent_SumRefIdeal (hSumRefIdeal := hSumRefIdeal)
    ∧ quiescent_PairUpd (hPairUpd := hPairUpd)
    ∧ quiescent_PairUpdIdeal (hPairUpdIdeal := hPairUpdIdeal)
    ∧ quiescent_PairRefIdeal (hPairRefIdeal := hPairRefIdeal)
    ∧ preserves_GateBwd_GateBwdIdeal
    ∧ algebraic_GateBwdIdeal_GateRefIdeal (hGateBwdIdeal := hGateBwdIdeal) (hGateRefIdeal := hGateRefIdeal)
    ∧ preserves_SguBwd_SguBwdIdeal
    ∧ algebraic_SguBwdIdeal_SguRefIdeal_pre_sgu_finite (hSguBwdIdeal := hSguBwdIdeal) (hSguRefIdeal := hSguRefIdeal) (hPre_sgu_finite := hPre_sgu_finite)
    ∧ preserves_LossBwd_LossBwdIdeal
    ∧ algebraic_LossBwdIdeal_LossRefIdeal_pre_loss_finite (hLossBwdIdeal := hLossBwdIdeal) (hLossRefIdeal := hLossRefIdeal) (hPre_loss_finite := hPre_loss_finite)
    ∧ preserves_NormBwd_NormBwdIdeal
    ∧ algebraic_NormBwdIdeal_NormRefIdeal_pre_norm_finite (hNormBwdIdeal := hNormBwdIdeal) (hNormRefIdeal := hNormRefIdeal) (hPre_norm_finite := hPre_norm_finite)
    ∧ preserves_NormABwd_NormABwdIdeal
    ∧ algebraic_NormABwdIdeal_NormARefIdeal_pre_first_norm_finite (hNormABwdIdeal := hNormABwdIdeal) (hNormARefIdeal := hNormARefIdeal) (hPre_first_norm_finite := hPre_first_norm_finite)
    ∧ preserves_MixFwd_MixFwdIdeal
    ∧ algebraic_MixFwdIdeal_MixRefIdeal_pre_mix_finite (hMixFwdIdeal := hMixFwdIdeal) (hMixRefIdeal := hMixRefIdeal) (hPre_mix_finite := hPre_mix_finite)
    ∧ preserves_OutFwd_OutFwdIdeal
    ∧ algebraic_OutFwdIdeal_OutRefIdeal (hOutFwdIdeal := hOutFwdIdeal) (hOutRefIdeal := hOutRefIdeal)
    ∧ preserves_InpFwd_InpFwdIdeal
    ∧ algebraic_InpFwdIdeal_InpRefIdeal (hInpFwdIdeal := hInpFwdIdeal) (hInpRefIdeal := hInpRefIdeal)
    ∧ preserves_AdaBwd_AdaBwdIdeal
    ∧ algebraic_AdaBwdIdeal_AdaRefIdeal (hAdaBwdIdeal := hAdaBwdIdeal) (hAdaRefIdeal := hAdaRefIdeal)
    ∧ preserves_BiasUpd_BiasUpdIdeal
    ∧ algebraic_BiasUpdIdeal_BiasRefIdeal (hBiasUpdIdeal := hBiasUpdIdeal) (hBiasRefIdeal := hBiasRefIdeal)
    ∧ preserves_ModuFwd_ModuFwdIdeal
    ∧ algebraic_ModuFwdIdeal_ModuRefIdeal (hModuFwdIdeal := hModuFwdIdeal) (hModuRefIdeal := hModuRefIdeal)
    ∧ preserves_ScanFwd_ScanFwdIdeal
    ∧ preserves_WinBwd_WinBwdIdeal
    ∧ algebraic_WinBwdIdeal_WinRefIdeal (hWinBwdIdeal := hWinBwdIdeal) (hWinRefIdeal := hWinRefIdeal)
    ∧ preserves_WoutBwd_WoutBwdIdeal
    ∧ algebraic_WoutBwdIdeal_WoutRefIdeal (hWoutBwdIdeal := hWoutBwdIdeal) (hWoutRefIdeal := hWoutRefIdeal)
    ∧ preserves_SumParts_SumPartsIdeal
    ∧ algebraic_SumPartsIdeal_SumRefIdeal (hSumPartsIdeal := hSumPartsIdeal) (hSumRefIdeal := hSumRefIdeal)
    ∧ preserves_PairUpd_PairUpdIdeal
    ∧ algebraic_PairUpdIdeal_PairRefIdeal (hPairUpdIdeal := hPairUpdIdeal) (hPairRefIdeal := hPairRefIdeal)
-- ==== Pre_first_norm_finite.lean ====
abbrev S2x2048x6144 : Shape := ⟨3, ![2, 2048, 6144]⟩
abbrev S1024x6144 : Shape := ⟨2, ![1024, 6144]⟩
abbrev S2x2048x1024 : Shape := ⟨3, ![2, 2048, 1024]⟩
abbrev S2x3072 : Shape := ⟨2, ![2, 3072]⟩
abbrev S1024 : Shape := ⟨1, ![1024]⟩
abbrev S_ : Shape := ⟨0, ![]⟩

class Facts : Prop where
  bcast_S_S2x2048x6144 : S_.BroadcastsInDim S2x2048x6144 (![] : Fin 0 → Fin S2x2048x6144.rank)
  bcast_S_S1024x6144 : S_.BroadcastsInDim S1024x6144 (![] : Fin 0 → Fin S1024x6144.rank)
  bcast_S_S2x2048x1024 : S_.BroadcastsInDim S2x2048x1024 (![] : Fin 0 → Fin S2x2048x1024.rank)
  bcast_S_S2x3072 : S_.BroadcastsInDim S2x3072 (![] : Fin 0 → Fin S2x3072.rank)
  bcast_S_S1024 : S_.BroadcastsInDim S1024 (![] : Fin 0 → Fin S1024.rank)

variable [Facts]

def fn {F : FTy → Type} [FloatOps F] (main_arg0 : FVec F S2x2048x6144 .bf16) (main_arg1 : FVec F S1024x6144 .bf16) (main_arg2 : FVec F S2x2048x1024 .f32) (main_arg3 : FVec F S2x2048x1024 .f32) (main_arg4 : FVec F S2x3072 .f32) (main_arg5 : FVec F S1024 .f32) : IVec S2x2048x6144 1 × IVec S1024x6144 1 × IVec S2x2048x1024 1 × IVec S2x2048x1024 1 × IVec S2x3072 1 × IVec S1024 1 :=
  let main_v0 : FVec F S2x2048x6144 .bf16 := Host.absf main_arg0
  let main_cst : FVec F S_ .bf16 := constant S_ .bf16 0x7F80#16
  let main_v1 : FVec F S2x2048x6144 .bf16 := broadcastInDim S2x2048x6144 ![] bcast_S_S2x2048x6144 main_cst
  let main_v2 : IVec S2x2048x6144 1 := cmpf .olt main_v0 main_v1
  let main_v3 : FVec F S1024x6144 .bf16 := Host.absf main_arg1
  let main_cst_0 : FVec F S_ .bf16 := constant S_ .bf16 0x7F80#16
  let main_v4 : FVec F S1024x6144 .bf16 := broadcastInDim S1024x6144 ![] bcast_S_S1024x6144 main_cst_0
  let main_v5 : IVec S1024x6144 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_v12 : FVec F S2x3072 .f32 := Host.absf main_arg4
  let main_cst_3 : FVec F S_ .f32 := constant S_ .f32 0x7F800000#32
  let main_v13 : FVec F S2x3072 .f32 := broadcastInDim S2x3072 ![] bcast_S_S2x3072 main_cst_3
  let main_v14 : IVec S2x3072 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_loss_finite.lean ====
abbrev S2x2048x2048 : Shape := ⟨3, ![2, 2048, 2048]⟩
abbrev S2048x1024 : Shape := ⟨2, ![2048, 1024]⟩
abbrev S2x2048x1024 : Shape := ⟨3, ![2, 2048, 1024]⟩
abbrev S2x3072 : Shape := ⟨2, ![2, 3072]⟩
abbrev S1024 : Shape := ⟨1, ![1024]⟩
abbrev S_ : Shape := ⟨0, ![]⟩

class Facts : Prop where
  bcast_S_S2x2048x2048 : S_.BroadcastsInDim S2x2048x2048 (![] : Fin 0 → Fin S2x2048x2048.rank)
  bcast_S_S2048x1024 : S_.BroadcastsInDim S2048x1024 (![] : Fin 0 → Fin S2048x1024.rank)
  bcast_S_S2x2048x1024 : S_.BroadcastsInDim S2x2048x1024 (![] : Fin 0 → Fin S2x2048x1024.rank)
  bcast_S_S2x3072 : S_.BroadcastsInDim S2x3072 (![] : Fin 0 → Fin S2x3072.rank)
  bcast_S_S1024 : S_.BroadcastsInDim S1024 (![] : Fin 0 → Fin S1024.rank)

variable [Facts]

def fn {F : FTy → Type} [FloatOps F] (main_arg0 : FVec F S2x2048x2048 .bf16) (main_arg1 : FVec F S2048x1024 .bf16) (main_arg2 : FVec F S2x2048x1024 .f32) (main_arg3 : FVec F S2x3072 .f32) (main_arg4 : FVec F S1024 .f32) (main_arg5 : FVec F S2x2048x1024 .f32) : IVec S2x2048x2048 1 × IVec S2048x1024 1 × IVec S2x2048x1024 1 × IVec S2x3072 1 × IVec S1024 1 × IVec S2x2048x1024 1 :=
  let main_v0 : FVec F S2x2048x2048 .bf16 := Host.absf main_arg0
  let main_cst : FVec F S_ .bf16 := constant S_ .bf16 0x7F80#16
  let main_v1 : FVec F S2x2048x2048 .bf16 := broadcastInDim S2x2048x2048 ![] bcast_S_S2x2048x2048 main_cst
  let main_v2 : IVec S2x2048x2048 1 := cmpf .olt main_v0 main_v1
  let main_v3 : FVec F S2048x1024 .bf16 := Host.absf main_arg1
  let main_cst_0 : FVec F S_ .bf16 := constant S_ .bf16 0x7F80#16
  let main_v4 : FVec F S2048x1024 .bf16 := broadcastInDim S2048x1024 ![] bcast_S_S2048x1024 main_cst_0
  let main_v5 : IVec S2048x1024 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S2x3072 .f32 := Host.absf main_arg3
  let main_cst_2 : FVec F S_ .f32 := constant S_ .f32 0x7F800000#32
  let main_v10 : FVec F S2x3072 .f32 := broadcastInDim S2x3072 ![] bcast_S_S2x3072 main_cst_2
  let main_v11 : IVec S2x3072 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== Pre_mix_finite.lean ====
abbrev S2x2048x6144 : Shape := ⟨3, ![2, 2048, 6144]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bcast_S_S2x2048x6144 : S_.BroadcastsInDim S2x2048x6144 (![] : Fin 0 → Fin S2x2048x6144.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S2x2048x6144 .f32) (main_arg1 : FVec F S2048 .f32) (main_arg2 : FVec F S2048 .f32) (main_arg3 : FVec F S8x128x128 .f32) (main_arg4 : FVec F S8x128 .f32) : IVec S2x2048x6144 1 × IVec S2048 1 × IVec S2048 1 × IVec S8x128x128 1 × IVec S8x128 1 :=
  let main_v0 : FVec F S2x2048x6144 .f32 := Host.absf main_arg0
  let main_cst : FVec F S_ .f32 := constant S_ .f32 0x7F800000#32
  let main_v1 : FVec F S2x2048x6144 .f32 := broadcastInDim S2x2048x6144 ![] bcast_S_S2x2048x6144 main_cst
  let main_v2 : IVec S2x2048x6144 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg4
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  (main_v2, main_v5, main_v8, main_v11, main_v14)
-- ==== Pre_norm_finite.lean ====
abbrev S2x2048x8192 : Shape := ⟨3, ![2, 2048, 8192]⟩
abbrev S1024x8192 : Shape := ⟨2, ![1024, 8192]⟩
abbrev S2x2048x1024 : Shape := ⟨3, ![2, 2048, 1024]⟩
abbrev S2x3072 : Shape := ⟨2, ![2, 3072]⟩
abbrev S1024 : Shape := ⟨1, ![1024]⟩
abbrev S_ : Shape := ⟨0, ![]⟩

class Facts : Prop where
  bcast_S_S2x2048x8192 : S_.BroadcastsInDim S2x2048x8192 (![] : Fin 0 → Fin S2x2048x8192.rank)
  bcast_S_S1024x8192 : S_.BroadcastsInDim S1024x8192 (![] : Fin 0 → Fin S1024x8192.rank)
  bcast_S_S2x2048x1024 : S_.BroadcastsInDim S2x2048x1024 (![] : Fin 0 → Fin S2x2048x1024.rank)
  bcast_S_S2x3072 : S_.BroadcastsInDim S2x3072 (![] : Fin 0 → Fin S2x3072.rank)
  bcast_S_S1024 : S_.BroadcastsInDim S1024 (![] : Fin 0 → Fin S1024.rank)

variable [Facts]

def fn {F : FTy → Type} [FloatOps F] (main_arg0 : FVec F S2x2048x8192 .bf16) (main_arg1 : FVec F S1024x8192 .bf16) (main_arg2 : FVec F S2x2048x1024 .f32) (main_arg3 : FVec F S2x2048x1024 .f32) (main_arg4 : FVec F S2x3072 .f32) (main_arg5 : FVec F S1024 .f32) : IVec S2x2048x8192 1 × IVec S1024x8192 1 × IVec S2x2048x1024 1 × IVec S2x2048x1024 1 × IVec S2x3072 1 × IVec S1024 1 :=
  let main_v0 : FVec F S2x2048x8192 .bf16 := Host.absf main_arg0
  let main_cst : FVec F S_ .bf16 := constant S_ .bf16 0x7F80#16
  let main_v1 : FVec F S2x2048x8192 .bf16 := broadcastInDim S2x2048x8192 ![] bcast_S_S2x2048x8192 main_cst
  let main_v2 : IVec S2x2048x8192 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_v12 : FVec F S2x3072 .f32 := Host.absf main_arg4
  let main_cst_3 : FVec F S_ .f32 := constant S_ .f32 0x7F800000#32
  let main_v13 : FVec F S2x3072 .f32 := broadcastInDim S2x3072 ![] bcast_S_S2x3072 main_cst_3
  let main_v14 : IVec S2x3072 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_sgu_finite.lean ====
abbrev S2x2048x6144 : Shape := ⟨3, ![2, 2048, 6144]⟩
abbrev S4096x2048 : Shape := ⟨2, ![4096, 2048]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bcast_S_S2x2048x6144 : S_.BroadcastsInDim S2x2048x6144 (![] : Fin 0 → Fin S2x2048x6144.rank)
  bcast_S_S4096x2048 : S_.BroadcastsInDim S4096x2048 (![] : Fin 0 → Fin S4096x2048.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S2x2048x6144 .f32) (main_arg1 : FVec F S4096x2048 .bf16) (main_arg2 : FVec F S2048 .f32) (main_arg3 : FVec F S2048 .f32) (main_arg4 : FVec F S8x128x128 .f32) (main_arg5 : FVec F S8x128 .f32) : IVec S2x2048x6144 1 × IVec S4096x2048 1 × IVec S2048 1 × IVec S2048 1 × IVec S8x128x128 1 × IVec S8x128 1 :=
  let main_v0 : FVec F S2x2048x6144 .f32 := Host.absf main_arg0
  let main_cst : FVec F S_ .f32 := constant S_ .f32 0x7F800000#32
  let main_v1 : FVec F S2x2048x6144 .f32 := broadcastInDim S2x2048x6144 ![] bcast_S_S2x2048x6144 main_cst
  let main_v2 : IVec S2x2048x6144 1 := cmpf .olt main_v0 main_v1
  let main_v3 : FVec F S4096x2048 .bf16 := Host.absf main_arg1
  let main_cst_0 : FVec F S_ .bf16 := constant S_ .bf16 0x7F80#16
  let main_v4 : FVec F S4096x2048 .bf16 := broadcastInDim S4096x2048 ![] bcast_S_S4096x2048 main_cst_0
  let main_v5 : IVec S4096x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== GateBwd.lean ====
abbrev S2x2048x1024 : Shape := ⟨3, ![2, 2048, 1024]⟩
abbrev S2x2048x2048 : Shape := ⟨3, ![2, 2048, 2048]⟩
abbrev S2048x1024 : Shape := ⟨2, ![2048, 1024]⟩
abbrev S2x3072 : Shape := ⟨2, ![2, 3072]⟩
abbrev S4096x2048 : Shape := ⟨2, ![4096, 2048]⟩
abbrev S4096x1024 : Shape := ⟨2, ![4096, 1024]⟩
abbrev S2x1x3072 : Shape := ⟨3, ![2, 1, 3072]⟩
abbrev S2x1x1024 : Shape := ⟨3, ![2, 1, 1024]⟩
abbrev S1024x1024 : Shape := ⟨2, ![1024, 1024]⟩
abbrev S1x1x3072 : Shape := ⟨3, ![1, 1, 3072]⟩
abbrev S1024x2048 : Shape := ⟨2, ![1024, 2048]⟩
abbrev S1x1x1024 : Shape := ⟨3, ![1, 1, 1024]⟩
abbrev S1x3072 : Shape := ⟨2, ![1, 3072]⟩
abbrev S1x1024 : Shape := ⟨2, ![1, 1024]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .bf16⟩
  | .hbm, ⟨2, _⟩ => ⟨S2048x1024, .bf16⟩
  | .hbm, ⟨3, _⟩ => ⟨S2x3072, .f32⟩
  | .hbm, ⟨4, _⟩ => ⟨S4096x2048, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S2x1x3072, .f32⟩
  | .hbm, ⟨9, _⟩ => ⟨S4096x2048, .bf16⟩
  | .hbm, ⟨10, _⟩ => ⟨S4096x1024, .bf16⟩
  | .hbm, ⟨11, _⟩ => ⟨S2x1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x3072, .f32⟩
  | .local _ .vmem, ⟨5, _⟩ => ⟨S1x1x3072, .f32⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .bf16⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1024_i32 : BitVec 32 := 1024#32
  let v24 : BitVec 32 := Scalar.muli arg0 c1024_i32
  let c2048_i32 : BitVec 32 := 2048#32
  let c0_i32_16 : BitVec 32 := 0#32
  let v25 : BitVec 1 := Scalar.cmpi .eq c2048_i32 c0_i32_16
  let c1_i32 : BitVec 32 := 1#32
  let v26 : BitVec 32 := Scalar.select v25 c1_i32 c2048_i32
  let v27 : BitVec 32 := Scalar.remsi v24 v26
  let c0_i32_18 : BitVec 32 := 0#32
  let v29 : BitVec 1 := Scalar.cmpi .slt v27 c0_i32_18
  let c0_i32_19 : BitVec 32 := 0#32
  let v30 : BitVec 1 := Scalar.cmpi .slt v26 c0_i32_19
  let v31 : BitVec 1 := Scalar.xori v29 v30
  let c0_i32_17 : BitVec 32 := 0#32
  let v28 : BitVec 1 := Scalar.cmpi .ne v27 c0_i32_17
  let v32 : BitVec 1 := Scalar.andi v31 v28
  let v33 : BitVec 32 := Scalar.addi v27 v26
  let v34 : BitVec 32 := Scalar.select v32 v33 v27
  let c0_i32_20 : BitVec 32 := 0#32
  let v35 : BitVec 1 := Scalar.cmpi .eq v34 c0_i32_20
  let v36 : BitVec 32 := Scalar.extui v35
  let c0_i32_21 : BitVec 32 := 0#32
  let v37 : BitVec 1 := Scalar.cmpi .ne v36 c0_i32_21
  v37

def k0_cond3 (i : grid0.Coords) : BitVec 1 :=
  let arg0 : BitVec 32 := BitVec.ofNat 32 (i 0).val
  let c1024_i32_22 : BitVec 32 := 1024#32
  let v38 : BitVec 32 := Scalar.muli arg0 c1024_i32_22
  let c2048_i32_23 : BitVec 32 := 2048#32
  let c0_i32_24 : BitVec 32 := 0#32
  let v39 : BitVec 1 := Scalar.cmpi .eq c2048_i32_23 c0_i32_24
  let c1_i32_25 : BitVec 32 := 1#32
  let v40 : BitVec 32 := Scalar.select v39 c1_i32_25 c2048_i32_23
  let v41 : BitVec 32 := Scalar.remsi v38 v40
  let c0_i32_27 : BitVec 32 := 0#32
  let v43 : BitVec 1 := Scalar.cmpi .slt v41 c0_i32_27
  let c0_i32_28 : BitVec 32 := 0#32
  let v44 : BitVec 1 := Scalar.cmpi .slt v40 c0_i32_28
  let v45 : BitVec 1 := Scalar.xori v43 v44
  let c0_i32_26 : BitVec 32 := 0#32
  let v42 : BitVec 1 := Scalar.cmpi .ne v41 c0_i32_26
  let v46 : BitVec 1 := Scalar.andi v45 v42
  let v47 : BitVec 32 := Scalar.addi v41 v40
  let v48 : BitVec 32 := Scalar.select v46 v47 v41
  let c0_i32_29 : BitVec 32 := 0#32
  let v49 : BitVec 1 := Scalar.cmpi .ne v48 c0_i32_29
  let v50 : BitVec 32 := Scalar.extui v49
  let c0_i32_30 : BitVec 32 := 0#32
  let v51 : BitVec 1 := Scalar.cmpi .ne v50 c0_i32_30
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GateRefIdeal.lean ====
abbrev S2x2048x1024 : Shape := ⟨3, ![2, 2048, 1024]⟩
abbrev S2x2048x2048 : Shape := ⟨3, ![2, 2048, 2048]⟩
abbrev S2048x1024 : Shape := ⟨2, ![2048, 1024]⟩
abbrev S2x3072 : Shape := ⟨2, ![2, 3072]⟩
abbrev S2x1024 : Shape := ⟨2, ![2, 1024]⟩
abbrev S2x1x1024 : Shape := ⟨3, ![2, 1, 1024]⟩
abbrev S_ : Shape := ⟨0, ![]⟩
abbrev S4096x2048 : Shape := ⟨2, ![4096, 2048]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .bf16⟩
  | .hbm, ⟨2, _⟩ => ⟨S2048x1024, .bf16⟩
  | .hbm, ⟨3, _⟩ => ⟨S2x3072, .f32⟩
  | .hbm, ⟨4, _⟩ => ⟨S2x2048x2048, .f32⟩
  | .hbm, ⟨5, _⟩ => ⟨S2048x1024, .f32⟩
  | .hbm, ⟨6, _⟩ => ⟨S2x2048x1024, .f32⟩
  | .hbm, ⟨7, _⟩ => ⟨S2x1024, .f32⟩
  | .hbm, ⟨8, _⟩ => ⟨S2x1x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x1024, .f32⟩
  | .hbm, ⟨16, _⟩ => ⟨S2x1x1024, .f32⟩
  | .hbm, ⟨17, _⟩ => ⟨S2x2048x2048, .f32⟩
  | .hbm, ⟨18, _⟩ => ⟨S4096x2048, .f32⟩
  | .hbm, ⟨19, _⟩ => ⟨S4096x2048, .bf16⟩
  | .hbm, ⟨20, _⟩ => ⟨S4096x1024, .f32⟩
  | .hbm, ⟨21, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== SguBwd.lean ====
abbrev S2x2048x6144 : Shape := ⟨3, ![2, 2048, 6144]⟩
abbrev S4096x2048 : Shape := ⟨2, ![4096, 2048]⟩
abbrev S2048 : Shape := ⟨1, ![2048]⟩
abbrev S8x128x128 : Shape := ⟨3, ![8, 128, 128]⟩
abbrev S8x128 : Shape := ⟨2, ![8, 128]⟩
abbrev S4096x6144 : Shape := ⟨2, ![4096, 6144]⟩
abbrev S1x2048 : Shape := ⟨2, ![1, 2048]⟩
abbrev S8x128x1 : Shape := ⟨3, ![8, 128, 1]⟩
abbrev S128x6144 : Shape := ⟨2, ![128, 6144]⟩
abbrev S128x2048 : Shape := ⟨2, ![128, 2048]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S128 : Shape := ⟨1, ![128]⟩
abbrev S1x256 : Shape := ⟨2, ![1, 256]⟩
abbrev S1x128x1 : Shape := ⟨3, ![1, 128, 1]⟩
abbrev S256 : Shape := ⟨1, ![256]⟩

abbrev nBuf : Space → Nat
  | .hbm => 15
  | .vmem => 18
  | .smem => 0
  | _ => 0

abbrev bufTy : (tb : Table) → Fin (tcTables nBuf tb) → BufTy
  | .hbm, ⟨0, _⟩ => ⟨S2x2048x6144, .f32⟩
  | .hbm, ⟨1, _⟩ => ⟨S4096x2048, .bf16⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S4096x6144, .f32⟩
  | .hbm, ⟨7, _⟩ => ⟨S1x2048, .f32⟩
  | .hbm, ⟨8, _⟩ => ⟨S1x2048, .f32⟩
  | .hbm, ⟨9, _⟩ => ⟨S8x128x1, .f32⟩
  | .hbm, ⟨10, _⟩ => ⟨S4096x6144, .bf16⟩
  | .hbm, ⟨11, _⟩ => ⟨S8x128x128, .f32⟩
  | .hbm, ⟨12, _⟩ => ⟨S8x128x1, .f32⟩
  | .hbm, ⟨13, _⟩ => ⟨S1x2048, .f32⟩
  | .hbm, ⟨14, _⟩ => ⟨S1x2048, .f32⟩
  | .local _ .vmem, ⟨0, _⟩ => ⟨S128x6144, .f32⟩
  | .local _ .vmem, ⟨1, _⟩ => ⟨S128x6144, .f32⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S128x6144, .bf16⟩
  | .local _ .vmem, ⟨9, _⟩ => ⟨S128x6144, .bf16⟩
  | .local _ .vmem, ⟨10, _⟩ => ⟨S8x128x128, .f32⟩
  | .local _ .vmem, ⟨11, _⟩ => ⟨S8x128x1, .f32⟩
  | .local _ .vmem, ⟨12, _⟩ => ⟨S1x2048, .f32⟩
  | .local _ .vmem, ⟨13, _⟩ => ⟨S1x2048, .f32⟩
  | .local _ .vmem, ⟨14, _⟩ => ⟨S8x128x128, .bf16⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S2x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguBwdIdeal.lean ====
variable {F : FTy → Type} [FloatOps F] [Named F]
def κ : String → Option EReal := fun
  | "gelu_3c1" => some ((26829 / 200000 : ℝ) : EReal)
  | "gelu_c1" => some ((8943 / 200000 : ℝ) : EReal)
  | _ => none
-- ==== SguRefIdeal.lean ====
abbrev S2x2048x6144 : Shape := ⟨3, ![2, 2048, 6144]⟩
abbrev S4096x2048 : Shape := ⟨2, ![4096, 2048]⟩
abbrev S2048 : Shape := ⟨1, ![2048]⟩
abbrev S8x128x128 : Shape := ⟨3, ![8, 128, 128]⟩
abbrev S8x128 : Shape := ⟨2, ![8, 128]⟩
abbrev S2x2048x2048 : Shape := ⟨3, ![2, 2048, 2048]⟩
abbrev S2x2048x4096 : Shape := ⟨3, ![2, 2048, 4096]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x8x256 : Shape := ⟨5, ![2, 16, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S4096x6144 : Shape := ⟨2, ![4096, 6144]⟩
abbrev S8x128x1 : Shape := ⟨3, ![8, 128, 1]⟩
abbrev S1x2048 : Shape := ⟨2, ![1, 2048]⟩

abbrev nBuf : Space → Nat
  | .hbm => 251
  | .vmem => 0
  | .smem => 0
  | _ => 0

abbrev hbmTy0_0 (i : Nat) : BufTy := match i % 128 with
  | 0 => ⟨S2x2048x6144, .f32⟩
  | 1 => ⟨S4096x2048, .bf16⟩
  | 2 => ⟨S2048, .f32⟩
  | 3 => ⟨S2048, .f32⟩
  | 4 => ⟨S8x128x128, .f32⟩
  | 5 => ⟨S8x128, .f32⟩
  | 6 => ⟨S4096x2048, .f32⟩
  | 7 => ⟨S2x2048x2048, .f32⟩
  | 8 => ⟨S2x2048x4096, .f32⟩
  | 9 => ⟨S2x2048x2048, .f32⟩
  | 10 => ⟨S2x2048x4096, .f32⟩
  | 11 => ⟨S2x2048x4096, .f32⟩
  | 12 => ⟨S2x2048x4096, .f32⟩
  | 13 => ⟨S_, .f32⟩
  | 14 => ⟨S2x2048x4096, .f32⟩
  | 15 => ⟨S2x2048x4096, .f32⟩
  | 16 => ⟨S_, .f32⟩
  | 17 => ⟨S2x2048x4096, .f32⟩
  | 18 => ⟨S2x2048x4096, .f32⟩
  | 19 => ⟨S_, .f32⟩
  | 20 => ⟨S2x2048x4096, .f32⟩
  | 21 => ⟨S2x2048x4096, .f32⟩
  | 22 => ⟨S2x2048x4096, .f32⟩
  | 23 => ⟨S_, .f32⟩
  | 24 => ⟨S2x2048x4096, .f32⟩
  | 25 => ⟨S2x2048x4096, .f32⟩
  | 26 => ⟨S2x2048x4096, .f32⟩
  | 27 => ⟨S_, .f32⟩
  | 28 => ⟨S2x2048x4096, .f32⟩
  | 29 => ⟨S2x2048x4096, .f32⟩
  | 30 => ⟨S_, .f32⟩
  | 31 => ⟨S2x2048x4096, .f32⟩
  | 32 => ⟨S2x2048x4096, .f32⟩
  | 33 => ⟨S2x2048x4096, .f32⟩
  | 34 => ⟨S_, .f32⟩
  | 35 => ⟨S2x2048x4096, .f32⟩
  | 36 => ⟨S2x2048x4096, .f32⟩
  | 37 => ⟨S_, .f32⟩
  | 38 => ⟨S2x2048x4096, .f32⟩
  | 39 => ⟨S2x2048x4096, .f32⟩
  | 40 => ⟨S2x2048x4096, .f32⟩
  | 41 => ⟨S2x2048x2048, .f32⟩
  | 42 => ⟨S2x2048x2048, .f32⟩
  | 43 => ⟨S_, .f32⟩
  | 44 => ⟨S2x2048, .f32⟩
  | 45 => ⟨S2x2048x1, .f32⟩
  | 46 => ⟨S_, .f32⟩
  | 47 => ⟨S2x2048x1, .f32⟩
  | 48 => ⟨S2x2048x1, .f32⟩
  | 49 => ⟨S2x2048x2048, .f32⟩
  | 50 => ⟨S2x2048x2048, .f32⟩
  | 51 => ⟨S2x2048x2048, .f32⟩
  | 52 => ⟨S_, .f32⟩
  | 53 => ⟨S2x2048x2048, .f32⟩
  | 54 => ⟨S2x2048x2048, .f32⟩
  | 55 => ⟨S_, .f32⟩
  | 56 => ⟨S2x2048, .f32⟩
  | 57 => ⟨S2x2048x1, .f32⟩
  | 58 => ⟨S_, .f32⟩
  | 59 => ⟨S2x2048x1, .f32⟩
  | 60 => ⟨S2x2048x1, .f32⟩
  | 61 => ⟨S2x2048x2048, .f32⟩
  | 62 => ⟨S2x2048x2048, .f32⟩
  | 63 => ⟨S_, .f32⟩
  | 64 => ⟨S2x2048x1, .f32⟩
  | 65 => ⟨S2x2048x1, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x2048, .f32⟩
  | 72 => ⟨S2x2048x2048, .f32⟩
  | 73 => ⟨S1x1x2048, .f32⟩
  | 74 => ⟨S2x2048x2048, .f32⟩
  | 75 => ⟨S2x2048x2048, .f32⟩
  | 76 => ⟨S1x1x2048, .f32⟩
  | 77 => ⟨S2x2048x2048, .f32⟩
  | 78 => ⟨S2x2048x2048, .f32⟩
  | 79 => ⟨S2x16x128x8x256, .f32⟩
  | 80 => ⟨S128, .i32⟩
  | 81 => ⟨S1x128, .i32⟩
  | 82 => ⟨S_, .i32⟩
  | 83 => ⟨S_, .i32⟩
  | 84 => ⟨S1x128, .i32⟩
  | 85 => ⟨S1x128, .i32⟩
  | 86 => ⟨S1x128, .i32⟩
  | 87 => ⟨S_, .i32⟩
  | 88 => ⟨S1x128, .i32⟩
  | 89 => ⟨S1x128, .i1⟩
  | 90 => ⟨S1x128, .i32⟩
  | 91 => ⟨S1x128, .i32⟩
  | 92 => ⟨S_, .i32⟩
  | 93 => ⟨S1x128, .i32⟩
  | 94 => ⟨S1x128, .i1⟩
  | 95 => ⟨S1x128, .i1⟩
  | 96 => ⟨S_, .i32⟩
  | 97 => ⟨S1x128, .i32⟩
  | 98 => ⟨S1x128, .i32⟩
  | 99 => ⟨S1x128, .i32⟩
  | 100 => ⟨S128x1, .i32⟩
  | 101 => ⟨S_, .i32⟩
  | 102 => ⟨S_, .i32⟩
  | 103 => ⟨S128x1, .i32⟩
  | 104 => ⟨S128x1, .i32⟩
  | 105 => ⟨S128x1, .i32⟩
  | 106 => ⟨S_, .i32⟩
  | 107 => ⟨S128x1, .i32⟩
  | 108 => ⟨S128x1, .i1⟩
  | 109 => ⟨S128x1, .i32⟩
  | 110 => ⟨S128x1, .i32⟩
  | 111 => ⟨S_, .i32⟩
  | 112 => ⟨S128x1, .i32⟩
  | 113 => ⟨S128x1, .i1⟩
  | 114 => ⟨S128x1, .i1⟩
  | 115 => ⟨S_, .i32⟩
  | 116 => ⟨S128x1, .i32⟩
  | 117 => ⟨S128x1, .i32⟩
  | 118 => ⟨S128x1, .i32⟩
  | 119 => ⟨S128x128, .i32⟩
  | 120 => ⟨S128x128, .i32⟩
  | 121 => ⟨S128x128, .i1⟩
  | 122 => ⟨S1x128x128, .i1⟩
  | 123 => ⟨S_, .f32⟩
  | 124 => ⟨S8x128x128, .i1⟩
  | 125 => ⟨S8x128x128, .f32⟩
  | 126 => ⟨S8x128x128, .f32⟩
  | 127 => ⟨S_, .f32⟩
  | _ => ⟨S2x2048x6144, .f32⟩

abbrev hbmTy0_1 (i : Nat) : BufTy := match i % 128 with
  | 0 => ⟨S8x128x128, .f32⟩
  | 1 => ⟨S8x2x16x256x128, .f32⟩
  | 2 => ⟨S2x16x128x8x256, .f32⟩
  | 3 => ⟨S128x8, .f32⟩
  | 4 => ⟨S1x1x128x8x1, .f32⟩
  | 5 => ⟨S2x16x128x8x256, .f32⟩
  | 6 => ⟨S2x16x128x8x256, .f32⟩
  | 7 => ⟨S2x2048x2048, .f32⟩
  | 8 => ⟨S2x2048x2048, .f32⟩
  | 9 => ⟨S2x2048x2048, .f32⟩
  | 10 => ⟨S2x2048x2048, .f32⟩
  | 11 => ⟨S_, .f32⟩
  | 12 => ⟨S2x2048x2048, .f32⟩
  | 13 => ⟨S2x2048x2048, .f32⟩
  | 14 => ⟨S_, .f32⟩
  | 15 => ⟨S2x2048x2048, .f32⟩
  | 16 => ⟨S2x2048x2048, .f32⟩
  | 17 => ⟨S_, .f32⟩
  | 18 => ⟨S2x2048x2048, .f32⟩
  | 19 => ⟨S2x2048x2048, .f32⟩
  | 20 => ⟨S2x2048x2048, .f32⟩
  | 21 => ⟨S2x2048x2048, .f32⟩
  | 22 => ⟨S2x2048x2048, .f32⟩
  | 23 => ⟨S2x2048x2048, .f32⟩
  | 24 => ⟨S2x2048x2048, .f32⟩
  | 25 => ⟨S2x2048x2048, .f32⟩
  | 26 => ⟨S2x2048x2048, .f32⟩
  | 27 => ⟨S2x2048x2048, .f32⟩
  | 28 => ⟨S2x2048x2048, .f32⟩
  | 29 => ⟨S2x2048x2048, .f32⟩
  | 30 => ⟨S2x2048x2048, .f32⟩
  | 31 => ⟨S2x16x128x8x256, .f32⟩
  | 32 => ⟨S_, .f32⟩
  | 33 => ⟨S128x8, .f32⟩
  | 34 => ⟨S1x1x128x8x1, .f32⟩
  | 35 => ⟨S_, .f32⟩
  | 36 => ⟨S128x8, .f32⟩
  | 37 => ⟨S8x128, .f32⟩
  | 38 => ⟨S8x2x16x256x128, .f32⟩
  | 39 => ⟨S8x128x128, .f32⟩
  | 40 => ⟨S8x2x16x256x128, .f32⟩
  | 41 => ⟨S2x16x128x8x256, .f32⟩
  | 42 => ⟨S_, .f32⟩
  | 43 => ⟨S8x128x128, .f32⟩
  | 44 => ⟨S8x128x128, .f32⟩
  | 45 => ⟨S2x2048x2048, .f32⟩
  | 46 => ⟨S_, .f32⟩
  | 47 => ⟨S2048, .f32⟩
  | 48 => ⟨S1x1x2048, .f32⟩
  | 49 => ⟨S_, .f32⟩
  | 50 => ⟨S2048, .f32⟩
  | 51 => ⟨S2x2048x2048, .f32⟩
  | 52 => ⟨S_, .f32⟩
  | 53 => ⟨S2048, .f32⟩
  | 54 => ⟨S1x1x2048, .f32⟩
  | 55 => ⟨S2x2048x2048, .f32⟩
  | 56 => ⟨S2x2048x2048, .f32⟩
  | 57 => ⟨S_, .f32⟩
  | 58 => ⟨S2048, .f32⟩
  | 59 => ⟨S2x2048x2048, .f32⟩
  | 60 => ⟨S_, .f32⟩
  | 61 => ⟨S2x2048, .f32⟩
  | 62 => ⟨S2x2048x1, .f32⟩
  | 63 => ⟨S2x2048x2048, .f32⟩
  | 64 => ⟨S2x2048x2048, .f32⟩
  | 65 => ⟨S2x2048x1, .f32⟩
  | 66 => ⟨S2x2048x2048, .f32⟩
  | 67 => ⟨S_, .f32⟩
  | 68 => ⟨S2x2048, .f32⟩
  | 69 => ⟨S2x2048x1, .f32⟩
  | 70 => ⟨S_, .f32⟩
  | 71 => ⟨S2x2048x1, .f32⟩
  | 72 => ⟨S2x2048x1, .f32⟩
  | 73 => ⟨S_, .f32⟩
  | 74 => ⟨S2x2048, .f32⟩
  | 75 => ⟨S2x2048x2048, .f32⟩
  | 76 => ⟨S2x2048x2048, .f32⟩
  | 77 => ⟨S2x2048x2048, .f32⟩
  | 78 => ⟨S_, .f32⟩
  | 79 => ⟨S2x2048, .f32⟩
  | 80 => ⟨S2x2048x1, .f32⟩
  | 81 => ⟨S2x2048x2048, .f32⟩
  | 82 => ⟨S2x2048x1, .f32⟩
  | 83 => ⟨S_, .f32⟩
  | 84 => ⟨S2x2048x1, .f32⟩
  | 85 => ⟨S2x2048x1, .f32⟩
  | 86 => ⟨S_, .f32⟩
  | 87 => ⟨S2x2048, .f32⟩
  | 88 => ⟨S2x2048x2048, .f32⟩
  | 89 => ⟨S2x2048x2048, .f32⟩
  | 90 => ⟨S_, .f32⟩
  | 91 => ⟨S2x2048x4096, .f32⟩
  | 92 => ⟨S_, .f32⟩
  | 93 => ⟨S2x2048x4096, .f32⟩
  | 94 => ⟨S2x2048x4096, .f32⟩
  | 95 => ⟨S2x2048x4096, .f32⟩
  | 96 => ⟨S2x2048x4096, .f32⟩
  | 97 => ⟨S_, .f32⟩
  | 98 => ⟨S2x2048x4096, .f32⟩
  | 99 => ⟨S2x2048x4096, .f32⟩
  | 100 => ⟨S2x2048x4096, .f32⟩
  | 101 => ⟨S_, .f32⟩
  | 102 => ⟨S2x2048x4096, .f32⟩
  | 103 => ⟨S2x2048x4096, .f32⟩
  | 104 => ⟨S2x2048x4096, .f32⟩
  | 105 => ⟨S_, .f32⟩
  | 106 => ⟨S2x2048x4096, .f32⟩
  | 107 => ⟨S2x2048x4096, .f32⟩
  | 108 => ⟨S_, .f32⟩
  | 109 => ⟨S2x2048x4096, .f32⟩
  | 110 => ⟨S2x2048x4096, .f32⟩
  | 111 => ⟨S2x2048x4096, .f32⟩
  | 112 => ⟨S2x2048x4096, .f32⟩
  | 113 => ⟨S_, .f32⟩
  | 114 => ⟨S2x2048x6144, .f32⟩
  | 115 => ⟨S_, .f32⟩
  | 116 => ⟨S2x2048x6144, .f32⟩
  | 117 => ⟨S2x2048x6144, .f32⟩
  | 118 => ⟨S2x2048x6144, .bf16⟩
  | 119 => ⟨S4096x6144, .bf16⟩
  | 120 => ⟨S8x128x1, .f32⟩
  | 121 => ⟨S1x2048, .f32⟩
  | 122 => ⟨S1x2048, .f32⟩
  | _ => ⟨S2x2048x6144, .f32⟩

abbrev hbmTy (i : Nat) : BufTy := match i / 128 with
  | 0 => hbmTy0_0 i
  | 1 => hbmTy0_1 i
  | _ => ⟨S2x2048x6144, .f32⟩

abbrev bufTy : (tb : Table) → Fin (tcTables nBuf tb) → BufTy
  | .hbm, ⟨i, _⟩ => hbmTy i
  | _, _ => ⟨S2x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_c : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_0 : Ref sig .tc := ⟨.hbm, 96, rfl⟩
abbrev main_call0_v12 : Ref sig .tc := ⟨.hbm, 97, rfl⟩
abbrev main_call0_v13 : Ref sig .tc := ⟨.hbm, 98, rfl⟩
abbrev main_v61 : Ref sig .tc := ⟨.hbm, 99, rfl⟩
abbrev main_v62 : Ref sig .tc := ⟨.hbm, 100, rfl⟩
abbrev main_c_14 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_c : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_0 : Ref sig .tc := ⟨.hbm, 115, rfl⟩
abbrev main_call1_v12 : Ref sig .tc := ⟨.hbm, 116, rfl⟩
abbrev main_call1_v13 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_15 : Ref sig .tc := ⟨.hbm, 123, rfl⟩
abbrev main_v68_1 : Ref sig .tc := ⟨.hbm, 124, rfl⟩
abbrev main_call2_v1 : Ref sig .tc := ⟨.hbm, 125, rfl⟩
abbrev main_v68_0 : Ref sig .tc := ⟨.hbm, 126, rfl⟩
abbrev main_call2_cst : Ref sig .tc := ⟨.hbm, 127, rfl⟩
abbrev main_v68_2 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_call3_v0 : Ref sig .tc := ⟨.hbm, 137, rfl⟩
abbrev main_call3_v1 : Ref sig .tc := ⟨.hbm, 138, rfl⟩
abbrev main_call3_cst : Ref sig .tc := ⟨.hbm, 139, rfl⟩
abbrev main_call3_v2 : Ref sig .tc := ⟨.hbm, 140, rfl⟩
abbrev main_call3_v3 : Ref sig .tc := ⟨.hbm, 141, rfl⟩
abbrev main_call3_cst_0 : Ref sig .tc := ⟨.hbm, 142, rfl⟩
abbrev main_call3_v4 : Ref sig .tc := ⟨.hbm, 143, rfl⟩
abbrev main_v77_2 : Ref sig .tc := ⟨.hbm, 144, rfl⟩
abbrev main_call3_cst_1 : Ref sig .tc := ⟨.hbm, 145, rfl⟩
abbrev main_call3_v6 : Ref sig .tc := ⟨.hbm, 146, rfl⟩
abbrev main_call3_v7 : Ref sig .tc := ⟨.hbm, 147, rfl⟩
abbrev main_v77_1 : Ref sig .tc := ⟨.hbm, 148, rfl⟩
abbrev main_v77_0 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_cst_16 : Ref sig .tc := ⟨.hbm, 160, rfl⟩
abbrev main_v85 : Ref sig .tc := ⟨.hbm, 161, rfl⟩
abbrev main_v86 : Ref sig .tc := ⟨.hbm, 162, rfl⟩
abbrev main_cst_17 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_call5_cst : Ref sig .tc := ⟨.hbm, 170, rfl⟩
abbrev main_call5_v0 : Ref sig .tc := ⟨.hbm, 171, rfl⟩
abbrev main_v93 : Ref sig .tc := ⟨.hbm, 172, rfl⟩
abbrev main_v94 : Ref sig .tc := ⟨.hbm, 173, rfl⟩
abbrev main_cst_18 : Ref sig .tc := ⟨.hbm, 174, rfl⟩
abbrev main_v95 : Ref sig .tc := ⟨.hbm, 175, rfl⟩
abbrev main_v96 : Ref sig .tc := ⟨.hbm, 176, rfl⟩
abbrev main_cst_19 : Ref sig .tc := ⟨.hbm, 177, rfl⟩
abbrev main_v97 : Ref sig .tc := ⟨.hbm, 178, rfl⟩
abbrev main_v98 : Ref sig .tc := ⟨.hbm, 179, rfl⟩
abbrev main_cst_20 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_cst_21 : Ref sig .tc := ⟨.hbm, 185, rfl⟩
abbrev main_v103 : Ref sig .tc := ⟨.hbm, 186, rfl⟩
abbrev main_v104 : Ref sig .tc := ⟨.hbm, 187, rfl⟩
abbrev main_cst_22 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_cst_23 : Ref sig .tc := ⟨.hbm, 195, rfl⟩
abbrev main_v111 : Ref sig .tc := ⟨.hbm, 196, rfl⟩
abbrev main_v112 : Ref sig .tc := ⟨.hbm, 197, rfl⟩
abbrev main_cst_24 : Ref sig .tc := ⟨.hbm, 198, rfl⟩
abbrev main_v113 : Ref sig .tc := ⟨.hbm, 199, rfl⟩
abbrev main_v114 : Ref sig .tc := ⟨.hbm, 200, rfl⟩
abbrev main_cst_25 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_cst_26 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_cst_27 : Ref sig .tc := ⟨.hbm, 211, rfl⟩
abbrev main_v123 : Ref sig .tc := ⟨.hbm, 212, rfl⟩
abbrev main_v124 : Ref sig .tc := ⟨.hbm, 213, rfl⟩
abbrev main_cst_28 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_cst_29 : Ref sig .tc := ⟨.hbm, 218, rfl⟩
abbrev main_v128 : Ref sig .tc := ⟨.hbm, 219, rfl⟩
abbrev main_cst_30 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_cst_31 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_cst_32 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_cst_33 : Ref sig .tc := ⟨.hbm, 233, rfl⟩
abbrev main_v139 : Ref sig .tc := ⟨.hbm, 234, rfl⟩
abbrev main_v140 : Ref sig .tc := ⟨.hbm, 235, rfl⟩
abbrev main_cst_34 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_cst_35 : Ref sig .tc := ⟨.hbm, 241, rfl⟩
abbrev main_v145 : Ref sig .tc := ⟨.hbm, 242, rfl⟩
abbrev main_cst_36 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩

abbrev nD : Nat := 1
abbrev τ : Topo := Topo.v7x

variable {F : FTy → Type} [FloatOps F]
-- ==== LossBwd.lean ====
abbrev S2x2048x2048 : Shape := ⟨3, ![2, 2048, 2048]⟩
abbrev S2048x1024 : Shape := ⟨2, ![2048, 1024]⟩
abbrev S2x2048x1024 : Shape := ⟨3, ![2, 2048, 1024]⟩
abbrev S2x3072 : Shape := ⟨2, ![2, 3072]⟩
abbrev S1024 : Shape := ⟨1, ![1024]⟩
abbrev S4096x2048 : Shape := ⟨2, ![4096, 2048]⟩
abbrev S4096x1024 : Shape := ⟨2, ![4096, 1024]⟩
abbrev S2x1x3072 : Shape := ⟨3, ![2, 1, 3072]⟩
abbrev S1x1024 : Shape := ⟨2, ![1, 1024]⟩
abbrev S1x1 : Shape := ⟨2, ![1, 1]⟩
abbrev S512x2048 : Shape := ⟨2, ![512, 2048]⟩
abbrev S512x1024 : Shape := ⟨2, ![512, 1024]⟩
abbrev S1x1x3072 : Shape := ⟨3, ![1, 1, 3072]⟩
abbrev S1x3072 : Shape := ⟨2, ![1, 3072]⟩
abbrev S512 : Shape := ⟨1, ![512]⟩
abbrev S512x1 : Shape := ⟨2, ![512, 1]⟩
abbrev S1 : Shape := ⟨1, ![1]⟩

abbrev nBuf : Space → Nat
  | .hbm => 15
  | .vmem => 16
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S2x2048x1024, .f32⟩
  | .hbm, ⟨3, _⟩ => ⟨S2x3072, .f32⟩
  | .hbm, ⟨4, _⟩ => ⟨S1024, .f32⟩
  | .hbm, ⟨5, _⟩ => ⟨S2x2048x1024, .f32⟩
  | .hbm, ⟨6, _⟩ => ⟨S4096x2048, .bf16⟩
  | .hbm, ⟨7, _⟩ => ⟨S4096x1024, .f32⟩
  | .hbm, ⟨8, _⟩ => ⟨S2x1x3072, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1, .f32⟩
  | .hbm, ⟨13, _⟩ => ⟨S4096x1024, .f32⟩
  | .hbm, ⟨14, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1x3072, .f32⟩
  | .local _ .vmem, ⟨6, _⟩ => ⟨S1x1x3072, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_27 : BitVec 32 := 0#32
  let v60 : BitVec 1 := Scalar.cmpi .ne v59 c0_i32_27
  v60

def k0_cond2 (i : grid0.Coords) : BitVec 1 :=
  let arg0 : BitVec 32 := BitVec.ofNat 32 (i 0).val
  let c0_i32_28 : BitVec 32 := 0#32
  let v61 : BitVec 1 := Scalar.cmpi .ne arg0 c0_i32_28
  let v62 : BitVec 32 := Scalar.extui v61
  let c0_i32_29 : BitVec 32 := 0#32
  let v63 : BitVec 1 := Scalar.cmpi .ne v62 c0_i32_29
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S2x2048x2048 : Shape := ⟨3, ![2, 2048, 2048]⟩
abbrev S2048x1024 : Shape := ⟨2, ![2048, 1024]⟩
abbrev S2x2048x1024 : Shape := ⟨3, ![2, 2048, 1024]⟩
abbrev S2x3072 : Shape := ⟨2, ![2, 3072]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1 : Shape := ⟨2, ![1, 1]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S2x2048x1024, .f32⟩
  | .hbm, ⟨3, _⟩ => ⟨S2x3072, .f32⟩
  | .hbm, ⟨4, _⟩ => ⟨S1024, .f32⟩
  | .hbm, ⟨5, _⟩ => ⟨S2x2048x1024, .f32⟩
  | .hbm, ⟨6, _⟩ => ⟨S2x2048x2048, .f32⟩
  | .hbm, ⟨7, _⟩ => ⟨S2048x1024, .f32⟩
  | .hbm, ⟨8, _⟩ => ⟨S2x2048x1024, .f32⟩
  | .hbm, ⟨9, _⟩ => ⟨S2x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x2048, .f32⟩
  | .hbm, ⟨52, _⟩ => ⟨S_, .f32⟩
  | .hbm, ⟨53, _⟩ => ⟨S2x2048, .f32⟩
  | .hbm, ⟨54, _⟩ => ⟨S2x2048, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S2x2048x1, .f32⟩
  | .hbm, ⟨72, _⟩ => ⟨S_, .f32⟩
  | .hbm, ⟨73, _⟩ => ⟨S2x2048x1, .f32⟩
  | .hbm, ⟨74, _⟩ => ⟨S2x2048x1, .f32⟩
  | .hbm, ⟨75, _⟩ => ⟨S_, .f32⟩
  | .hbm, ⟨76, _⟩ => ⟨S2x2048, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S4096x1024, .f32⟩
  | .hbm, ⟨83, _⟩ => ⟨S4096x1024, .bf16⟩
  | .hbm, ⟨84, _⟩ => ⟨S1x1, .f32⟩
  | .hbm, ⟨85, _⟩ => ⟨S4096x1024, .f32⟩
  | .hbm, ⟨86, _⟩ => ⟨S1x1024, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== NormBwd.lean ====
abbrev S2x2048x8192 : Shape := ⟨3, ![2, 2048, 8192]⟩
abbrev S1024x8192 : Shape := ⟨2, ![1024, 8192]⟩
abbrev S2x2048x1024 : Shape := ⟨3, ![2, 2048, 1024]⟩
abbrev S2x3072 : Shape := ⟨2, ![2, 3072]⟩
abbrev S1024 : Shape := ⟨1, ![1024]⟩
abbrev S4096x4x2048 : Shape := ⟨3, ![4096, 4, 2048]⟩
abbrev S4x4096x2048 : Shape := ⟨3, ![4, 4096, 2048]⟩
abbrev S1024x4x2048 : Shape := ⟨3, ![1024, 4, 2048]⟩
abbrev S4x1024x2048 : Shape := ⟨3, ![4, 1024, 2048]⟩
abbrev S4096x1024 : Shape := ⟨2, ![4096, 1024]⟩
abbrev S2x1x3072 : Shape := ⟨3, ![2, 1, 3072]⟩
abbrev S1x1024 : Shape := ⟨2, ![1, 1024]⟩
abbrev S2x1x1024 : Shape := ⟨3, ![2, 1, 1024]⟩
abbrev S1x1024x2048 : Shape := ⟨3, ![1, 1024, 2048]⟩
abbrev S1024x1024 : Shape := ⟨2, ![1024, 1024]⟩
abbrev S1x1x3072 : Shape := ⟨3, ![1, 1, 3072]⟩
abbrev S1x1x1024 : Shape := ⟨3, ![1, 1, 1024]⟩
abbrev S1024x2048 : Shape := ⟨2, ![1024, 2048]⟩
abbrev S1024x1 : Shape := ⟨2, ![1024, 1]⟩
abbrev S1x3072 : Shape := ⟨2, ![1, 3072]⟩

abbrev nBuf : Space → Nat
  | .hbm => 18
  | .vmem => 19
  | .smem => 0
  | _ => 0

abbrev bufTy : (tb : Table) → Fin (tcTables nBuf tb) → BufTy
  | .hbm, ⟨0, _⟩ => ⟨S2x2048x8192, .bf16⟩
  | .hbm, ⟨1, _⟩ => ⟨S1024x8192, .bf16⟩
  | .hbm, ⟨2, _⟩ => ⟨S2x2048x1024, .f32⟩
  | .hbm, ⟨3, _⟩ => ⟨S2x2048x1024, .f32⟩
  | .hbm, ⟨4, _⟩ => ⟨S2x3072, .f32⟩
  | .hbm, ⟨5, _⟩ => ⟨S1024, .f32⟩
  | .hbm, ⟨6, _⟩ => ⟨S4096x4x2048, .bf16⟩
  | .hbm, ⟨7, _⟩ => ⟨S4x4096x2048, .bf16⟩
  | .hbm, ⟨8, _⟩ => ⟨S1024x4x2048, .bf16⟩
  | .hbm, ⟨9, _⟩ => ⟨S4x1024x2048, .bf16⟩
  | .hbm, ⟨10, _⟩ => ⟨S4096x1024, .f32⟩
  | .hbm, ⟨11, _⟩ => ⟨S4096x1024, .f32⟩
  | .hbm, ⟨12, _⟩ => ⟨S2x1x3072, .f32⟩
  | .hbm, ⟨13, _⟩ => ⟨S1x1024, .f32⟩
  | .hbm, ⟨14, _⟩ => ⟨S4096x1024, .f32⟩
  | .hbm, ⟨15, _⟩ => ⟨S2x1x1024, .f32⟩
  | .hbm, ⟨16, _⟩ => ⟨S2x1x1024, .f32⟩
  | .hbm, ⟨17, _⟩ => ⟨S1x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1x3072, .f32⟩
  | .local _ .vmem, ⟨9, _⟩ => ⟨S1x1x3072, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x1024, .f32⟩
  | _, _ => ⟨S2x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c1024_i32 : BitVec 32 := 1024#32
  let v64 : BitVec 32 := Scalar.muli arg0 c1024_i32
  let c2048_i32 : BitVec 32 := 2048#32
  let c0_i32_33 : BitVec 32 := 0#32
  let v65 : BitVec 1 := Scalar.cmpi .eq c2048_i32 c0_i32_33
  let c1_i32 : BitVec 32 := 1#32
  let v66 : BitVec 32 := Scalar.select v65 c1_i32 c2048_i32
  let v67 : BitVec 32 := Scalar.remsi v64 v66
  let c0_i32_35 : BitVec 32 := 0#32
  let v69 : BitVec 1 := Scalar.cmpi .slt v67 c0_i32_35
  let c0_i32_36 : BitVec 32 := 0#32
  let v70 : BitVec 1 := Scalar.cmpi .slt v66 c0_i32_36
  let v71 : BitVec 1 := Scalar.xori v69 v70
  let c0_i32_34 : BitVec 32 := 0#32
  let v68 : BitVec 1 := Scalar.cmpi .ne v67 c0_i32_34
  let v72 : BitVec 1 := Scalar.andi v71 v68
  let v73 : BitVec 32 := Scalar.addi v67 v66
  let v74 : BitVec 32 := Scalar.select v72 v73 v67
  let c0_i32_37 : BitVec 32 := 0#32
  let v75 : BitVec 1 := Scalar.cmpi .eq v74 c0_i32_37
  let v76 : BitVec 32 := Scalar.extui v75
  let c0_i32_38 : BitVec 32 := 0#32
  let v77 : BitVec 1 := Scalar.cmpi .ne v76 c0_i32_38
  v77

def k0_cond4 (i : grid0.Coords) : BitVec 1 :=
  let arg0 : BitVec 32 := BitVec.ofNat 32 (i 0).val
  let c1024_i32_39 : BitVec 32 := 1024#32
  let v78 : BitVec 32 := Scalar.muli arg0 c1024_i32_39
  let c2048_i32_40 : BitVec 32 := 2048#32
  let c0_i32_41 : BitVec 32 := 0#32
  let v79 : BitVec 1 := Scalar.cmpi .eq c2048_i32_40 c0_i32_41
  let c1_i32_42 : BitVec 32 := 1#32
  let v80 : BitVec 32 := Scalar.select v79 c1_i32_42 c2048_i32_40
  let v81 : BitVec 32 := Scalar.remsi v78 v80
  let c0_i32_44 : BitVec 32 := 0#32
  let v83 : BitVec 1 := Scalar.cmpi .slt v81 c0_i32_44
  let c0_i32_45 : BitVec 32 := 0#32
  let v84 : BitVec 1 := Scalar.cmpi .slt v80 c0_i32_45
  let v85 : BitVec 1 := Scalar.xori v83 v84
  let c0_i32_43 : BitVec 32 := 0#32
  let v82 : BitVec 1 := Scalar.cmpi .ne v81 c0_i32_43
  let v86 : BitVec 1 := Scalar.andi v85 v82
  let v87 : BitVec 32 := Scalar.addi v81 v80
  let v88 : BitVec 32 := Scalar.select v86 v87 v81
  let c0_i32_46 : BitVec 32 := 0#32
  let v89 : BitVec 1 := Scalar.cmpi .ne v88 c0_i32_46
  let v90 : BitVec 32 := Scalar.extui v89
  let c0_i32_47 : BitVec 32 := 0#32
  let v91 : BitVec 1 := Scalar.cmpi .ne v90 c0_i32_47
  v91

def k0_cond5 (i : grid0.Coords) : BitVec 1 :=
  let arg0 : BitVec 32 := BitVec.ofNat 32 (i 0).val
  let c0_i32_48 : BitVec 32 := 0#32
  let v92 : BitVec 1 := Scalar.cmpi .eq arg0 c0_i32_48
  let v93 : BitVec 32 := Scalar.extui v92
  let c0_i32_49 : BitVec 32 := 0#32
  let v94 : BitVec 1 := Scalar.cmpi .ne v93 c0_i32_49
  v94

def k0_cond6 (i : grid0.Coords) : BitVec 1 :=
  let arg0 : BitVec 32 := BitVec.ofNat 32 (i 0).val
  let c0_i32_50 : BitVec 32 := 0#32
  let v95 : BitVec 1 := Scalar.cmpi .ne arg0 c0_i32_50
  let v96 : BitVec 32 := Scalar.extui v95
  let c0_i32_51 : BitVec 32 := 0#32
  let v97 : BitVec 1 := Scalar.cmpi .ne v96 c0_i32_51
  v97

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== NormRefIdeal.lean ====
abbrev S2x2048x8192 : Shape := ⟨3, ![2, 2048, 8192]⟩
abbrev S1024x8192 : Shape := ⟨2, ![1024, 8192]⟩
abbrev S2x2048x1024 : Shape := ⟨3, ![2, 2048, 1024]⟩
abbrev S2x3072 : Shape := ⟨2, ![2, 3072]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x8192, .bf16⟩
  | .hbm, ⟨1, _⟩ => ⟨S1024x8192, .bf16⟩
  | .hbm, ⟨2, _⟩ => ⟨S2x2048x1024, .f32⟩
  | .hbm, ⟨3, _⟩ => ⟨S2x2048x1024, .f32⟩
  | .hbm, ⟨4, _⟩ => ⟨S2x3072, .f32⟩
  | .hbm, ⟨5, _⟩ => ⟨S1024, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S1024x8192, .f32⟩
  | .hbm, ⟨38, _⟩ => ⟨S2x2048x8192, .f32⟩
  | .hbm, ⟨39, _⟩ => ⟨S2x2048x8192, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x2048x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S4096x1024, .f32⟩
  | .hbm, ⟨77, _⟩ => ⟨S1x1024, .f32⟩
  | _, _ => ⟨S2x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== NormABwd.lean ====
abbrev S2x2048x6144 : Shape := ⟨3, ![2, 2048, 6144]⟩
abbrev S1024x6144 : Shape := ⟨2, ![1024, 6144]⟩
abbrev S2x2048x1024 : Shape := ⟨3, ![2, 2048, 1024]⟩
abbrev S2x3072 : Shape := ⟨2, ![2, 3072]⟩
abbrev S1024 : Shape := ⟨1, ![1024]⟩
abbrev S1024x4x1536 : Shape := ⟨3, ![1024, 4, 1536]⟩
abbrev S4x1024x1536 : Shape := ⟨3, ![4, 1024, 1536]⟩
abbrev S4096x6144 : Shape := ⟨2, ![4096, 6144]⟩
abbrev S4096x1024 : Shape := ⟨2, ![4096, 1024]⟩
abbrev S2x1x3072 : Shape := ⟨3, ![2, 1, 3072]⟩
abbrev S1x1024 : Shape := ⟨2, ![1, 1024]⟩
abbrev S2x1x1024 : Shape := ⟨3, ![2, 1, 1024]⟩
abbrev S1024x1536 : Shape := ⟨2, ![1024, 1536]⟩
abbrev S1x1024x1536 : Shape := ⟨3, ![1, 1024, 1536]⟩
abbrev S1024x1024 : Shape := ⟨2, ![1024, 1024]⟩
abbrev S1x1x3072 : Shape := ⟨3, ![1, 1, 3072]⟩
abbrev S1x1x1024 : Shape := ⟨3, ![1, 1, 1024]⟩
abbrev S1024x1 : Shape := ⟨2, ![1024, 1]⟩
abbrev S1x3072 : Shape := ⟨2, ![1, 3072]⟩

abbrev nBuf : Space → Nat
  | .hbm => 17
  | .vmem => 19
  | .smem => 0
  | _ => 0

abbrev bufTy : (tb : Table) → Fin (tcTables nBuf tb) → BufTy
  | .hbm, ⟨0, _⟩ => ⟨S2x2048x6144, .bf16⟩
  | .hbm, ⟨1, _⟩ => ⟨S1024x6144, .bf16⟩
  | .hbm, ⟨2, _⟩ => ⟨S2x2048x1024, .f32⟩
  | .hbm, ⟨3, _⟩ => ⟨S2x2048x1024, .f32⟩
  | .hbm, ⟨4, _⟩ => ⟨S2x3072, .f32⟩
  | .hbm, ⟨5, _⟩ => ⟨S1024, .f32⟩
  | .hbm, ⟨6, _⟩ => ⟨S1024x4x1536, .bf16⟩
  | .hbm, ⟨7, _⟩ => ⟨S4x1024x1536, .bf16⟩
  | .hbm, ⟨8, _⟩ => ⟨S4096x6144, .bf16⟩
  | .hbm, ⟨9, _⟩ => ⟨S4096x1024, .f32⟩
  | .hbm, ⟨10, _⟩ => ⟨S4096x1024, .f32⟩
  | .hbm, ⟨11, _⟩ => ⟨S2x1x3072, .f32⟩
  | .hbm, ⟨12, _⟩ => ⟨S1x1024, .f32⟩
  | .hbm, ⟨13, _⟩ => ⟨S4096x1024, .f32⟩
  | .hbm, ⟨14, _⟩ => ⟨S2x1x1024, .f32⟩
  | .hbm, ⟨15, _⟩ => ⟨S2x1x1024, .f32⟩
  | .hbm, ⟨16, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1x3072, .f32⟩
  | .local _ .vmem, ⟨9, _⟩ => ⟨S1x1x3072, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x1024, .f32⟩
  | _, _ => ⟨S2x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c1024_i32 : BitVec 32 := 1024#32
  let v64 : BitVec 32 := Scalar.muli arg0 c1024_i32
  let c2048_i32 : BitVec 32 := 2048#32
  let c0_i32_32 : BitVec 32 := 0#32
  let v65 : BitVec 1 := Scalar.cmpi .eq c2048_i32 c0_i32_32
  let c1_i32 : BitVec 32 := 1#32
  let v66 : BitVec 32 := Scalar.select v65 c1_i32 c2048_i32
  let v67 : BitVec 32 := Scalar.remsi v64 v66
  let c0_i32_34 : BitVec 32 := 0#32
  let v69 : BitVec 1 := Scalar.cmpi .slt v67 c0_i32_34
  let c0_i32_35 : BitVec 32 := 0#32
  let v70 : BitVec 1 := Scalar.cmpi .slt v66 c0_i32_35
  let v71 : BitVec 1 := Scalar.xori v69 v70
  let c0_i32_33 : BitVec 32 := 0#32
  let v68 : BitVec 1 := Scalar.cmpi .ne v67 c0_i32_33
  let v72 : BitVec 1 := Scalar.andi v71 v68
  let v73 : BitVec 32 := Scalar.addi v67 v66
  let v74 : BitVec 32 := Scalar.select v72 v73 v67
  let c0_i32_36 : BitVec 32 := 0#32
  let v75 : BitVec 1 := Scalar.cmpi .eq v74 c0_i32_36
  let v76 : BitVec 32 := Scalar.extui v75
  let c0_i32_37 : BitVec 32 := 0#32
  let v77 : BitVec 1 := Scalar.cmpi .ne v76 c0_i32_37
  v77

def k0_cond4 (i : grid0.Coords) : BitVec 1 :=
  let arg0 : BitVec 32 := BitVec.ofNat 32 (i 0).val
  let c1024_i32_38 : BitVec 32 := 1024#32
  let v78 : BitVec 32 := Scalar.muli arg0 c1024_i32_38
  let c2048_i32_39 : BitVec 32 := 2048#32
  let c0_i32_40 : BitVec 32 := 0#32
  let v79 : BitVec 1 := Scalar.cmpi .eq c2048_i32_39 c0_i32_40
  let c1_i32_41 : BitVec 32 := 1#32
  let v80 : BitVec 32 := Scalar.select v79 c1_i32_41 c2048_i32_39
  let v81 : BitVec 32 := Scalar.remsi v78 v80
  let c0_i32_43 : BitVec 32 := 0#32
  let v83 : BitVec 1 := Scalar.cmpi .slt v81 c0_i32_43
  let c0_i32_44 : BitVec 32 := 0#32
  let v84 : BitVec 1 := Scalar.cmpi .slt v80 c0_i32_44
  let v85 : BitVec 1 := Scalar.xori v83 v84
  let c0_i32_42 : BitVec 32 := 0#32
  let v82 : BitVec 1 := Scalar.cmpi .ne v81 c0_i32_42
  let v86 : BitVec 1 := Scalar.andi v85 v82
  let v87 : BitVec 32 := Scalar.addi v81 v80
  let v88 : BitVec 32 := Scalar.select v86 v87 v81
  let c0_i32_45 : BitVec 32 := 0#32
  let v89 : BitVec 1 := Scalar.cmpi .ne v88 c0_i32_45
  let v90 : BitVec 32 := Scalar.extui v89
  let c0_i32_46 : BitVec 32 := 0#32
  let v91 : BitVec 1 := Scalar.cmpi .ne v90 c0_i32_46
  v91

def k0_cond5 (i : grid0.Coords) : BitVec 1 :=
  let arg0 : BitVec 32 := BitVec.ofNat 32 (i 0).val
  let c0_i32_47 : BitVec 32 := 0#32
  let v92 : BitVec 1 := Scalar.cmpi .eq arg0 c0_i32_47
  let v93 : BitVec 32 := Scalar.extui v92
  let c0_i32_48 : BitVec 32 := 0#32
  let v94 : BitVec 1 := Scalar.cmpi .ne v93 c0_i32_48
  v94

def k0_cond6 (i : grid0.Coords) : BitVec 1 :=
  let arg0 : BitVec 32 := BitVec.ofNat 32 (i 0).val
  let c0_i32_49 : BitVec 32 := 0#32
  let v95 : BitVec 1 := Scalar.cmpi .ne arg0 c0_i32_49
  let v96 : BitVec 32 := Scalar.extui v95
  let c0_i32_50 : BitVec 32 := 0#32
  let v97 : BitVec 1 := Scalar.cmpi .ne v96 c0_i32_50
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== NormARefIdeal.lean ====
abbrev S2x2048x6144 : Shape := ⟨3, ![2, 2048, 6144]⟩
abbrev S1024x6144 : Shape := ⟨2, ![1024, 6144]⟩
abbrev S2x2048x1024 : Shape := ⟨3, ![2, 2048, 1024]⟩
abbrev S2x3072 : Shape := ⟨2, ![2, 3072]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x6144, .bf16⟩
  | .hbm, ⟨1, _⟩ => ⟨S1024x6144, .bf16⟩
  | .hbm, ⟨2, _⟩ => ⟨S2x2048x1024, .f32⟩
  | .hbm, ⟨3, _⟩ => ⟨S2x2048x1024, .f32⟩
  | .hbm, ⟨4, _⟩ => ⟨S2x3072, .f32⟩
  | .hbm, ⟨5, _⟩ => ⟨S1024, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S1024x6144, .f32⟩
  | .hbm, ⟨38, _⟩ => ⟨S2x2048x6144, .f32⟩
  | .hbm, ⟨39, _⟩ => ⟨S2x2048x6144, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x2048x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S4096x1024, .f32⟩
  | .hbm, ⟨77, _⟩ => ⟨S1x1024, .f32⟩
  | _, _ => ⟨S2x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== MixFwd.lean ====
abbrev S2x2048x6144 : Shape := ⟨3, ![2, 2048, 6144]⟩
abbrev S2048 : Shape := ⟨1, ![2048]⟩
abbrev S8x128x128 : Shape := ⟨3, ![8, 128, 128]⟩
abbrev S8x128 : Shape := ⟨2, ![8, 128]⟩
abbrev S4096x6144 : Shape := ⟨2, ![4096, 6144]⟩
abbrev S1x2048 : Shape := ⟨2, ![1, 2048]⟩
abbrev S8x128x1 : Shape := ⟨3, ![8, 128, 1]⟩
abbrev S32x128x6144 : Shape := ⟨3, ![32, 128, 6144]⟩
abbrev S32x128x2048 : Shape := ⟨3, ![32, 128, 2048]⟩
abbrev S4x128x6144 : Shape := ⟨3, ![4, 128, 6144]⟩
abbrev S4x128x2048 : Shape := ⟨3, ![4, 128, 2048]⟩
abbrev S128x2048 : Shape := ⟨2, ![128, 2048]⟩
abbrev S128x128 : Shape := ⟨2, ![128, 128]⟩
abbrev S1x128x128 : Shape := ⟨3, ![1, 128, 128]⟩
abbrev S128x1 : Shape := ⟨2, ![128, 1]⟩
abbrev S1x128x6144 : Shape := ⟨3, ![1, 128, 6144]⟩
abbrev S128x6144 : Shape := ⟨2, ![128, 6144]⟩
abbrev S128x256 : Shape := ⟨2, ![128, 256]⟩
abbrev S128 : Shape := ⟨1, ![128]⟩
abbrev S1x256 : Shape := ⟨2, ![1, 256]⟩
abbrev S1x128x1 : Shape := ⟨3, ![1, 128, 1]⟩
abbrev S1x128x2048 : Shape := ⟨3, ![1, 128, 2048]⟩
abbrev S1x128x256 : Shape := ⟨3, ![1, 128, 256]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x6144, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S4096x6144, .f32⟩
  | .hbm, ⟨6, _⟩ => ⟨S1x2048, .f32⟩
  | .hbm, ⟨7, _⟩ => ⟨S1x2048, .f32⟩
  | .hbm, ⟨8, _⟩ => ⟨S8x128x1, .f32⟩
  | .hbm, ⟨9, _⟩ => ⟨S32x128x6144, .f32⟩
  | .hbm, ⟨10, _⟩ => ⟨S32x128x2048, .bf16⟩
  | .local _ .vmem, ⟨0, _⟩ => ⟨S4x128x6144, .f32⟩
  | .local _ .vmem, ⟨1, _⟩ => ⟨S4x128x6144, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S8x128x1, .f32⟩
  | .local _ .vmem, ⟨6, _⟩ => ⟨S4x128x2048, .bf16⟩
  | .local _ .vmem, ⟨7, _⟩ => ⟨S4x128x2048, .bf16⟩
  | .local _ .vmem, ⟨8, _⟩ => ⟨S8x128x128, .bf16⟩
  | .local _ .vmem, ⟨9, _⟩ => ⟨S128x2048, .f32⟩
  | _, _ => ⟨S2x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixFwdIdeal.lean ====
variable {F : FTy → Type} [FloatOps F] [Named F]
def κ : String → Option EReal := fun
  | "gelu_c1" => some ((8943 / 200000 : ℝ) : EReal)
  | _ => none
-- ==== MixRefIdeal.lean ====
abbrev S2x2048x6144 : Shape := ⟨3, ![2, 2048, 6144]⟩
abbrev S2048 : Shape := ⟨1, ![2048]⟩
abbrev S8x128x128 : Shape := ⟨3, ![8, 128, 128]⟩
abbrev S8x128 : Shape := ⟨2, ![8, 128]⟩
abbrev S2x2048x4096 : Shape := ⟨3, ![2, 2048, 4096]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x8x256 : Shape := ⟨5, ![2, 16, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S32x128x2048 : Shape := ⟨3, ![32, 128, 2048]⟩

abbrev nBuf : Space → Nat
  | .hbm => 126
  | .vmem => 0
  | .smem => 0
  | _ => 0

abbrev bufTy : (tb : Table) → Fin (tcTables nBuf tb) → BufTy
  | .hbm, ⟨0, _⟩ => ⟨S2x2048x6144, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S2x2048x4096, .f32⟩
  | .hbm, ⟨6, _⟩ => ⟨S2x2048x2048, .f32⟩
  | .hbm, ⟨7, _⟩ => ⟨S2x2048x4096, .f32⟩
  | .hbm, ⟨8, _⟩ => ⟨S2x2048x4096, .f32⟩
  | .hbm, ⟨9, _⟩ => ⟨S_, .f32⟩
  | .hbm, ⟨10, _⟩ => ⟨S2x2048x4096, .f32⟩
  | .hbm, ⟨11, _⟩ => ⟨S2x2048x4096, .f32⟩
  | .hbm, ⟨12, _⟩ => ⟨S_, .f32⟩
  | .hbm, ⟨13, _⟩ => ⟨S2x2048x4096, .f32⟩
  | .hbm, ⟨14, _⟩ => ⟨S2x2048x4096, .f32⟩
  | .hbm, ⟨15, _⟩ => ⟨S2x2048x4096, .f32⟩
  | .hbm, ⟨16, _⟩ => ⟨S_, .f32⟩
  | .hbm, ⟨17, _⟩ => ⟨S2x2048x4096, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S2x2048x4096, .f32⟩
  | .hbm, ⟨22, _⟩ => ⟨S2x2048x4096, .f32⟩
  | .hbm, ⟨23, _⟩ => ⟨S_, .f32⟩
  | .hbm, ⟨24, _⟩ => ⟨S2x2048x4096, .f32⟩
  | .hbm, ⟨25, _⟩ => ⟨S2x2048x4096, .f32⟩
  | .hbm, ⟨26, _⟩ => ⟨S2x2048x4096, .f32⟩
  | .hbm, ⟨27, _⟩ => ⟨S2x2048x2048, .f32⟩
  | .hbm, ⟨28, _⟩ => ⟨S2x2048x2048, .f32⟩
  | .hbm, ⟨29, _⟩ => ⟨S_, .f32⟩
  | .hbm, ⟨30, _⟩ => ⟨S2x2048, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S2x2048x2048, .f32⟩
  | .hbm, ⟨45, _⟩ => ⟨S2x2048x2048, .f32⟩
  | .hbm, ⟨46, _⟩ => ⟨S_, .f32⟩
  | .hbm, ⟨47, _⟩ => ⟨S2x2048x1, .f32⟩
  | .hbm, ⟨48, _⟩ => ⟨S2x2048x1, .f32⟩
  | .hbm, ⟨49, _⟩ => ⟨S2x2048x1, .f32⟩
  | .hbm, ⟨50, _⟩ => ⟨S2x2048x2048, .f32⟩
  | .hbm, ⟨51, _⟩ => ⟨S2x2048x2048, .f32⟩
  | .hbm, ⟨52, _⟩ => ⟨S1x1x2048, .f32⟩
  | .hbm, ⟨53, _⟩ => ⟨S2x2048x2048, .f32⟩
  | .hbm, ⟨54, _⟩ => ⟨S2x2048x2048, .f32⟩
  | .hbm, ⟨55, _⟩ => ⟨S1x1x2048, .f32⟩
  | .hbm, ⟨56, _⟩ => ⟨S2x2048x2048, .f32⟩
  | .hbm, ⟨57, _⟩ => ⟨S2x2048x2048, .f32⟩
  | .hbm, ⟨58, _⟩ => ⟨S2x16x128x8x256, .f32⟩
  | .hbm, ⟨59, _⟩ => ⟨S128, .i32⟩
  | .hbm, ⟨60, _⟩ => ⟨S1x128, .i32⟩
  | .hbm, ⟨61, _⟩ => ⟨S_, .i32⟩
  | .hbm, ⟨62, _⟩ => ⟨S_, .i32⟩
  | .hbm, ⟨63, _⟩ => ⟨S1x128, .i32⟩
  | .hbm, ⟨64, _⟩ => ⟨S1x128, .i32⟩
  | .hbm, ⟨65, _⟩ => ⟨S1x128, .i32⟩
  | .hbm, ⟨66, _⟩ => ⟨S_, .i32⟩
  | .hbm, ⟨67, _⟩ => ⟨S1x128, .i32⟩
  | .hbm, ⟨68, _⟩ => ⟨S1x128, .i1⟩
  | .hbm, ⟨69, _⟩ => ⟨S1x128, .i32⟩
  | .hbm, ⟨70, _⟩ => ⟨S1x128, .i32⟩
  | .hbm, ⟨71, _⟩ => ⟨S_, .i32⟩
  | .hbm, ⟨72, _⟩ => ⟨S1x128, .i32⟩
  | .hbm, ⟨73, _⟩ => ⟨S1x128, .i1⟩
  | .hbm, ⟨74, _⟩ => ⟨S1x128, .i1⟩
  | .hbm, ⟨75, _⟩ => ⟨S_, .i32⟩
  | .hbm, ⟨76, _⟩ => ⟨S1x128, .i32⟩
  | .hbm, ⟨77, _⟩ => ⟨S1x128, .i32⟩
  | .hbm, ⟨78, _⟩ => ⟨S1x128, .i32⟩
  | .hbm, ⟨79, _⟩ => ⟨S128x1, .i32⟩
  | .hbm, ⟨80, _⟩ => ⟨S_, .i32⟩
  | .hbm, ⟨81, _⟩ => ⟨S_, .i32⟩
  | .hbm, ⟨82, _⟩ => ⟨S128x1, .i32⟩
  | .hbm, ⟨83, _⟩ => ⟨S128x1, .i32⟩
  | .hbm, ⟨84, _⟩ => ⟨S128x1, .i32⟩
  | .hbm, ⟨85, _⟩ => ⟨S_, .i32⟩
  | .hbm, ⟨86, _⟩ => ⟨S128x1, .i32⟩
  | .hbm, ⟨87, _⟩ => ⟨S128x1, .i1⟩
  | .hbm, ⟨88, _⟩ => ⟨S128x1, .i32⟩
  | .hbm, ⟨89, _⟩ => ⟨S128x1, .i32⟩
  | .hbm, ⟨90, _⟩ => ⟨S_, .i32⟩
  | .hbm, ⟨91, _⟩ => ⟨S128x1, .i32⟩
  | .hbm, ⟨92, _⟩ => ⟨S128x1, .i1⟩
  | .hbm, ⟨93, _⟩ => ⟨S128x1, .i1⟩
  | .hbm, ⟨94, _⟩ => ⟨S_, .i32⟩
  | .hbm, ⟨95, _⟩ => ⟨S128x1, .i32⟩
  | .hbm, ⟨96, _⟩ => ⟨S128x1, .i32⟩
  | .hbm, ⟨97, _⟩ => ⟨S128x1, .i32⟩
  | .hbm, ⟨98, _⟩ => ⟨S128x128, .i32⟩
  | .hbm, ⟨99, _⟩ => ⟨S128x128, .i32⟩
  | .hbm, ⟨100, _⟩ => ⟨S128x128, .i1⟩
  | .hbm, ⟨101, _⟩ => ⟨S1x128x128, .i1⟩
  | .hbm, ⟨102, _⟩ => ⟨S_, .f32⟩
  | .hbm, ⟨103, _⟩ => ⟨S8x128x128, .i1⟩
  | .hbm, ⟨104, _⟩ => ⟨S8x128x128, .f32⟩
  | .hbm, ⟨105, _⟩ => ⟨S8x128x128, .f32⟩
  | .hbm, ⟨106, _⟩ => ⟨S8x2x16x256x128, .f32⟩
  | .hbm, ⟨107, _⟩ => ⟨S2x16x128x8x256, .f32⟩
  | .hbm, ⟨108, _⟩ => ⟨S128x8, .f32⟩
  | .hbm, ⟨109, _⟩ => ⟨S1x1x128x8x1, .f32⟩
  | .hbm, ⟨110, _⟩ => ⟨S2x16x128x8x256, .f32⟩
  | .hbm, ⟨111, _⟩ => ⟨S2x16x128x8x256, .f32⟩
  | .hbm, ⟨112, _⟩ => ⟨S2x2048x2048, .f32⟩
  | .hbm, ⟨113, _⟩ => ⟨S2x2048x2048, .f32⟩
  | .hbm, ⟨114, _⟩ => ⟨S2x2048x2048, .f32⟩
  | .hbm, ⟨115, _⟩ => ⟨S2x2048x2048, .f32⟩
  | .hbm, ⟨116, _⟩ => ⟨S_, .f32⟩
  | .hbm, ⟨117, _⟩ => ⟨S2x2048x2048, .f32⟩
  | .hbm, ⟨118, _⟩ => ⟨S2x2048x2048, .f32⟩
  | .hbm, ⟨119, _⟩ => ⟨S_, .f32⟩
  | .hbm, ⟨120, _⟩ => ⟨S2x2048x2048, .f32⟩
  | .hbm, ⟨121, _⟩ => ⟨S2x2048x2048, .f32⟩
  | .hbm, ⟨122, _⟩ => ⟨S2x2048x2048, .f32⟩
  | .hbm, ⟨123, _⟩ => ⟨S2x2048x2048, .f32⟩
  | .hbm, ⟨124, _⟩ => ⟨S2x2048x2048, .bf16⟩
  | .hbm, ⟨125, _⟩ => ⟨S32x128x2048, .bf16⟩
  | _, _ => ⟨S2x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v46 : Ref sig .tc := ⟨.hbm, 78, rfl⟩
abbrev main_v47 : Ref sig .tc := ⟨.hbm, 79, rfl⟩
abbrev main_c_9 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_c : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_0 : Ref sig .tc := ⟨.hbm, 94, rfl⟩
abbrev main_call1_v12 : Ref sig .tc := ⟨.hbm, 95, rfl⟩
abbrev main_call1_v13 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_10 : Ref sig .tc := ⟨.hbm, 102, rfl⟩
abbrev main_call2_v0 : Ref sig .tc := ⟨.hbm, 103, rfl⟩
abbrev main_call2_v1 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_call3_v0 : Ref sig .tc := ⟨.hbm, 114, rfl⟩
abbrev main_call3_v1 : Ref sig .tc := ⟨.hbm, 115, rfl⟩
abbrev main_call3_cst : Ref sig .tc := ⟨.hbm, 116, rfl⟩
abbrev main_call3_v2 : Ref sig .tc := ⟨.hbm, 117, rfl⟩
abbrev main_call3_v3 : Ref sig .tc := ⟨.hbm, 118, rfl⟩
abbrev main_call3_cst_0 : Ref sig .tc := ⟨.hbm, 119, rfl⟩
abbrev main_call3_v4 : Ref sig .tc := ⟨.hbm, 120, rfl⟩
abbrev main_call3_v5 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩

abbrev nD : Nat := 1
abbrev τ : Topo := Topo.v7x

variable {F : FTy → Type} [FloatOps F]
-- ==== OutFwd.lean ====
abbrev S2x2048x2048 : Shape := ⟨3, ![2, 2048, 2048]⟩
abbrev S2048x1024 : Shape := ⟨2, ![2048, 1024]⟩
abbrev S2x2048x1024 : Shape := ⟨3, ![2, 2048, 1024]⟩
abbrev S2x3072 : Shape := ⟨2, ![2, 3072]⟩
abbrev S4096x2048 : Shape := ⟨2, ![4096, 2048]⟩
abbrev S4096x1024 : Shape := ⟨2, ![4096, 1024]⟩
abbrev S2x1x3072 : Shape := ⟨3, ![2, 1, 3072]⟩
abbrev S1024x2048 : Shape := ⟨2, ![1024, 2048]⟩
abbrev S1024x1024 : Shape := ⟨2, ![1024, 1024]⟩
abbrev S1x1x3072 : Shape := ⟨3, ![1, 1, 3072]⟩
abbrev S1x3072 : Shape := ⟨2, ![1, 3072]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S2x2048x1024, .f32⟩
  | .hbm, ⟨3, _⟩ => ⟨S2x3072, .f32⟩
  | .hbm, ⟨4, _⟩ => ⟨S4096x2048, .bf16⟩
  | .hbm, ⟨5, _⟩ => ⟨S4096x1024, .f32⟩
  | .hbm, ⟨6, _⟩ => ⟨S2x1x3072, .f32⟩
  | .hbm, ⟨7, _⟩ => ⟨S4096x1024, .f32⟩
  | .hbm, ⟨8, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x3072, .f32⟩
  | .local _ .vmem, ⟨6, _⟩ => ⟨S1x1x3072, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S2x2048x2048 : Shape := ⟨3, ![2, 2048, 2048]⟩
abbrev S2048x1024 : Shape := ⟨2, ![2048, 1024]⟩
abbrev S2x2048x1024 : Shape := ⟨3, ![2, 2048, 1024]⟩
abbrev S2x3072 : Shape := ⟨2, ![2, 3072]⟩
abbrev S2x1024 : Shape := ⟨2, ![2, 1024]⟩
abbrev S2x1x1024 : Shape := ⟨3, ![2, 1, 1024]⟩
abbrev S4096x1024 : Shape := ⟨2, ![4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S2x2048x1024, .f32⟩
  | .hbm, ⟨3, _⟩ => ⟨S2x3072, .f32⟩
  | .hbm, ⟨4, _⟩ => ⟨S2x2048x2048, .f32⟩
  | .hbm, ⟨5, _⟩ => ⟨S2048x1024, .f32⟩
  | .hbm, ⟨6, _⟩ => ⟨S2x2048x1024, .f32⟩
  | .hbm, ⟨7, _⟩ => ⟨S2x1024, .f32⟩
  | .hbm, ⟨8, _⟩ => ⟨S2x1x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S4096x1024, .f32⟩
  | .hbm, ⟨13, _⟩ => ⟨S2x2048x1024, .bf16⟩
  | .hbm, ⟨14, _⟩ => ⟨S4096x1024, .bf16⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InpFwd.lean ====
abbrev S2x2048x1024 : Shape := ⟨3, ![2, 2048, 1024]⟩
abbrev S2x3072 : Shape := ⟨2, ![2, 3072]⟩
abbrev S1024 : Shape := ⟨1, ![1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S4096x1024 : Shape := ⟨2, ![4096, 1024]⟩
abbrev S2x1x3072 : Shape := ⟨3, ![2, 1, 3072]⟩
abbrev S1x1024 : Shape := ⟨2, ![1, 1024]⟩
abbrev S4096x6144 : Shape := ⟨2, ![4096, 6144]⟩
abbrev S2048x1024 : Shape := ⟨2, ![2048, 1024]⟩
abbrev S1x1x3072 : Shape := ⟨3, ![1, 1, 3072]⟩
abbrev S1x1024x768 : Shape := ⟨3, ![1, 1024, 768]⟩
abbrev S2048x768 : Shape := ⟨2, ![2048, 768]⟩
abbrev S2048 : Shape := ⟨1, ![2048]⟩
abbrev S2048x1 : Shape := ⟨2, ![2048, 1]⟩
abbrev S1x3072 : Shape := ⟨2, ![1, 3072]⟩
abbrev S1024x768 : Shape := ⟨2, ![1024, 768]⟩

abbrev nBuf : Space → Nat
  | .hbm => 11
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x3072, .f32⟩
  | .hbm, ⟨2, _⟩ => ⟨S1024, .f32⟩
  | .hbm, ⟨3, _⟩ => ⟨S1024x6144, .bf16⟩
  | .hbm, ⟨4, _⟩ => ⟨S1024x4x1536, .bf16⟩
  | .hbm, ⟨5, _⟩ => ⟨S4x1024x1536, .bf16⟩
  | .hbm, ⟨6, _⟩ => ⟨S4096x1024, .f32⟩
  | .hbm, ⟨7, _⟩ => ⟨S2x1x3072, .f32⟩
  | .hbm, ⟨8, _⟩ => ⟨S1x1024, .f32⟩
  | .hbm, ⟨9, _⟩ => ⟨S4096x6144, .f32⟩
  | .hbm, ⟨10, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024x768, .bf16⟩
  | .local _ .vmem, ⟨6, _⟩ => ⟨S1x1024x768, .bf16⟩
  | .local _ .vmem, ⟨7, _⟩ => ⟨S2048x768, .f32⟩
  | .local _ .vmem, ⟨8, _⟩ => ⟨S2048x768, .f32⟩
  | .local _ .vmem, ⟨9, _⟩ => ⟨S2048x1024, .bf16⟩
  | .local _ .vmem, ⟨10, _⟩ => ⟨S2048x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InpRefIdeal.lean ====
abbrev S2x2048x1024 : Shape := ⟨3, ![2, 2048, 1024]⟩
abbrev S2x3072 : Shape := ⟨2, ![2, 3072]⟩
abbrev S1024 : Shape := ⟨1, ![1024]⟩
abbrev S1024x6144 : Shape := ⟨2, ![1024, 6144]⟩
abbrev S2x1024 : Shape := ⟨2, ![2, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x6144 : Shape := ⟨3, ![2, 2048, 6144]⟩
abbrev S4096x6144 : Shape := ⟨2, ![4096, 6144]⟩
abbrev S4096x1024 : Shape := ⟨2, ![4096, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x3072, .f32⟩
  | .hbm, ⟨2, _⟩ => ⟨S1024, .f32⟩
  | .hbm, ⟨3, _⟩ => ⟨S1024x6144, .bf16⟩
  | .hbm, ⟨4, _⟩ => ⟨S2x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S1024x6144, .f32⟩
  | .hbm, ⟨32, _⟩ => ⟨S2x2048x6144, .f32⟩
  | .hbm, ⟨33, _⟩ => ⟨S4096x6144, .f32⟩
  | .hbm, ⟨34, _⟩ => ⟨S2x2048x1024, .bf16⟩
  | .hbm, ⟨35, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== AdaBwd.lean ====
abbrev S16x1024 : Shape := ⟨2, ![16, 1024]⟩
abbrev S2x16x768 : Shape := ⟨3, ![2, 16, 768]⟩
abbrev S2x1024x768 : Shape := ⟨3, ![2, 1024, 768]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 9
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S2x16x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | .local _ .vmem, ⟨8, _⟩ => ⟨S1x1024x768, .f32⟩
  | .local _ .vmem, ⟨9, _⟩ => ⟨S1x1024x768, .f32⟩
  | .local _ .vmem, ⟨10, _⟩ => ⟨S1x1024x768, .f32⟩
  | .local _ .vmem, ⟨11, _⟩ => ⟨S1x1024x768, .f32⟩
  | .local _ .vmem, ⟨12, _⟩ => ⟨S1x1024x768, .f32⟩
  | .local _ .vmem, ⟨13, _⟩ => ⟨S1x1024x768, .f32⟩
  | .local _ .vmem, ⟨14, _⟩ => ⟨S1x1024x768, .f32⟩
  | .local _ .vmem, ⟨15, _⟩ => ⟨S1x1024x768, .f32⟩
  | .local _ .vmem, ⟨16, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaRefIdeal.lean ====
abbrev S16x1024 : Shape := ⟨2, ![16, 1024]⟩
abbrev S2x16x768 : Shape := ⟨3, ![2, 16, 768]⟩
abbrev S2x1024x768 : Shape := ⟨3, ![2, 1024, 768]⟩
abbrev S_ : Shape := ⟨0, ![]⟩
abbrev S16x2x768 : Shape := ⟨3, ![16, 2, 768]⟩
abbrev S2x768x1024 : Shape := ⟨3, ![2, 768, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x2x768, .f32⟩
  | .hbm, ⟨15, _⟩ => ⟨S2x16x768, .f32⟩
  | .hbm, ⟨16, _⟩ => ⟨S16x2x768, .f32⟩
  | .hbm, ⟨17, _⟩ => ⟨S2x768x1024, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S_, .f32⟩
  | .hbm, ⟨38, _⟩ => ⟨S2x1024x768, .f32⟩
  | .hbm, ⟨39, _⟩ => ⟨S2x1024x768, .f32⟩
  | .hbm, ⟨40, _⟩ => ⟨S2x1024x768, .f32⟩
  | .hbm, ⟨41, _⟩ => ⟨S_, .f32⟩
  | .hbm, ⟨42, _⟩ => ⟨S2x1024x768, .f32⟩
  | .hbm, ⟨43, _⟩ => ⟨S2x1024x768, .f32⟩
  | .hbm, ⟨44, _⟩ => ⟨S2x1024x768, .f32⟩
  | .hbm, ⟨45, _⟩ => ⟨S_, .f32⟩
  | .hbm, ⟨46, _⟩ => ⟨S2x1024x768, .f32⟩
  | .hbm, ⟨47, _⟩ => ⟨S2x1024x768, .f32⟩
  | .hbm, ⟨48, _⟩ => ⟨S2x1024x768, .f32⟩
  | .hbm, ⟨49, _⟩ => ⟨S_, .f32⟩
  | .hbm, ⟨50, _⟩ => ⟨S2x1024x768, .f32⟩
  | .hbm, ⟨51, _⟩ => ⟨S2x1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== BiasUpd.lean ====
abbrev S16x2x3072 : Shape := ⟨3, ![16, 2, 3072]⟩
abbrev S2x3072 : Shape := ⟨2, ![2, 3072]⟩
abbrev S16x6144 : Shape := ⟨2, ![16, 6144]⟩
abbrev S1x6144 : Shape := ⟨2, ![1, 6144]⟩
abbrev S6144 : Shape := ⟨1, ![6144]⟩

abbrev nBuf : Space → Nat
  | .hbm => 12
  | .vmem => 8
  | .smem => 0
  | _ => 0

abbrev bufTy : (tb : Table) → Fin (tcTables nBuf tb) → BufTy
  | .hbm, ⟨0, _⟩ => ⟨S16x2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S16x6144, .f32⟩
  | .hbm, ⟨5, _⟩ => ⟨S1x6144, .f32⟩
  | .hbm, ⟨6, _⟩ => ⟨S1x6144, .f32⟩
  | .hbm, ⟨7, _⟩ => ⟨S1x6144, .f32⟩
  | .hbm, ⟨8, _⟩ => ⟨S1x6144, .f32⟩
  | .hbm, ⟨9, _⟩ => ⟨S1x6144, .f32⟩
  | .hbm, ⟨10, _⟩ => ⟨S1x6144, .f32⟩
  | .hbm, ⟨11, _⟩ => ⟨S1x6144, .f32⟩
  | .local _ .vmem, ⟨0, _⟩ => ⟨S16x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | _, _ => ⟨S16x2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== BiasRefIdeal.lean ====
abbrev S16x2x3072 : Shape := ⟨3, ![16, 2, 3072]⟩
abbrev S2x3072 : Shape := ⟨2, ![2, 3072]⟩
abbrev S1x2x3072 : Shape := ⟨3, ![1, 2, 3072]⟩
abbrev S_ : Shape := ⟨0, ![]⟩
abbrev S1x6144 : Shape := ⟨2, ![1, 6144]⟩

abbrev nBuf : Space → Nat
  | .hbm => 48
  | .vmem => 0
  | .smem => 0
  | _ => 0

abbrev bufTy : (tb : Table) → Fin (tcTables nBuf tb) → BufTy
  | .hbm, ⟨0, _⟩ => ⟨S16x2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S1x2x3072, .f32⟩
  | .hbm, ⟨5, _⟩ => ⟨S16x2x3072, .f32⟩
  | .hbm, ⟨6, _⟩ => ⟨S_, .f32⟩
  | .hbm, ⟨7, _⟩ => ⟨S2x3072, .f32⟩
  | .hbm, ⟨8, _⟩ => ⟨S1x2x3072, .f32⟩
  | .hbm, ⟨9, _⟩ => ⟨S_, .f32⟩
  | .hbm, ⟨10, _⟩ => ⟨S2x3072, .f32⟩
  | .hbm, ⟨11, _⟩ => ⟨S_, .f32⟩
  | .hbm, ⟨12, _⟩ => ⟨S2x3072, .f32⟩
  | .hbm, ⟨13, _⟩ => ⟨S2x3072, .f32⟩
  | .hbm, ⟨14, _⟩ => ⟨S_, .f32⟩
  | .hbm, ⟨15, _⟩ => ⟨S2x3072, .f32⟩
  | .hbm, ⟨16, _⟩ => ⟨S2x3072, .f32⟩
  | .hbm, ⟨17, _⟩ => ⟨S2x3072, .f32⟩
  | .hbm, ⟨18, _⟩ => ⟨S_, .f32⟩
  | .hbm, ⟨19, _⟩ => ⟨S2x3072, .f32⟩
  | .hbm, ⟨20, _⟩ => ⟨S2x3072, .f32⟩
  | .hbm, ⟨21, _⟩ => ⟨S2x3072, .f32⟩
  | .hbm, ⟨22, _⟩ => ⟨S_, .f32⟩
  | .hbm, ⟨23, _⟩ => ⟨S2x3072, .f32⟩
  | .hbm, ⟨24, _⟩ => ⟨S2x3072, .f32⟩
  | .hbm, ⟨25, _⟩ => ⟨S2x3072, .f32⟩
  | .hbm, ⟨26, _⟩ => ⟨S_, .f32⟩
  | .hbm, ⟨27, _⟩ => ⟨S2x3072, .f32⟩
  | .hbm, ⟨28, _⟩ => ⟨S2x3072, .f32⟩
  | .hbm, ⟨29, _⟩ => ⟨S_, .f32⟩
  | .hbm, ⟨30, _⟩ => ⟨S2x3072, .f32⟩
  | .hbm, ⟨31, _⟩ => ⟨S2x3072, .f32⟩
  | .hbm, ⟨32, _⟩ => ⟨S2x3072, .f32⟩
  | .hbm, ⟨33, _⟩ => ⟨S_, .f32⟩
  | .hbm, ⟨34, _⟩ => ⟨S2x3072, .f32⟩
  | .hbm, ⟨35, _⟩ => ⟨S2x3072, .f32⟩
  | .hbm, ⟨36, _⟩ => ⟨S2x3072, .f32⟩
  | .hbm, ⟨37, _⟩ => ⟨S_, .f32⟩
  | .hbm, ⟨38, _⟩ => ⟨S2x3072, .f32⟩
  | .hbm, ⟨39, _⟩ => ⟨S2x3072, .f32⟩
  | .hbm, ⟨40, _⟩ => ⟨S2x3072, .f32⟩
  | .hbm, ⟨41, _⟩ => ⟨S_, .f32⟩
  | .hbm, ⟨42, _⟩ => ⟨S2x3072, .f32⟩
  | .hbm, ⟨43, _⟩ => ⟨S2x3072, .f32⟩
  | .hbm, ⟨44, _⟩ => ⟨S1x6144, .f32⟩
  | .hbm, ⟨45, _⟩ => ⟨S1x6144, .f32⟩
  | .hbm, ⟨46, _⟩ => ⟨S1x6144, .f32⟩
  | .hbm, ⟨47, _⟩ => ⟨S1x6144, .f32⟩
  | _, _ => ⟨S16x2x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== ModuFwd.lean ====
abbrev S16x1024 : Shape := ⟨2, ![16, 1024]⟩
abbrev S2x1024x768 : Shape := ⟨3, ![2, 1024, 768]⟩
abbrev S2x768 : Shape := ⟨2, ![2, 768]⟩
abbrev S4x512x1024 : Shape := ⟨3, ![4, 512, 1024]⟩
abbrev S2x1x768 : Shape := ⟨3, ![2, 1, 768]⟩
abbrev S2x16x768 : Shape := ⟨3, ![2, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 6
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x768, .f32⟩
  | .hbm, ⟨3, _⟩ => ⟨S4x512x1024, .bf16⟩
  | .hbm, ⟨4, _⟩ => ⟨S2x1x768, .f32⟩
  | .hbm, ⟨5, _⟩ => ⟨S2x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModuRefIdeal.lean ====
abbrev S16x1024 : Shape := ⟨2, ![16, 1024]⟩
abbrev S2x1024x768 : Shape := ⟨3, ![2, 1024, 768]⟩
abbrev S2x768 : Shape := ⟨2, ![2, 768]⟩
abbrev S4x512x1024 : Shape := ⟨3, ![4, 512, 1024]⟩
abbrev S_ : Shape := ⟨0, ![]⟩
abbrev S16x2x768 : Shape := ⟨3, ![16, 2, 768]⟩
abbrev S2x16x768 : Shape := ⟨3, ![2, 16, 768]⟩
abbrev S2x1x768 : Shape := ⟨3, ![2, 1, 768]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x768, .f32⟩
  | .hbm, ⟨3, _⟩ => ⟨S4x512x1024, .bf16⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x2x768, .f32⟩
  | .hbm, ⟨14, _⟩ => ⟨S2x16x768, .f32⟩
  | .hbm, ⟨15, _⟩ => ⟨S2x1x768, .f32⟩
  | .hbm, ⟨16, _⟩ => ⟨S2x16x768, .f32⟩
  | .hbm, ⟨17, _⟩ => ⟨S2x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== ScanFwd.lean ====
abbrev S2x2048x8192 : Shape := ⟨3, ![2, 2048, 8192]⟩
abbrev S2x2048 : Shape := ⟨2, ![2, 2048]⟩
abbrev S128 : Shape := ⟨1, ![128]⟩
abbrev S4096x4x2048 : Shape := ⟨3, ![4096, 4, 2048]⟩
abbrev S4x4096x2048 : Shape := ⟨3, ![4, 4096, 2048]⟩
abbrev S1x128 : Shape := ⟨2, ![1, 128]⟩
abbrev S4096x2048 : Shape := ⟨2, ![4096, 2048]⟩
abbrev S64x128x2048 : Shape := ⟨3, ![64, 128, 2048]⟩
abbrev S4x256x1024 : Shape := ⟨3, ![4, 256, 1024]⟩
abbrev S2x1024 : Shape := ⟨2, ![2, 1024]⟩
abbrev S256x1024 : Shape := ⟨2, ![256, 1024]⟩
abbrev S4x128x1024 : Shape := ⟨3, ![4, 128, 1024]⟩
abbrev S8x128x128 : Shape := ⟨3, ![8, 128, 128]⟩
abbrev S64x64 : Shape := ⟨2, ![64, 64]⟩
abbrev S2x128 : Shape := ⟨2, ![2, 128]⟩
abbrev S1x64x128 : Shape := ⟨3, ![1, 64, 128]⟩
abbrev S64x128 : Shape := ⟨2, ![64, 128]⟩
abbrev S128x128 : Shape := ⟨2, ![128, 128]⟩
abbrev S1x128x128 : Shape := ⟨3, ![1, 128, 128]⟩
abbrev S64 : Shape := ⟨1, ![64]⟩
abbrev S64x1 : Shape := ⟨2, ![64, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x2048x8192, .f32⟩
  | .hbm, ⟨1, _⟩ => ⟨S2x2048, .f32⟩
  | .hbm, ⟨2, _⟩ => ⟨S128, .f32⟩
  | .hbm, ⟨3, _⟩ => ⟨S4096x4x2048, .f32⟩
  | .hbm, ⟨4, _⟩ => ⟨S4x4096x2048, .f32⟩
  | .hbm, ⟨5, _⟩ => ⟨S1x128, .f32⟩
  | .hbm, ⟨6, _⟩ => ⟨S4096x2048, .bf16⟩
  | .hbm, ⟨7, _⟩ => ⟨S64x128x2048, .f32⟩
  | .local _ .vmem, ⟨0, _⟩ => ⟨S4x256x1024, .f32⟩
  | .local _ .vmem, ⟨1, _⟩ => ⟨S4x256x1024, .f32⟩
  | .local _ .vmem, ⟨2, _⟩ => ⟨S2x1024, .f32⟩
  | .local _ .vmem, ⟨3, _⟩ => ⟨S2x1024, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | .local _ .vmem, ⟨7, _⟩ => ⟨S4x128x1024, .f32⟩
  | .local _ .vmem, ⟨8, _⟩ => ⟨S4x128x1024, .f32⟩
  | .local _ .vmem, ⟨9, _⟩ => ⟨S8x128x128, .f32⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![c0_i32.toNat, v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![v1.toNat, c0_i32.toNat, arg0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== WinBwd.lean ====
abbrev S2x2048x1024 : Shape := ⟨3, ![2, 2048, 1024]⟩
abbrev S2x2048x8192 : Shape := ⟨3, ![2, 2048, 8192]⟩
abbrev S4096x4x2048 : Shape := ⟨3, ![4096, 4, 2048]⟩
abbrev S4x4096x2048 : Shape := ⟨3, ![4, 4096, 2048]⟩
abbrev S4096x1024 : Shape := ⟨2, ![4096, 1024]⟩
abbrev S4x1024x2048 : Shape := ⟨3, ![4, 1024, 2048]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x8192, .bf16⟩
  | .hbm, ⟨2, _⟩ => ⟨S4096x4x2048, .bf16⟩
  | .hbm, ⟨3, _⟩ => ⟨S4x4096x2048, .bf16⟩
  | .hbm, ⟨4, _⟩ => ⟨S4096x1024, .bf16⟩
  | .hbm, ⟨5, _⟩ => ⟨S4x1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S2x2048x1024 : Shape := ⟨3, ![2, 2048, 1024]⟩
abbrev S2x2048x8192 : Shape := ⟨3, ![2, 2048, 8192]⟩
abbrev S4096x1024 : Shape := ⟨2, ![4096, 1024]⟩
abbrev S_ : Shape := ⟨0, ![]⟩
abbrev S1024x8192 : Shape := ⟨2, ![1024, 8192]⟩
abbrev S4096x8192 : Shape := ⟨2, ![4096, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x8192, .bf16⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S1024x8192, .f32⟩
  | .hbm, ⟨6, _⟩ => ⟨S4096x8192, .f32⟩
  | .hbm, ⟨7, _⟩ => ⟨S4096x8192, .bf16⟩
  | .hbm, ⟨8, _⟩ => ⟨S4096x8192, .f32⟩
  | .hbm, ⟨9, _⟩ => ⟨S8192x1024, .f32⟩
  | .hbm, ⟨10, _⟩ => ⟨S1024x8192, .f32⟩
  | .hbm, ⟨11, _⟩ => ⟨S1024x8192, .bf16⟩
  | .hbm, ⟨12, _⟩ => ⟨S1024x4x2048, .bf16⟩
  | .hbm, ⟨13, _⟩ => ⟨S4x1024x2048, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== WoutBwd.lean ====
abbrev S4096x2048 : Shape := ⟨2, ![4096, 2048]⟩
abbrev S4096x1024 : Shape := ⟨2, ![4096, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SumParts.lean ====
abbrev S4x1024x2048 : Shape := ⟨3, ![4, 1024, 2048]⟩
abbrev S3x1024x2048 : Shape := ⟨3, ![3, 1024, 2048]⟩
abbrev S_ : Shape := ⟨0, ![]⟩
abbrev S1 : Shape := ⟨1, ![1]⟩
abbrev S1024x2048 : Shape := ⟨2, ![1024, 2048]⟩
abbrev S1x256x2048 : Shape := ⟨3, ![1, 256, 2048]⟩
abbrev S3x256x2048 : Shape := ⟨3, ![3, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x1024x2048, .bf16⟩
  | .hbm, ⟨1, _⟩ => ⟨S3x1024x2048, .bf16⟩
  | .hbm, ⟨2, _⟩ => ⟨S_, .i32⟩
  | .hbm, ⟨3, _⟩ => ⟨S1024x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S3x256x2048, .bf16⟩
  | .local _ .vmem, ⟨3, _⟩ => ⟨S3x256x2048, .bf16⟩
  | .local _ .vmem, ⟨4, _⟩ => ⟨S256x2048, .bf16⟩
  | .local _ .vmem, ⟨5, _⟩ => ⟨S256x2048, .bf16⟩
  | .local _ .smem, ⟨0, _⟩ => ⟨S1, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumRefIdeal.lean ====
abbrev S4x1024x2048 : Shape := ⟨3, ![4, 1024, 2048]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S3x1024x2048, .bf16⟩
  | .hbm, ⟨2, _⟩ => ⟨S1x1024x2048, .bf16⟩
  | .hbm, ⟨3, _⟩ => ⟨S1024x2048, .bf16⟩
  | .hbm, ⟨4, _⟩ => ⟨S1024x2048, .f32⟩
  | .hbm, ⟨5, _⟩ => ⟨S3x1024x2048, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S1024x2048, .bf16⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PairUpd.lean ====
abbrev S1024x2048 : Shape := ⟨2, ![1024, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PairRefIdeal.lean ====
abbrev S1024x2048 : Shape := ⟨2, ![1024, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Gate.Outs.lean ====
/-
  What one grid point of the gate's backward call leaves in its three output blocks: the pieces the frame's run
  found, read back as the body's own payloads of the input blocks.
-/
module

public import proofs.«01_k».proof.Proof.Gen.GateBwdIdeal.Value
public import Idealize.ShloMosaic.Lib.Pointwise
public import Idealize.ShloMosaic.Lib.ValueIdx

@[expose] public section

set_option maxRecDepth 16384

noncomputable section

namespace Cert.GateBwdIdeal.Outs

open Cert.GateBwdIdeal Cert.GateBwdIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt F) ℓ)

/-- At an even point (a sequence's first half) the three blocks left are the payloads of the input blocks. -/
theorem outs_A (c : Dev nD) (t : Fin cfg0.N) (h1 : t.val % 2 = 0) (h2 : ¬t.val % 2 = 1) :
    outsAt0 m c t.val t.isLt
      = (k0_pay2 (k0_pay4 (iblk m c 0 t) (iblk m c 2 t)) (iblk m c 3 t),
         k0_pay4 (iblk m c 0 t) (iblk m c 2 t),
         k0_pay6 (iblk m c 0 t) (iblk m c 1 t)) := by
  rw [outsAt0_A m c t h1 h2]
  refine Prod.ext ?_ (Prod.ext ?_ ?_) <;> dsimp only
  · unfold out0_A_4
    rw [View.read_writes_eq_canon _ _ _ (cover0_A_4 c _ _ (hs0_0 t) _ (hs0_1 t) _ (hs0_2 t) _ (hs0_3 t) _ (hs0_4 t) _ (hs0_5 t) _ (hs0_6 t) _ _ _ _ _ _ _)]
    unfold kernelRun0_A
    dsimp only
    sl_unfold_words
    rw [View.canon_unit_zero hz2]
    simp only [View.readAt_eq_ld, (hs0_0 t).read_unread, (hs0_2 t).read_unread, (hs0_3 t).read_unread,
      View.ld_unit_zero (S := S1024x1024) hz2, View.ld_unit_zero (S := S2048x1024) hz2, View.ld_unit_zero (S := S1x1x3072) hz3,
      View.readCov_unit_zero (S := S1024x1024) _ hz2]
  · unfold out0_A_5
    rw [View.read_writes_eq_canon _ _ _ (cover0_A_5 c _ _ (hs0_0 t) _ (hs0_1 t) _ (hs0_2 t) _ (hs0_3 t) _ (hs0_4 t) _ (hs0_5 t) _ (hs0_6 t) _ _ _ _ _ _ _)]
    unfold kernelRun0_A
    dsimp only
    sl_unfold_words
    rw [View.canon_unit_zero hz2]
    simp only [View.readAt_eq_ld, (hs0_0 t).read_unread, (hs0_2 t).read_unread,
      View.ld_unit_zero (S := S1024x1024) hz2, View.ld_unit_zero (S := S1x1x3072) hz3]
  · unfold out0_A_6
    rw [View.read_writes_eq_canon _ _ _ (cover0_A_6 c _ _ (hs0_0 t) _ (hs0_1 t) _ (hs0_2 t) _ (hs0_3 t) _ (hs0_4 t) _ (hs0_5 t) _ (hs0_6 t) _ _ _ _ _ _ _)]
    unfold kernelRun0_A
    dsimp only
    sl_unfold_words
    rw [View.canon_unit_zero hz3]
    simp only [View.readAt_eq_ld, (hs0_0 t).read_unread, (hs0_1 t).read_unread,
      View.ld_unit_zero (S := S1024x1024) hz2]

/-- At an odd point (a sequence's second half) the gate's block is what the point before left plus this point's row. -/
theorem outs_B (c : Dev nD) (t : Fin cfg0.N) (h1 : ¬t.val % 2 = 0) (h2 : t.val % 2 = 1) :
    outsAt0 m c t.val t.isLt
      = (k0_pay2 (k0_pay4 (iblk m c 0 t) (iblk m c 2 t)) (iblk m c 3 t),
         k0_pay4 (iblk m c 0 t) (iblk m c 2 t),
         k0_pay1 (k0_pay5 (iblk m c 0 t) (iblk m c 1 t))
           (outsAt0 m c (t.val - 1) (Nat.lt_of_le_of_lt (Nat.sub_le _ _) t.isLt)).2.2) := by
  rw [outsAt0_B m c t h1 h2]
  generalize (outsAt0 m c (t.val - 1) (Nat.lt_of_le_of_lt (Nat.sub_le _ _) t.isLt)).2.2 = xo
  refine Prod.ext ?_ (Prod.ext ?_ ?_) <;> dsimp only
  · unfold out0_B_4
    rw [View.read_writes_eq_canon _ _ _ (cover0_B_4 c _ _ (hs0_0 t) _ (hs0_1 t) _ (hs0_2 t) _ (hs0_3 t) _ (hs0_4 t) _ (hs0_5 t) _ (hs0_6 t) _ _ _ _ _ _ _ _)]
    unfold kernelRun0_B
    dsimp only
    sl_unfold_words
    rw [View.canon_unit_zero hz2]
    simp only [View.readAt_eq_ld, (hs0_0 t).read_unread, (hs0_2 t).read_unread, (hs0_3 t).read_unread,
      View.ld_unit_zero (S := S1024x1024) hz2, View.ld_unit_zero (S := S2048x1024) hz2, View.ld_unit_zero (S := S1x1x3072) hz3,
      View.readCov_unit_zero (S := S1024x1024) _ hz2]
  · unfold out0_B_5
    rw [View.read_writes_eq_canon _ _ _ (cover0_B_5 c _ _ (hs0_0 t) _ (hs0_1 t) _ (hs0_2 t) _ (hs0_3 t) _ (hs0_4 t) _ (hs0_5 t) _ (hs0_6 t) _ _ _ _ _ _ _ _)]
    unfold kernelRun0_B
    dsimp only
    sl_unfold_words
    rw [View.canon_unit_zero hz2]
    simp only [View.readAt_eq_ld, (hs0_0 t).read_unread, (hs0_2 t).read_unread,
      View.ld_unit_zero (S := S1024x1024) hz2, View.ld_unit_zero (S := S1x1x3072) hz3]
  · unfold out0_B_6
    rw [View.read_writes_eq_canon _ _ _ (cover0_B_6 c _ _ (hs0_0 t) _ (hs0_1 t) _ (hs0_2 t) _ (hs0_3 t) _ (hs0_4 t) _ (hs0_5 t) _ (hs0_6 t) _ _ _ _ _ _ _ _)]
    unfold kernelRun0_B
    dsimp only
    sl_unfold_words
    rw [View.canon_unit_zero hz3]
    simp only [View.readAt_eq_ld, (hs0_0 t).read_unread, (hs0_1 t).read_unread, (hs0_6 t).read_unread,
      View.ld_unit_zero (S := S1024x1024) hz2, View.ld_unit_zero (S := S1x1x1024) hz3]

end Cert.GateBwdIdeal.Outs
-- ==== Proof.Gate.Value.lean ====
/-
  The gate's backward call, read as values over the extended reals: what each output array ends holding, element by
  element, beside the reference's terms.
-/
module

public import proofs.«01_k».proof.Proof.Gate.Outs
public import proofs.«01_k».proof.Proof.Gen.GateRefIdeal.Read

@[expose] public section

set_option maxRecDepth 16384

noncomputable section

namespace Cert.GateBwdIdeal.Arrays

open Cert.GateBwdIdeal Cert.GateBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The block every window names at a point: point `t` works on row tile `t` and on sequence `t / 2`. -/
theorem index_facts : ∀ t : Fin grid0.N,
    (win0_0.index t 0 = t.val ∧ win0_0.index t 1 = 0) ∧ (win0_1.index t 0 = t.val ∧ win0_1.index t 1 = 0)
    ∧ (win0_2.index t 0 = t.val / 2 ∧ win0_2.index t 1 = 0 ∧ win0_2.index t 2 = 0)
    ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val / 2 ∧ win0_6.index t 1 = 0 ∧ win0_6.index t 2 = 0) := by
  decide +kernel

/-- The cotangent of the branch's gated output. -/
abbrev CT : Vec Ideal S2x2048x1024 .f32 := m ((c : Thread nD τ).loc main_arg0)
/-- The projection's left operand. -/
abbrev Y : Vec Ideal S2x2048x2048 .bf16 := m ((c : Thread nD τ).loc main_arg1)
/-- The projection's weights. -/
abbrev W : Vec Ideal S2048x1024 .bf16 := m ((c : Thread nD τ).loc main_arg2)
/-- The modulation rows (shift, scale, gate). -/
abbrev MOD : Vec Ideal S2x3072 .f32 := m ((c : Thread nD τ).loc main_arg3)

/-- The region finds the cotangent as the host's reshape of the first argument. -/
theorem V_v3 : V m c main_v3 = shapeCast S4096x1024 (CT m c) shapeCasts_S2x2048x1024_S4096x1024 := by
  unfold V
  after_results
  rfl

/-- The region finds the modulation as the host's reshape of the last argument. -/
theorem V_v4 : V m c main_v4 = shapeCast S2x1x3072 (MOD m c) shapeCasts_S2x3072_S2x1x3072 := by
  unfold V
  after_results
  rfl

/-- The saved branch output, as the host computes it: the rounded product of the second and third arguments. -/
abbrev saved : FVec Ideal S4096x1024 .bf16 :=
  truncf (F := Ideal) .bf16 (Host.dotGeneral (F := Ideal) (φ₁ := .bf16) (φ₂ := .bf16) dot_S4096x2048_S2048x1024_S4096x1024_1_0_0_1_n_n none
      (shapeCast S4096x2048 (Y m c) shapeCasts_S2x2048x2048_S4096x2048) (W m c)) bitsLt_bf16_f32

theorem V_v2 : V m c main_v2 = saved m c := by
  unfold V
  after_results
  rfl

theorem lt4 (t : Fin cfg0.N) : t.val < 4 := by have := t.isLt; have : cfg0.N = 4 := N_0; omega

/-- Row `r` of point `t`'s tile is row `1024 (t % 2) + r` of sequence `t / 2`. -/
abbrev seqOf (t : Fin cfg0.N) : Fin 2 := ⟨t.val / 2, by have := lt4 t; omega⟩
abbrev rowOf (t : Fin cfg0.N) (r : Fin 1024) : Fin 2048 := ⟨1024 * (t.val % 2) + r.val, by omega⟩
abbrev flatOf (t : Fin cfg0.N) (r : Fin 1024) : Fin 4096 := ⟨1024 * t.val + r.val, by have := lt4 t; omega⟩

/-- Rows of the flattened cotangent. -/
theorem flat_ct (x : Vec Ideal S2x2048x1024 .f32) (t : Fin cfg0.N) (r k : Fin 1024) :
    shapeCast S4096x1024 x shapeCasts_S2x2048x1024_S4096x1024 (ix2 (flatOf t r) k) = x (ix3 (seqOf t) (rowOf t r) k) := by
  refine shapeCast_apply _ _ _ _ ?_
  rw [Shape.rowMajor_val_three, Shape.rowMajor_val_two]
  show ((t.val / 2) * 2048 + (1024 * (t.val % 2) + r.val)) * 1024 + k.val = (1024 * t.val + r.val) * 1024 + k.val
  omega

/-- Rows of the flattened left operand. -/
theorem flat_y (x : Vec Ideal S2x2048x2048 .bf16) (t : Fin cfg0.N) (r : Fin 1024) (k : Fin 2048) :
    shapeCast S4096x2048 x shapeCasts_S2x2048x2048_S4096x2048 (ix2 (flatOf t r) k) = x (ix3 (seqOf t) (rowOf t r) k) := by
  refine shapeCast_apply _ _ _ _ ?_
  rw [Shape.rowMajor_val_three, Shape.rowMajor_val_two]
  show ((t.val / 2) * 2048 + (1024 * (t.val % 2) + r.val)) * 2048 + k.val = (1024 * t.val + r.val) * 2048 + k.val
  omega

/-- The cotangent's block at a point. -/
theorem iblk0_apply (t : Fin cfg0.N) (r k : Fin 1024) :
    iblk m c 0 t (ix2 r k) = CT m c (ix3 (seqOf t) (rowOf t r) k) := by
  obtain ⟨⟨e0, e1⟩, -⟩ := index_facts t
  rw [← flat_ct (CT m c), ← V_v3]
  unfold iblk
  rw [View.read_apply]
  refine congrArg (V m c main_v3) (Shape.idx_ext₂ ?_ ?_)
  · show win0_0.index t 0 * 1024 + 1 * r.val = 1024 * t.val + r.val
    rw [e0]; omega
  · show win0_0.index t 1 * 1024 + 1 * k.val = k.val
    rw [e1]; omega

/-- The saved output's block at a point: the product of the second and third arguments. -/
theorem iblk1_apply (t : Fin cfg0.N) (r k : Fin 1024) :
    iblk m c 1 t (ix2 r k) = (∑ e : Fin 2048, Y m c (ix3 (seqOf t) (rowOf t r) e) * W m c (ix2 e k) : EReal) := by
  obtain ⟨-, ⟨e0, e1⟩, -⟩ := index_facts t
  have h : iblk m c 1 t (ix2 r k) = saved m c (ix2 (flatOf t r) k) := by
    rw [← V_v2]
    unfold iblk
    rw [View.read_apply]
    refine congrArg (V m c main_v2) (Shape.idx_ext₂ ?_ ?_)
    · show win0_1.index t 0 * 1024 + 1 * r.val = 1024 * t.val + r.val
      rw [e0]; omega
    · show win0_1.index t 1 * 1024 + 1 * k.val = k.val
      rw [e1]; omega
  rw [h]
  simp only [← flat_y (Y m c)]
  generalize hy : shapeCast S4096x2048 (Y m c) shapeCasts_S2x2048x2048_S4096x2048 = y
  unfold saved
  rw [hy]
  pointwise

/-- The modulation's block at a point: the sequence's row. -/
theorem iblk2_apply (t : Fin cfg0.N) (k : Fin 3072) :
    iblk m c 2 t (ix3 0 0 k) = MOD m c (ix2 (seqOf t) k) := by
  obtain ⟨-, -, ⟨e0, e1, e2⟩, -⟩ := index_facts t
  unfold iblk
  rw [View.read_apply]
  show V m c main_v4 _ = _
  rw [V_v4]
  refine shapeCast_apply _ _ _ _ ?_
  rw [Shape.rowMajor_val_three, Shape.rowMajor_val_two]
  show t.val / 2 * 3072 + k.val = ((win0_2.index t 0 * 1 + 1 * 0) * 1 + (win0_2.index t 1 * 1 + 1 * 0)) * 3072
    + (win0_2.index t 2 * 3072 + 1 * k.val)
  rw [e0, e1, e2]; omega

/-- The weights' block at a point: all of them. -/
theorem iblk3_apply (t : Fin cfg0.N) (e : Fin 2048) (k : Fin 1024) :
    iblk m c 3 t (ix2 e k) = W m c (ix2 e k) := by
  obtain ⟨-, -, -, ⟨e0, e1⟩, -⟩ := index_facts t
  unfold iblk
  rw [View.read_apply]
  show V m c main_arg2 _ = _
  rw [V_main_arg2]
  refine congrArg (W m c) (Shape.idx_ext₂ ?_ ?_)
  · show win0_3.index t 0 * 2048 + 1 * e.val = e.val
    rw [e0]; omega
  · show win0_3.index t 1 * 1024 + 1 * k.val = k.val
    rw [e1]; omega

/-! ## The three payloads at an index -/

theorem pay4_apply (x : Vec Ideal S1024x1024 .f32) (g : Vec Ideal S1x1x3072 .f32) (r k : Fin 1024) :
    k0_pay4 (F := Ideal) x g (ix2 r k) = (g (ix3 0 0 ⟨2048 + k.val, by omega⟩) * x (ix2 r k) : EReal) := by
  unfold_payloads
  pointwise

theorem pay2_apply (x : Vec Ideal S1024x1024 .bf16) (w : Vec Ideal S2048x1024 .bf16) (r : Fin 1024) (j : Fin 2048) :
    k0_pay2 (F := Ideal) x w (ix2 r j) = (∑ k : Fin 1024, x (ix2 r k) * w (ix2 j k) : EReal) := by
  unfold_payloads
  pointwise

theorem pay5_apply (x : Vec Ideal S1024x1024 .f32) (o : Vec Ideal S1024x1024 .bf16) (k : Fin 1024) :
    k0_pay5 (F := Ideal) x o (ix2 0 k) = (∑ r : Fin 1024, x (ix2 r k) * o (ix2 r k) : EReal) := by
  unfold_payloads
  pointwise

theorem pay6_apply (x : Vec Ideal S1024x1024 .f32) (o : Vec Ideal S1024x1024 .bf16) (k : Fin 1024) :
    k0_pay6 (F := Ideal) x o (ix3 0 0 k) = (∑ r : Fin 1024, x (ix2 r k) * o (ix2 r k) : EReal) := by
  unfold_payloads
  pointwise

theorem pay1_apply (v : Vec Ideal S1x1024 .f32) (o : Vec Ideal S1x1x1024 .f32) (k : Fin 1024) :
    k0_pay1 (F := Ideal) v o (ix3 0 0 k) = (o (ix3 0 0 k) + v (ix2 0 k) : EReal) := by
  unfold_payloads
  pointwise

end Cert.GateBwdIdeal.Arrays
-- ==== Proof.Gate.Final.lean ====
/-
  The gate's backward call against the reference: each of its three output arrays ends holding the reference's term.
-/
module

public import proofs.«01_k».proof.Proof.Gate.Value

@[expose] public section

set_option maxRecDepth 16384

noncomputable section

namespace Cert.GateBwdIdeal.Arrays

open Cert.GateBwdIdeal Cert.GateBwdIdeal.Gen Idealize.ShloMosaic Idealize.ShloMosaic.TcCoe Idealize.SL.Sem
open Idealize.ShloMosaic.Pipeline (Dat)
open Cert.GateBwdIdeal.Outs (outs_A outs_B)
open Cert.GateRefIdeal.Read

variable (m : (ℓ : Loc nD τ sig) → Buf (Elt Ideal) ℓ) (c : Dev nD)

/-! ## The reference at an index -/

/-- The reference's gated cotangent before the flattening. -/
theorem ref_v8 (b : Fin 2) (s : Fin 2048) (k : Fin 1024) :
    val_main_v8 (F := Ideal) (CT m c) (MOD m c) (ix3 b s k)
      = (MOD m c (ix2 b ⟨2048 + k.val, by omega⟩) * CT m c (ix3 b s k) : EReal) := by
  rw [val_main_v8_apply, val_main_v7_apply, val_main_v4_apply, val_main_v3_apply]
  exact congrArg (· * CT m c (ix3 b s k)) (congrArg (MOD m c) (Shape.idx_ext₂ rfl rfl))

/-- The product's gradient, `gate ⊙ ct`, at a row of a tile. -/
theorem ref_dout (t : Fin cfg0.N) (r k : Fin 1024) :
    val_main_v16 (F := Ideal) (CT m c) (MOD m c) (ix2 (flatOf t r) k)
      = (MOD m c (ix2 (seqOf t) ⟨2048 + k.val, by omega⟩) * CT m c (ix3 (seqOf t) (rowOf t r) k) : EReal) := by
  rw [← ref_v8, ← flat_ct (fun i => val_main_v8 (F := Ideal) (CT m c) (MOD m c) i)]
  rfl

/-- The left operand's gradient, `(gate ⊙ ct) wᵀ`, at a row of a tile. -/
theorem ref_dy (t : Fin cfg0.N) (r : Fin 1024) (j : Fin 2048) :
    val_main_v14 (F := Ideal) (CT m c) (W m c) (MOD m c) (ix2 (flatOf t r) j)
      = (∑ k : Fin 1024, MOD m c (ix2 (seqOf t) ⟨2048 + k.val, by omega⟩) * CT m c (ix3 (seqOf t) (rowOf t r) k)
          * W m c (ix2 j k) : EReal) := by
  have h : val_main_v14 (F := Ideal) (CT m c) (W m c) (MOD m c) (ix2 (flatOf t r) j)
      = val_main_v12 (F := Ideal) (CT m c) (W m c) (MOD m c) (ix3 (seqOf t) (rowOf t r) j) := by
    rw [← flat_y (fun i => val_main_v12 (F := Ideal) (CT m c) (W m c) (MOD m c) i)]
    rfl
  rw [h, val_main_v12_apply]
  refine Finset.sum_congr rfl fun k _ => ?_
  rw [← ref_v8, val_main_v1_apply]
  refine congrArg₂ (· * ·) (congrArg _ ?_) (congrArg (W m c) (Shape.idx_ext₂ rfl rfl))
  funext a
  match a with
  | ⟨0, _⟩ => rfl
  | ⟨1, _⟩ => rfl
  | ⟨2, _⟩ => rfl

/-- The gate's gradient: over a sequence's rows, the cotangent times the branch's output. -/
theorem ref_dgate (b : Fin 2) (k : Fin 1024) :
    val_main_v11 (F := Ideal) (CT m c) (Y m c) (W m c) (ix3 b 0 k)
      = (∑ s : Fin 2048, CT m c (ix3 b s k) * ∑ e : Fin 2048, Y m c (ix3 b s e) * W m c (ix2 e k) : EReal) := by
  have h : val_main_v11 (F := Ideal) (CT m c) (Y m c) (W m c) (ix3 b 0 k)
      = val_main_v10 (F := Ideal) (CT m c) (Y m c) (W m c) (ix2 b k) := by
    unfold val_main_v11
    refine shapeCast_apply _ _ _ _ ?_
    rw [Shape.rowMajor_val_three, Shape.rowMajor_val_two]
    show b.val * 1024 + k.val = (b.val * 1 + 0) * 1024 + k.val
    omega
  rw [h, val_main_v10_apply, val_main_cst_apply]
  rw [show (FloatOps.ofBits (F := Ideal) .f32 0x00000000#32 : EReal) = 0 from Ideal.ofBits_zero .f32, zero_add]
  refine Finset.sum_congr rfl fun s _ => ?_
  rw [val_main_v9_apply, val_main_v2_apply]
  refine congrArg₂ (· * ·) (congrArg (CT m c) ?_) (Finset.sum_congr rfl fun e _ => ?_)
  · funext a
    match a with
    | ⟨0, _⟩ => rfl
    | ⟨1, _⟩ => rfl
    | ⟨2, _⟩ => rfl
  · rw [val_main_v0_apply, val_main_v1_apply]
    refine congrArg₂ (· * ·) (congrArg (Y m c) ?_) (congrArg (W m c) (Shape.idx_ext₂ rfl rfl))
    funext a
    match a with
    | ⟨0, _⟩ => rfl
    | ⟨1, _⟩ => rfl
    | ⟨2, _⟩ => rfl

/-! ## The blocks the points leave -/

/-- Both cases leave the same first two blocks. -/
theorem outs_fst (t : Fin cfg0.N) :
    (outsAt0 m c t.val t.isLt).1 = k0_pay2 (k0_pay4 (iblk m c 0 t) (iblk m c 2 t)) (iblk m c 3 t)
    ∧ (outsAt0 m c t.val t.isLt).2.1 = k0_pay4 (iblk m c 0 t) (iblk m c 2 t) := by
  by_cases h : t.val % 2 = 0
  · rw [outs_A m c t h (by omega)]; exact ⟨rfl, rfl⟩
  · rw [outs_B m c t h (by omega)]; exact ⟨rfl, rfl⟩

theorem tile_dout (t : Fin cfg0.N) (r k : Fin 1024) :
    (outsAt0 m c t.val t.isLt).2.1 (ix2 r k) = val_main_v16 (F := Ideal) (CT m c) (MOD m c) (ix2 (flatOf t r) k) := by
  rw [(outs_fst m c t).2, pay4_apply, iblk0_apply, iblk2_apply, ref_dout]

theorem tile_dy (t : Fin cfg0.N) (r : Fin 1024) (j : Fin 2048) :
    (outsAt0 m c t.val t.isLt).1 (ix2 r j) = val_main_v14 (F := Ideal) (CT m c) (W m c) (MOD m c) (ix2 (flatOf t r) j) := by
  rw [(outs_fst m c t).1, pay2_apply, ref_dy]
  refine Finset.sum_congr rfl fun k _ => ?_
  rw [pay4_apply, iblk0_apply, iblk2_apply, iblk3_apply]

/-- A sum over a sequence's rows is the sum over its two tiles. -/
theorem sum_tiles (f : Fin 2048 → EReal) :
    ∑ s, f s = ∑ r : Fin 1024, f ⟨r.val, by omega⟩ + ∑ r : Fin 1024, f ⟨1024 + r.val, by omega⟩ :=
  Fin.sum_univ_add (a := 1024) (b := 1024) f

/-- After a sequence's second tile the gate's block is the whole sum. -/
theorem tile_dgate (t : Fin cfg0.N) (ht : t.val % 2 = 1) (k : Fin 1024) :
    (outsAt0 m c t.val t.isLt).2.2 (ix3 0 0 k)
      = val_main_v11 (F := Ideal) (CT m c) (Y m c) (W m c) (ix3 (seqOf t) 0 k) := by
  have hlt : t.val - 1 < cfg0.N := Nat.lt_of_le_of_lt (Nat.sub_le _ _) t.isLt
  rw [outs_B m c t (by omega) ht, ref_dgate, sum_tiles]
  have hA := outs_A m c ⟨t.val - 1, hlt⟩ (by show (t.val - 1) % 2 = 0; omega) (by show ¬(t.val - 1) % 2 = 1; omega)
  dsimp only at hA ⊢
  rw [pay1_apply, pay5_apply, hA]
  dsimp only
  rw [pay6_apply]
  refine congrArg₂ (· + ·) (Finset.sum_congr rfl fun r _ => ?_) (Finset.sum_congr rfl fun r _ => ?_)
  · rw [iblk0_apply, iblk1_apply]
    have e1 : seqOf ⟨t.val - 1, hlt⟩ = seqOf t := Fin.ext (by show (t.val - 1) / 2 = t.val / 2; omega)
    have e2 : rowOf ⟨t.val - 1, hlt⟩ r = ⟨r.val, by omega⟩ := Fin.ext (by show 1024 * ((t.val - 1) % 2) + r.val = r.val; omega)
    rw [e1, e2]
  · rw [iblk0_apply, iblk1_apply]
    have e2 : rowOf t r = ⟨1024 + r.val, by omega⟩ := Fin.ext (by show 1024 * (t.val % 2) + r.val = 1024 + r.val; omega)
    rw [e2]

/-! ## The arrays after the run -/

/-- Every element of the array is in a block some point writes back. -/
theorem cover4 (i : S4096x2048.Idx) : ∃ t, (cfg0.win 4).flush t = true ∧ i ∈ ((cfg0.win 4).blk t).view.set := by
  have h0 : (i 0 : Nat) < 4096 := (i 0).isLt
  have h1 : (i 1 : Nat) < 2048 := (i 1).isLt
  have hN : cfg0.N = 4 := N_0
  have ht : (i 0).val / 1024 < cfg0.N := by rw [hN]; omega
  refine ⟨⟨_, ht⟩, flush0_4 _, ?_⟩
  obtain ⟨-, -, -, -, ⟨e0, e1⟩, -⟩ := index_facts ⟨_, ht⟩
  show i ∈ ((View.whole main_v5_0).slice (win0_4.rect ⟨_, ht⟩)).set
  rw [View.set_slice_whole, Rect.mem_set_unit]
  intro a
  match a with
  | ⟨0, _⟩ =>
    show win0_4.index _ 0 * 1024 ≤ (i 0 : Nat) ∧ (i 0 : Nat) < win0_4.index _ 0 * 1024 + 1024
    rw [e0]; dsimp only; omega
  | ⟨1, _⟩ =>
    show win0_4.index _ 1 * 2048 ≤ (i 1 : Nat) ∧ (i 1 : Nat) < win0_4.index _ 1 * 2048 + 2048
    rw [e1]; omega

/-- The left operand's gradient is the reference's. -/
theorem final4 : (dats m 0 c).arrAt 4 cfg0.N = val_main_v14 (F := Ideal) (CT m c) (W m c) (MOD m c) := by
  refine (dats m 0 c).arrAt_eq_of_cover 4 _ (fun t _ => ?_) cover4
  obtain ⟨-, -, -, -, ⟨e0, e1⟩, -⟩ := index_facts t
  show (cfg0.win 4).cut (grid0.coords t) ((dats m 0 c).after 4 t) = _
  rw [after0_4]
  funext y
  refine (congrArg (outsAt0 m c t.val t.isLt).1 (eq_ix2 (n0 := 1024) (n1 := 2048) y)).trans ?_
  refine (tile_dy m c t (y 0) (y 1)).trans ?_
  rw [View.read_apply]
  refine congrArg (val_main_v14 (F := Ideal) (CT m c) (W m c) (MOD m c)) (Shape.idx_ext₂ ?_ ?_)
  · show 1024 * t.val + (y 0).val = win0_4.index t 0 * 1024 + 1 * (y 0).val
    rw [e0]; omega
  · show (y 1).val = win0_4.index t 1 * 2048 + 1 * (y 1).val
    rw [e1]; omega

/-- Every element of the array is in a block some point writes back. -/
theorem cover5 (i : S4096x1024.Idx) : ∃ t, (cfg0.win 5).flush t = true ∧ i ∈ ((cfg0.win 5).blk t).view.set := by
  have h0 : (i 0 : Nat) < 4096 := (i 0).isLt
  have h1 : (i 1 : Nat) < 1024 := (i 1).isLt
  have hN : cfg0.N = 4 := N_0
  have ht : (i 0).val / 1024 < cfg0.N := by rw [hN]; omega
  refine ⟨⟨_, ht⟩, flush0_5 _, ?_⟩
  obtain ⟨-, -, -, -, -, ⟨e0, e1⟩, -⟩ := index_facts ⟨_, ht⟩
  show i ∈ ((View.whole main_v5_1).slice (win0_5.rect ⟨_, ht⟩)).set
  rw [View.set_slice_whole, Rect.mem_set_unit]
  intro a
  match a with
  | ⟨0, _⟩ =>
    show win0_5.index _ 0 * 1024 ≤ (i 0 : Nat) ∧ (i 0 : Nat) < win0_5.index _ 0 * 1024 + 1024
    rw [e0]; dsimp only; omega
  | ⟨1, _⟩ =>
    show win0_5.index _ 1 * 1024 ≤ (i 1 : Nat) ∧ (i 1 : Nat) < win0_5.index _ 1 * 1024 + 1024
    rw [e1]; omega

/-- The product's gradient is the reference's. -/
theorem final5 : (dats m 0 c).arrAt 5 cfg0.N = val_main_v16 (F := Ideal) (CT m c) (MOD m c) := by
  refine (dats m 0 c).arrAt_eq_of_cover 5 _ (fun t _ => ?_) cover5
  obtain ⟨-, -, -, -, -, ⟨e0, e1⟩, -⟩ := index_facts t
  show (cfg0.win 5).cut (grid0.coords t) ((dats m 0 c).after 5 t) = _
  rw [after0_5]
  funext y
  refine (congrArg (outsAt0 m c t.val t.isLt).2.1 (eq_ix2 (n0 := 1024) (n1 := 1024) y)).trans ?_
  refine (tile_dout m c t (y 0) (y 1)).trans ?_
  rw [View.read_apply]
  refine congrArg (val_main_v16 (F := Ideal) (CT m c) (MOD m c)) (Shape.idx_ext₂ ?_ ?_)
  · show 1024 * t.val + (y 0).val = win0_5.index t 0 * 1024 + 1 * (y 0).val
    rw [e0]; omega
  · show (y 1).val = win0_5.index t 1 * 1024 + 1 * (y 1).val
    rw [e1]; omega

/-- Every element of the array is in a block some point writes back. -/
theorem cover6 (i : S2x1x1024.Idx) : ∃ t, (cfg0.win 6).flush t = true ∧ i ∈ ((cfg0.win 6).blk t).view.set := by
  have h0 : (i 0 : Nat) < 2 := (i 0).isLt
  have h1 : (i 1 : Nat) < 1 := (i 1).isLt
  have h2 : (i 2 : Nat) < 1024 := (i 2).isLt
  have hN : cfg0.N = 4 := N_0
  have ht : 2 * (i 0).val + 1 < cfg0.N := by rw [hN]; omega
  refine ⟨⟨_, ht⟩, (flush0_6 _).mpr (by show (2 * (i 0).val + 1) % 2 = 1; omega), ?_⟩
  obtain ⟨-, -, -, -, -, -, ⟨e0, e1, e2⟩⟩ := index_facts ⟨_, ht⟩
  show i ∈ ((View.whole main_v5_2).slice (win0_6.rect ⟨_, ht⟩)).set
  rw [View.set_slice_whole, Rect.mem_set_unit]
  intro a
  match a with
  | ⟨0, _⟩ =>
    show win0_6.index _ 0 * 1 ≤ (i 0 : Nat) ∧ (i 0 : Nat) < win0_6.index _ 0 * 1 + 1
    rw [e0]; dsimp only; omega
  | ⟨1, _⟩ =>
    show win0_6.index _ 1 * 1 ≤ (i 1 : Nat) ∧ (i 1 : Nat) < win0_6.index _ 1 * 1 + 1
    rw [e1]; omega
  | ⟨2, _⟩ =>
    show win0_6.index _ 2 * 1024 ≤ (i 2 : Nat) ∧ (i 2 : Nat) < win0_6.index _ 2 * 1024 + 1024
    rw [e2]; omega

/-- The gate's gradient is the reference's. -/
theorem final6 : (dats m 0 c).arrAt 6 cfg0.N = val_main_v11 (F := Ideal) (CT m c) (Y m c) (W m c) := by
  refine (dats m 0 c).arrAt_eq_of_cover 6 _ (fun t hf => ?_) cover6
  obtain ⟨-, -, -, -, -, -, ⟨e0, e1, e2⟩⟩ := index_facts t
  have ht := (flush0_6 t).mp hf
  show (cfg0.win 6).cut (grid0.coords t) ((dats m 0 c).after 6 t) = _
  rw [after0_6]
  funext y
  have hy : y = ix3 (n0 := 1) (n1 := 1) (n2 := 1024) 0 0 (y 2) := by
    funext a
    match a with
    | ⟨0, _⟩ => exact Subsingleton.elim (α := Fin 1) _ _
    | ⟨1, _⟩ => exact Subsingleton.elim (α := Fin 1) _ _
    | ⟨2, _⟩ => rfl
  refine (congrArg (outsAt0 m c t.val t.isLt).2.2 hy).trans ?_
  refine (tile_dgate m c t ht (y 2)).trans ?_
  rw [View.read_apply]
  have y0 : (y 0).val < 1 := (y 0).isLt
  have y1 : (y 1).val < 1 := (y 1).isLt
  refine congrArg (val_main_v11 (F := Ideal) (CT m c) (Y m c) (W m c)) (funext fun a => Fin.ext ?_)
  match a with
  | ⟨0, _⟩ => show t.val / 2 = win0_6.index t 0 * 1 + 1 * (y 0).val; rw [e0]; omega
  | ⟨1, _⟩ => show 0 = win0_6.index t 1 * 1 + 1 * (y 1).val; rw [e1]; omega
  | ⟨2, _⟩ => show (y 2).val = win0_6.index t 2 * 1024 + 1 * (y 2).val; rw [e2]; omega

end Cert.GateBwdIdeal.Arrays
-- ==== Proof.Gate.Claims.lean ====
/-
  The claims about the gate's backward call, assembled: the reference's frame and the equality of the two programs.
-/
module

public import proofs.«01_k».proof.Defs
public import proofs.«01_k».proof.Proof.Gate.Final
public import proofs.«01_k».proof.Proof.Gen.GateRefIdeal
public import proofs.«01_k».proof.Proof.Gen.GateRefIdeal.Run
public import Idealize.ShloMosaic.Lib.Quiescent

@[expose] public section

noncomputable section

namespace Cert.Proof.Gate

open Idealize.ShloMosaic Idealize.SL.Sem

/-- The reference runs, keeps its arguments, and has no semaphore. -/
theorem frame_ref : quiescent_GateRefIdeal := fun m ρ _ =>
  (θ_run Cert.GateRefIdeal.defs _ _).mono
    (fun r h => ⟨fun c => (h c).2.2.2,
      Idealize.ShloMosaic.sem_eq_zero_of_no_sems (by decide) r.2⟩)
    (Cert.GateRefIdeal.Value.run (F := Ideal) m ρ)

/-- From the same arguments the kernel's three results and the reference's are the same arrays over the extended reals. -/
theorem algebraic : algebraic_GateBwdIdeal_GateRefIdeal := by
  intro m ρ m' ρ' _ hagree
  refine ⟨fun c => Cert.GateRefIdeal.Read.val_main_v14 (F := Ideal) (GateBwdIdeal.Arrays.CT m c) (GateBwdIdeal.Arrays.W m c) (GateBwdIdeal.Arrays.MOD m c),
    fun c => Cert.GateRefIdeal.Read.val_main_v16 (F := Ideal) (GateBwdIdeal.Arrays.CT m c) (GateBwdIdeal.Arrays.MOD m c),
    fun c => Cert.GateRefIdeal.Read.val_main_v11 (F := Ideal) (GateBwdIdeal.Arrays.CT m c) (GateBwdIdeal.Arrays.Y m c) (GateBwdIdeal.Arrays.W m c), ?_, ?_⟩
  · refine (θ_run Cert.GateBwdIdeal.defs _ _).mono (fun r h c => ?_) (Cert.GateBwdIdeal.Value.run_blocks (F := Ideal) m ρ)
    obtain ⟨h4, h5, h6, rest⟩ := h c
    exact ⟨h4.trans (GateBwdIdeal.Arrays.final4 m c), h5.trans (GateBwdIdeal.Arrays.final5 m c), h6.trans (GateBwdIdeal.Arrays.final6 m c), rest⟩
  · refine (θ_run Cert.GateRefIdeal.defs _ _).mono (fun r h c => ?_) (Cert.GateRefIdeal.Value.run (F := Ideal) m' ρ')
    obtain ⟨h0, h1, h2, rest⟩ := h c
    obtain ⟨e0, e1, e2, e3⟩ := hagree c
    rw [e0, e2, e3] at h0
    rw [e0, e3] at h1
    rw [e0, e1, e2] at h2
    exact ⟨h0.trans (Cert.GateRefIdeal.Read.val_main_v14_eq _ _ _), h1.trans (Cert.GateRefIdeal.Read.val_main_v16_eq _ _),
      h2.trans (Cert.GateRefIdeal.Read.val_main_v11_eq _ _ _), rest⟩

end Cert.Proof.Gate

end
-- ==== Proof.Sgu.Spec.lean ====
/-
  The spatial gating unit's gradient on one block of 128 rows, over the real numbers: what the backward call computes
  there, written entry by entry, and the constants both programs print.
-/
module

public import Idealize.ShloMosaic.PureOps.Ideal
public import Idealize.ShloMosaic.Lib.Pointwise

@[expose] public section

set_option maxRecDepth 16384

noncomputable section

namespace Sgu

open Idealize.ShloMosaic

/-! ### Constants -/

/-- The tanh form's factor, as the f32 word both programs print. -/
def c0 : ℝ := 13386282 / 16777216
/-- The tanh form's cubic coefficient, exactly. -/
def c1 : ℝ := 8943 / 200000
/-- The variance's offset, as the f32 word both programs print. -/
def eps : ℝ := 8796093 / 8796093022208

theorem eps_pos : 0 < eps := by unfold eps; norm_num

theorem ofBits_c0 : Ideal.ofBits .f32 0x3F4C422A#32 = ((c0 : ℝ) : EReal) := by
  simp [Ideal.ofBits, Ideal.ieee, c0, -EReal.coe_mul]; norm_num
theorem ofBits_eps : Ideal.ofBits .f32 0x358637BD#32 = ((eps : ℝ) : EReal) := by
  simp [Ideal.ofBits, Ideal.ieee, eps, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]

/-! ### Real arithmetic inside the extended reals -/

/-- A finite sum of reals in the extended reals is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem one_real : (1 : EReal) = ((1 : ℝ) : EReal) := EReal.coe_one.symm
theorem zero_real : (0 : EReal) = ((0 : ℝ) : EReal) := EReal.coe_zero.symm
theorem mul_real (x y : ℝ) : (x : EReal) * (y : EReal) = ((x * y : ℝ) : EReal) := (EReal.coe_mul x y).symm
theorem add_real (x y : ℝ) : (x : EReal) + (y : EReal) = ((x + y : ℝ) : EReal) := (EReal.coe_add x y).symm
theorem sub_real (x y : ℝ) : (x : EReal) - (y : EReal) = ((x - y : ℝ) : EReal) := (EReal.coe_sub x y).symm
theorem neg_real (x : ℝ) : -(x : EReal) = ((-x : ℝ) : EReal) := (EReal.coe_neg x).symm

/-- A quotient by a real that is not zero. -/
theorem div_real (x y : ℝ) (h : y ≠ 0) : Ideal.div ((x : ℝ) : EReal) ((y : ℝ) : EReal) = ((x / y : ℝ) : EReal) := by
  rw [Ideal.div_coe h, ← EReal.coe_mul, mul_one_div]

theorem div_2048 (x : ℝ) : Ideal.div ((x : ℝ) : EReal) ((2048 : ℝ) : EReal) = ((x / 2048 : ℝ) : EReal) :=
  div_real x 2048 (by norm_num)

/-- The reciprocal square root of a positive real. -/
theorem rsqrt_real (x : ℝ) (h : 0 < x) : Ideal.rsqrt ((x : ℝ) : EReal) = (((Real.sqrt x)⁻¹ : ℝ) : EReal) := by
  rw [Ideal.rsqrt_coe, if_neg h.le.not_gt, if_neg h.ne']

attribute [pointwise] coe_sum one_real mul_real add_real sub_real neg_real div_2048 Ideal.tanh_coe
  ofBits_c0 ofBits_eps ofBits_half ofBits_neg_half ofBits_one ofBits_two ofBits_three ofBits_2048

/-! ### Scalars -/

/-- The tanh form's argument's tanh. -/
def th (x : ℝ) : ℝ := Real.tanh (c0 * (x + c1 * x * x * x))
/-- The gelu. -/
def gel (x : ℝ) : ℝ := 1 / 2 * x * (1 + th x)
/-- The gelu's derivative. -/
def dgel (x : ℝ) : ℝ := 1 / 2 * (1 + th x) + 1 / 2 * x * (1 - th x * th x) * (c0 * (1 + 3 * c1 * x * x))
/-- The logistic function, by the tanh of half its argument. -/
def sig (x : ℝ) : ℝ := 1 / 2 * Real.tanh (1 / 2 * x) + 1 / 2
/-- The silu. -/
def sil (x : ℝ) : ℝ := x * sig x
/-- The silu's derivative. -/
def dsil (x : ℝ) : ℝ := sig x * (1 + x * (1 - sig x))

/-! ### Positions: column `256 g + d` of a row of 2048, and its place in a row of 6144 -/

/-- Column `d` of group `g`. -/
def col (g : Fin 8) (d : Fin 256) : Fin 2048 := ⟨256 * g.val + d.val, by omega⟩
/-- The group a column is in. -/
def grp (j : Fin 2048) : Fin 8 := ⟨j.val / 256, by omega⟩
/-- Column `j` of the second third. -/
def at1 (j : Fin 2048) : Fin 6144 := ⟨2048 + j.val, by omega⟩
/-- Column `j` of the first third. -/
def at0 (j : Fin 2048) : Fin 6144 := ⟨j.val, by omega⟩
/-- Column `j` of the last third. -/
def at2 (j : Fin 2048) : Fin 6144 := ⟨4096 + j.val, by omega⟩

@[simp] theorem grp_col (g : Fin 8) (d : Fin 256) : grp (col g d) = g := by
  unfold grp col; exact Fin.ext (by dsimp only; omega)

theorem grp0 (d : Fin 256) (h) : grp ⟨d.val, h⟩ = 0 := Fin.ext (by show d.val / 256 = 0; omega)
theorem grp1 (d : Fin 256) (h) : grp ⟨256 + d.val, h⟩ = 1 := Fin.ext (by show (256 + d.val) / 256 = 1; omega)
theorem grp2 (d : Fin 256) (h) : grp ⟨512 + d.val, h⟩ = 2 := Fin.ext (by show (512 + d.val) / 256 = 2; omega)
theorem grp3 (d : Fin 256) (h) : grp ⟨768 + d.val, h⟩ = 3 := Fin.ext (by show (768 + d.val) / 256 = 3; omega)
theorem grp4 (d : Fin 256) (h) : grp ⟨1024 + d.val, h⟩ = 4 := Fin.ext (by show (1024 + d.val) / 256 = 4; omega)
theorem grp5 (d : Fin 256) (h) : grp ⟨1280 + d.val, h⟩ = 5 := Fin.ext (by show (1280 + d.val) / 256 = 5; omega)
theorem grp6 (d : Fin 256) (h) : grp ⟨1536 + d.val, h⟩ = 6 := Fin.ext (by show (1536 + d.val) / 256 = 6; omega)
theorem grp7 (d : Fin 256) (h) : grp ⟨1792 + d.val, h⟩ = 7 := Fin.ext (by show (1792 + d.val) / 256 = 7; omega)

/-- A sum over the columns, group by group. -/
theorem sum_cols (f : Fin 2048 → ℝ) : ∑ j, f j = ∑ g, ∑ d, f (col g d) := by
  rw [Fin.sum_univ_tiles 8 256 (by norm_num) f]
  refine Finset.sum_congr rfl fun g _ => Finset.sum_congr rfl fun d _ => congrArg f (Fin.ext ?_)
  show g.val * 256 + d.val = 256 * g.val + d.val
  omega

/-! ### One block: `X` its rows of the projection, `D` of the cotangent, `lg`, `lb` the norm's gain and bias, `W` the
masked mixing weights, `bs` the mixing biases -/

section Block

variable (X : Fin 128 → Fin 6144 → ℝ) (D : Fin 128 → Fin 2048 → ℝ) (lg lb : Fin 2048 → ℝ)
  (W : Fin 8 → Fin 128 → Fin 128 → ℝ) (bs : Fin 8 → Fin 128 → ℝ)

/-- The second third's gelu. -/
def vg (r : Fin 128) (j : Fin 2048) : ℝ := gel (X r (at1 j))
/-- A row's mean. -/
def mu (r : Fin 128) : ℝ := (∑ j, vg X r j) / 2048
/-- A row's variance. -/
def var (r : Fin 128) : ℝ := (∑ j, (vg X r j - mu X r) * (vg X r j - mu X r)) / 2048
/-- A row's reciprocal deviation. -/
def rstd (r : Fin 128) : ℝ := (Real.sqrt (var X r + eps))⁻¹
/-- The normalised entry. -/
def vhat (r : Fin 128) (j : Fin 2048) : ℝ := (vg X r j - mu X r) * rstd X r
/-- The norm's result. -/
def vln (r : Fin 128) (j : Fin 2048) : ℝ := vhat X r j * lg j + lb j
/-- The mixed rows of a column's group. -/
def mix (r : Fin 128) (j : Fin 2048) : ℝ := ∑ k, W (grp j) r k * vln X lg lb k j + bs (grp j) r
/-- The mixed rows' cotangent. -/
def ds (r : Fin 128) (j : Fin 2048) : ℝ := D r j * gel (X r (at0 j)) * sil (X r (at2 j))
/-- The norm's result's cotangent. -/
def dvln (k : Fin 128) (j : Fin 2048) : ℝ := ∑ r, W (grp j) r k * ds X D r j
/-- The normalised entry's cotangent. -/
def dvh (r : Fin 128) (j : Fin 2048) : ℝ := dvln X D W r j * lg j
/-- The mean of a row's cotangents. -/
def m1 (r : Fin 128) : ℝ := (∑ j, dvh X D lg W r j) / 2048
/-- The mean of a row's cotangents times the normalised entries. -/
def m2 (r : Fin 128) : ℝ := (∑ j, dvh X D lg W r j * vhat X r j) / 2048

/-- The first third's gradient. -/
def dpU (r : Fin 128) (j : Fin 2048) : ℝ := D r j * mix X lg lb W bs r j * sil (X r (at2 j)) * dgel (X r (at0 j))
/-- The second third's gradient. -/
def dpV (r : Fin 128) (j : Fin 2048) : ℝ :=
  rstd X r * (dvh X D lg W r j - m1 X D lg W r - vhat X r j * m2 X D lg W r) * dgel (X r (at1 j))
/-- The last third's gradient. -/
def dpG (r : Fin 128) (j : Fin 2048) : ℝ := D r j * gel (X r (at0 j)) * mix X lg lb W bs r j * dsil (X r (at2 j))
/-- The block's part of the mixing weights' gradient, before the mask. -/
def dwsP (g : Fin 8) (r k : Fin 128) : ℝ := ∑ d, ds X D r (col g d) * vln X lg lb k (col g d)
/-- The block's part of the mixing biases' gradient. -/
def dbsP (g : Fin 8) (r : Fin 128) : ℝ := ∑ d, ds X D r (col g d)
/-- The block's part of the gain's gradient. -/
def dlgP (j : Fin 2048) : ℝ := ∑ r, dvln X D W r j * vhat X r j
/-- The block's part of the bias's gradient. -/
def dlbP (j : Fin 2048) : ℝ := ∑ r, dvln X D W r j

/-- A row of the projection's gradient: its three thirds. -/
def dp (r : Fin 128) (j : Fin 6144) : ℝ :=
  if h : j.val < 2048 then dpU X D lg lb W bs r ⟨j.val, h⟩
  else if h' : j.val < 4096 then dpV X D lg W r ⟨j.val - 2048, by omega⟩
  else dpG X D lg lb W bs r ⟨j.val - 4096, by omega⟩

theorem dp_first (r : Fin 128) (o : Nat) (d : Fin 256) (h) (ho : o + 256 ≤ 2048) :
    dp X D lg lb W bs r ⟨o + d.val, h⟩ = dpU X D lg lb W bs r ⟨o + d.val, by omega⟩ := dif_pos (by dsimp only; omega)
theorem dp_zero (r : Fin 128) (d : Fin 256) (h) :
    dp X D lg lb W bs r ⟨d.val, h⟩ = dpU X D lg lb W bs r ⟨d.val, by omega⟩ := dif_pos (by dsimp only; omega)
theorem dp_second (r : Fin 128) (o : Nat) (d : Fin 256) (h) (h0 : 2048 ≤ o) (ho : o + 256 ≤ 4096) :
    dp X D lg lb W bs r ⟨o + d.val, h⟩ = dpV X D lg W r ⟨o - 2048 + d.val, by omega⟩ :=
  (dif_neg (by dsimp only; omega)).trans ((dif_pos (by dsimp only; omega)).trans (congrArg _ (Fin.ext (by dsimp only; omega))))
theorem dp_third (r : Fin 128) (o : Nat) (d : Fin 256) (h) (h0 : 4096 ≤ o) :
    dp X D lg lb W bs r ⟨o + d.val, h⟩ = dpG X D lg lb W bs r ⟨o - 4096 + d.val, by omega⟩ :=
  (dif_neg (by dsimp only; omega)).trans ((dif_neg (by dsimp only; omega)).trans (congrArg _ (Fin.ext (by dsimp only; omega))))

theorem var_eps_pos (r : Fin 128) : 0 < var X r + eps :=
  add_pos_of_nonneg_of_pos (div_nonneg (Finset.sum_nonneg fun _ _ => mul_self_nonneg _) (by norm_num)) eps_pos

end Block

/-- The mixing weights a row may see: those of its own run of 64 positions or an earlier one. -/
def msk (W : Fin 8 → Fin 128 → Fin 128 → ℝ) (g : Fin 8) (r k : Fin 128) : ℝ := if k.val / 64 ≤ r.val / 64 then W g r k else 0

section Blocks

variable (X : ℕ → Fin 128 → Fin 6144 → ℝ) (D : ℕ → Fin 128 → Fin 2048 → ℝ) (lg lb : Fin 2048 → ℝ) (Ws : Fin 8 → Fin 128 → Fin 128 → ℝ)

/-- The sums over the points up to `n`. -/
def s7 (n : ℕ) (g : Fin 8) (r k : Fin 128) : ℝ := ∑ s ∈ Finset.range (n + 1), dwsP (X s) (D s) lg lb g r k
def s8 (n : ℕ) (g : Fin 8) (r : Fin 128) : ℝ := ∑ s ∈ Finset.range (n + 1), dbsP (X s) (D s) g r
def s9 (n : ℕ) (j : Fin 2048) : ℝ := ∑ s ∈ Finset.range (n + 1), dlgP (X s) (D s) (msk Ws) j
def s10 (n : ℕ) (j : Fin 2048) : ℝ := ∑ s ∈ Finset.range (n + 1), dlbP (X s) (D s) (msk Ws) j

end Blocks

/-- An array of reals as an array of extended reals. -/
def lift2 {m n : Nat} (f : Fin m → Fin n → ℝ) : (⟨2, ![m, n]⟩ : Shape).Idx → EReal := fun y => ((f (y 0) (y 1) : ℝ) : EReal)
@[pointwise] theorem lift2_ix {m n : Nat} (f : Fin m → Fin n → ℝ) (i : Fin m) (j : Fin n) : lift2 f (ix2 i j) = ((f i j : ℝ) : EReal) := rfl
/-- The same at rank three. -/
def lift3 {l m n : Nat} (f : Fin l → Fin m → Fin n → ℝ) : (⟨3, ![l, m, n]⟩ : Shape).Idx → EReal :=
  fun y => ((f (y 0) (y 1) (y 2) : ℝ) : EReal)
@[pointwise] theorem lift3_ix {l m n : Nat} (f : Fin l → Fin m → Fin n → ℝ) (h : Fin l) (i : Fin m) (j : Fin n) :
    lift3 f (ix3 h i j) = ((f h i j : ℝ) : EReal) := rfl

/-- An array of reals read where a block of columns puts an index. -/
theorem lift2_emb {R C w o : Nat} (f : Fin R → Fin C → ℝ) (h : ∀ a, (![0, o] : Fin 2 → Nat) a + (![R, w] : Fin 2 → Nat) a ≤ (⟨2, ![R, C]⟩ : Shape).size a)
    (r : Fin R) (d : Fin w) :
    lift2 f ((Rect.unit (s := ⟨2, ![R, C]⟩) ![0, o] ![R, w] h).emb (ix2 r d))
      = ((f r ⟨o + d.val, Nat.lt_of_lt_of_le (Nat.add_lt_add_left d.isLt o) (h 1)⟩ : ℝ) : EReal) := by
  show ((f _ _ : ℝ) : EReal) = _
  refine congrArg _ (congrArg₂ f (Fin.ext ?_) (Fin.ext ?_))
  · show 0 + 1 * r.val = r.val; omega
  · show o + 1 * d.val = o + d.val; omega

/-- An array of reals read where a slab at position `o` of the first axis puts an index. -/
theorem lift3_emb {G R C o : Nat} (f : Fin G → Fin R → Fin C → ℝ)
    (h : ∀ a, (![o, 0, 0] : Fin 3 → Nat) a + (![1, R, C] : Fin 3 → Nat) a ≤ (⟨3, ![G, R, C]⟩ : Shape).size a)
    (q : Fin 1) (r : Fin R) (d : Fin C) :
    lift3 f ((Rect.unit (s := ⟨3, ![G, R, C]⟩) ![o, 0, 0] ![1, R, C] h).emb (ix3 q r d))
      = ((f ⟨o, Nat.lt_of_lt_of_le (Nat.lt_succ_self o) (h 0)⟩ r d : ℝ) : EReal) := by
  refine congrArg ((↑) : ℝ → EReal) (congr (congrArg₂ f (Fin.ext ?_) (Fin.ext ?_)) (Fin.ext ?_))
  · show o + 1 * q.val = o; omega
  · show 0 + 1 * r.val = r.val; omega
  · show 0 + 1 * d.val = d.val; omega

end Sgu
-- ==== Proof.Sgu.KStats.lean ====
/-
  One grid point of the spatial gating unit's backward call, over real input blocks: the row statistics and the
  gelu's values it keeps in scratch.
-/
module

public import proofs.«01_k».proof.Proof.Gen.SguBwdIdeal.Value
public import proofs.«01_k».proof.Proof.Sgu.Spec

@[expose] public section

set_option maxRecDepth 16384

noncomputable section

namespace Cert.SguBwdIdeal.Outs

open Cert.SguBwdIdeal Cert.SguBwdIdeal.Gen Idealize.ShloMosaic Idealize.ShloMosaic.TcCoe Idealize.SL.Sem
open Sgu

variable (c : Dev nD) (arg1 : Memref sig .tc .vmem S128x6144 .f32) (harg1 : arg1.IsWhole)
  (arg13 : Memref sig .tc .vmem S128x2048 .f32) (X : Fin 128 → Fin 6144 → ℝ)

set_option maxHeartbeats 4000000

@[pointwise] theorem named_c1 : Named.named (F := Ideal) Cert.SguBwdIdeal.κ "gelu_c1" (φ := .f32) 0x3D372713#32 = ((c1 : ℝ) : EReal) := by
  unfold c1; exact IdealRules.named_const.ideal_named_scalar _ _ _ _ rfl
@[pointwise] theorem named_3c1 :
    Named.named (F := Ideal) Cert.SguBwdIdeal.κ "gelu_3c1" (φ := .f32) 0x3E095D4F#32 = ((3 * c1 : ℝ) : EReal) := by
  rw [show (3 * c1 : ℝ) = 26829 / 200000 by unfold c1; norm_num]
  exact IdealRules.named_const.ideal_named_scalar _ _ _ _ rfl

theorem mu_word : kernelRun0_B.sl.r_37 c arg1 harg1 (F := Ideal) (lift2 X) = lift2 (fun r (_ : Fin 1) => mu X r) := by
  sl_unfold_words
  simp only [View.readAt_eq_ld, harg1.read_unread]
  funext y
  obtain ⟨r, q, rfl⟩ : ∃ r q, y = ix2 (n0 := 128) (n1 := 1) r q := ⟨y 0, y 1, eq_ix2 y⟩
  unfold_payloads
  pointwise
  refine congrArg _ ?_
  unfold mu vg gel th
  rw [sum_cols, Fin.sum_univ_eight]
  simp only [at1, col, Fin.isValue, ← Nat.add_assoc, Nat.reduceMul, Nat.reduceAdd, Nat.reduceMod, Nat.add_zero, Nat.zero_add, Fin.coe_ofNat_eq_mod]

/-- The scratch that holds the gelu's values. -/
theorem vg_scratch : View.canon (kernelRun0_B.sl.HS1_8 c arg1 harg1 (F := Ideal) (lift2 X)) = lift2 (vg X) := by
  funext y
  refine View.canon_apply_of_pieces _ _ ?_ y (View.cover_of_tiledL (Val := Elt Ideal) (s := S128x2048) _ S128x256.size (by sl_kernel_rfl) y)
  sl_unfold_words
  simp only [View.readAt_eq_ld, harg1.read_unread]
  intro p hp z
  simp only [List.mem_cons, List.not_mem_nil, or_false] at hp
  rcases hp with rfl | rfl | rfl | rfl | rfl | rfl | rfl | rfl
  all_goals
    obtain ⟨r, d, rfl⟩ : ∃ r d, z = ix2 (n0 := 128) (n1 := 256) r d := ⟨z 0, z 1, eq_ix2 z⟩
    dsimp only
    refine Eq.trans ?_ (lift2_emb _ (by decide) r d).symm
    unfold_payloads
    pointwise
    refine congrArg _ ?_
    simp only [vg, gel, th, at1, ← Nat.add_assoc, Nat.reduceAdd]

/-- The scratch that holds the gelu's derivative's values. -/
theorem dgel_scratch :
    View.canon (kernelRun0_B.sl.HS3_8 c arg1 harg1 (F := Ideal) (lift2 X)) = lift2 (fun r j => dgel (X r (at1 j))) := by
  funext y
  refine View.canon_apply_of_pieces _ _ ?_ y (View.cover_of_tiledL (Val := Elt Ideal) (s := S128x2048) _ S128x256.size (by sl_kernel_rfl) y)
  sl_unfold_words
  simp only [View.readAt_eq_ld, harg1.read_unread]
  intro p hp z
  simp only [List.mem_cons, List.not_mem_nil, or_false] at hp
  rcases hp with rfl | rfl | rfl | rfl | rfl | rfl | rfl | rfl
  all_goals
    obtain ⟨r, d, rfl⟩ : ∃ r d, z = ix2 (n0 := 128) (n1 := 256) r d := ⟨z 0, z 1, eq_ix2 z⟩
    dsimp only
    refine Eq.trans ?_ (lift2_emb _ (by decide) r d).symm
    unfold_payloads
    pointwise
    refine congrArg _ ?_
    simp only [dgel, th, at1, ← Nat.add_assoc, Nat.reduceAdd]

theorem rstd_word :
    kernelRun0_B.sl.r_39 c arg1 harg1 arg13 (F := Ideal) (lift2 X) = lift2 (fun r (_ : Fin 1) => rstd X r) := by
  have hm := mu_word c arg1 harg1 X
  have hs := vg_scratch c arg1 harg1 X
  revert hm hs
  sl_unfold_words
  simp only [View.readAt_eq_ld, harg1.read_unread, View.readCov_eq_canon']
  unfold_payloads
  intro hm hs
  simp only [hm, hs]
  funext y
  obtain ⟨r, q, rfl⟩ : ∃ r q, y = ix2 (n0 := 128) (n1 := 1) r q := ⟨y 0, y 1, eq_ix2 y⟩
  pointwise
  have e : ∀ a, a = var X r + eps → Ideal.rsqrt ((a : ℝ) : EReal) = ((rstd X r : ℝ) : EReal) := by
    rintro _ rfl; exact rsqrt_real _ (var_eps_pos X r)
  refine e _ (congrArg (· + eps) ?_)
  unfold var
  rw [sum_cols, Fin.sum_univ_eight]
  simp only [col, Fin.isValue, ← Nat.add_assoc, Nat.reduceMul, Nat.reduceAdd, Nat.reduceMod, Nat.add_zero, Nat.zero_add, Fin.coe_ofNat_eq_mod]

end Cert.SguBwdIdeal.Outs
-- ==== Proof.Sgu.KOuts.lean ====
/-
  One grid point of the spatial gating unit's backward call, over real input blocks: the five blocks it leaves.
-/
module

public import proofs.«01_k».proof.Proof.Sgu.KStats

@[expose] public section

set_option maxRecDepth 16384

noncomputable section

namespace Cert.SguBwdIdeal.Outs

open Cert.SguBwdIdeal Cert.SguBwdIdeal.Gen Idealize.ShloMosaic Idealize.ShloMosaic.TcCoe Idealize.SL.Sem
open Sgu

variable (c : Dev nD) (arg1 : Memref sig .tc .vmem S128x6144 .f32) (harg1 : arg1.IsWhole)
  (arg2 : Memref sig .tc .vmem S128x2048 .bf16) (harg2 : arg2.IsWhole) (arg3 : Memref sig .tc .vmem S1x2048 .f32) (harg3 : arg3.IsWhole)
  (arg12 : Memref sig .tc .vmem S8x128x128 .bf16) (harg12 : arg12.IsWhole)
  (X : Fin 128 → Fin 6144 → ℝ) (D : Fin 128 → Fin 2048 → ℝ) (lg : Fin 2048 → ℝ) (W : Fin 8 → Fin 128 → Fin 128 → ℝ)

set_option maxHeartbeats 4000000

/-- The scratch that holds the normalised entries' cotangent. -/
theorem dvh_scratch :
    View.canon (kernelRun0_B.sl.HS2_8 c arg1 harg1 arg2 harg2 arg3 harg3 arg12 harg12 (F := Ideal) (lift2 X) (lift2 D)
      (lift2 fun (_ : Fin 1) j => lg j) (lift3 W)) = lift2 (dvh X D lg W) := by
  funext y
  refine View.canon_apply_of_pieces _ _ ?_ y (View.cover_of_tiledL (Val := Elt Ideal) (s := S128x2048) _ S128x256.size (by sl_kernel_rfl) y)
  sl_unfold_words
  simp only [View.readAt_eq_ld, harg1.read_unread, harg2.read_unread, harg3.read_unread, harg12.read_unread]
  intro p hp z
  simp only [List.mem_cons, List.not_mem_nil, or_false] at hp
  rcases hp with rfl | rfl | rfl | rfl | rfl | rfl | rfl | rfl
  all_goals
    obtain ⟨r, d, rfl⟩ : ∃ r d, z = ix2 (n0 := 128) (n1 := 256) r d := ⟨z 0, z 1, eq_ix2 z⟩
    dsimp only
    refine Eq.trans ?_ (lift2_emb _ (by decide) r d).symm
    unfold_payloads
    pointwise
    refine congrArg _ ?_
    simp only [dvh, dvln, ds, sil, Sgu.sig, gel, th, at0, at2, grp0, grp1, grp2, grp3, grp4, grp5, grp6, grp7, ← Nat.add_assoc, Nat.reduceAdd]

/-- The mean of a row's cotangents. -/
theorem m1_word : kernelRun0_B.sl.v1447 c arg1 harg1 arg2 harg2 arg3 harg3 arg12 harg12 (F := Ideal) (lift2 X) (lift2 D)
    (lift2 fun (_ : Fin 1) j => lg j) (lift3 W) = lift2 (fun r (_ : Fin 1) => m1 X D lg W r) := by
  sl_unfold_words
  simp only [View.readAt_eq_ld, harg1.read_unread, harg2.read_unread, harg3.read_unread, harg12.read_unread]
  funext y
  obtain ⟨r, q, rfl⟩ : ∃ r q, y = ix2 (n0 := 128) (n1 := 1) r q := ⟨y 0, y 1, eq_ix2 y⟩
  unfold_payloads
  pointwise
  refine congrArg _ ?_
  unfold m1
  rw [sum_cols, Fin.sum_univ_eight]
  simp only [dvh, dvln, ds, sil, Sgu.sig, gel, th, at0, at2, grp_col]
  simp only [col, Fin.isValue, ← Nat.add_assoc, Nat.reduceMul, Nat.reduceAdd, Nat.reduceMod, Nat.add_zero, Nat.zero_add, Fin.coe_ofNat_eq_mod]

/-- The mean of a row's cotangents times the normalised entries. -/
theorem m2_word (arg13 : Memref sig .tc .vmem S128x2048 .f32) :
    kernelRun0_B.sl.v1449 c arg1 harg1 arg2 harg2 arg3 harg3 arg12 harg12 arg13 (F := Ideal) (lift2 X) (lift2 D)
    (lift2 fun (_ : Fin 1) j => lg j) (lift3 W) = lift2 (fun r (_ : Fin 1) => m2 X D lg W r) := by
  have hm := mu_word c arg1 harg1 X
  have hr := rstd_word c arg1 harg1 arg13 X
  have hs := vg_scratch c arg1 harg1 X
  revert hm hr hs
  sl_unfold_words
  simp only [View.readAt_eq_ld, harg1.read_unread, harg2.read_unread, harg3.read_unread, harg12.read_unread, View.readCov_eq_canon']
  unfold_payloads
  intro hm hr hs
  simp only [hr]
  simp only [hm, hs]
  funext y
  obtain ⟨r, q, rfl⟩ : ∃ r q, y = ix2 (n0 := 128) (n1 := 1) r q := ⟨y 0, y 1, eq_ix2 y⟩
  pointwise
  refine congrArg _ ?_
  unfold m2
  rw [sum_cols, Fin.sum_univ_eight]
  simp only [dvh, dvln, ds, sil, Sgu.sig, gel, th, at0, at2, grp_col, vhat]
  simp only [col, Fin.isValue, ← Nat.add_assoc, Nat.reduceMul, Nat.reduceAdd, Nat.reduceMod, Nat.add_zero, Nat.zero_add, Fin.coe_ofNat_eq_mod]

end Cert.SguBwdIdeal.Outs
-- ==== Proof.Sgu.KBlocks.lean ====
/-
  One grid point of the spatial gating unit's backward call that is neither the first nor the last, over real input
  blocks: the five blocks it leaves.
-/
module

public import Idealize.ShloMosaic.Lib.Pipeline.ReadBack
public import proofs.«01_k».proof.Proof.Sgu.KOuts

@[expose] public section

set_option maxRecDepth 16384

noncomputable section

namespace Cert.SguBwdIdeal.Outs

open Cert.SguBwdIdeal Cert.SguBwdIdeal.Gen Idealize.ShloMosaic Idealize.ShloMosaic.TcCoe Idealize.SL.Sem
open Sgu

variable (c : Dev nD) (t : Fin cfg0.N)

set_option maxHeartbeats 8000000

/-- The stores of a point in the middle of the grid, over any blocks. -/
def runB (i : grid0.Coords) (hc0 : ¬cond0_0 i) (hc1 : ¬cond0_1 i) (x0 : Vec Ideal S128x6144 .f32) (x1 : Vec Ideal S128x2048 .bf16)
    (x2 : Vec Ideal S1x2048 .f32) (x3 : Vec Ideal S1x2048 .f32) (x4 : Vec Ideal S8x128x128 .f32) (x5 : Vec Ideal S8x128x1 .f32)
    (xo7 : Vec Ideal S8x128x128 .f32) (xo8 : Vec Ideal S8x128x1 .f32) (xo9 xo10 : Vec Ideal S1x2048 .f32) (xs0 : Vec Ideal S8x128x128 .bf16) :=
  kernelRun0_B (F := Ideal) c i (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    hc0 hc1 x0 x1 x2 x3 x4 x5 xo7 xo8 xo9 xo10 xs0

variable (i : grid0.Coords) (hc0 : ¬cond0_0 i) (hc1 : ¬cond0_1 i) (x4 : Vec Ideal S8x128x128 .f32)
  (xo7 : Vec Ideal S8x128x128 .f32) (xo8 : Vec Ideal S8x128x1 .f32) (xo9 xo10 : Vec Ideal S1x2048 .f32)
  (X : Fin 128 → Fin 6144 → ℝ) (D : Fin 128 → Fin 2048 → ℝ) (lg lb : Fin 2048 → ℝ) (W : Fin 8 → Fin 128 → Fin 128 → ℝ) (bs : Fin 8 → Fin 128 → ℝ)

/-- The block of the projection's gradient. -/
theorem dp_block :
    View.canon (runB c t i hc0 hc1 (lift2 X) (lift2 D) (lift2 fun (_ : Fin 1) j => lg j) (lift2 fun (_ : Fin 1) j => lb j) x4
      (lift3 fun g r (_ : Fin 1) => bs g r) xo7 xo8 xo9 xo10 (lift3 W)).1 = lift2 (dp X D lg lb W bs) := by
  have hm := mu_word c (ms0_0 t) (hs0_0 t) X
  have hr := rstd_word c (ms0_0 t) (hs0_0 t) scM0_1 X
  have hs := vg_scratch c (ms0_0 t) (hs0_0 t) X
  have hg := dgel_scratch c (ms0_0 t) (hs0_0 t) X
  have hd := dvh_scratch c (ms0_0 t) (hs0_0 t) (ms0_1 t) (hs0_1 t) (ms0_2 t) (hs0_2 t) scM0_0 (Memref.isWhole_whole _) X D lg W
  have h1 := m1_word c (ms0_0 t) (hs0_0 t) (ms0_1 t) (hs0_1 t) (ms0_2 t) (hs0_2 t) scM0_0 (Memref.isWhole_whole _) X D lg W
  have h2 := m2_word c (ms0_0 t) (hs0_0 t) (ms0_1 t) (hs0_1 t) (ms0_2 t) (hs0_2 t) scM0_0 (Memref.isWhole_whole _) X D lg W scM0_1
  revert hm hr hs hg hd h1 h2
  unfold runB kernelRun0_B
  dsimp only
  sl_unfold_words
  simp only [View.readAt_eq_ld, (hs0_0 t).read_unread, (hs0_1 t).read_unread, (hs0_2 t).read_unread, (hs0_3 t).read_unread,
    (hs0_5 t).read_unread, Memref.IsWhole.read_unread, read_unread_whole, View.readCov_eq_canon']
  unfold_payloads
  intro hm hr hs hg hd h1 h2
  simp only [h2]
  simp only [h1, hr]
  simp only [hm, hs, hg, hd]
  funext y
  refine View.canon_apply_of_pieces _ _ ?_ y (View.cover_of_tiledL (Val := Elt Ideal) (s := S128x6144) _ S128x256.size (by sl_kernel_rfl) y)
  intro p hp z
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  all_goals
    obtain ⟨r, d, rfl⟩ : ∃ r d, z = ix2 (n0 := 128) (n1 := 256) r d := ⟨z 0, z 1, eq_ix2 z⟩
    dsimp only
    refine Eq.trans ?_ (lift2_emb _ (by decide) r d).symm
    pointwise
    refine congrArg _ ?_
    first
      | rw [dp_zero X D lg lb W bs r d]
      | rw [dp_first X D lg lb W bs r _ d _ (by decide)]
      | rw [dp_second X D lg lb W bs r _ d _ (by decide) (by decide)]
      | rw [dp_third X D lg lb W bs r _ d _ (by decide)]
    simp only [dpU, dpV, dpG, mix, vln, vhat, vg, sil, dsil, dgel, Sgu.sig, gel, th, at0, at1, at2, grp0, grp1, grp2, grp3, grp4, grp5, grp6, grp7,
      Nat.reduceSub, Nat.zero_add, ← Nat.add_assoc, Nat.reduceAdd, grp0]

end Cert.SguBwdIdeal.Outs
-- ==== Proof.Sgu.KSums.lean ====
/-
  One grid point in the middle of the grid, over real input blocks: what it adds to the four summed results.
-/
module

public import Idealize.ShloMosaic.Lib.Pipeline.ReadBack
public import proofs.«01_k».proof.Proof.Sgu.KBlocks

@[expose] public section

set_option maxRecDepth 16384

noncomputable section

namespace Cert.SguBwdIdeal.Outs

open Cert.SguBwdIdeal Cert.SguBwdIdeal.Gen Idealize.ShloMosaic Idealize.ShloMosaic.TcCoe Idealize.SL.Sem
open Sgu

variable (c : Dev nD) (t : Fin cfg0.N)

set_option maxHeartbeats 8000000

variable (i : grid0.Coords) (hc0 : ¬cond0_0 i) (hc1 : ¬cond0_1 i) (x4 : Vec Ideal S8x128x128 .f32)
  (P7 : Fin 8 → Fin 128 → Fin 128 → ℝ) (P8 : Fin 8 → Fin 128 → ℝ) (P9 P10 : Fin 2048 → ℝ) (xo7 : Vec Ideal S8x128x128 .f32) (xo8 : Vec Ideal S8x128x1 .f32) (xo9 xo10 : Vec Ideal S1x2048 .f32)
  (X : Fin 128 → Fin 6144 → ℝ) (D : Fin 128 → Fin 2048 → ℝ) (lg lb : Fin 2048 → ℝ) (W : Fin 8 → Fin 128 → Fin 128 → ℝ) (bs : Fin 8 → Fin 128 → ℝ)

/-- The sum over a group's columns. -/
theorem dws_block :
    View.canon (runB c t i hc0 hc1 (lift2 X) (lift2 D) (lift2 fun (_ : Fin 1) j => lg j) (lift2 fun (_ : Fin 1) j => lb j) x4
      (lift3 fun g r (_ : Fin 1) => bs g r) (lift3 P7) xo8 xo9 xo10 (lift3 W)).2.1 = lift3 (fun g r k => P7 g r k + dwsP X D lg lb g r k) := by
  have hm := mu_word c (ms0_0 t) (hs0_0 t) X
  have hr := rstd_word c (ms0_0 t) (hs0_0 t) scM0_1 X
  have hs := vg_scratch c (ms0_0 t) (hs0_0 t) X
  revert hm hr hs
  unfold runB kernelRun0_B
  dsimp only
  sl_unfold_words
  simp only [View.readAt_eq_ld, (hs0_0 t).read_unread, (hs0_1 t).read_unread, (hs0_2 t).read_unread, (hs0_3 t).read_unread,
    (hs0_7 t).read_unread, read_unread_whole, View.readCov_eq_canon']
  unfold_payloads
  intro hm hr hs
  simp only [hr]
  simp only [hm, hs]
  funext y
  refine View.canon_apply_of_pieces _ _ ?_ y (View.cover_of_tiledL (Val := Elt Ideal) (s := S8x128x128) _ S1x128x128.size (by sl_kernel_rfl) y)
  intro p hp z
  simp only [List.mem_cons, List.not_mem_nil, or_false] at hp
  rcases hp with rfl | rfl | rfl | rfl | rfl | rfl | rfl | rfl
  all_goals
    obtain ⟨q, r, k, rfl⟩ : ∃ q r k, z = ix3 (n0 := 1) (n1 := 128) (n2 := 128) q r k := ⟨z 0, z 1, z 2, eq_ix3 z⟩
    dsimp only
    refine Eq.trans ?_ (lift3_emb _ (by decide) q r k).symm
    pointwise
    refine congrArg ((↑) : ℝ → EReal) ?_
    simp only [dwsP, ds, vln, vhat, sil, Sgu.sig, gel, th, at0, at2, col, Fin.isValue, Fin.val_mk, ← Nat.add_assoc, Nat.reduceMul, Nat.reduceAdd, Nat.reduceMod, Nat.add_zero, Nat.zero_add, Fin.coe_ofNat_eq_mod]

theorem dbs_block :
    View.canon (runB c t i hc0 hc1 (lift2 X) (lift2 D) (lift2 fun (_ : Fin 1) j => lg j) (lift2 fun (_ : Fin 1) j => lb j) x4
      (lift3 fun g r (_ : Fin 1) => bs g r) xo7 (lift3 fun g r (_ : Fin 1) => P8 g r) xo9 xo10 (lift3 W)).2.2.1 = lift3 (fun g r (_ : Fin 1) => P8 g r + dbsP X D g r) := by
  unfold runB kernelRun0_B
  dsimp only
  sl_unfold_words
  simp only [View.readAt_eq_ld, (hs0_0 t).read_unread, (hs0_1 t).read_unread, (hs0_8 t).read_unread]
  unfold_payloads
  funext y
  refine View.canon_apply_of_pieces _ _ ?_ y (View.cover_of_tiledL (Val := Elt Ideal) (s := S8x128x1) _ S1x128x1.size (by sl_kernel_rfl) y)
  intro p hp z
  simp only [List.mem_cons, List.not_mem_nil, or_false] at hp
  rcases hp with rfl | rfl | rfl | rfl | rfl | rfl | rfl | rfl
  all_goals
    obtain ⟨q, r, k, rfl⟩ : ∃ q r k, z = ix3 (n0 := 1) (n1 := 128) (n2 := 1) q r k := ⟨z 0, z 1, z 2, eq_ix3 z⟩
    dsimp only
    refine Eq.trans ?_ (lift3_emb _ (by decide) q r k).symm
    pointwise
    refine congrArg ((↑) : ℝ → EReal) ?_
    simp only [dbsP, ds, sil, Sgu.sig, gel, th, at0, at2, col, Fin.isValue, ← Nat.add_assoc, Nat.reduceMul, Nat.reduceAdd, Nat.reduceMod, Nat.add_zero, Nat.zero_add, Fin.coe_ofNat_eq_mod]

theorem dlg_block :
    View.canon (runB c t i hc0 hc1 (lift2 X) (lift2 D) (lift2 fun (_ : Fin 1) j => lg j) (lift2 fun (_ : Fin 1) j => lb j) x4
      (lift3 fun g r (_ : Fin 1) => bs g r) xo7 xo8 (lift2 fun (_ : Fin 1) j => P9 j) xo10 (lift3 W)).2.2.2.1 = lift2 (fun (_ : Fin 1) j => P9 j + dlgP X D W j) := by
  have hm := mu_word c (ms0_0 t) (hs0_0 t) X
  have hr := rstd_word c (ms0_0 t) (hs0_0 t) scM0_1 X
  have hs := vg_scratch c (ms0_0 t) (hs0_0 t) X
  revert hm hr hs
  unfold runB kernelRun0_B
  dsimp only
  sl_unfold_words
  simp only [View.readAt_eq_ld, (hs0_0 t).read_unread, (hs0_1 t).read_unread,
    (hs0_9 t).read_unread, read_unread_whole, View.readCov_eq_canon']
  unfold_payloads
  intro hm hr hs
  simp only [hr]
  simp only [hm, hs]
  funext y
  refine View.canon_apply_of_pieces _ _ ?_ y (View.cover_of_tiledL (Val := Elt Ideal) (s := S1x2048) _ S1x256.size (by sl_kernel_rfl) y)
  intro p hp z
  simp only [List.mem_cons, List.not_mem_nil, or_false] at hp
  rcases hp with rfl | rfl | rfl | rfl | rfl | rfl | rfl | rfl
  all_goals
    obtain ⟨r, d, rfl⟩ : ∃ r d, z = ix2 (n0 := 1) (n1 := 256) r d := ⟨z 0, z 1, eq_ix2 z⟩
    dsimp only
    refine Eq.trans ?_ (lift2_emb _ (by decide) r d).symm
    pointwise
    refine congrArg ((↑) : ℝ → EReal) ?_
    simp only [dlgP, dvln, ds, vhat, sil, Sgu.sig, gel, th, at0, at2, grp0, grp1, grp2, grp3, grp4, grp5, grp6, grp7, ← Nat.add_assoc, Nat.reduceAdd]

theorem dlb_block :
    View.canon (runB c t i hc0 hc1 (lift2 X) (lift2 D) (lift2 fun (_ : Fin 1) j => lg j) (lift2 fun (_ : Fin 1) j => lb j) x4
      (lift3 fun g r (_ : Fin 1) => bs g r) xo7 xo8 xo9 (lift2 fun (_ : Fin 1) j => P10 j) (lift3 W)).2.2.2.2.1 = lift2 (fun (_ : Fin 1) j => P10 j + dlbP X D W j) := by
  unfold runB kernelRun0_B
  dsimp only
  sl_unfold_words
  simp only [View.readAt_eq_ld, (hs0_0 t).read_unread, (hs0_1 t).read_unread,
    (hs0_10 t).read_unread, read_unread_whole]
  unfold_payloads
  funext y
  refine View.canon_apply_of_pieces _ _ ?_ y (View.cover_of_tiledL (Val := Elt Ideal) (s := S1x2048) _ S1x256.size (by sl_kernel_rfl) y)
  intro p hp z
  simp only [List.mem_cons, List.not_mem_nil, or_false] at hp
  rcases hp with rfl | rfl | rfl | rfl | rfl | rfl | rfl | rfl
  all_goals
    obtain ⟨r, d, rfl⟩ : ∃ r d, z = ix2 (n0 := 1) (n1 := 256) r d := ⟨z 0, z 1, eq_ix2 z⟩
    dsimp only
    refine Eq.trans ?_ (lift2_emb _ (by decide) r d).symm
    pointwise
    refine congrArg ((↑) : ℝ → EReal) ?_
    simp only [dlbP, dvln, ds, sil, Sgu.sig, gel, th, at0, at2, grp0, grp1, grp2, grp3, grp4, grp5, grp6, grp7, ← Nat.add_assoc, Nat.reduceAdd]

end Cert.SguBwdIdeal.Outs
-- ==== Proof.Sgu.KPoint.lean ====
/-
  The first and the last grid point of the spatial gating unit's backward call by a point in the middle: the first
  fills the mixing weights' scratch and starts the four sums from nothing, the last masks one of them.
-/
module

public import Idealize.ShloMosaic.Lib.Pipeline.ReadBack
public import proofs.«01_k».proof.Proof.Sgu.KSums

@[expose] public section

set_option maxRecDepth 16384

noncomputable section

namespace Cert.SguBwdIdeal.Outs

open Cert.SguBwdIdeal Cert.SguBwdIdeal.Gen Idealize.ShloMosaic Idealize.ShloMosaic.TcCoe Idealize.SL.Sem
open Sgu

variable (c : Dev nD) (t : Fin cfg0.N)

set_option maxHeartbeats 8000000

variable (m : (ℓ : Loc nD τ sig) → Buf (Elt Ideal) ℓ) (Ws : Fin 8 → Fin 128 → Fin 128 → ℝ)

set_option maxHeartbeats 8000000

theorem col_word : ∀ k : Fin 128, kernelRun0_A.sl.v1614 (ix2 (n0 := 128) (n1 := 128) 0 k) = BitVec.ofNat 32 (k.val / 64) := by
  sl_unfold_words
  unfold_payloads
  decide +kernel

theorem row_word : ∀ r : Fin 128, kernelRun0_A.sl.v1638 (ix2 (n0 := 128) (n1 := 128) r 0) = BitVec.ofNat 32 (r.val / 64) := by
  sl_unfold_words
  unfold_payloads
  decide +kernel

theorem sle_small : ∀ a b : Fin 2, IntOp.cmpi .sle (BitVec.ofNat 32 a.val) (BitVec.ofNat 32 b.val) = if a.val ≤ b.val then 1#1 else 0#1 := by
  decide +kernel

/-- The mask's word: column `k` is in row `r`'s run of 64 positions or an earlier one. -/
theorem mask_word (r k : Fin 128) :
    cmpi .sle (kernelRun0_A.sl.v1614) (kernelRun0_A.sl.v1638) (ix2 (n0 := 128) (n1 := 128) r k) = if k.val / 64 ≤ r.val / 64 then 1#1 else 0#1 := by
  have h1 := col_word k
  have h2 := row_word r
  revert h1 h2
  sl_unfold_words
  unfold_payloads
  pointwise
  intro h1 h2
  rw [h1, h2]
  exact sle_small ⟨k.val / 64, by omega⟩ ⟨r.val / 64, by omega⟩

theorem weights_scratch :
    View.canon (kernelRun0_A.sl.HS0_8 c (ms0_4 t) (hs0_4 t) (F := Ideal) (lift3 Ws)) = lift3 (fun g r k => if k.val / 64 ≤ r.val / 64 then Ws g r k else 0) := by
  have hm := mask_word
  revert hm
  sl_unfold_words
  simp only [View.readAt_eq_ld, (hs0_4 t).read_unread]
  unfold_payloads
  intro hm
  funext y
  refine View.canon_apply_of_pieces _ _ ?_ y (View.cover_of_tiledL (Val := Elt Ideal) (s := S8x128x128) _ S1x128x128.size (by sl_kernel_rfl) y)
  intro p hp z
  simp only [List.mem_cons, List.not_mem_nil, or_false] at hp
  rcases hp with rfl | rfl | rfl | rfl | rfl | rfl | rfl | rfl
  all_goals
    obtain ⟨q, r, k, rfl⟩ : ∃ q r k, z = ix3 (n0 := 1) (n1 := 128) (n2 := 128) q r k := ⟨z 0, z 1, z 2, eq_ix3 z⟩
    dsimp only
    refine Eq.trans ?_ (lift3_emb _ (by decide) q r k).symm
    have h := hm r k
    revert h
    pointwise
    intro h
    rw [h]
    split
    · exact congrArg ((↑) : ℝ → EReal) rfl
    · exact EReal.coe_zero.symm

variable (i : grid0.Coords) (hc0 : ¬cond0_0 i) (hc1 : ¬cond0_1 i)

theorem readCov_ld {sp : Space} {s : Shape} {e : EltTy} (v : View sig .tc sp s e) (L : List (View.Piece (Elt Ideal) s e)) (r : Rect s) :
    v.readCov L r.toLoadRect = View.ld (View.canon L) r := View.readCov_eq_canon' v L r.toLoadRect

/-- The skip of the last store, where at least eight earlier ones are left. -/
theorem readCov_skip_of_eight {sp : Space} {s : Shape} {e : EltTy} (v : View sig .tc sp s e) (r : Rect s) (w : r.shape.Idx → Elt Ideal e)
    (p1 p2 p3 p4 p5 p6 p7 p8 : View.Piece (Elt Ideal) s e) (L : List (View.Piece (Elt Ideal) s e)) (B : LoadRect s)
    (h : LoadRect.disj r B = true) :
    v.readCov (⟨r, w⟩ :: p1 :: p2 :: p3 :: p4 :: p5 :: p6 :: p7 :: p8 :: L) B = v.readCov (p1 :: p2 :: p3 :: p4 :: p5 :: p6 :: p7 :: p8 :: L) B :=
  View.readCov_skip v r w _ B h

/-- Stores under later ones that cover an index do not show there. -/
theorem canon_over {s : Shape} {e : EltTy} (y : s.Idx) (L' : List (View.Piece (Elt Ideal) s e)) :
    ∀ (L : List (View.Piece (Elt Ideal) s e)), (∃ p ∈ L, y ∈ p.1.set) → View.canon (L ++ L') y = View.canon L y
  | [], h => absurd h (by rintro ⟨_, hp, _⟩; exact List.not_mem_nil hp)
  | ⟨r, w⟩ :: L, h => by
    by_cases hy : y ∈ r.set
    · obtain ⟨x, rfl⟩ := r.exists_idx_of_mem hy
      exact (View.canon_cons_emb r w (L ++ L') x).trans (View.canon_cons_emb r w L x).symm
    · rw [List.cons_append, View.canon_cons_of_not_mem ⟨r, w⟩ _ hy, View.canon_cons_of_not_mem ⟨r, w⟩ _ hy]
      refine canon_over y L' L ?_
      obtain ⟨q, hq, hm⟩ := h
      rcases List.mem_cons.mp hq with rfl | hq'
      · exact absurd hm hy
      · exact ⟨q, hq', hm⟩

theorem canon_over' {s : Shape} {e : EltTy} (LA L L' : List (View.Piece (Elt Ideal) s e)) (h : LA = L ++ L')
    (hc : ∀ y, ∃ p ∈ L, y ∈ p.1.set) : View.canon LA = View.canon L := by
  subst h; exact funext fun y => canon_over y L' L (hc y)

/-- A point in the middle over point `t`'s own blocks. -/
def runAt (S : Vec Ideal S8x128x128 .bf16) (xo7 : Vec Ideal S8x128x128 .f32) (xo8 : Vec Ideal S8x128x1 .f32) (xo9 xo10 : Vec Ideal S1x2048 .f32) :=
  runB c t i hc0 hc1 (iblk m c 0 t) (iblk m c 1 t) (iblk m c 2 t) (iblk m c 3 t) (iblk m c 4 t) (iblk m c 5 t) xo7 xo8 xo9 xo10 S

variable (S : Vec Ideal S8x128x128 .bf16)

/-- The blocks the first point leaves are those of a point in the middle whose scratch is already filled and whose sums are nothing. -/
theorem outs_first (hS : View.canon (kernelRun0_A.sl.HS0_8 c (ms0_4 t) (hs0_4 t) (F := Ideal) (iblk m c 4 t)) = S)
    (h0 : t.val % 32 = 0) (h1 : ¬t.val % 32 = 31) :
    outsAt0 m c t.val t.isLt =
      (View.canon (runAt c t m i hc0 hc1 S (k0_pay29 (F := Ideal)) (k0_pay30 (F := Ideal)) (k0_pay31 (F := Ideal)) (k0_pay32 (F := Ideal))).1,
       View.canon (runAt c t m i hc0 hc1 S (k0_pay29 (F := Ideal)) (k0_pay30 (F := Ideal)) (k0_pay31 (F := Ideal)) (k0_pay32 (F := Ideal))).2.1,
       View.canon (runAt c t m i hc0 hc1 S (k0_pay29 (F := Ideal)) (k0_pay30 (F := Ideal)) (k0_pay31 (F := Ideal)) (k0_pay32 (F := Ideal))).2.2.1,
       View.canon (runAt c t m i hc0 hc1 S (k0_pay29 (F := Ideal)) (k0_pay30 (F := Ideal)) (k0_pay31 (F := Ideal)) (k0_pay32 (F := Ideal))).2.2.2.1,
       View.canon (runAt c t m i hc0 hc1 S (k0_pay29 (F := Ideal)) (k0_pay30 (F := Ideal)) (k0_pay31 (F := Ideal)) (k0_pay32 (F := Ideal))).2.2.2.2.1, S) := by
  rw [outsAt0_A m c t h0 h1]
  unfold out0_A_6 out0_A_7 out0_A_8 out0_A_9 out0_A_10 sout0_A_0
  simp only [View.read_writes_junk_eq_canon]
  revert hS
  unfold runAt runB kernelRun0_A kernelRun0_B
  dsimp only
  refine fun hS => Prod.ext ?_ (Prod.ext ?_ (Prod.ext ?_ (Prod.ext ?_ (Prod.ext ?_ hS)))) <;> dsimp only <;> revert hS
  all_goals
    sl_unfold_words
    simp (disch := first | rfl | decide) only [↓View.readCov_skip (ms0_7 t).view, ↓View.readCov_fill (ms0_7 t).view,
      ↓View.readCov_skip (ms0_8 t).view, ↓View.readCov_fill (ms0_8 t).view, ↓View.readCov_skip (ms0_9 t).view, ↓View.readCov_fill (ms0_9 t).view,
      ↓View.readCov_skip (ms0_10 t).view, ↓View.readCov_fill (ms0_10 t).view]
    simp only [View.readAt_eq_ld, readCov_ld, read_unread_whole, (hs0_4 t).read_unread, (hs0_7 t).read_unread,
      (hs0_8 t).read_unread, (hs0_9 t).read_unread, (hs0_10 t).read_unread]
    unfold_payloads
    intro hS
    simp only [hS]
  · exact canon_over' _ _ [_] rfl (View.cover_of_tiledL (Val := Elt Ideal) (s := S8x128x128) _ S1x128x128.size (by sl_kernel_rfl))
  · exact canon_over' _ _ [_] rfl (View.cover_of_tiledL (Val := Elt Ideal) (s := S8x128x1) _ S1x128x1.size (by sl_kernel_rfl))
  · exact canon_over' _ _ [_] rfl (View.cover_of_tiledL (Val := Elt Ideal) (s := S1x2048) _ S1x256.size (by sl_kernel_rfl))
  · exact canon_over' _ _ [_] rfl (View.cover_of_tiledL (Val := Elt Ideal) (s := S1x2048) _ S1x256.size (by sl_kernel_rfl))

/-- The blocks a point in the middle leaves. -/
theorem outs_middle (h0 : ¬t.val % 32 = 0) (h1 : ¬t.val % 32 = 31) :
    outsAt0 m c t.val t.isLt =
      (View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).1,
       View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).2.1,
       View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).2.2.1,
       View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).2.2.2.1,
       View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).2.2.2.2.1,
       (outsAt0 m c (t.val - 1) (Nat.lt_of_le_of_lt (Nat.sub_le _ _) t.isLt)).2.2.2.2.2) := by
  rw [outsAt0_B m c t h0 h1]
  unfold out0_B_6 out0_B_7 out0_B_8 out0_B_9 out0_B_10 sout0_B_0
  simp only [View.read_writes_junk_eq_canon]
  rfl

/-- The blocks the last point leaves: as a point in the middle, then the mask over the second. -/
theorem outs_last (h0 : ¬t.val % 32 = 0) (h1 : t.val % 32 = 31) (Q : Fin 8 → Fin 128 → Fin 128 → ℝ)
    (hQ : View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).2.1 = lift3 Q) :
    outsAt0 m c t.val t.isLt =
      (View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).1,
       lift3 (fun g r k => if k.val / 64 ≤ r.val / 64 then Q g r k else 0),
       View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).2.2.1,
       View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).2.2.2.1,
       View.canon (runAt c t m i hc0 hc1 ((outsAt0 m c (t.val - 1) (Nat.lt_of_le_of_lt (Nat.sub_le _ _) t.isLt)).2.2.2.2.2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1).2.2.2.2.1,
       (outsAt0 m c (t.val - 1) (Nat.lt_of_le_of_lt (Nat.sub_le _ _) t.isLt)).2.2.2.2.2) := by
  rw [outsAt0_C m c t h0 h1]
  unfold out0_C_6 out0_C_7 out0_C_8 out0_C_9 out0_C_10 sout0_C_0
  simp only [View.read_writes_junk_eq_canon]
  revert hQ
  unfold runAt runB kernelRun0_C kernelRun0_B
  dsimp only
  refine fun hQ => Prod.ext ?_ (Prod.ext ?_ (Prod.ext ?_ (Prod.ext ?_ (Prod.ext ?_ rfl)))) <;> dsimp only
  · sl_unfold_words; rfl
  · have hm := mask_word
    revert hm hQ
    sl_unfold_words
    simp (disch := first | rfl | decide) only [↓readCov_skip_of_eight (ms0_7 t).view]
    simp only [View.readAt_eq_ld, readCov_ld, read_unread_whole, (hs0_7 t).read_unread]
    unfold_payloads
    intro hQ hm
    simp only [hQ]
    refine (canon_over' _ [_, _, _, _, _, _, _, _] [_, _, _, _, _, _, _, _] rfl
      (View.cover_of_tiledL (Val := Elt Ideal) (s := S8x128x128) _ S1x128x128.size (by sl_kernel_rfl))).trans ?_
    funext y
    refine View.canon_apply_of_pieces _ _ ?_ y (View.cover_of_tiledL (Val := Elt Ideal) (s := S8x128x128) _ S1x128x128.size (by sl_kernel_rfl) y)
    intro p hp z
    simp only [List.mem_cons, List.not_mem_nil, or_false] at hp
    rcases hp with rfl | rfl | rfl | rfl | rfl | rfl | rfl | rfl
    all_goals
      obtain ⟨q, r, k, rfl⟩ : ∃ q r k, z = ix3 (n0 := 1) (n1 := 128) (n2 := 128) q r k := ⟨z 0, z 1, z 2, eq_ix3 z⟩
      dsimp only
      refine Eq.trans ?_ (lift3_emb _ (by decide) q r k).symm
      have h := hm r k
      revert h
      pointwise
      intro h
      refine Eq.trans (congrArg (fun w => Scalar.select w _ _) h) ?_
      split
      · exact congrArg ((↑) : ℝ → EReal) rfl
      · exact EReal.coe_zero.symm
  all_goals sl_unfold_words; rfl

end Cert.SguBwdIdeal.Outs
-- ==== Proof.Sgu.KSteps.lean ====
/-
  The spatial gating unit's backward call after each grid point, over real input blocks: the point's block of the
  projection's gradient, the four sums over the points so far, and the masked mixing weights.
-/
module

public import Idealize.ShloMosaic.Lib.Pipeline.ReadBack
public import proofs.«01_k».proof.Proof.Sgu.KPoint

@[expose] public section

set_option maxRecDepth 16384

noncomputable section

namespace Cert.SguBwdIdeal.Outs

open Cert.SguBwdIdeal Cert.SguBwdIdeal.Gen Idealize.ShloMosaic Idealize.ShloMosaic.TcCoe Idealize.SL.Sem
open Sgu

variable (c : Dev nD) (m : (ℓ : Loc nD τ sig) → Buf (Elt Ideal) ℓ)
  (X : ℕ → Fin 128 → Fin 6144 → ℝ) (D : ℕ → Fin 128 → Fin 2048 → ℝ) (lg lb : Fin 2048 → ℝ) (Ws : Fin 8 → Fin 128 → Fin 128 → ℝ) (bs : Fin 8 → Fin 128 → ℝ)

theorem zero29 : k0_pay29 (F := Ideal) = lift3 (fun _ _ _ => 0) := funext fun _ => ofBits_zero
theorem zero30 : k0_pay30 (F := Ideal) = lift3 (fun _ _ (_ : Fin 1) => 0) := funext fun _ => ofBits_zero
theorem zero31 : k0_pay31 (F := Ideal) = lift2 (fun (_ : Fin 1) _ => 0) := funext fun _ => ofBits_zero
theorem zero32 : k0_pay32 (F := Ideal) = lift2 (fun (_ : Fin 1) _ => 0) := funext fun _ => ofBits_zero

set_option maxHeartbeats 4000000

section

variable (t : Fin cfg0.N) (i : grid0.Coords) (hc0 : ¬cond0_0 i) (hc1 : ¬cond0_1 i)
  (o : Vec Ideal S128x6144 .bf16 × Vec Ideal S8x128x128 .f32 × Vec Ideal S8x128x1 .f32 × Vec Ideal S1x2048 .f32 × Vec Ideal S1x2048 .f32 × Vec Ideal S8x128x128 .bf16)
  (ho : outsAt0 m c (t.val - 1) (Nat.lt_of_le_of_lt (Nat.sub_le _ _) t.isLt) = o)

include ho

theorem middle_of (h0 : ¬t.val % 32 = 0) (h1 : ¬t.val % 32 = 31) : outsAt0 m c t.val t.isLt =
      (View.canon (runAt c t m i hc0 hc1 o.2.2.2.2.2 o.2.1 o.2.2.1 o.2.2.2.1 o.2.2.2.2.1).1,
       View.canon (runAt c t m i hc0 hc1 o.2.2.2.2.2 o.2.1 o.2.2.1 o.2.2.2.1 o.2.2.2.2.1).2.1,
       View.canon (runAt c t m i hc0 hc1 o.2.2.2.2.2 o.2.1 o.2.2.1 o.2.2.2.1 o.2.2.2.2.1).2.2.1,
       View.canon (runAt c t m i hc0 hc1 o.2.2.2.2.2 o.2.1 o.2.2.1 o.2.2.2.1 o.2.2.2.2.1).2.2.2.1,
       View.canon (runAt c t m i hc0 hc1 o.2.2.2.2.2 o.2.1 o.2.2.1 o.2.2.2.1 o.2.2.2.2.1).2.2.2.2.1,
       o.2.2.2.2.2) := by
  subst ho; exact outs_middle c t m i hc0 hc1 h0 h1

theorem last_of (h0 : ¬t.val % 32 = 0) (h1 : t.val % 32 = 31) (Q : Fin 8 → Fin 128 → Fin 128 → ℝ)
    (hQ : View.canon (runAt c t m i hc0 hc1 o.2.2.2.2.2 o.2.1 o.2.2.1 o.2.2.2.1 o.2.2.2.2.1).2.1 = lift3 Q) : outsAt0 m c t.val t.isLt =
      (View.canon (runAt c t m i hc0 hc1 o.2.2.2.2.2 o.2.1 o.2.2.1 o.2.2.2.1 o.2.2.2.2.1).1,
       lift3 (msk Q),
       View.canon (runAt c t m i hc0 hc1 o.2.2.2.2.2 o.2.1 o.2.2.1 o.2.2.2.1 o.2.2.2.2.1).2.2.1,
       View.canon (runAt c t m i hc0 hc1 o.2.2.2.2.2 o.2.1 o.2.2.1 o.2.2.2.1 o.2.2.2.2.1).2.2.2.1,
       View.canon (runAt c t m i hc0 hc1 o.2.2.2.2.2 o.2.1 o.2.2.1 o.2.2.2.1 o.2.2.2.2.1).2.2.2.2.1,
       o.2.2.2.2.2) := by
  subst ho; exact outs_last c t m i hc0 hc1 h0 h1 Q hQ

end

/-- A point's stores over the sums up to point `n`. -/
def runSum (t : Fin cfg0.N) (i : grid0.Coords) (hc0 : ¬cond0_0 i) (hc1 : ¬cond0_1 i) (n : ℕ) :=
  runAt c t m i hc0 hc1 (lift3 (msk Ws)) (lift3 (s7 X D lg lb n)) (lift3 (fun g r (_ : Fin 1) => s8 X D n g r))
    (lift2 (fun (_ : Fin 1) j => s9 X D Ws n j)) (lift2 (fun (_ : Fin 1) j => s10 X D Ws n j))

section

variable (h0 : ∀ t : Fin cfg0.N, iblk m c 0 t = lift2 (X t.val)) (h1 : ∀ t : Fin cfg0.N, iblk m c 1 t = lift2 (D t.val))
    (h2 : ∀ t : Fin cfg0.N, iblk m c 2 t = lift2 fun (_ : Fin 1) j => lg j) (h3 : ∀ t : Fin cfg0.N, iblk m c 3 t = lift2 fun (_ : Fin 1) j => lb j)
    (h4 : ∀ t : Fin cfg0.N, iblk m c 4 t = lift3 Ws) (h5 : ∀ t : Fin cfg0.N, iblk m c 5 t = lift3 fun g r (_ : Fin 1) => bs g r)

include h0 h1 h2 h3 h4 h5

section

variable (n : ℕ) (hn : n + 1 < cfg0.N) (i : grid0.Coords) (hc0 : ¬cond0_0 i) (hc1 : ¬cond0_1 i)

theorem next6 : View.canon (runSum c m X D lg lb Ws ⟨n + 1, hn⟩ i hc0 hc1 n).1 = lift2 (dp (X (n + 1)) (D (n + 1)) lg lb (msk Ws) bs) := by
  unfold runSum runAt; rw [h0, h1, h2, h3, h4, h5]; exact dp_block ..
theorem next7 : View.canon (runSum c m X D lg lb Ws ⟨n + 1, hn⟩ i hc0 hc1 n).2.1 = lift3 (s7 X D lg lb (n + 1)) := by
  unfold runSum runAt; rw [h0, h1, h2, h3, h4, h5]
  refine (dws_block ..).trans (congrArg lift3 ?_)
  funext g r k; exact (Finset.sum_range_succ _ _).symm
theorem next8 : View.canon (runSum c m X D lg lb Ws ⟨n + 1, hn⟩ i hc0 hc1 n).2.2.1 = lift3 (fun g r (_ : Fin 1) => s8 X D (n + 1) g r) := by
  unfold runSum runAt; rw [h0, h1, h2, h3, h4, h5]
  refine (dbs_block ..).trans (congrArg lift3 ?_)
  funext g r _; exact (Finset.sum_range_succ _ _).symm
theorem next9 : View.canon (runSum c m X D lg lb Ws ⟨n + 1, hn⟩ i hc0 hc1 n).2.2.2.1 = lift2 (fun (_ : Fin 1) j => s9 X D Ws (n + 1) j) := by
  unfold runSum runAt; rw [h0, h1, h2, h3, h4, h5]
  refine (dlg_block ..).trans (congrArg lift2 ?_)
  funext _ j; exact (Finset.sum_range_succ _ _).symm
theorem next10 : View.canon (runSum c m X D lg lb Ws ⟨n + 1, hn⟩ i hc0 hc1 n).2.2.2.2.1 = lift2 (fun (_ : Fin 1) j => s10 X D Ws (n + 1) j) := by
  unfold runSum runAt; rw [h0, h1, h2, h3, h4, h5]
  refine (dlb_block ..).trans (congrArg lift2 ?_)
  funext _ j; exact (Finset.sum_range_succ _ _).symm

end

/-- What the first point leaves. -/
theorem outs_zero (hn : 0 < cfg0.N) (i : grid0.Coords) (hc0 : ¬cond0_0 i) (hc1 : ¬cond0_1 i) : outsAt0 m c 0 hn =
      (lift2 (dp (X 0) (D 0) lg lb (msk Ws) bs), lift3 (s7 X D lg lb 0), lift3 (fun g r (_ : Fin 1) => s8 X D 0 g r),
       lift2 (fun (_ : Fin 1) j => s9 X D Ws 0 j), lift2 (fun (_ : Fin 1) j => s10 X D Ws 0 j), lift3 (msk Ws)) := by
  refine (outs_first c ⟨0, hn⟩ m i hc0 hc1 (lift3 (msk Ws)) ?_ rfl (by show ¬0 % 32 = 31; decide)).trans ?_
  · rw [h4]; exact weights_scratch c ⟨0, hn⟩ Ws
  · unfold runAt
    rw [h0, h1, h2, h3, h4, h5, zero29, zero30, zero31, zero32]
    refine Prod.ext ?_ (Prod.ext ?_ (Prod.ext ?_ (Prod.ext ?_ (Prod.ext ?_ rfl))))
    all_goals dsimp only
    · exact dp_block ..
    · refine (dws_block ..).trans (congrArg lift3 ?_); funext _ _ _; unfold s7; rw [Finset.sum_range_one, zero_add]
    · refine (dbs_block ..).trans (congrArg lift3 ?_); funext _ _ _; unfold s8; rw [Finset.sum_range_one, zero_add]
    · refine (dlg_block ..).trans (congrArg lift2 ?_); funext _ _; unfold s9; rw [Finset.sum_range_one, zero_add]
    · refine (dlb_block ..).trans (congrArg lift2 ?_); funext _ _; unfold s10; rw [Finset.sum_range_one, zero_add]

/-- What the points leave, one after another. -/
theorem outs_at : ∀ (n : ℕ) (hn : n < cfg0.N), outsAt0 m c n hn =
      (lift2 (dp (X n) (D n) lg lb (msk Ws) bs),
       lift3 (if n % 32 = 31 then msk (s7 X D lg lb n) else s7 X D lg lb n),
       lift3 (fun g r (_ : Fin 1) => s8 X D n g r), lift2 (fun (_ : Fin 1) j => s9 X D Ws n j), lift2 (fun (_ : Fin 1) j => s10 X D Ws n j),
       lift3 (msk Ws)) := by
  have hN : cfg0.N = 32 := N_0
  have l1 : 1 < cfg0.N := by rw [hN]; decide
  have hc0 : ¬cond0_0 (grid0.coords ⟨1, l1⟩) := fun h => absurd ((hcond0_0 ⟨1, l1⟩).mp h) (by show ¬1 % 32 = 0; decide)
  have hc1 : ¬cond0_1 (grid0.coords ⟨1, l1⟩) := fun h => absurd ((hcond0_1 ⟨1, l1⟩).mp h) (by show ¬1 % 32 = 31; decide)
  intro n
  induction n with
  | zero =>
    intro hn
    rw [if_neg (by decide)]
    exact outs_zero c m X D lg lb Ws bs h0 h1 h2 h3 h4 h5 hn _ hc0 hc1
  | succ n ih =>
    intro hn
    have e := ih (Nat.lt_of_succ_lt hn)
    have hlt : n + 1 < 32 := Nat.lt_of_lt_of_eq hn N_0
    rw [if_neg (show ¬(n % 32 = 31) by omega)] at e
    have f6 := next6 c m X D lg lb Ws bs h0 h1 h2 h3 h4 h5 n hn _ hc0 hc1
    have f7 := next7 c m X D lg lb Ws bs h0 h1 h2 h3 h4 h5 n hn _ hc0 hc1
    have f8 := next8 c m X D lg lb Ws bs h0 h1 h2 h3 h4 h5 n hn _ hc0 hc1
    have f9 := next9 c m X D lg lb Ws bs h0 h1 h2 h3 h4 h5 n hn _ hc0 hc1
    have f10 := next10 c m X D lg lb Ws bs h0 h1 h2 h3 h4 h5 n hn _ hc0 hc1
    by_cases hl : (n + 1) % 32 = 31
    · rw [if_pos hl]
      refine (last_of c m ⟨n + 1, hn⟩ _ hc0 hc1 _ e (by show ¬(n + 1) % 32 = 0; omega) hl _ f7).trans ?_
      exact Prod.ext f6 (Prod.ext rfl (Prod.ext f8 (Prod.ext f9 (Prod.ext f10 rfl))))
    · rw [if_neg hl]
      refine (middle_of c m ⟨n + 1, hn⟩ _ hc0 hc1 _ e (by show ¬(n + 1) % 32 = 0; omega) hl).trans ?_
      exact Prod.ext f6 (Prod.ext f7 (Prod.ext f8 (Prod.ext f9 (Prod.ext f10 rfl))))

end

end Cert.SguBwdIdeal.Outs
-- ==== Proof.Sgu.RefRows.lean ====
/-
  The spatial gating unit's reference at real arguments, stage by stage: the stages that keep to one row.
-/
module

public import proofs.«01_k».proof.Proof.Gen.SguRefIdeal.Read
public import proofs.«01_k».proof.Proof.Sgu.Spec

@[expose] public section

set_option maxRecDepth 16384

noncomputable section

namespace Cert.SguRefIdeal.Rows

open Cert.SguRefIdeal Cert.SguRefIdeal.Read Idealize.ShloMosaic Idealize.ShloMosaic.TcCoe Sgu

/-- The block of 128 rows a sequence's row is in, counted over both sequences. -/
def bk (b : Fin 2) (s : Fin 2048) : ℕ := 16 * b.val + s.val / 128
/-- The row's place in its block. -/
def rr (s : Fin 2048) : Fin 128 := ⟨s.val % 128, Nat.mod_lt _ (by decide)⟩
/-- Column `j` of the first two thirds. -/
def at01 (j : Fin 4096) : Fin 6144 := ⟨j.val, by omega⟩

/-- Three axes of reals given block by block. -/
def rows {n : Nat} (f : ℕ → Fin 128 → Fin n → ℝ) : (⟨3, ![2, 2048, n]⟩ : Shape).Idx → EReal :=
  lift3 fun b s j => f (bk b s) (rr s) j
/-- Two axes of reals given block by block. -/
def rows2 (f : ℕ → Fin 128 → ℝ) : (⟨2, ![2, 2048]⟩ : Shape).Idx → EReal := lift2 fun b s => f (bk b s) (rr s)

theorem rows_at {n : Nat} (f : ℕ → Fin 128 → Fin n → ℝ) (i : (⟨3, ![2, 2048, n]⟩ : Shape).Idx) :
    rows f i = ((f (bk (i 0) (i 1)) (rr (i 1)) (i 2) : ℝ) : EReal) := rfl

/-- Two such arrays with the same entries. -/
theorem rows_congr {n : Nat} {f g : ℕ → Fin 128 → Fin n → ℝ} (h : ∀ n r j, f n r j = g n r j) : rows f = rows g :=
  congrArg rows (funext fun n => funext fun r => funext fun j => h n r j)

/-- The host's sum from zero over reals. -/
theorem sum_real {n : Nat} (f : Fin n → ℝ) :
    (FloatOps.ofBits (F := Ideal) .f32 0x00000000#32 : EReal) + ∑ k, ((f k : ℝ) : EReal) = ((∑ k, f k : ℝ) : EReal) := by
  rw [show (FloatOps.ofBits (F := Ideal) .f32 0x00000000#32 : EReal) = ((0 : ℝ) : EReal) from ofBits_zero, coe_sum, add_real, zero_add]

theorem ofBits_44715 : Ideal.ofBits .f32 0x472EAB00#32 = ((44715 : ℝ) : EReal) := by
  simp [Ideal.ofBits, Ideal.ieee, -EReal.coe_mul]; norm_num
theorem ofBits_million : Ideal.ofBits .f32 0x49742400#32 = ((1000000 : ℝ) : EReal) := by
  simp [Ideal.ofBits, Ideal.ieee, -EReal.coe_mul]; norm_num
theorem div_million (x : ℝ) : Ideal.div ((x : ℝ) : EReal) ((1000000 : ℝ) : EReal) = ((x / 1000000 : ℝ) : EReal) :=
  div_real x 1000000 (by norm_num)

attribute [pointwise] Ideal.exp_coe ofBits_44715 ofBits_million div_million ofBits_zero

variable (X : ℕ → Fin 128 → Fin 6144 → ℝ) (D : ℕ → Fin 128 → Fin 2048 → ℝ) (lg lb : Fin 2048 → ℝ)
  (Ws : Fin 8 → Fin 128 → Fin 128 → ℝ) (bs : Fin 8 → Fin 128 → ℝ)

theorem v2 : val_main_v2 (F := Ideal) (rows X) = rows fun n r (j : Fin 4096) => X n r (at01 j) := by
  funext i; rw [val_main_v2_apply]; rfl
theorem v3 : val_main_v3 (F := Ideal) (rows X) = rows fun n r (j : Fin 2048) => X n r (at2 j) := by
  funext i; rw [val_main_v3_apply]; rfl
theorem v8 : val_main_v8 (F := Ideal) (rows X) = rows fun n r (j : Fin 4096) => 3 * (X n r (at01 j) * X n r (at01 j)) := by
  funext i
  simp only [val_main_v8_apply, val_main_v7_apply, val_main_cst_apply, val_main_v6_apply, v2, rows_at]
  pointwise
theorem v16 : val_main_v16 (F := Ideal) (rows X) = rows fun n r (j : Fin 4096) => th (X n r (at01 j)) := by
  funext i
  simp only [val_main_v16_apply, val_main_v15_apply, val_main_v14_apply, val_main_cst_2_apply, val_main_v13_apply, val_main_v12_apply, val_main_v11_apply, val_main_cst_1_apply, val_main_v10_apply, val_main_v9_apply, val_main_cst_0_apply, val_main_v5_apply, val_main_v4_apply, v2, rows_at]
  pointwise
  refine congrArg _ ?_
  unfold th c1
  refine congrArg Real.tanh ?_
  ring
theorem v21 : val_main_v21 (F := Ideal) (rows X) = rows fun n r (j : Fin 4096) => (1 + th (X n r (at01 j))) * (1 - th (X n r (at01 j))) := by
  funext i
  simp only [val_main_v21_apply, val_main_v18_apply, val_main_v17_apply, val_main_cst_3_apply, val_main_v20_apply, val_main_v19_apply, val_main_cst_4_apply, v16, rows_at]
  pointwise
theorem v25 : val_main_v25 (F := Ideal) (rows X) = rows fun n r (j : Fin 4096) => 1 / 2 * (1 + th (X n r (at01 j))) := by
  funext i
  simp only [val_main_v25_apply, val_main_v24_apply, val_main_cst_6_apply, val_main_v23_apply, val_main_v22_apply, val_main_cst_5_apply, v16, rows_at]
  pointwise
theorem v26 : val_main_v26 (F := Ideal) (rows X) = rows fun n r (j : Fin 4096) => gel (X n r (at01 j)) := by
  funext i
  simp only [val_main_v26_apply, v25, v2, rows_at]
  pointwise
  refine congrArg _ ?_
  unfold gel
  ring
theorem v27 : val_main_v27 (F := Ideal) (rows X) = rows fun n r (j : Fin 2048) => gel (X n r (at0 j)) := by
  funext i; rw [val_main_v27_apply, v26]; rfl
theorem v28 : val_main_v28 (F := Ideal) (rows X) = rows fun n r (j : Fin 2048) => vg (X n) r j := by
  funext i; rw [val_main_v28_apply, v26]; rfl
theorem v29 : val_main_v29 (F := Ideal) (rows X) = rows2 fun n r => ∑ j, vg (X n) r j := by
  funext i; rw [val_main_v29_apply, v28]; exact sum_real _
theorem v30 : val_main_v30 (F := Ideal) (rows X) = rows fun n r (_ : Fin 1) => ∑ j, vg (X n) r j := by
  funext i; rw [val_main_v30_apply, v29]; rfl
theorem v32 : val_main_v32 (F := Ideal) (rows X) = rows fun n r (_ : Fin 1) => mu (X n) r := by
  funext i
  simp only [val_main_v32_apply, v30, val_main_v31_apply, val_main_cst_8_apply, rows_at]
  pointwise
  rfl
theorem v33 : val_main_v33 (F := Ideal) (rows X) = rows fun n r (_ : Fin 2048) => mu (X n) r := by
  funext i; rw [val_main_v33_apply, v32]; rfl
theorem v42 : val_main_v42 (F := Ideal) (rows X) = rows fun n r (_ : Fin 2048) => mu (X n) r := by
  funext i; rw [val_main_v42_apply, v32]; rfl
theorem v34 : val_main_v34 (F := Ideal) (rows X) = rows fun n r j => vg (X n) r j - mu (X n) r := by
  funext i
  simp only [val_main_v34_apply, v28, v33, rows_at]
  pointwise
theorem v43 : val_main_v43 (F := Ideal) (rows X) = rows fun n r j => vg (X n) r j - mu (X n) r := by
  funext i
  simp only [val_main_v43_apply, v28, v42, rows_at]
  pointwise
theorem v37 : val_main_v37 (F := Ideal) (rows X) = rows fun n r j => 2 * (vg (X n) r j - mu (X n) r) := by
  funext i
  simp only [val_main_v37_apply, val_main_v36_apply, val_main_cst_9_apply, v34, rows_at]
  pointwise
theorem v35 : val_main_v35 (F := Ideal) (rows X) = rows fun n r j => (vg (X n) r j - mu (X n) r) * (vg (X n) r j - mu (X n) r) := by
  funext i
  simp only [val_main_v35_apply, v34, rows_at]
  pointwise
theorem v38 : val_main_v38 (F := Ideal) (rows X) = rows2 fun n r => ∑ j, (vg (X n) r j - mu (X n) r) * (vg (X n) r j - mu (X n) r) := by
  funext i; rw [val_main_v38_apply, v35]; exact sum_real _
theorem v39 : val_main_v39 (F := Ideal) (rows X) = rows fun n r (_ : Fin 1) => ∑ j, (vg (X n) r j - mu (X n) r) * (vg (X n) r j - mu (X n) r) := by
  funext i; rw [val_main_v39_apply, v38]; rfl
theorem v45 : val_main_v45 (F := Ideal) (rows X) = rows fun n r (_ : Fin 1) => var (X n) r + eps := by
  funext i
  simp only [val_main_v45_apply, val_main_v44_apply, val_main_cst_12_apply, val_main_v41_apply, v39, val_main_v40_apply, val_main_cst_11_apply, rows_at]
  pointwise
  rfl
theorem v46 : val_main_v46 (F := Ideal) (rows X) = rows fun n r (_ : Fin 1) => rstd (X n) r := by
  funext i
  simp only [val_main_v46_apply, v45, rows_at]
  pointwise
  rw [rsqrt_real _ (var_eps_pos _ _)]
  rfl
theorem v49 : val_main_v49 (F := Ideal) (rows X) = rows fun n r (_ : Fin 1) => -(1 / 2) * (rstd (X n) r / (var (X n) r + eps)) := by
  funext i
  simp only [val_main_v49_apply, val_main_v48_apply, val_main_cst_13_apply, val_main_v47_apply, v46, v45, rows_at]
  pointwise
  rw [div_real _ _ (var_eps_pos _ _).ne']
  pointwise
theorem v50 : val_main_v50 (F := Ideal) (rows X) = rows fun n r (_ : Fin 2048) => rstd (X n) r := by
  funext i; rw [val_main_v50_apply, v46]; rfl
theorem v51 : val_main_v51 (F := Ideal) (rows X) = rows fun n r j => vhat (X n) r j := by
  funext i
  simp only [val_main_v51_apply, v43, v50, rows_at]
  pointwise
  rfl
/-- One axis of reals. -/
def line {n : Nat} (f : Fin n → ℝ) : (⟨1, ![n]⟩ : Shape).Idx → EReal := fun i => ((f (i 0) : ℝ) : EReal)

theorem v53 : val_main_v53 (F := Ideal) (line lg) = rows fun _ _ j => lg j := by
  funext i; rw [val_main_v53_apply, val_main_v52_apply]; rfl
theorem v56 : val_main_v56 (F := Ideal) (line lb) = rows fun _ _ j => lb j := by
  funext i; rw [val_main_v56_apply, val_main_v55_apply]; rfl
theorem v101 : val_main_v101 (F := Ideal) (line lg) = rows fun _ _ j => lg j := by
  funext i; rw [val_main_v101_apply, val_main_v52_apply]; rfl
theorem v57 : val_main_v57 (F := Ideal) (rows X) (line lg) (line lb) = rows fun n r j => vln (X n) lg lb r j := by
  funext i
  simp only [val_main_v57_apply, val_main_v54_apply, v51, v53, v56, rows_at]
  pointwise
  rfl
/-- The logistic function, by its exponential. -/
theorem sig_exp (x : ℝ) : Sgu.sig x = 1 / (1 + Real.exp (-x)) := by
  unfold Sgu.sig
  have h1 : 0 < Real.exp (1 / 2 * x) := Real.exp_pos _
  have h2 : Real.exp (-(1 / 2 * x)) = (Real.exp (1 / 2 * x))⁻¹ := Real.exp_neg _
  have h3 : Real.exp (-x) = (Real.exp (1 / 2 * x))⁻¹ * (Real.exp (1 / 2 * x))⁻¹ := by
    rw [← h2, ← Real.exp_add]; congr 1; ring
  rw [Real.tanh_eq_sinh_div_cosh, Real.sinh_eq, Real.cosh_eq, h2, h3]
  field_simp
  ring

theorem exp_ne (x : ℝ) : 1 + Real.exp (-x) ≠ 0 := (add_pos one_pos (Real.exp_pos _)).ne'

theorem v77_2 : val_main_v77_2 (F := Ideal) (rows X) = rows fun n r j => Sgu.sig (X n r (at2 j)) := by
  funext i
  simp only [val_main_v77_2_apply, val_main_call3_v4_apply, val_main_call3_cst_0_apply, val_main_call3_v3_apply, val_main_call3_v2_apply, val_main_call3_cst_apply,
    val_main_call3_v1_apply, val_main_call3_v0_apply, v3, rows_at]
  pointwise
  rw [div_real _ _ (exp_ne _), sig_exp]
theorem v77_1 : val_main_v77_1 (F := Ideal) (rows X) = rows fun n r j => Sgu.sig (X n r (at2 j)) * (1 - Sgu.sig (X n r (at2 j))) := by
  funext i
  simp only [val_main_v77_1_apply, val_main_call3_v7_apply, val_main_call3_v6_apply, val_main_call3_cst_1_apply, v77_2, rows_at]
  pointwise
theorem v77_0 : val_main_v77_0 (F := Ideal) (rows X) = rows fun n r j => sil (X n r (at2 j)) := by
  funext i
  simp only [val_main_v77_0_apply, v77_2, v3, rows_at]
  pointwise
  rfl
/-- The cotangent's rows, both sequences' one after another. -/
def flat {n : Nat} (f : ℕ → Fin 128 → Fin n → ℝ) : (⟨2, ![4096, n]⟩ : Shape).Idx → EReal :=
  lift2 fun i j => f (i.val / 128) ⟨i.val % 128, Nat.mod_lt _ (by decide)⟩ j

/-- A row of the flat array at a sequence's row. -/
theorem flat_at {n : Nat} (f : ℕ → Fin 128 → Fin n → ℝ) (b : Fin 2) (s : Fin 2048) (j : Fin n) (p : (⟨2, ![4096, n]⟩ : Shape).Idx)
    (h0 : (p 0).val = b.val * 2048 + s.val) (h1 : (p 1).val = j.val) : flat f p = ((f (bk b s) (rr s) j : ℝ) : EReal) := by
  refine congrArg ((↑) : ℝ → EReal) (congr (congrArg₂ f ?_ (Fin.ext ?_)) (Fin.ext h1))
  · show (p 0).val / 128 = 16 * b.val + s.val / 128
    omega
  · show (p 0).val % 128 = s.val % 128
    omega

theorem v1 : val_main_v1 (F := Ideal) (flat D) = rows D := by
  funext i
  rw [val_main_v1_apply, val_main_v0_apply]
  have h1 : (i 1).val < 2048 := (i 1).isLt
  have h2 : (i 2).val < 2048 := (i 2).isLt
  refine (flat_at D (i 0) (i 1) (i 2) _ ?_ ?_)
  · show (((i 0).val * 2048 + (i 1).val) * 2048 + (i 2).val) / 2048 = _
    omega
  · show (((i 0).val * 2048 + (i 1).val) * 2048 + (i 2).val) % 2048 = _
    omega
theorem v80 : val_main_v80 (F := Ideal) (rows X) (flat D) = rows fun n r j => D n r j * sil (X n r (at2 j)) := by
  funext i
  simp only [val_main_v80_apply, v1, v77_0, rows_at]
  pointwise
theorem v82 : val_main_v82 (F := Ideal) (rows X) (flat D) = rows fun n r j => ds (X n) (D n) r j := by
  funext i
  simp only [val_main_v82_apply, v27, v80, rows_at]
  pointwise
  refine congrArg _ ?_
  unfold ds
  ring

end Cert.SguRefIdeal.Rows
-- ==== Proof.Sgu.KFinal.lean ====
/-
  The spatial gating unit's backward call over real arguments: what each of its five output arrays ends holding.
-/
module

public import proofs.«01_k».proof.Proof.Gen.SguBwdIdeal.Value
public import proofs.«01_k».proof.Proof.Sgu.KSteps
public import proofs.«01_k».proof.Proof.Sgu.RefRows

@[expose] public section

set_option maxRecDepth 16384

noncomputable section

namespace Cert.SguBwdIdeal.Arrays

open Cert.SguBwdIdeal Cert.SguBwdIdeal.Gen Idealize.ShloMosaic Idealize.ShloMosaic.TcCoe Idealize.SL.Sem
open Idealize.ShloMosaic.Pipeline (Dat)
open Sgu Cert.SguRefIdeal.Rows Cert.SguBwdIdeal.Outs

variable (m : (ℓ : Loc nD τ sig) → Buf (Elt Ideal) ℓ) (c : Dev nD)

/-- The block every window names at a point: point `t` works on rows `128 t` on; every other array is one block. -/
theorem index_rows : ∀ t : Fin grid0.N, (win0_0.index t 0 = t.val ∧ win0_0.index t 1 = 0)
    ∧ (win0_1.index t 0 = t.val ∧ win0_1.index t 1 = 0) ∧ (win0_6.index t 0 = t.val ∧ win0_6.index t 1 = 0) := by decide +kernel
theorem index_flat : ∀ t : Fin grid0.N, (win0_2.index t 0 = 0 ∧ win0_2.index t 1 = 0) ∧ (win0_3.index t 0 = 0 ∧ win0_3.index t 1 = 0)
    ∧ (win0_9.index t 0 = 0 ∧ win0_9.index t 1 = 0) ∧ (win0_10.index t 0 = 0 ∧ win0_10.index t 1 = 0) := by decide +kernel
theorem index_cube : ∀ t : Fin grid0.N, (win0_4.index t 0 = 0 ∧ win0_4.index t 1 = 0 ∧ win0_4.index t 2 = 0)
    ∧ (win0_5.index t 0 = 0 ∧ win0_5.index t 1 = 0 ∧ win0_5.index t 2 = 0)
    ∧ (win0_7.index t 0 = 0 ∧ win0_7.index t 1 = 0 ∧ win0_7.index t 2 = 0)
    ∧ (win0_8.index t 0 = 0 ∧ win0_8.index t 1 = 0 ∧ win0_8.index t 2 = 0) := by decide +kernel

/-- The region finds the projection as the host's reshape of the first argument, and so on. -/
theorem V_v0 : V m c main_v0 = shapeCast S4096x6144 (m ((c : Thread nD τ).loc main_arg0)) shapeCasts_S2x2048x6144_S4096x6144 := by
  unfold V
  after_results
  rfl
theorem V_v1 : V m c main_v1 = shapeCast S1x2048 (m ((c : Thread nD τ).loc main_arg2)) shapeCasts_S2048_S1x2048 := by
  unfold V
  after_results
  rfl
theorem V_v2 : V m c main_v2 = shapeCast S1x2048 (m ((c : Thread nD τ).loc main_arg3)) shapeCasts_S2048_S1x2048 := by
  unfold V
  after_results
  rfl
theorem V_v3 : V m c main_v3 = broadcastInDim S8x128x1 ![0, 1] bcast_S8x128_S8x128x1_0_1 (m ((c : Thread nD τ).loc main_arg5)) := by
  unfold V
  after_results

/-- The two sequences' rows one after another. -/
theorem flat_rows {n : Nat} (f : ℕ → Fin 128 → Fin n → ℝ) (h : (⟨3, ![2, 2048, n]⟩ : Shape).ShapeCasts ⟨2, ![4096, n]⟩) :
    shapeCast ⟨2, ![4096, n]⟩ (rows f) h = flat f := by
  funext p
  have hp : (p 0).val < 4096 := (p 0).isLt
  have e : (p 0).val / 2048 * 2048 + (p 0).val % 2048 = (p 0).val := by omega
  refine (shapeCast_apply (rows f) h p (ix3 (n0 := 2) (n1 := 2048) (n2 := n) ⟨(p 0).val / 2048, by omega⟩ ⟨(p 0).val % 2048, by omega⟩ (p 1)) ?_).trans
    (flat_at f ⟨(p 0).val / 2048, by omega⟩ ⟨(p 0).val % 2048, by omega⟩ (p 1) p e.symm rfl).symm
  rw [Shape.rowMajor_val_three, Shape.rowMajor_val_two]
  show ((p 0).val / 2048 * 2048 + (p 0).val % 2048) * n + (p 1).val = (p 0).val * n + (p 1).val
  rw [e]

/-- A line as one row. -/
theorem row_line {n : Nat} (f : Fin n → ℝ) (h : (⟨1, ![n]⟩ : Shape).ShapeCasts ⟨2, ![1, n]⟩) :
    shapeCast ⟨2, ![1, n]⟩ (line f) h = lift2 fun (_ : Fin 1) j => f j := by
  funext p
  have hp : (p 0).val < 1 := (p 0).isLt
  refine shapeCast_apply (line f) h p (ix1 (n0 := n) (p 1)) ?_
  rw [Shape.rowMajor_val_two, Shape.rowMajor_val_one]
  show (p 1).val = (p 0).val * n + (p 1).val
  rw [show (p 0).val = 0 by omega]
  omega

variable (X : ℕ → Fin 128 → Fin 6144 → ℝ) (D : ℕ → Fin 128 → Fin 2048 → ℝ) (lg lb : Fin 2048 → ℝ) (Ws : Fin 8 → Fin 128 → Fin 128 → ℝ) (bs : Fin 8 → Fin 128 → ℝ)

/-! ## The blocks the points read -/

theorem flat_block {n : Nat} (f : ℕ → Fin 128 → Fin n → ℝ) (t : ℕ) (r : Fin 128) (j : Fin n) (p : (⟨2, ![4096, n]⟩ : Shape).Idx)
    (h0 : (p 0).val = t * 128 + 1 * r.val) (h1 : (p 1).val = 0 * n + 1 * j.val) : flat f p = ((f t r j : ℝ) : EReal) := by
  refine congrArg ((↑) : ℝ → EReal) (congr (congrArg₂ f ?_ (Fin.ext ?_)) (Fin.ext ?_))
  · show (p 0).val / 128 = t; omega
  · show (p 0).val % 128 = r.val; omega
  · rw [h1]; omega

theorem block0 (h : m ((c : Thread nD τ).loc main_arg0) = rows X) (t : Fin cfg0.N) : iblk m c 0 t = lift2 (X t.val) := by
  obtain ⟨⟨e0, e1⟩, -, -⟩ := index_rows t
  funext y
  unfold iblk
  rw [View.read_apply]
  show V m c main_v0 _ = _
  rw [V_v0, h, flat_rows]
  refine flat_block X t.val (y 0) (y 1) _ ?_ ?_
  · show win0_0.index t 0 * 128 + 1 * (y 0).val = _; rw [e0]
  · show win0_0.index t 1 * 6144 + 1 * (y 1).val = _; rw [e1]
theorem block1 (h : m ((c : Thread nD τ).loc main_arg1) = flat D) (t : Fin cfg0.N) : iblk m c 1 t = lift2 (D t.val) := by
  obtain ⟨-, ⟨e0, e1⟩, -⟩ := index_rows t
  funext y
  unfold iblk
  rw [View.read_apply]
  show V m c main_arg1 _ = _
  rw [V_main_arg1, h]
  refine flat_block D t.val (y 0) (y 1) _ ?_ ?_
  · show win0_1.index t 0 * 128 + 1 * (y 0).val = _; rw [e0]
  · show win0_1.index t 1 * 2048 + 1 * (y 1).val = _; rw [e1]
theorem block2 (h : m ((c : Thread nD τ).loc main_arg2) = line lg) (t : Fin cfg0.N) : iblk m c 2 t = lift2 fun (_ : Fin 1) j => lg j := by
  obtain ⟨⟨e0, e1⟩, -⟩ := index_flat t
  funext y
  unfold iblk
  rw [View.read_apply]
  show V m c main_v1 _ = _
  rw [V_v1, h, row_line]
  refine congrArg (lift2 fun (_ : Fin 1) j => lg j) (Shape.idx_ext₂ ?_ ?_)
  · show win0_2.index t 0 * 1 + 1 * (y 0).val = (y 0).val; rw [e0]; omega
  · show win0_2.index t 1 * 2048 + 1 * (y 1).val = (y 1).val; rw [e1]; omega
theorem block3 (h : m ((c : Thread nD τ).loc main_arg3) = line lb) (t : Fin cfg0.N) : iblk m c 3 t = lift2 fun (_ : Fin 1) j => lb j := by
  obtain ⟨-, ⟨e0, e1⟩, -⟩ := index_flat t
  funext y
  unfold iblk
  rw [View.read_apply]
  show V m c main_v2 _ = _
  rw [V_v2, h, row_line]
  refine congrArg (lift2 fun (_ : Fin 1) j => lb j) (Shape.idx_ext₂ ?_ ?_)
  · show win0_3.index t 0 * 1 + 1 * (y 0).val = (y 0).val; rw [e0]; omega
  · show win0_3.index t 1 * 2048 + 1 * (y 1).val = (y 1).val; rw [e1]; omega
theorem block4 (h : m ((c : Thread nD τ).loc main_arg4) = lift3 Ws) (t : Fin cfg0.N) : iblk m c 4 t = lift3 Ws := by
  obtain ⟨⟨e0, e1, e2⟩, -⟩ := index_cube t
  funext y
  unfold iblk
  rw [View.read_apply]
  show V m c main_arg4 _ = _
  rw [V_main_arg4, h]
  refine congrArg (lift3 Ws) (funext fun a => Fin.ext ?_)
  match a with
  | ⟨0, _⟩ => show win0_4.index t 0 * 8 + 1 * (y 0).val = (y 0).val; rw [e0]; omega
  | ⟨1, _⟩ => show win0_4.index t 1 * 128 + 1 * (y 1).val = (y 1).val; rw [e1]; omega
  | ⟨2, _⟩ => show win0_4.index t 2 * 128 + 1 * (y 2).val = (y 2).val; rw [e2]; omega
theorem block5 (h : m ((c : Thread nD τ).loc main_arg5) = lift2 bs) (t : Fin cfg0.N) : iblk m c 5 t = lift3 fun g r (_ : Fin 1) => bs g r := by
  obtain ⟨-, ⟨e0, e1, e2⟩, -⟩ := index_cube t
  funext y
  unfold iblk
  rw [View.read_apply]
  show V m c main_v3 _ = _
  rw [V_v3, h]
  rw [show broadcastInDim S8x128x1 ![0, 1] bcast_S8x128_S8x128x1_0_1 (lift2 bs) = lift3 fun g r (_ : Fin 1) => bs g r from rfl]
  refine congrArg (lift3 fun g r (_ : Fin 1) => bs g r) (funext fun a => Fin.ext ?_)
  match a with
  | ⟨0, _⟩ => show win0_5.index t 0 * 8 + 1 * (y 0).val = (y 0).val; rw [e0]; omega
  | ⟨1, _⟩ => show win0_5.index t 1 * 128 + 1 * (y 1).val = (y 1).val; rw [e1]; omega
  | ⟨2, _⟩ => show win0_5.index t 2 * 1 + 1 * (y 2).val = (y 2).val; rw [e2]; omega

/-! ## The arrays after the run -/

section

variable (a0 : m ((c : Thread nD τ).loc main_arg0) = rows X) (a1 : m ((c : Thread nD τ).loc main_arg1) = flat D)
  (a2 : m ((c : Thread nD τ).loc main_arg2) = line lg) (a3 : m ((c : Thread nD τ).loc main_arg3) = line lb)
  (a4 : m ((c : Thread nD τ).loc main_arg4) = lift3 Ws) (a5 : m ((c : Thread nD τ).loc main_arg5) = lift2 bs)

include a0 a1 a2 a3 a4 a5

/-- What a point leaves. -/
theorem left (t : Fin cfg0.N) : outsAt0 m c t.val t.isLt =
      (lift2 (dp (X t.val) (D t.val) lg lb (msk Ws) bs),
       lift3 (if t.val % 32 = 31 then msk (s7 X D lg lb t.val) else s7 X D lg lb t.val),
       lift3 (fun g r (_ : Fin 1) => s8 X D t.val g r), lift2 (fun (_ : Fin 1) j => s9 X D Ws t.val j), lift2 (fun (_ : Fin 1) j => s10 X D Ws t.val j),
       lift3 (msk Ws)) :=
  outs_at c m X D lg lb Ws bs (block0 m c X a0) (block1 m c D a1) (block2 m c lg a2) (block3 m c lb a3) (block4 m c Ws a4) (block5 m c bs a5) t.val t.isLt

omit a0 a1 a2 a3 a4 a5 in
theorem last_point (t : Fin cfg0.N) (h : t.val % 32 = 31) : t.val = 31 := by
  have := t.isLt
  have hN : cfg0.N = 32 := N_0
  omega

/-- The projection's gradient. -/
theorem final6 : (dats m 0 c).arrAt 6 cfg0.N = flat fun n => dp (X n) (D n) lg lb (msk Ws) bs := by
  refine (dats m 0 c).arrAt_eq_of_cover 6 _ (fun t _ => ?_) (fun i => (Value.covered_iff6 i).2 (by
    have h0 : (i 0).val < 4096 := (i 0).isLt; have h1 : (i 1).val < 6144 := (i 1).isLt; omega))
  obtain ⟨-, -, ⟨e0, e1⟩⟩ := index_rows t
  show (cfg0.win 6).cut (grid0.coords t) ((dats m 0 c).after 6 t) = _
  rw [after0_6, left m c X D lg lb Ws bs a0 a1 a2 a3 a4 a5 t]
  funext y
  rw [View.read_apply]
  refine (flat_block (fun n => dp (X n) (D n) lg lb (msk Ws) bs) t.val (y 0) (y 1) _ ?_ ?_).symm
  · show win0_6.index t 0 * 128 + 1 * (y 0).val = _; rw [e0]
  · show win0_6.index t 1 * 6144 + 1 * (y 1).val = _; rw [e1]

/-- The mixing weights' gradient. -/
theorem final7 : (dats m 0 c).arrAt 7 cfg0.N = lift3 (msk (s7 X D lg lb 31)) := by
  refine (dats m 0 c).arrAt_eq_of_cover 7 _ (fun t hf => ?_) (fun i => (Value.covered_iff7 i).2 (by
    have h0 : (i 0).val < 8 := (i 0).isLt; have h1 : (i 1).val < 128 := (i 1).isLt; have h2 : (i 2).val < 128 := (i 2).isLt; omega))
  have ht := (flush0_7 t).mp hf
  obtain ⟨-, -, ⟨e0, e1, e2⟩, -⟩ := index_cube t
  show (cfg0.win 7).cut (grid0.coords t) ((dats m 0 c).after 7 t) = _
  rw [after0_7, left m c X D lg lb Ws bs a0 a1 a2 a3 a4 a5 t, if_pos ht, last_point t ht]
  funext y
  rw [View.read_apply]
  refine congrArg (lift3 (msk (s7 X D lg lb 31))) (funext fun a => Fin.ext ?_)
  match a with
  | ⟨0, _⟩ => show (y 0).val = win0_7.index t 0 * 8 + 1 * (y 0).val; rw [e0]; omega
  | ⟨1, _⟩ => show (y 1).val = win0_7.index t 1 * 128 + 1 * (y 1).val; rw [e1]; omega
  | ⟨2, _⟩ => show (y 2).val = win0_7.index t 2 * 128 + 1 * (y 2).val; rw [e2]; omega

/-- The mixing bias's gradient. -/
theorem final8 : (dats m 0 c).arrAt 8 cfg0.N = lift3 fun g r (_ : Fin 1) => s8 X D 31 g r := by
  refine (dats m 0 c).arrAt_eq_of_cover 8 _ (fun t hf => ?_) (fun i => (Value.covered_iff8 i).2 (by
    have h0 : (i 0).val < 8 := (i 0).isLt; have h1 : (i 1).val < 128 := (i 1).isLt; have h2 : (i 2).val < 1 := (i 2).isLt; omega))
  have ht := (flush0_8 t).mp hf
  obtain ⟨-, -, -, ⟨e0, e1, e2⟩⟩ := index_cube t
  show (cfg0.win 8).cut (grid0.coords t) ((dats m 0 c).after 8 t) = _
  rw [after0_8, left m c X D lg lb Ws bs a0 a1 a2 a3 a4 a5 t, last_point t ht]
  funext y
  rw [View.read_apply]
  refine congrArg (lift3 fun g r (_ : Fin 1) => s8 X D 31 g r) (funext fun a => Fin.ext ?_)
  match a with
  | ⟨0, _⟩ => show (y 0).val = win0_8.index t 0 * 8 + 1 * (y 0).val; rw [e0]; omega
  | ⟨1, _⟩ => show (y 1).val = win0_8.index t 1 * 128 + 1 * (y 1).val; rw [e1]; omega
  | ⟨2, _⟩ => show (y 2).val = win0_8.index t 2 * 1 + 1 * (y 2).val; rw [e2]; omega

/-- The gain's gradient. -/
theorem final9 : (dats m 0 c).arrAt 9 cfg0.N = lift2 fun (_ : Fin 1) j => s9 X D Ws 31 j := by
  refine (dats m 0 c).arrAt_eq_of_cover 9 _ (fun t hf => ?_) (fun i => (Value.covered_iff9 i).2 (by
    have h0 : (i 0).val < 1 := (i 0).isLt; have h1 : (i 1).val < 2048 := (i 1).isLt; omega))
  have ht := (flush0_9 t).mp hf
  obtain ⟨-, -, ⟨e0, e1⟩, -⟩ := index_flat t
  show (cfg0.win 9).cut (grid0.coords t) ((dats m 0 c).after 9 t) = _
  rw [after0_9, left m c X D lg lb Ws bs a0 a1 a2 a3 a4 a5 t, last_point t ht]
  funext y
  rw [View.read_apply]
  refine congrArg (lift2 fun (_ : Fin 1) j => s9 X D Ws 31 j) (Shape.idx_ext₂ ?_ ?_)
  · show (y 0).val = win0_9.index t 0 * 1 + 1 * (y 0).val; rw [e0]; omega
  · show (y 1).val = win0_9.index t 1 * 2048 + 1 * (y 1).val; rw [e1]; omega

/-- The norm bias's gradient. -/
theorem final10 : (dats m 0 c).arrAt 10 cfg0.N = lift2 fun (_ : Fin 1) j => s10 X D Ws 31 j := by
  refine (dats m 0 c).arrAt_eq_of_cover 10 _ (fun t hf => ?_) (fun i => (Value.covered_iff10 i).2 (by
    have h0 : (i 0).val < 1 := (i 0).isLt; have h1 : (i 1).val < 2048 := (i 1).isLt; omega))
  have ht := (flush0_10 t).mp hf
  obtain ⟨-, -, -, ⟨e0, e1⟩⟩ := index_flat t
  show (cfg0.win 10).cut (grid0.coords t) ((dats m 0 c).after 10 t) = _
  rw [after0_10, left m c X D lg lb Ws bs a0 a1 a2 a3 a4 a5 t, last_point t ht]
  funext y
  rw [View.read_apply]
  refine congrArg (lift2 fun (_ : Fin 1) j => s10 X D Ws 31 j) (Shape.idx_ext₂ ?_ ?_)
  · show (y 0).val = win0_10.index t 0 * 1 + 1 * (y 0).val; rw [e0]; omega
  · show (y 1).val = win0_10.index t 1 * 2048 + 1 * (y 1).val; rw [e1]; omega

end

end Cert.SguBwdIdeal.Arrays
-- ==== Proof.Sgu.RefMix.lean ====
/-
  The spatial gating unit's reference at real arguments: the stages that mix a block's rows, the silu's gradient, and the
  gradients of the mixing weights and biases.
-/
module

public import proofs.«01_k».proof.Proof.Sgu.RefRows

@[expose] public section

set_option maxRecDepth 16384

noncomputable section

namespace Cert.SguRefIdeal.Rows

open Cert.SguRefIdeal Cert.SguRefIdeal.Read Idealize.ShloMosaic Idealize.ShloMosaic.TcCoe Sgu

/-! ### Layouts -/

/-- Sequence, block, row, group, column of the group. -/
def five (f : ℕ → Fin 128 → Fin 2048 → ℝ) : (⟨5, ![2, 16, 128, 8, 256]⟩ : Shape).Idx → EReal :=
  fun i => ((f (16 * (i 0).val + (i 1).val) (i 2) (col (i 3) (i 4)) : ℝ) : EReal)
/-- Group, sequence, block, column of the group, row. -/
def turned (f : ℕ → Fin 128 → Fin 2048 → ℝ) : (⟨5, ![8, 2, 16, 256, 128]⟩ : Shape).Idx → EReal :=
  fun i => ((f (16 * (i 1).val + (i 2).val) (i 4) (col (i 0) (i 3)) : ℝ) : EReal)

theorem five_at (f : ℕ → Fin 128 → Fin 2048 → ℝ) (i : (⟨5, ![2, 16, 128, 8, 256]⟩ : Shape).Idx) :
    five f i = ((f (16 * (i 0).val + (i 1).val) (i 2) (col (i 3) (i 4)) : ℝ) : EReal) := rfl

theorem five_congr {f g : ℕ → Fin 128 → Fin 2048 → ℝ} (h : ∀ n r j, f n r j = g n r j) : five f = five g :=
  congrArg five (funext fun n => funext fun r => funext fun j => h n r j)

/-- The rows of a sequence, block by block and group by group. -/
theorem five_of_rows (f : ℕ → Fin 128 → Fin 2048 → ℝ) (i : (⟨5, ![2, 16, 128, 8, 256]⟩ : Shape).Idx) (p : (⟨3, ![2, 2048, 2048]⟩ : Shape).Idx)
    (h0 : (p 0).val = (i 0).val) (h1 : (p 1).val = 128 * (i 1).val + (i 2).val) (h2 : (p 2).val = 256 * (i 3).val + (i 4).val) :
    rows f p = five f i := by
  have g2 : (i 2).val < 128 := (i 2).isLt
  refine congrArg ((↑) : ℝ → EReal) (congr (congrArg₂ f ?_ (Fin.ext ?_)) (Fin.ext h2))
  · show 16 * (p 0).val + (p 1).val / 128 = 16 * (i 0).val + (i 1).val
    omega
  · show (p 1).val % 128 = (i 2).val
    omega
/-- And back. -/
theorem rows_of_five (f : ℕ → Fin 128 → Fin 2048 → ℝ) (i : (⟨3, ![2, 2048, 2048]⟩ : Shape).Idx) (p : (⟨5, ![2, 16, 128, 8, 256]⟩ : Shape).Idx)
    (h0 : (p 0).val = (i 0).val) (h1 : (p 1).val = (i 1).val / 128) (h2 : (p 2).val = (i 1).val % 128) (h3 : (p 3).val = (i 2).val / 256)
    (h4 : (p 4).val = (i 2).val % 256) : five f p = rows f i := by
  refine congrArg ((↑) : ℝ → EReal) (congr (congrArg₂ f ?_ (Fin.ext h2)) (Fin.ext ?_))
  · show 16 * (p 0).val + (p 1).val = 16 * (i 0).val + (i 1).val / 128
    omega
  · show 256 * (p 3).val + (p 4).val = (i 2).val
    omega

/-- A sum over sequences and blocks is a sum over all blocks. -/
theorem sum_blocks (f : ℕ → ℝ) : ∑ b : Fin 2, ∑ q : Fin 16, f (16 * b.val + q.val) = ∑ s ∈ Finset.range (31 + 1), f s := by
  rw [Finset.sum_range, Fin.sum_univ_tiles 2 16 (show 2 * 16 = 31 + 1 from rfl)]
  refine Finset.sum_congr rfl fun b _ => Finset.sum_congr rfl fun q _ => congrArg f ?_
  show 16 * b.val + q.val = b.val * 16 + q.val
  omega

/-! ### Sums over several axes -/

/-- A sum over the first two axes of three. -/
theorem sum_first_two {n0 n1 n2 : Nat} (h : (⟨3, ![n0, n1, n2]⟩ : Shape).ReducesTo [0, 1] ⟨1, ![n2]⟩) (j : (⟨1, ![n2]⟩ : Shape).Idx)
    (v : (⟨3, ![n0, n1, n2]⟩ : Shape).Idx → EReal) :
    ∑ i ∈ Finset.univ.filter (fun i => h.drop i = j), v i = ∑ a : Fin n0, ∑ b : Fin n1, v (ix3 a b (j 0)) := by
  rw [Finset.sum_filter_eq_sum_of_fiber _ (fun k : Fin n0 × Fin n1 => (ix3 k.1 k.2 (j 0) : (⟨3, ![n0, n1, n2]⟩ : Shape).Idx))
    (fun _ _ e => Prod.ext (congrFun e 0) (congrFun e 1)) (fun i => ⟨fun e => ⟨(i 0, i 1), funext fun a => Fin.ext ?_⟩, ?_⟩) v, Fintype.sum_prod_type]
  · match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A sum over the first two axes and the last of five. -/
theorem sum_outer {n0 n1 n2 n3 n4 : Nat} (h : (⟨5, ![n0, n1, n2, n3, n4]⟩ : Shape).ReducesTo [0, 1, 4] ⟨2, ![n2, n3]⟩) (j : (⟨2, ![n2, n3]⟩ : Shape).Idx)
    (v : (⟨5, ![n0, n1, n2, n3, n4]⟩ : Shape).Idx → EReal) :
    ∑ i ∈ Finset.univ.filter (fun i => h.drop i = j), v i = ∑ a : Fin n0, ∑ b : Fin n1, ∑ e : Fin n4, v (ix5 a b (j 0) (j 1) e) := by
  rw [Finset.sum_filter_eq_sum_of_fiber _
    (fun k : Fin n0 × Fin n1 × Fin n4 => (ix5 k.1 k.2.1 (j 0) (j 1) k.2.2 : (⟨5, ![n0, n1, n2, n3, n4]⟩ : Shape).Idx))
    (fun _ _ e => Prod.ext (congrFun e 0) (Prod.ext (congrFun e 1) (congrFun e 4)))
    (fun i => ⟨fun e => ⟨(i 0, i 1, i 4), funext fun a => Fin.ext ?_⟩, ?_⟩) v, Fintype.sum_prod_type]
  · refine Finset.sum_congr rfl fun a _ => ?_
    rw [Fintype.sum_prod_type]
  · match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext b
    apply Fin.ext
    match b with
    | ⟨0, _⟩ => rfl
    | ⟨1, _⟩ => rfl

/-- The weights' gradient's contraction, over sequence, block and column of the group. -/
abbrev dwsDims := dot_S8x2x16x256x128_S2x16x128x8x256_S8x128x128_123_014_4_2_0_3

def contr3 : dwsDims.contr.Idx ≃ Fin 2 × Fin 16 × Fin 256 where
  toFun q := (q ⟨0, by decide⟩, q ⟨1, by decide⟩, q ⟨2, by decide⟩)
  invFun p := fun a => match a with
    | ⟨0, _⟩ => p.1
    | ⟨1, _⟩ => p.2.1
    | ⟨2, _⟩ => p.2.2
    | ⟨_ + 3, h⟩ => absurd h (by show ¬(_ + 3 < 3); omega)
  left_inv q := by
    funext a
    match a with
    | ⟨0, _⟩ => rfl
    | ⟨1, _⟩ => rfl
    | ⟨2, _⟩ => rfl
    | ⟨n + 3, h⟩ => exact absurd h (by show ¬(n + 3 < 3); omega)
  right_inv p := rfl

theorem dws_lhs (i : S8x128x128.Idx) (p : Fin 2 × Fin 16 × Fin 256) : dwsDims.lhsIdx i (contr3.symm p) = ix5 (i 0) p.1 p.2.1 p.2.2 (i 1) := by
  funext a
  apply Fin.ext
  match a with
  | ⟨0, _⟩ => rfl
  | ⟨1, _⟩ => rfl
  | ⟨2, _⟩ => rfl
  | ⟨3, _⟩ => rfl
  | ⟨4, _⟩ => rfl

theorem dws_rhs (i : S8x128x128.Idx) (p : Fin 2 × Fin 16 × Fin 256) : dwsDims.rhsIdx i (contr3.symm p) = ix5 p.1 p.2.1 (i 2) (i 0) p.2.2 := by
  funext a
  apply Fin.ext
  match a with
  | ⟨0, _⟩ => rfl
  | ⟨1, _⟩ => rfl
  | ⟨2, _⟩ => rfl
  | ⟨3, _⟩ => rfl
  | ⟨4, _⟩ => rfl

/-! ### The mask -/

theorem word61 (k : Fin 128) : val_main_v61 (F := Ideal) (ix2 0 k) = BitVec.ofNat 32 (k.val / 64) := by
  revert k; decide +kernel
theorem word63 (r : Fin 128) : val_main_v63 (F := Ideal) (ix2 r 0) = BitVec.ofNat 32 (r.val / 64) := by
  revert r; decide +kernel
theorem run_le : ∀ a b : Fin 2, IntOp.cmpi .sle (BitVec.ofNat 32 a.val) (BitVec.ofNat 32 b.val) = if a.val ≤ b.val then 1#1 else 0#1 := by
  decide +kernel

theorem v68_1 (g : Fin 8) (r k : Fin 128) : val_main_v68_1 (F := Ideal) (ix3 g r k) = if k.val / 64 ≤ r.val / 64 then 1#1 else 0#1 := by
  rw [val_main_v68_1_apply, val_main_v67_apply, val_main_v66_apply, val_main_v64_apply, val_main_v65_apply]
  have e1 : idx_main_v64 (idx_main_v67 (idx_main_v68_1 (ix3 g r k))) = ix2 0 k := eq_ix2 _
  have e2 : idx_main_v65 (idx_main_v67 (idx_main_v68_1 (ix3 g r k))) = ix2 r 0 := eq_ix2 _
  rw [e1, e2, word61, word63]
  exact run_le ⟨k.val / 64, by omega⟩ ⟨r.val / 64, by omega⟩

variable (X : ℕ → Fin 128 → Fin 6144 → ℝ) (D : ℕ → Fin 128 → Fin 2048 → ℝ) (lg lb : Fin 2048 → ℝ)
  (Ws : Fin 8 → Fin 128 → Fin 128 → ℝ) (bs : Fin 8 → Fin 128 → ℝ)

/-- An array kept where a row may look and zero elsewhere. -/
theorem masked (W : Fin 8 → Fin 128 → Fin 128 → ℝ) (g : Fin 8) (r k : Fin 128) :
    Scalar.select (val_main_v68_1 (F := Ideal) (ix3 g r k)) ((W g r k : ℝ) : EReal) (FloatOps.ofBits (F := Ideal) .f32 0x00000000#32)
      = ((msk W g r k : ℝ) : EReal) := by
  rw [v68_1]
  unfold msk
  split_ifs
  · rfl
  · exact ofBits_zero

theorem v68_0 : val_main_v68_0 (F := Ideal) (lift3 Ws) = lift3 (msk Ws) := by
  funext i
  obtain ⟨g, r, k, rfl⟩ : ∃ (g : Fin 8) (r k : Fin 128), i = ix3 g r k := ⟨i 0, i 1, i 2, eq_ix3 i⟩
  rw [val_main_v68_0_apply, val_main_call2_v1_apply]
  exact masked Ws g r k

/-! ### Mixing a block's rows -/

theorem v58 : val_main_v58 (F := Ideal) (rows X) (line lg) (line lb) = five fun n r j => vln (X n) lg lb r j := by
  funext i
  rw [val_main_v58_apply, v57]
  have h1 : (i 1).val < 16 := (i 1).isLt
  have h2 : (i 2).val < 128 := (i 2).isLt
  have h3 : (i 3).val < 8 := (i 3).isLt
  have h4 : (i 4).val < 256 := (i 4).isLt
  refine five_of_rows _ i _ ?_ ?_ ?_
  · show (((((i 0).val * 16 + (i 1).val) * 128 + (i 2).val) * 8 + (i 3).val) * 256 + (i 4).val) / 4194304 = _
    omega
  · show (((((i 0).val * 16 + (i 1).val) * 128 + (i 2).val) * 8 + (i 3).val) * 256 + (i 4).val) / 2048 % 2048 = _
    omega
  · show (((((i 0).val * 16 + (i 1).val) * 128 + (i 2).val) * 8 + (i 3).val) * 256 + (i 4).val) % 2048 = _
    omega
theorem v84 : val_main_v84 (F := Ideal) (rows X) (flat D) = five fun n r j => ds (X n) (D n) r j := by
  funext i
  rw [val_main_v84_apply, v82]
  have h1 : (i 1).val < 16 := (i 1).isLt
  have h2 : (i 2).val < 128 := (i 2).isLt
  have h3 : (i 3).val < 8 := (i 3).isLt
  have h4 : (i 4).val < 256 := (i 4).isLt
  refine five_of_rows _ i _ ?_ ?_ ?_
  · show (((((i 0).val * 16 + (i 1).val) * 128 + (i 2).val) * 8 + (i 3).val) * 256 + (i 4).val) / 4194304 = _
    omega
  · show (((((i 0).val * 16 + (i 1).val) * 128 + (i 2).val) * 8 + (i 3).val) * 256 + (i 4).val) / 2048 % 2048 = _
    omega
  · show (((((i 0).val * 16 + (i 1).val) * 128 + (i 2).val) * 8 + (i 3).val) * 256 + (i 4).val) % 2048 = _
    omega

/-- A sum of products of reals. -/
theorem sum_mul {n : Nat} (f g h : Fin n → ℝ) (e : ∀ k, f k * g k = h k) : ∑ k, ((f k : ℝ) : EReal) * ((g k : ℝ) : EReal) = ((∑ k, h k : ℝ) : EReal) := by
  rw [← coe_sum]
  exact Finset.sum_congr rfl fun k _ => by rw [mul_real, e]

theorem v69 : val_main_v69 (F := Ideal) (rows X) (line lg) (line lb) (lift3 Ws)
    = turned fun n r j => ∑ k, msk Ws (grp j) r k * vln (X n) lg lb k j := by
  funext i
  rw [val_main_v69_apply, v58, v68_0]
  refine sum_mul (fun k => vln (X (16 * (i 1).val + (i 2).val)) lg lb k (col (i 0) (i 3))) (fun k => msk Ws (i 0) (i 4) k) _ fun k => ?_
  rw [show grp (col (i 0) (i 3)) = i 0 from grp_col (i 0) (i 3), mul_comm]
theorem v70 : val_main_v70 (F := Ideal) (rows X) (line lg) (line lb) (lift3 Ws)
    = five fun n r j => ∑ k, msk Ws (grp j) r k * vln (X n) lg lb k j := by
  funext i; rw [val_main_v70_apply, v69]; rfl
theorem v73 : val_main_v73 (F := Ideal) (lift2 bs) = five fun _ r j => bs (grp j) r := by
  funext i
  rw [val_main_v73_apply, val_main_v72_apply, val_main_v71_apply, five_at, show grp (col (i 3) (i 4)) = i 3 from grp_col (i 3) (i 4)]
  rfl
theorem v74 : val_main_v74 (F := Ideal) (rows X) (line lg) (line lb) (lift3 Ws) (lift2 bs) = five fun n r j => mix (X n) lg lb (msk Ws) bs r j := by
  funext i
  rw [val_main_v74_apply, v70, v73, five_at, five_at]
  exact add_real _ _
theorem v75 : val_main_v75 (F := Ideal) (rows X) (line lg) (line lb) (lift3 Ws) (lift2 bs) = rows fun n r j => mix (X n) lg lb (msk Ws) bs r j := by
  funext i
  rw [val_main_v75_apply, v74]
  have h1 : (i 1).val < 2048 := (i 1).isLt
  have h2 : (i 2).val < 2048 := (i 2).isLt
  refine rows_of_five _ i _ ?_ ?_ ?_ ?_ ?_
  · show (((i 0).val * 2048 + (i 1).val) * 2048 + (i 2).val) / 4194304 = _
    omega
  · show (((i 0).val * 2048 + (i 1).val) * 2048 + (i 2).val) / 262144 % 16 = _
    omega
  · show (((i 0).val * 2048 + (i 1).val) * 2048 + (i 2).val) / 2048 % 128 = _
    omega
  · show (((i 0).val * 2048 + (i 1).val) * 2048 + (i 2).val) / 256 % 8 = _
    omega
  · show (((i 0).val * 2048 + (i 1).val) * 2048 + (i 2).val) % 256 = _
    omega

/-! ### The last third and the first -/

theorem v81 : val_main_v81 (F := Ideal) (rows X) (flat D) (line lg) (line lb) (lift3 Ws) (lift2 bs)
    = rows fun n r j => dpG (X n) (D n) lg lb (msk Ws) bs r j := by
  funext i
  simp only [val_main_v81_apply, val_main_call4_v2_apply, val_main_call4_v1_apply, val_main_call4_v0_apply, val_main_v79_apply, val_main_v76_apply,
    v1, v3, v27, v75, v77_1, v77_2, rows_at]
  pointwise
  refine congrArg _ ?_
  unfold dpG dsil
  ring
theorem v83 : val_main_v83 (F := Ideal) (rows X) (flat D) (line lg) (line lb) (lift3 Ws) (lift2 bs)
    = rows fun n r j => D n r j * mix (X n) lg lb (msk Ws) bs r j * sil (X n r (at2 j)) := by
  funext i
  simp only [val_main_v83_apply, v80, v75, rows_at]
  pointwise
  refine congrArg _ ?_
  ring

/-! ### The mixing's gradients -/

theorem v89 : val_main_v89 (F := Ideal) (rows X) (flat D) = turned fun n r j => ds (X n) (D n) r j := by
  funext i; rw [val_main_v89_apply, v84]; rfl
theorem v91 : val_main_v91 (F := Ideal) (rows X) (flat D) (lift3 Ws) = turned fun n r j => dvln (X n) (D n) (msk Ws) r j := by
  funext i
  rw [val_main_v91_apply, v89, v68_0]
  refine sum_mul (fun k => ds (X (16 * (i 1).val + (i 2).val)) (D (16 * (i 1).val + (i 2).val)) k (col (i 0) (i 3))) (fun k => msk Ws (i 0) k (i 4)) _ fun k => ?_
  rw [show grp (col (i 0) (i 3)) = i 0 from grp_col (i 0) (i 3), mul_comm]
theorem v92 : val_main_v92 (F := Ideal) (rows X) (flat D) (lift3 Ws) = five fun n r j => dvln (X n) (D n) (msk Ws) r j := by
  funext i; rw [val_main_v92_apply, v91]; rfl
theorem v94 : val_main_v94 (F := Ideal) (rows X) (flat D) (lift3 Ws) = rows fun n r j => dvln (X n) (D n) (msk Ws) r j := by
  funext i
  rw [val_main_v94_apply, v92]
  have h1 : (i 1).val < 2048 := (i 1).isLt
  have h2 : (i 2).val < 2048 := (i 2).isLt
  refine rows_of_five _ i _ ?_ ?_ ?_ ?_ ?_
  · show (((i 0).val * 2048 + (i 1).val) * 2048 + (i 2).val) / 4194304 = _
    omega
  · show (((i 0).val * 2048 + (i 1).val) * 2048 + (i 2).val) / 262144 % 16 = _
    omega
  · show (((i 0).val * 2048 + (i 1).val) * 2048 + (i 2).val) / 2048 % 128 = _
    omega
  · show (((i 0).val * 2048 + (i 1).val) * 2048 + (i 2).val) / 256 % 8 = _
    omega
  · show (((i 0).val * 2048 + (i 1).val) * 2048 + (i 2).val) % 256 = _
    omega

theorem v90 : val_main_v90 (F := Ideal) (rows X) (flat D) (line lg) (line lb) = lift3 (s7 X D lg lb 31) := by
  funext i
  unfold val_main_v90
  rw [v89, v58]
  simp only [Host.dotGeneral]
  rw [Ideal.dotGeneral_apply, ← Equiv.sum_comp contr3.symm, Fintype.sum_prod_type]
  simp only [Fintype.sum_prod_type, dws_lhs, dws_rhs]
  show ∑ b : Fin 2, ∑ q : Fin 16, ∑ d : Fin 256,
    ((ds (X (16 * b.val + q.val)) (D (16 * b.val + q.val)) (i 1) (col (i 0) d) : ℝ) : EReal) * ((vln (X (16 * b.val + q.val)) lg lb (i 2) (col (i 0) d) : ℝ) : EReal)
      = ((∑ s ∈ Finset.range (31 + 1), dwsP (X s) (D s) lg lb (i 0) (i 1) (i 2) : ℝ) : EReal)
  simp only [mul_real, coe_sum]
  exact congrArg _ (sum_blocks fun s => dwsP (X s) (D s) lg lb (i 0) (i 1) (i 2))

/-- The mixing weights' gradient. -/
theorem v93 : val_main_v93 (F := Ideal) (rows X) (flat D) (line lg) (line lb) = lift3 (msk (s7 X D lg lb 31)) := by
  funext i
  obtain ⟨g, r, k, rfl⟩ : ∃ (g : Fin 8) (r k : Fin 128), i = ix3 g r k := ⟨i 0, i 1, i 2, eq_ix3 i⟩
  rw [val_main_v93_apply, v90, val_main_call5_v0_apply]
  exact masked (s7 X D lg lb 31) g r k

theorem v85 : val_main_v85 (F := Ideal) (rows X) (flat D) = lift2 fun r g => s8 X D 31 g r := by
  funext i
  unfold val_main_v85
  rw [v84]
  refine (congrArg₂ (· + ·) ofBits_zero (sum_outer _ i _)).trans ?_
  show _ + ∑ b : Fin 2, ∑ q : Fin 16, ∑ d : Fin 256, ((ds (X (16 * b.val + q.val)) (D (16 * b.val + q.val)) (i 0) (col (i 1) d) : ℝ) : EReal)
      = ((∑ s ∈ Finset.range (31 + 1), dbsP (X s) (D s) (i 1) (i 0) : ℝ) : EReal)
  simp only [coe_sum]
  rw [add_real, zero_add]
  exact congrArg _ (sum_blocks fun s => dbsP (X s) (D s) (i 1) (i 0))

/-- The mixing biases' gradient. -/
theorem v150 : val_main_v150 (F := Ideal) (rows X) (flat D) = lift3 fun g r (_ : Fin 1) => s8 X D 31 g r := by
  funext i
  rw [val_main_v150_apply, val_main_v88_apply]
  unfold val_main_v87
  refine (congrArg₂ (· + ·) ofBits_zero (sum_outer _ _ _)).trans ?_
  rw [Fin.sum_univ_one, Fin.sum_univ_one, Fin.sum_univ_one, val_main_v86_apply, v85, EReal.coe_zero, zero_add]
  have h0 : (i 0).val < 8 := (i 0).isLt
  have h1 : (i 1).val < 128 := (i 1).isLt
  refine congrArg ((↑) : ℝ → EReal) (congrArg₂ (s8 X D 31) (Fin.ext ?_) (Fin.ext ?_))
  · show ((((0 * 1 + 0) * 128 + (i 1).val) * 8 + (i 0).val) * 1 + 0) % 8 = _
    omega
  · show ((((0 * 1 + 0) * 128 + (i 1).val) * 8 + (i 0).val) * 1 + 0) / 8 = _
    omega

end Cert.SguRefIdeal.Rows
-- ==== Proof.Sgu.RefGrad.lean ====
/-
  The spatial gating unit's reference at real arguments: the gradients of the norm's gain and bias, the norm's and the
  gelu's gradients, and the five results.
-/
module

public import Idealize.ShloMosaic.Lib.KernelVsHost
public import proofs.«01_k».proof.Proof.Sgu.RefMix

@[expose] public section

set_option maxRecDepth 16384

noncomputable section

namespace Cert.SguRefIdeal.Rows

open Cert.SguRefIdeal Cert.SguRefIdeal.Read Idealize.ShloMosaic Idealize.ShloMosaic.TcCoe Sgu

/-- A sum over sequences and their rows is a sum over all blocks and their rows. -/
theorem sum_rows (f : ℕ → Fin 128 → ℝ) : ∑ b : Fin 2, ∑ s : Fin 2048, f (bk b s) (rr s) = ∑ n ∈ Finset.range (31 + 1), ∑ r, f n r := by
  rw [← sum_blocks]
  refine Finset.sum_congr rfl fun b _ => ?_
  rw [Fin.sum_univ_tiles 16 128 (show 16 * 128 = 2048 from rfl)]
  refine Finset.sum_congr rfl fun q _ => Finset.sum_congr rfl fun r _ => congrArg₂ f ?_ (Fin.ext ?_)
  · show 16 * b.val + (q.val * 128 + r.val) / 128 = 16 * b.val + q.val
    omega
  · show (q.val * 128 + r.val) % 128 = r.val
    omega

/-- The host's sum from zero of all the rows. -/
theorem sum_all (f : ℕ → Fin 128 → Fin 2048 → ℝ) (j : Fin 2048) :
    ((0 : ℝ) : EReal) + ∑ b : Fin 2, ∑ s : Fin 2048, ((f (bk b s) (rr s) j : ℝ) : EReal)
      = ((∑ n ∈ Finset.range (31 + 1), ∑ r, f n r j : ℝ) : EReal) := by
  simp only [coe_sum]
  rw [add_real, zero_add]
  exact congrArg _ (sum_rows fun n r => f n r j)

/-- The host's sum from zero over two axes of one entry. -/
theorem sum_once (v : (⟨3, ![1, 1, 2048]⟩ : Shape).Idx → EReal) (j : (⟨1, ![2048]⟩ : Shape).Idx) :
    (FloatOps.ofBits (F := Ideal) .f32 0x00000000#32 : EReal) + ∑ a : Fin 1, ∑ b : Fin 1, v (ix3 a b (j 0)) = v (ix3 0 0 (j 0)) := by
  rw [show (FloatOps.ofBits (F := Ideal) .f32 0x00000000#32 : EReal) = ((0 : ℝ) : EReal) from ofBits_zero, Fin.sum_univ_one, Fin.sum_univ_one, EReal.coe_zero, zero_add]

variable (X : ℕ → Fin 128 → Fin 6144 → ℝ) (D : ℕ → Fin 128 → Fin 2048 → ℝ) (lg lb : Fin 2048 → ℝ)
  (Ws : Fin 8 → Fin 128 → Fin 128 → ℝ) (bs : Fin 8 → Fin 128 → ℝ)

/-! ### The norm's gain and bias -/

theorem v95 : val_main_v95 (F := Ideal) (rows X) (flat D) (lift3 Ws) = line (s10 X D Ws 31) := by
  funext i
  unfold val_main_v95
  rw [v94]
  refine (congrArg₂ (· + ·) ofBits_zero (sum_first_two _ i _)).trans ?_
  exact sum_all (fun n => dvln (X n) (D n) (msk Ws)) (i 0)
theorem v98 : val_main_v98 (F := Ideal) (rows X) (flat D) (lift3 Ws) = rows fun n r j => dvln (X n) (D n) (msk Ws) r j * vhat (X n) r j := by
  funext i
  simp only [val_main_v98_apply, v51, v94, rows_at]
  pointwise
  rw [mul_comm]
theorem v99 : val_main_v99 (F := Ideal) (rows X) (flat D) (lift3 Ws) = line (s9 X D Ws 31) := by
  funext i
  unfold val_main_v99
  rw [v98]
  refine (congrArg₂ (· + ·) ofBits_zero (sum_first_two _ i _)).trans ?_
  exact sum_all (fun n r j => dvln (X n) (D n) (msk Ws) r j * vhat (X n) r j) (i 0)

/-- The bias's gradient. -/
theorem v152 : val_main_v152 (F := Ideal) (rows X) (flat D) (lift3 Ws) = lift2 fun (_ : Fin 1) j => s10 X D Ws 31 j := by
  funext i
  rw [val_main_v152_apply]
  unfold val_main_v97
  refine (congrArg (_ + ·) (sum_first_two _ _ _)).trans ((sum_once _ _).trans ?_)
  rw [val_main_v96_apply, v95]
  have h0 : (i 0).val < 1 := (i 0).isLt
  refine congrArg ((↑) : ℝ → EReal) (congrArg (s10 X D Ws 31) (Fin.ext ?_))
  show (0 * 1 + 0) * 2048 + ((i 0).val * 2048 + (i 1).val) = (i 1).val
  omega
/-- The gain's gradient. -/
theorem v151 : val_main_v151 (F := Ideal) (rows X) (flat D) (lift3 Ws) = lift2 fun (_ : Fin 1) j => s9 X D Ws 31 j := by
  funext i
  rw [val_main_v151_apply]
  unfold val_main_v103
  refine (congrArg (_ + ·) (sum_first_two _ _ _)).trans ((sum_once _ _).trans ?_)
  rw [val_main_v100_apply, v99]
  have h0 : (i 0).val < 1 := (i 0).isLt
  refine congrArg ((↑) : ℝ → EReal) (congrArg (s9 X D Ws 31) (Fin.ext ?_))
  show (0 * 1 + 0) * 2048 + ((i 0).val * 2048 + (i 1).val) = (i 1).val
  omega

/-! ### The norm's gradient -/

theorem v102 : val_main_v102 (F := Ideal) (rows X) (flat D) (line lg) (lift3 Ws) = rows fun n r j => dvh (X n) (D n) lg (msk Ws) r j := by
  funext i
  simp only [val_main_v102_apply, v94, v101, rows_at]
  pointwise
  rfl
/-- One number a row, as a column. -/
theorem rows_of_rows2 (f : ℕ → Fin 128 → ℝ) (i : (⟨3, ![2, 2048, 1]⟩ : Shape).Idx) (p : (⟨2, ![2, 2048]⟩ : Shape).Idx)
    (e0 : (p 0).val = (((i 0).val * 2048 + (i 1).val) * 1 + (i 2).val) / 2048) (e1 : (p 1).val = (((i 0).val * 2048 + (i 1).val) * 1 + (i 2).val) % 2048) :
    rows2 f p = rows (fun n r (_ : Fin 1) => f n r) i := by
  have h1 : (i 1).val < 2048 := (i 1).isLt
  have h2 : (i 2).val < 1 := (i 2).isLt
  have q0 : p 0 = i 0 := Fin.ext (e0.trans (by omega))
  have q1 : p 1 = i 1 := Fin.ext (e1.trans (by omega))
  show ((f (bk (p 0) (p 1)) (rr (p 1)) : ℝ) : EReal) = ((f (bk (i 0) (i 1)) (rr (i 1)) : ℝ) : EReal)
  rw [q0, q1]
/-- The sum over a row of the centred entries times the cotangents. -/
def cd (n : ℕ) (r : Fin 128) : ℝ := ∑ j, (vg (X n) r j - mu (X n) r) * dvh (X n) (D n) lg (msk Ws) r j
/-- The variance's cotangent, over the row's length. -/
def dvr (n : ℕ) (r : Fin 128) : ℝ := cd X D lg Ws n r * (-(1 / 2) * (rstd (X n) r / (var (X n) r + eps))) / 2048

theorem v105 : val_main_v105 (F := Ideal) (rows X) (flat D) (line lg) (lift3 Ws) = rows2 (cd X D lg Ws) := by
  have e : val_main_v104 (F := Ideal) (rows X) (flat D) (line lg) (lift3 Ws)
      = rows fun n r j => (vg (X n) r j - mu (X n) r) * dvh (X n) (D n) lg (msk Ws) r j := by
    funext i
    simp only [val_main_v104_apply, v43, v102, rows_at]
    pointwise
  funext i; rw [val_main_v105_apply, e]; exact sum_real _
theorem v106 : val_main_v106 (F := Ideal) (rows X) (flat D) (line lg) (lift3 Ws) = rows fun n r (_ : Fin 1) => cd X D lg Ws n r := by
  funext i; rw [val_main_v106_apply, v105]; exact rows_of_rows2 _ _ _ rfl rfl
theorem v107 : val_main_v107 (F := Ideal) (rows X) = rows fun n r (_ : Fin 2048) => rstd (X n) r := by
  funext i; rw [val_main_v107_apply, v46]; rfl
theorem v108 : val_main_v108 (F := Ideal) (rows X) (flat D) (line lg) (lift3 Ws) = rows fun n r j => dvh (X n) (D n) lg (msk Ws) r j * rstd (X n) r := by
  funext i
  simp only [val_main_v108_apply, v102, v107, rows_at]
  pointwise
theorem v112 : val_main_v112 (F := Ideal) (rows X) (flat D) (line lg) (lift3 Ws)
    = rows fun n r (_ : Fin 1) => ∑ j, -(dvh (X n) (D n) lg (msk Ws) r j * rstd (X n) r) := by
  have e : val_main_v110 (F := Ideal) (rows X) (flat D) (line lg) (lift3 Ws) = rows fun n r j => -(dvh (X n) (D n) lg (msk Ws) r j * rstd (X n) r) := by
    funext i
    simp only [val_main_v110_apply, v108, rows_at]
    pointwise
  funext i; rw [val_main_v112_apply, val_main_v111_apply, e]; exact (sum_real _).trans (rows_of_rows2 (fun n r => ∑ j, -(dvh (X n) (D n) lg (msk Ws) r j * rstd (X n) r)) _ (idx_main_v112 i) rfl rfl)
theorem v114 : val_main_v114 (F := Ideal) (rows X) (flat D) (line lg) (lift3 Ws) = rows fun n r (_ : Fin 1) => dvr X D lg Ws n r := by
  funext i
  simp only [val_main_v114_apply, val_main_v113_apply, val_main_cst_24_apply, val_main_v109_apply, v106, v49, rows_at]
  pointwise
  rfl
theorem v116 : val_main_v116 (F := Ideal) (rows X) (flat D) (line lg) (lift3 Ws) = rows fun n r (_ : Fin 2048) => dvr X D lg Ws n r := by
  funext i
  rw [val_main_v116_apply, val_main_v115_apply, v114]
  refine (sum_real (n := 1) fun _ => dvr X D lg Ws (bk (i 0) (i 1)) (rr (i 1))).trans ?_
  rw [Fin.sum_univ_one]
  rfl
theorem v117 : val_main_v117 (F := Ideal) (rows X) (flat D) (line lg) (lift3 Ws)
    = rows fun n r j => dvr X D lg Ws n r * (2 * (vg (X n) r j - mu (X n) r)) := by
  funext i
  simp only [val_main_v117_apply, v116, v37, rows_at]
  pointwise
theorem v120 : val_main_v120 (F := Ideal) (rows X) (flat D) (line lg) (lift3 Ws)
    = rows fun n r (_ : Fin 1) => ∑ j, -(dvr X D lg Ws n r * (2 * (vg (X n) r j - mu (X n) r))) := by
  have e : val_main_v118 (F := Ideal) (rows X) (flat D) (line lg) (lift3 Ws) = rows fun n r j => -(dvr X D lg Ws n r * (2 * (vg (X n) r j - mu (X n) r))) := by
    funext i
    simp only [val_main_v118_apply, v117, rows_at]
    pointwise
  funext i; rw [val_main_v120_apply, val_main_v119_apply, e]; exact (sum_real _).trans (rows_of_rows2 (fun n r => ∑ j, -(dvr X D lg Ws n r * (2 * (vg (X n) r j - mu (X n) r)))) _ (idx_main_v120 i) rfl rfl)
/-- The mean's cotangent, over the row's length. -/
def dmr (n : ℕ) (r : Fin 128) : ℝ :=
  (∑ j, -(dvh (X n) (D n) lg (msk Ws) r j * rstd (X n) r) + ∑ j, -(dvr X D lg Ws n r * (2 * (vg (X n) r j - mu (X n) r)))) / 2048

theorem v126 : val_main_v126 (F := Ideal) (rows X) (flat D) (line lg) (lift3 Ws) = rows fun n r (_ : Fin 2048) => dmr X D lg Ws n r := by
  have e : val_main_v124 (F := Ideal) (rows X) (flat D) (line lg) (lift3 Ws) = rows fun n r (_ : Fin 1) => dmr X D lg Ws n r := by
    funext i
    simp only [val_main_v124_apply, val_main_v123_apply, val_main_cst_27_apply, val_main_v122_apply, v112, v120, rows_at]
    pointwise
    rfl
  funext i
  rw [val_main_v126_apply, val_main_v125_apply, e]
  refine (sum_real (n := 1) fun _ => dmr X D lg Ws (bk (i 0) (i 1)) (rr (i 1))).trans ?_
  rw [Fin.sum_univ_one]
  rfl

/-- A row's deviations from its mean sum to zero. -/
theorem sum_centred (Y : Fin 128 → Fin 6144 → ℝ) (r : Fin 128) : ∑ j, (vg Y r j - mu Y r) = 0 := by
  rw [Finset.sum_sub_distrib, Finset.sum_const, Finset.card_univ, Fintype.card_fin, nsmul_eq_mul]
  unfold mu
  ring

/-- The reciprocal deviation over the offset variance is the reciprocal deviation's cube. -/
theorem rstd_div (Y : Fin 128 → Fin 6144 → ℝ) (r : Fin 128) : rstd Y r / (var Y r + eps) = rstd Y r * rstd Y r * rstd Y r := by
  have h := var_eps_pos Y r
  have hs : rstd Y r * rstd Y r = (var Y r + eps)⁻¹ := by
    unfold rstd
    rw [← mul_inv, Real.mul_self_sqrt h.le]
  rw [hs, div_eq_mul_inv, mul_comm]

/-- The norm's gradient is the normalised form of it. -/
theorem norm_grad (n : ℕ) (r : Fin 128) (j : Fin 2048) :
    dvh (X n) (D n) lg (msk Ws) r j * rstd (X n) r + dvr X D lg Ws n r * (2 * (vg (X n) r j - mu (X n) r)) + dmr X D lg Ws n r
      = rstd (X n) r * (dvh (X n) (D n) lg (msk Ws) r j - m1 (X n) (D n) lg (msk Ws) r - vhat (X n) r j * m2 (X n) (D n) lg (msk Ws) r) := by
  have e1 : ∑ j, -(dvr X D lg Ws n r * (2 * (vg (X n) r j - mu (X n) r))) = 0 := by
    rw [Finset.sum_neg_distrib, ← Finset.mul_sum, ← Finset.mul_sum, sum_centred, mul_zero, mul_zero, neg_zero]
  have e2 : ∑ j, -(dvh (X n) (D n) lg (msk Ws) r j * rstd (X n) r) = -(2048 * m1 (X n) (D n) lg (msk Ws) r * rstd (X n) r) := by
    rw [Finset.sum_neg_distrib, ← Finset.sum_mul]
    unfold m1
    ring
  have e3 : m2 (X n) (D n) lg (msk Ws) r = cd X D lg Ws n r * rstd (X n) r / 2048 := by
    unfold m2 cd vhat
    rw [Finset.sum_mul]
    refine congrArg (· / 2048) (Finset.sum_congr rfl fun k _ => ?_)
    ring
  unfold dmr
  rw [e1, e2, e3]
  unfold dvr vhat
  rw [rstd_div]
  ring

theorem v127 : val_main_v127 (F := Ideal) (rows X) (flat D) (line lg) (lift3 Ws)
    = rows fun n r j => rstd (X n) r * (dvh (X n) (D n) lg (msk Ws) r j - m1 (X n) (D n) lg (msk Ws) r - vhat (X n) r j * m2 (X n) (D n) lg (msk Ws) r) := by
  funext i
  simp only [val_main_v127_apply, val_main_v121_apply, v108, v117, v126, rows_at]
  pointwise
  exact congrArg _ (norm_grad X D lg Ws _ _ _)

/-! ### The thirds put side by side -/

/-- Rows between zeros. -/
theorem pad_rows {w n o p : Nat} (f : ℕ → Fin 128 → Fin w → ℝ) {u : Shape} (v : u.Idx → EReal) (hv : ∀ i, v i = ((0 : ℝ) : EReal))
    (h : (⟨3, ![2, 2048, w]⟩ : Shape).Pads ![0, 0, o] ![0, 0, p] ![0, 0, 0] ⟨3, ![2, 2048, n]⟩) (hu : 0 < u.numel) :
    pad ⟨3, ![2, 2048, n]⟩ ![0, 0, o] ![0, 0, p] ![0, 0, 0] (rows f) v h hu
      = rows fun b r (j : Fin n) => if q : o ≤ j.val ∧ j.val - o < w then f b r ⟨j.val - o, q.2⟩ else 0 := by
  funext i
  show _ = ((dite _ _ _ : ℝ) : EReal)
  by_cases q : o ≤ (i 2).val ∧ (i 2).val - o < w
  · rw [dif_pos q, pad_apply_of_inside ![0, 0, o] ![0, 0, p] ![0, 0, 0] (rows f) v h hu i (ix3 (i 0) (i 1) ⟨(i 2).val - o, q.2⟩) (fun a => ?_)]
    · rfl
    · match a with
      | ⟨0, _⟩ => show (i 0).val = 0 + (i 0).val * (0 + 1); omega
      | ⟨1, _⟩ => show (i 1).val = 0 + (i 1).val * (0 + 1); omega
      | ⟨2, _⟩ => show (i 2).val = o + ((i 2).val - o) * (0 + 1); omega
  · rw [dif_neg q, pad_apply_of_not_inside ![0, 0, o] ![0, 0, p] ![0, 0, 0] (rows f) v h hu i 2 (fun e => q ⟨e.1, ?_⟩)]
    · exact hv _
    · have e2 : ((i 2).val - o) / (0 + 1) < w := e.2.2
      rwa [Nat.div_one] at e2

/-- The first two thirds' cotangent. -/
def du (n : ℕ) (r : Fin 128) (j : Fin 4096) : ℝ :=
  if h : j.val < 2048 then D n r ⟨j.val, h⟩ * mix (X n) lg lb (msk Ws) bs r ⟨j.val, h⟩ * sil (X n r (at2 ⟨j.val, h⟩))
  else rstd (X n) r * (dvh (X n) (D n) lg (msk Ws) r ⟨j.val - 2048, by omega⟩ - m1 (X n) (D n) lg (msk Ws) r
    - vhat (X n) r ⟨j.val - 2048, by omega⟩ * m2 (X n) (D n) lg (msk Ws) r)

theorem du_first (n : ℕ) (r : Fin 128) (j : Fin 4096) (h : j.val < 2048) :
    du X D lg lb Ws bs n r j = D n r ⟨j.val, h⟩ * mix (X n) lg lb (msk Ws) bs r ⟨j.val, h⟩ * sil (X n r (at2 ⟨j.val, h⟩)) := dif_pos h
theorem du_second (n : ℕ) (r : Fin 128) (j : Fin 4096) (h : ¬j.val < 2048) :
    du X D lg lb Ws bs n r j = rstd (X n) r * (dvh (X n) (D n) lg (msk Ws) r ⟨j.val - 2048, by omega⟩ - m1 (X n) (D n) lg (msk Ws) r
      - vhat (X n) r ⟨j.val - 2048, by omega⟩ * m2 (X n) (D n) lg (msk Ws) r) := dif_neg h

theorem v130 : val_main_v130 (F := Ideal) (rows X) (flat D) (line lg) (line lb) (lift3 Ws) (lift2 bs) = rows (du X D lg lb Ws bs) := by
  funext i
  rw [val_main_v130_apply]
  unfold val_main_v128 val_main_v129
  rw [v127, v83, pad_rows _ (val_main_cst_29 (F := Ideal)) (fun _ => ofBits_zero), pad_rows _ (val_main_cst_30 (F := Ideal)) (fun _ => ofBits_zero)]
  simp only [rows_at]
  have h2 : (i 2).val < 4096 := (i 2).isLt
  by_cases h : (i 2).val < 2048
  · rw [dif_neg (show ¬(2048 ≤ (i 2).val ∧ (i 2).val - 2048 < 2048) by omega), dif_pos (show 0 ≤ (i 2).val ∧ (i 2).val - 0 < 2048 by omega)]
    unfold du
    rw [dif_pos h]
    exact (add_real _ _).trans (congrArg _ (zero_add _))
  · rw [dif_pos (show 2048 ≤ (i 2).val ∧ (i 2).val - 2048 < 2048 by omega), dif_neg (show ¬(0 ≤ (i 2).val ∧ (i 2).val - 0 < 2048) by omega)]
    unfold du
    rw [dif_neg h]
    exact (add_real _ _).trans (congrArg _ (add_zero _))

theorem v144 : val_main_v144 (F := Ideal) (rows X) (flat D) (line lg) (line lb) (lift3 Ws) (lift2 bs)
    = rows fun n r j => du X D lg lb Ws bs n r j * dgel (X n r (at01 j)) := by
  funext i
  simp only [val_main_v144_apply, val_main_v143_apply, val_main_v142_apply, val_main_v141_apply, val_main_cst_34_apply, val_main_v140_apply, val_main_v139_apply,
    val_main_cst_33_apply, val_main_v138_apply, val_main_v137_apply, val_main_v136_apply, val_main_cst_32_apply, val_main_v135_apply, val_main_v134_apply,
    val_main_v133_apply, val_main_cst_31_apply, val_main_v132_apply, val_main_v131_apply, v130, v2, v8, v21, v25, rows_at]
  pointwise
  refine congrArg _ ?_
  unfold dgel c1
  ring

/-- The projection's gradient. -/
theorem v149 : val_main_v149 (F := Ideal) (rows X) (flat D) (line lg) (line lb) (lift3 Ws) (lift2 bs)
    = flat fun n => dp (X n) (D n) lg lb (msk Ws) bs := by
  have e : val_main_v148 (F := Ideal) (rows X) (flat D) (line lg) (line lb) (lift3 Ws) (lift2 bs) = rows fun n => dp (X n) (D n) lg lb (msk Ws) bs := by
    funext i
    rw [val_main_v148_apply, val_main_v147_apply]
    unfold val_main_v145 val_main_v146
    rw [v81, v144, pad_rows _ (val_main_cst_35 (F := Ideal)) (fun _ => ofBits_zero), pad_rows _ (val_main_cst_36 (F := Ideal)) (fun _ => ofBits_zero)]
    simp only [rows_at]
    have h2 : (i 2).val < 6144 := (i 2).isLt
    unfold dp
    by_cases h : (i 2).val < 2048
    · rw [dif_neg (show ¬(4096 ≤ (i 2).val ∧ (i 2).val - 4096 < 2048) by omega), dif_pos (show 0 ≤ (i 2).val ∧ (i 2).val - 0 < 4096 by omega), dif_pos h]
      rw [du_first (h := h)]
      exact (add_real _ _).trans (congrArg _ (zero_add _))
    · by_cases h' : (i 2).val < 4096
      · rw [dif_neg (show ¬(4096 ≤ (i 2).val ∧ (i 2).val - 4096 < 2048) by omega), dif_pos (show 0 ≤ (i 2).val ∧ (i 2).val - 0 < 4096 by omega), dif_neg h, dif_pos h']
        rw [du_second (h := h)]
        refine (add_real _ _).trans (congrArg _ ((zero_add _).trans ?_))
        refine congrArg (_ * dgel ·) (congrArg (X _ _) (Fin.ext ?_))
        show (i 2).val - 0 = 2048 + ((i 2).val - 2048)
        omega
      · rw [dif_pos (show 4096 ≤ (i 2).val ∧ (i 2).val - 4096 < 2048 by omega), dif_neg (show ¬(0 ≤ (i 2).val ∧ (i 2).val - 0 < 4096) by omega), dif_neg h, dif_neg h']
        exact (add_real _ _).trans (congrArg _ (add_zero _))
  funext i
  rw [val_main_v149_apply, e]
  have h0 : (i 0).val < 4096 := (i 0).isLt
  have h1 : (i 1).val < 6144 := (i 1).isLt
  refine (flat_at (fun n => dp (X n) (D n) lg lb (msk Ws) bs) (idx_main_v149 i 0) (idx_main_v149 i 1) (idx_main_v149 i 2) i ?_ ?_).symm
  · show _ = ((i 0).val * 6144 + (i 1).val) / 12582912 * 2048 + ((i 0).val * 6144 + (i 1).val) / 6144 % 2048
    omega
  · show _ = ((i 0).val * 6144 + (i 1).val) % 6144
    omega

end Cert.SguRefIdeal.Rows
-- ==== Proof.Sgu.Finite.lean ====
/-
  Arrays whose entries are all finite are arrays of reals.
-/
module

public import proofs.«01_k».proof.Proof.Sgu.Spec

@[expose] public section

set_option maxRecDepth 16384

noncomputable section

namespace Sgu

open Idealize.ShloMosaic

/-- A value below the infinity in magnitude is a real. -/
theorem real_of_lt (x w : EReal) (hw : w = ⊤) (h : Ideal.cmp .olt (max x (-x)) w = 1#1) : x = ((x.toReal : ℝ) : EReal) := by
  subst hw
  have hlt : max x (-x) < ⊤ := by
    by_contra hn
    unfold Ideal.cmp at h
    simp [hn] at h
  rw [max_lt_iff] at hlt
  refine (EReal.coe_toReal hlt.1.ne ?_).symm
  intro hb
  rw [hb] at hlt
  simp at hlt

theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- Two or three axes of finite values, as reals. -/
theorem as_lift2 {a b : Nat} (x : (⟨2, ![a, b]⟩ : Shape).Idx → EReal) (h : ∀ i, x i = (((x i).toReal : ℝ) : EReal)) :
    x = lift2 fun i j => (x (ix2 i j)).toReal := by
  funext i
  rw [h i]
  exact congrArg (fun e => (((x e).toReal : ℝ) : EReal)) (eq_ix2 i)
theorem as_lift3 {a b d : Nat} (x : (⟨3, ![a, b, d]⟩ : Shape).Idx → EReal) (h : ∀ i, x i = (((x i).toReal : ℝ) : EReal)) :
    x = lift3 fun i j k => (x (ix3 i j k)).toReal := by
  funext i
  rw [h i]
  exact congrArg (fun e => (((x e).toReal : ℝ) : EReal)) (eq_ix3 i)

end Sgu

end
-- ==== Proof.Sgu.Claims.lean ====
/-
  The claims about the spatial gating unit's backward call, assembled: the reference's frame, the two named constants and
  the equality of the two programs where every argument is finite.
-/
module

public import proofs.«01_k».proof.Defs
public import proofs.«01_k».proof.Proof.Sgu.KFinal
public import proofs.«01_k».proof.Proof.Sgu.RefGrad
public import proofs.«01_k».proof.Proof.Sgu.Finite
public import proofs.«01_k».proof.Proof.Gen.SguRefIdeal
public import proofs.«01_k».proof.Proof.Gen.SguRefIdeal.Run
public import proofs.«01_k».proof.Proof.Gen.Pre_sgu_finite
public import Idealize.ShloMosaic.Lib.Quiescent

@[expose] public section

set_option maxRecDepth 16384

noncomputable section

namespace Cert.Proof.Sgu

open Idealize.ShloMosaic Idealize.SL.Sem _root_.Sgu Cert.SguRefIdeal.Rows

/-- The reference runs, keeps its arguments, and has no semaphore. -/
theorem frame_ref : quiescent_SguRefIdeal := fun m ρ _ =>
  (θ_run Cert.SguRefIdeal.defs _ _).mono
    (fun r h => ⟨fun c => (h c).2.2.2.2.2,
      Idealize.ShloMosaic.sem_eq_zero_of_no_sems (by decide) r.2⟩)
    (Cert.SguRefIdeal.Value.run (F := Ideal) m ρ)

/-- The two named constants stand for the literals they replace. -/
theorem names : preserves_SguBwd_SguBwdIdeal :=
  ⟨IdealRules.named_const.statement Cert.SguBwdIdeal.κ "gelu_c1" .f32 0x3D372713#32 ((8943 / 200000 : ℝ) : EReal) rfl,
   IdealRules.named_const.statement Cert.SguBwdIdeal.κ "gelu_3c1" .f32 0x3E095D4F#32 ((26829 / 200000 : ℝ) : EReal) rfl⟩

/-- Three axes of finite values, as reals given block by block. -/
theorem as_rows {n : Nat} (x : (⟨3, ![2, 2048, n]⟩ : Shape).Idx → EReal) (h : ∀ i, x i = (((x i).toReal : ℝ) : EReal)) :
    x = rows fun k r j => (x (ix3 ⟨k / 16 % 2, Nat.mod_lt _ (by decide)⟩ ⟨128 * (k % 16) + r.val, by omega⟩ j)).toReal := by
  funext i
  have h0 : (i 0).val < 2 := (i 0).isLt
  have h1 : (i 1).val < 2048 := (i 1).isLt
  rw [rows_at, h i]
  refine congrArg (fun e => (((x e).toReal : ℝ) : EReal)) (funext fun a => Fin.ext ?_)
  match a with
  | ⟨0, _⟩ => show (i 0).val = (16 * (i 0).val + (i 1).val / 128) / 16 % 2; omega
  | ⟨1, _⟩ => show (i 1).val = 128 * ((16 * (i 0).val + (i 1).val / 128) % 16) + (i 1).val % 128; omega
  | ⟨2, _⟩ => rfl

/-- The flat array of finite values, as reals given block by block. -/
theorem as_flat {n : Nat} (x : (⟨2, ![4096, n]⟩ : Shape).Idx → EReal) (h : ∀ i, x i = (((x i).toReal : ℝ) : EReal)) :
    x = flat fun k r j => (x (ix2 ⟨128 * (k % 32) + r.val, by omega⟩ j)).toReal := by
  funext i
  have h0 : (i 0).val < 4096 := (i 0).isLt
  rw [h i]
  refine congrArg (fun e => (((x e).toReal : ℝ) : EReal)) (Shape.idx_ext₂ ?_ rfl)
  show (i 0).val = 128 * ((i 0).val / 128 % 32) + (i 0).val % 128
  omega

theorem as_line {n : Nat} (x : (⟨1, ![n]⟩ : Shape).Idx → EReal) (h : ∀ i, x i = (((x i).toReal : ℝ) : EReal)) :
    x = line fun j => (x (ix1 j)).toReal := by
  funext i
  rw [h i]
  refine congrArg (fun e => (((x e).toReal : ℝ) : EReal)) (funext fun a => ?_)
  match a with
  | ⟨0, _⟩ => rfl
instance : Cert.Pre_sgu_finite.Facts := Cert.Pre_sgu_finite.Gen.facts

/-- Finite arguments are reals. -/
theorem reals (m : (ℓ : Loc Cert.SguBwdIdeal.nD Cert.SguBwdIdeal.τ Cert.SguBwdIdeal.sig) → Buf (Elt Ideal) ℓ)
    (h : Pre_SguBwdIdeal_sgu_finite m) (c : Dev Cert.SguBwdIdeal.nD) :
    ∃ (X : ℕ → Fin 128 → Fin 6144 → ℝ) (D : ℕ → Fin 128 → Fin 2048 → ℝ) (lg lb : Fin 2048 → ℝ) (Ws : Fin 8 → Fin 128 → Fin 128 → ℝ) (bs : Fin 8 → Fin 128 → ℝ),
      m ((c.tc : Thread Cert.SguBwdIdeal.nD Cert.SguBwdIdeal.τ).loc Cert.SguBwdIdeal.main_arg0) = rows X
      ∧ m ((c.tc : Thread Cert.SguBwdIdeal.nD Cert.SguBwdIdeal.τ).loc Cert.SguBwdIdeal.main_arg1) = flat D
      ∧ m ((c.tc : Thread Cert.SguBwdIdeal.nD Cert.SguBwdIdeal.τ).loc Cert.SguBwdIdeal.main_arg2) = line lg
      ∧ m ((c.tc : Thread Cert.SguBwdIdeal.nD Cert.SguBwdIdeal.τ).loc Cert.SguBwdIdeal.main_arg3) = line lb
      ∧ m ((c.tc : Thread Cert.SguBwdIdeal.nD Cert.SguBwdIdeal.τ).loc Cert.SguBwdIdeal.main_arg4) = lift3 Ws
      ∧ m ((c.tc : Thread Cert.SguBwdIdeal.nD Cert.SguBwdIdeal.τ).loc Cert.SguBwdIdeal.main_arg5) = lift2 bs := by
  obtain ⟨h0, h1, h2, h3, h4, h5⟩ := h c
  exact ⟨_, _, _, _, _, _, as_rows _ fun i => real_of_lt _ _ inf32 (congrFun h0 i), as_flat _ fun i => real_of_lt _ _ inf16 (congrFun h1 i),
    as_line _ fun i => real_of_lt _ _ inf32 (congrFun h2 i), as_line _ fun i => real_of_lt _ _ inf32 (congrFun h3 i),
    as_lift3 _ fun i => real_of_lt _ _ inf32 (congrFun h4 i), as_lift2 _ fun i => real_of_lt _ _ inf32 (congrFun h5 i)⟩

/-- From the same finite arguments the kernel's five results and the reference's are the same arrays over the extended reals. -/
theorem algebraic : algebraic_SguBwdIdeal_SguRefIdeal_pre_sgu_finite := by
  intro m ρ m' ρ' hpre hagree
  choose X D lg lb Ws bs a0 a1 a2 a3 a4 a5 using reals m hpre
  refine ⟨fun c => flat fun n => dp (X c n) (D c n) (lg c) (lb c) (msk (Ws c)) (bs c), fun c => lift3 (msk (s7 (X c) (D c) (lg c) (lb c) 31)),
    fun c => lift3 fun g r (_ : Fin 1) => s8 (X c) (D c) 31 g r, fun c => lift2 fun (_ : Fin 1) j => s9 (X c) (D c) (Ws c) 31 j,
    fun c => lift2 fun (_ : Fin 1) j => s10 (X c) (D c) (Ws c) 31 j, ?_, ?_⟩
  · refine (θ_run Cert.SguBwdIdeal.defs _ _).mono (fun r h c => ?_) (Cert.SguBwdIdeal.Value.run_blocks (F := Ideal) m ρ)
    obtain ⟨h6, h7, h8, h9, h10, rest⟩ := h c
    exact ⟨h6.trans (SguBwdIdeal.Arrays.final6 m c _ _ _ _ _ _ (a0 c) (a1 c) (a2 c) (a3 c) (a4 c) (a5 c)),
      h7.trans (SguBwdIdeal.Arrays.final7 m c _ _ _ _ _ _ (a0 c) (a1 c) (a2 c) (a3 c) (a4 c) (a5 c)),
      h8.trans (SguBwdIdeal.Arrays.final8 m c _ _ _ _ _ _ (a0 c) (a1 c) (a2 c) (a3 c) (a4 c) (a5 c)),
      h9.trans (SguBwdIdeal.Arrays.final9 m c _ _ _ _ _ _ (a0 c) (a1 c) (a2 c) (a3 c) (a4 c) (a5 c)),
      h10.trans (SguBwdIdeal.Arrays.final10 m c _ _ _ _ _ _ (a0 c) (a1 c) (a2 c) (a3 c) (a4 c) (a5 c)), rest⟩
  · refine (θ_run Cert.SguRefIdeal.defs _ _).mono (fun r h c => ?_) (Cert.SguRefIdeal.Value.run (F := Ideal) m' ρ')
    obtain ⟨h0, h1, h2, h3, h4, rest⟩ := h c
    obtain ⟨e0, e1, e2, e3, e4, e5⟩ := hagree c
    refine ⟨h0.trans ((Cert.SguRefIdeal.Read.val_main_v149_eq _).trans ?_), h1.trans ((Cert.SguRefIdeal.Read.val_main_v93_eq _).trans ?_),
      h2.trans ((Cert.SguRefIdeal.Read.val_main_v150_eq _).trans ?_), h3.trans ((Cert.SguRefIdeal.Read.val_main_v151_eq _).trans ?_),
      h4.trans ((Cert.SguRefIdeal.Read.val_main_v152_eq _).trans ?_), rest⟩
    · refine Eq.trans ?_ (v149 (X c) (D c) (lg c) (lb c) (Ws c) (bs c))
      rw [← a0 c, ← a1 c, ← a2 c, ← a3 c, ← a4 c, ← a5 c, ← e0, ← e1, ← e2, ← e3, ← e4, ← e5]
    · refine Eq.trans ?_ (v93 (X c) (D c) (lg c) (lb c))
      rw [← a0 c, ← a1 c, ← a2 c, ← a3 c, ← e0, ← e1, ← e2, ← e3]
    · refine Eq.trans ?_ (v150 (X c) (D c))
      rw [← a0 c, ← a1 c, ← e0, ← e1]
    · refine Eq.trans ?_ (v151 (X c) (D c) (Ws c))
      rw [← a0 c, ← a1 c, ← a4 c, ← e0, ← e1, ← e4]
    · refine Eq.trans ?_ (v152 (X c) (D c) (Ws c))
      rw [← a0 c, ← a1 c, ← a4 c, ← e0, ← e1, ← e4]

end Cert.Proof.Sgu

end
-- ==== Proof.Loss.Outs.lean ====
/-
  What one grid point of the last layer's call leaves in its four output blocks: the pieces the frame's run found, read
  back as the body's own payloads of the input blocks.
-/
module

public import proofs.«01_k».proof.Proof.Gen.LossBwdIdeal.Value
public import Idealize.ShloMosaic.Lib.Pointwise
public import Idealize.ShloMosaic.Lib.ValueIdx

@[expose] public section

set_option maxRecDepth 16384

noncomputable section

namespace Cert.LossBwdIdeal.Outs

open Cert.LossBwdIdeal Cert.LossBwdIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt F) ℓ)

/-- The first output's block: the product, rounded. -/
abbrev outB (c : Dev nD) (t : Fin cfg0.N) : FVec F S512x1024 .bf16 := k0_pay8 (iblk m c 0 t) (iblk m c 1 t)
/-- A point's own part of the loss. -/
abbrev sqB (c : Dev nD) (t : Fin cfg0.N) : FVec F S512x1 .f32 :=
  k0_pay14 (iblk m c 0 t) (iblk m c 1 t) (iblk m c 2 t) (iblk m c 3 t) (iblk m c 4 t) (iblk m c 5 t)
/-- The normed stream of a point. -/
abbrev unitB (c : Dev nD) (t : Fin cfg0.N) : FVec F S512x1024 .f32 :=
  k0_pay12 (iblk m c 0 t) (iblk m c 1 t) (iblk m c 2 t) (iblk m c 3 t)
/-- The prediction's gradient at a point. -/
abbrev errB (c : Dev nD) (t : Fin cfg0.N) : FVec F S512x1024 .f32 :=
  k0_pay13 (iblk m c 0 t) (iblk m c 1 t) (iblk m c 2 t) (iblk m c 3 t) (iblk m c 4 t) (iblk m c 5 t)
/-- The stream's gradient at a point. -/
abbrev dxB (c : Dev nD) (t : Fin cfg0.N) : FVec F S512x1024 .f32 :=
  k0_pay4 (k0_pay10 (iblk m c 4 t)) (k0_pay11 (iblk m c 0 t) (iblk m c 1 t) (iblk m c 2 t) (iblk m c 3 t)) (unitB m c t) (errB m c t)

/-- At the first point the four blocks are the payloads of the input blocks. -/
theorem outs_A (c : Dev nD) (t : Fin cfg0.N) (h0 : t.val % 8 = 0) (h1 : ¬1 ≤ t.val) :
    outsAt0 m c t.val t.isLt
      = (outB m c t, k0_pay1 (sqB m c t), dxB m c t, k0_pay3 (unitB m c t) (errB m c t)) := by
  rw [outsAt0_A m c t h0 h1]
  refine Prod.ext ?_ (Prod.ext ?_ (Prod.ext ?_ ?_)) <;> dsimp only
  · unfold out0_A_6
    rw [View.read_writes_eq_canon _ _ _ (cover0_A_6 c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x2048) hz2, View.ld_unit_zero (S := S2048x1024) hz2, View.ld_unit_zero (S := S512x1024) hz2,
      View.ld_unit_zero (S := S1x1024) hz2, View.ld_unit_zero (S := S1x1) hz2, View.ld_unit_zero (S := S1x1x3072) hz3]
  · unfold out0_A_7
    rw [View.read_writes_eq_canon _ _ _ (cover0_A_7 c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x2048) hz2, View.ld_unit_zero (S := S2048x1024) hz2, View.ld_unit_zero (S := S512x1024) hz2,
      View.ld_unit_zero (S := S1x1024) hz2, View.ld_unit_zero (S := S1x1) hz2, View.ld_unit_zero (S := S1x1x3072) hz3]
  · unfold out0_A_8
    rw [View.read_writes_eq_canon _ _ _ (cover0_A_8 c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x2048) hz2, View.ld_unit_zero (S := S2048x1024) hz2, View.ld_unit_zero (S := S512x1024) hz2,
      View.ld_unit_zero (S := S1x1024) hz2, View.ld_unit_zero (S := S1x1) hz2, View.ld_unit_zero (S := S1x1x3072) hz3]
  · unfold out0_A_9
    rw [View.read_writes_eq_canon _ _ _ (cover0_A_9 c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x2048) hz2, View.ld_unit_zero (S := S2048x1024) hz2, View.ld_unit_zero (S := S512x1024) hz2,
      View.ld_unit_zero (S := S1x1024) hz2, View.ld_unit_zero (S := S1x1) hz2, View.ld_unit_zero (S := S1x1x3072) hz3]

/-- Later points add their parts of the loss and of the gain's gradient to what the point before left. -/
theorem outs_B (c : Dev nD) (t : Fin cfg0.N) (h0 : ¬t.val % 8 = 0) (h1 : 1 ≤ t.val) :
    outsAt0 m c t.val t.isLt
      = (outB m c t, k0_pay5 (sqB m c t) (outsAt0 m c (t.val - 1) (Nat.lt_of_le_of_lt (Nat.sub_le _ _) t.isLt)).2.1, dxB m c t,
        k0_pay6 (unitB m c t) (errB m c t) (outsAt0 m c (t.val - 1) (Nat.lt_of_le_of_lt (Nat.sub_le _ _) t.isLt)).2.2.2) := by
  rw [outsAt0_B m c t h0 h1]
  generalize (outsAt0 m c (t.val - 1) (Nat.lt_of_le_of_lt (Nat.sub_le _ _) t.isLt)).2.1 = xo7
  generalize (outsAt0 m c (t.val - 1) (Nat.lt_of_le_of_lt (Nat.sub_le _ _) t.isLt)).2.2.2 = xo9
  refine Prod.ext ?_ (Prod.ext ?_ (Prod.ext ?_ ?_)) <;> dsimp only
  · unfold out0_B_6
    rw [View.read_writes_eq_canon _ _ _ (cover0_B_6 c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x2048) hz2, View.ld_unit_zero (S := S2048x1024) hz2, View.ld_unit_zero (S := S512x1024) hz2,
      View.ld_unit_zero (S := S1x1024) hz2, View.ld_unit_zero (S := S1x1) hz2, View.ld_unit_zero (S := S1x1x3072) hz3]
  · unfold out0_B_7
    rw [View.read_writes_eq_canon _ _ _ (cover0_B_7 c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_7 t).read_unread,
      View.ld_unit_zero (S := S512x2048) hz2, View.ld_unit_zero (S := S2048x1024) hz2, View.ld_unit_zero (S := S512x1024) hz2,
      View.ld_unit_zero (S := S1x1024) hz2, View.ld_unit_zero (S := S1x1) hz2, View.ld_unit_zero (S := S1x1x3072) hz3]
  · unfold out0_B_8
    rw [View.read_writes_eq_canon _ _ _ (cover0_B_8 c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x2048) hz2, View.ld_unit_zero (S := S2048x1024) hz2, View.ld_unit_zero (S := S512x1024) hz2,
      View.ld_unit_zero (S := S1x1024) hz2, View.ld_unit_zero (S := S1x1) hz2, View.ld_unit_zero (S := S1x1x3072) hz3]
  · unfold out0_B_9
    rw [View.read_writes_eq_canon _ _ _ (cover0_B_9 c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_9 t).read_unread,
      View.ld_unit_zero (S := S512x2048) hz2, View.ld_unit_zero (S := S2048x1024) hz2, View.ld_unit_zero (S := S512x1024) hz2,
      View.ld_unit_zero (S := S1x1024) hz2, View.ld_unit_zero (S := S1x1) hz2, View.ld_unit_zero (S := S1x1x3072) hz3]

end Cert.LossBwdIdeal.Outs
-- ==== Proof.Rms.Spec.lean ====
/-
  The root-mean-square norm of a row of 1024 reals and its gradient, and how the two programs lay rows out: by sequence
  and place, or all 4096 in one line.
-/
module

public import proofs.«01_k».proof.Proof.Sgu.Spec

@[expose] public section

set_option maxRecDepth 16384

noncomputable section

namespace Rms

open Idealize.ShloMosaic Sgu

theorem ofBits_1024 : Ideal.ofBits .f32 0x44800000#32 = ((1024 : ℝ) : EReal) := by
  simp [Ideal.ofBits, Ideal.ieee, -EReal.coe_mul]; norm_num
theorem div_1024 (x : ℝ) : Ideal.div ((x : ℝ) : EReal) ((1024 : ℝ) : EReal) = ((x / 1024 : ℝ) : EReal) :=
  div_real x 1024 (by norm_num)

attribute [pointwise] ofBits_1024 div_1024 ofBits_zero

/-! ### One row -/

/-- The row's mean square. -/
def ms (v : Fin 1024 → ℝ) : ℝ := (∑ j, v j * v j) / 1024
/-- The reciprocal root of the offset mean square. -/
def inv (v : Fin 1024 → ℝ) : ℝ := (Real.sqrt (ms v + eps))⁻¹
/-- The row over its root mean square. -/
def unit (v : Fin 1024 → ℝ) (k : Fin 1024) : ℝ := v k * inv v
/-- The gradient of `unit` at `v` on the cotangent `g`. -/
def back (v g : Fin 1024 → ℝ) (k : Fin 1024) : ℝ := inv v * (g k - unit v k * ((∑ j, g j * unit v j) / 1024))

theorem ms_eps_pos (v : Fin 1024 → ℝ) : 0 < ms v + eps :=
  add_pos_of_nonneg_of_pos (div_nonneg (Finset.sum_nonneg fun j _ => mul_self_nonneg _) (by norm_num)) eps_pos

/-- The reciprocal root over what it is the root of is its cube. -/
theorem inv_div (v : Fin 1024 → ℝ) : inv v / (ms v + eps) = inv v * inv v * inv v := by
  have h := ms_eps_pos v
  have hs : inv v * inv v = (ms v + eps)⁻¹ := by
    unfold inv
    rw [← mul_inv, Real.mul_self_sqrt h.le]
  rw [hs, div_eq_mul_inv, mul_comm]

/-- The mean square's cotangent, over the row's length. -/
def dms (v g : Fin 1024 → ℝ) : ℝ := (∑ j, v j * g j) * (-(1 / 2) * (inv v / (ms v + eps))) / 1024

/-- The gradient as the chain rule gives it is `back`. -/
theorem back_chain (v g : Fin 1024 → ℝ) (k : Fin 1024) : g k * inv v + v k * dms v g + dms v g * v k = back v g k := by
  have e : ∑ j, g j * unit v j = (∑ j, v j * g j) * inv v := by
    rw [Finset.sum_mul]
    refine Finset.sum_congr rfl fun j _ => ?_
    unfold unit
    ring
  unfold back dms
  rw [e, inv_div]
  unfold unit
  ring

/-! ### Layouts -/

/-- A sequence's row, counted over both sequences. -/
def pos (b : Fin 2) (s : Fin 2048) : ℕ := 2048 * b.val + s.val

theorem pos_div (b : Fin 2) (s : Fin 2048) : pos b s / 2048 = b.val := by unfold pos; omega

/-- Rows by sequence and place. -/
def cube {n : Nat} (f : ℕ → Fin n → ℝ) : (⟨3, ![2, 2048, n]⟩ : Shape).Idx → EReal := lift3 fun b s j => f (pos b s) j
/-- One number a row, by sequence and place. -/
def sheet (f : ℕ → ℝ) : (⟨2, ![2, 2048]⟩ : Shape).Idx → EReal := lift2 fun b s => f (pos b s)
/-- All rows in one line. -/
def tall {n : Nat} (f : ℕ → Fin n → ℝ) : (⟨2, ![4096, n]⟩ : Shape).Idx → EReal := lift2 fun p j => f p.val j
/-- One row a sequence. -/
def heads {n : Nat} (f : ℕ → Fin n → ℝ) : (⟨2, ![2, n]⟩ : Shape).Idx → EReal := lift2 fun b j => f b.val j
/-- One row. -/
def strip {n : Nat} (f : Fin n → ℝ) : (⟨1, ![n]⟩ : Shape).Idx → EReal := fun i => ((f (i 0) : ℝ) : EReal)

theorem cube_at {n : Nat} (f : ℕ → Fin n → ℝ) (i : (⟨3, ![2, 2048, n]⟩ : Shape).Idx) :
    cube f i = ((f (pos (i 0) (i 1)) (i 2) : ℝ) : EReal) := rfl
theorem sheet_at (f : ℕ → ℝ) (i : (⟨2, ![2, 2048]⟩ : Shape).Idx) : sheet f i = ((f (pos (i 0) (i 1)) : ℝ) : EReal) := rfl

/-- One number a row, as a column. -/
theorem cube_of_sheet (f : ℕ → ℝ) (i : (⟨3, ![2, 2048, 1]⟩ : Shape).Idx) (p : (⟨2, ![2, 2048]⟩ : Shape).Idx)
    (e0 : (p 0).val = (((i 0).val * 2048 + (i 1).val) * 1 + (i 2).val) / 2048) (e1 : (p 1).val = (((i 0).val * 2048 + (i 1).val) * 1 + (i 2).val) % 2048) :
    sheet f p = cube (fun n (_ : Fin 1) => f n) i := by
  have h1 : (i 1).val < 2048 := (i 1).isLt
  have h2 : (i 2).val < 1 := (i 2).isLt
  refine congrArg ((↑) : ℝ → EReal) (congrArg f ?_)
  show 2048 * (p 0).val + (p 1).val = 2048 * (i 0).val + (i 1).val
  omega

/-- The rows in one line are the rows by sequence and place. -/
theorem tall_of_cube {n : Nat} (f : ℕ → Fin n → ℝ) (p : (⟨3, ![2, 2048, n]⟩ : Shape).Idx) (i : (⟨2, ![4096, n]⟩ : Shape).Idx)
    (e : 2048 * (p 0).val + (p 1).val = (i 0).val) (e2 : (p 2).val = (i 1).val) : cube f p = tall f i :=
  congrArg ((↑) : ℝ → EReal) (congrArg₂ f e (Fin.ext e2))

/-! ### Sums -/

/-- A sum from zero over reals, as the host takes it. -/
theorem host_sum {n : Nat} (f : Fin n → ℝ) :
    (FloatOps.ofBits (F := Ideal) .f32 0x00000000#32 : EReal) + ∑ k, ((f k : ℝ) : EReal) = ((∑ k, f k : ℝ) : EReal) := by
  rw [show (FloatOps.ofBits (F := Ideal) .f32 0x00000000#32 : EReal) = ((0 : ℝ) : EReal) from ofBits_zero, coe_sum, add_real, zero_add]

/-- A sum over a sequence's rows. -/
theorem sum_seq (f : ℕ → ℝ) (b : Fin 2) : ∑ s : Fin 2048, f (pos b s) = ∑ s ∈ Finset.range 2048, f (2048 * b.val + s) :=
  Fin.sum_univ_eq_sum_range (fun s => f (2048 * b.val + s)) 2048

/-- A sum over both sequences' rows is the sum over all rows. -/
theorem sum_pos (f : ℕ → ℝ) : ∑ b : Fin 2, ∑ s : Fin 2048, f (pos b s) = ∑ p ∈ Finset.range 4096, f p := by
  rw [Fin.sum_univ_two, sum_seq, sum_seq, Finset.sum_range_add f 2048 2048]
  refine congrArg₂ (· + ·) (Finset.sum_congr rfl fun s _ => congrArg f ?_) rfl
  show 2048 * 0 + s = s
  omega

/-- The host's sum from zero over the first two axes. -/
theorem host_sum_rows {n : Nat} (h : (⟨3, ![2, 2048, n]⟩ : Shape).ReducesTo [0, 1] ⟨1, ![n]⟩) (j : (⟨1, ![n]⟩ : Shape).Idx) (f : ℕ → Fin n → ℝ) :
    Ideal.ofBits .f32 0x00000000#32 + ∑ i ∈ Finset.univ.filter (fun i => h.drop i = j), cube f i = ((∑ p ∈ Finset.range 4096, f p (j 0) : ℝ) : EReal) := by
  rw [Finset.sum_filter_eq_sum_of_fiber _ (fun k : Fin 2 × Fin 2048 => (ix3 k.1 k.2 (j 0) : (⟨3, ![2, 2048, n]⟩ : Shape).Idx))
    (fun _ _ e => Prod.ext (congrFun e 0) (congrFun e 1)) (fun i => ⟨fun e => ⟨(i 0, i 1), funext fun a => Fin.ext ?_⟩, ?_⟩) (cube f), Fintype.sum_prod_type]
  · show _ + ∑ b : Fin 2, ∑ s : Fin 2048, ((f (pos b s) (j 0) : ℝ) : EReal) = _
    simp only [coe_sum]
    rw [ofBits_zero, add_real, zero_add]
    exact congrArg _ (sum_pos fun p => f p (j 0))
  · match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The host's sum from zero over two axes of one entry. -/
theorem host_sum_once {n : Nat} (h : (⟨3, ![1, 1, n]⟩ : Shape).ReducesTo [0, 1] ⟨1, ![n]⟩) (j : (⟨1, ![n]⟩ : Shape).Idx)
    (v : (⟨3, ![1, 1, n]⟩ : Shape).Idx → EReal) :
    Ideal.ofBits .f32 0x00000000#32 + ∑ i ∈ Finset.univ.filter (fun i => h.drop i = j), v i = v (ix3 0 0 (j 0)) := by
  rw [Finset.sum_filter_eq_sum_of_fiber _ (fun _ : Unit => (ix3 0 0 (j 0) : (⟨3, ![1, 1, n]⟩ : Shape).Idx))
    (fun _ _ _ => rfl) (fun i => ⟨fun e => ⟨(), funext fun a => Fin.ext ?_⟩, ?_⟩) v, ofBits_zero]
  · simp
  · have h0 : (i 0).val < 1 := (i 0).isLt
    have h1 : (i 1).val < 1 := (i 1).isLt
    match a with
    | ⟨0, _⟩ => show 0 = (i 0).val; omega
    | ⟨1, _⟩ => show 0 = (i 1).val; omega
    | ⟨2, _⟩ => exact (congrArg Fin.val (congrFun e 0)).symm
  · rintro ⟨k, rfl⟩
    funext b
    apply Fin.ext
    match b with
    | ⟨0, _⟩ => rfl

/-- One more tile of rows. -/
theorem sum_tile (f : ℕ → ℝ) (n R : ℕ) : ∑ p ∈ Finset.range n, f p + ∑ r : Fin R, f (n + r.val) = ∑ p ∈ Finset.range (n + R), f p := by
  rw [Finset.sum_range_add f n R, Fin.sum_univ_eq_sum_range (fun r => f (n + r)) R]

end Rms
-- ==== Proof.Loss.Spec.lean ====
/-
  The last layer's projection, residual, norm, loss and gradients over the real numbers, row by row.
-/
module

public import proofs.«01_k».proof.Proof.Rms.Spec

@[expose] public section

set_option maxRecDepth 16384

noncomputable section

namespace Loss

open Idealize.ShloMosaic Sgu Rms

/-- Column `k` of the gate's third. -/
def gateCol (k : Fin 1024) : Fin 3072 := ⟨2048 + k.val, by omega⟩

variable (Y : ℕ → Fin 2048 → ℝ) (W : Fin 2048 → Fin 1024 → ℝ) (X : ℕ → Fin 1024 → ℝ) (M : ℕ → Fin 3072 → ℝ)
  (fg : Fin 1024 → ℝ) (T : ℕ → Fin 1024 → ℝ)

/-- The projection. -/
def out (p : ℕ) (k : Fin 1024) : ℝ := ∑ e, Y p e * W e k
/-- The stream after the gated residual. -/
def xs (p : ℕ) (k : Fin 1024) : ℝ := X p k + M (p / 2048) (gateCol k) * out Y W p k
/-- The prediction's error. -/
def er (p : ℕ) (k : Fin 1024) : ℝ := unit (xs Y W X M p) k * fg k - T p k
/-- The error's mean square. -/
def sq (p : ℕ) : ℝ := (∑ k, er Y W X M fg T p k * er Y W X M fg T p k) / 1024
/-- The prediction's gradient. -/
def dy (p : ℕ) (k : Fin 1024) : ℝ := er Y W X M fg T p k / 1024
/-- The normed row's gradient. -/
def dn (p : ℕ) (k : Fin 1024) : ℝ := dy Y W X M fg T p k * fg k
/-- The stream's gradient. -/
def dx (p : ℕ) (k : Fin 1024) : ℝ := back (xs Y W X M p) (dn Y W X M fg T p) k
/-- The loss of the first `n` rows. -/
def loss (n : ℕ) : ℝ := ∑ p ∈ Finset.range n, 1 / 2 * sq Y W X M fg T p
/-- The gain's gradient from the first `n` rows. -/
def dfg (n : ℕ) (k : Fin 1024) : ℝ := ∑ p ∈ Finset.range n, dy Y W X M fg T p k * unit (xs Y W X M p) k

end Loss
-- ==== Proof.Loss.Point.lean ====
/-
  The last layer's call at one grid point over real blocks: every payload is an array of reals, row by row the terms of
  `Loss/Spec.lean`.
-/
module

public import proofs.«01_k».proof.Proof.Loss.Outs
public import proofs.«01_k».proof.Proof.Loss.Spec

@[expose] public section

set_option maxRecDepth 16384

noncomputable section

namespace Cert.LossBwdIdeal.Outs

open Cert.LossBwdIdeal Cert.LossBwdIdeal.Gen Idealize.ShloMosaic Idealize.ShloMosaic.TcCoe Idealize.SL.Sem
open Sgu Rms Loss

variable (Y : ℕ → Fin 2048 → ℝ) (W : Fin 2048 → Fin 1024 → ℝ) (X : ℕ → Fin 1024 → ℝ) (M : ℕ → Fin 3072 → ℝ)
  (fg : Fin 1024 → ℝ) (T : ℕ → Fin 1024 → ℝ) (n : ℕ)

/-- Tile `n` of an array's rows. -/
abbrev tile {w : Nat} (f : ℕ → Fin w → ℝ) : (⟨2, ![512, w]⟩ : Shape).Idx → EReal := lift2 fun (r : Fin 512) j => f (512 * n + r.val) j
/-- One number for each row of tile `n`. -/
abbrev col (f : ℕ → ℝ) : (⟨2, ![512, 1]⟩ : Shape).Idx → EReal := lift2 fun (r : Fin 512) (_ : Fin 1) => f (512 * n + r.val)
/-- A row of reals. -/
abbrev one {w : Nat} (f : Fin w → ℝ) : (⟨2, ![1, w]⟩ : Shape).Idx → EReal := lift2 fun (_ : Fin 1) j => f j
theorem one_ext {w : Nat} {f g : Fin w → ℝ} (h : ∀ j, f j = g j) : one f = one g := congrArg one (funext h)
/-- The modulation row of the tile's sequence. -/
abbrev head : (⟨3, ![1, 1, 3072]⟩ : Shape).Idx → EReal := lift3 fun (_ _ : Fin 1) j => M (n / 4) j

theorem seq_of (r : Fin 512) : (512 * n + r.val) / 2048 = n / 4 := by omega

theorem pay7 : k0_pay7 (F := Ideal) (tile n Y) (lift2 W) = tile n (out Y W) := by
  funext z
  obtain ⟨r, k, rfl⟩ : ∃ r k, z = ix2 (n0 := 512) (n1 := 1024) r k := ⟨z 0, z 1, eq_ix2 z⟩
  unfold_payloads
  pointwise
  rfl

theorem pay8 : k0_pay8 (F := Ideal) (tile n Y) (lift2 W) = tile n (out Y W) := by
  have h := pay7 Y W n
  revert h
  unfold_payloads
  intro h
  rw [h]
  rfl

theorem pay9 : k0_pay9 (F := Ideal) (tile n Y) (lift2 W) (tile n X) (head M n) = tile n (xs Y W X M) := by
  have h := pay7 Y W n
  revert h
  unfold_payloads
  intro h
  rw [h]
  funext z
  obtain ⟨r, k, rfl⟩ : ∃ r k, z = ix2 (n0 := 512) (n1 := 1024) r k := ⟨z 0, z 1, eq_ix2 z⟩
  pointwise
  refine congrArg _ ?_
  unfold xs gateCol
  rw [seq_of]

theorem pay11 : k0_pay11 (F := Ideal) (tile n Y) (lift2 W) (tile n X) (head M n) = col n fun p => inv (xs Y W X M p) := by
  have h := pay9 Y W X M n
  revert h
  unfold_payloads
  intro h
  rw [h]
  funext z
  obtain ⟨r, q, rfl⟩ : ∃ r q, z = ix2 (n0 := 512) (n1 := 1) r q := ⟨z 0, z 1, eq_ix2 z⟩
  pointwise
  exact rsqrt_real _ (ms_eps_pos _)

theorem pay12 : k0_pay12 (F := Ideal) (tile n Y) (lift2 W) (tile n X) (head M n) = tile n fun p => unit (xs Y W X M p) := by
  have h := pay9 Y W X M n
  have h' := pay11 Y W X M n
  revert h h'
  unfold_payloads
  intro h h'
  rw [h', h]
  funext z
  obtain ⟨r, k, rfl⟩ : ∃ r k, z = ix2 (n0 := 512) (n1 := 1024) r k := ⟨z 0, z 1, eq_ix2 z⟩
  pointwise
  rfl

theorem pay10 : k0_pay10 (F := Ideal) (one fg) = one fg := by
  funext z
  obtain ⟨r, k, rfl⟩ : ∃ r k, z = ix2 (n0 := 1) (n1 := 1024) r k := ⟨z 0, z 1, eq_ix2 z⟩
  unfold_payloads
  pointwise

theorem pay13 : k0_pay13 (F := Ideal) (tile n Y) (lift2 W) (tile n X) (head M n) (one fg) (tile n T) = tile n (er Y W X M fg T) := by
  have h := pay12 Y W X M n
  revert h
  unfold_payloads
  intro h
  rw [h]
  funext z
  obtain ⟨r, k, rfl⟩ : ∃ r k, z = ix2 (n0 := 512) (n1 := 1024) r k := ⟨z 0, z 1, eq_ix2 z⟩
  pointwise
  rfl

theorem pay14 : k0_pay14 (F := Ideal) (tile n Y) (lift2 W) (tile n X) (head M n) (one fg) (tile n T) = col n (sq Y W X M fg T) := by
  have h := pay13 Y W X M fg T n
  revert h
  unfold_payloads
  intro h
  rw [h]
  funext z
  obtain ⟨r, q, rfl⟩ : ∃ r q, z = ix2 (n0 := 512) (n1 := 1) r q := ⟨z 0, z 1, eq_ix2 z⟩
  pointwise
  rfl

/-- The stream's gradient from the gain, the reciprocal root, the normed stream and the error. -/
theorem pay4 : k0_pay4 (F := Ideal) (one fg) (col n fun p => inv (xs Y W X M p)) (tile n fun p => unit (xs Y W X M p)) (tile n (er Y W X M fg T))
    = tile n (dx Y W X M fg T) := by
  funext z
  obtain ⟨r, k, rfl⟩ : ∃ r k, z = ix2 (n0 := 512) (n1 := 1024) r k := ⟨z 0, z 1, eq_ix2 z⟩
  unfold_payloads
  pointwise
  rfl

/-- A tile's part of the loss. -/
theorem pay1 (q : ℕ → ℝ) : k0_pay1 (F := Ideal) (col n q) = one fun (_ : Fin 1) => ∑ r : Fin 512, 1 / 2 * q (512 * n + r.val) := by
  funext z
  obtain ⟨a, b, rfl⟩ : ∃ a b, z = ix2 (n0 := 1) (n1 := 1) a b := ⟨z 0, z 1, eq_ix2 z⟩
  unfold_payloads
  pointwise
  rw [Finset.mul_sum]

/-- A tile's part of the gain's gradient. -/
theorem pay3 : k0_pay3 (F := Ideal) (tile n fun p => unit (xs Y W X M p)) (tile n (er Y W X M fg T))
    = one fun k => ∑ r : Fin 512, dy Y W X M fg T (512 * n + r.val) k * unit (xs Y W X M (512 * n + r.val)) k := by
  funext z
  obtain ⟨a, k, rfl⟩ : ∃ a k, z = ix2 (n0 := 1) (n1 := 1024) a k := ⟨z 0, z 1, eq_ix2 z⟩
  unfold_payloads
  pointwise
  rfl

theorem pay5 (q : ℕ → ℝ) (v : Fin 1 → ℝ) :
    k0_pay5 (F := Ideal) (col n q) (one v) = one fun j => v j + ∑ r : Fin 512, 1 / 2 * q (512 * n + r.val) := by
  have h := pay1 n q
  revert h
  unfold_payloads
  intro h
  rw [h]
  funext z
  obtain ⟨a, b, rfl⟩ : ∃ a b, z = ix2 (n0 := 1) (n1 := 1) a b := ⟨z 0, z 1, eq_ix2 z⟩
  pointwise

theorem pay6 (v : Fin 1024 → ℝ) : k0_pay6 (F := Ideal) (tile n fun p => unit (xs Y W X M p)) (tile n (er Y W X M fg T)) (one v)
    = one fun k => v k + ∑ r : Fin 512, dy Y W X M fg T (512 * n + r.val) k * unit (xs Y W X M (512 * n + r.val)) k := by
  have h := pay3 Y W X M fg T n
  revert h
  unfold_payloads
  intro h
  rw [h]
  funext z
  obtain ⟨a, k, rfl⟩ : ∃ a k, z = ix2 (n0 := 1) (n1 := 1024) a k := ⟨z 0, z 1, eq_ix2 z⟩
  pointwise

/-! ## What a point leaves -/

section

variable (m : (ℓ : Loc nD τ sig) → Buf (Elt Ideal) ℓ) (c : Dev nD)
  (b0 : ∀ t : Fin cfg0.N, iblk m c 0 t = tile t.val Y) (b1 : ∀ t : Fin cfg0.N, iblk m c 1 t = lift2 W)
  (b2 : ∀ t : Fin cfg0.N, iblk m c 2 t = tile t.val X) (b3 : ∀ t : Fin cfg0.N, iblk m c 3 t = head M t.val)
  (b4 : ∀ t : Fin cfg0.N, iblk m c 4 t = one fg) (b5 : ∀ t : Fin cfg0.N, iblk m c 5 t = tile t.val T)

include b0 b1 b2 b3 b4 b5

theorem parts (t : Fin cfg0.N) : outB m c t = tile t.val (out Y W) ∧ sqB m c t = col t.val (sq Y W X M fg T)
    ∧ unitB m c t = (tile t.val fun p => unit (xs Y W X M p)) ∧ errB m c t = tile t.val (er Y W X M fg T) ∧ dxB m c t = tile t.val (dx Y W X M fg T) := by
  unfold outB sqB dxB unitB errB
  rw [b0 t, b1 t, b2 t, b3 t, b4 t, b5 t, pay8, pay14, pay10, pay11, pay12, pay13, pay4]
  exact ⟨rfl, rfl, rfl, rfl, rfl⟩

/-- After point `t` the sums hold every row up to its tile. -/
theorem outs_at : ∀ (t : ℕ) (h : t < cfg0.N), outsAt0 m c t h
      = (tile t (out Y W), one fun (_ : Fin 1) => loss Y W X M fg T (512 * t + 512), tile t (dx Y W X M fg T), one (dfg Y W X M fg T (512 * t + 512)))
  | 0, h => by
    obtain ⟨e1, e2, e3, e4, e5⟩ := parts Y W X M fg T m c b0 b1 b2 b3 b4 b5 ⟨0, h⟩
    rw [outs_A m c ⟨0, h⟩ rfl (show ¬1 ≤ 0 by decide), e1, e2, e3, e4, e5, pay1, pay3]
    refine Prod.ext rfl (Prod.ext ?_ (Prod.ext rfl ?_))
    · exact one_ext (w := 1) fun _ => (zero_add _).symm.trans (sum_tile (fun p => 1 / 2 * sq Y W X M fg T p) 0 512)
    · exact one_ext (w := 1024) fun k => (zero_add _).symm.trans (sum_tile (fun p => dy Y W X M fg T p k * unit (xs Y W X M p) k) 0 512)
  | t + 1, h => by
    have hN : cfg0.N = 8 := N_0
    have ih := outs_at t (by omega)
    obtain ⟨e1, e2, e3, e4, e5⟩ := parts Y W X M fg T m c b0 b1 b2 b3 b4 b5 ⟨t + 1, h⟩
    have step := outs_B m c ⟨t + 1, h⟩ (show ¬(t + 1) % 8 = 0 by omega) (show 1 ≤ t + 1 by omega)
    rw [e1, e2, e3, e4, e5] at step
    refine step.trans ?_
    simp only [Nat.add_sub_cancel]
    rw [ih, pay5, pay6]
    refine Prod.ext rfl (Prod.ext ?_ (Prod.ext rfl ?_))
    · exact one_ext (w := 1) fun _ => sum_tile (fun p => 1 / 2 * sq Y W X M fg T p) (512 * (t + 1)) 512
    · exact one_ext (w := 1024) fun k => sum_tile (fun p => dy Y W X M fg T p k * unit (xs Y W X M p) k) (512 * (t + 1)) 512

end

end Cert.LossBwdIdeal.Outs
-- ==== Proof.Rms.Layout.lean ====
/-
  The host's reshapes of arrays of reals given row by row, and the rows a block of the flat array holds.
-/
module

public import proofs.«01_k».proof.Proof.Rms.Spec
public import Idealize.ShloMosaic.Lib.ValueIdx

@[expose] public section

set_option maxRecDepth 16384

noncomputable section

namespace Rms

open Idealize.ShloMosaic Sgu

/-- The two sequences' rows one after another. -/
theorem cast_cube {n : Nat} (f : ℕ → Fin n → ℝ) (h : (⟨3, ![2, 2048, n]⟩ : Shape).ShapeCasts ⟨2, ![4096, n]⟩) :
    shapeCast ⟨2, ![4096, n]⟩ (cube f) h = tall f := by
  funext p
  have hp : (p 0).val < 4096 := (p 0).isLt
  have e : (p 0).val / 2048 * 2048 + (p 0).val % 2048 = (p 0).val := by omega
  refine (shapeCast_apply (cube f) h p (ix3 (n0 := 2) (n1 := 2048) (n2 := n) ⟨(p 0).val / 2048, by omega⟩ ⟨(p 0).val % 2048, by omega⟩ (p 1)) ?_).trans
    (tall_of_cube f _ p ?_ rfl)
  · rw [Shape.rowMajor_val_three, Shape.rowMajor_val_two]
    show ((p 0).val / 2048 * 2048 + (p 0).val % 2048) * n + (p 1).val = (p 0).val * n + (p 1).val
    rw [e]
  · show 2048 * ((p 0).val / 2048) + (p 0).val % 2048 = (p 0).val
    omega

/-- A line as one row. -/
theorem cast_strip {n : Nat} (f : Fin n → ℝ) (h : (⟨1, ![n]⟩ : Shape).ShapeCasts ⟨2, ![1, n]⟩) :
    shapeCast ⟨2, ![1, n]⟩ (strip f) h = lift2 fun (_ : Fin 1) j => f j := by
  funext p
  have hp : (p 0).val < 1 := (p 0).isLt
  refine shapeCast_apply (strip f) h p (ix1 (n0 := n) (p 1)) ?_
  rw [Shape.rowMajor_val_two, Shape.rowMajor_val_one]
  show (p 1).val = (p 0).val * n + (p 1).val
  rw [show (p 0).val = 0 by omega]
  omega

/-- One row a sequence, as a slab a sequence. -/
theorem cast_heads {n : Nat} (f : ℕ → Fin n → ℝ) (h : (⟨2, ![2, n]⟩ : Shape).ShapeCasts ⟨3, ![2, 1, n]⟩) :
    shapeCast ⟨3, ![2, 1, n]⟩ (heads f) h = lift3 fun (b : Fin 2) (_ : Fin 1) j => f b.val j := by
  funext p
  have hp : (p 1).val < 1 := (p 1).isLt
  refine shapeCast_apply (heads f) h p (ix2 (n0 := 2) (n1 := n) (p 0) (p 2)) ?_
  rw [Shape.rowMajor_val_three, Shape.rowMajor_val_two]
  show (p 0).val * n + (p 2).val = ((p 0).val * 1 + (p 1).val) * n + (p 2).val
  rw [show (p 1).val = 0 by omega, Nat.mul_one, Nat.add_zero]

/-- Where tile `t` of `R` rows puts row `r` and column `j`. -/
theorem tall_tile {w R : Nat} (f : ℕ → Fin w → ℝ) (t r : ℕ) (j : Fin w) (p : (⟨2, ![4096, w]⟩ : Shape).Idx)
    (h0 : (p 0).val = t * R + 1 * r) (h1 : (p 1).val = 0 * w + 1 * j.val) : tall f p = ((f (R * t + r) j : ℝ) : EReal) := by
  refine congrArg ((↑) : ℝ → EReal) (congrArg₂ f ?_ (Fin.ext ?_))
  · show (p 0).val = R * t + r
    rw [h0, Nat.mul_comm, Nat.one_mul]
  · rw [h1]; omega

end Rms
-- ==== Proof.Loss.Arrays.lean ====
/-
  The last layer's call over real arguments: what each of its four output arrays ends holding.
-/
module

public import proofs.«01_k».proof.Proof.Loss.Point
public import proofs.«01_k».proof.Proof.Rms.Layout

@[expose] public section

set_option maxRecDepth 16384

noncomputable section

namespace Cert.LossBwdIdeal.Arrays

open Cert.LossBwdIdeal Cert.LossBwdIdeal.Gen Idealize.ShloMosaic Idealize.ShloMosaic.TcCoe Idealize.SL.Sem
open Idealize.ShloMosaic.Pipeline (Dat)
open Sgu Rms Loss Cert.LossBwdIdeal.Outs

variable (m : (ℓ : Loc nD τ sig) → Buf (Elt Ideal) ℓ) (c : Dev nD)

/-- The block every window names at a point: point `t` works on row tile `t` and on sequence `t / 4`. -/
theorem index_tile : ∀ t : Fin grid0.N, (win0_0.index t 0 = t.val ∧ win0_0.index t 1 = 0) ∧ (win0_2.index t 0 = t.val ∧ win0_2.index t 1 = 0)
    ∧ (win0_5.index t 0 = t.val ∧ win0_5.index t 1 = 0) ∧ (win0_6.index t 0 = t.val ∧ win0_6.index t 1 = 0)
    ∧ (win0_8.index t 0 = t.val ∧ win0_8.index t 1 = 0) := by decide +kernel
theorem index_rest : ∀ t : Fin grid0.N, (win0_1.index t 0 = 0 ∧ win0_1.index t 1 = 0)
    ∧ (win0_3.index t 0 = t.val / 4 ∧ win0_3.index t 1 = 0 ∧ win0_3.index t 2 = 0) ∧ (win0_4.index t 0 = 0 ∧ win0_4.index t 1 = 0)
    ∧ (win0_7.index t 0 = 0 ∧ win0_7.index t 1 = 0) ∧ (win0_9.index t 0 = 0 ∧ win0_9.index t 1 = 0) := by decide +kernel

/-- The region finds the arguments as the host reshapes them. -/
theorem V_v0 : V m c main_v0 = shapeCast S4096x2048 (m ((c : Thread nD τ).loc main_arg0)) shapeCasts_S2x2048x2048_S4096x2048 := by
  unfold V
  after_results
  rfl
theorem V_v1 : V m c main_v1 = shapeCast S4096x1024 (m ((c : Thread nD τ).loc main_arg2)) shapeCasts_S2x2048x1024_S4096x1024 := by
  unfold V
  after_results
  rfl
theorem V_v2 : V m c main_v2 = shapeCast S2x1x3072 (m ((c : Thread nD τ).loc main_arg3)) shapeCasts_S2x3072_S2x1x3072 := by
  unfold V
  after_results
  rfl
theorem V_v3 : V m c main_v3 = shapeCast S1x1024 (m ((c : Thread nD τ).loc main_arg4)) shapeCasts_S1024_S1x1024 := by
  unfold V
  after_results
  rfl
theorem V_v4 : V m c main_v4 = shapeCast S4096x1024 (m ((c : Thread nD τ).loc main_arg5)) shapeCasts_S2x2048x1024_S4096x1024 := by
  unfold V
  after_results
  rfl

variable (Y : ℕ → Fin 2048 → ℝ) (W : Fin 2048 → Fin 1024 → ℝ) (X : ℕ → Fin 1024 → ℝ) (M : ℕ → Fin 3072 → ℝ)
  (fg : Fin 1024 → ℝ) (T : ℕ → Fin 1024 → ℝ)

/-! ## The blocks the points read -/

theorem block0 (h : m ((c : Thread nD τ).loc main_arg0) = cube Y) (t : Fin cfg0.N) : iblk m c 0 t = tile t.val Y := by
  obtain ⟨⟨e0, e1⟩, -⟩ := index_tile t
  funext y
  unfold iblk
  rw [View.read_apply]
  show V m c main_v0 _ = _
  rw [V_v0, h, cast_cube]
  refine tall_tile (R := 512) Y t.val (y 0).val (y 1) _ ?_ ?_
  · show win0_0.index t 0 * 512 + 1 * (y 0).val = _; rw [e0]
  · show win0_0.index t 1 * 2048 + 1 * (y 1).val = _; rw [e1]
theorem block1 (h : m ((c : Thread nD τ).loc main_arg1) = lift2 W) (t : Fin cfg0.N) : iblk m c 1 t = lift2 W := by
  obtain ⟨⟨e0, e1⟩, -⟩ := index_rest t
  funext y
  unfold iblk
  rw [View.read_apply]
  show V m c main_arg1 _ = _
  rw [V_main_arg1, h]
  refine congrArg (lift2 W) (Shape.idx_ext₂ ?_ ?_)
  · show win0_1.index t 0 * 2048 + 1 * (y 0).val = (y 0).val; rw [e0]; omega
  · show win0_1.index t 1 * 1024 + 1 * (y 1).val = (y 1).val; rw [e1]; omega
theorem block2 (h : m ((c : Thread nD τ).loc main_arg2) = cube X) (t : Fin cfg0.N) : iblk m c 2 t = tile t.val X := by
  obtain ⟨-, ⟨e0, e1⟩, -⟩ := index_tile t
  funext y
  unfold iblk
  rw [View.read_apply]
  show V m c main_v1 _ = _
  rw [V_v1, h, cast_cube]
  refine tall_tile (R := 512) X t.val (y 0).val (y 1) _ ?_ ?_
  · show win0_2.index t 0 * 512 + 1 * (y 0).val = _; rw [e0]
  · show win0_2.index t 1 * 1024 + 1 * (y 1).val = _; rw [e1]
theorem block3 (h : m ((c : Thread nD τ).loc main_arg3) = heads M) (t : Fin cfg0.N) : iblk m c 3 t = head M t.val := by
  obtain ⟨-, ⟨e0, e1, e2⟩, -⟩ := index_rest t
  funext y
  have hy : (y 0).val < 1 := (y 0).isLt
  unfold iblk
  rw [View.read_apply]
  show V m c main_v2 _ = _
  rw [V_v2, h, cast_heads]
  refine congrArg ((↑) : ℝ → EReal) (congrArg₂ M ?_ (Fin.ext ?_))
  · show win0_3.index t 0 * 1 + 1 * (y 0).val = t.val / 4; rw [e0]; omega
  · show win0_3.index t 2 * 3072 + 1 * (y 2).val = (y 2).val; rw [e2]; omega
theorem block4 (h : m ((c : Thread nD τ).loc main_arg4) = strip fg) (t : Fin cfg0.N) : iblk m c 4 t = one fg := by
  obtain ⟨-, -, ⟨e0, e1⟩, -⟩ := index_rest t
  funext y
  unfold iblk
  rw [View.read_apply]
  show V m c main_v3 _ = _
  rw [V_v3, h, cast_strip]
  refine congrArg (one fg) (Shape.idx_ext₂ ?_ ?_)
  · show win0_4.index t 0 * 1 + 1 * (y 0).val = (y 0).val; rw [e0]; omega
  · show win0_4.index t 1 * 1024 + 1 * (y 1).val = (y 1).val; rw [e1]; omega
theorem block5 (h : m ((c : Thread nD τ).loc main_arg5) = cube T) (t : Fin cfg0.N) : iblk m c 5 t = tile t.val T := by
  obtain ⟨-, -, ⟨e0, e1⟩, -⟩ := index_tile t
  funext y
  unfold iblk
  rw [View.read_apply]
  show V m c main_v4 _ = _
  rw [V_v4, h, cast_cube]
  refine tall_tile (R := 512) T t.val (y 0).val (y 1) _ ?_ ?_
  · show win0_5.index t 0 * 512 + 1 * (y 0).val = _; rw [e0]
  · show win0_5.index t 1 * 1024 + 1 * (y 1).val = _; rw [e1]

/-! ## The arrays after the run -/

/-- Every element of an array is in a block some point writes back. -/
theorem tile_of (i : S4096x1024.Idx) : ∃ t : Fin cfg0.N, t.val * 512 ≤ (i 0).val ∧ (i 0).val < t.val * 512 + 512 := by
  have h0 : (i 0).val < 4096 := (i 0).isLt
  have hN : cfg0.N = 8 := N_0
  refine ⟨⟨(i 0).val / 512, by omega⟩, ?_, ?_⟩
  · show (i 0).val / 512 * 512 ≤ _; omega
  · show _ < (i 0).val / 512 * 512 + 512; omega
theorem cover6 (i : S4096x1024.Idx) : ∃ t, (cfg0.win 6).flush t = true ∧ i ∈ ((cfg0.win 6).blk t).view.set := by
  obtain ⟨t, ha, hb⟩ := tile_of i
  have h1 : (i 1).val < 1024 := (i 1).isLt
  refine ⟨t, flush0_6 _, ?_⟩
  obtain ⟨-, -, -, ⟨e0, e1⟩, -⟩ := index_tile t
  show i ∈ ((View.whole main_v5_0).slice (win0_6.rect t)).set
  rw [View.set_slice_whole, Rect.mem_set_unit]
  intro a
  match a with
  | ⟨0, _⟩ => show win0_6.index _ 0 * 512 ≤ (i 0 : Nat) ∧ (i 0 : Nat) < win0_6.index _ 0 * 512 + 512; rw [e0]; exact ⟨ha, hb⟩
  | ⟨1, _⟩ => show win0_6.index _ 1 * 1024 ≤ (i 1 : Nat) ∧ (i 1 : Nat) < win0_6.index _ 1 * 1024 + 1024; rw [e1]; omega
theorem cover8 (i : S4096x1024.Idx) : ∃ t, (cfg0.win 8).flush t = true ∧ i ∈ ((cfg0.win 8).blk t).view.set := by
  obtain ⟨t, ha, hb⟩ := tile_of i
  have h1 : (i 1).val < 1024 := (i 1).isLt
  refine ⟨t, flush0_8 _, ?_⟩
  obtain ⟨-, -, -, -, ⟨e0, e1⟩⟩ := index_tile t
  show i ∈ ((View.whole main_v5_2).slice (win0_8.rect t)).set
  rw [View.set_slice_whole, Rect.mem_set_unit]
  intro a
  match a with
  | ⟨0, _⟩ => show win0_8.index _ 0 * 512 ≤ (i 0 : Nat) ∧ (i 0 : Nat) < win0_8.index _ 0 * 512 + 512; rw [e0]; exact ⟨ha, hb⟩
  | ⟨1, _⟩ => show win0_8.index _ 1 * 1024 ≤ (i 1 : Nat) ∧ (i 1 : Nat) < win0_8.index _ 1 * 1024 + 1024; rw [e1]; omega
theorem cover7 (i : S1x1.Idx) : ∃ t, (cfg0.win 7).flush t = true ∧ i ∈ ((cfg0.win 7).blk t).view.set := by
  have h0 : (i 0).val < 1 := (i 0).isLt
  have h1 : (i 1).val < 1 := (i 1).isLt
  have hN : cfg0.N = 8 := N_0
  obtain ⟨t, ht⟩ : ∃ t : Fin cfg0.N, t.val = 7 := ⟨⟨7, by omega⟩, rfl⟩
  refine ⟨t, (flush0_7 t).mpr (by omega), ?_⟩
  obtain ⟨-, -, -, ⟨e0, e1⟩, -⟩ := index_rest t
  show i ∈ ((View.whole main_v5_1).slice (win0_7.rect t)).set
  rw [View.set_slice_whole, Rect.mem_set_unit]
  intro a
  match a with
  | ⟨0, _⟩ => show win0_7.index _ 0 * 1 ≤ (i 0 : Nat) ∧ (i 0 : Nat) < win0_7.index _ 0 * 1 + 1; rw [e0]; omega
  | ⟨1, _⟩ => show win0_7.index _ 1 * 1 ≤ (i 1 : Nat) ∧ (i 1 : Nat) < win0_7.index _ 1 * 1 + 1; rw [e1]; omega
theorem cover9 (i : S1x1024.Idx) : ∃ t, (cfg0.win 9).flush t = true ∧ i ∈ ((cfg0.win 9).blk t).view.set := by
  have h0 : (i 0).val < 1 := (i 0).isLt
  have h1 : (i 1).val < 1024 := (i 1).isLt
  have hN : cfg0.N = 8 := N_0
  obtain ⟨t, ht⟩ : ∃ t : Fin cfg0.N, t.val = 7 := ⟨⟨7, by omega⟩, rfl⟩
  refine ⟨t, (flush0_9 t).mpr (by omega), ?_⟩
  obtain ⟨-, -, -, -, ⟨e0, e1⟩⟩ := index_rest t
  show i ∈ ((View.whole main_v5_3).slice (win0_9.rect t)).set
  rw [View.set_slice_whole, Rect.mem_set_unit]
  intro a
  match a with
  | ⟨0, _⟩ => show win0_9.index _ 0 * 1 ≤ (i 0 : Nat) ∧ (i 0 : Nat) < win0_9.index _ 0 * 1 + 1; rw [e0]; omega
  | ⟨1, _⟩ => show win0_9.index _ 1 * 1024 ≤ (i 1 : Nat) ∧ (i 1 : Nat) < win0_9.index _ 1 * 1024 + 1024; rw [e1]; omega

section

variable (a0 : m ((c : Thread nD τ).loc main_arg0) = cube Y) (a1 : m ((c : Thread nD τ).loc main_arg1) = lift2 W)
  (a2 : m ((c : Thread nD τ).loc main_arg2) = cube X) (a3 : m ((c : Thread nD τ).loc main_arg3) = heads M)
  (a4 : m ((c : Thread nD τ).loc main_arg4) = strip fg) (a5 : m ((c : Thread nD τ).loc main_arg5) = cube T)

include a0 a1 a2 a3 a4 a5

/-- What a point leaves. -/
theorem left (t : Fin cfg0.N) : outsAt0 m c t.val t.isLt
      = (tile t.val (out Y W), one fun (_ : Fin 1) => loss Y W X M fg T (512 * t.val + 512), tile t.val (dx Y W X M fg T),
         one (dfg Y W X M fg T (512 * t.val + 512))) :=
  outs_at Y W X M fg T m c (block0 m c Y a0) (block1 m c W a1) (block2 m c X a2) (block3 m c M a3) (block4 m c fg a4) (block5 m c T a5) t.val t.isLt

omit a0 a1 a2 a3 a4 a5 in
theorem last_point (t : Fin cfg0.N) (h : t.val % 8 = 7) : 512 * t.val + 512 = 4096 := by
  have := t.isLt
  have hN : cfg0.N = 8 := N_0
  omega

/-- The projection. -/
theorem final6 : (dats m 0 c).arrAt 6 cfg0.N = tall (out Y W) := by
  refine (dats m 0 c).arrAt_eq_of_cover 6 _ (fun t _ => ?_) cover6
  obtain ⟨-, -, -, ⟨e0, e1⟩, -⟩ := index_tile t
  show (cfg0.win 6).cut (grid0.coords t) ((dats m 0 c).after 6 t) = _
  rw [after0_6, left m c Y W X M fg T a0 a1 a2 a3 a4 a5 t]
  funext y
  rw [View.read_apply]
  refine (tall_tile (R := 512) (out Y W) t.val (y 0).val (y 1) _ ?_ ?_).symm
  · show win0_6.index t 0 * 512 + 1 * (y 0).val = _; rw [e0]
  · show win0_6.index t 1 * 1024 + 1 * (y 1).val = _; rw [e1]

/-- The loss. -/
theorem final7 : (dats m 0 c).arrAt 7 cfg0.N = lift2 fun (_ _ : Fin 1) => loss Y W X M fg T 4096 := by
  refine (dats m 0 c).arrAt_eq_of_cover 7 _ (fun t hf => ?_) cover7
  show (cfg0.win 7).cut (grid0.coords t) ((dats m 0 c).after 7 t) = _
  rw [after0_7, left m c Y W X M fg T a0 a1 a2 a3 a4 a5 t, last_point t ((flush0_7 t).mp hf)]
  rfl

/-- The stream's gradient. -/
theorem final8 : (dats m 0 c).arrAt 8 cfg0.N = tall (dx Y W X M fg T) := by
  refine (dats m 0 c).arrAt_eq_of_cover 8 _ (fun t _ => ?_) cover8
  obtain ⟨-, -, -, -, ⟨e0, e1⟩⟩ := index_tile t
  show (cfg0.win 8).cut (grid0.coords t) ((dats m 0 c).after 8 t) = _
  rw [after0_8, left m c Y W X M fg T a0 a1 a2 a3 a4 a5 t]
  funext y
  rw [View.read_apply]
  refine (tall_tile (R := 512) (dx Y W X M fg T) t.val (y 0).val (y 1) _ ?_ ?_).symm
  · show win0_8.index t 0 * 512 + 1 * (y 0).val = _; rw [e0]
  · show win0_8.index t 1 * 1024 + 1 * (y 1).val = _; rw [e1]

/-- The gain's gradient. -/
theorem final9 : (dats m 0 c).arrAt 9 cfg0.N = lift2 fun (_ : Fin 1) k => dfg Y W X M fg T 4096 k := by
  refine (dats m 0 c).arrAt_eq_of_cover 9 _ (fun t hf => ?_) cover9
  obtain ⟨-, -, -, -, ⟨e0, e1⟩⟩ := index_rest t
  show (cfg0.win 9).cut (grid0.coords t) ((dats m 0 c).after 9 t) = _
  rw [after0_9, left m c Y W X M fg T a0 a1 a2 a3 a4 a5 t, last_point t ((flush0_9 t).mp hf)]
  funext y
  rw [View.read_apply]
  refine congrArg (lift2 fun (_ : Fin 1) k => dfg Y W X M fg T 4096 k) (Shape.idx_ext₂ ?_ ?_)
  · show (y 0).val = win0_9.index t 0 * 1 + 1 * (y 0).val; rw [e0]; omega
  · show (y 1).val = win0_9.index t 1 * 1024 + 1 * (y 1).val; rw [e1]; omega

end

end Cert.LossBwdIdeal.Arrays
-- ==== Proof.Loss.Ref.lean ====
/-
  The loss's reference at real arguments, stage by stage.
-/
module

public import proofs.«01_k».proof.Proof.Gen.LossRefIdeal.Read
public import proofs.«01_k».proof.Proof.Loss.Spec

@[expose] public section

set_option maxRecDepth 16384

noncomputable section

namespace Cert.LossRefIdeal.Rows

open Cert.LossRefIdeal Cert.LossRefIdeal.Read Idealize.ShloMosaic Idealize.ShloMosaic.TcCoe Sgu Rms Loss

variable (Y : ℕ → Fin 2048 → ℝ) (W : Fin 2048 → Fin 1024 → ℝ) (X : ℕ → Fin 1024 → ℝ) (M : ℕ → Fin 3072 → ℝ)
  (fg : Fin 1024 → ℝ) (T : ℕ → Fin 1024 → ℝ)

/-! ### Forward -/

theorem v2 : val_main_v2 (F := Ideal) (cube Y) (lift2 W) = cube (out Y W) := by
  funext i
  rw [val_main_v2_apply]
  refine Eq.trans ?_ (coe_sum Finset.univ fun e => Y (pos (i 0) (i 1)) e * W e (i 2))
  exact Finset.sum_congr rfl fun e _ => mul_real _ _
theorem v5 : val_main_v5 (F := Ideal) (heads M) = cube fun p k => M (p / 2048) (gateCol k) := by
  funext i
  rw [val_main_v5_apply, val_main_v4_apply, val_main_v3_apply]
  refine congrArg ((↑) : ℝ → EReal) (congrArg₂ M ?_ rfl)
  exact (pos_div (i 0) (i 1)).symm
theorem v7 : val_main_v7 (F := Ideal) (cube Y) (lift2 W) (cube X) (heads M) = cube (xs Y W X M) := by
  funext i
  simp only [val_main_v7_apply, val_main_v6_apply, v2, v5, cube_at]
  pointwise
  rfl
theorem v9 : val_main_v9 (F := Ideal) (cube Y) (lift2 W) (cube X) (heads M) = sheet fun p => ∑ j, xs Y W X M p j * xs Y W X M p j := by
  have e : val_main_v8 (F := Ideal) (cube Y) (lift2 W) (cube X) (heads M) = cube fun p j => xs Y W X M p j * xs Y W X M p j := by
    funext i
    simp only [val_main_v8_apply, v7, cube_at]
    pointwise
  funext i; rw [val_main_v9_apply, e]; exact host_sum _
theorem v14 : val_main_v14 (F := Ideal) (cube Y) (lift2 W) (cube X) (heads M) = cube fun p (_ : Fin 1) => ms (xs Y W X M p) + eps := by
  have e : val_main_v10 (F := Ideal) (cube Y) (lift2 W) (cube X) (heads M) = cube fun p (_ : Fin 1) => ∑ j, xs Y W X M p j * xs Y W X M p j := by
    funext i; rw [val_main_v10_apply, v9]; rfl
  funext i
  simp only [val_main_v14_apply, val_main_v13_apply, val_main_cst_1_apply, val_main_v12_apply, e, val_main_v11_apply, val_main_cst_0_apply, cube_at]
  pointwise
  rfl
theorem v15 : val_main_v15 (F := Ideal) (cube Y) (lift2 W) (cube X) (heads M) = cube fun p (_ : Fin 1) => inv (xs Y W X M p) := by
  funext i
  simp only [val_main_v15_apply, v14, cube_at]
  pointwise
  rw [rsqrt_real _ (ms_eps_pos _)]
  rfl
theorem v18 : val_main_v18 (F := Ideal) (cube Y) (lift2 W) (cube X) (heads M)
    = cube fun p (_ : Fin 1) => -(1 / 2) * (inv (xs Y W X M p) / (ms (xs Y W X M p) + eps)) := by
  funext i
  simp only [val_main_v18_apply, val_main_v17_apply, val_main_cst_2_apply, val_main_v16_apply, v15, v14, cube_at]
  pointwise
  rw [div_real _ _ (ms_eps_pos _).ne']
  pointwise
theorem v20 : val_main_v20 (F := Ideal) (cube Y) (lift2 W) (cube X) (heads M) = cube fun p => unit (xs Y W X M p) := by
  have e : val_main_v19 (F := Ideal) (cube Y) (lift2 W) (cube X) (heads M) = cube fun p (_ : Fin 1024) => inv (xs Y W X M p) := by
    funext i; rw [val_main_v19_apply, v15]; rfl
  funext i
  simp only [val_main_v20_apply, v7, e, cube_at]
  pointwise
  rfl
theorem v22 : val_main_v22 (F := Ideal) (strip fg) = cube fun _ k => fg k := by
  funext i; rw [val_main_v22_apply, val_main_v21_apply]; rfl
theorem v24 : val_main_v24 (F := Ideal) (cube Y) (lift2 W) (cube X) (heads M) (strip fg) (cube T) = cube (er Y W X M fg T) := by
  funext i
  simp only [val_main_v24_apply, val_main_v23_apply, v20, v22, cube_at]
  pointwise
  rfl
theorem v30 : val_main_v30 (F := Ideal) (cube Y) (lift2 W) (cube X) (heads M) (strip fg) (cube T) = sheet (sq Y W X M fg T) := by
  have e : val_main_v25 (F := Ideal) (cube Y) (lift2 W) (cube X) (heads M) (strip fg) (cube T)
      = cube fun p k => er Y W X M fg T p k * er Y W X M fg T p k := by
    funext i
    simp only [val_main_v25_apply, v24, cube_at]
    pointwise
  have s : val_main_v28 (F := Ideal) (cube Y) (lift2 W) (cube X) (heads M) (strip fg) (cube T)
      = sheet fun p => ∑ k, er Y W X M fg T p k * er Y W X M fg T p k := by
    funext i; rw [val_main_v28_apply, e]; exact host_sum _
  funext i
  simp only [val_main_v30_apply, s, val_main_v29_apply, val_main_cst_5_apply, sheet_at]
  pointwise
  rfl
/-- The loss. -/
theorem v32 (i : S_.Idx) : val_main_v32 (F := Ideal) (cube Y) (lift2 W) (cube X) (heads M) (strip fg) (cube T) i
    = ((loss Y W X M fg T 4096 : ℝ) : EReal) := by
  have s : ∑ j : S2x2048.Idx, sheet (sq Y W X M fg T) j = ((∑ p ∈ Finset.range 4096, sq Y W X M fg T p : ℝ) : EReal) := by
    rw [← sum_pos, ← coe_sum]
    rw [← (ValueIdx.idxEquiv2 (n0 := 2) (n1 := 2048)).symm.sum_comp, Fintype.sum_prod_type]
    simp only [← coe_sum]
    rfl
  rw [val_main_v32_apply, val_main_v31_apply, v30, s, val_main_cst_6_apply, val_main_cst_7_apply]
  pointwise
  unfold loss
  rw [Finset.mul_sum]

/-! ### Backward -/

theorem v38 : val_main_v38 (F := Ideal) (cube Y) (lift2 W) (cube X) (heads M) (strip fg) (cube T) = cube (dy Y W X M fg T) := by
  funext i
  simp only [val_main_v38_apply, val_main_v37_apply, val_main_v36_apply, val_main_v35_apply, val_main_cst_10_apply, val_main_v34_apply, val_main_v33_apply,
    val_main_cst_8_apply, val_main_cst_9_apply, val_main_v27_apply, val_main_v26_apply, val_main_cst_3_apply, v24, cube_at]
  pointwise
  refine congrArg _ ?_
  unfold dy
  ring
theorem v40 : val_main_v40 (F := Ideal) (cube Y) (lift2 W) (cube X) (heads M) (strip fg) (cube T) = strip (dfg Y W X M fg T 4096) := by
  have e : val_main_v39 (F := Ideal) (cube Y) (lift2 W) (cube X) (heads M) (strip fg) (cube T)
      = cube fun p k => dy Y W X M fg T p k * unit (xs Y W X M p) k := by
    funext i
    simp only [val_main_v39_apply, v20, v38, cube_at]
    pointwise
    rw [mul_comm]
  funext i
  unfold val_main_v40
  rw [e]
  exact host_sum_rows _ i _
/-- The gain's gradient. -/
theorem v63 : val_main_v63 (F := Ideal) (cube Y) (lift2 W) (cube X) (heads M) (strip fg) (cube T)
    = lift2 fun (_ : Fin 1) k => dfg Y W X M fg T 4096 k := by
  funext i
  rw [val_main_v63_apply]
  unfold val_main_v44
  refine (host_sum_once _ _ _).trans ?_
  rw [val_main_v41_apply, v40]
  have h0 : (i 0).val < 1 := (i 0).isLt
  refine congrArg ((↑) : ℝ → EReal) (congrArg (dfg Y W X M fg T 4096) (Fin.ext ?_))
  show (0 * 1 + 0) * 1024 + ((i 0).val * 1024 + (i 1).val) = (i 1).val
  omega
theorem v43 : val_main_v43 (F := Ideal) (cube Y) (lift2 W) (cube X) (heads M) (strip fg) (cube T) = cube (dn Y W X M fg T) := by
  have e : val_main_v42 (F := Ideal) (strip fg) = cube fun _ k => fg k := by
    funext i; rw [val_main_v42_apply, val_main_v21_apply]; rfl
  funext i
  simp only [val_main_v43_apply, e, v38, cube_at]
  pointwise
  rfl
theorem v47 : val_main_v47 (F := Ideal) (cube Y) (lift2 W) (cube X) (heads M) (strip fg) (cube T)
    = cube fun p (_ : Fin 1) => ∑ j, xs Y W X M p j * dn Y W X M fg T p j := by
  have e : val_main_v45 (F := Ideal) (cube Y) (lift2 W) (cube X) (heads M) (strip fg) (cube T) = cube fun p j => xs Y W X M p j * dn Y W X M fg T p j := by
    funext i
    simp only [val_main_v45_apply, v7, v43, cube_at]
    pointwise
  have s : val_main_v46 (F := Ideal) (cube Y) (lift2 W) (cube X) (heads M) (strip fg) (cube T) = sheet fun p => ∑ j, xs Y W X M p j * dn Y W X M fg T p j := by
    funext i; rw [val_main_v46_apply, e]; exact host_sum _
  funext i; rw [val_main_v47_apply, s]; exact cube_of_sheet _ _ _ rfl rfl
theorem v54 : val_main_v54 (F := Ideal) (cube Y) (lift2 W) (cube X) (heads M) (strip fg) (cube T)
    = cube fun p (_ : Fin 1024) => dms (xs Y W X M p) (dn Y W X M fg T p) := by
  have e : val_main_v52 (F := Ideal) (cube Y) (lift2 W) (cube X) (heads M) (strip fg) (cube T)
      = cube fun p (_ : Fin 1) => dms (xs Y W X M p) (dn Y W X M fg T p) := by
    funext i
    simp only [val_main_v52_apply, val_main_v51_apply, val_main_cst_14_apply, val_main_v50_apply, v47, v18, cube_at]
    pointwise
    rfl
  funext i
  rw [val_main_v54_apply, val_main_v53_apply, e]
  refine (host_sum (n := 1) fun _ => dms (xs Y W X M (pos (i 0) (i 1))) (dn Y W X M fg T (pos (i 0) (i 1)))).trans ?_
  rw [Fin.sum_univ_one]
  rfl
theorem v58 : val_main_v58 (F := Ideal) (cube Y) (lift2 W) (cube X) (heads M) (strip fg) (cube T) = cube (dx Y W X M fg T) := by
  have e : val_main_v48 (F := Ideal) (cube Y) (lift2 W) (cube X) (heads M) = cube fun p (_ : Fin 1024) => inv (xs Y W X M p) := by
    funext i; rw [val_main_v48_apply, v15]; rfl
  funext i
  simp only [val_main_v58_apply, val_main_v57_apply, val_main_v56_apply, val_main_v55_apply, val_main_v49_apply, v43, e, v7, v54, cube_at]
  pointwise
  exact congrArg _ (back_chain _ _ _)
/-- The stream's gradient. -/
theorem v62 : val_main_v62 (F := Ideal) (cube Y) (lift2 W) (cube X) (heads M) (strip fg) (cube T) = tall (dx Y W X M fg T) := by
  funext i
  rw [val_main_v62_apply, v58]
  have h0 : (i 0).val < 4096 := (i 0).isLt
  have h1 : (i 1).val < 1024 := (i 1).isLt
  refine tall_of_cube _ _ _ ?_ ?_
  · show 2048 * (((i 0).val * 1024 + (i 1).val) / 2097152) + ((i 0).val * 1024 + (i 1).val) / 1024 % 2048 = (i 0).val
    omega
  · show ((i 0).val * 1024 + (i 1).val) % 1024 = (i 1).val
    omega
/-- The projection. -/
theorem v60 : val_main_v60 (F := Ideal) (cube Y) (lift2 W) = tall (out Y W) := by
  funext i
  rw [val_main_v60_apply, val_main_v59_apply, v2]
  have h0 : (i 0).val < 4096 := (i 0).isLt
  have h1 : (i 1).val < 1024 := (i 1).isLt
  refine tall_of_cube _ _ _ ?_ ?_
  · show 2048 * (((i 0).val * 1024 + (i 1).val) / 2097152) + ((i 0).val * 1024 + (i 1).val) / 1024 % 2048 = (i 0).val
    omega
  · show ((i 0).val * 1024 + (i 1).val) % 1024 = (i 1).val
    omega
/-- The loss, as the one entry of an array. -/
theorem v61 : val_main_v61 (F := Ideal) (cube Y) (lift2 W) (cube X) (heads M) (strip fg) (cube T)
    = lift2 fun (_ _ : Fin 1) => loss Y W X M fg T 4096 := by
  funext i
  unfold val_main_v61
  refine (shapeCast_apply _ _ i (fun a => a.elim0) ?_).trans (v32 Y W X M fg T _)
  have h0 : (i 0).val < 1 := (i 0).isLt
  have h1 : (i 1).val < 1 := (i 1).isLt
  rw [Shape.rowMajor_val_two]
  refine (Nat.lt_one_iff.1 (Fin.isLt (n := 1) _)).trans (Eq.symm ?_)
  show (i 0).val * 1 + (i 1).val = 0
  omega

end Cert.LossRefIdeal.Rows
-- ==== Proof.Rms.Finite.lean ====
/-
  Rows, sequences and lines whose entries are all finite are rows, sequences and lines of reals.
-/
module

public import proofs.«01_k».proof.Proof.Sgu.Finite
public import proofs.«01_k».proof.Proof.Rms.Spec

@[expose] public section

set_option maxRecDepth 16384

noncomputable section

namespace Rms

open Idealize.ShloMosaic Sgu

theorem as_cube {n : Nat} (x : (⟨3, ![2, 2048, n]⟩ : Shape).Idx → EReal) (h : ∀ i, x i = (((x i).toReal : ℝ) : EReal)) :
    x = cube fun p j => (x (ix3 ⟨p / 2048 % 2, Nat.mod_lt _ (by decide)⟩ ⟨p % 2048, Nat.mod_lt _ (by decide)⟩ j)).toReal := by
  funext i
  have h0 : (i 0).val < 2 := (i 0).isLt
  have h1 : (i 1).val < 2048 := (i 1).isLt
  rw [cube_at, h i]
  refine congrArg (fun e => (((x e).toReal : ℝ) : EReal)) (funext fun a => Fin.ext ?_)
  match a with
  | ⟨0, _⟩ => show (i 0).val = (2048 * (i 0).val + (i 1).val) / 2048 % 2; omega
  | ⟨1, _⟩ => show (i 1).val = (2048 * (i 0).val + (i 1).val) % 2048; omega
  | ⟨2, _⟩ => rfl

theorem as_heads {n : Nat} (x : (⟨2, ![2, n]⟩ : Shape).Idx → EReal) (h : ∀ i, x i = (((x i).toReal : ℝ) : EReal)) :
    x = heads fun b j => (x (ix2 ⟨b % 2, Nat.mod_lt _ (by decide)⟩ j)).toReal := by
  funext i
  have h0 : (i 0).val < 2 := (i 0).isLt
  rw [h i]
  refine congrArg (fun e => (((x e).toReal : ℝ) : EReal)) (Shape.idx_ext₂ ?_ rfl)
  show (i 0).val = (i 0).val % 2
  omega

theorem as_strip {n : Nat} (x : (⟨1, ![n]⟩ : Shape).Idx → EReal) (h : ∀ i, x i = (((x i).toReal : ℝ) : EReal)) :
    x = strip fun j => (x (ix1 j)).toReal := by
  funext i
  rw [h i]
  refine congrArg (fun e => (((x e).toReal : ℝ) : EReal)) (funext fun a => ?_)
  match a with
  | ⟨0, _⟩ => rfl

end Rms

end
-- ==== Proof.Loss.Claims.lean ====
/-
  The claims about the last layer's call with the loss, assembled: the reference's frame and the equality of the two
  programs where every argument is finite.
-/
module

public import proofs.«01_k».proof.Defs
public import proofs.«01_k».proof.Proof.Loss.Arrays
public import proofs.«01_k».proof.Proof.Loss.Ref
public import proofs.«01_k».proof.Proof.Rms.Finite
public import proofs.«01_k».proof.Proof.Gen.LossRefIdeal
public import proofs.«01_k».proof.Proof.Gen.LossRefIdeal.Run
public import proofs.«01_k».proof.Proof.Gen.LossBwdIdeal.Value
public import proofs.«01_k».proof.Proof.Gen.Pre_loss_finite
public import Idealize.ShloMosaic.Lib.Quiescent

@[expose] public section

set_option maxRecDepth 16384

noncomputable section

namespace Cert.Proof.Loss

open Idealize.ShloMosaic Idealize.SL.Sem Sgu Rms _root_.Loss Cert.LossRefIdeal.Rows

/-- The reference runs, keeps its arguments, and has no semaphore. -/
theorem frame_ref : quiescent_LossRefIdeal := fun m ρ _ =>
  (θ_run Cert.LossRefIdeal.defs _ _).mono
    (fun r h => ⟨fun c => (h c).2.2.2.2,
      Idealize.ShloMosaic.sem_eq_zero_of_no_sems (by decide) r.2⟩)
    (Cert.LossRefIdeal.Value.run (F := Ideal) m ρ)

instance : Cert.Pre_loss_finite.Facts := Cert.Pre_loss_finite.Gen.facts

/-- Finite arguments are reals. -/
theorem reals (m : (ℓ : Loc Cert.LossBwdIdeal.nD Cert.LossBwdIdeal.τ Cert.LossBwdIdeal.sig) → Buf (Elt Ideal) ℓ)
    (h : Pre_LossBwdIdeal_loss_finite m) (c : Dev Cert.LossBwdIdeal.nD) :
    ∃ (Y : ℕ → Fin 2048 → ℝ) (W : Fin 2048 → Fin 1024 → ℝ) (X : ℕ → Fin 1024 → ℝ) (M : ℕ → Fin 3072 → ℝ) (fg : Fin 1024 → ℝ) (T : ℕ → Fin 1024 → ℝ),
      m ((c.tc : Thread Cert.LossBwdIdeal.nD Cert.LossBwdIdeal.τ).loc Cert.LossBwdIdeal.main_arg0) = cube Y
      ∧ m ((c.tc : Thread Cert.LossBwdIdeal.nD Cert.LossBwdIdeal.τ).loc Cert.LossBwdIdeal.main_arg1) = lift2 W
      ∧ m ((c.tc : Thread Cert.LossBwdIdeal.nD Cert.LossBwdIdeal.τ).loc Cert.LossBwdIdeal.main_arg2) = cube X
      ∧ m ((c.tc : Thread Cert.LossBwdIdeal.nD Cert.LossBwdIdeal.τ).loc Cert.LossBwdIdeal.main_arg3) = heads M
      ∧ m ((c.tc : Thread Cert.LossBwdIdeal.nD Cert.LossBwdIdeal.τ).loc Cert.LossBwdIdeal.main_arg4) = strip fg
      ∧ m ((c.tc : Thread Cert.LossBwdIdeal.nD Cert.LossBwdIdeal.τ).loc Cert.LossBwdIdeal.main_arg5) = cube T := by
  obtain ⟨h0, h1, h2, h3, h4, h5⟩ := h c
  exact ⟨_, _, _, _, _, _, as_cube _ fun i => real_of_lt _ _ inf16 (congrFun h0 i), as_lift2 _ fun i => real_of_lt _ _ inf16 (congrFun h1 i),
    as_cube _ fun i => real_of_lt _ _ inf32 (congrFun h2 i), as_heads _ fun i => real_of_lt _ _ inf32 (congrFun h3 i),
    as_strip _ fun i => real_of_lt _ _ inf32 (congrFun h4 i), as_cube _ fun i => real_of_lt _ _ inf32 (congrFun h5 i)⟩

/-- From the same finite arguments the kernel's four results and the reference's are the same arrays over the extended reals. -/
theorem algebraic : algebraic_LossBwdIdeal_LossRefIdeal_pre_loss_finite := by
  intro m ρ m' ρ' hpre hagree
  choose Y W X M fg T a0 a1 a2 a3 a4 a5 using reals m hpre
  refine ⟨fun c => tall (out (Y c) (W c)), fun c => lift2 fun (_ _ : Fin 1) => loss (Y c) (W c) (X c) (M c) (fg c) (T c) 4096,
    fun c => tall (dx (Y c) (W c) (X c) (M c) (fg c) (T c)), fun c => lift2 fun (_ : Fin 1) k => dfg (Y c) (W c) (X c) (M c) (fg c) (T c) 4096 k, ?_, ?_⟩
  · refine (θ_run Cert.LossBwdIdeal.defs _ _).mono (fun r h c => ?_) (Cert.LossBwdIdeal.Value.run_blocks (F := Ideal) m ρ)
    obtain ⟨h6, h7, h8, h9, rest⟩ := h c
    exact ⟨h6.trans (LossBwdIdeal.Arrays.final6 m c _ _ _ _ _ _ (a0 c) (a1 c) (a2 c) (a3 c) (a4 c) (a5 c)),
      h7.trans (LossBwdIdeal.Arrays.final7 m c _ _ _ _ _ _ (a0 c) (a1 c) (a2 c) (a3 c) (a4 c) (a5 c)),
      h8.trans (LossBwdIdeal.Arrays.final8 m c _ _ _ _ _ _ (a0 c) (a1 c) (a2 c) (a3 c) (a4 c) (a5 c)),
      h9.trans (LossBwdIdeal.Arrays.final9 m c _ _ _ _ _ _ (a0 c) (a1 c) (a2 c) (a3 c) (a4 c) (a5 c)), rest⟩
  · refine (θ_run Cert.LossRefIdeal.defs _ _).mono (fun r h c => ?_) (Cert.LossRefIdeal.Value.run (F := Ideal) m' ρ')
    obtain ⟨h0, h1, h2, h3, rest⟩ := h c
    obtain ⟨e0, e1, e2, e3, e4, e5⟩ := hagree c
    refine ⟨h0.trans ((Cert.LossRefIdeal.Read.val_main_v60_eq _ _).trans ?_), h1.trans ((Cert.LossRefIdeal.Read.val_main_v61_eq _ _).trans ?_),
      h2.trans ((Cert.LossRefIdeal.Read.val_main_v62_eq _ _).trans ?_), h3.trans ((Cert.LossRefIdeal.Read.val_main_v63_eq _ _).trans ?_), rest⟩
    · refine Eq.trans ?_ (v60 (Y c) (W c))
      rw [← a0 c, ← a1 c, ← e0, ← e1]
    · refine Eq.trans ?_ (v61 (Y c) (W c) (X c) (M c) (fg c) (T c))
      rw [← a0 c, ← a1 c, ← a2 c, ← a3 c, ← a4 c, ← a5 c, ← e0, ← e1, ← e2, ← e3, ← e4, ← e5]
    · refine Eq.trans ?_ (v62 (Y c) (W c) (X c) (M c) (fg c) (T c))
      rw [← a0 c, ← a1 c, ← a2 c, ← a3 c, ← a4 c, ← a5 c, ← e0, ← e1, ← e2, ← e3, ← e4, ← e5]
    · refine Eq.trans ?_ (v63 (Y c) (W c) (X c) (M c) (fg c) (T c))
      rw [← a0 c, ← a1 c, ← a2 c, ← a3 c, ← a4 c, ← a5 c, ← e0, ← e1, ← e2, ← e3, ← e4, ← e5]

end Cert.Proof.Loss

end
-- ==== Proof.Norm.Spec.lean ====
/-
  The gradient of the modulated norm and of the product over it, over the real numbers, row by row.
-/
module

public import proofs.«01_k».proof.Proof.Rms.Spec

@[expose] public section

set_option maxRecDepth 16384

noncomputable section

namespace Norm

open Idealize.ShloMosaic Sgu Rms

/-- Column `k` of the scale's third. -/
def scaleCol (k : Fin 1024) : Fin 3072 := ⟨1024 + k.val, by omega⟩

section

variable {w : ℕ} (C : ℕ → Fin w → ℝ) (W : Fin 1024 → Fin w → ℝ)

/-- The modulated row's gradient. -/
def dh (p : ℕ) (k : Fin 1024) : ℝ := ∑ e, C p e * W k e
/-- One section's part of it, where section `s` is the columns `sec s`. -/
def part {v : ℕ} (sec : ℕ → Fin v → Fin w) (s p : ℕ) (k : Fin 1024) : ℝ := ∑ e, C p (sec s e) * W k (sec s e)
/-- The first `n` sections' parts. -/
def acc {v : ℕ} (sec : ℕ → Fin v → Fin w) (n p : ℕ) (k : Fin 1024) : ℝ := ∑ s ∈ Finset.range n, part C W sec s p k

/-- Sections one after the other are the whole. -/
theorem acc_all {v : ℕ} (sec : ℕ → Fin v → Fin w) (n : ℕ) (hw : v * n = w) (hs : ∀ s e, (sec s e).val = (v * s + e.val) % w) (h0 : 0 < w) :
    acc C W sec n = dh C W := by
  funext p k
  have h : ∀ (f : ℕ → ℝ) (n : ℕ), ∑ s ∈ Finset.range n, ∑ e : Fin v, f (v * s + e.val) = ∑ e ∈ Finset.range (v * n), f e := by
    intro f n
    induction n with
    | zero => rfl
    | succ n ih => rw [Finset.sum_range_succ, ih, sum_tile]; rfl
  have g := h (fun e => C p ⟨e % w, Nat.mod_lt _ h0⟩ * W k ⟨e % w, Nat.mod_lt _ h0⟩) n
  rw [hw] at g
  unfold acc dh part
  have e : ∀ s (e : Fin v), sec s e = ⟨(v * s + e.val) % w, Nat.mod_lt _ h0⟩ := fun s e => Fin.ext (hs s e)
  simp only [e]
  refine g.trans ((Fin.sum_univ_eq_sum_range _ w).symm.trans ?_)
  refine Finset.sum_congr rfl fun e _ => ?_
  have : (⟨e.val % w, Nat.mod_lt _ h0⟩ : Fin w) = e := Fin.ext (Nat.mod_eq_of_lt e.isLt)
  rw [this]

end

variable (H : ℕ → Fin 1024 → ℝ) (X : ℕ → Fin 1024 → ℝ) (D : ℕ → Fin 1024 → ℝ)
  (M : ℕ → Fin 3072 → ℝ) (ng : Fin 1024 → ℝ)

/-- The gained row's gradient. -/
def drn (p : ℕ) (k : Fin 1024) : ℝ := H p k * (1 + M (p / 2048) (scaleCol k))
/-- The stream's gradient. -/
def dxi (p : ℕ) (k : Fin 1024) : ℝ := D p k + back (X p) (fun j => drn H M p j * ng j) k
/-- A row's part of the scale's gradient. -/
def sc (p : ℕ) (k : Fin 1024) : ℝ := H p k * (unit (X p) k * ng k)
/-- A row's part of the gain's gradient. -/
def gn (p : ℕ) (k : Fin 1024) : ℝ := drn H M p k * unit (X p) k
/-- The sum over `n` rows of sequence `b` from its start. -/
def seqSum (f : ℕ → Fin 1024 → ℝ) (b n : ℕ) (k : Fin 1024) : ℝ := ∑ s ∈ Finset.range n, f (2048 * b + s) k
/-- The sum over the first `n` rows. -/
def rowSum (f : ℕ → Fin 1024 → ℝ) (n : ℕ) (k : Fin 1024) : ℝ := ∑ p ∈ Finset.range n, f p k

/-- Rows of gradients as the first columns of wider rows, and the unit matrix that takes them out. -/
def wide (p : ℕ) (e : Fin 8192) : ℝ := if h : e.val < 1024 then H p ⟨e.val, h⟩ else 0
def pick (k : Fin 1024) (e : Fin 8192) : ℝ := if e.val = k.val then 1 else 0
/-- Any gradient of the modulated rows is a product. -/
theorem dh_unit : dh (wide H) pick = H := by
  funext p k
  unfold dh wide pick
  refine (Finset.sum_eq_single (⟨k.val, by omega⟩ : Fin 8192) (fun e _ he => ?_) fun h => absurd (Finset.mem_univ _) h).trans ?_
  · rw [if_neg fun h => he (Fin.ext h), mul_zero]
  · rw [if_pos rfl, mul_one, dif_pos k.isLt]

end Norm
-- ==== Proof.Norm.Point.lean ====
/-
  The norm's backward call at one grid point over real blocks: every payload is an array of reals, row by row the terms
  of `Norm/Spec.lean`. The two forms of the call have these payloads in common, all but the product's.
-/
module

public import proofs.«01_k».proof.Proof.Gen.NormBwdIdeal.Value
public import Idealize.ShloMosaic.Lib.Pointwise
public import Idealize.ShloMosaic.Lib.ValueIdx
public import proofs.«01_k».proof.Proof.Norm.Spec

@[expose] public section

set_option maxRecDepth 16384

noncomputable section

namespace Cert.NormBwdIdeal.Outs

open Cert.NormBwdIdeal Cert.NormBwdIdeal.Gen Idealize.ShloMosaic Idealize.ShloMosaic.TcCoe Idealize.SL.Sem
open Sgu Rms Norm

variable (H : ℕ → Fin 1024 → ℝ) (X : ℕ → Fin 1024 → ℝ) (D : ℕ → Fin 1024 → ℝ)
  (M : ℕ → Fin 3072 → ℝ) (ng : Fin 1024 → ℝ) (n : ℕ)

/-- Tile `n` of an array's rows. -/
abbrev tile {w : Nat} (f : ℕ → Fin w → ℝ) : (⟨2, ![1024, w]⟩ : Shape).Idx → EReal := lift2 fun (r : Fin 1024) j => f (1024 * n + r.val) j
/-- One number for each row of tile `n`. -/
abbrev col (f : ℕ → ℝ) : (⟨2, ![1024, 1]⟩ : Shape).Idx → EReal := lift2 fun (r : Fin 1024) (_ : Fin 1) => f (1024 * n + r.val)
/-- A row of reals. -/
abbrev one (f : Fin 1024 → ℝ) : (⟨2, ![1, 1024]⟩ : Shape).Idx → EReal := lift2 fun (_ : Fin 1) j => f j
/-- A row of reals as a slab. -/
abbrev slab (f : Fin 1024 → ℝ) : (⟨3, ![1, 1, 1024]⟩ : Shape).Idx → EReal := lift3 fun (_ _ : Fin 1) j => f j
theorem one_ext {f g : Fin 1024 → ℝ} (h : ∀ j, f j = g j) : one f = one g := congrArg one (funext h)
theorem slab_ext {f g : Fin 1024 → ℝ} (h : ∀ j, f j = g j) : slab f = slab g := congrArg slab (funext h)
/-- The modulation row of the tile's sequence. -/
abbrev head : (⟨3, ![1, 1, 3072]⟩ : Shape).Idx → EReal := lift3 fun (_ _ : Fin 1) j => M (n / 2) j
/-- The sum of a tile's rows. -/
def tileSum (f : ℕ → Fin 1024 → ℝ) (k : Fin 1024) : ℝ := ∑ r : Fin 1024, f (1024 * n + r.val) k

theorem seq_of (r : Fin 1024) : (1024 * n + r.val) / 2048 = n / 2 := by omega

theorem pay1 : k0_pay1 (F := Ideal) = tile n fun _ _ => 0 := by
  funext z
  obtain ⟨r, k, rfl⟩ : ∃ r k, z = ix2 (n0 := 1024) (n1 := 1024) r k := ⟨z 0, z 1, eq_ix2 z⟩
  unfold_payloads
  pointwise
  exact EReal.coe_zero.symm

theorem pay5 : k0_pay5 (F := Ideal) (tile n X) = col n fun p => inv (X p) := by
  funext z
  obtain ⟨r, q, rfl⟩ : ∃ r q, z = ix2 (n0 := 1024) (n1 := 1) r q := ⟨z 0, z 1, eq_ix2 z⟩
  unfold_payloads
  pointwise
  exact rsqrt_real _ (ms_eps_pos _)

theorem pay6 : k0_pay6 (F := Ideal) (tile n X) = tile n fun p => unit (X p) := by
  have h := pay5 X n
  revert h
  unfold_payloads
  intro h
  rw [h]
  funext z
  obtain ⟨r, k, rfl⟩ : ∃ r k, z = ix2 (n0 := 1024) (n1 := 1024) r k := ⟨z 0, z 1, eq_ix2 z⟩
  pointwise
  rfl

/-- A tile's part of the shift's gradient. -/
theorem pay8 (f : ℕ → Fin 1024 → ℝ) : k0_pay8 (F := Ideal) (tile n f) = one (tileSum n f) := by
  funext z
  obtain ⟨a, k, rfl⟩ : ∃ a k, z = ix2 (n0 := 1) (n1 := 1024) a k := ⟨z 0, z 1, eq_ix2 z⟩
  unfold_payloads
  pointwise
  rfl

/-- A tile's part of the scale's gradient. -/
theorem pay9 : k0_pay9 (F := Ideal) (tile n H) (tile n X) (one ng) = one (tileSum n (sc H X ng)) := by
  have h := pay6 X n
  revert h
  unfold_payloads
  intro h
  rw [h]
  funext z
  obtain ⟨a, k, rfl⟩ : ∃ a k, z = ix2 (n0 := 1) (n1 := 1024) a k := ⟨z 0, z 1, eq_ix2 z⟩
  pointwise
  rfl

theorem pay10 : k0_pay10 (F := Ideal) (tile n H) (head M n) = tile n (drn H M) := by
  funext z
  obtain ⟨r, k, rfl⟩ : ∃ r k, z = ix2 (n0 := 1024) (n1 := 1024) r k := ⟨z 0, z 1, eq_ix2 z⟩
  unfold_payloads
  pointwise
  refine congrArg _ ?_
  unfold drn scaleCol
  rw [seq_of]

/-- A tile's part of the gain's gradient. -/
theorem pay11 : k0_pay11 (F := Ideal) (tile n H) (tile n X) (head M n) = one (tileSum n (gn H X M)) := by
  have h := pay6 X n
  have h' := pay10 H M n
  revert h h'
  unfold_payloads
  intro h h'
  rw [h, h']
  funext z
  obtain ⟨a, k, rfl⟩ : ∃ a k, z = ix2 (n0 := 1) (n1 := 1024) a k := ⟨z 0, z 1, eq_ix2 z⟩
  pointwise
  rfl

/-- A row's gradient through the norm, before the reciprocal root. -/
def bk (v g : Fin 1024 → ℝ) (k : Fin 1024) : ℝ := g k - unit v k * ((∑ j, g j * unit v j) / 1024)

theorem pay12 : k0_pay12 (F := Ideal) (tile n H) (tile n X) (head M n) (one ng)
    = tile n fun p => bk (X p) fun j => drn H M p j * ng j := by
  have h := pay6 X n
  have h' := pay10 H M n
  revert h h'
  unfold_payloads
  intro h h'
  rw [h, h']
  funext z
  obtain ⟨r, k, rfl⟩ : ∃ r k, z = ix2 (n0 := 1024) (n1 := 1024) r k := ⟨z 0, z 1, eq_ix2 z⟩
  pointwise
  rfl

theorem pay13 (g : ℕ → Fin 1024 → ℝ) : k0_pay13 (F := Ideal) (col n fun p => inv (X p)) (tile n fun p => bk (X p) (g p)) (tile n D)
    = tile n fun p k => D p k + back (X p) (g p) k := by
  funext z
  obtain ⟨r, k, rfl⟩ : ∃ r k, z = ix2 (n0 := 1024) (n1 := 1024) r k := ⟨z 0, z 1, eq_ix2 z⟩
  unfold_payloads
  pointwise
  rfl

theorem pay14 (v : Fin 1024 → ℝ) : k0_pay14 (F := Ideal) (one v) = slab v := by
  funext z
  obtain ⟨a, b, k, rfl⟩ : ∃ a b k, z = ix3 (n0 := 1) (n1 := 1) (n2 := 1024) a b k := ⟨z 0, z 1, z 2, eq_ix3 z⟩
  unfold_payloads
  pointwise
theorem pay15 (v : Fin 1024 → ℝ) : k0_pay15 (F := Ideal) (one v) = slab v := pay14 v

theorem pay16 (v w : Fin 1024 → ℝ) : k0_pay16 (F := Ideal) (one v) (slab w) = slab fun k => w k + v k := by
  funext z
  obtain ⟨a, b, k, rfl⟩ : ∃ a b k, z = ix3 (n0 := 1) (n1 := 1) (n2 := 1024) a b k := ⟨z 0, z 1, z 2, eq_ix3 z⟩
  unfold_payloads
  pointwise
theorem pay17 (v w : Fin 1024 → ℝ) : k0_pay17 (F := Ideal) (one v) (slab w) = slab fun k => w k + v k := pay16 v w

theorem pay3 (v w : Fin 1024 → ℝ) : k0_pay3 (F := Ideal) (one v) (one w) = one fun k => w k + v k := by
  funext z
  obtain ⟨a, k, rfl⟩ : ∃ a k, z = ix2 (n0 := 1) (n1 := 1024) a k := ⟨z 0, z 1, eq_ix2 z⟩
  unfold_payloads
  pointwise

end Cert.NormBwdIdeal.Outs
-- ==== Proof.Norm.Steps.lean ====
/-
  The norm's backward call point by point over real blocks, in both its forms: the accumulator holds the sections seen, and
  after a tile's last point the four outputs hold the stream's gradient and the three sums.
-/
module

public import proofs.«01_k».proof.Proof.Norm.Point

@[expose] public section

set_option maxRecDepth 16384

noncomputable section

namespace Cert.NormBwdIdeal.Outs

open Cert.NormBwdIdeal Cert.NormBwdIdeal.Gen Idealize.ShloMosaic Idealize.ShloMosaic.TcCoe Idealize.SL.Sem
open Sgu Rms Norm

/-! ### Sums of tiles -/

/-- A sequence's first tile. -/
theorem seq_even (f : ℕ → Fin 1024 → ℝ) (i : ℕ) (h : i % 2 = 0) (k : Fin 1024) : tileSum i f k = seqSum f (i / 2) (1024 * (i % 2) + 1024) k := by
  unfold tileSum seqSum
  rw [h, show 1024 * i = 2048 * (i / 2) by omega]
  exact Fin.sum_univ_eq_sum_range (fun r => f (2048 * (i / 2) + r) k) 1024
/-- A sequence's second tile. -/
theorem seq_odd (f : ℕ → Fin 1024 → ℝ) (i : ℕ) (h : i % 2 = 0) (k : Fin 1024) :
    seqSum f (i / 2) (1024 * (i % 2) + 1024) k + tileSum (i + 1) f k = seqSum f ((i + 1) / 2) (1024 * ((i + 1) % 2) + 1024) k := by
  unfold tileSum seqSum
  rw [h, show (i + 1) % 2 = 1 by omega, show (i + 1) / 2 = i / 2 by omega, show 1024 * (i + 1) = 2048 * (i / 2) + 1024 by omega]
  simp only [Nat.add_assoc]
  exact sum_tile (fun r => f (2048 * (i / 2) + r) k) 1024 1024
theorem row_first (f : ℕ → Fin 1024 → ℝ) (k : Fin 1024) : tileSum 0 f k = rowSum f (1024 * 0 + 1024) k :=
  (zero_add _).symm.trans (sum_tile (fun p => f p k) 0 1024)
theorem row_next (f : ℕ → Fin 1024 → ℝ) (i : ℕ) (k : Fin 1024) :
    rowSum f (1024 * i + 1024) k + tileSum (i + 1) f k = rowSum f (1024 * (i + 1) + 1024) k :=
  sum_tile (fun p => f p k) (1024 * (i + 1)) 1024

/-! ### What a point does -/

/-- What a point leaves: the stream's gradient, the three sums and the accumulator. -/
abbrev Left := Vec Ideal S1024x1024 .f32 × Vec Ideal S1x1x1024 .f32 × Vec Ideal S1x1x1024 .f32 × Vec Ideal S1x1024 .f32 × Vec Ideal S1024x1024 .f32
/-- The three sums. -/
abbrev sums (o : Left) : Vec Ideal S1x1x1024 .f32 × Vec Ideal S1x1x1024 .f32 × Vec Ideal S1x1024 .f32 := (o.2.1, o.2.2.1, o.2.2.2.1)

variable {N : ℕ} (o : (t : ℕ) → t < N → Left) (add : Fin N → Vec Ideal S1024x1024 .f32 → Vec Ideal S1024x1024 .f32)
  (x2 x3 : Fin N → Vec Ideal S1024x1024 .f32) (x4 : Fin N → Vec Ideal S1x1x3072 .f32) (x5 : Fin N → Vec Ideal S1x1024 .f32)
  (A : ℕ → ℕ → Fin 1024 → ℝ) (X : ℕ → Fin 1024 → ℝ) (D : ℕ → Fin 1024 → ℝ) (M : ℕ → Fin 3072 → ℝ) (ng : Fin 1024 → ℝ)

/-- What the point before left. -/
abbrev prev (t : Fin N) : Left := o (t.val - 1) (Nat.lt_of_le_of_lt (Nat.sub_le _ _) t.isLt)
/-- The accumulator after a point that adds to it. -/
abbrev total (t : Fin N) : Vec Ideal S1024x1024 .f32 := add t (prev o t).2.2.2.2

/-- How the points follow each other: a tile's first point starts the accumulator, its last leaves the stream's gradient and
    starts the sums or adds to them, and no other touches the sums. -/
structure Run : Prop where
  size : N = 16
  zero : ∀ t : Fin N, t.val % 4 = 0 → (o t.val t.isLt).2.2.2.2 = add t (k0_pay1 (F := Ideal))
  more : ∀ t : Fin N, ¬t.val % 4 = 0 → (o t.val t.isLt).2.2.2.2 = total o add t
  keep : ∀ t : Fin N, ¬t.val % 4 = 3 → sums (o t.val t.isLt) = sums (prev o t)
  grad : ∀ t : Fin N, t.val % 4 = 3 →
    (o t.val t.isLt).1 = k0_pay13 (k0_pay5 (x2 t)) (k0_pay12 (total o add t) (x2 t) (x4 t) (x5 t)) (x3 t)
  fresh : ∀ t : Fin N, t.val % 8 = 3 → (o t.val t.isLt).2.1 = k0_pay14 (k0_pay8 (total o add t))
    ∧ (o t.val t.isLt).2.2.1 = k0_pay15 (k0_pay9 (total o add t) (x2 t) (x5 t))
  next : ∀ t : Fin N, t.val % 8 = 7 → (o t.val t.isLt).2.1 = k0_pay16 (k0_pay8 (total o add t)) (prev o t).2.1
    ∧ (o t.val t.isLt).2.2.1 = k0_pay17 (k0_pay9 (total o add t) (x2 t) (x5 t)) (prev o t).2.2.1
  gain : ∀ t : Fin N, t.val % 4 = 3 → (o t.val t.isLt).2.2.2.1 = if t.val < 4 then k0_pay11 (total o add t) (x2 t) (x4 t)
    else k0_pay3 (k0_pay11 (total o add t) (x2 t) (x4 t)) (prev o t).2.2.2.1

/-- The blocks a point reads are reals, and its product takes the accumulator from `n` sections to `n + 1`. -/
structure Reals : Prop where
  none : A 0 = fun _ _ => 0
  sect : ∀ t : Fin N, add t (tile (t.val / 4) (A (t.val % 4))) = tile (t.val / 4) (A (t.val % 4 + 1))
  b2 : ∀ t : Fin N, x2 t = tile (t.val / 4) X
  b3 : ∀ t : Fin N, x3 t = tile (t.val / 4) D
  b4 : ∀ t : Fin N, x4 t = head M (t.val / 4)
  b5 : ∀ t : Fin N, x5 t = one ng

variable {o add x2 x3 x4 x5 A X D M ng} (R : Run o add x2 x3 x4 x5) (B : Reals add x2 x3 x4 x5 A X D M ng)
include R B

/-! ### The accumulator -/

theorem acc_at : ∀ (t : ℕ) (h : t < N), (o t h).2.2.2.2 = tile (t / 4) (A (t % 4 + 1))
  | 0, h => by
    have z : tile 0 (A 0) = k0_pay1 (F := Ideal) := by rw [B.none]; exact (pay1 0).symm
    have e := B.sect ⟨0, h⟩
    refine (R.zero ⟨0, h⟩ rfl).trans ?_
    simp only [Nat.zero_div, Nat.zero_mod] at e ⊢
    rw [← z]
    exact e
  | t + 1, h => by
    have ih := acc_at t (by omega)
    have e := B.sect ⟨t + 1, h⟩
    by_cases h0 : (t + 1) % 4 = 0
    · have z : tile ((t + 1) / 4) (A 0) = k0_pay1 (F := Ideal) := by rw [B.none]; exact (pay1 _).symm
      refine (R.zero ⟨t + 1, h⟩ h0).trans ?_
      dsimp only at e
      rw [← z]
      rw [h0] at e ⊢
      exact e
    · refine (R.more ⟨t + 1, h⟩ h0).trans ?_
      dsimp only at e
      rw [show (t + 1) % 4 = t % 4 + 1 by omega] at e ⊢
      rw [← e]
      refine congrArg (add ⟨t + 1, h⟩) (ih.trans ?_)
      rw [show t / 4 = (t + 1) / 4 by omega]

/-- At a tile's last point the accumulator gets the whole product. -/
theorem full (t : Fin N) (h : t.val % 4 = 3) : total o add t = tile (t.val / 4) (A 4) := by
  rw [← R.more t (by omega), acc_at R B, h]

/-! ### A tile's last point -/

/-- A tile's gradient of the stream and its parts of the sums. -/
theorem parts (t : Fin N) (h : t.val % 4 = 3) :
    k0_pay13 (k0_pay5 (x2 t)) (k0_pay12 (total o add t) (x2 t) (x4 t) (x5 t)) (x3 t) = tile (t.val / 4) (dxi (A 4) X D M ng)
    ∧ k0_pay9 (total o add t) (x2 t) (x5 t) = one (tileSum (t.val / 4) (sc (A 4) X ng))
    ∧ k0_pay11 (total o add t) (x2 t) (x4 t) = one (tileSum (t.val / 4) (gn (A 4) X M)) := by
  rw [full R B t h, B.b2 t, B.b3 t, B.b4 t, B.b5 t, pay5, pay9, pay11, pay12, pay13 X D _ fun p j => drn (A 4) M p j * ng j]
  exact ⟨rfl, rfl, rfl⟩

/-- The stream's gradient. -/
theorem dxi_at (t : Fin N) (h : t.val % 4 = 3) : (o t.val t.isLt).1 = tile (t.val / 4) (dxi (A 4) X D M ng) :=
  (R.grad t h).trans (parts R B t h).1

/-! ### The sums -/

omit B in
/-- Three points later the sums are the same. -/
theorem carry_tile (t t' : Fin N) (h : t.val % 4 = 3) (h' : t'.val = t.val + 4) : sums (prev o t') = sums (o t.val t.isLt) := by
  obtain ⟨v', hv'⟩ := t'
  obtain rfl : v' = t.val + 4 := h'
  have e1 := R.keep ⟨t.val + 3, by omega⟩ (show ¬(t.val + 3) % 4 = 3 by omega)
  have e2 := R.keep ⟨t.val + 2, by omega⟩ (show ¬(t.val + 2) % 4 = 3 by omega)
  have e3 := R.keep ⟨t.val + 1, by omega⟩ (show ¬(t.val + 1) % 4 = 3 by omega)
  exact e1.trans (e2.trans e3)

omit R B in
variable (A X M ng) in
/-- The sums after tile `i`. -/
abbrev sumsOf (i : ℕ) : Vec Ideal S1x1x1024 .f32 × Vec Ideal S1x1x1024 .f32 × Vec Ideal S1x1024 .f32 :=
  (slab (seqSum (A 4) (i / 2) (1024 * (i % 2) + 1024)), slab (seqSum (sc (A 4) X ng) (i / 2) (1024 * (i % 2) + 1024)),
    one (rowSum (gn (A 4) X M) (1024 * i + 1024)))

/-- A sequence's first tile starts its two sums. -/
theorem fresh_at (i : ℕ) (hi : i % 2 = 0) (t : Fin N) (ht : t.val = 4 * i + 3) :
    (o t.val t.isLt).2.1 = (sumsOf A X M ng i).1 ∧ (o t.val t.isLt).2.2.1 = (sumsOf A X M ng i).2.1 := by
  obtain ⟨-, p8, -⟩ := parts R B t (by omega)
  obtain ⟨f7, f8⟩ := R.fresh t (by omega)
  have f := full R B t (by omega)
  rw [show t.val / 4 = i by omega] at f p8
  refine ⟨f7.trans ?_, f8.trans ?_⟩
  · rw [f, pay8, pay14]
    exact slab_ext fun k => seq_even (A 4) i hi k
  · rw [p8, pay15]
    exact slab_ext fun k => seq_even (sc (A 4) X ng) i hi k

/-- The gain's sum gets a tile's part. -/
theorem gain_at (i : ℕ) (t : Fin N) (ht : t.val = 4 * (i + 1) + 3) (ih : sums (prev o t) = sumsOf A X M ng i) :
    (o t.val t.isLt).2.2.2.1 = (sumsOf A X M ng (i + 1)).2.2 := by
  obtain ⟨-, -, p9⟩ := parts R B t (by omega)
  have e9 := congrArg (fun o => o.2.2) ih
  dsimp only at e9
  rw [show t.val / 4 = i + 1 by omega] at p9
  refine (R.gain t (by omega)).trans ?_
  rw [if_neg (by omega), p9, e9, pay3]
  exact one_ext fun k => row_next (gn (A 4) X M) i k

/-- The first tile. -/
theorem sums_first (t : Fin N) (ht : t.val = 3) : sums (o t.val t.isLt) = sumsOf A X M ng 0 := by
  obtain ⟨-, -, p9⟩ := parts R B t (by omega)
  obtain ⟨f7, f8⟩ := fresh_at R B 0 rfl t (by omega)
  rw [show t.val / 4 = 0 by omega] at p9
  refine Prod.ext f7 (Prod.ext f8 ((R.gain t (by omega)).trans ?_))
  rw [if_pos (by omega), p9]
  exact one_ext fun k => row_first (gn (A 4) X M) k

/-- A sequence's second tile adds to the sums after the first. -/
theorem sums_odd (i : ℕ) (hi : i % 2 = 0) (t : Fin N) (ht : t.val = 4 * (i + 1) + 3) (ih : sums (prev o t) = sumsOf A X M ng i) :
    sums (o t.val t.isLt) = sumsOf A X M ng (i + 1) := by
  obtain ⟨-, p8, -⟩ := parts R B t (by omega)
  obtain ⟨n7, n8⟩ := R.next t (by omega)
  have f := full R B t (by omega)
  have e7 := congrArg (fun o => o.1) ih
  have e8 := congrArg (fun o => o.2.1) ih
  dsimp only at e7 e8
  rw [show t.val / 4 = i + 1 by omega] at f p8
  refine Prod.ext (n7.trans ?_) (Prod.ext (n8.trans ?_) (gain_at R B i t ht ih))
  · rw [f, e7, pay8, pay16]
    exact slab_ext fun k => seq_odd (A 4) i hi k
  · rw [p8, e8, pay17]
    exact slab_ext fun k => seq_odd (sc (A 4) X ng) i hi k

/-- The sums after a sequence's second tile. -/
theorem sums_seven (t : Fin N) (ht : t.val = 7) : sums (o t.val t.isLt) = sumsOf A X M ng 1 := by
  obtain ⟨u, hu⟩ : ∃ u : Fin N, u.val = 3 := ⟨⟨3, by omega⟩, rfl⟩
  exact sums_odd R B 0 rfl t ht ((carry_tile R u t (by omega) (by omega)).trans (sums_first R B u hu))
theorem sums_last (t : Fin N) (ht : t.val = 15) : sums (o t.val t.isLt) = sumsOf A X M ng 3 := by
  obtain ⟨u, hu⟩ : ∃ u : Fin N, u.val = 11 := ⟨⟨11, by omega⟩, rfl⟩
  obtain ⟨v, hv⟩ : ∃ v : Fin N, v.val = 7 := ⟨⟨7, by omega⟩, rfl⟩
  obtain ⟨f7, f8⟩ := fresh_at R B 2 rfl u (by omega)
  refine sums_odd R B 2 rfl t ht ((carry_tile R u t (by omega) (by omega)).trans (Prod.ext f7 (Prod.ext f8 (gain_at R B 1 u (by omega) ?_))))
  exact (carry_tile R v u (by omega) (by omega)).trans (sums_seven R B v hv)

/-- The sums after a sequence's last point. -/
theorem held (t : Fin N) (h : t.val % 8 = 7) : sums (o t.val t.isLt)
    = (slab (seqSum (A 4) (t.val / 8) 2048), slab (seqSum (sc (A 4) X ng) (t.val / 8) 2048), one (rowSum (gn (A 4) X M) (1024 * (t.val / 4) + 1024))) := by
  have ht : t.val < 16 := lt_of_lt_of_eq t.isLt R.size
  have s : sums (o t.val t.isLt) = sumsOf A X M ng (t.val / 4) := by
    rcases (by omega : t.val = 7 ∨ t.val = 15) with e | e
    · rw [show t.val / 4 = 1 by omega]
      exact sums_seven R B t e
    · rw [show t.val / 4 = 3 by omega]
      exact sums_last R B t e
  refine s.trans ?_
  unfold sumsOf
  rw [show t.val / 4 / 2 = t.val / 8 by omega, show 1024 * (t.val / 4 % 2) + 1024 = 2048 by omega]

end Cert.NormBwdIdeal.Outs
-- ==== Proof.Norm.Outs.lean ====
/-
  What one grid point of the norm's backward call leaves in its four output blocks and in its accumulator: the
  pieces the frame's run found, read back as the body's own payloads of the input blocks.
-/
module

public import proofs.«01_k».proof.Proof.Gen.NormBwdIdeal.Value
public import proofs.«01_k».proof.Proof.Norm.Steps

@[expose] public section

set_option maxRecDepth 16384

noncomputable section

namespace Cert.NormBwdIdeal.Arrays

open Cert.NormBwdIdeal Cert.NormBwdIdeal.Gen Idealize.ShloMosaic Idealize.ShloMosaic.TcCoe Idealize.SL.Sem
open Cert.NormBwdIdeal.Outs (Run Left prev total sums)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-- The accumulator with a point's product added. -/
abbrev add (t : Fin cfg0.N) (v : Vec Ideal S1024x1024 .f32) : Vec Ideal S1024x1024 .f32 := k0_pay2 v (iblk m c 0 t) (iblk m c 1 t)
/-- The accumulator after a point that adds to it. -/
abbrev sumTo (t : Fin cfg0.N) : Vec Ideal S1024x1024 .f32 := total (outsAt0 m c) (add m c) t
/-- The stream's gradient from a full accumulator. -/
abbrev dxiB (t : Fin cfg0.N) : Vec Ideal S1024x1024 .f32 :=
  k0_pay13 (k0_pay5 (iblk m c 2 t)) (k0_pay12 (sumTo m c t) (iblk m c 2 t) (iblk m c 4 t) (iblk m c 5 t)) (iblk m c 3 t)
/-- The scale's part from a full accumulator. -/
abbrev dscB (t : Fin cfg0.N) : Vec Ideal S1x1024 .f32 := k0_pay9 (sumTo m c t) (iblk m c 2 t) (iblk m c 5 t)
/-- The gain's part from a full accumulator. -/
abbrev dngB (t : Fin cfg0.N) : Vec Ideal S1x1024 .f32 := k0_pay11 (sumTo m c t) (iblk m c 2 t) (iblk m c 4 t)

/-- A tile's first point. -/
theorem at_A (t : Fin cfg0.N) (h0 : t.val % 4 = 0) (h1 : ¬t.val % 4 = 3) :
    sums (outsAt0 m c t.val t.isLt) = sums (prev (outsAt0 m c) t) ∧ (outsAt0 m c t.val t.isLt).2.2.2.2 = add m c t (k0_pay1 (F := Ideal)) := by
  rw [outsAt0_A m c t h0 h1]
  refine ⟨rfl, ?_⟩
  dsimp only
  unfold sout0_A_0
  rw [View.read_writes_junk_eq_canon]
  unfold kernelRun0_A
  dsimp only
  sl_unfold_words
  rw [View.canon_cons_unit_zero (S := S1024x1024) hz2]
  simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
    View.ld_unit_zero (S := S1x1024x2048) hz3, View.ld_unit_zero (S := S1024x1024) hz2, View.ld_unit_zero (S := S1x1024) hz2, View.ld_unit_zero (S := S1x1x1024) hz3, View.ld_unit_zero (S := S1x1x3072) hz3]
/-- A tile's middle points. -/
theorem at_B (t : Fin cfg0.N) (h0 : ¬t.val % 4 = 0) (h1 : ¬t.val % 4 = 3) :
    sums (outsAt0 m c t.val t.isLt) = sums (prev (outsAt0 m c) t) ∧ (outsAt0 m c t.val t.isLt).2.2.2.2 = sumTo m c t := by
  rw [outsAt0_B m c t h0 h1]
  refine ⟨rfl, ?_⟩
  unfold sumTo total prev
  dsimp only
  generalize (outsAt0 m c (t.val - 1) (Nat.lt_of_le_of_lt (Nat.sub_le _ _) t.isLt)).2.2.2.2 = xoS
  unfold sout0_B_0
  rw [View.read_writes_junk_eq_canon]
  unfold kernelRun0_B
  dsimp only
  sl_unfold_words
  rw [View.canon_unit_zero hz2]
  simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
    View.ld_unit_zero (S := S1x1024x2048) hz3, View.ld_unit_zero (S := S1024x1024) hz2, View.ld_unit_zero (S := S1x1024) hz2, View.ld_unit_zero (S := S1x1x1024) hz3, View.ld_unit_zero (S := S1x1x3072) hz3]
/-- The first tile's last point. -/
theorem at_C (t : Fin cfg0.N) (h0 : ¬t.val % 4 = 0) (h1 : t.val % 4 = 3) (h2 : (t.val % 8 = 0 ∨ t.val % 8 = 1 ∨ t.val % 8 = 2 ∨ t.val % 8 = 3)) (h3 : ¬(t.val % 8 = 4 ∨ t.val % 8 = 5 ∨ t.val % 8 = 6 ∨ t.val % 8 = 7)) (h4 : t.val < 4) (h5 : ¬4 ≤ t.val) :
    outsAt0 m c t.val t.isLt = (dxiB m c t, k0_pay14 (k0_pay8 (sumTo m c t)), k0_pay15 (F := Ideal) (dscB m c t), dngB m c t, sumTo m c t) := by
  rw [outsAt0_C m c t h0 h1 h2 h3 h4 h5]
  unfold dxiB dscB dngB sumTo total prev
  generalize outsAt0 m c (t.val - 1) (Nat.lt_of_le_of_lt (Nat.sub_le _ _) t.isLt) = x
  obtain ⟨xo6, xo7, xo8, xo9, xoS⟩ := x
  dsimp only
  unfold out0_C_6 out0_C_7 out0_C_8 out0_C_9 sout0_C_0
  simp only [View.read_writes_junk_eq_canon]
  unfold kernelRun0_C
  dsimp only
  sl_unfold_words
  refine Prod.ext ?_ (Prod.ext ?_ (Prod.ext ?_ (Prod.ext ?_ ?_)))
  all_goals
    dsimp only
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
      View.ld_unit_zero (S := S1x1024x2048) hz3, View.ld_unit_zero (S := S1024x1024) hz2, View.ld_unit_zero (S := S1x1024) hz2, View.ld_unit_zero (S := S1x1x1024) hz3, View.ld_unit_zero (S := S1x1x3072) hz3]
/-- The last point of a sequence's second tile. -/
theorem at_D (t : Fin cfg0.N) (h0 : ¬t.val % 4 = 0) (h1 : t.val % 4 = 3) (h2 : ¬(t.val % 8 = 0 ∨ t.val % 8 = 1 ∨ t.val % 8 = 2 ∨ t.val % 8 = 3)) (h3 : (t.val % 8 = 4 ∨ t.val % 8 = 5 ∨ t.val % 8 = 6 ∨ t.val % 8 = 7)) (h4 : ¬t.val < 4) (h5 : 4 ≤ t.val) :
    outsAt0 m c t.val t.isLt = (dxiB m c t, k0_pay16 (k0_pay8 (sumTo m c t)) (prev (outsAt0 m c) t).2.1, k0_pay17 (dscB m c t) (prev (outsAt0 m c) t).2.2.1, k0_pay3 (dngB m c t) (prev (outsAt0 m c) t).2.2.2.1, sumTo m c t) := by
  rw [outsAt0_D m c t h0 h1 h2 h3 h4 h5]
  unfold dxiB dscB dngB sumTo total prev
  generalize outsAt0 m c (t.val - 1) (Nat.lt_of_le_of_lt (Nat.sub_le _ _) t.isLt) = x
  obtain ⟨xo6, xo7, xo8, xo9, xoS⟩ := x
  dsimp only
  unfold out0_D_6 out0_D_7 out0_D_8 out0_D_9 sout0_D_0
  simp only [View.read_writes_junk_eq_canon]
  unfold kernelRun0_D
  dsimp only
  sl_unfold_words
  refine Prod.ext ?_ (Prod.ext ?_ (Prod.ext ?_ (Prod.ext ?_ ?_)))
  all_goals
    dsimp only
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
      View.ld_unit_zero (S := S1x1024x2048) hz3, View.ld_unit_zero (S := S1024x1024) hz2, View.ld_unit_zero (S := S1x1024) hz2, View.ld_unit_zero (S := S1x1x1024) hz3, View.ld_unit_zero (S := S1x1x3072) hz3]
/-- The last point of the second sequence's first tile. -/
theorem at_E (t : Fin cfg0.N) (h0 : ¬t.val % 4 = 0) (h1 : t.val % 4 = 3) (h2 : (t.val % 8 = 0 ∨ t.val % 8 = 1 ∨ t.val % 8 = 2 ∨ t.val % 8 = 3)) (h3 : ¬(t.val % 8 = 4 ∨ t.val % 8 = 5 ∨ t.val % 8 = 6 ∨ t.val % 8 = 7)) (h4 : ¬t.val < 4) (h5 : 4 ≤ t.val) :
    outsAt0 m c t.val t.isLt = (dxiB m c t, k0_pay14 (k0_pay8 (sumTo m c t)), k0_pay15 (F := Ideal) (dscB m c t), k0_pay3 (dngB m c t) (prev (outsAt0 m c) t).2.2.2.1, sumTo m c t) := by
  rw [outsAt0_E m c t h0 h1 h2 h3 h4 h5]
  unfold dxiB dscB dngB sumTo total prev
  generalize outsAt0 m c (t.val - 1) (Nat.lt_of_le_of_lt (Nat.sub_le _ _) t.isLt) = x
  obtain ⟨xo6, xo7, xo8, xo9, xoS⟩ := x
  dsimp only
  unfold out0_E_6 out0_E_7 out0_E_8 out0_E_9 sout0_E_0
  simp only [View.read_writes_junk_eq_canon]
  unfold kernelRun0_E
  dsimp only
  sl_unfold_words
  refine Prod.ext ?_ (Prod.ext ?_ (Prod.ext ?_ (Prod.ext ?_ ?_)))
  all_goals
    dsimp only
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
      View.ld_unit_zero (S := S1x1024x2048) hz3, View.ld_unit_zero (S := S1024x1024) hz2, View.ld_unit_zero (S := S1x1024) hz2, View.ld_unit_zero (S := S1x1x1024) hz3, View.ld_unit_zero (S := S1x1x3072) hz3]

/-- The points follow each other as `Norm/Steps.lean` says. -/
theorem run : Run (outsAt0 m c) (add m c) (iblk m c 2) (iblk m c 3) (iblk m c 4) (iblk m c 5) := by
  have hN : ∀ t : Fin cfg0.N, t.val < 16 := fun t => lt_of_lt_of_eq t.isLt N_0
  have last : ∀ t : Fin cfg0.N, t.val % 4 = 3 → (outsAt0 m c t.val t.isLt).1 = dxiB m c t ∧ (outsAt0 m c t.val t.isLt).2.2.2.2 = sumTo m c t
      ∧ (t.val % 8 = 3 → (outsAt0 m c t.val t.isLt).2.1 = k0_pay14 (k0_pay8 (sumTo m c t)) ∧ (outsAt0 m c t.val t.isLt).2.2.1 = k0_pay15 (F := Ideal) (dscB m c t))
      ∧ (t.val % 8 = 7 → (outsAt0 m c t.val t.isLt).2.1 = k0_pay16 (k0_pay8 (sumTo m c t)) (prev (outsAt0 m c) t).2.1
        ∧ (outsAt0 m c t.val t.isLt).2.2.1 = k0_pay17 (dscB m c t) (prev (outsAt0 m c) t).2.2.1)
      ∧ (outsAt0 m c t.val t.isLt).2.2.2.1 = if t.val < 4 then dngB m c t else k0_pay3 (dngB m c t) (prev (outsAt0 m c) t).2.2.2.1 := by
    intro t h
    have := hN t
    by_cases h2 : t.val < 4
    · rw [at_C m c t (by omega) h (by omega) (by omega) h2 (by omega), if_pos h2]
      exact ⟨rfl, rfl, fun _ => ⟨rfl, rfl⟩, fun h' => absurd h' (by omega), rfl⟩
    · rw [if_neg h2]
      by_cases h3 : t.val % 8 < 4
      · rw [at_E m c t (by omega) h (by omega) (by omega) h2 (by omega)]
        exact ⟨rfl, rfl, fun _ => ⟨rfl, rfl⟩, fun h' => absurd h' (by omega), rfl⟩
      · rw [at_D m c t (by omega) h (by omega) (by omega) h2 (by omega)]
        exact ⟨rfl, rfl, fun h' => absurd h' (by omega), fun _ => ⟨rfl, rfl⟩, rfl⟩
  refine ⟨N_0, fun t h => (at_A m c t h (by omega)).2, fun t h => ?_, fun t h => ?_, fun t h => (last t h).1,
    fun t h => (last t (by omega)).2.2.1 h, fun t h => (last t (by omega)).2.2.2.1 h, fun t h => (last t h).2.2.2.2⟩
  · by_cases h1 : t.val % 4 = 3
    · exact (last t h1).2.1
    · exact (at_B m c t h h1).2
  · by_cases h0 : t.val % 4 = 0
    · exact (at_A m c t h0 h).1
    · exact (at_B m c t h0 h).1

end Cert.NormBwdIdeal.Arrays
-- ==== Proof.Norm.Arrays.lean ====
/-
  The norm's backward call over real arguments: what each of its four output arrays ends holding.
-/
module

public import proofs.«01_k».proof.Proof.Norm.Outs
public import proofs.«01_k».proof.Proof.Rms.Layout

@[expose] public section

set_option maxRecDepth 16384

noncomputable section

namespace Cert.NormBwdIdeal.Arrays

open Cert.NormBwdIdeal Cert.NormBwdIdeal.Gen Idealize.ShloMosaic Idealize.ShloMosaic.TcCoe Idealize.SL.Sem
open Idealize.ShloMosaic.Pipeline (Dat)
open Sgu Rms Norm Cert.NormBwdIdeal.Outs

/-! ## The product's sections -/

/-- Column `e` of section `s`. -/
def sec (s : ℕ) (e : Fin 2048) : Fin 8192 := ⟨(2048 * s + e.val) % 8192, Nat.mod_lt _ (by decide)⟩

section

variable (C : ℕ → Fin 8192 → ℝ) (W : Fin 1024 → Fin 8192 → ℝ) (n s : ℕ)

/-- The four sections' parts are the whole. -/
theorem acc_full : acc C W sec 4 = dh C W := acc_all C W sec 4 rfl (fun _ _ => rfl) (by decide)
/-- Section `s` of a tile's cotangent. -/
abbrev secC : (⟨3, ![1, 1024, 2048]⟩ : Shape).Idx → EReal := lift3 fun (_ : Fin 1) (r : Fin 1024) e => C (1024 * n + r.val) (sec s e)
/-- Section `s` of the weights. -/
abbrev secW : (⟨3, ![1, 1024, 2048]⟩ : Shape).Idx → EReal := lift3 fun (_ : Fin 1) (k : Fin 1024) e => W k (sec s e)
/-- A point's product. -/
theorem pay2 : k0_pay2 (F := Ideal) (tile n (acc C W sec s)) (secC C n s) (secW W s) = tile n (acc C W sec (s + 1)) := by
  funext z
  obtain ⟨r, k, rfl⟩ : ∃ r k, z = ix2 (n0 := 1024) (n1 := 1024) r k := ⟨z 0, z 1, eq_ix2 z⟩
  unfold_payloads
  pointwise
  refine congrArg _ ?_
  unfold acc
  rw [Finset.sum_range_succ]
  rfl

end

/-! ## The host's layout of the cotangent and of the weights by section -/

/-- The cotangent's sections. -/
theorem cast_ct (C : ℕ → Fin 8192 → ℝ) : transpose S4x4096x2048 [1, 0, 2]
      (shapeCast S4096x4x2048 (cube C) shapeCasts_S2x2048x8192_S4096x4x2048) transposes_S4096x4x2048_S4x4096x2048_1_0_2
    = lift3 fun (s : Fin 4) (p : Fin 4096) (e : Fin 2048) => C p.val (sec s.val e) := by
  funext z
  obtain ⟨s, p, e, rfl⟩ : ∃ s p e, z = ix3 (n0 := 4) (n1 := 4096) (n2 := 2048) s p e := ⟨z 0, z 1, z 2, eq_ix3 z⟩
  refine (transpose_apply _ _ _ _ (ix3 (n0 := 4096) (n1 := 4) (n2 := 2048) p s e)
    fun b => match b with | ⟨0, _⟩ => rfl | ⟨1, _⟩ => rfl | ⟨2, _⟩ => rfl).trans ?_
  have hs := s.isLt
  have hp := p.isLt
  have he := e.isLt
  refine (shapeCast_apply (cube C) _ _ (ix3 (n0 := 2) (n1 := 2048) (n2 := 8192) ⟨p.val / 2048, by omega⟩ ⟨p.val % 2048, by omega⟩ (sec s.val e)) ?_).trans ?_
  · rw [Shape.rowMajor_val_three, Shape.rowMajor_val_three]
    show (p.val / 2048 * 2048 + p.val % 2048) * 8192 + (2048 * s.val + e.val) % 8192 = (p.val * 4 + s.val) * 2048 + e.val
    omega
  · refine congrArg (fun q => ((C q (sec s.val e) : ℝ) : EReal)) ?_
    show 2048 * (p.val / 2048) + p.val % 2048 = p.val
    omega
/-- The weights' sections. -/
theorem cast_w (W : Fin 1024 → Fin 8192 → ℝ) : transpose S4x1024x2048 [1, 0, 2]
      (shapeCast S1024x4x2048 (lift2 W) shapeCasts_S1024x8192_S1024x4x2048) transposes_S1024x4x2048_S4x1024x2048_1_0_2
    = lift3 fun (s : Fin 4) (k : Fin 1024) (e : Fin 2048) => W k (sec s.val e) := by
  funext z
  obtain ⟨s, k, e, rfl⟩ : ∃ s k e, z = ix3 (n0 := 4) (n1 := 1024) (n2 := 2048) s k e := ⟨z 0, z 1, z 2, eq_ix3 z⟩
  refine (transpose_apply _ _ _ _ (ix3 (n0 := 1024) (n1 := 4) (n2 := 2048) k s e)
    fun b => match b with | ⟨0, _⟩ => rfl | ⟨1, _⟩ => rfl | ⟨2, _⟩ => rfl).trans ?_
  have hs := s.isLt
  have he := e.isLt
  refine shapeCast_apply (lift2 W) _ _ (ix2 (n0 := 1024) (n1 := 8192) k (sec s.val e)) ?_
  rw [Shape.rowMajor_val_three, Shape.rowMajor_val_two]
  show k.val * 8192 + (2048 * s.val + e.val) % 8192 = (k.val * 4 + s.val) * 2048 + e.val
  omega

variable (m : (ℓ : Loc nD τ sig) → Buf (Elt Ideal) ℓ) (c : Dev nD)

/-- The block every window names at a point: point `t` works on row tile `t / 4`, section `t % 4` and sequence `t / 8`. -/
theorem index_sect : ∀ t : Fin grid0.N, (win0_0.index t 0 = t.val % 4 ∧ win0_0.index t 1 = t.val / 4 ∧ win0_0.index t 2 = 0)
    ∧ (win0_1.index t 0 = t.val % 4 ∧ win0_1.index t 1 = 0 ∧ win0_1.index t 2 = 0) := by decide +kernel
theorem index_tile : ∀ t : Fin grid0.N, (win0_2.index t 0 = t.val / 4 ∧ win0_2.index t 1 = 0)
    ∧ (win0_3.index t 0 = t.val / 4 ∧ win0_3.index t 1 = 0) ∧ (win0_6.index t 0 = t.val / 4 ∧ win0_6.index t 1 = 0) := by decide +kernel
theorem index_rest : ∀ t : Fin grid0.N, (win0_4.index t 0 = t.val / 8 ∧ win0_4.index t 1 = 0 ∧ win0_4.index t 2 = 0)
    ∧ (win0_5.index t 0 = 0 ∧ win0_5.index t 1 = 0) ∧ (win0_9.index t 0 = 0 ∧ win0_9.index t 1 = 0) := by decide +kernel
theorem index_seq : ∀ t : Fin grid0.N, (win0_7.index t 0 = t.val / 8 ∧ win0_7.index t 1 = 0 ∧ win0_7.index t 2 = 0)
    ∧ (win0_8.index t 0 = t.val / 8 ∧ win0_8.index t 1 = 0 ∧ win0_8.index t 2 = 0) := by decide +kernel

/-- The region finds the arguments as the host lays them out. -/
theorem V_v1 : V m c main_v1 = transpose S4x4096x2048 [1, 0, 2]
    (shapeCast S4096x4x2048 (m ((c : Thread nD τ).loc main_arg0)) shapeCasts_S2x2048x8192_S4096x4x2048) transposes_S4096x4x2048_S4x4096x2048_1_0_2 := by
  unfold V
  after_results
  rfl
theorem V_v3 : V m c main_v3 = transpose S4x1024x2048 [1, 0, 2]
    (shapeCast S1024x4x2048 (m ((c : Thread nD τ).loc main_arg1)) shapeCasts_S1024x8192_S1024x4x2048) transposes_S1024x4x2048_S4x1024x2048_1_0_2 := by
  unfold V
  after_results
  rfl
theorem V_v4 : V m c main_v4 = shapeCast S4096x1024 (m ((c : Thread nD τ).loc main_arg2)) shapeCasts_S2x2048x1024_S4096x1024 := by
  unfold V
  after_results
  rfl
theorem V_v5 : V m c main_v5 = shapeCast S4096x1024 (m ((c : Thread nD τ).loc main_arg3)) shapeCasts_S2x2048x1024_S4096x1024 := by
  unfold V
  after_results
  rfl
theorem V_v6 : V m c main_v6 = shapeCast S2x1x3072 (m ((c : Thread nD τ).loc main_arg4)) shapeCasts_S2x3072_S2x1x3072 := by
  unfold V
  after_results
  rfl
theorem V_v7 : V m c main_v7 = shapeCast S1x1024 (m ((c : Thread nD τ).loc main_arg5)) shapeCasts_S1024_S1x1024 := by
  unfold V
  after_results
  rfl

variable (C : ℕ → Fin 8192 → ℝ) (W : Fin 1024 → Fin 8192 → ℝ) (X : ℕ → Fin 1024 → ℝ) (D : ℕ → Fin 1024 → ℝ)
  (M : ℕ → Fin 3072 → ℝ) (ng : Fin 1024 → ℝ)

/-! ## The blocks the points read -/

theorem block0 (h : m ((c : Thread nD τ).loc main_arg0) = cube C) (t : Fin cfg0.N) : iblk m c 0 t = secC C (t.val / 4) (t.val % 4) := by
  obtain ⟨⟨e0, e1, e2⟩, -⟩ := index_sect t
  funext y
  have hy : (y 0).val < 1 := (y 0).isLt
  unfold iblk
  rw [View.read_apply]
  show V m c main_v1 _ = _
  rw [V_v1, h, cast_ct]
  refine congrArg ((↑) : ℝ → EReal) (congrArg₂ C ?_ (congrArg₂ sec ?_ (Fin.ext ?_)))
  · show win0_0.index t 1 * 1024 + 1 * (y 1).val = 1024 * (t.val / 4) + (y 1).val; rw [e1]; omega
  · show win0_0.index t 0 * 1 + 1 * (y 0).val = t.val % 4; rw [e0]; omega
  · show win0_0.index t 2 * 2048 + 1 * (y 2).val = (y 2).val; rw [e2]; omega
theorem block1 (h : m ((c : Thread nD τ).loc main_arg1) = lift2 W) (t : Fin cfg0.N) : iblk m c 1 t = secW W (t.val % 4) := by
  obtain ⟨-, ⟨e0, e1, e2⟩⟩ := index_sect t
  funext y
  have hy : (y 0).val < 1 := (y 0).isLt
  unfold iblk
  rw [View.read_apply]
  show V m c main_v3 _ = _
  rw [V_v3, h, cast_w]
  refine congrArg ((↑) : ℝ → EReal) (congrArg₂ W (Fin.ext ?_) (congrArg₂ sec ?_ (Fin.ext ?_)))
  · show win0_1.index t 1 * 1024 + 1 * (y 1).val = (y 1).val; rw [e1]; omega
  · show win0_1.index t 0 * 1 + 1 * (y 0).val = t.val % 4; rw [e0]; omega
  · show win0_1.index t 2 * 2048 + 1 * (y 2).val = (y 2).val; rw [e2]; omega
theorem block2 (h : m ((c : Thread nD τ).loc main_arg2) = cube X) (t : Fin cfg0.N) : iblk m c 2 t = tile (t.val / 4) X := by
  obtain ⟨⟨e0, e1⟩, -⟩ := index_tile t
  funext y
  unfold iblk
  rw [View.read_apply]
  show V m c main_v4 _ = _
  rw [V_v4, h, cast_cube]
  refine tall_tile (R := 1024) X (t.val / 4) (y 0).val (y 1) _ ?_ ?_
  · show win0_2.index t 0 * 1024 + 1 * (y 0).val = _; rw [e0]
  · show win0_2.index t 1 * 1024 + 1 * (y 1).val = _; rw [e1]
theorem block3 (h : m ((c : Thread nD τ).loc main_arg3) = cube D) (t : Fin cfg0.N) : iblk m c 3 t = tile (t.val / 4) D := by
  obtain ⟨-, ⟨e0, e1⟩, -⟩ := index_tile t
  funext y
  unfold iblk
  rw [View.read_apply]
  show V m c main_v5 _ = _
  rw [V_v5, h, cast_cube]
  refine tall_tile (R := 1024) D (t.val / 4) (y 0).val (y 1) _ ?_ ?_
  · show win0_3.index t 0 * 1024 + 1 * (y 0).val = _; rw [e0]
  · show win0_3.index t 1 * 1024 + 1 * (y 1).val = _; rw [e1]
theorem block4 (h : m ((c : Thread nD τ).loc main_arg4) = heads M) (t : Fin cfg0.N) : iblk m c 4 t = head M (t.val / 4) := by
  obtain ⟨⟨e0, e1, e2⟩, -⟩ := index_rest t
  funext y
  have hy : (y 0).val < 1 := (y 0).isLt
  unfold iblk
  rw [View.read_apply]
  show V m c main_v6 _ = _
  rw [V_v6, h, cast_heads]
  refine congrArg ((↑) : ℝ → EReal) (congrArg₂ M ?_ (Fin.ext ?_))
  · show win0_4.index t 0 * 1 + 1 * (y 0).val = t.val / 4 / 2; rw [e0]; omega
  · show win0_4.index t 2 * 3072 + 1 * (y 2).val = (y 2).val; rw [e2]; omega
theorem block5 (h : m ((c : Thread nD τ).loc main_arg5) = strip ng) (t : Fin cfg0.N) : iblk m c 5 t = one ng := by
  obtain ⟨-, ⟨e0, e1⟩, -⟩ := index_rest t
  funext y
  unfold iblk
  rw [View.read_apply]
  show V m c main_v7 _ = _
  rw [V_v7, h, cast_strip]
  refine congrArg (one ng) (Shape.idx_ext₂ ?_ ?_)
  · show win0_5.index t 0 * 1 + 1 * (y 0).val = (y 0).val; rw [e0]; omega
  · show win0_5.index t 1 * 1024 + 1 * (y 1).val = (y 1).val; rw [e1]; omega

/-! ## The arrays after the run -/

/-- The point that writes back the block of an array's element. -/
theorem cover6 (i : S4096x1024.Idx) : ∃ t, (cfg0.win 6).flush t = true ∧ i ∈ ((cfg0.win 6).blk t).view.set := by
  have h0 : (i 0).val < 4096 := (i 0).isLt
  have h1 : (i 1).val < 1024 := (i 1).isLt
  have hN : cfg0.N = 16 := N_0
  obtain ⟨t, ht⟩ : ∃ t : Fin cfg0.N, t.val = 4 * ((i 0).val / 1024) + 3 := ⟨⟨4 * ((i 0).val / 1024) + 3, by omega⟩, rfl⟩
  refine ⟨t, (flush0_6 t).mpr (by omega), ?_⟩
  obtain ⟨-, -, ⟨e0, e1⟩⟩ := index_tile t
  show i ∈ ((View.whole main_v8_0).slice (win0_6.rect t)).set
  rw [View.set_slice_whole, Rect.mem_set_unit]
  intro a
  match a with
  | ⟨0, _⟩ => show win0_6.index _ 0 * 1024 ≤ (i 0 : Nat) ∧ (i 0 : Nat) < win0_6.index _ 0 * 1024 + 1024; rw [e0]; omega
  | ⟨1, _⟩ => show win0_6.index _ 1 * 1024 ≤ (i 1 : Nat) ∧ (i 1 : Nat) < win0_6.index _ 1 * 1024 + 1024; rw [e1]; omega
/-- The last point of a sequence. -/
theorem last_of (i : S2x1x1024.Idx) : ∃ t : Fin cfg0.N, t.val = 8 * (i 0).val + 7 := by
  have h0 : (i 0).val < 2 := (i 0).isLt
  have hN : cfg0.N = 16 := N_0
  exact ⟨⟨8 * (i 0).val + 7, by omega⟩, rfl⟩
theorem cover7 (i : S2x1x1024.Idx) : ∃ t, (cfg0.win 7).flush t = true ∧ i ∈ ((cfg0.win 7).blk t).view.set := by
  obtain ⟨t, ht⟩ := last_of i
  have h1 : (i 1).val < 1 := (i 1).isLt
  have h2 : (i 2).val < 1024 := (i 2).isLt
  refine ⟨t, (flush0_7 t).mpr (by omega), ?_⟩
  obtain ⟨⟨e0, e1, e2⟩, -⟩ := index_seq t
  show i ∈ ((View.whole main_v8_1).slice (win0_7.rect t)).set
  rw [View.set_slice_whole, Rect.mem_set_unit]
  intro a
  match a with
  | ⟨0, _⟩ => show win0_7.index _ 0 * 1 ≤ (i 0 : Nat) ∧ (i 0 : Nat) < win0_7.index _ 0 * 1 + 1; rw [e0]; omega
  | ⟨1, _⟩ => show win0_7.index _ 1 * 1 ≤ (i 1 : Nat) ∧ (i 1 : Nat) < win0_7.index _ 1 * 1 + 1; rw [e1]; omega
  | ⟨2, _⟩ => show win0_7.index _ 2 * 1024 ≤ (i 2 : Nat) ∧ (i 2 : Nat) < win0_7.index _ 2 * 1024 + 1024; rw [e2]; omega
theorem cover8 (i : S2x1x1024.Idx) : ∃ t, (cfg0.win 8).flush t = true ∧ i ∈ ((cfg0.win 8).blk t).view.set := by
  obtain ⟨t, ht⟩ := last_of i
  have h1 : (i 1).val < 1 := (i 1).isLt
  have h2 : (i 2).val < 1024 := (i 2).isLt
  refine ⟨t, (flush0_8 t).mpr (by omega), ?_⟩
  obtain ⟨-, ⟨e0, e1, e2⟩⟩ := index_seq t
  show i ∈ ((View.whole main_v8_2).slice (win0_8.rect t)).set
  rw [View.set_slice_whole, Rect.mem_set_unit]
  intro a
  match a with
  | ⟨0, _⟩ => show win0_8.index _ 0 * 1 ≤ (i 0 : Nat) ∧ (i 0 : Nat) < win0_8.index _ 0 * 1 + 1; rw [e0]; omega
  | ⟨1, _⟩ => show win0_8.index _ 1 * 1 ≤ (i 1 : Nat) ∧ (i 1 : Nat) < win0_8.index _ 1 * 1 + 1; rw [e1]; omega
  | ⟨2, _⟩ => show win0_8.index _ 2 * 1024 ≤ (i 2 : Nat) ∧ (i 2 : Nat) < win0_8.index _ 2 * 1024 + 1024; rw [e2]; omega
theorem cover9 (i : S1x1024.Idx) : ∃ t, (cfg0.win 9).flush t = true ∧ i ∈ ((cfg0.win 9).blk t).view.set := by
  have h0 : (i 0).val < 1 := (i 0).isLt
  have h1 : (i 1).val < 1024 := (i 1).isLt
  have hN : cfg0.N = 16 := N_0
  obtain ⟨t, ht⟩ : ∃ t : Fin cfg0.N, t.val = 15 := ⟨⟨15, by omega⟩, rfl⟩
  refine ⟨t, (flush0_9 t).mpr (by omega), ?_⟩
  obtain ⟨-, -, ⟨e0, e1⟩⟩ := index_rest t
  show i ∈ ((View.whole main_v8_3).slice (win0_9.rect t)).set
  rw [View.set_slice_whole, Rect.mem_set_unit]
  intro a
  match a with
  | ⟨0, _⟩ => show win0_9.index _ 0 * 1 ≤ (i 0 : Nat) ∧ (i 0 : Nat) < win0_9.index _ 0 * 1 + 1; rw [e0]; omega
  | ⟨1, _⟩ => show win0_9.index _ 1 * 1024 ≤ (i 1 : Nat) ∧ (i 1 : Nat) < win0_9.index _ 1 * 1024 + 1024; rw [e1]; omega

/-- Equal sequences and columns have equal sums. -/
theorem congr_seq (f : ℕ → Fin 1024 → ℝ) {b b' : ℕ} {k k' : Fin 1024} (h : b = b') (h' : k = k') : seqSum f b 2048 k = seqSum f b' 2048 k' := by
  rw [h, h']

section

variable (a0 : m ((c : Thread nD τ).loc main_arg0) = cube C) (a1 : m ((c : Thread nD τ).loc main_arg1) = lift2 W)
  (a2 : m ((c : Thread nD τ).loc main_arg2) = cube X) (a3 : m ((c : Thread nD τ).loc main_arg3) = cube D)
  (a4 : m ((c : Thread nD τ).loc main_arg4) = heads M) (a5 : m ((c : Thread nD τ).loc main_arg5) = strip ng)

include a0 a1 a2 a3 a4 a5

/-- The blocks are reals. -/
theorem blocks : Reals (add m c) (iblk m c 2) (iblk m c 3) (iblk m c 4) (iblk m c 5) (acc C W sec) X D M ng := by
  refine ⟨funext fun p => funext fun k => Finset.sum_range_zero _, fun t => ?_, block2 m c X a2, block3 m c D a3, block4 m c M a4, block5 m c ng a5⟩
  unfold add
  rw [block0 m c C a0 t, block1 m c W a1 t]
  exact pay2 C W _ _

/-- The sums after a sequence's last point. -/
theorem held (t : Fin cfg0.N) (h : t.val % 8 = 7) : sums (outsAt0 m c t.val t.isLt)
    = (slab (seqSum (dh C W) (t.val / 8) 2048), slab (seqSum (sc (dh C W) X ng) (t.val / 8) 2048), one (rowSum (gn (dh C W) X M) (1024 * (t.val / 4) + 1024))) := by
  refine (Cert.NormBwdIdeal.Outs.held (run m c) (blocks m c C W X D M ng a0 a1 a2 a3 a4 a5) t h).trans ?_
  rw [acc_full]

/-- The stream's gradient. -/
theorem final6 : (dats m 0 c).arrAt 6 cfg0.N = tall (dxi (dh C W) X D M ng) := by
  refine (dats m 0 c).arrAt_eq_of_cover 6 _ (fun t hf => ?_) cover6
  obtain ⟨-, -, ⟨e0, e1⟩⟩ := index_tile t
  show (cfg0.win 6).cut (grid0.coords t) ((dats m 0 c).after 6 t) = _
  rw [after0_6, (dxi_at (run m c) (blocks m c C W X D M ng a0 a1 a2 a3 a4 a5) t ((flush0_6 t).mp hf)).trans (by rw [acc_full])]
  funext y
  rw [View.read_apply]
  refine (tall_tile (R := 1024) (dxi (dh C W) X D M ng) (t.val / 4) (y 0).val (y 1) _ ?_ ?_).symm
  · show win0_6.index t 0 * 1024 + 1 * (y 0).val = _; rw [e0]
  · show win0_6.index t 1 * 1024 + 1 * (y 1).val = _; rw [e1]

/-- The shift's gradient. -/
theorem final7 : (dats m 0 c).arrAt 7 cfg0.N = lift3 fun (b : Fin 2) (_ : Fin 1) k => seqSum (dh C W) b.val 2048 k := by
  refine (dats m 0 c).arrAt_eq_of_cover 7 _ (fun t hf => ?_) cover7
  have ht := (flush0_7 t).mp hf
  obtain ⟨⟨e0, e1, e2⟩, -⟩ := index_seq t
  show (cfg0.win 7).cut (grid0.coords t) ((dats m 0 c).after 7 t) = _
  rw [after0_7, show (outsAt0 m c t.val t.isLt).2.1 = _ from congrArg (fun o => o.1) (held m c C W X D M ng a0 a1 a2 a3 a4 a5 t ht)]
  funext y
  have hy : (y 0).val < 1 := (y 0).isLt
  rw [View.read_apply]
  refine congrArg ((↑) : ℝ → EReal) (congr_seq (dh C W) ?_ (Fin.ext ?_))
  · show t.val / 8 = win0_7.index t 0 * 1 + 1 * (y 0).val; rw [e0]; omega
  · show (y 2).val = win0_7.index t 2 * 1024 + 1 * (y 2).val; rw [e2]; omega

/-- The scale's gradient. -/
theorem final8 : (dats m 0 c).arrAt 8 cfg0.N = lift3 fun (b : Fin 2) (_ : Fin 1) k => seqSum (sc (dh C W) X ng) b.val 2048 k := by
  refine (dats m 0 c).arrAt_eq_of_cover 8 _ (fun t hf => ?_) cover8
  have ht := (flush0_8 t).mp hf
  obtain ⟨-, ⟨e0, e1, e2⟩⟩ := index_seq t
  show (cfg0.win 8).cut (grid0.coords t) ((dats m 0 c).after 8 t) = _
  rw [after0_8, show (outsAt0 m c t.val t.isLt).2.2.1 = _ from congrArg (fun o => o.2.1) (held m c C W X D M ng a0 a1 a2 a3 a4 a5 t ht)]
  funext y
  have hy : (y 0).val < 1 := (y 0).isLt
  rw [View.read_apply]
  refine congrArg ((↑) : ℝ → EReal) (congr_seq (sc (dh C W) X ng) ?_ (Fin.ext ?_))
  · show t.val / 8 = win0_8.index t 0 * 1 + 1 * (y 0).val; rw [e0]; omega
  · show (y 2).val = win0_8.index t 2 * 1024 + 1 * (y 2).val; rw [e2]; omega

/-- The gain's gradient. -/
theorem final9 : (dats m 0 c).arrAt 9 cfg0.N = lift2 fun (_ : Fin 1) k => rowSum (gn (dh C W) X M) 4096 k := by
  refine (dats m 0 c).arrAt_eq_of_cover 9 _ (fun t hf => ?_) cover9
  have ht := (flush0_9 t).mp hf
  have hN : t.val < 16 := lt_of_lt_of_eq t.isLt N_0
  obtain ⟨-, -, ⟨e0, e1⟩⟩ := index_rest t
  show (cfg0.win 9).cut (grid0.coords t) ((dats m 0 c).after 9 t) = _
  rw [after0_9, show (outsAt0 m c t.val t.isLt).2.2.2.1 = one (rowSum (gn (dh C W) X M) (1024 * (t.val / 4) + 1024)) from
    congrArg (fun o => o.2.2) (held m c C W X D M ng a0 a1 a2 a3 a4 a5 t (by omega)),
    show 1024 * (t.val / 4) + 1024 = 4096 by omega]
  funext y
  rw [View.read_apply]
  refine congrArg (lift2 fun (_ : Fin 1) k => rowSum (gn (dh C W) X M) 4096 k) (Shape.idx_ext₂ ?_ ?_)
  · show (y 0).val = win0_9.index t 0 * 1 + 1 * (y 0).val; rw [e0]; omega
  · show (y 1).val = win0_9.index t 1 * 1024 + 1 * (y 1).val; rw [e1]; omega

end

end Cert.NormBwdIdeal.Arrays
-- ==== Proof.Norm.Ref.lean ====
/-
  The norm's reference gradient at real arguments, stage by stage.
-/
module

public import proofs.«01_k».proof.Proof.Gen.NormRefIdeal.Read
public import proofs.«01_k».proof.Proof.Norm.Spec

@[expose] public section

set_option maxRecDepth 16384

noncomputable section

namespace Cert.NormRefIdeal.Rows

open Cert.NormRefIdeal Cert.NormRefIdeal.Read Idealize.ShloMosaic Idealize.ShloMosaic.TcCoe Sgu Rms Norm

variable (C : ℕ → Fin 8192 → ℝ) (W : Fin 1024 → Fin 8192 → ℝ) (X : ℕ → Fin 1024 → ℝ) (D : ℕ → Fin 1024 → ℝ)
  (M : ℕ → Fin 3072 → ℝ) (ng : Fin 1024 → ℝ)

/-! ### Forward -/

theorem v10 : val_main_v10 (F := Ideal) (cube X) = cube fun p (_ : Fin 1) => ms (X p) + eps := by
  have e : val_main_v4 (F := Ideal) (cube X) = cube fun p j => X p j * X p j := by
    funext i
    simp only [val_main_v4_apply, cube_at]
    pointwise
  have s : val_main_v5 (F := Ideal) (cube X) = sheet fun p => ∑ j, X p j * X p j := by
    funext i; rw [val_main_v5_apply, e]; exact host_sum _
  have q : val_main_v6 (F := Ideal) (cube X) = cube fun p (_ : Fin 1) => ∑ j, X p j * X p j := by
    funext i; rw [val_main_v6_apply, s]; rfl
  funext i
  simp only [val_main_v10_apply, val_main_v9_apply, val_main_cst_1_apply, val_main_v8_apply, q, val_main_v7_apply, val_main_cst_0_apply, cube_at]
  pointwise
  rfl
theorem v11 : val_main_v11 (F := Ideal) (cube X) = cube fun p (_ : Fin 1) => inv (X p) := by
  funext i
  simp only [val_main_v11_apply, v10, cube_at]
  pointwise
  rw [rsqrt_real _ (ms_eps_pos _)]
  rfl
theorem v14 : val_main_v14 (F := Ideal) (cube X) = cube fun p (_ : Fin 1) => -(1 / 2) * (inv (X p) / (ms (X p) + eps)) := by
  funext i
  simp only [val_main_v14_apply, val_main_v13_apply, val_main_cst_2_apply, val_main_v12_apply, v11, v10, cube_at]
  pointwise
  rw [div_real _ _ (ms_eps_pos _).ne']
  pointwise
theorem v16 : val_main_v16 (F := Ideal) (cube X) = cube fun p => unit (X p) := by
  have e : val_main_v15 (F := Ideal) (cube X) = cube fun p (_ : Fin 1024) => inv (X p) := by
    funext i; rw [val_main_v15_apply, v11]; rfl
  funext i
  simp only [val_main_v16_apply, e, cube_at]
  pointwise
  rfl
theorem v19 : val_main_v19 (F := Ideal) (cube X) (strip ng) = cube fun p k => unit (X p) k * ng k := by
  have e : val_main_v18 (F := Ideal) (strip ng) = cube fun _ k => ng k := by
    funext i; rw [val_main_v18_apply, val_main_v17_apply]; rfl
  funext i
  simp only [val_main_v19_apply, e, v16, cube_at]
  pointwise
theorem v35 : val_main_v35 (F := Ideal) (heads M) = cube fun p k => 1 + M (p / 2048) (scaleCol k) := by
  funext i
  have e : heads M (idx_main_v2 (idx_main_v3 (idx_main_v35 i))) = ((M (pos (i 0) (i 1) / 2048) (scaleCol (i 2)) : ℝ) : EReal) :=
    congrArg ((↑) : ℝ → EReal) (congrArg₂ M (pos_div (i 0) (i 1)).symm rfl)
  simp only [val_main_v35_apply, val_main_v21_apply, val_main_v20_apply, val_main_cst_3_apply, val_main_v3_apply, val_main_v2_apply, cube_at]
  rw [e]
  pointwise

/-! ### Backward -/

theorem v29 : val_main_v29 (F := Ideal) (cube C) (lift2 W) = cube (dh C W) := by
  funext i
  rw [val_main_v29_apply]
  refine Eq.trans ?_ (coe_sum Finset.univ fun e => C (pos (i 0) (i 1)) e * W (i 2) e)
  exact Finset.sum_congr rfl fun e _ => mul_real _ _
/-- The host's sum from zero over a sequence's rows. -/
theorem host_sum_seq (f : ℕ → Fin 1024 → ℝ) (i : S2x1024.Idx) :
    (FloatOps.ofBits (F := Ideal) .f32 0x00000000#32 : EReal) + ∑ s, cube f (ix3 (n0 := 2) (n1 := 2048) (n2 := 1024) (i 0) s (i 1))
      = ((seqSum f (i 0).val 2048 (i 1) : ℝ) : EReal) := by
  refine (host_sum fun s : Fin 2048 => f (pos (i 0) s) (i 1)).trans (congrArg _ ?_)
  exact sum_seq (fun p => f p (i 1)) (i 0)
/-- One row a sequence, as a slab a sequence. -/
theorem slab (f : ℕ → Fin 1024 → ℝ) (i : S2x1x1024.Idx) (p : S2x1024.Idx) (e0 : (p 0).val = (((i 0).val * 1 + (i 1).val) * 1024 + (i 2).val) / 1024)
    (e1 : (p 1).val = (((i 0).val * 1 + (i 1).val) * 1024 + (i 2).val) % 1024) :
    heads f p = lift3 (fun (b : Fin 2) (_ : Fin 1) k => f b.val k) i := by
  have h1 : (i 1).val < 1 := (i 1).isLt
  have h2 : (i 2).val < 1024 := (i 2).isLt
  refine congrArg ((↑) : ℝ → EReal) (congrArg₂ f ?_ (Fin.ext ?_))
  · omega
  · omega
/-- The shift's gradient. -/
theorem v31 : val_main_v31 (F := Ideal) (cube C) (lift2 W) = lift3 fun (b : Fin 2) (_ : Fin 1) k => seqSum (dh C W) b.val 2048 k := by
  have e : val_main_v30 (F := Ideal) (cube C) (lift2 W) = heads fun b => seqSum (dh C W) b 2048 := by
    funext i; rw [val_main_v30_apply, v29]; exact host_sum_seq _ i
  funext i
  rw [val_main_v31_apply, e]
  exact slab _ _ _ rfl rfl
/-- The scale's gradient. -/
theorem v34 : val_main_v34 (F := Ideal) (cube C) (lift2 W) (cube X) (strip ng)
    = lift3 fun (b : Fin 2) (_ : Fin 1) k => seqSum (sc (dh C W) X ng) b.val 2048 k := by
  have q : val_main_v32 (F := Ideal) (cube C) (lift2 W) (cube X) (strip ng) = cube (sc (dh C W) X ng) := by
    funext i
    simp only [val_main_v32_apply, v19, v29, cube_at]
    pointwise
    exact congrArg _ (mul_comm _ _)
  have e : val_main_v33 (F := Ideal) (cube C) (lift2 W) (cube X) (strip ng) = heads fun b => seqSum (sc (dh C W) X ng) b 2048 := by
    funext i; rw [val_main_v33_apply, q]; exact host_sum_seq _ i
  funext i
  rw [val_main_v34_apply, e]
  exact slab _ _ _ rfl rfl
theorem v36 : val_main_v36 (F := Ideal) (cube C) (lift2 W) (heads M) = cube (drn (dh C W) M) := by
  funext i
  simp only [val_main_v36_apply, v29, v35, cube_at]
  pointwise
  rfl
/-- The gain's gradient. -/
theorem v59 : val_main_v59 (F := Ideal) (cube C) (lift2 W) (cube X) (heads M) = lift2 fun (_ : Fin 1) k => rowSum (gn (dh C W) X M) 4096 k := by
  have q : val_main_v37 (F := Ideal) (cube C) (lift2 W) (cube X) (heads M) = cube (gn (dh C W) X M) := by
    funext i
    simp only [val_main_v37_apply, v16, v36, cube_at]
    pointwise
    exact congrArg _ (mul_comm _ _)
  have e : val_main_v38 (F := Ideal) (cube C) (lift2 W) (cube X) (heads M) = strip (rowSum (gn (dh C W) X M) 4096) := by
    funext i
    unfold val_main_v38
    rw [q]
    exact host_sum_rows _ i _
  funext i
  rw [val_main_v59_apply]
  unfold val_main_v42
  refine (host_sum_once _ _ _).trans ?_
  rw [val_main_v39_apply, e]
  have h0 : (i 0).val < 1 := (i 0).isLt
  refine congrArg ((↑) : ℝ → EReal) (congrArg (rowSum (gn (dh C W) X M) 4096) (Fin.ext ?_))
  show (0 * 1 + 0) * 1024 + ((i 0).val * 1024 + (i 1).val) = (i 1).val
  omega
theorem v41 : val_main_v41 (F := Ideal) (cube C) (lift2 W) (heads M) (strip ng) = cube fun p k => drn (dh C W) M p k * ng k := by
  have e : val_main_v40 (F := Ideal) (strip ng) = cube fun _ k => ng k := by
    funext i; rw [val_main_v40_apply, val_main_v17_apply]; rfl
  funext i
  simp only [val_main_v41_apply, e, v36, cube_at]
  pointwise
theorem v45 : val_main_v45 (F := Ideal) (cube C) (lift2 W) (cube X) (heads M) (strip ng)
    = cube fun p (_ : Fin 1) => ∑ j, X p j * (drn (dh C W) M p j * ng j) := by
  have e : val_main_v43 (F := Ideal) (cube C) (lift2 W) (cube X) (heads M) (strip ng) = cube fun p j => X p j * (drn (dh C W) M p j * ng j) := by
    funext i
    simp only [val_main_v43_apply, v41, cube_at]
    pointwise
  have s : val_main_v44 (F := Ideal) (cube C) (lift2 W) (cube X) (heads M) (strip ng) = sheet fun p => ∑ j, X p j * (drn (dh C W) M p j * ng j) := by
    funext i; rw [val_main_v44_apply, e]; exact host_sum _
  funext i; rw [val_main_v45_apply, s]; exact cube_of_sheet _ _ _ rfl rfl
theorem v53 : val_main_v53 (F := Ideal) (cube C) (lift2 W) (cube X) (heads M) (strip ng)
    = cube fun p (_ : Fin 1024) => dms (X p) fun j => drn (dh C W) M p j * ng j := by
  have e : val_main_v51 (F := Ideal) (cube C) (lift2 W) (cube X) (heads M) (strip ng)
      = cube fun p (_ : Fin 1) => dms (X p) fun j => drn (dh C W) M p j * ng j := by
    funext i
    simp only [val_main_v51_apply, val_main_v50_apply, val_main_cst_9_apply, val_main_v49_apply, v45, v14, cube_at]
    pointwise
    rfl
  funext i
  rw [val_main_v53_apply, val_main_v52_apply, e]
  refine (host_sum (n := 1) fun _ => dms (X (pos (i 0) (i 1))) fun j => drn (dh C W) M (pos (i 0) (i 1)) j * ng j).trans ?_
  rw [Fin.sum_univ_one]
  rfl
theorem dxi_chain (H : ℕ → Fin 1024 → ℝ) (p : ℕ) (k : Fin 1024) : D p k + drn H M p k * ng k * inv (X p) + X p k * dms (X p) (fun j => drn H M p j * ng j)
    + dms (X p) (fun j => drn H M p j * ng j) * X p k = dxi H X D M ng p k := by
  unfold dxi
  rw [← back_chain]
  ring
theorem v57 : val_main_v57 (F := Ideal) (cube C) (lift2 W) (cube X) (cube D) (heads M) (strip ng) = cube (dxi (dh C W) X D M ng) := by
  have e : val_main_v46 (F := Ideal) (cube X) = cube fun p (_ : Fin 1024) => inv (X p) := by
    funext i; rw [val_main_v46_apply, v11]; rfl
  funext i
  simp only [val_main_v57_apply, val_main_v56_apply, val_main_v55_apply, val_main_v54_apply, val_main_v48_apply, val_main_v47_apply, v41, e, v53, cube_at]
  pointwise
  exact congrArg _ (dxi_chain X D M ng (dh C W) _ _)
/-- The stream's gradient. -/
theorem v58 : val_main_v58 (F := Ideal) (cube C) (lift2 W) (cube X) (cube D) (heads M) (strip ng) = tall (dxi (dh C W) X D M ng) := by
  funext i
  rw [val_main_v58_apply, v57]
  have h0 : (i 0).val < 4096 := (i 0).isLt
  have h1 : (i 1).val < 1024 := (i 1).isLt
  refine tall_of_cube _ _ _ ?_ ?_
  · show 2048 * (((i 0).val * 1024 + (i 1).val) / 2097152) + ((i 0).val * 1024 + (i 1).val) / 1024 % 2048 = (i 0).val
    omega
  · show ((i 0).val * 1024 + (i 1).val) % 1024 = (i 1).val
    omega

end Cert.NormRefIdeal.Rows
-- ==== Proof.Norm.Claims.lean ====
/-
  The claims about the norm's backward call, assembled: the reference's frame and the equality of the two
  programs where every argument is finite.
-/
module

public import proofs.«01_k».proof.Defs
public import proofs.«01_k».proof.Proof.Norm.Arrays
public import proofs.«01_k».proof.Proof.Norm.Ref
public import proofs.«01_k».proof.Proof.Rms.Finite
public import proofs.«01_k».proof.Proof.Gen.NormRefIdeal
public import proofs.«01_k».proof.Proof.Gen.NormRefIdeal.Run
public import proofs.«01_k».proof.Proof.Gen.NormBwdIdeal.Value
public import proofs.«01_k».proof.Proof.Gen.Pre_norm_finite
public import Idealize.ShloMosaic.Lib.Quiescent

@[expose] public section

set_option maxRecDepth 16384

noncomputable section

namespace Cert.Proof.Norm

open Idealize.ShloMosaic Idealize.SL.Sem Sgu Rms _root_.Norm Cert.NormRefIdeal.Rows

/-- The reference runs, keeps its arguments, and has no semaphore. -/
theorem frame_ref : quiescent_NormRefIdeal := fun m ρ _ =>
  (θ_run Cert.NormRefIdeal.defs _ _).mono
    (fun r h => ⟨fun c => (h c).2.2.2.2,
      Idealize.ShloMosaic.sem_eq_zero_of_no_sems (by decide) r.2⟩)
    (Cert.NormRefIdeal.Value.run (F := Ideal) m ρ)

instance : Cert.Pre_norm_finite.Facts := Cert.Pre_norm_finite.Gen.facts

/-- Finite arguments are reals. -/
theorem reals (m : (ℓ : Loc Cert.NormBwdIdeal.nD Cert.NormBwdIdeal.τ Cert.NormBwdIdeal.sig) → Buf (Elt Ideal) ℓ)
    (h : Pre_NormBwdIdeal_norm_finite m) (c : Dev Cert.NormBwdIdeal.nD) :
    ∃ (C : ℕ → Fin 8192 → ℝ) (W : Fin 1024 → Fin 8192 → ℝ) (X : ℕ → Fin 1024 → ℝ) (D : ℕ → Fin 1024 → ℝ) (M : ℕ → Fin 3072 → ℝ)
      (ng : Fin 1024 → ℝ),
      m ((c.tc : Thread Cert.NormBwdIdeal.nD Cert.NormBwdIdeal.τ).loc Cert.NormBwdIdeal.main_arg0) = cube C
      ∧ m ((c.tc : Thread Cert.NormBwdIdeal.nD Cert.NormBwdIdeal.τ).loc Cert.NormBwdIdeal.main_arg1) = lift2 W
      ∧ m ((c.tc : Thread Cert.NormBwdIdeal.nD Cert.NormBwdIdeal.τ).loc Cert.NormBwdIdeal.main_arg2) = cube X
      ∧ m ((c.tc : Thread Cert.NormBwdIdeal.nD Cert.NormBwdIdeal.τ).loc Cert.NormBwdIdeal.main_arg3) = cube D
      ∧ m ((c.tc : Thread Cert.NormBwdIdeal.nD Cert.NormBwdIdeal.τ).loc Cert.NormBwdIdeal.main_arg4) = heads M
      ∧ m ((c.tc : Thread Cert.NormBwdIdeal.nD Cert.NormBwdIdeal.τ).loc Cert.NormBwdIdeal.main_arg5) = strip ng := by
  obtain ⟨h0, h1, h2, h3, h4, h5⟩ := h c
  exact ⟨_, _, _, _, _, _, as_cube _ fun i => real_of_lt _ _ inf16 (congrFun h0 i), as_lift2 _ fun i => real_of_lt _ _ inf16 (congrFun h1 i),
    as_cube _ fun i => real_of_lt _ _ inf32 (congrFun h2 i), as_cube _ fun i => real_of_lt _ _ inf32 (congrFun h3 i),
    as_heads _ fun i => real_of_lt _ _ inf32 (congrFun h4 i), as_strip _ fun i => real_of_lt _ _ inf32 (congrFun h5 i)⟩

/-- From the same finite arguments the kernel's four results and the reference's are the same arrays over the extended reals. -/
theorem algebraic : algebraic_NormBwdIdeal_NormRefIdeal_pre_norm_finite := by
  intro m ρ m' ρ' hpre hagree
  choose C W X D M ng a0 a1 a2 a3 a4 a5 using reals m hpre
  refine ⟨fun c => tall (dxi (dh (C c) (W c)) (X c) (D c) (M c) (ng c)), fun c => lift3 fun (b : Fin 2) (_ : Fin 1) k => seqSum (dh (C c) (W c)) b.val 2048 k,
    fun c => lift3 fun (b : Fin 2) (_ : Fin 1) k => seqSum (sc (dh (C c) (W c)) (X c) (ng c)) b.val 2048 k,
    fun c => lift2 fun (_ : Fin 1) k => rowSum (gn (dh (C c) (W c)) (X c) (M c)) 4096 k, ?_, ?_⟩
  · refine (θ_run Cert.NormBwdIdeal.defs _ _).mono (fun r h c => ?_) (Cert.NormBwdIdeal.Value.run_blocks (F := Ideal) m ρ)
    obtain ⟨h6, h7, h8, h9, rest⟩ := h c
    exact ⟨h6.trans (NormBwdIdeal.Arrays.final6 m c _ _ _ _ _ _ (a0 c) (a1 c) (a2 c) (a3 c) (a4 c) (a5 c)),
      h7.trans (NormBwdIdeal.Arrays.final7 m c _ _ _ _ _ _ (a0 c) (a1 c) (a2 c) (a3 c) (a4 c) (a5 c)),
      h8.trans (NormBwdIdeal.Arrays.final8 m c _ _ _ _ _ _ (a0 c) (a1 c) (a2 c) (a3 c) (a4 c) (a5 c)),
      h9.trans (NormBwdIdeal.Arrays.final9 m c _ _ _ _ _ _ (a0 c) (a1 c) (a2 c) (a3 c) (a4 c) (a5 c)), rest⟩
  · refine (θ_run Cert.NormRefIdeal.defs _ _).mono (fun r h c => ?_) (Cert.NormRefIdeal.Value.run (F := Ideal) m' ρ')
    obtain ⟨h0, h1, h2, h3, rest⟩ := h c
    obtain ⟨e0, e1, e2, e3, e4, e5⟩ := hagree c
    refine ⟨h0.trans ((Cert.NormRefIdeal.Read.val_main_v58_eq _ _).trans ?_), h1.trans ((Cert.NormRefIdeal.Read.val_main_v31_eq _ _).trans ?_),
      h2.trans ((Cert.NormRefIdeal.Read.val_main_v34_eq _ _ _ _).trans ?_), h3.trans ((Cert.NormRefIdeal.Read.val_main_v59_eq _ _ _ _).trans ?_), rest⟩
    · refine Eq.trans ?_ (v58 (C c) (W c) (X c) (D c) (M c) (ng c))
      rw [← a0 c, ← a1 c, ← a2 c, ← a3 c, ← a4 c, ← a5 c, ← e0, ← e1, ← e2, ← e3, ← e4, ← e5]
    · refine Eq.trans ?_ (v31 (C c) (W c))
      rw [← a0 c, ← a1 c, ← e0, ← e1]
    · refine Eq.trans ?_ (v34 (C c) (W c) (X c) (ng c))
      rw [← a0 c, ← a1 c, ← a2 c, ← a5 c, ← e0, ← e1, ← e2, ← e5]
    · refine Eq.trans ?_ (v59 (C c) (W c) (X c) (M c))
      rw [← a0 c, ← a1 c, ← a2 c, ← a4 c, ← e0, ← e1, ← e2, ← e4]

end Cert.Proof.Norm

end
-- ==== Proof.NormA.Outs.lean ====
/-
  What one grid point of the norm's backward call for the first layer leaves in its four output blocks and in its accumulator: the
  pieces the frame's run found, read back as the body's own payloads of the input blocks.
-/
module

public import proofs.«01_k».proof.Proof.Gen.NormABwdIdeal.Value
public import proofs.«01_k».proof.Proof.Norm.Steps

@[expose] public section

set_option maxRecDepth 16384

noncomputable section

namespace Cert.NormABwdIdeal.Arrays

open Cert.NormABwdIdeal Cert.NormABwdIdeal.Gen Idealize.ShloMosaic Idealize.ShloMosaic.TcCoe Idealize.SL.Sem
open Cert.NormBwdIdeal.Outs (Run Left prev total sums)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-- The accumulator with a point's product added. -/
abbrev add (t : Fin cfg0.N) (v : Vec Ideal S1024x1024 .f32) : Vec Ideal S1024x1024 .f32 := k0_pay2 v (iblk m c 0 t) (iblk m c 1 t)
/-- The accumulator after a point that adds to it. -/
abbrev sumTo (t : Fin cfg0.N) : Vec Ideal S1024x1024 .f32 := total (outsAt0 m c) (add m c) t
/-- The stream's gradient from a full accumulator. -/
abbrev dxiB (t : Fin cfg0.N) : Vec Ideal S1024x1024 .f32 :=
  k0_pay13 (k0_pay5 (iblk m c 2 t)) (k0_pay12 (sumTo m c t) (iblk m c 2 t) (iblk m c 4 t) (iblk m c 5 t)) (iblk m c 3 t)
/-- The scale's part from a full accumulator. -/
abbrev dscB (t : Fin cfg0.N) : Vec Ideal S1x1024 .f32 := k0_pay9 (sumTo m c t) (iblk m c 2 t) (iblk m c 5 t)
/-- The gain's part from a full accumulator. -/
abbrev dngB (t : Fin cfg0.N) : Vec Ideal S1x1024 .f32 := k0_pay11 (sumTo m c t) (iblk m c 2 t) (iblk m c 4 t)

/-- A tile's first point. -/
theorem at_A (t : Fin cfg0.N) (h0 : t.val % 4 = 0) (h1 : ¬t.val % 4 = 3) :
    sums (outsAt0 m c t.val t.isLt) = sums (prev (outsAt0 m c) t) ∧ (outsAt0 m c t.val t.isLt).2.2.2.2 = add m c t (k0_pay1 (F := Ideal)) := by
  rw [outsAt0_A m c t h0 h1]
  refine ⟨rfl, ?_⟩
  dsimp only
  unfold sout0_A_0
  rw [View.read_writes_junk_eq_canon]
  unfold kernelRun0_A
  dsimp only
  sl_unfold_words
  rw [View.canon_cons_unit_zero (S := S1024x1024) hz2]
  simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
    View.ld_unit_zero (S := S1024x1536) hz2, View.ld_unit_zero (S := S1x1024x1536) hz3, View.ld_unit_zero (S := S1024x1024) hz2, View.ld_unit_zero (S := S1x1024) hz2, View.ld_unit_zero (S := S1x1x1024) hz3, View.ld_unit_zero (S := S1x1x3072) hz3]
/-- A tile's middle points. -/
theorem at_B (t : Fin cfg0.N) (h0 : ¬t.val % 4 = 0) (h1 : ¬t.val % 4 = 3) :
    sums (outsAt0 m c t.val t.isLt) = sums (prev (outsAt0 m c) t) ∧ (outsAt0 m c t.val t.isLt).2.2.2.2 = sumTo m c t := by
  rw [outsAt0_B m c t h0 h1]
  refine ⟨rfl, ?_⟩
  unfold sumTo total prev
  dsimp only
  generalize (outsAt0 m c (t.val - 1) (Nat.lt_of_le_of_lt (Nat.sub_le _ _) t.isLt)).2.2.2.2 = xoS
  unfold sout0_B_0
  rw [View.read_writes_junk_eq_canon]
  unfold kernelRun0_B
  dsimp only
  sl_unfold_words
  rw [View.canon_unit_zero hz2]
  simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
    View.ld_unit_zero (S := S1024x1536) hz2, View.ld_unit_zero (S := S1x1024x1536) hz3, View.ld_unit_zero (S := S1024x1024) hz2, View.ld_unit_zero (S := S1x1024) hz2, View.ld_unit_zero (S := S1x1x1024) hz3, View.ld_unit_zero (S := S1x1x3072) hz3]
/-- The first tile's last point. -/
theorem at_C (t : Fin cfg0.N) (h0 : ¬t.val % 4 = 0) (h1 : t.val % 4 = 3) (h2 : (t.val % 8 = 0 ∨ t.val % 8 = 1 ∨ t.val % 8 = 2 ∨ t.val % 8 = 3)) (h3 : ¬(t.val % 8 = 4 ∨ t.val % 8 = 5 ∨ t.val % 8 = 6 ∨ t.val % 8 = 7)) (h4 : t.val < 4) (h5 : ¬4 ≤ t.val) :
    outsAt0 m c t.val t.isLt = (dxiB m c t, k0_pay14 (k0_pay8 (sumTo m c t)), k0_pay15 (F := Ideal) (dscB m c t), dngB m c t, sumTo m c t) := by
  rw [outsAt0_C m c t h0 h1 h2 h3 h4 h5]
  unfold dxiB dscB dngB sumTo total prev
  generalize outsAt0 m c (t.val - 1) (Nat.lt_of_le_of_lt (Nat.sub_le _ _) t.isLt) = x
  obtain ⟨xo6, xo7, xo8, xo9, xoS⟩ := x
  dsimp only
  unfold out0_C_6 out0_C_7 out0_C_8 out0_C_9 sout0_C_0
  simp only [View.read_writes_junk_eq_canon]
  unfold kernelRun0_C
  dsimp only
  sl_unfold_words
  refine Prod.ext ?_ (Prod.ext ?_ (Prod.ext ?_ (Prod.ext ?_ ?_)))
  all_goals
    dsimp only
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
      View.ld_unit_zero (S := S1024x1536) hz2, View.ld_unit_zero (S := S1x1024x1536) hz3, View.ld_unit_zero (S := S1024x1024) hz2, View.ld_unit_zero (S := S1x1024) hz2, View.ld_unit_zero (S := S1x1x1024) hz3, View.ld_unit_zero (S := S1x1x3072) hz3]
/-- The last point of a sequence's second tile. -/
theorem at_D (t : Fin cfg0.N) (h0 : ¬t.val % 4 = 0) (h1 : t.val % 4 = 3) (h2 : ¬(t.val % 8 = 0 ∨ t.val % 8 = 1 ∨ t.val % 8 = 2 ∨ t.val % 8 = 3)) (h3 : (t.val % 8 = 4 ∨ t.val % 8 = 5 ∨ t.val % 8 = 6 ∨ t.val % 8 = 7)) (h4 : ¬t.val < 4) (h5 : 4 ≤ t.val) :
    outsAt0 m c t.val t.isLt = (dxiB m c t, k0_pay16 (k0_pay8 (sumTo m c t)) (prev (outsAt0 m c) t).2.1, k0_pay17 (dscB m c t) (prev (outsAt0 m c) t).2.2.1, k0_pay3 (dngB m c t) (prev (outsAt0 m c) t).2.2.2.1, sumTo m c t) := by
  rw [outsAt0_D m c t h0 h1 h2 h3 h4 h5]
  unfold dxiB dscB dngB sumTo total prev
  generalize outsAt0 m c (t.val - 1) (Nat.lt_of_le_of_lt (Nat.sub_le _ _) t.isLt) = x
  obtain ⟨xo6, xo7, xo8, xo9, xoS⟩ := x
  dsimp only
  unfold out0_D_6 out0_D_7 out0_D_8 out0_D_9 sout0_D_0
  simp only [View.read_writes_junk_eq_canon]
  unfold kernelRun0_D
  dsimp only
  sl_unfold_words
  refine Prod.ext ?_ (Prod.ext ?_ (Prod.ext ?_ (Prod.ext ?_ ?_)))
  all_goals
    dsimp only
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
      View.ld_unit_zero (S := S1024x1536) hz2, View.ld_unit_zero (S := S1x1024x1536) hz3, View.ld_unit_zero (S := S1024x1024) hz2, View.ld_unit_zero (S := S1x1024) hz2, View.ld_unit_zero (S := S1x1x1024) hz3, View.ld_unit_zero (S := S1x1x3072) hz3]
/-- The last point of the second sequence's first tile. -/
theorem at_E (t : Fin cfg0.N) (h0 : ¬t.val % 4 = 0) (h1 : t.val % 4 = 3) (h2 : (t.val % 8 = 0 ∨ t.val % 8 = 1 ∨ t.val % 8 = 2 ∨ t.val % 8 = 3)) (h3 : ¬(t.val % 8 = 4 ∨ t.val % 8 = 5 ∨ t.val % 8 = 6 ∨ t.val % 8 = 7)) (h4 : ¬t.val < 4) (h5 : 4 ≤ t.val) :
    outsAt0 m c t.val t.isLt = (dxiB m c t, k0_pay14 (k0_pay8 (sumTo m c t)), k0_pay15 (F := Ideal) (dscB m c t), k0_pay3 (dngB m c t) (prev (outsAt0 m c) t).2.2.2.1, sumTo m c t) := by
  rw [outsAt0_E m c t h0 h1 h2 h3 h4 h5]
  unfold dxiB dscB dngB sumTo total prev
  generalize outsAt0 m c (t.val - 1) (Nat.lt_of_le_of_lt (Nat.sub_le _ _) t.isLt) = x
  obtain ⟨xo6, xo7, xo8, xo9, xoS⟩ := x
  dsimp only
  unfold out0_E_6 out0_E_7 out0_E_8 out0_E_9 sout0_E_0
  simp only [View.read_writes_junk_eq_canon]
  unfold kernelRun0_E
  dsimp only
  sl_unfold_words
  refine Prod.ext ?_ (Prod.ext ?_ (Prod.ext ?_ (Prod.ext ?_ ?_)))
  all_goals
    dsimp only
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread, (hs0_3 t).read_unread, (hs0_4 t).read_unread, (hs0_5 t).read_unread, (hs0_7 t).read_unread, (hs0_8 t).read_unread, (hs0_9 t).read_unread, (Memref.isWhole_whole _).read_unread,
      View.ld_unit_zero (S := S1024x1536) hz2, View.ld_unit_zero (S := S1x1024x1536) hz3, View.ld_unit_zero (S := S1024x1024) hz2, View.ld_unit_zero (S := S1x1024) hz2, View.ld_unit_zero (S := S1x1x1024) hz3, View.ld_unit_zero (S := S1x1x3072) hz3]

/-- The points follow each other as `Norm/Steps.lean` says. -/
theorem run : Run (outsAt0 m c) (add m c) (iblk m c 2) (iblk m c 3) (iblk m c 4) (iblk m c 5) := by
  have hN : ∀ t : Fin cfg0.N, t.val < 16 := fun t => lt_of_lt_of_eq t.isLt N_0
  have last : ∀ t : Fin cfg0.N, t.val % 4 = 3 → (outsAt0 m c t.val t.isLt).1 = dxiB m c t ∧ (outsAt0 m c t.val t.isLt).2.2.2.2 = sumTo m c t
      ∧ (t.val % 8 = 3 → (outsAt0 m c t.val t.isLt).2.1 = k0_pay14 (k0_pay8 (sumTo m c t)) ∧ (outsAt0 m c t.val t.isLt).2.2.1 = k0_pay15 (F := Ideal) (dscB m c t))
      ∧ (t.val % 8 = 7 → (outsAt0 m c t.val t.isLt).2.1 = k0_pay16 (k0_pay8 (sumTo m c t)) (prev (outsAt0 m c) t).2.1
        ∧ (outsAt0 m c t.val t.isLt).2.2.1 = k0_pay17 (dscB m c t) (prev (outsAt0 m c) t).2.2.1)
      ∧ (outsAt0 m c t.val t.isLt).2.2.2.1 = if t.val < 4 then dngB m c t else k0_pay3 (dngB m c t) (prev (outsAt0 m c) t).2.2.2.1 := by
    intro t h
    have := hN t
    by_cases h2 : t.val < 4
    · rw [at_C m c t (by omega) h (by omega) (by omega) h2 (by omega), if_pos h2]
      exact ⟨rfl, rfl, fun _ => ⟨rfl, rfl⟩, fun h' => absurd h' (by omega), rfl⟩
    · rw [if_neg h2]
      by_cases h3 : t.val % 8 < 4
      · rw [at_E m c t (by omega) h (by omega) (by omega) h2 (by omega)]
        exact ⟨rfl, rfl, fun _ => ⟨rfl, rfl⟩, fun h' => absurd h' (by omega), rfl⟩
      · rw [at_D m c t (by omega) h (by omega) (by omega) h2 (by omega)]
        exact ⟨rfl, rfl, fun h' => absurd h' (by omega), fun _ => ⟨rfl, rfl⟩, rfl⟩
  refine ⟨N_0, fun t h => (at_A m c t h (by omega)).2, fun t h => ?_, fun t h => ?_, fun t h => (last t h).1,
    fun t h => (last t (by omega)).2.2.1 h, fun t h => (last t (by omega)).2.2.2.1 h, fun t h => (last t h).2.2.2.2⟩
  · by_cases h1 : t.val % 4 = 3
    · exact (last t h1).2.1
    · exact (at_B m c t h h1).2
  · by_cases h0 : t.val % 4 = 0
    · exact (at_A m c t h0 h).1
    · exact (at_B m c t h0 h).1

end Cert.NormABwdIdeal.Arrays
-- ==== Proof.NormA.Arrays.lean ====
/-
  The norm's backward call for the first layer over real arguments: what each of its four output arrays ends holding.
  The cotangent's sections are blocks of its columns here; all else is as for the second layer.
-/
module

public import proofs.«01_k».proof.Proof.NormA.Outs
public import proofs.«01_k».proof.Proof.Rms.Layout

@[expose] public section

set_option maxRecDepth 16384

noncomputable section

namespace Cert.NormABwdIdeal.Arrays

open Cert.NormABwdIdeal Cert.NormABwdIdeal.Gen Idealize.ShloMosaic Idealize.ShloMosaic.TcCoe Idealize.SL.Sem
open Idealize.ShloMosaic.Pipeline (Dat)
open Sgu Rms Norm Cert.NormBwdIdeal.Outs

/-! ## The product's sections -/

/-- Column `e` of section `s`. -/
def sec (s : ℕ) (e : Fin 1536) : Fin 6144 := ⟨(1536 * s + e.val) % 6144, Nat.mod_lt _ (by decide)⟩

section

variable (C : ℕ → Fin 6144 → ℝ) (W : Fin 1024 → Fin 6144 → ℝ) (n s : ℕ)

/-- The four sections' parts are the whole. -/
theorem acc_full : acc C W sec 4 = dh C W := acc_all C W sec 4 rfl (fun _ _ => rfl) (by decide)
/-- Section `s` of a tile's cotangent. -/
abbrev secC : (⟨2, ![1024, 1536]⟩ : Shape).Idx → EReal := lift2 fun (r : Fin 1024) e => C (1024 * n + r.val) (sec s e)
/-- Section `s` of the weights. -/
abbrev secW : (⟨3, ![1, 1024, 1536]⟩ : Shape).Idx → EReal := lift3 fun (_ : Fin 1) (k : Fin 1024) e => W k (sec s e)
/-- A point's product. -/
theorem pay2 : k0_pay2 (F := Ideal) (tile n (acc C W sec s)) (secC C n s) (secW W s) = tile n (acc C W sec (s + 1)) := by
  funext z
  obtain ⟨r, k, rfl⟩ : ∃ r k, z = ix2 (n0 := 1024) (n1 := 1024) r k := ⟨z 0, z 1, eq_ix2 z⟩
  unfold_payloads
  pointwise
  refine congrArg _ ?_
  unfold acc
  rw [Finset.sum_range_succ]
  rfl

end

/-! ## The host's layout of the weights by section -/

/-- The weights' sections. -/
theorem cast_w (W : Fin 1024 → Fin 6144 → ℝ) : transpose S4x1024x1536 [1, 0, 2]
      (shapeCast S1024x4x1536 (lift2 W) shapeCasts_S1024x6144_S1024x4x1536) transposes_S1024x4x1536_S4x1024x1536_1_0_2
    = lift3 fun (s : Fin 4) (k : Fin 1024) (e : Fin 1536) => W k (sec s.val e) := by
  funext z
  obtain ⟨s, k, e, rfl⟩ : ∃ s k e, z = ix3 (n0 := 4) (n1 := 1024) (n2 := 1536) s k e := ⟨z 0, z 1, z 2, eq_ix3 z⟩
  refine (transpose_apply _ _ _ _ (ix3 (n0 := 1024) (n1 := 4) (n2 := 1536) k s e)
    fun b => match b with | ⟨0, _⟩ => rfl | ⟨1, _⟩ => rfl | ⟨2, _⟩ => rfl).trans ?_
  have hs := s.isLt
  have he := e.isLt
  refine shapeCast_apply (lift2 W) _ _ (ix2 (n0 := 1024) (n1 := 6144) k (sec s.val e)) ?_
  rw [Shape.rowMajor_val_three, Shape.rowMajor_val_two]
  show k.val * 6144 + (1536 * s.val + e.val) % 6144 = (k.val * 4 + s.val) * 1536 + e.val
  omega

variable (m : (ℓ : Loc nD τ sig) → Buf (Elt Ideal) ℓ) (c : Dev nD)

/-- The block every window names at a point: point `t` works on row tile `t / 4`, section `t % 4` and sequence `t / 8`. -/
theorem index_sect : ∀ t : Fin grid0.N, (win0_0.index t 0 = t.val / 4 ∧ win0_0.index t 1 = t.val % 4)
    ∧ (win0_1.index t 0 = t.val % 4 ∧ win0_1.index t 1 = 0 ∧ win0_1.index t 2 = 0) := by decide +kernel
theorem index_tile : ∀ t : Fin grid0.N, (win0_2.index t 0 = t.val / 4 ∧ win0_2.index t 1 = 0)
    ∧ (win0_3.index t 0 = t.val / 4 ∧ win0_3.index t 1 = 0) ∧ (win0_6.index t 0 = t.val / 4 ∧ win0_6.index t 1 = 0) := by decide +kernel
theorem index_rest : ∀ t : Fin grid0.N, (win0_4.index t 0 = t.val / 8 ∧ win0_4.index t 1 = 0 ∧ win0_4.index t 2 = 0)
    ∧ (win0_5.index t 0 = 0 ∧ win0_5.index t 1 = 0) ∧ (win0_9.index t 0 = 0 ∧ win0_9.index t 1 = 0) := by decide +kernel
theorem index_seq : ∀ t : Fin grid0.N, (win0_7.index t 0 = t.val / 8 ∧ win0_7.index t 1 = 0 ∧ win0_7.index t 2 = 0)
    ∧ (win0_8.index t 0 = t.val / 8 ∧ win0_8.index t 1 = 0 ∧ win0_8.index t 2 = 0) := by decide +kernel

/-- The region finds the arguments as the host lays them out. -/
theorem V_v1 : V m c main_v1 = transpose S4x1024x1536 [1, 0, 2]
    (shapeCast S1024x4x1536 (m ((c : Thread nD τ).loc main_arg1)) shapeCasts_S1024x6144_S1024x4x1536) transposes_S1024x4x1536_S4x1024x1536_1_0_2 := by
  unfold V
  after_results
  rfl
theorem V_v2 : V m c main_v2 = shapeCast S4096x6144 (m ((c : Thread nD τ).loc main_arg0)) shapeCasts_S2x2048x6144_S4096x6144 := by
  unfold V
  after_results
  rfl
theorem V_v3 : V m c main_v3 = shapeCast S4096x1024 (m ((c : Thread nD τ).loc main_arg2)) shapeCasts_S2x2048x1024_S4096x1024 := by
  unfold V
  after_results
  rfl
theorem V_v4 : V m c main_v4 = shapeCast S4096x1024 (m ((c : Thread nD τ).loc main_arg3)) shapeCasts_S2x2048x1024_S4096x1024 := by
  unfold V
  after_results
  rfl
theorem V_v5 : V m c main_v5 = shapeCast S2x1x3072 (m ((c : Thread nD τ).loc main_arg4)) shapeCasts_S2x3072_S2x1x3072 := by
  unfold V
  after_results
  rfl
theorem V_v6 : V m c main_v6 = shapeCast S1x1024 (m ((c : Thread nD τ).loc main_arg5)) shapeCasts_S1024_S1x1024 := by
  unfold V
  after_results
  rfl

variable (C : ℕ → Fin 6144 → ℝ) (W : Fin 1024 → Fin 6144 → ℝ) (X : ℕ → Fin 1024 → ℝ) (D : ℕ → Fin 1024 → ℝ)
  (M : ℕ → Fin 3072 → ℝ) (ng : Fin 1024 → ℝ)

/-! ## The blocks the points read -/

theorem block0 (h : m ((c : Thread nD τ).loc main_arg0) = cube C) (t : Fin cfg0.N) : iblk m c 0 t = secC C (t.val / 4) (t.val % 4) := by
  obtain ⟨⟨e0, e1⟩, -⟩ := index_sect t
  funext y
  have hy : (y 1).val < 1536 := (y 1).isLt
  unfold iblk
  rw [View.read_apply]
  show V m c main_v2 _ = _
  rw [V_v2, h, cast_cube]
  refine congrArg ((↑) : ℝ → EReal) (congrArg₂ C ?_ (Fin.ext ?_))
  · show win0_0.index t 0 * 1024 + 1 * (y 0).val = 1024 * (t.val / 4) + (y 0).val; rw [e0]; omega
  · show win0_0.index t 1 * 1536 + 1 * (y 1).val = (1536 * (t.val % 4) + (y 1).val) % 6144; rw [e1]; omega
theorem block1 (h : m ((c : Thread nD τ).loc main_arg1) = lift2 W) (t : Fin cfg0.N) : iblk m c 1 t = secW W (t.val % 4) := by
  obtain ⟨-, ⟨e0, e1, e2⟩⟩ := index_sect t
  funext y
  have hy : (y 0).val < 1 := (y 0).isLt
  unfold iblk
  rw [View.read_apply]
  show V m c main_v1 _ = _
  rw [V_v1, h, cast_w]
  refine congrArg ((↑) : ℝ → EReal) (congrArg₂ W (Fin.ext ?_) (congrArg₂ sec ?_ (Fin.ext ?_)))
  · show win0_1.index t 1 * 1024 + 1 * (y 1).val = (y 1).val; rw [e1]; omega
  · show win0_1.index t 0 * 1 + 1 * (y 0).val = t.val % 4; rw [e0]; omega
  · show win0_1.index t 2 * 1536 + 1 * (y 2).val = (y 2).val; rw [e2]; omega
theorem block2 (h : m ((c : Thread nD τ).loc main_arg2) = cube X) (t : Fin cfg0.N) : iblk m c 2 t = tile (t.val / 4) X := by
  obtain ⟨⟨e0, e1⟩, -⟩ := index_tile t
  funext y
  unfold iblk
  rw [View.read_apply]
  show V m c main_v3 _ = _
  rw [V_v3, h, cast_cube]
  refine tall_tile (R := 1024) X (t.val / 4) (y 0).val (y 1) _ ?_ ?_
  · show win0_2.index t 0 * 1024 + 1 * (y 0).val = _; rw [e0]
  · show win0_2.index t 1 * 1024 + 1 * (y 1).val = _; rw [e1]
theorem block3 (h : m ((c : Thread nD τ).loc main_arg3) = cube D) (t : Fin cfg0.N) : iblk m c 3 t = tile (t.val / 4) D := by
  obtain ⟨-, ⟨e0, e1⟩, -⟩ := index_tile t
  funext y
  unfold iblk
  rw [View.read_apply]
  show V m c main_v4 _ = _
  rw [V_v4, h, cast_cube]
  refine tall_tile (R := 1024) D (t.val / 4) (y 0).val (y 1) _ ?_ ?_
  · show win0_3.index t 0 * 1024 + 1 * (y 0).val = _; rw [e0]
  · show win0_3.index t 1 * 1024 + 1 * (y 1).val = _; rw [e1]
theorem block4 (h : m ((c : Thread nD τ).loc main_arg4) = heads M) (t : Fin cfg0.N) : iblk m c 4 t = head M (t.val / 4) := by
  obtain ⟨⟨e0, e1, e2⟩, -⟩ := index_rest t
  funext y
  have hy : (y 0).val < 1 := (y 0).isLt
  unfold iblk
  rw [View.read_apply]
  show V m c main_v5 _ = _
  rw [V_v5, h, cast_heads]
  refine congrArg ((↑) : ℝ → EReal) (congrArg₂ M ?_ (Fin.ext ?_))
  · show win0_4.index t 0 * 1 + 1 * (y 0).val = t.val / 4 / 2; rw [e0]; omega
  · show win0_4.index t 2 * 3072 + 1 * (y 2).val = (y 2).val; rw [e2]; omega
theorem block5 (h : m ((c : Thread nD τ).loc main_arg5) = strip ng) (t : Fin cfg0.N) : iblk m c 5 t = one ng := by
  obtain ⟨-, ⟨e0, e1⟩, -⟩ := index_rest t
  funext y
  unfold iblk
  rw [View.read_apply]
  show V m c main_v6 _ = _
  rw [V_v6, h, cast_strip]
  refine congrArg (one ng) (Shape.idx_ext₂ ?_ ?_)
  · show win0_5.index t 0 * 1 + 1 * (y 0).val = (y 0).val; rw [e0]; omega
  · show win0_5.index t 1 * 1024 + 1 * (y 1).val = (y 1).val; rw [e1]; omega

/-! ## The arrays after the run -/

/-- The point that writes back the block of an array's element. -/
theorem cover6 (i : S4096x1024.Idx) : ∃ t, (cfg0.win 6).flush t = true ∧ i ∈ ((cfg0.win 6).blk t).view.set := by
  have h0 : (i 0).val < 4096 := (i 0).isLt
  have h1 : (i 1).val < 1024 := (i 1).isLt
  have hN : cfg0.N = 16 := N_0
  obtain ⟨t, ht⟩ : ∃ t : Fin cfg0.N, t.val = 4 * ((i 0).val / 1024) + 3 := ⟨⟨4 * ((i 0).val / 1024) + 3, by omega⟩, rfl⟩
  refine ⟨t, (flush0_6 t).mpr (by omega), ?_⟩
  obtain ⟨-, -, ⟨e0, e1⟩⟩ := index_tile t
  show i ∈ ((View.whole main_v7_0).slice (win0_6.rect t)).set
  rw [View.set_slice_whole, Rect.mem_set_unit]
  intro a
  match a with
  | ⟨0, _⟩ => show win0_6.index _ 0 * 1024 ≤ (i 0 : Nat) ∧ (i 0 : Nat) < win0_6.index _ 0 * 1024 + 1024; rw [e0]; omega
  | ⟨1, _⟩ => show win0_6.index _ 1 * 1024 ≤ (i 1 : Nat) ∧ (i 1 : Nat) < win0_6.index _ 1 * 1024 + 1024; rw [e1]; omega
/-- The last point of a sequence. -/
theorem last_of (i : S2x1x1024.Idx) : ∃ t : Fin cfg0.N, t.val = 8 * (i 0).val + 7 := by
  have h0 : (i 0).val < 2 := (i 0).isLt
  have hN : cfg0.N = 16 := N_0
  exact ⟨⟨8 * (i 0).val + 7, by omega⟩, rfl⟩
theorem cover7 (i : S2x1x1024.Idx) : ∃ t, (cfg0.win 7).flush t = true ∧ i ∈ ((cfg0.win 7).blk t).view.set := by
  obtain ⟨t, ht⟩ := last_of i
  have h1 : (i 1).val < 1 := (i 1).isLt
  have h2 : (i 2).val < 1024 := (i 2).isLt
  refine ⟨t, (flush0_7 t).mpr (by omega), ?_⟩
  obtain ⟨⟨e0, e1, e2⟩, -⟩ := index_seq t
  show i ∈ ((View.whole main_v7_1).slice (win0_7.rect t)).set
  rw [View.set_slice_whole, Rect.mem_set_unit]
  intro a
  match a with
  | ⟨0, _⟩ => show win0_7.index _ 0 * 1 ≤ (i 0 : Nat) ∧ (i 0 : Nat) < win0_7.index _ 0 * 1 + 1; rw [e0]; omega
  | ⟨1, _⟩ => show win0_7.index _ 1 * 1 ≤ (i 1 : Nat) ∧ (i 1 : Nat) < win0_7.index _ 1 * 1 + 1; rw [e1]; omega
  | ⟨2, _⟩ => show win0_7.index _ 2 * 1024 ≤ (i 2 : Nat) ∧ (i 2 : Nat) < win0_7.index _ 2 * 1024 + 1024; rw [e2]; omega
theorem cover8 (i : S2x1x1024.Idx) : ∃ t, (cfg0.win 8).flush t = true ∧ i ∈ ((cfg0.win 8).blk t).view.set := by
  obtain ⟨t, ht⟩ := last_of i
  have h1 : (i 1).val < 1 := (i 1).isLt
  have h2 : (i 2).val < 1024 := (i 2).isLt
  refine ⟨t, (flush0_8 t).mpr (by omega), ?_⟩
  obtain ⟨-, ⟨e0, e1, e2⟩⟩ := index_seq t
  show i ∈ ((View.whole main_v7_2).slice (win0_8.rect t)).set
  rw [View.set_slice_whole, Rect.mem_set_unit]
  intro a
  match a with
  | ⟨0, _⟩ => show win0_8.index _ 0 * 1 ≤ (i 0 : Nat) ∧ (i 0 : Nat) < win0_8.index _ 0 * 1 + 1; rw [e0]; omega
  | ⟨1, _⟩ => show win0_8.index _ 1 * 1 ≤ (i 1 : Nat) ∧ (i 1 : Nat) < win0_8.index _ 1 * 1 + 1; rw [e1]; omega
  | ⟨2, _⟩ => show win0_8.index _ 2 * 1024 ≤ (i 2 : Nat) ∧ (i 2 : Nat) < win0_8.index _ 2 * 1024 + 1024; rw [e2]; omega
theorem cover9 (i : S1x1024.Idx) : ∃ t, (cfg0.win 9).flush t = true ∧ i ∈ ((cfg0.win 9).blk t).view.set := by
  have h0 : (i 0).val < 1 := (i 0).isLt
  have h1 : (i 1).val < 1024 := (i 1).isLt
  have hN : cfg0.N = 16 := N_0
  obtain ⟨t, ht⟩ : ∃ t : Fin cfg0.N, t.val = 15 := ⟨⟨15, by omega⟩, rfl⟩
  refine ⟨t, (flush0_9 t).mpr (by omega), ?_⟩
  obtain ⟨-, -, ⟨e0, e1⟩⟩ := index_rest t
  show i ∈ ((View.whole main_v7_3).slice (win0_9.rect t)).set
  rw [View.set_slice_whole, Rect.mem_set_unit]
  intro a
  match a with
  | ⟨0, _⟩ => show win0_9.index _ 0 * 1 ≤ (i 0 : Nat) ∧ (i 0 : Nat) < win0_9.index _ 0 * 1 + 1; rw [e0]; omega
  | ⟨1, _⟩ => show win0_9.index _ 1 * 1024 ≤ (i 1 : Nat) ∧ (i 1 : Nat) < win0_9.index _ 1 * 1024 + 1024; rw [e1]; omega

/-- Equal sequences and columns have equal sums. -/
theorem congr_seq (f : ℕ → Fin 1024 → ℝ) {b b' : ℕ} {k k' : Fin 1024} (h : b = b') (h' : k = k') : seqSum f b 2048 k = seqSum f b' 2048 k' := by
  rw [h, h']

section

variable (a0 : m ((c : Thread nD τ).loc main_arg0) = cube C) (a1 : m ((c : Thread nD τ).loc main_arg1) = lift2 W)
  (a2 : m ((c : Thread nD τ).loc main_arg2) = cube X) (a3 : m ((c : Thread nD τ).loc main_arg3) = cube D)
  (a4 : m ((c : Thread nD τ).loc main_arg4) = heads M) (a5 : m ((c : Thread nD τ).loc main_arg5) = strip ng)

include a0 a1 a2 a3 a4 a5

/-- The blocks are reals. -/
theorem blocks : Reals (add m c) (iblk m c 2) (iblk m c 3) (iblk m c 4) (iblk m c 5) (acc C W sec) X D M ng := by
  refine ⟨funext fun p => funext fun k => Finset.sum_range_zero _, fun t => ?_, block2 m c X a2, block3 m c D a3, block4 m c M a4, block5 m c ng a5⟩
  unfold add
  rw [block0 m c C a0 t, block1 m c W a1 t]
  exact pay2 C W _ _

/-- The sums after a sequence's last point. -/
theorem held (t : Fin cfg0.N) (h : t.val % 8 = 7) : sums (outsAt0 m c t.val t.isLt)
    = (slab (seqSum (dh C W) (t.val / 8) 2048), slab (seqSum (sc (dh C W) X ng) (t.val / 8) 2048), one (rowSum (gn (dh C W) X M) (1024 * (t.val / 4) + 1024))) := by
  refine (Cert.NormBwdIdeal.Outs.held (run m c) (blocks m c C W X D M ng a0 a1 a2 a3 a4 a5) t h).trans ?_
  rw [acc_full]

/-- The stream's gradient. -/
theorem final6 : (dats m 0 c).arrAt 6 cfg0.N = tall (dxi (dh C W) X D M ng) := by
  refine (dats m 0 c).arrAt_eq_of_cover 6 _ (fun t hf => ?_) cover6
  obtain ⟨-, -, ⟨e0, e1⟩⟩ := index_tile t
  show (cfg0.win 6).cut (grid0.coords t) ((dats m 0 c).after 6 t) = _
  rw [after0_6, (dxi_at (run m c) (blocks m c C W X D M ng a0 a1 a2 a3 a4 a5) t ((flush0_6 t).mp hf)).trans (by rw [acc_full])]
  funext y
  rw [View.read_apply]
  refine (tall_tile (R := 1024) (dxi (dh C W) X D M ng) (t.val / 4) (y 0).val (y 1) _ ?_ ?_).symm
  · show win0_6.index t 0 * 1024 + 1 * (y 0).val = _; rw [e0]
  · show win0_6.index t 1 * 1024 + 1 * (y 1).val = _; rw [e1]

/-- The shift's gradient. -/
theorem final7 : (dats m 0 c).arrAt 7 cfg0.N = lift3 fun (b : Fin 2) (_ : Fin 1) k => seqSum (dh C W) b.val 2048 k := by
  refine (dats m 0 c).arrAt_eq_of_cover 7 _ (fun t hf => ?_) cover7
  have ht := (flush0_7 t).mp hf
  obtain ⟨⟨e0, e1, e2⟩, -⟩ := index_seq t
  show (cfg0.win 7).cut (grid0.coords t) ((dats m 0 c).after 7 t) = _
  rw [after0_7, show (outsAt0 m c t.val t.isLt).2.1 = _ from congrArg (fun o => o.1) (held m c C W X D M ng a0 a1 a2 a3 a4 a5 t ht)]
  funext y
  have hy : (y 0).val < 1 := (y 0).isLt
  rw [View.read_apply]
  refine congrArg ((↑) : ℝ → EReal) (congr_seq (dh C W) ?_ (Fin.ext ?_))
  · show t.val / 8 = win0_7.index t 0 * 1 + 1 * (y 0).val; rw [e0]; omega
  · show (y 2).val = win0_7.index t 2 * 1024 + 1 * (y 2).val; rw [e2]; omega

/-- The scale's gradient. -/
theorem final8 : (dats m 0 c).arrAt 8 cfg0.N = lift3 fun (b : Fin 2) (_ : Fin 1) k => seqSum (sc (dh C W) X ng) b.val 2048 k := by
  refine (dats m 0 c).arrAt_eq_of_cover 8 _ (fun t hf => ?_) cover8
  have ht := (flush0_8 t).mp hf
  obtain ⟨-, ⟨e0, e1, e2⟩⟩ := index_seq t
  show (cfg0.win 8).cut (grid0.coords t) ((dats m 0 c).after 8 t) = _
  rw [after0_8, show (outsAt0 m c t.val t.isLt).2.2.1 = _ from congrArg (fun o => o.2.1) (held m c C W X D M ng a0 a1 a2 a3 a4 a5 t ht)]
  funext y
  have hy : (y 0).val < 1 := (y 0).isLt
  rw [View.read_apply]
  refine congrArg ((↑) : ℝ → EReal) (congr_seq (sc (dh C W) X ng) ?_ (Fin.ext ?_))
  · show t.val / 8 = win0_8.index t 0 * 1 + 1 * (y 0).val; rw [e0]; omega
  · show (y 2).val = win0_8.index t 2 * 1024 + 1 * (y 2).val; rw [e2]; omega

/-- The gain's gradient. -/
theorem final9 : (dats m 0 c).arrAt 9 cfg0.N = lift2 fun (_ : Fin 1) k => rowSum (gn (dh C W) X M) 4096 k := by
  refine (dats m 0 c).arrAt_eq_of_cover 9 _ (fun t hf => ?_) cover9
  have ht := (flush0_9 t).mp hf
  have hN : t.val < 16 := lt_of_lt_of_eq t.isLt N_0
  obtain ⟨-, -, ⟨e0, e1⟩⟩ := index_rest t
  show (cfg0.win 9).cut (grid0.coords t) ((dats m 0 c).after 9 t) = _
  rw [after0_9, show (outsAt0 m c t.val t.isLt).2.2.2.1 = one (rowSum (gn (dh C W) X M) (1024 * (t.val / 4) + 1024)) from
    congrArg (fun o => o.2.2) (held m c C W X D M ng a0 a1 a2 a3 a4 a5 t (by omega)),
    show 1024 * (t.val / 4) + 1024 = 4096 by omega]
  funext y
  rw [View.read_apply]
  refine congrArg (lift2 fun (_ : Fin 1) k => rowSum (gn (dh C W) X M) 4096 k) (Shape.idx_ext₂ ?_ ?_)
  · show (y 0).val = win0_9.index t 0 * 1 + 1 * (y 0).val; rw [e0]; omega
  · show (y 1).val = win0_9.index t 1 * 1024 + 1 * (y 1).val; rw [e1]; omega

end

end Cert.NormABwdIdeal.Arrays
-- ==== Proof.NormA.Ref.lean ====
/-
  The norm's reference gradient for the first layer at real arguments. It is the second layer's but for the product's columns, so
  its results are the second layer's at the modulated row's gradient written as a product with a unit matrix.
-/
module

public import proofs.«01_k».proof.Proof.Gen.NormARefIdeal.Read
public import proofs.«01_k».proof.Proof.Norm.Ref

@[expose] public section

set_option maxRecDepth 16384

noncomputable section

namespace Cert.NormARefIdeal.Rows

open Cert.NormARefIdeal Cert.NormARefIdeal.Read Idealize.ShloMosaic Idealize.ShloMosaic.TcCoe Sgu Rms Norm

variable (C : ℕ → Fin 6144 → ℝ) (W : Fin 1024 → Fin 6144 → ℝ) (X : ℕ → Fin 1024 → ℝ) (D : ℕ → Fin 1024 → ℝ)
  (M : ℕ → Fin 3072 → ℝ) (ng : Fin 1024 → ℝ)

/-- Both references' modulated row's gradient. -/
theorem v29 : val_main_v29 (F := Ideal) (cube C) (lift2 W)
    = Cert.NormRefIdeal.Read.val_main_v29 (F := Ideal) (cube (wide (dh C W))) (lift2 pick) := by
  rw [Cert.NormRefIdeal.Rows.v29, dh_unit]
  funext i
  rw [val_main_v29_apply]
  refine Eq.trans ?_ (coe_sum Finset.univ fun e => C (pos (i 0) (i 1)) e * W (i 2) e)
  exact Finset.sum_congr rfl fun e _ => mul_real _ _
/-- The shift's gradient. -/
theorem v31 : val_main_v31 (F := Ideal) (cube C) (lift2 W) = lift3 fun (b : Fin 2) (_ : Fin 1) k => seqSum (dh C W) b.val 2048 k := by
  refine Eq.trans ?_ ((Cert.NormRefIdeal.Rows.v31 (wide (dh C W)) pick).trans (by rw [dh_unit]))
  unfold Cert.NormARefIdeal.Read.val_main_v31 Cert.NormRefIdeal.Read.val_main_v31 Cert.NormARefIdeal.Read.val_main_v30 Cert.NormRefIdeal.Read.val_main_v30
  rw [v29 C W]
  rfl
/-- The scale's gradient. -/
theorem v34 : val_main_v34 (F := Ideal) (cube C) (lift2 W) (cube X) (strip ng) = lift3 fun (b : Fin 2) (_ : Fin 1) k => seqSum (sc (dh C W) X ng) b.val 2048 k := by
  refine Eq.trans ?_ ((Cert.NormRefIdeal.Rows.v34 (wide (dh C W)) pick X ng).trans (by rw [dh_unit]))
  unfold Cert.NormARefIdeal.Read.val_main_v34 Cert.NormRefIdeal.Read.val_main_v34 Cert.NormARefIdeal.Read.val_main_v33 Cert.NormRefIdeal.Read.val_main_v33 Cert.NormARefIdeal.Read.val_main_v32 Cert.NormRefIdeal.Read.val_main_v32
  rw [v29 C W]
  rfl
/-- The gain's gradient. -/
theorem v59 : val_main_v59 (F := Ideal) (cube C) (lift2 W) (cube X) (heads M) = lift2 fun (_ : Fin 1) k => rowSum (gn (dh C W) X M) 4096 k := by
  refine Eq.trans ?_ ((Cert.NormRefIdeal.Rows.v59 (wide (dh C W)) pick X M).trans (by rw [dh_unit]))
  unfold Cert.NormARefIdeal.Read.val_main_v59 Cert.NormRefIdeal.Read.val_main_v59 Cert.NormARefIdeal.Read.val_main_v42 Cert.NormRefIdeal.Read.val_main_v42 Cert.NormARefIdeal.Read.val_main_v39 Cert.NormRefIdeal.Read.val_main_v39 Cert.NormARefIdeal.Read.val_main_v38 Cert.NormRefIdeal.Read.val_main_v38 Cert.NormARefIdeal.Read.val_main_v37 Cert.NormRefIdeal.Read.val_main_v37 Cert.NormARefIdeal.Read.val_main_v36 Cert.NormRefIdeal.Read.val_main_v36
  rw [v29 C W]
  rfl
/-- The stream's gradient. -/
theorem v58 : val_main_v58 (F := Ideal) (cube C) (lift2 W) (cube X) (cube D) (heads M) (strip ng) = tall (dxi (dh C W) X D M ng) := by
  refine Eq.trans ?_ ((Cert.NormRefIdeal.Rows.v58 (wide (dh C W)) pick X D M ng).trans (by rw [dh_unit]))
  unfold Cert.NormARefIdeal.Read.val_main_v58 Cert.NormRefIdeal.Read.val_main_v58 Cert.NormARefIdeal.Read.val_main_v57 Cert.NormRefIdeal.Read.val_main_v57 Cert.NormARefIdeal.Read.val_main_v56 Cert.NormRefIdeal.Read.val_main_v56 Cert.NormARefIdeal.Read.val_main_v55 Cert.NormRefIdeal.Read.val_main_v55 Cert.NormARefIdeal.Read.val_main_v54 Cert.NormRefIdeal.Read.val_main_v54 Cert.NormARefIdeal.Read.val_main_v53 Cert.NormRefIdeal.Read.val_main_v53 Cert.NormARefIdeal.Read.val_main_v52 Cert.NormRefIdeal.Read.val_main_v52 Cert.NormARefIdeal.Read.val_main_v51 Cert.NormRefIdeal.Read.val_main_v51 Cert.NormARefIdeal.Read.val_main_v50 Cert.NormRefIdeal.Read.val_main_v50 Cert.NormARefIdeal.Read.val_main_v49 Cert.NormRefIdeal.Read.val_main_v49 Cert.NormARefIdeal.Read.val_main_v48 Cert.NormRefIdeal.Read.val_main_v48 Cert.NormARefIdeal.Read.val_main_v47 Cert.NormRefIdeal.Read.val_main_v47 Cert.NormARefIdeal.Read.val_main_v45 Cert.NormRefIdeal.Read.val_main_v45 Cert.NormARefIdeal.Read.val_main_v44 Cert.NormRefIdeal.Read.val_main_v44 Cert.NormARefIdeal.Read.val_main_v43 Cert.NormRefIdeal.Read.val_main_v43 Cert.NormARefIdeal.Read.val_main_v41 Cert.NormRefIdeal.Read.val_main_v41 Cert.NormARefIdeal.Read.val_main_v36 Cert.NormRefIdeal.Read.val_main_v36
  rw [v29 C W]
  rfl

end Cert.NormARefIdeal.Rows
-- ==== Proof.NormA.Claims.lean ====
/-
  The claims about the norm's backward call for the first layer, assembled: the reference's frame and the equality of the two
  programs where every argument is finite.
-/
module

public import proofs.«01_k».proof.Defs
public import proofs.«01_k».proof.Proof.NormA.Arrays
public import proofs.«01_k».proof.Proof.NormA.Ref
public import proofs.«01_k».proof.Proof.Rms.Finite
public import proofs.«01_k».proof.Proof.Gen.NormARefIdeal
public import proofs.«01_k».proof.Proof.Gen.NormARefIdeal.Run
public import proofs.«01_k».proof.Proof.Gen.NormABwdIdeal.Value
public import proofs.«01_k».proof.Proof.Gen.Pre_first_norm_finite
public import Idealize.ShloMosaic.Lib.Quiescent

@[expose] public section

set_option maxRecDepth 16384

noncomputable section

namespace Cert.Proof.NormA

open Idealize.ShloMosaic Idealize.SL.Sem Sgu Rms _root_.Norm Cert.NormARefIdeal.Rows

/-- The reference runs, keeps its arguments, and has no semaphore. -/
theorem frame_ref : quiescent_NormARefIdeal := fun m ρ _ =>
  (θ_run Cert.NormARefIdeal.defs _ _).mono
    (fun r h => ⟨fun c => (h c).2.2.2.2,
      Idealize.ShloMosaic.sem_eq_zero_of_no_sems (by decide) r.2⟩)
    (Cert.NormARefIdeal.Value.run (F := Ideal) m ρ)

instance : Cert.Pre_first_norm_finite.Facts := Cert.Pre_first_norm_finite.Gen.facts

/-- Finite arguments are reals. -/
theorem reals (m : (ℓ : Loc Cert.NormABwdIdeal.nD Cert.NormABwdIdeal.τ Cert.NormABwdIdeal.sig) → Buf (Elt Ideal) ℓ)
    (h : Pre_NormABwdIdeal_first_norm_finite m) (c : Dev Cert.NormABwdIdeal.nD) :
    ∃ (C : ℕ → Fin 6144 → ℝ) (W : Fin 1024 → Fin 6144 → ℝ) (X : ℕ → Fin 1024 → ℝ) (D : ℕ → Fin 1024 → ℝ) (M : ℕ → Fin 3072 → ℝ)
      (ng : Fin 1024 → ℝ),
      m ((c.tc : Thread Cert.NormABwdIdeal.nD Cert.NormABwdIdeal.τ).loc Cert.NormABwdIdeal.main_arg0) = cube C
      ∧ m ((c.tc : Thread Cert.NormABwdIdeal.nD Cert.NormABwdIdeal.τ).loc Cert.NormABwdIdeal.main_arg1) = lift2 W
      ∧ m ((c.tc : Thread Cert.NormABwdIdeal.nD Cert.NormABwdIdeal.τ).loc Cert.NormABwdIdeal.main_arg2) = cube X
      ∧ m ((c.tc : Thread Cert.NormABwdIdeal.nD Cert.NormABwdIdeal.τ).loc Cert.NormABwdIdeal.main_arg3) = cube D
      ∧ m ((c.tc : Thread Cert.NormABwdIdeal.nD Cert.NormABwdIdeal.τ).loc Cert.NormABwdIdeal.main_arg4) = heads M
      ∧ m ((c.tc : Thread Cert.NormABwdIdeal.nD Cert.NormABwdIdeal.τ).loc Cert.NormABwdIdeal.main_arg5) = strip ng := by
  obtain ⟨h0, h1, h2, h3, h4, h5⟩ := h c
  exact ⟨_, _, _, _, _, _, as_cube _ fun i => real_of_lt _ _ inf16 (congrFun h0 i), as_lift2 _ fun i => real_of_lt _ _ inf16 (congrFun h1 i),
    as_cube _ fun i => real_of_lt _ _ inf32 (congrFun h2 i), as_cube _ fun i => real_of_lt _ _ inf32 (congrFun h3 i),
    as_heads _ fun i => real_of_lt _ _ inf32 (congrFun h4 i), as_strip _ fun i => real_of_lt _ _ inf32 (congrFun h5 i)⟩

/-- From the same finite arguments the kernel's four results and the reference's are the same arrays over the extended reals. -/
theorem algebraic : algebraic_NormABwdIdeal_NormARefIdeal_pre_first_norm_finite := by
  intro m ρ m' ρ' hpre hagree
  choose C W X D M ng a0 a1 a2 a3 a4 a5 using reals m hpre
  refine ⟨fun c => tall (dxi (dh (C c) (W c)) (X c) (D c) (M c) (ng c)), fun c => lift3 fun (b : Fin 2) (_ : Fin 1) k => seqSum (dh (C c) (W c)) b.val 2048 k,
    fun c => lift3 fun (b : Fin 2) (_ : Fin 1) k => seqSum (sc (dh (C c) (W c)) (X c) (ng c)) b.val 2048 k,
    fun c => lift2 fun (_ : Fin 1) k => rowSum (gn (dh (C c) (W c)) (X c) (M c)) 4096 k, ?_, ?_⟩
  · refine (θ_run Cert.NormABwdIdeal.defs _ _).mono (fun r h c => ?_) (Cert.NormABwdIdeal.Value.run_blocks (F := Ideal) m ρ)
    obtain ⟨h6, h7, h8, h9, rest⟩ := h c
    exact ⟨h6.trans (NormABwdIdeal.Arrays.final6 m c _ _ _ _ _ _ (a0 c) (a1 c) (a2 c) (a3 c) (a4 c) (a5 c)),
      h7.trans (NormABwdIdeal.Arrays.final7 m c _ _ _ _ _ _ (a0 c) (a1 c) (a2 c) (a3 c) (a4 c) (a5 c)),
      h8.trans (NormABwdIdeal.Arrays.final8 m c _ _ _ _ _ _ (a0 c) (a1 c) (a2 c) (a3 c) (a4 c) (a5 c)),
      h9.trans (NormABwdIdeal.Arrays.final9 m c _ _ _ _ _ _ (a0 c) (a1 c) (a2 c) (a3 c) (a4 c) (a5 c)), rest⟩
  · refine (θ_run Cert.NormARefIdeal.defs _ _).mono (fun r h c => ?_) (Cert.NormARefIdeal.Value.run (F := Ideal) m' ρ')
    obtain ⟨h0, h1, h2, h3, rest⟩ := h c
    obtain ⟨e0, e1, e2, e3, e4, e5⟩ := hagree c
    refine ⟨h0.trans ((Cert.NormARefIdeal.Read.val_main_v58_eq _ _).trans ?_), h1.trans ((Cert.NormARefIdeal.Read.val_main_v31_eq _ _).trans ?_),
      h2.trans ((Cert.NormARefIdeal.Read.val_main_v34_eq _ _ _ _).trans ?_), h3.trans ((Cert.NormARefIdeal.Read.val_main_v59_eq _ _ _ _).trans ?_), rest⟩
    · refine Eq.trans ?_ (v58 (C c) (W c) (X c) (D c) (M c) (ng c))
      rw [← a0 c, ← a1 c, ← a2 c, ← a3 c, ← a4 c, ← a5 c, ← e0, ← e1, ← e2, ← e3, ← e4, ← e5]
    · refine Eq.trans ?_ (v31 (C c) (W c))
      rw [← a0 c, ← a1 c, ← e0, ← e1]
    · refine Eq.trans ?_ (v34 (C c) (W c) (X c) (ng c))
      rw [← a0 c, ← a1 c, ← a2 c, ← a5 c, ← e0, ← e1, ← e2, ← e5]
    · refine Eq.trans ?_ (v59 (C c) (W c) (X c) (M c))
      rw [← a0 c, ← a1 c, ← a2 c, ← a4 c, ← e0, ← e1, ← e2, ← e4]

end Cert.Proof.NormA

end
-- ==== Proof.Mix.Stats.lean ====
/-
  One grid point of the spatial gating unit's forward call, over real input blocks: the row statistics and the
  gelu's values it keeps in scratch, for each of the point's four blocks of 128 rows.
-/
module

public import proofs.«01_k».proof.Proof.Gen.MixFwdIdeal.Value
public import proofs.«01_k».proof.Proof.Sgu.Spec

@[expose] public section

set_option maxRecDepth 16384

noncomputable section

namespace Cert.MixFwdIdeal.Outs

open Cert.MixFwdIdeal Cert.MixFwdIdeal.Gen Idealize.ShloMosaic Idealize.ShloMosaic.TcCoe Idealize.SL.Sem
open Sgu

variable (c : Dev nD) (arg1 : Memref sig .tc .vmem S4x128x6144 .f32) (harg1 : arg1.IsWhole)
  (arg8 : Memref sig .tc .vmem S128x2048 .f32) (X : Fin 4 → Fin 128 → Fin 6144 → ℝ)

set_option maxHeartbeats 4000000

@[pointwise] theorem named_c1 : Named.named (F := Ideal) Cert.MixFwdIdeal.κ "gelu_c1" (φ := .f32) 0x3D372713#32 = ((c1 : ℝ) : EReal) := by
  unfold c1; exact IdealRules.named_const.ideal_named_scalar _ _ _ _ rfl

/-- A load of 256 columns from column `o` on of block `b` of the projection. -/
theorem load_at {b o : Nat} (h1 : ∀ a, (![b, 0, 0] : Fin 3 → Nat) a + S1x128x6144.size a ≤ S4x128x6144.size a)
    (h2 : ∀ a, (![0, o] : Fin 2 → Nat) a + S128x256.size a ≤ S128x6144.size a) (h0) (hs) (h3) (hR) :
    LoadRect.valAlong (s₀ := (Rect.unit (s := S4x128x6144) ![b, 0, 0] S1x128x6144.size h1).toLoadRect.shape) (s' := S128x6144)
      (lr := (Rect.unit (s := S128x6144) ![0, o] S128x256.size h2).toLoadRect)
      (LR := (Rect.unit (s := S128x6144) ![0, o] S128x256.size h2).toLoadRect.consLift ![1, 128, 6144] h0 hs) hR
      (View.readAt (Elt Ideal) arg1.view
        ((Rect.unit (s := S4x128x6144) ![b, 0, 0] S1x128x6144.size h1).withinL
          ((Rect.unit (s := S128x6144) ![0, o] S128x256.size h2).toLoadRect.consLift ![1, 128, 6144] h0 hs) h3) (harg1.unread (lift3 X)))
      = lift2 (m := 128) (n := 256) fun r d => X ⟨b, Nat.lt_of_lt_of_le (Nat.lt_succ_self b) (h1 0)⟩ r
          ⟨o + d.val, Nat.lt_of_lt_of_le (Nat.add_lt_add_left d.isLt o) (h2 1)⟩ := by
  funext y
  obtain ⟨r, d, rfl⟩ : ∃ r d, y = ix2 (n0 := 128) (n1 := 256) r d := ⟨y 0, y 1, eq_ix2 y⟩
  show arg1.view.read (Elt Ideal) (harg1.unread (lift3 X)) _ = _
  rw [harg1.read_unread]
  refine (congrArg (lift3 X) (Rect.idx_withinL _ _ _ _)).trans ?_
  have e : Shape.reshapeEquiv hR (ix2 (n0 := 128) (n1 := 256) r d) = Fin.cons ⟨0, Nat.one_pos⟩ (ix2 (n0 := 128) (n1 := 256) r d) :=
    Shape.reshapeEquiv_cons_one (d := ![128, 256]) _ _
  refine (congrArg (fun z => lift3 X ((Rect.unit (s := S4x128x6144) ![b, 0, 0] S1x128x6144.size h1).emb
    (((Rect.unit (s := S128x6144) ![0, o] S128x256.size h2).toLoadRect.consLift ![1, 128, 6144] h0 hs).idx z))) e).trans ?_
  refine congrArg ((↑) : ℝ → EReal) (congr (congrArg₂ X (Fin.ext ?_) (Fin.ext ?_)) (Fin.ext ?_))
  · show b + 1 * (0 + 1 * 0) = b; omega
  · show 0 + 1 * (0 + 1 * r.val) = r.val; omega
  · show 0 + 1 * (o + 1 * d.val) = o + d.val; omega

/-- Stores under later ones that cover an index do not show there. -/
theorem canon_over {s : Shape} {e : EltTy} (y : s.Idx) (L' : List (View.Piece (Elt Ideal) s e)) :
    ∀ (L : List (View.Piece (Elt Ideal) s e)), (∃ p ∈ L, y ∈ p.1.set) → View.canon (L ++ L') y = View.canon L y
  | [], h => absurd h (by rintro ⟨_, hp, _⟩; exact List.not_mem_nil hp)
  | ⟨r, w⟩ :: L, h => by
    by_cases hy : y ∈ r.set
    · obtain ⟨x, rfl⟩ := r.exists_idx_of_mem hy
      exact (View.canon_cons_emb r w (L ++ L') x).trans (View.canon_cons_emb r w L x).symm
    · rw [List.cons_append, View.canon_cons_of_not_mem ⟨r, w⟩ _ hy, View.canon_cons_of_not_mem ⟨r, w⟩ _ hy]
      refine canon_over y L' L ?_
      obtain ⟨q, hq, hm⟩ := h
      rcases List.mem_cons.mp hq with rfl | hq'
      · exact absurd hm hy
      · exact ⟨q, hq', hm⟩

/-- Eight stores of 256 columns each that hold a block's gelu, over whatever was stored before. -/
theorem vg_pieces (Y : Fin 128 → Fin 6144 → ℝ) (L L' LA : List (View.Piece (Elt Ideal) S128x2048 .f32)) (hA : LA = L ++ L')
    (hc : ∀ y, ∃ p ∈ L, y ∈ p.1.set) (h : ∀ p ∈ L, ∀ z, p.2 z = lift2 (vg Y) (p.1.emb z)) : View.canon LA = lift2 (vg Y) := by
  subst hA
  funext y
  exact (canon_over y L' L (hc y)).trans (View.canon_apply_of_pieces _ _ h y (hc y))

/-- The scratch after a block's eight stores. -/
theorem vg_scratch :
    View.canon (kernelRun0_B.sl.HS1_8 c arg1 harg1 (F := Ideal) (lift3 X)) = lift2 (vg (X ⟨0, by decide⟩))
    ∧ View.canon (kernelRun0_B.sl.HS1_16 c arg1 harg1 (F := Ideal) (lift3 X)) = lift2 (vg (X ⟨1, by decide⟩))
    ∧ View.canon (kernelRun0_B.sl.HS1_24 c arg1 harg1 (F := Ideal) (lift3 X)) = lift2 (vg (X ⟨2, by decide⟩))
    ∧ View.canon (kernelRun0_B.sl.HS1_32 c arg1 harg1 (F := Ideal) (lift3 X)) = lift2 (vg (X ⟨3, by decide⟩)) := by
  refine ⟨vg_pieces _ [_, _, _, _, _, _, _, _] [] _ rfl ?_ ?_, vg_pieces _ [_, _, _, _, _, _, _, _] (kernelRun0_B.sl.HS1_8 c arg1 harg1 (lift3 X)) _ rfl ?_ ?_,
    vg_pieces _ [_, _, _, _, _, _, _, _] (kernelRun0_B.sl.HS1_16 c arg1 harg1 (lift3 X)) _ rfl ?_ ?_,
    vg_pieces _ [_, _, _, _, _, _, _, _] (kernelRun0_B.sl.HS1_24 c arg1 harg1 (lift3 X)) _ rfl ?_ ?_⟩
  all_goals first | exact View.cover_of_tiledL (Val := Elt Ideal) (s := S128x2048) _ S128x256.size (by sl_kernel_rfl) | skip
  all_goals
    sl_unfold_words
    simp only [load_at arg1 harg1 X]
    intro p hp z
    simp only [List.mem_cons, List.not_mem_nil, or_false] at hp
    rcases hp with rfl | rfl | rfl | rfl | rfl | rfl | rfl | rfl
  all_goals
    obtain ⟨r, d, rfl⟩ : ∃ r d, z = ix2 (n0 := 128) (n1 := 256) r d := ⟨z 0, z 1, eq_ix2 z⟩
    dsimp only
    refine Eq.trans ?_ (lift2_emb _ (by decide) r d).symm
    unfold_payloads
    pointwise
    refine congrArg _ ?_
    simp only [vg, gel, th, at1, ← Nat.add_assoc, Nat.reduceAdd]

/-- Each block's row means. -/
theorem mu_word :
    kernelRun0_B.sl.r_11 c arg1 harg1 (F := Ideal) (lift3 X) = lift2 (fun r (_ : Fin 1) => mu (X ⟨0, by decide⟩) r)
    ∧ kernelRun0_B.sl.r_37 c arg1 harg1 (F := Ideal) (lift3 X) = lift2 (fun r (_ : Fin 1) => mu (X ⟨1, by decide⟩) r)
    ∧ kernelRun0_B.sl.r_63 c arg1 harg1 (F := Ideal) (lift3 X) = lift2 (fun r (_ : Fin 1) => mu (X ⟨2, by decide⟩) r)
    ∧ kernelRun0_B.sl.r_98 c arg1 harg1 (F := Ideal) (lift3 X) = lift2 (fun r (_ : Fin 1) => mu (X ⟨3, by decide⟩) r) := by
  refine ⟨?_, ?_, ?_, ?_⟩
  all_goals
    sl_unfold_words
    simp only [load_at arg1 harg1 X]
    funext y
    obtain ⟨r, q, rfl⟩ : ∃ r q, y = ix2 (n0 := 128) (n1 := 1) r q := ⟨y 0, y 1, eq_ix2 y⟩
    unfold_payloads
    pointwise
    refine congrArg _ ?_
    unfold mu vg gel th
    rw [sum_cols, Fin.sum_univ_eight]
    simp only [at1, col, Fin.isValue, ← Nat.add_assoc, Nat.reduceMul, Nat.reduceAdd, Nat.reduceMod, Nat.add_zero, Nat.zero_add, Fin.coe_ofNat_eq_mod]

/-- The reciprocal deviation, from the variance summed group by group. -/
theorem rstd_real (Y : Fin 128 → Fin 6144 → ℝ) (r : Fin 128) (a : ℝ)
    (h : a = (∑ d, (vg Y r (col 0 d) - mu Y r) * (vg Y r (col 0 d) - mu Y r) + ∑ d, (vg Y r (col 1 d) - mu Y r) * (vg Y r (col 1 d) - mu Y r)
      + ∑ d, (vg Y r (col 2 d) - mu Y r) * (vg Y r (col 2 d) - mu Y r) + ∑ d, (vg Y r (col 3 d) - mu Y r) * (vg Y r (col 3 d) - mu Y r)
      + ∑ d, (vg Y r (col 4 d) - mu Y r) * (vg Y r (col 4 d) - mu Y r) + ∑ d, (vg Y r (col 5 d) - mu Y r) * (vg Y r (col 5 d) - mu Y r)
      + ∑ d, (vg Y r (col 6 d) - mu Y r) * (vg Y r (col 6 d) - mu Y r) + ∑ d, (vg Y r (col 7 d) - mu Y r) * (vg Y r (col 7 d) - mu Y r)) / 2048 + eps) :
    Ideal.rsqrt ((a : ℝ) : EReal) = ((rstd Y r : ℝ) : EReal) := by
  have e : a = var Y r + eps := by rw [h]; unfold var; rw [sum_cols, Fin.sum_univ_eight]
  rw [e]; exact rsqrt_real _ (var_eps_pos Y r)

/-- Each block's reciprocal deviations. -/
theorem rstd_word :
    kernelRun0_B.sl.v251 c arg1 harg1 arg8 (F := Ideal) (lift3 X) = lift2 (fun r (_ : Fin 1) => rstd (X ⟨0, by decide⟩) r)
    ∧ kernelRun0_B.sl.v948 c arg1 harg1 arg8 (F := Ideal) (lift3 X) = lift2 (fun r (_ : Fin 1) => rstd (X ⟨1, by decide⟩) r)
    ∧ kernelRun0_B.sl.r_66 c arg1 harg1 arg8 (F := Ideal) (lift3 X) = lift2 (fun r (_ : Fin 1) => rstd (X ⟨2, by decide⟩) r)
    ∧ kernelRun0_B.sl.r_100 c arg1 harg1 arg8 (F := Ideal) (lift3 X) = lift2 (fun r (_ : Fin 1) => rstd (X ⟨3, by decide⟩) r) := by
  obtain ⟨hm0, hm1, hm2, hm3⟩ := mu_word c arg1 harg1 X
  obtain ⟨hs0, hs1, hs2, hs3⟩ := vg_scratch c arg1 harg1 X
  refine ⟨?_, ?_, ?_, ?_⟩
  on_goal 1 => revert hm0 hs0; clear hm1 hm2 hm3 hs1 hs2 hs3
  on_goal 2 => revert hm1 hs1; clear hm0 hm2 hm3 hs0 hs2 hs3
  on_goal 3 => revert hm2 hs2; clear hm0 hm1 hm3 hs0 hs1 hs3
  on_goal 4 => revert hm3 hs3; clear hm0 hm1 hm2 hs0 hs1 hs2
  all_goals
    sl_unfold_words
    simp only [load_at arg1 harg1 X, View.readCov_eq_canon']
    unfold_payloads
    intro hm hs
    simp only [hm, hs]
    funext y
    obtain ⟨r, q, rfl⟩ : ∃ r q, y = ix2 (n0 := 128) (n1 := 1) r q := ⟨y 0, y 1, eq_ix2 y⟩
    pointwise
    refine rstd_real _ r _ ?_
    simp only [col, Fin.isValue, ← Nat.add_assoc, Nat.reduceMul, Nat.reduceAdd, Nat.reduceMod, Nat.add_zero, Nat.zero_add, Fin.coe_ofNat_eq_mod]

end Cert.MixFwdIdeal.Outs
-- ==== Proof.Mix.Spec.lean ====
/-
  The spatial gating unit's result on one block of 128 rows, over the real numbers.
-/
module

public import proofs.«01_k».proof.Proof.Sgu.Spec

@[expose] public section

set_option maxRecDepth 16384

noncomputable section

namespace Sgu

open Idealize.ShloMosaic

/-- One entry of the unit's result: `X` the block's rows of the projection, `lg`, `lb` the norm's gain and bias, `W` the masked
mixing weights, `bs` the mixing biases. -/
def unit (X : Fin 128 → Fin 6144 → ℝ) (lg lb : Fin 2048 → ℝ) (W : Fin 8 → Fin 128 → Fin 128 → ℝ) (bs : Fin 8 → Fin 128 → ℝ)
    (r : Fin 128) (j : Fin 2048) : ℝ := gel (X r (at0 j)) * mix X lg lb W bs r j * sil (X r (at2 j))

/-- An array of reals read where a block of `w` columns of slab `b` puts an index. -/
theorem lift3_cols {G R C b o w : Nat} (f : Fin G → Fin R → Fin C → ℝ)
    (h : ∀ a, (![b, 0, o] : Fin 3 → Nat) a + (![1, R, w] : Fin 3 → Nat) a ≤ (⟨3, ![G, R, C]⟩ : Shape).size a)
    (q : Fin 1) (r : Fin R) (d : Fin w) :
    lift3 f ((Rect.unit (s := ⟨3, ![G, R, C]⟩) ![b, 0, o] ![1, R, w] h).emb (ix3 q r d))
      = ((f ⟨b, Nat.lt_of_lt_of_le (Nat.lt_succ_self b) (h 0)⟩ r ⟨o + d.val, Nat.lt_of_lt_of_le (Nat.add_lt_add_left d.isLt o) (h 2)⟩ : ℝ) : EReal) := by
  refine congrArg ((↑) : ℝ → EReal) (congr (congrArg₂ f (Fin.ext ?_) (Fin.ext ?_)) (Fin.ext ?_))
  · show b + 1 * q.val = b; omega
  · show 0 + 1 * r.val = r.val; omega
  · show o + 1 * d.val = o + d.val; omega

end Sgu
-- ==== Proof.Mix.Block.lean ====
/-
  One grid point of the spatial gating unit's forward call whose weights' scratch is filled, over real input blocks: the
  block of the result it leaves.
-/
module

public import Idealize.ShloMosaic.Lib.Pipeline.ReadBack
public import proofs.«01_k».proof.Proof.Mix.Stats
public import proofs.«01_k».proof.Proof.Mix.Spec

@[expose] public section

set_option maxRecDepth 16384

noncomputable section

namespace Cert.MixFwdIdeal.Outs

open Cert.MixFwdIdeal Cert.MixFwdIdeal.Gen Idealize.ShloMosaic Idealize.ShloMosaic.TcCoe Idealize.SL.Sem
open Sgu

variable (c : Dev nD) (t : Fin cfg0.N)

set_option maxHeartbeats 8000000

/-- The result's stores of a point after the first, over any blocks. -/
def runB (i : grid0.Coords) (hc0 : ¬cond0_0 i) (x0 : Vec Ideal S4x128x6144 .f32) (x1 : Vec Ideal S1x2048 .f32)
    (x2 : Vec Ideal S1x2048 .f32) (x3 : Vec Ideal S8x128x128 .f32) (x4 : Vec Ideal S8x128x1 .f32) (xs0 : Vec Ideal S8x128x128 .bf16) :=
  (kernelRun0_B (F := Ideal) c i (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) hc0 x0 x1 x2 x3 x4 xs0).1

variable (i : grid0.Coords) (hc0 : ¬cond0_0 i) (x3 : Vec Ideal S8x128x128 .f32)
  (X : Fin 4 → Fin 128 → Fin 6144 → ℝ) (lg lb : Fin 2048 → ℝ) (W : Fin 8 → Fin 128 → Fin 128 → ℝ) (bs : Fin 8 → Fin 128 → ℝ)

/-- The result's block: four blocks of 128 rows. -/
theorem y_block :
    View.canon (runB c t i hc0 (lift3 X) (lift2 fun (_ : Fin 1) j => lg j) (lift2 fun (_ : Fin 1) j => lb j) x3
      (lift3 fun g r (_ : Fin 1) => bs g r) (lift3 W)) = lift3 (fun b r j => unit (X b) lg lb W bs r j) := by
  obtain ⟨hm0, hm1, hm2, hm3⟩ := mu_word c (ms0_0 t) (hs0_0 t) X
  obtain ⟨hr0, hr1, hr2, hr3⟩ := rstd_word c (ms0_0 t) (hs0_0 t) scM0_1 X
  obtain ⟨hs0, hs1, hs2, hs3⟩ := vg_scratch c (ms0_0 t) (hs0_0 t) X
  revert hm0 hm1 hm2 hm3 hr0 hr1 hr2 hr3 hs0 hs1 hs2 hs3
  unfold runB kernelRun0_B
  dsimp only
  sl_unfold_words
  simp only [load_at (ms0_0 t) (hs0_0 t) X, View.readAt_eq_ld, (hs0_1 t).read_unread, (hs0_2 t).read_unread, (hs0_3 t).read_unread,
    (hs0_4 t).read_unread, read_unread_whole, View.readCov_eq_canon']
  unfold_payloads
  intro hm0 hm1 hm2 hm3 hr0 hr1 hr2 hr3 hs0 hs1 hs2 hs3
  simp only [hr0, hr1, hr2, hr3]
  simp only [hm0, hm1, hm2, hm3, hs0, hs1, hs2, hs3]
  funext y
  refine View.canon_apply_of_pieces _ _ ?_ y (View.cover_of_tiledL (Val := Elt Ideal) (s := S4x128x2048) _ S1x128x256.size (by sl_kernel_rfl) y)
  intro p hp z
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    obtain ⟨q, r, d, rfl⟩ : ∃ q r d, z = ix3 (n0 := 1) (n1 := 128) (n2 := 256) q r d := ⟨z 0, z 1, z 2, eq_ix3 z⟩
    dsimp only
    refine Eq.trans ?_ (lift3_cols _ (by decide) q r d).symm
    pointwise
    refine congrArg _ ?_
    simp only [unit, mix, vln, vhat, vg, sil, Sgu.sig, gel, th, at0, at1, at2, grp0, grp1, grp2, grp3, grp4, grp5, grp6, grp7,
      Nat.reduceSub, Nat.zero_add, ← Nat.add_assoc, Nat.reduceAdd]

end Cert.MixFwdIdeal.Outs
-- ==== Proof.Mix.Point.lean ====
/-
  The first grid point of the spatial gating unit's forward call by a later one: it fills the mixing weights' scratch, which
  every later point reads. What each point leaves.
-/
module

public import proofs.«01_k».proof.Proof.Mix.Block

@[expose] public section

set_option maxRecDepth 16384

noncomputable section

namespace Cert.MixFwdIdeal.Outs

open Cert.MixFwdIdeal Cert.MixFwdIdeal.Gen Idealize.ShloMosaic Idealize.ShloMosaic.TcCoe Idealize.SL.Sem
open Sgu

variable (c : Dev nD) (t : Fin cfg0.N) (m : (ℓ : Loc nD τ sig) → Buf (Elt Ideal) ℓ) (Ws : Fin 8 → Fin 128 → Fin 128 → ℝ)

set_option maxHeartbeats 8000000

theorem col_word : ∀ k : Fin 128, kernelRun0_A.sl.v2816 (ix2 (n0 := 128) (n1 := 128) 0 k) = BitVec.ofNat 32 (k.val / 64) := by
  sl_unfold_words
  unfold_payloads
  decide +kernel

theorem row_word : ∀ r : Fin 128, kernelRun0_A.sl.v2840 (ix2 (n0 := 128) (n1 := 128) r 0) = BitVec.ofNat 32 (r.val / 64) := by
  sl_unfold_words
  unfold_payloads
  decide +kernel

/-- The mask's word: column `k` is in row `r`'s run of 64 positions or an earlier one. -/
theorem mask_word (r k : Fin 128) :
    cmpi .sle (kernelRun0_A.sl.v2816) (kernelRun0_A.sl.v2840) (ix2 (n0 := 128) (n1 := 128) r k) = if k.val / 64 ≤ r.val / 64 then 1#1 else 0#1 := by
  have small : ∀ a b : Fin 2, IntOp.cmpi .sle (BitVec.ofNat 32 a.val) (BitVec.ofNat 32 b.val) = if a.val ≤ b.val then 1#1 else 0#1 := by
    decide +kernel
  have h1 := col_word k
  have h2 := row_word r
  revert h1 h2
  sl_unfold_words
  unfold_payloads
  pointwise
  intro h1 h2
  rw [h1, h2]
  exact small ⟨k.val / 64, by omega⟩ ⟨r.val / 64, by omega⟩

/-- The scratch the first point fills: the masked mixing weights. -/
theorem weights_scratch :
    View.canon (kernelRun0_A.sl.HS0_8 c (ms0_3 t) (hs0_3 t) (F := Ideal) (lift3 Ws)) = lift3 (msk Ws) := by
  have hm := mask_word
  revert hm
  sl_unfold_words
  simp only [View.readAt_eq_ld, (hs0_3 t).read_unread]
  unfold_payloads
  intro hm
  funext y
  refine View.canon_apply_of_pieces _ _ ?_ y (View.cover_of_tiledL (Val := Elt Ideal) (s := S8x128x128) _ S1x128x128.size (by sl_kernel_rfl) y)
  intro p hp z
  simp only [List.mem_cons, List.not_mem_nil, or_false] at hp
  rcases hp with rfl | rfl | rfl | rfl | rfl | rfl | rfl | rfl
  all_goals
    obtain ⟨q, r, k, rfl⟩ : ∃ q r k, z = ix3 (n0 := 1) (n1 := 128) (n2 := 128) q r k := ⟨z 0, z 1, z 2, eq_ix3 z⟩
    dsimp only
    refine Eq.trans ?_ (lift3_emb _ (by decide) q r k).symm
    have h := hm r k
    revert h
    pointwise
    unfold msk
    intro h
    rw [h]
    split
    · exact congrArg ((↑) : ℝ → EReal) rfl
    · exact EReal.coe_zero.symm

variable (i : grid0.Coords) (hc0 : ¬cond0_0 i) (S : Vec Ideal S8x128x128 .bf16)

theorem readCov_ld {sp : Space} {s : Shape} {e : EltTy} (v : View sig .tc sp s e) (L : List (View.Piece (Elt Ideal) s e)) (r : Rect s) :
    v.readCov L r.toLoadRect = View.ld (View.canon L) r := View.readCov_eq_canon' v L r.toLoadRect

/-- The stores of point `t` over its own blocks. -/
def runAt := runB c t i hc0 (iblk m c 0 t) (iblk m c 1 t) (iblk m c 2 t) (iblk m c 3 t) (iblk m c 4 t) S

/-- The block the first point leaves is that of a later point whose scratch is already filled. -/
theorem outs_first (hS : View.canon (kernelRun0_A.sl.HS0_8 c (ms0_3 t) (hs0_3 t) (F := Ideal) (iblk m c 3 t)) = S) (h0 : t.val % 8 = 0) :
    outsAt0 m c t.val t.isLt = (View.canon (runAt c t m i hc0 S), S) := by
  rw [outsAt0_A m c t h0]
  unfold out0_A_5 sout0_A_0
  simp only [View.read_writes_junk_eq_canon]
  revert hS
  unfold runAt runB kernelRun0_A kernelRun0_B
  dsimp only
  refine fun hS => Prod.ext ?_ hS
  dsimp only
  revert hS
  sl_unfold_words
  simp only [View.readAt_eq_ld, readCov_ld, read_unread_whole, (hs0_3 t).read_unread]
  unfold_payloads
  intro hS
  simp only [hS]

/-- The block a later point leaves. -/
theorem outs_later (h0 : ¬t.val % 8 = 0) :
    outsAt0 m c t.val t.isLt =
      (View.canon (runAt c t m i hc0 (outsAt0 m c (t.val - 1) (Nat.lt_of_le_of_lt (Nat.sub_le _ _) t.isLt)).2),
        (outsAt0 m c (t.val - 1) (Nat.lt_of_le_of_lt (Nat.sub_le _ _) t.isLt)).2) := by
  rw [outsAt0_B m c t h0]
  unfold out0_B_5 sout0_B_0
  simp only [View.read_writes_junk_eq_canon]
  rfl

end Cert.MixFwdIdeal.Outs
-- ==== Proof.Mix.Arrays.lean ====
/-
  The spatial gating unit's forward call over real arguments: what each grid point leaves and what the result's array ends
  holding.
-/
module

public import Idealize.ShloMosaic.Lib.Pipeline.ReadBack
public import proofs.«01_k».proof.Proof.Gen.MixFwdIdeal.Value
public import proofs.«01_k».proof.Proof.Mix.Point
public import proofs.«01_k».proof.Proof.Sgu.RefRows

@[expose] public section

set_option maxRecDepth 16384

noncomputable section

namespace Cert.MixFwdIdeal.Arrays

open Cert.MixFwdIdeal Cert.MixFwdIdeal.Gen Idealize.ShloMosaic Idealize.ShloMosaic.TcCoe Idealize.SL.Sem
open Idealize.ShloMosaic.Pipeline (Dat)
open Sgu Cert.SguRefIdeal.Rows Cert.MixFwdIdeal.Outs

variable (m : (ℓ : Loc nD τ sig) → Buf (Elt Ideal) ℓ) (c : Dev nD)

/-- The block every window names at a point: point `t` works on the four blocks of rows from `4 t` on, of the projection and
of the result; every other array is one block. -/
theorem index_slabs : ∀ t : Fin grid0.N, (win0_0.index t 0 = t.val ∧ win0_0.index t 1 = 0 ∧ win0_0.index t 2 = 0)
    ∧ (win0_5.index t 0 = t.val ∧ win0_5.index t 1 = 0 ∧ win0_5.index t 2 = 0) := by decide +kernel
theorem index_one : ∀ t : Fin grid0.N, (win0_1.index t 0 = 0 ∧ win0_1.index t 1 = 0) ∧ (win0_2.index t 0 = 0 ∧ win0_2.index t 1 = 0)
    ∧ (win0_3.index t 0 = 0 ∧ win0_3.index t 1 = 0 ∧ win0_3.index t 2 = 0)
    ∧ (win0_4.index t 0 = 0 ∧ win0_4.index t 1 = 0 ∧ win0_4.index t 2 = 0) := by decide +kernel

/-- The region finds the projection as the host's two reshapes of the first argument, and so on. -/
theorem V_v4 : V m c main_v4 = shapeCast S32x128x6144 (shapeCast S4096x6144 (m ((c : Thread nD τ).loc main_arg0)) shapeCasts_S2x2048x6144_S4096x6144)
    shapeCasts_S4096x6144_S32x128x6144 := by
  unfold V
  after_results
  rfl
theorem V_v1 : V m c main_v1 = shapeCast S1x2048 (m ((c : Thread nD τ).loc main_arg1)) shapeCasts_S2048_S1x2048 := by
  unfold V
  after_results
  rfl
theorem V_v2 : V m c main_v2 = shapeCast S1x2048 (m ((c : Thread nD τ).loc main_arg2)) shapeCasts_S2048_S1x2048 := by
  unfold V
  after_results
  rfl
theorem V_v3 : V m c main_v3 = broadcastInDim S8x128x1 ![0, 1] bcast_S8x128_S8x128x1_0_1 (m ((c : Thread nD τ).loc main_arg4)) := by
  unfold V
  after_results

/-- The two sequences' rows, block by block. -/
theorem slab_rows {n : Nat} (f : ℕ → Fin 128 → Fin n → ℝ) (h : (⟨3, ![2, 2048, n]⟩ : Shape).ShapeCasts ⟨2, ![4096, n]⟩)
    (h' : (⟨2, ![4096, n]⟩ : Shape).ShapeCasts ⟨3, ![32, 128, n]⟩) :
    shapeCast ⟨3, ![32, 128, n]⟩ (shapeCast ⟨2, ![4096, n]⟩ (rows f) h) h' = lift3 fun (k : Fin 32) r j => f k.val r j := by
  funext p
  have h0 : (p 0).val < 32 := (p 0).isLt
  have h1 : (p 1).val < 128 := (p 1).isLt
  have e : ((p 0).val * 128 + (p 1).val) / 2048 * 2048 + ((p 0).val * 128 + (p 1).val) % 2048 = (p 0).val * 128 + (p 1).val := by omega
  refine (shapeCast_apply _ h' p (ix2 (n0 := 4096) (n1 := n) ⟨(p 0).val * 128 + (p 1).val, by omega⟩ (p 2)) ?_).trans
    ((shapeCast_apply (rows f) h _ (ix3 (n0 := 2) (n1 := 2048) (n2 := n) ⟨((p 0).val * 128 + (p 1).val) / 2048, by omega⟩
      ⟨((p 0).val * 128 + (p 1).val) % 2048, by omega⟩ (p 2)) ?_).trans ?_)
  · rw [Shape.rowMajor_val_three, Shape.rowMajor_val_two]
    rfl
  · rw [Shape.rowMajor_val_three, Shape.rowMajor_val_two]
    show (((p 0).val * 128 + (p 1).val) / 2048 * 2048 + ((p 0).val * 128 + (p 1).val) % 2048) * n + (p 2).val = ((p 0).val * 128 + (p 1).val) * n + (p 2).val
    rw [e]
  · rw [rows_at]
    refine congrArg ((↑) : ℝ → EReal) (congr (congrArg₂ f ?_ (Fin.ext ?_)) rfl)
    · show 16 * (((p 0).val * 128 + (p 1).val) / 2048) + ((p 0).val * 128 + (p 1).val) % 2048 / 128 = (p 0).val
      omega
    · show ((p 0).val * 128 + (p 1).val) % 2048 % 128 = (p 1).val
      omega

/-- A line as one row. -/
theorem one_row {n : Nat} (f : Fin n → ℝ) (h : (⟨1, ![n]⟩ : Shape).ShapeCasts ⟨2, ![1, n]⟩) :
    shapeCast ⟨2, ![1, n]⟩ (line f) h = lift2 fun (_ : Fin 1) j => f j := by
  funext p
  have hp : (p 0).val = 0 := Nat.lt_one_iff.mp (p 0).isLt
  refine shapeCast_apply (line f) h p (ix1 (n0 := n) (p 1)) ?_
  rw [Shape.rowMajor_val_two, Shape.rowMajor_val_one]
  show (p 1).val = (p 0).val * n + (p 1).val
  rw [hp, Nat.zero_mul, Nat.zero_add]

variable (X : ℕ → Fin 128 → Fin 6144 → ℝ) (lg lb : Fin 2048 → ℝ) (Ws : Fin 8 → Fin 128 → Fin 128 → ℝ) (bs : Fin 8 → Fin 128 → ℝ)

/-- Block `b` of the four from `4 t` on. -/
theorem slab_at {N n : Nat} (f : ℕ → Fin 128 → Fin n → ℝ) (t : ℕ) (b : Fin 4) (r : Fin 128) (j : Fin n) (p : (⟨3, ![N, 128, n]⟩ : Shape).Idx)
    (h0 : (p 0).val = t * 4 + 1 * b.val) (h1 : (p 1).val = 0 * 128 + 1 * r.val) (h2 : (p 2).val = 0 * n + 1 * j.val) :
    lift3 (fun (k : Fin N) r j => f k.val r j) p = ((f (4 * t + b.val) r j : ℝ) : EReal) := by
  refine congrArg ((↑) : ℝ → EReal) (congr (congrArg₂ f ?_ (Fin.ext ?_)) (Fin.ext ?_))
  · show (p 0).val = 4 * t + b.val; omega
  · show (p 1).val = r.val; omega
  · show (p 2).val = j.val; omega

theorem block0 (h : m ((c : Thread nD τ).loc main_arg0) = rows X) (t : Fin cfg0.N) : iblk m c 0 t = lift3 fun (b : Fin 4) => X (4 * t.val + b.val) := by
  obtain ⟨⟨e0, e1, e2⟩, -⟩ := index_slabs t
  funext y
  unfold iblk
  rw [View.read_apply]
  show V m c main_v4 _ = _
  rw [V_v4, h, slab_rows]
  refine slab_at X t.val (y 0) (y 1) (y 2) _ ?_ ?_ ?_
  · show win0_0.index t 0 * 4 + 1 * (y 0).val = _; rw [e0]
  · show win0_0.index t 1 * 128 + 1 * (y 1).val = _; rw [e1]
  · show win0_0.index t 2 * 6144 + 1 * (y 2).val = _; rw [e2]
theorem block1 (h : m ((c : Thread nD τ).loc main_arg1) = line lg) (t : Fin cfg0.N) : iblk m c 1 t = lift2 fun (_ : Fin 1) j => lg j := by
  obtain ⟨⟨e0, e1⟩, -⟩ := index_one t
  funext y
  unfold iblk
  rw [View.read_apply]
  show V m c main_v1 _ = _
  rw [V_v1, h, one_row]
  refine congrArg (lift2 fun (_ : Fin 1) j => lg j) (Shape.idx_ext₂ ?_ ?_)
  · show win0_1.index t 0 * 1 + 1 * (y 0).val = (y 0).val; rw [e0]; omega
  · show win0_1.index t 1 * 2048 + 1 * (y 1).val = (y 1).val; rw [e1]; omega
theorem block2 (h : m ((c : Thread nD τ).loc main_arg2) = line lb) (t : Fin cfg0.N) : iblk m c 2 t = lift2 fun (_ : Fin 1) j => lb j := by
  obtain ⟨-, ⟨e0, e1⟩, -⟩ := index_one t
  funext y
  unfold iblk
  rw [View.read_apply]
  show V m c main_v2 _ = _
  rw [V_v2, h, one_row]
  refine congrArg (lift2 fun (_ : Fin 1) j => lb j) (Shape.idx_ext₂ ?_ ?_)
  · show win0_2.index t 0 * 1 + 1 * (y 0).val = (y 0).val; rw [e0]; omega
  · show win0_2.index t 1 * 2048 + 1 * (y 1).val = (y 1).val; rw [e1]; omega
theorem block3 (h : m ((c : Thread nD τ).loc main_arg3) = lift3 Ws) (t : Fin cfg0.N) : iblk m c 3 t = lift3 Ws := by
  obtain ⟨-, -, ⟨e0, e1, e2⟩, -⟩ := index_one t
  funext y
  unfold iblk
  rw [View.read_apply]
  show V m c main_arg3 _ = _
  rw [V_main_arg3, h]
  refine congrArg (lift3 Ws) (funext fun a => Fin.ext ?_)
  match a with
  | ⟨0, _⟩ => show win0_3.index t 0 * 8 + 1 * (y 0).val = (y 0).val; rw [e0]; omega
  | ⟨1, _⟩ => show win0_3.index t 1 * 128 + 1 * (y 1).val = (y 1).val; rw [e1]; omega
  | ⟨2, _⟩ => show win0_3.index t 2 * 128 + 1 * (y 2).val = (y 2).val; rw [e2]; omega
theorem block4 (h : m ((c : Thread nD τ).loc main_arg4) = lift2 bs) (t : Fin cfg0.N) : iblk m c 4 t = lift3 fun g r (_ : Fin 1) => bs g r := by
  obtain ⟨-, -, -, ⟨e0, e1, e2⟩⟩ := index_one t
  funext y
  unfold iblk
  rw [View.read_apply]
  show V m c main_v3 _ = _
  rw [V_v3, h]
  rw [show broadcastInDim S8x128x1 ![0, 1] bcast_S8x128_S8x128x1_0_1 (lift2 bs) = lift3 fun g r (_ : Fin 1) => bs g r from rfl]
  refine congrArg (lift3 fun g r (_ : Fin 1) => bs g r) (funext fun a => Fin.ext ?_)
  match a with
  | ⟨0, _⟩ => show win0_4.index t 0 * 8 + 1 * (y 0).val = (y 0).val; rw [e0]; omega
  | ⟨1, _⟩ => show win0_4.index t 1 * 128 + 1 * (y 1).val = (y 1).val; rw [e1]; omega
  | ⟨2, _⟩ => show win0_4.index t 2 * 1 + 1 * (y 2).val = (y 2).val; rw [e2]; omega

/-- The result's four blocks a point writes. -/
def slabs (k : ℕ) : FVec Ideal S4x128x2048 .bf16 := lift3 fun (b : Fin 4) r j => unit (X (4 * k + b.val)) lg lb (msk Ws) bs r j

section

variable (a0 : m ((c : Thread nD τ).loc main_arg0) = rows X) (a1 : m ((c : Thread nD τ).loc main_arg1) = line lg)
  (a2 : m ((c : Thread nD τ).loc main_arg2) = line lb) (a3 : m ((c : Thread nD τ).loc main_arg3) = lift3 Ws)
  (a4 : m ((c : Thread nD τ).loc main_arg4) = lift2 bs)

include a0 a1 a2 a3 a4

/-- A point's stores over the masked weights are its four blocks of the result. -/
theorem written (t : Fin cfg0.N) (i : grid0.Coords) (hc0 : ¬cond0_0 i) : View.canon (runAt c t m i hc0 (lift3 (msk Ws))) = slabs X lg lb Ws bs t.val := by
  unfold runAt
  rw [block0 m c X a0, block1 m c lg a1, block2 m c lb a2, block4 m c bs a4]
  exact y_block ..

omit a0 a1 a2 a4 in
theorem first_of (t : Fin cfg0.N) (i : grid0.Coords) (hc0 : ¬cond0_0 i) (h0 : t.val % 8 = 0) :
    outsAt0 m c t.val t.isLt = (View.canon (runAt c t m i hc0 (lift3 (msk Ws))), lift3 (msk Ws)) :=
  outs_first c t m i hc0 _ (by rw [block3 m c Ws a3]; exact weights_scratch c t Ws) h0

omit a0 a1 a2 a3 a4 in
theorem later_of (t : Fin cfg0.N) (i : grid0.Coords) (hc0 : ¬cond0_0 i) (h0 : ¬t.val % 8 = 0) (S : FVec Ideal S8x128x128 .bf16)
    (o : FVec Ideal S4x128x2048 .bf16) (e : outsAt0 m c (t.val - 1) (Nat.lt_of_le_of_lt (Nat.sub_le _ _) t.isLt) = (o, S)) :
    outsAt0 m c t.val t.isLt = (View.canon (runAt c t m i hc0 S), S) := by
  rw [outs_later c t m i hc0 h0, e]

/-- What the points leave, one after another: their blocks of the result and the masked mixing weights. -/
theorem outs_at (i : grid0.Coords) (hc0 : ¬cond0_0 i) : ∀ (k : ℕ) (t : Fin cfg0.N), t.val = k →
    outsAt0 m c t.val t.isLt = (slabs X lg lb Ws bs t.val, lift3 (msk Ws)) := by
  intro k
  induction k with
  | zero =>
    intro t ht
    rw [first_of m c Ws a3 t i hc0 (by rw [ht]), written m c X lg lb Ws bs a0 a1 a2 a3 a4 t i hc0]
  | succ k ih =>
    intro t ht
    have hlt : t.val < 8 := Nat.lt_of_lt_of_eq t.isLt N_0
    have e := ih ⟨t.val - 1, Nat.lt_of_le_of_lt (Nat.sub_le _ _) t.isLt⟩ (by show t.val - 1 = k; omega)
    rw [later_of m c t i hc0 (by omega) _ _ e, written m c X lg lb Ws bs a0 a1 a2 a3 a4 t i hc0]

/-- What any point leaves. -/
theorem left (t : Fin cfg0.N) : outsAt0 m c t.val t.isLt = (slabs X lg lb Ws bs t.val, lift3 (msk Ws)) := by
  have l1 : 1 < cfg0.N := Nat.lt_of_lt_of_eq (by decide) N_0.symm
  exact outs_at m c X lg lb Ws bs a0 a1 a2 a3 a4 (grid0.coords ⟨1, l1⟩)
    (fun h => absurd ((hcond0_0 ⟨1, l1⟩).mp h) (by show ¬1 % 8 = 0; decide)) t.val t rfl

/-- The result. -/
theorem final5 : (dats m 0 c).arrAt 5 cfg0.N = lift3 fun (n : Fin 32) r j => unit (X n.val) lg lb (msk Ws) bs r j := by
  refine (dats m 0 c).arrAt_eq_of_cover 5 _ (fun t _ => ?_) (fun i => (Value.covered_iff5 i).2 (by
    have h0 : (i 0).val < 32 := (i 0).isLt; have h1 : (i 1).val < 128 := (i 1).isLt; have h2 : (i 2).val < 2048 := (i 2).isLt; omega))
  obtain ⟨-, ⟨e0, e1, e2⟩⟩ := index_slabs t
  show (cfg0.win 5).cut (grid0.coords t) ((dats m 0 c).after 5 t) = _
  rw [after0_5, left m c X lg lb Ws bs a0 a1 a2 a3 a4 t]
  funext y
  rw [View.read_apply]
  refine (slab_at (fun n r j => unit (X n) lg lb (msk Ws) bs r j) t.val (y 0) (y 1) (y 2) _ ?_ ?_ ?_).symm
  · show win0_5.index t 0 * 4 + 1 * (y 0).val = _; rw [e0]
  · show win0_5.index t 1 * 128 + 1 * (y 1).val = _; rw [e1]
  · show win0_5.index t 2 * 2048 + 1 * (y 2).val = _; rw [e2]

end

end Cert.MixFwdIdeal.Arrays
-- ==== Proof.Mix.Ref.lean ====
/-
  The spatial gating unit's forward reference at real arguments, stage by stage, and its result.
-/
module

public import proofs.«01_k».proof.Proof.Gen.MixRefIdeal.Read
public import proofs.«01_k».proof.Proof.Sgu.RefMix
public import proofs.«01_k».proof.Proof.Mix.Spec

@[expose] public section

set_option maxRecDepth 16384

noncomputable section

namespace Cert.MixRefIdeal.Stages

open Cert.MixRefIdeal Cert.MixRefIdeal.Read Idealize.ShloMosaic Idealize.ShloMosaic.TcCoe Sgu
open Cert.SguRefIdeal.Rows (bk rr at01 rows rows2 rows_at sum_real sig_exp line five five_at turned five_of_rows rows_of_five sum_mul run_le)

variable (X : ℕ → Fin 128 → Fin 6144 → ℝ) (lg lb : Fin 2048 → ℝ) (Ws : Fin 8 → Fin 128 → Fin 128 → ℝ) (bs : Fin 8 → Fin 128 → ℝ)

/-- The gelu of the first two thirds. -/
theorem gelu_stage : val_main_v16 (F := Ideal) (rows X) = rows fun n r (j : Fin 4096) => gel (X n r (at01 j)) := by
  have h0 : val_main_v0 (F := Ideal) (rows X) = rows fun n r (j : Fin 4096) => X n r (at01 j) := by
    funext i; rw [val_main_v0_apply]; rfl
  funext i
  simp only [val_main_v16_apply, val_main_v15_apply, val_main_v14_apply, val_main_cst_3_apply, val_main_v13_apply, val_main_v12_apply, val_main_cst_2_apply, val_main_v11_apply, val_main_v10_apply, val_main_v9_apply, val_main_cst_1_apply, val_main_v8_apply, val_main_v7_apply, val_main_v6_apply, val_main_cst_0_apply, val_main_v5_apply, val_main_v4_apply, val_main_cst_apply, val_main_v3_apply, val_main_v2_apply, h0, rows_at]
  pointwise
  refine congrArg _ ?_
  have e : ∀ x : ℝ, c0 * (x + 44715 * (x * x * x) / 1000000) = c0 * (x + c1 * x * x * x) := fun x => by unfold c1; ring
  unfold gel th
  first
    | (rw [e]; ring)
    | (simp only [e]; ring)

theorem first_third : val_main_v17 (F := Ideal) (rows X) = rows fun n r (j : Fin 2048) => gel (X n r (at0 j)) := by
  funext i; rw [val_main_v17_apply, gelu_stage]; rfl
theorem second_third : val_main_v18 (F := Ideal) (rows X) = rows fun n r (j : Fin 2048) => vg (X n) r j := by
  funext i; rw [val_main_v18_apply, gelu_stage]; rfl
theorem mean_stage : val_main_v22 (F := Ideal) (rows X) = rows fun n r (_ : Fin 1) => mu (X n) r := by
  have h : val_main_v19 (F := Ideal) (rows X) = rows2 fun n r => ∑ j, vg (X n) r j := by
    funext i; rw [val_main_v19_apply, second_third]; exact sum_real _
  have h' : val_main_v20 (F := Ideal) (rows X) = rows fun n r (_ : Fin 1) => ∑ j, vg (X n) r j := by
    funext i; rw [val_main_v20_apply, h]; rfl
  funext i
  simp only [val_main_v22_apply, h', val_main_v21_apply, val_main_cst_5_apply, rows_at]
  pointwise
  rfl
theorem centred : val_main_v24 (F := Ideal) (rows X) = rows fun n r j => vg (X n) r j - mu (X n) r := by
  have h : val_main_v23 (F := Ideal) (rows X) = rows fun n r (_ : Fin 2048) => mu (X n) r := by
    funext i; rw [val_main_v23_apply, mean_stage]; rfl
  funext i
  simp only [val_main_v24_apply, second_third, h, rows_at]
  pointwise
theorem centred' : val_main_v31 (F := Ideal) (rows X) = rows fun n r j => vg (X n) r j - mu (X n) r := by
  have h : val_main_v30 (F := Ideal) (rows X) = rows fun n r (_ : Fin 2048) => mu (X n) r := by
    funext i; rw [val_main_v30_apply, mean_stage]; rfl
  funext i
  simp only [val_main_v31_apply, second_third, h, rows_at]
  pointwise
theorem rstd_stage : val_main_v34 (F := Ideal) (rows X) = rows fun n r (_ : Fin 1) => rstd (X n) r := by
  have h1 : val_main_v25 (F := Ideal) (rows X) = rows fun n r j => (vg (X n) r j - mu (X n) r) * (vg (X n) r j - mu (X n) r) := by
    funext i
    simp only [val_main_v25_apply, centred, rows_at]
    pointwise
  have h2 : val_main_v26 (F := Ideal) (rows X) = rows2 fun n r => ∑ j, (vg (X n) r j - mu (X n) r) * (vg (X n) r j - mu (X n) r) := by
    funext i; rw [val_main_v26_apply, h1]; exact sum_real _
  have h3 : val_main_v27 (F := Ideal) (rows X) = rows fun n r (_ : Fin 1) => ∑ j, (vg (X n) r j - mu (X n) r) * (vg (X n) r j - mu (X n) r) := by
    funext i; rw [val_main_v27_apply, h2]; rfl
  have h4 : val_main_v33 (F := Ideal) (rows X) = rows fun n r (_ : Fin 1) => var (X n) r + eps := by
    funext i
    simp only [val_main_v33_apply, val_main_v32_apply, val_main_cst_8_apply, val_main_v29_apply, h3, val_main_v28_apply, val_main_cst_7_apply, rows_at]
    pointwise
    rfl
  funext i
  simp only [val_main_v34_apply, h4, rows_at]
  pointwise
  rw [rsqrt_real _ (var_eps_pos _ _)]
  rfl
theorem norm_stage : val_main_v42 (F := Ideal) (rows X) (line lg) (line lb) = rows fun n r j => vln (X n) lg lb r j := by
  have h1 : val_main_v35 (F := Ideal) (rows X) = rows fun n r (_ : Fin 2048) => rstd (X n) r := by
    funext i; rw [val_main_v35_apply, rstd_stage]; rfl
  have h2 : val_main_v38 (F := Ideal) (line lg) = rows fun _ _ j => lg j := by
    funext i; rw [val_main_v38_apply, val_main_v37_apply]; rfl
  have h3 : val_main_v41 (F := Ideal) (line lb) = rows fun _ _ j => lb j := by
    funext i; rw [val_main_v41_apply, val_main_v40_apply]; rfl
  funext i
  simp only [val_main_v42_apply, val_main_v39_apply, val_main_v36_apply, centred', h1, h2, h3, rows_at]
  pointwise
  rfl
theorem norm_five : val_main_v43 (F := Ideal) (rows X) (line lg) (line lb) = five fun n r j => vln (X n) lg lb r j := by
  funext i
  rw [val_main_v43_apply, norm_stage]
  have h1 : (i 1).val < 16 := (i 1).isLt
  have h2 : (i 2).val < 128 := (i 2).isLt
  have h3 : (i 3).val < 8 := (i 3).isLt
  have h4 : (i 4).val < 256 := (i 4).isLt
  refine five_of_rows _ i _ ?_ ?_ ?_
  · show (((((i 0).val * 16 + (i 1).val) * 128 + (i 2).val) * 8 + (i 3).val) * 256 + (i 4).val) / 4194304 = _
    omega
  · show (((((i 0).val * 16 + (i 1).val) * 128 + (i 2).val) * 8 + (i 3).val) * 256 + (i 4).val) / 2048 % 2048 = _
    omega
  · show (((((i 0).val * 16 + (i 1).val) * 128 + (i 2).val) * 8 + (i 3).val) * 256 + (i 4).val) % 2048 = _
    omega

/-! ### The mask -/

theorem col_word (k : Fin 128) : val_main_v46 (F := Ideal) (ix2 0 k) = BitVec.ofNat 32 (k.val / 64) := by
  revert k; decide +kernel
theorem row_word (r : Fin 128) : val_main_v48 (F := Ideal) (ix2 r 0) = BitVec.ofNat 32 (r.val / 64) := by
  revert r; decide +kernel
theorem mask_word (g : Fin 8) (r k : Fin 128) : val_main_call2_v0 (F := Ideal) (ix3 g r k) = if k.val / 64 ≤ r.val / 64 then 1#1 else 0#1 := by
  rw [val_main_call2_v0_apply, val_main_v52_apply, val_main_v51_apply, val_main_v49_apply, val_main_v50_apply]
  have e1 : idx_main_v49 (idx_main_v52 (idx_main_call2_v0 (ix3 g r k))) = ix2 0 k := eq_ix2 _
  have e2 : idx_main_v50 (idx_main_v52 (idx_main_call2_v0 (ix3 g r k))) = ix2 r 0 := eq_ix2 _
  rw [e1, e2, col_word, row_word]
  exact run_le ⟨k.val / 64, by omega⟩ ⟨r.val / 64, by omega⟩
theorem masked_weights : val_main_v53 (F := Ideal) (lift3 Ws) = lift3 (msk Ws) := by
  funext i
  obtain ⟨g, r, k, rfl⟩ : ∃ (g : Fin 8) (r k : Fin 128), i = ix3 g r k := ⟨i 0, i 1, i 2, eq_ix3 i⟩
  rw [val_main_v53_apply, val_main_call2_v1_apply, mask_word]
  show Scalar.select _ ((Ws g r k : ℝ) : EReal) _ = ((msk Ws g r k : ℝ) : EReal)
  unfold msk
  split_ifs
  · rfl
  · exact ofBits_zero

/-! ### The mixed rows and the result -/

theorem mixed_five : val_main_v59 (F := Ideal) (rows X) (line lg) (line lb) (lift3 Ws) (lift2 bs) = five fun n r j => mix (X n) lg lb (msk Ws) bs r j := by
  have h1 : val_main_v54 (F := Ideal) (rows X) (line lg) (line lb) (lift3 Ws)
      = turned fun n r j => ∑ k, msk Ws (grp j) r k * vln (X n) lg lb k j := by
    funext i
    rw [val_main_v54_apply, norm_five, masked_weights]
    refine sum_mul (fun k => vln (X (16 * (i 1).val + (i 2).val)) lg lb k (col (i 0) (i 3))) (fun k => msk Ws (i 0) (i 4) k) _ fun k => ?_
    rw [show grp (col (i 0) (i 3)) = i 0 from grp_col (i 0) (i 3), mul_comm]
  have h2 : val_main_v55 (F := Ideal) (rows X) (line lg) (line lb) (lift3 Ws)
      = five fun n r j => ∑ k, msk Ws (grp j) r k * vln (X n) lg lb k j := by
    funext i; rw [val_main_v55_apply, h1]; rfl
  have h3 : val_main_v58 (F := Ideal) (lift2 bs) = five fun _ r j => bs (grp j) r := by
    funext i
    rw [val_main_v58_apply, val_main_v57_apply, val_main_v56_apply, five_at, show grp (col (i 3) (i 4)) = i 3 from grp_col (i 3) (i 4)]
    rfl
  funext i
  rw [val_main_v59_apply, h2, h3, five_at, five_at]
  exact add_real _ _
theorem mixed_rows : val_main_v60 (F := Ideal) (rows X) (line lg) (line lb) (lift3 Ws) (lift2 bs) = rows fun n r j => mix (X n) lg lb (msk Ws) bs r j := by
  funext i
  rw [val_main_v60_apply, mixed_five]
  have h1 : (i 1).val < 2048 := (i 1).isLt
  have h2 : (i 2).val < 2048 := (i 2).isLt
  refine rows_of_five _ i _ ?_ ?_ ?_ ?_ ?_
  · show (((i 0).val * 2048 + (i 1).val) * 2048 + (i 2).val) / 4194304 = _
    omega
  · show (((i 0).val * 2048 + (i 1).val) * 2048 + (i 2).val) / 262144 % 16 = _
    omega
  · show (((i 0).val * 2048 + (i 1).val) * 2048 + (i 2).val) / 2048 % 128 = _
    omega
  · show (((i 0).val * 2048 + (i 1).val) * 2048 + (i 2).val) / 256 % 8 = _
    omega
  · show (((i 0).val * 2048 + (i 1).val) * 2048 + (i 2).val) % 256 = _
    omega
theorem silu_stage : val_main_v62 (F := Ideal) (rows X) = rows fun n r (j : Fin 2048) => sil (X n r (at2 j)) := by
  have h : val_main_v1 (F := Ideal) (rows X) = rows fun n r (j : Fin 2048) => X n r (at2 j) := by
    funext i; rw [val_main_v1_apply]; rfl
  funext i
  simp only [val_main_v62_apply, val_main_call3_v5_apply, val_main_call3_v4_apply, val_main_call3_cst_0_apply, val_main_call3_v3_apply, val_main_call3_v2_apply, val_main_call3_cst_apply, val_main_call3_v1_apply, val_main_call3_v0_apply, h, rows_at]
  pointwise
  rw [div_real _ _ (by positivity)]
  pointwise
  refine congrArg _ ?_
  unfold sil
  rw [sig_exp]

/-- The result, block by block. -/
theorem result : val_main_v65 (F := Ideal) (rows X) (line lg) (line lb) (lift3 Ws) (lift2 bs)
    = lift3 fun (n : Fin 32) r j => unit (X n.val) lg lb (msk Ws) bs r j := by
  have h : val_main_v64 (F := Ideal) (rows X) (line lg) (line lb) (lift3 Ws) (lift2 bs) = rows fun n r j => unit (X n) lg lb (msk Ws) bs r j := by
    funext i
    simp only [val_main_v64_apply, val_main_v63_apply, val_main_v61_apply, silu_stage, mixed_rows, first_third, rows_at]
    pointwise
    rfl
  funext i
  rw [val_main_v65_apply, h]
  have h0 : (i 0).val < 32 := (i 0).isLt
  have h1 : (i 1).val < 128 := (i 1).isLt
  have h2 : (i 2).val < 2048 := (i 2).isLt
  obtain ⟨n, r, j, rfl⟩ : ∃ (n : Fin 32) (r : Fin 128) (j : Fin 2048), i = ix3 n r j := ⟨i 0, i 1, i 2, eq_ix3 i⟩
  have e : ∀ (n' : ℕ) (r' : Fin 128) (j' : Fin 2048), n' = n.val → r' = r → j' = j →
      ((unit (X n') lg lb (msk Ws) bs r' j' : ℝ) : EReal) = ((unit (X n.val) lg lb (msk Ws) bs r j : ℝ) : EReal) := by
    rintro _ _ _ rfl rfl rfl; rfl
  refine e _ _ _ ?_ (Fin.ext ?_) (Fin.ext ?_)
  · show 16 * (((n.val * 128 + r.val) * 2048 + j.val) / 4194304) + ((n.val * 128 + r.val) * 2048 + j.val) / 2048 % 2048 / 128 = n.val
    omega
  · show ((n.val * 128 + r.val) * 2048 + j.val) / 2048 % 2048 % 128 = r.val
    omega
  · show ((n.val * 128 + r.val) * 2048 + j.val) % 2048 = j.val
    omega

end Cert.MixRefIdeal.Stages
-- ==== Proof.Mix.Claims.lean ====
/-
  The claims about the spatial gating unit's forward call, assembled: the reference's frame, the named constant and the
  equality of the two programs where every argument is finite.
-/
module

public import proofs.«01_k».proof.Defs
public import proofs.«01_k».proof.Proof.Mix.Arrays
public import proofs.«01_k».proof.Proof.Mix.Ref
public import proofs.«01_k».proof.Proof.Sgu.Claims
public import proofs.«01_k».proof.Proof.Gen.MixRefIdeal
public import proofs.«01_k».proof.Proof.Gen.MixRefIdeal.Run
public import proofs.«01_k».proof.Proof.Gen.Pre_mix_finite
public import Idealize.ShloMosaic.Lib.Quiescent

@[expose] public section

set_option maxRecDepth 16384

noncomputable section

namespace Cert.Proof.Mix

open Idealize.ShloMosaic Idealize.SL.Sem _root_.Sgu Cert.SguRefIdeal.Rows

/-- The forward reference runs to its end, with its arguments as they were and no semaphore of its own. -/
theorem frame_ref : quiescent_MixRefIdeal := fun m ρ _ =>
  (θ_run Cert.MixRefIdeal.defs _ _).mono
    (fun r h => ⟨fun c => (h c).2, Idealize.ShloMosaic.sem_eq_zero_of_no_sems (by decide) r.2⟩)
    (Cert.MixRefIdeal.Value.run (F := Ideal) m ρ)

/-- The named constant stands for the literal it replaces. -/
theorem names : preserves_MixFwd_MixFwdIdeal :=
  IdealRules.named_const.statement Cert.MixFwdIdeal.κ "gelu_c1" .f32 0x3D372713#32 ((8943 / 200000 : ℝ) : EReal) rfl

instance : Cert.Pre_mix_finite.Facts := Cert.Pre_mix_finite.Gen.facts

/-- Finite arguments are reals. -/
theorem reals (m : (ℓ : Loc Cert.MixFwdIdeal.nD Cert.MixFwdIdeal.τ Cert.MixFwdIdeal.sig) → Buf (Elt Ideal) ℓ)
    (h : Pre_MixFwdIdeal_mix_finite m) (c : Dev Cert.MixFwdIdeal.nD) :
    ∃ (X : ℕ → Fin 128 → Fin 6144 → ℝ) (lg lb : Fin 2048 → ℝ) (Ws : Fin 8 → Fin 128 → Fin 128 → ℝ) (bs : Fin 8 → Fin 128 → ℝ),
      m ((c.tc : Thread Cert.MixFwdIdeal.nD Cert.MixFwdIdeal.τ).loc Cert.MixFwdIdeal.main_arg0) = rows X
      ∧ m ((c.tc : Thread Cert.MixFwdIdeal.nD Cert.MixFwdIdeal.τ).loc Cert.MixFwdIdeal.main_arg1) = line lg
      ∧ m ((c.tc : Thread Cert.MixFwdIdeal.nD Cert.MixFwdIdeal.τ).loc Cert.MixFwdIdeal.main_arg2) = line lb
      ∧ m ((c.tc : Thread Cert.MixFwdIdeal.nD Cert.MixFwdIdeal.τ).loc Cert.MixFwdIdeal.main_arg3) = lift3 Ws
      ∧ m ((c.tc : Thread Cert.MixFwdIdeal.nD Cert.MixFwdIdeal.τ).loc Cert.MixFwdIdeal.main_arg4) = lift2 bs := by
  obtain ⟨h0, h1, h2, h3, h4⟩ := h c
  exact ⟨_, _, _, _, _, Sgu.as_rows _ fun i => real_of_lt _ _ inf32 (congrFun h0 i), Sgu.as_line _ fun i => real_of_lt _ _ inf32 (congrFun h1 i),
    Sgu.as_line _ fun i => real_of_lt _ _ inf32 (congrFun h2 i), as_lift3 _ fun i => real_of_lt _ _ inf32 (congrFun h3 i),
    as_lift2 _ fun i => real_of_lt _ _ inf32 (congrFun h4 i)⟩

/-- From the same finite arguments the kernel's result and the reference's are the same array over the extended reals. -/
theorem algebraic : algebraic_MixFwdIdeal_MixRefIdeal_pre_mix_finite := by
  intro m ρ m' ρ' hpre hagree
  choose X lg lb Ws bs a0 a1 a2 a3 a4 using reals m hpre
  refine ⟨fun c => lift3 fun (n : Fin 32) r j => unit (X c n.val) (lg c) (lb c) (msk (Ws c)) (bs c) r j, ?_, ?_⟩
  · refine (θ_run Cert.MixFwdIdeal.defs _ _).mono (fun r h c => ?_) (Cert.MixFwdIdeal.Value.run_blocks (F := Ideal) m ρ)
    obtain ⟨h5, rest⟩ := h c
    exact ⟨h5.trans (MixFwdIdeal.Arrays.final5 m c _ _ _ _ _ (a0 c) (a1 c) (a2 c) (a3 c) (a4 c)), rest⟩
  · refine (θ_run Cert.MixRefIdeal.defs _ _).mono (fun r h c => ?_) (Cert.MixRefIdeal.Value.run (F := Ideal) m' ρ')
    obtain ⟨h0, rest⟩ := h c
    obtain ⟨e0, e1, e2, e3, e4⟩ := hagree c
    refine ⟨h0.trans ((Cert.MixRefIdeal.Read.val_main_v65_eq _ _).trans ?_), rest⟩
    refine Eq.trans ?_ (Cert.MixRefIdeal.Stages.result (X c) (lg c) (lb c) (Ws c) (bs c))
    rw [← a0 c, ← a1 c, ← a2 c, ← a3 c, ← a4 c, ← e0, ← e1, ← e2, ← e3, ← e4]

end Cert.Proof.Mix

end
-- ==== Proof.Out.Value.lean ====
/-
  The output projection's forward call, read as values over the extended reals: what a grid point leaves in its two
  output blocks, element by element, from the launched arguments.
-/
module

public import proofs.«01_k».proof.Proof.Gen.OutFwdIdeal.Frame
public import Idealize.ShloMosaic.Lib.Pipeline.Value
public import proofs.«01_k».proof.Proof.Gen.OutRefIdeal.Read
public import Idealize.ShloMosaic.Lib.Pointwise
public import Idealize.ShloMosaic.Lib.ValueIdx

@[expose] public section

set_option maxRecDepth 16384

noncomputable section

namespace Cert.OutFwdIdeal.Arrays

open Cert.OutFwdIdeal Cert.OutFwdIdeal.Gen Idealize.ShloMosaic Idealize.ShloMosaic.TcCoe Idealize.SL.Sem
open Idealize.ShloMosaic.Pipeline (Dat)

theorem zeros2 : (![0, 0] : Fin 2 → Nat) = fun _ => 0 := funext fun a => by fin_cases a <;> rfl
theorem zeros3 : (![0, 0, 0] : Fin 3 → Nat) = fun _ => 0 := funext fun a => by fin_cases a <;> rfl

variable (m : (ℓ : Loc nD τ sig) → Buf (Elt Ideal) ℓ) (c : Dev nD)

/-- The block every window names at a point: point `t` works on row tile `t` and on sequence `t / 2`. -/
theorem named_blocks : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0)
    ∧ (win0_3.index t 0 = t.val / 2 ∧ win0_3.index t 1 = 0 ∧ win0_3.index t 2 = 0)
    ∧ (win0_4.index t 0 = t.val ∧ win0_4.index t 1 = 0) ∧ (win0_5.index t 0 = t.val ∧ win0_5.index t 1 = 0) := by
  decide +kernel

/-- The projection's left operand. -/
abbrev Y : Vec Ideal S2x2048x2048 .bf16 := m ((c : Thread nD τ).loc main_arg0)
/-- The projection's weights. -/
abbrev W : Vec Ideal S2048x1024 .bf16 := m ((c : Thread nD τ).loc main_arg1)
/-- The residual stream. -/
abbrev X : Vec Ideal S2x2048x1024 .f32 := m ((c : Thread nD τ).loc main_arg2)
/-- The modulation rows (shift, scale, gate). -/
abbrev MOD : Vec Ideal S2x3072 .f32 := m ((c : Thread nD τ).loc main_arg3)

/-- The region finds the left operand, the residual stream and the modulation as the host's reshapes of them. -/
theorem V_reshaped : V m c main_v0 = shapeCast S4096x2048 (Y m c) shapeCasts_S2x2048x2048_S4096x2048
    ∧ V m c main_v1 = shapeCast S4096x1024 (X m c) shapeCasts_S2x2048x1024_S4096x1024
    ∧ V m c main_v2 = shapeCast S2x1x3072 (MOD m c) shapeCasts_S2x3072_S2x1x3072 := by
  unfold V
  refine ⟨?_, ?_, ?_⟩ <;> after_results <;> rfl

theorem lt4 (t : Fin cfg0.N) : t.val < 4 := by have := t.isLt; have : cfg0.N = 4 := N_0; omega

/-- Row `r` of point `t`'s tile is row `1024 (t % 2) + r` of sequence `t / 2`. -/
abbrev seqOf (t : Fin cfg0.N) : Fin 2 := ⟨t.val / 2, by have := lt4 t; omega⟩
abbrev rowOf (t : Fin cfg0.N) (r : Fin 1024) : Fin 2048 := ⟨1024 * (t.val % 2) + r.val, by omega⟩
abbrev flatOf (t : Fin cfg0.N) (r : Fin 1024) : Fin 4096 := ⟨1024 * t.val + r.val, by have := lt4 t; omega⟩

/-- Rows of a flattened stream. -/
theorem flat_rows {α : Type} (x : S2x2048x1024.Idx → α) (t : Fin cfg0.N) (r k : Fin 1024) :
    shapeCast S4096x1024 x shapeCasts_S2x2048x1024_S4096x1024 (ix2 (flatOf t r) k) = x (ix3 (seqOf t) (rowOf t r) k) := by
  refine shapeCast_apply _ _ _ _ ?_
  rw [Shape.rowMajor_val_three, Shape.rowMajor_val_two]
  show ((t.val / 2) * 2048 + (1024 * (t.val % 2) + r.val)) * 1024 + k.val = (1024 * t.val + r.val) * 1024 + k.val
  omega

/-- Rows of the flattened left operand. -/
theorem flat_left (x : Vec Ideal S2x2048x2048 .bf16) (t : Fin cfg0.N) (r : Fin 1024) (k : Fin 2048) :
    shapeCast S4096x2048 x shapeCasts_S2x2048x2048_S4096x2048 (ix2 (flatOf t r) k) = x (ix3 (seqOf t) (rowOf t r) k) := by
  refine shapeCast_apply _ _ _ _ ?_
  rw [Shape.rowMajor_val_three, Shape.rowMajor_val_two]
  show ((t.val / 2) * 2048 + (1024 * (t.val % 2) + r.val)) * 2048 + k.val = (1024 * t.val + r.val) * 2048 + k.val
  omega

/-- The left operand's block at a point. -/
theorem left_block (t : Fin cfg0.N) (r : Fin 1024) (k : Fin 2048) :
    iblk m c 0 t (ix2 r k) = Y m c (ix3 (seqOf t) (rowOf t r) k) := by
  obtain ⟨⟨e0, e1⟩, -⟩ := named_blocks t
  rw [← flat_left (Y m c), ← (V_reshaped m c).1]
  unfold iblk
  rw [View.read_apply]
  refine congrArg (V m c main_v0) (Shape.idx_ext₂ ?_ ?_)
  · show win0_0.index t 0 * 1024 + 1 * r.val = 1024 * t.val + r.val
    rw [e0]; omega
  · show win0_0.index t 1 * 2048 + 1 * k.val = k.val
    rw [e1]; omega

/-- The weights' block at a point: all of them. -/
theorem weight_block (t : Fin cfg0.N) (e : Fin 2048) (k : Fin 1024) :
    iblk m c 1 t (ix2 e k) = W m c (ix2 e k) := by
  obtain ⟨-, ⟨e0, e1⟩, -⟩ := named_blocks t
  unfold iblk
  rw [View.read_apply]
  show V m c main_arg1 _ = _
  rw [V_main_arg1]
  refine congrArg (W m c) (Shape.idx_ext₂ ?_ ?_)
  · show win0_1.index t 0 * 2048 + 1 * e.val = e.val
    rw [e0]; omega
  · show win0_1.index t 1 * 1024 + 1 * k.val = k.val
    rw [e1]; omega

/-- The residual stream's block at a point. -/
theorem stream_block (t : Fin cfg0.N) (r k : Fin 1024) :
    iblk m c 2 t (ix2 r k) = X m c (ix3 (seqOf t) (rowOf t r) k) := by
  obtain ⟨-, -, ⟨e0, e1⟩, -⟩ := named_blocks t
  rw [← flat_rows (X m c), ← (V_reshaped m c).2.1]
  unfold iblk
  rw [View.read_apply]
  refine congrArg (V m c main_v1) (Shape.idx_ext₂ ?_ ?_)
  · show win0_2.index t 0 * 1024 + 1 * r.val = 1024 * t.val + r.val
    rw [e0]; omega
  · show win0_2.index t 1 * 1024 + 1 * k.val = k.val
    rw [e1]; omega

/-- The modulation's block at a point: the sequence's row. -/
theorem modulation_block (t : Fin cfg0.N) (k : Fin 3072) :
    iblk m c 3 t (ix3 0 0 k) = MOD m c (ix2 (seqOf t) k) := by
  obtain ⟨-, -, -, ⟨e0, e1, e2⟩, -⟩ := named_blocks t
  unfold iblk
  rw [View.read_apply]
  show V m c main_v2 _ = _
  rw [(V_reshaped m c).2.2]
  refine shapeCast_apply _ _ _ _ ?_
  rw [Shape.rowMajor_val_three, Shape.rowMajor_val_two]
  show t.val / 2 * 3072 + k.val = ((win0_3.index t 0 * 1 + 1 * 0) * 1 + (win0_3.index t 1 * 1 + 1 * 0)) * 3072
    + (win0_3.index t 2 * 3072 + 1 * k.val)
  rw [e0, e1, e2]; omega

/-! ## The body's payloads at an index -/

theorem product_apply (y : Vec Ideal S1024x2048 .bf16) (w : Vec Ideal S2048x1024 .bf16) (r k : Fin 1024) :
    k0_pay2 (F := Ideal) y w (ix2 r k) = (∑ e : Fin 2048, y (ix2 r e) * w (ix2 e k) : EReal) := by
  unfold_payloads
  pointwise

theorem residual_apply (y : Vec Ideal S1024x2048 .bf16) (w : Vec Ideal S2048x1024 .bf16) (x : Vec Ideal S1024x1024 .f32)
    (g : Vec Ideal S1x1x3072 .f32) (r k : Fin 1024) :
    k0_pay3 (F := Ideal) y w x g (ix2 r k)
      = (x (ix2 r k) + g (ix3 0 0 ⟨2048 + k.val, by omega⟩) * ∑ e : Fin 2048, y (ix2 r e) * w (ix2 e k) : EReal) := by
  unfold_payloads
  pointwise

/-! ## What a run leaves -/

/-- A run ends with the two output arrays as the pipeline's write-backs make them and the arguments as launched. -/
theorem run_arrays (ρ : Dev nD → PrngReg) :
    θ_run defs (onTc (τ := τ) (main (F := Ideal))) ⟨m, fun _ => 0, ρ⟩ fun r => ∀ c : Dev nD,
      (r.2.mem ((c : Thread nD τ).loc main_v3_0) = (dats m 0 c).arrAt 4 cfg0.N
        ∧ r.2.mem ((c : Thread nD τ).loc main_v3_1) = (dats m 0 c).arrAt 5 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono ?_ (θ_run_and (run_main m ρ) (unchanged m ρ))
  exact fun _ h c => ⟨⟨(h.1 c).1 4, (h.1 c).1 5⟩, h.2 c⟩

/-! ## What a point leaves -/

/-- The branch's product at a row of a tile. -/
abbrev branch (t : Fin cfg0.N) (r k : Fin 1024) : EReal :=
  ∑ e : Fin 2048, Y m c (ix3 (seqOf t) (rowOf t r) e) * W m c (ix2 e k)

/-- The second block left at a point is the branch's product. -/
theorem left_product (t : Fin cfg0.N) (r k : Fin 1024) :
    out0_5 (iblk m c 0 t) (iblk m c 1 t) (iblk m c 2 t) (iblk m c 3 t) (ix2 r k) = branch m c t r k := by
  unfold out0_5
  rw [View.canon_unit_zero zeros2, View.ld_unit_zero (S := S1024x2048) zeros2, View.ld_unit_zero (S := S2048x1024) zeros2,
    product_apply]
  exact Finset.sum_congr rfl fun e _ => by rw [left_block, weight_block]

/-- The first block left at a point is the stream plus the gated product. -/
theorem left_residual (t : Fin cfg0.N) (r k : Fin 1024) :
    out0_4 (iblk m c 0 t) (iblk m c 1 t) (iblk m c 2 t) (iblk m c 3 t) (ix2 r k)
      = (X m c (ix3 (seqOf t) (rowOf t r) k) + MOD m c (ix2 (seqOf t) ⟨2048 + k.val, by omega⟩) * branch m c t r k : EReal) := by
  unfold out0_4
  rw [View.canon_unit_zero zeros2, View.ld_unit_zero (S := S1024x2048) zeros2, View.ld_unit_zero (S := S2048x1024) zeros2,
    View.ld_unit_zero (S := S1024x1024) zeros2, View.ld_unit_zero (S := S1x1x3072) zeros3, residual_apply,
    stream_block, modulation_block]
  exact congrArg (fun s : EReal => X m c (ix3 (seqOf t) (rowOf t r) k) + MOD m c (ix2 (seqOf t) ⟨2048 + k.val, by omega⟩) * s)
    (Finset.sum_congr rfl fun e _ => by rw [left_block, weight_block])

end Cert.OutFwdIdeal.Arrays
-- ==== Proof.Out.Final.lean ====
/-
  The output projection's forward call against the reference: both output arrays end holding the reference's terms.
-/
module

public import proofs.«01_k».proof.Proof.Out.Value

@[expose] public section

set_option maxRecDepth 16384

noncomputable section

namespace Cert.OutFwdIdeal.Arrays

open Cert.OutFwdIdeal Cert.OutFwdIdeal.Gen Idealize.ShloMosaic Idealize.ShloMosaic.TcCoe Idealize.SL.Sem
open Idealize.ShloMosaic.Pipeline (Dat)
open Cert.OutRefIdeal.Read

variable (m : (ℓ : Loc nD τ sig) → Buf (Elt Ideal) ℓ) (c : Dev nD)

/-! ## The reference at an index -/

/-- The reference's product at a row of a tile. -/
theorem ref_branch (t : Fin cfg0.N) (r k : Fin 1024) :
    val_main_v2 (F := Ideal) (Y m c) (W m c) (ix3 (seqOf t) (rowOf t r) k) = branch m c t r k := by
  rw [val_main_v2_apply]
  refine Finset.sum_congr rfl fun e _ => ?_
  rw [val_main_v0_apply, val_main_v1_apply]
  refine congrArg₂ (· * ·) (congrArg (Y m c) ?_) (congrArg (W m c) (Shape.idx_ext₂ rfl rfl))
  funext a
  match a with
  | ⟨0, _⟩ => rfl
  | ⟨1, _⟩ => rfl
  | ⟨2, _⟩ => rfl

/-- The reference's rounded product, flattened. -/
theorem ref_product (t : Fin cfg0.N) (r k : Fin 1024) :
    val_main_v10 (F := Ideal) (Y m c) (W m c) (ix2 (flatOf t r) k) = branch m c t r k :=
  (flat_rows (val_main_v9 (F := Ideal) (Y m c) (W m c)) t r k).trans (ref_branch m c t r k)

/-- The reference's gated residual, flattened. -/
theorem ref_residual (t : Fin cfg0.N) (r k : Fin 1024) :
    val_main_v8 (F := Ideal) (Y m c) (W m c) (X m c) (MOD m c) (ix2 (flatOf t r) k)
      = (X m c (ix3 (seqOf t) (rowOf t r) k) + MOD m c (ix2 (seqOf t) ⟨2048 + k.val, by omega⟩) * branch m c t r k : EReal) := by
  refine (flat_rows (val_main_v7 (F := Ideal) (Y m c) (W m c) (X m c) (MOD m c)) t r k).trans ?_
  rw [val_main_v7_apply, val_main_v6_apply, ref_branch, val_main_v5_apply, val_main_v4_apply, val_main_v3_apply]
  exact congrArg (fun g : EReal => X m c (ix3 (seqOf t) (rowOf t r) k) + g * branch m c t r k)
    (congrArg (MOD m c) (Shape.idx_ext₂ rfl rfl))

/-! ## The arrays after the run -/

/-- Every row is in some point's tile. -/
theorem tile_of (i : S4096x1024.Idx) : ∃ t : Fin cfg0.N, t.val = (i 0).val / 1024 := by
  have h0 : (i 0 : Nat) < 4096 := (i 0).isLt
  have hN : cfg0.N = 4 := N_0
  exact ⟨⟨(i 0).val / 1024, by rw [hN]; omega⟩, rfl⟩

/-- An index lies in its row's tile, on both axes. -/
theorem in_tile (i : S4096x1024.Idx) (t : Fin cfg0.N) (ht : t.val = (i 0).val / 1024) (a b : Nat) (ha : a = t.val) (hb : b = 0) :
    (a * 1024 ≤ (i 0 : Nat) ∧ (i 0 : Nat) < a * 1024 + 1024) ∧ (b * 1024 ≤ (i 1 : Nat) ∧ (i 1 : Nat) < b * 1024 + 1024) := by
  have h1 : (i 1 : Nat) < 1024 := (i 1).isLt
  omega

/-- Every element of the first array is in a block some point writes back. -/
theorem cover4 (i : S4096x1024.Idx) : ∃ t, (cfg0.win 4).flush t = true ∧ i ∈ ((cfg0.win 4).blk t).view.set := by
  obtain ⟨t, ht⟩ := tile_of i
  obtain ⟨-, -, -, -, ⟨e0, e1⟩, -⟩ := named_blocks t
  refine ⟨t, flush0_4 _, ?_⟩
  show i ∈ ((View.whole main_v3_0).slice (win0_4.rect t)).set
  rw [View.set_slice_whole, Rect.mem_set_unit]
  intro a
  match a with
  | ⟨0, _⟩ => exact (in_tile i t ht _ _ e0 e1).1
  | ⟨1, _⟩ => exact (in_tile i t ht _ _ e0 e1).2

/-- Every element of the second array is in a block some point writes back. -/
theorem cover5 (i : S4096x1024.Idx) : ∃ t, (cfg0.win 5).flush t = true ∧ i ∈ ((cfg0.win 5).blk t).view.set := by
  obtain ⟨t, ht⟩ := tile_of i
  obtain ⟨-, -, -, -, -, ⟨e0, e1⟩⟩ := named_blocks t
  refine ⟨t, flush0_5 _, ?_⟩
  show i ∈ ((View.whole main_v3_1).slice (win0_5.rect t)).set
  rw [View.set_slice_whole, Rect.mem_set_unit]
  intro a
  match a with
  | ⟨0, _⟩ => exact (in_tile i t ht _ _ e0 e1).1
  | ⟨1, _⟩ => exact (in_tile i t ht _ _ e0 e1).2

/-- The array an index of a tile names. -/
theorem at_tile {α : Type} (f : S4096x1024.Idx → α) (t : Fin cfg0.N) (y : S1024x1024.Idx) (i : S4096x1024.Idx) (a b : Nat)
    (ha : a = t.val) (hb : b = 0) (h0 : (i 0).val = a * 1024 + 1 * (y 0).val) (h1 : (i 1).val = b * 1024 + 1 * (y 1).val) :
    f (ix2 (flatOf t (y 0)) (y 1)) = f i := by
  refine congrArg f (Shape.idx_ext₂ ?_ ?_)
  · show 1024 * t.val + (y 0).val = (i 0).val
    omega
  · show (y 1).val = (i 1).val
    omega

/-- The residual stream after the branch is the reference's. -/
theorem final4 : (dats m 0 c).arrAt 4 cfg0.N = val_main_v8 (F := Ideal) (Y m c) (W m c) (X m c) (MOD m c) := by
  refine (dats m 0 c).arrAt_eq_of_cover 4 _ (fun t _ => ?_) cover4
  obtain ⟨-, -, -, -, ⟨e0, e1⟩, -⟩ := named_blocks t
  show (cfg0.win 4).cut (grid0.coords t) ((dats m 0 c).after 4 t) = _
  rw [after0_4]
  funext y
  refine (congrArg (out0_4 (iblk m c 0 t) (iblk m c 1 t) (iblk m c 2 t) (iblk m c 3 t)) (eq_ix2 (n0 := 1024) (n1 := 1024) y)).trans ?_
  refine ((left_residual m c t (y 0) (y 1)).trans (ref_residual m c t (y 0) (y 1)).symm).trans ?_
  rw [View.read_apply]
  exact at_tile _ t y _ _ _ e0 e1 rfl rfl

/-- The saved product is the reference's. -/
theorem final5 : (dats m 0 c).arrAt 5 cfg0.N = val_main_v10 (F := Ideal) (Y m c) (W m c) := by
  refine (dats m 0 c).arrAt_eq_of_cover 5 _ (fun t _ => ?_) cover5
  obtain ⟨-, -, -, -, -, ⟨e0, e1⟩⟩ := named_blocks t
  show (cfg0.win 5).cut (grid0.coords t) ((dats m 0 c).after 5 t) = _
  rw [after0_5]
  funext y
  refine (congrArg (out0_5 (iblk m c 0 t) (iblk m c 1 t) (iblk m c 2 t) (iblk m c 3 t)) (eq_ix2 (n0 := 1024) (n1 := 1024) y)).trans ?_
  refine ((left_product m c t (y 0) (y 1)).trans (ref_product m c t (y 0) (y 1)).symm).trans ?_
  rw [View.read_apply]
  exact at_tile _ t y _ _ _ e0 e1 rfl rfl

end Cert.OutFwdIdeal.Arrays
-- ==== Proof.Out.Claims.lean ====
/-
  The claims about the output projection's forward call, assembled: the reference's frame and the equality of the two
  programs.
-/
module

public import proofs.«01_k».proof.Defs
public import proofs.«01_k».proof.Proof.Out.Final
public import proofs.«01_k».proof.Proof.Gen.OutRefIdeal
public import proofs.«01_k».proof.Proof.Gen.OutRefIdeal.Run
public import Idealize.ShloMosaic.Lib.Quiescent

@[expose] public section

noncomputable section

namespace Cert.Proof.Out

open Idealize.ShloMosaic Idealize.SL.Sem

/-- The reference runs, keeps its arguments, and has no semaphore. -/
theorem frame_ref : quiescent_OutRefIdeal := fun m ρ _ =>
  (θ_run Cert.OutRefIdeal.defs _ _).mono
    (fun r h => ⟨fun c => (h c).2.2,
      Idealize.ShloMosaic.sem_eq_zero_of_no_sems (by decide) r.2⟩)
    (Cert.OutRefIdeal.Value.run (F := Ideal) m ρ)

/-- From the same arguments the kernel's two results and the reference's are the same arrays over the extended reals. -/
theorem algebraic : algebraic_OutFwdIdeal_OutRefIdeal := by
  intro m ρ m' ρ' _ hagree
  refine ⟨fun c => Cert.OutRefIdeal.Read.val_main_v8 (F := Ideal) (OutFwdIdeal.Arrays.Y m c) (OutFwdIdeal.Arrays.W m c)
      (OutFwdIdeal.Arrays.X m c) (OutFwdIdeal.Arrays.MOD m c),
    fun c => Cert.OutRefIdeal.Read.val_main_v10 (F := Ideal) (OutFwdIdeal.Arrays.Y m c) (OutFwdIdeal.Arrays.W m c), ?_, ?_⟩
  · refine (θ_run Cert.OutFwdIdeal.defs _ _).mono (fun r h c => ?_) (Cert.OutFwdIdeal.Arrays.run_arrays m ρ)
    obtain ⟨⟨h4, h5⟩, rest⟩ := h c
    exact ⟨h4.trans (OutFwdIdeal.Arrays.final4 m c), h5.trans (OutFwdIdeal.Arrays.final5 m c), rest⟩
  · refine (θ_run Cert.OutRefIdeal.defs _ _).mono (fun r h c => ?_) (Cert.OutRefIdeal.Value.run (F := Ideal) m' ρ')
    obtain ⟨h0, h1, rest⟩ := h c
    obtain ⟨e0, e1, e2, e3⟩ := hagree c
    rw [e0, e1, e2, e3] at h0
    rw [e0, e1] at h1
    exact ⟨h0.trans (Cert.OutRefIdeal.Read.val_main_v8_eq _ _ _ _), h1.trans (Cert.OutRefIdeal.Read.val_main_v10_eq _ _), rest⟩

end Cert.Proof.Out

end
-- ==== Proof.Inp.Body.lean ====
/-
  The input projection's forward call: its body on a grid point. The points of a row tile run over eight column tiles; at
  the first the body computes the tile's normalised rows and stores them, at the other seven it reads them back and leaves
  them as they are; at every point it stores the rows' product with the point's columns of the weights.
-/
module

public import proofs.«01_k».proof.Proof.Gen.InpFwdIdeal.Skeleton
public import proofs.«01_k».proof.Proof.Gen.InpFwdIdeal.Frame
public import Idealize.ShloMosaic.Lib.Pipeline.Value
public import Idealize.ShloMosaic.Lib.Pipeline.TableIdle
public import Idealize.ShloMosaic.Lib.Pointwise
public import Idealize.ShloMosaic.Lib.ValueIdx
public import Idealize.ShloMosaic.Lib.Claim

@[expose] public section

set_option maxRecDepth 16384

noncomputable section

namespace Cert.InpFwdIdeal.Rows

open Cert.InpFwdIdeal Cert.InpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- A store through the whole of a matrix buffer leaves the stored matrix, whatever was there. -/
theorem stored {a b : Nat} {e : EltTy} {sp : Space} (v : View sig .tc sp ⟨2, ![a, b]⟩ e) (f : v.ty.Contents (Elt F))
    (inb : ∀ k, (![0, 0] : Fin 2 → Nat) k + (⟨2, ![a, b]⟩ : Shape).size k ≤ (⟨2, ![a, b]⟩ : Shape).size k)
    (w : (⟨2, ![a, b]⟩ : Shape).Idx → Elt F e) :
    v.read (Elt F) (v.writes (Elt F) f [⟨Rect.unit ![0, 0] (⟨2, ![a, b]⟩ : Shape).size inb, w⟩]) = w := by
  rw [View.read_writes_eq_canon]
  · exact View.canon_unit_zero (S := ⟨2, ![a, b]⟩) zeros2 inb w
  · refine fun y => ⟨_, List.mem_singleton.mpr rfl, ?_⟩
    show y ∈ (Rect.unit ![0, 0] (⟨2, ![a, b]⟩ : Shape).size inb).set
    rw [Rect.mem_set_unit]
    intro k
    have h := (y k).isLt
    match k with
    | ⟨0, _⟩ => exact ⟨Nat.zero_le _, by simpa using h⟩
    | ⟨1, _⟩ => exact ⟨Nat.zero_le _, by simpa using h⟩

/-- A load through the whole of a buffer that holds `x` reads `x`. -/
theorem loaded {S : Shape} {e : EltTy} {sp : Space} {v : Memref sig .tc sp S e} (hv : v.IsWhole) {off : Fin S.rank → Nat}
    (h : off = fun _ => 0) (inb : ∀ k, off k + S.size k ≤ S.size k) (x : S.Idx → Elt F e) :
    v.view.readAt (Elt F) (Rect.unit off S.size inb).toLoadRect (hv.unread x) = x := by
  rw [View.readAt_eq_ld, hv.read_unread]
  exact View.ld_unit_zero (S := S) h inb x

/-! ## The body on any staging buffers -/

section Body

variable (c : Dev nD) (i : grid0.Coords)
  (arg2 : Memref sig .tc .vmem S2048x1024 .f32) (harg2 : arg2.IsWhole)
  (arg3 : Memref sig .tc .vmem S1x1x3072 .f32) (harg3 : arg3.IsWhole)
  (arg4 : Memref sig .tc .vmem S1x1024 .f32) (harg4 : arg4.IsWhole)
  (arg5 : Memref sig .tc .vmem S1x1024x768 .bf16) (harg5 : arg5.IsWhole)
  (arg6 : Memref sig .tc .vmem S2048x768 .f32) (harg6 : arg6.IsWhole)
  (arg7 : Memref sig .tc .vmem S2048x1024 .bf16) (harg7 : arg7.IsWhole)
  (x0 : Vec F S2048x1024 .f32) (x1 : Vec F S1x1x3072 .f32) (x2 : Vec F S1x1024 .f32) (x3 : Vec F S1x1024x768 .bf16)

/-- At a tile's first point the body leaves the normalised rows and their product with the weights' columns. -/
theorem first_point (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 (k0_pay1 x0 x1 x2) x3)
            ∗ owns (c : Thread nD τ) arg7 fullShare (k0_pay1 x0 x1 x2)) -∗ K ⟨⟩))
      ⊢ wp frame (wpE (defs₀ (F := F)) Variants.none c none) E
          (cc0_a_inproj_fwd i arg2 harg2 arg3 harg3 arg4 harg4 arg5 harg5 arg6 harg6 arg7 harg7) K := by
  simp only [cc0_a_inproj_fwd_eq_skeleton]; unfold cc0_a_inproj_fwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1
  obtain rfl := harg4.eq_unread hf2; obtain rfl := harg5.eq_unread hf3
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    unfold first_point.sl.v3 first_point.sl.H5_1
    rw [stored, loaded harg5 zeros3, loaded harg2 zeros2, loaded harg3 zeros3, loaded harg4 zeros2]
    exact congrArg (fun r => k0_pay2 r x3) (View.readCov_unit_zero (S := S2048x1024) arg7.view zeros2 _ _)
  · iexists _; isplitr; swap; · iexact H5
    ipureintro
    unfold first_point.sl.H5_1
    rw [stored, loaded harg2 zeros2, loaded harg3 zeros3, loaded harg4 zeros2]

/-- At a tile's other points the body keeps the rows it finds and leaves their product with the weights' columns. -/
theorem later_point (hc : ¬k0_cond1 i = 1#1) (x5 : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x5 x3)
            ∗ owns (c : Thread nD τ) arg7 fullShare x5) -∗ K ⟨⟩))
      ⊢ wp frame (wpE (defs₀ (F := F)) Variants.none c none) E
          (cc0_a_inproj_fwd i arg2 harg2 arg3 harg3 arg4 harg4 arg5 harg5 arg6 harg6 arg7 harg7) K := by
  simp only [cc0_a_inproj_fwd_eq_skeleton]; unfold cc0_a_inproj_fwd_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1
  obtain rfl := harg4.eq_unread hf2; obtain rfl := harg5.eq_unread hf3; obtain rfl := harg7.eq_unread hf5
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [stored, loaded harg5 zeros3, loaded harg7 zeros2]
  · iexists _; isplitr; · ipureintro; exact harg7.read_unread _
    iexact H5

end Body

/-! ## What the body finds and leaves, point by point -/

variable (m : (ℓ : Loc nD τ sig) → Buf (Elt F) ℓ) (ρ : Dev nD → PrngReg)

/-- The normalised rows of the tile a point works on. -/
def rows (c : Dev nD) (t : Fin cfg0.N) : Vec F S2048x1024 .bf16 := k0_pay1 (iblk m c 0 t) (iblk m c 1 t) (iblk m c 2 t)

/-- The blocks the first three windows name: point `t` works on row tile and sequence `t / 8`. -/
theorem named_rows : ∀ t : Fin grid0.N,
    (win0_0.index t 0 = t.val / 8 ∧ win0_0.index t 1 = 0)
    ∧ (win0_1.index t 0 = t.val / 8 ∧ win0_1.index t 1 = 0 ∧ win0_1.index t 2 = 0)
    ∧ (win0_2.index t 0 = 0 ∧ win0_2.index t 1 = 0) := by
  decide +kernel

/-- Two indices of a three-axis shape with equal coordinates. -/
theorem ext3 {n : Fin 3 → ℕ} {x y : (a : Fin 3) → Fin (n a)} (h0 : (x 0 : ℕ) = y 0) (h1 : (x 1 : ℕ) = y 1)
    (h2 : (x 2 : ℕ) = y 2) : x = y := by
  funext a
  match a with
  | ⟨0, _⟩ => exact Fin.ext h0
  | ⟨1, _⟩ => exact Fin.ext h1
  | ⟨2, _⟩ => exact Fin.ext h2

/-- Points of one tile see the same three blocks, so the same normalised rows. -/
theorem rows_same (c : Dev nD) (t u : Fin cfg0.N) (h : t.val / 8 = u.val / 8) : rows m c t = rows m c u := by
  obtain ⟨⟨a0, a1⟩, ⟨b0, b1, b2⟩, d0, d1⟩ := named_rows t
  obtain ⟨⟨p0, p1⟩, ⟨q0, q1, q2⟩, r0, r1⟩ := named_rows u
  have e0 : iblk m c 0 t = iblk m c 0 u := by
    funext y
    unfold iblk
    rw [View.read_apply, View.read_apply]
    refine congrArg (V m c main_v2) (Shape.idx_ext₂ ?_ ?_)
    · show win0_0.index t 0 * 2048 + 1 * (y 0).val = win0_0.index u 0 * 2048 + 1 * (y 0).val
      rw [a0, p0, h]
    · show win0_0.index t 1 * 1024 + 1 * (y 1).val = win0_0.index u 1 * 1024 + 1 * (y 1).val
      rw [a1, p1]
  have e1 : iblk m c 1 t = iblk m c 1 u := by
    funext y
    unfold iblk
    rw [View.read_apply, View.read_apply]
    refine congrArg (V m c main_v3) (ext3 ?_ ?_ ?_)
    · show win0_1.index t 0 * 1 + 1 * (y 0).val = win0_1.index u 0 * 1 + 1 * (y 0).val
      rw [b0, q0, h]
    · show win0_1.index t 1 * 1 + 1 * (y 1).val = win0_1.index u 1 * 1 + 1 * (y 1).val
      rw [b1, q1]
    · show win0_1.index t 2 * 3072 + 1 * (y 2).val = win0_1.index u 2 * 3072 + 1 * (y 2).val
      rw [b2, q2]
  have e2 : iblk m c 2 t = iblk m c 2 u := by
    funext y
    unfold iblk
    rw [View.read_apply, View.read_apply]
    refine congrArg (V m c main_v4) (Shape.idx_ext₂ ?_ ?_)
    · show win0_2.index t 0 * 1 + 1 * (y 0).val = win0_2.index u 0 * 1 + 1 * (y 0).val
      rw [d0, r0]
    · show win0_2.index t 1 * 1024 + 1 * (y 1).val = win0_2.index u 1 * 1024 + 1 * (y 1).val
      rw [d1, r1]
  unfold rows
  rw [e0, e1, e2]

/-- What the body leaves at every point: the inputs' blocks as they were, the product, and the tile's rows. -/
def leaves (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (rows m c t) (iblk m c 3 t)
    | ⟨5, _⟩ => rows m c t
  Φ _ := Pipeline.ΦA spec0 c
  q _ := fullShare
  owed _ := 0

theorem arrays (c : Dev nD) (w : Fin cfg0.W) : (leaves m 0 c).A w = V m c (Pipeline.arrRef spec0 w) := by
  dsimp only [leaves]

theorem left0 (c : Dev nD) (t : Fin cfg0.N) : (leaves m 0 c).after 0 t = iblk m c 0 t := by dsimp only [leaves]
theorem left1 (c : Dev nD) (t : Fin cfg0.N) : (leaves m 0 c).after 1 t = iblk m c 1 t := by dsimp only [leaves]
theorem left2 (c : Dev nD) (t : Fin cfg0.N) : (leaves m 0 c).after 2 t = iblk m c 2 t := by dsimp only [leaves]
theorem left3 (c : Dev nD) (t : Fin cfg0.N) : (leaves m 0 c).after 3 t = iblk m c 3 t := by dsimp only [leaves]
theorem left4 (c : Dev nD) (t : Fin cfg0.N) : (leaves m 0 c).after 4 t = k0_pay2 (rows m c t) (iblk m c 3 t) := by
  dsimp only [leaves]
theorem left5 (c : Dev nD) (t : Fin cfg0.N) : (leaves m 0 c).after 5 t = rows m c t := by dsimp only [leaves]

/-- A point is its tile's first exactly at the multiples of eight; there, and only there, the rows are stored. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)
theorem idle_iff : ∀ t : Fin cfg0.N, cfg0.idle 5 (grid0.coords t) = decide (t.val % 8 ≠ 0) := by decide +kernel

/-- Whether the rows' buffer holds nothing stored yet, at each point: at the tile's first only. -/
def unstored (n : ℕ) : Bool := decide (n % 8 = 0)
theorem unstored_step : ∀ t : Fin cfg0.N,
    unstored (t.val + 1) = ((cfg0.win 5).flush t || (cfg0.idle 5 (cfg0.grid.coords t) && unstored t.val)) := by decide +kernel
theorem fresh_eq (t : Fin cfg0.N) : cfg0.fresh 5 t.val = unstored t.val :=
  Pipeline.Cfg.fresh_tab cfg0 5 unstored rfl unstored_step t.val (Nat.le_of_lt t.isLt)

/-- The rows carry through the points that leave their buffer alone. -/
theorem carried (c : Dev nD) (t : Fin cfg0.N) (_ : t.val ≠ 0) (hi : cfg0.idle 5 (grid0.coords t) = true) (_ : cfg0.fresh 5 t.val = false) :
    (leaves m 0 c).after 5 t = (leaves m 0 c).after 5 ⟨t.val - 1, by omega⟩ := by
  rw [idle_iff] at hi
  have h := of_decide_eq_true hi
  rw [left5, left5]
  exact rows_same m c _ _ (by show t.val / 8 = (t.val - 1) / 8; omega)

/-- At a tile's later points the body finds the tile's rows. -/
theorem found_rows (c : Dev nD) (t : Fin cfg0.N) (h : t.val % 8 ≠ 0) (d) : (leaves m 0 c).before 5 t d = rows m c t := by
  rw [Dat.before_out_traj _ 5 rfl (fun _ _ => rfl) (carried m c) t.val t rfl d,
    if_neg (by rw [fresh_eq]; simpa [unstored] using h), left5]
  exact rows_same m c _ _ (by show (t.val - 1) / 8 = t.val / 8; omega)

theorem found0 (c : Dev nD) (t : Fin cfg0.N) (d) : (leaves m 0 c).before 0 t d = iblk m c 0 t :=
  before0_0_of m (leaves m 0 c) (arrays m c 0) (left0 m c) t d
theorem found1 (c : Dev nD) (t : Fin cfg0.N) (d) : (leaves m 0 c).before 1 t d = iblk m c 1 t :=
  before0_1_of m (leaves m 0 c) (arrays m c 1) (left1 m c) t d
theorem found2 (c : Dev nD) (t : Fin cfg0.N) (d) : (leaves m 0 c).before 2 t d = iblk m c 2 t :=
  before0_2_of m (leaves m 0 c) (arrays m c 2) (left2 m c) t d
theorem found3 (c : Dev nD) (t : Fin cfg0.N) (d) : (leaves m 0 c).before 3 t d = iblk m c 3 t :=
  before0_3_of m (leaves m 0 c) (arrays m c 3) (left3 m c) t d

/-- The rows' buffer after the body holds the tile's rows, whether the point stored them or kept them. -/
theorem kept_or_stored (c : Dev nD) (t : Fin cfg0.N) :
    owns (c : Thread nD τ) (st0_5 t) fullShare (rows m c t) ⊢ (leaves m 0 c).leavesExact 5 t := by
  by_cases h : t.val % 8 = 0
  · rw [show (leaves m 0 c).leavesExact 5 t = owns (c : Thread nD τ) (st0_5 t) fullShare ((leaves m 0 c).after 5 t) from by
      unfold Dat.leavesExact; rw [show cfg0.idle 5 (cfg0.grid.coords t) = false from by rw [idle_iff]; simpa using h], left5]
  · have hi : cfg0.idle 5 (cfg0.grid.coords t) = true := by rw [idle_iff]; simpa using h
    by_cases h7 : t.val % 8 = 7
    · rw [show (leaves m 0 c).leavesExact 5 t = owns (c : Thread nD τ) (st0_5 t) fullShare ((leaves m 0 c).after 5 t) from by
        unfold Dat.leavesExact; rw [hi, (flush0_5 t).mpr h7], left5]
    · rw [Dat.leavesExact_idle _ 5 t hi (Bool.eq_false_iff.mpr fun e => h7 ((flush0_5 t).mp e))]
      simp only [found_rows m c t h]
      iintro H
      iexists (rows m c t)
      iexact H

/-! ## The body's obligation and the run -/

set_option maxHeartbeats 800000 in
/-- The body at any point, from what it finds to what it leaves. -/
theorem body_at (c : Dev nD) (t : Fin cfg0.N) :
    iprop((leaves m 0 c).Φ t.castSucc ∗ (leaves m 0 c).owesAt () t.castSucc
      ∗ (∃ d, owns (c : Thread nD τ) (st0_0 t) fullShare ((leaves m 0 c).before 0 t d))
      ∗ (∃ d, owns (c : Thread nD τ) (st0_1 t) fullShare ((leaves m 0 c).before 1 t d))
      ∗ (∃ d, owns (c : Thread nD τ) (st0_2 t) fullShare ((leaves m 0 c).before 2 t d))
      ∗ (∃ d, owns (c : Thread nD τ) (st0_3 t) fullShare ((leaves m 0 c).before 3 t d))
      ∗ (∃ d, owns (c : Thread nD τ) (st0_4 t) fullShare ((leaves m 0 c).before 4 t d))
      ∗ (∃ d, owns (c : Thread nD τ) (st0_5 t) fullShare ((leaves m 0 c).before 5 t d)))
    ⊢ wp frame (wpE (defs₀ (F := F)) Variants.none c none) Set.univ (bodyAt0 t) (fun _ =>
      iprop((leaves m 0 c).Φ t.succ ∗ (leaves m 0 c).owesAt () t.succ
        ∗ (leaves m 0 c).leavesExact 0 t ∗ (leaves m 0 c).leavesExact 1 t ∗ (leaves m 0 c).leavesExact 2 t
        ∗ (leaves m 0 c).leavesExact 3 t ∗ (leaves m 0 c).leavesExact 4 t ∗ (leaves m 0 c).leavesExact 5 t)) := by
  unfold bodyAt0
  simp only [found0, found1, found2, found3]
  rw [show (leaves m 0 c).Φ t.succ = (leaves m 0 c).Φ t.castSucc from rfl,
    show (leaves m 0 c).owesAt () t.succ = (leaves m 0 c).owesAt () t.castSucc from rfl,
    show (leaves m 0 c).leavesExact 0 t = owns (c : Thread nD τ) (st0_0 t) fullShare (iblk m c 0 t) from rfl,
    show (leaves m 0 c).leavesExact 1 t = owns (c : Thread nD τ) (st0_1 t) fullShare (iblk m c 1 t) from rfl,
    show (leaves m 0 c).leavesExact 2 t = owns (c : Thread nD τ) (st0_2 t) fullShare (iblk m c 2 t) from rfl,
    show (leaves m 0 c).leavesExact 3 t = owns (c : Thread nD τ) (st0_3 t) fullShare (iblk m c 3 t) from rfl,
    show (leaves m 0 c).leavesExact 4 t = owns (c : Thread nD τ) (st0_4 t) fullShare (k0_pay2 (rows m c t) (iblk m c 3 t)) from rfl]
  by_cases h : t.val % 8 = 0
  · iintro ⟨HΦ, Ho, ⟨%d0, H0⟩, ⟨%d1, H1⟩, ⟨%d2, H2⟩, ⟨%d3, H3⟩, ⟨%d4, H4⟩, ⟨%d5, H5⟩⟩
    iapply (first_point c (grid0.coords t) _ _ _ _ _ _ _ _ _ _ _ _ (iblk m c 0 t) (iblk m c 1 t) (iblk m c 2 t) (iblk m c 3 t)
      ((first_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (kept_or_stored m c t)
    iexact H5
  · simp only [found_rows m c t h]
    iintro ⟨HΦ, Ho, ⟨%d0, H0⟩, ⟨%d1, H1⟩, ⟨%d2, H2⟩, ⟨%d3, H3⟩, ⟨%d4, H4⟩, ⟨%d5, H5⟩⟩
    iapply (later_point c (grid0.coords t) _ _ _ _ _ _ _ _ _ _ _ _ (iblk m c 0 t) (iblk m c 1 t) (iblk m c 2 t) (iblk m c 3 t)
      (fun e => h ((first_iff t).mp e)) (rows m c t) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (kept_or_stored m c t)
    iexact H5

/-- The pipeline's table names this body at every point. -/
theorem table_row (t : Fin cfg0.N) : defs₀ (F := F) .tc cfg0.body (cfg0.bodyArgs t (cfg0.slots t)) = bodyAt0 t := by
  unfold defs₀; rw [Defs.onTc_tc]

/-- The library's obligation of the body. -/
theorem obligation (c : Dev nD) : BodyObligation (leaves (F := F) m 0 c) (defs₀ (F := F)) Variants.none () Set.univ := fun t => by
  rw [bigSep_W0, bigSep_W0, table_row]
  exact triple_restated (body_at m c t) rfl .rfl fun _ => .rfl

set_option backward.isDefEq.respectTransparency.types false in
/-- Every run ends with the arrays the write-backs make of what the points leave, and with every semaphore at zero. -/
theorem runs : θ_run defs (onTc (τ := τ) (main (F := F))) (s₀ m ρ)
    (fun r => Pipeline.FramePost cfgs (leaves m) 0 (V m) r ∧ r.2.sem = fun _ => 0) :=
  Pipeline.θ_run_frame (Q' := _) cfgs (leaves m) (0 : Fin 1) launch0 defs₀ Variants.none m ρ main
    (hbody := fun c => (obligation m c).loose) (hshare := fun c => (leaves m 0 c).share_full fun _ => rfl)
    (howed := fun _ _ => rfl) (V := V m) (hmain := hmain m Variants.none) (hA := arrays m) (hΦ := fun _ _ => rfl)

/-- The arguments end as launched and every semaphore at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (leaves m) (arrays m) ((θ_run defs _ _).mono (fun _ h => h.1) (runs m ρ)))
    ((θ_run defs _ _).mono (fun _ h => h.2) (runs m ρ))

end Cert.InpFwdIdeal.Rows
-- ==== Proof.Inp.Value.lean ====
/-
  The input projection's forward call, read as values over the extended reals: what a grid point leaves in its two output
  blocks, and what the reference holds there, element by element from the launched arguments.
-/
module

public import proofs.«01_k».proof.Proof.Inp.Body
public import proofs.«01_k».proof.Proof.Gen.InpRefIdeal.Read

@[expose] public section

set_option maxRecDepth 16384

noncomputable section

namespace Cert.InpFwdIdeal.Rows

open Cert.InpFwdIdeal Cert.InpFwdIdeal.Gen Idealize.ShloMosaic Idealize.ShloMosaic.TcCoe Idealize.SL.Sem

variable (m : (ℓ : Loc nD τ sig) → Buf (Elt Ideal) ℓ) (c : Dev nD)

/-- The residual stream. -/
abbrev X : Vec Ideal S2x2048x1024 .f32 := m ((c : Thread nD τ).loc main_arg0)
/-- The modulation rows (shift, scale, gate). -/
abbrev MOD : Vec Ideal S2x3072 .f32 := m ((c : Thread nD τ).loc main_arg1)
/-- The norm's gain. -/
abbrev GAIN : Vec Ideal S1024 .f32 := m ((c : Thread nD τ).loc main_arg2)
/-- The projection's weights. -/
abbrev W : Vec Ideal S1024x6144 .bf16 := m ((c : Thread nD τ).loc main_arg3)

/-- The modulated norm of a row of a sequence: the row over its root mean square, times the gain and one plus the
    sequence's scale, plus the sequence's shift. -/
def normed (b : Fin 2) (p : Fin 2048) (k : Fin 1024) : EReal :=
  X m c (ix3 b p k)
      * Ideal.rsqrt (Ideal.div (∑ e : Fin 1024, X m c (ix3 b p e) * X m c (ix3 b p e)) (Ideal.ofBits .f32 0x44800000#32)
          + Ideal.ofBits .f32 0x358637BD#32)
      * GAIN m c (ix1 k) * (1 + MOD m c (ix2 b ⟨1024 + k.val, by omega⟩)) + MOD m c (ix2 b ⟨k.val, by omega⟩)

/-- The product of a row's modulated norm with a column of the weights. -/
def projected (b : Fin 2) (p : Fin 2048) (n : Fin 6144) : EReal :=
  ∑ e : Fin 1024, normed m c b p e * W m c (ix2 e n)

/-! ## The blocks a point works on -/

theorem lt16 (t : Fin cfg0.N) : t.val < 16 := by have := t.isLt; have : cfg0.N = 16 := N_0; omega

/-- Row `r` of point `t`'s tile is row `r` of sequence `t / 8`; column `k` of its columns is column `768 (t % 8) + k`. -/
abbrev seqOf (t : Fin cfg0.N) : Fin 2 := ⟨t.val / 8, by have := lt16 t; omega⟩
abbrev flatOf (t : Fin cfg0.N) (r : Fin 2048) : Fin 4096 := ⟨2048 * (t.val / 8) + r.val, by have := lt16 t; omega⟩
abbrev colOf (t : Fin cfg0.N) (k : Fin 768) : Fin 6144 := ⟨768 * (t.val % 8) + k.val, by omega⟩

/-- The blocks of the weights and of the two results at a point. -/
theorem named_columns : ∀ t : Fin grid0.N,
    (win0_3.index t 0 = t.val % 8 / 2 ∧ win0_3.index t 1 = 0 ∧ win0_3.index t 2 = t.val % 2)
    ∧ (win0_4.index t 0 = t.val / 8 ∧ win0_4.index t 1 = t.val % 8)
    ∧ (win0_5.index t 0 = t.val / 8 ∧ win0_5.index t 1 = 0) := by
  decide +kernel

/-- What the host leaves for the region: the stream, the modulation and the gain reshaped. -/
theorem V_reshaped : V m c main_v2 = shapeCast S4096x1024 (X m c) shapeCasts_S2x2048x1024_S4096x1024
    ∧ V m c main_v3 = shapeCast S2x1x3072 (MOD m c) shapeCasts_S2x3072_S2x1x3072
    ∧ V m c main_v4 = shapeCast S1x1024 (GAIN m c) shapeCasts_S1024_S1x1024 := by
  unfold V
  refine ⟨?_, ?_, ?_⟩ <;> after_results <;> rfl

/-- And the weights cut into four groups of columns. -/
theorem V_grouped : V m c main_v1
    = transpose S4x1024x1536 [1, 0, 2] (shapeCast S1024x4x1536 (W m c) shapeCasts_S1024x6144_S1024x4x1536)
        transposes_S1024x4x1536_S4x1024x1536_1_0_2 := by
  unfold V
  after_results <;> rfl

/-- Rows of a flattened array of two sequences. -/
theorem flat_rows {α : Type} (x : S2x2048x1024.Idx → α) (t : Fin cfg0.N) (r : Fin 2048) (k : Fin 1024) :
    shapeCast S4096x1024 x shapeCasts_S2x2048x1024_S4096x1024 (ix2 (flatOf t r) k) = x (ix3 (seqOf t) r k) := by
  refine shapeCast_apply _ _ _ _ ?_
  rw [Shape.rowMajor_val_three, Shape.rowMajor_val_two]
  show ((t.val / 8) * 2048 + r.val) * 1024 + k.val = (2048 * (t.val / 8) + r.val) * 1024 + k.val
  omega

/-- The stream's block. -/
theorem stream_block (t : Fin cfg0.N) (r : Fin 2048) (k : Fin 1024) : iblk m c 0 t (ix2 r k) = X m c (ix3 (seqOf t) r k) := by
  obtain ⟨⟨e0, e1⟩, -⟩ := named_rows t
  rw [← flat_rows (X m c), ← (V_reshaped m c).1]
  unfold iblk
  rw [View.read_apply]
  refine congrArg (V m c main_v2) (Shape.idx_ext₂ ?_ ?_)
  · show win0_0.index t 0 * 2048 + 1 * r.val = 2048 * (t.val / 8) + r.val
    rw [e0]; omega
  · show win0_0.index t 1 * 1024 + 1 * k.val = k.val
    rw [e1]; omega

/-- The modulation's block: the sequence's row. -/
theorem modulation_block (t : Fin cfg0.N) (k : Fin 3072) : iblk m c 1 t (ix3 0 0 k) = MOD m c (ix2 (seqOf t) k) := by
  obtain ⟨-, ⟨e0, e1, e2⟩, -⟩ := named_rows t
  unfold iblk
  rw [View.read_apply]
  show V m c main_v3 _ = _
  rw [(V_reshaped m c).2.1]
  refine shapeCast_apply _ _ _ _ ?_
  rw [Shape.rowMajor_val_three, Shape.rowMajor_val_two]
  show t.val / 8 * 3072 + k.val = ((win0_1.index t 0 * 1 + 1 * 0) * 1 + (win0_1.index t 1 * 1 + 1 * 0)) * 3072
    + (win0_1.index t 2 * 3072 + 1 * k.val)
  rw [e0, e1, e2]; omega

/-- The gain's block: all of it. -/
theorem gain_block (t : Fin cfg0.N) (k : Fin 1024) : iblk m c 2 t (ix2 0 k) = GAIN m c (ix1 k) := by
  obtain ⟨-, -, e0, e1⟩ := named_rows t
  unfold iblk
  rw [View.read_apply]
  show V m c main_v4 _ = _
  rw [(V_reshaped m c).2.2]
  refine shapeCast_apply _ _ _ _ ?_
  rw [Shape.rowMajor_val_two, Shape.rowMajor_val_one]
  show k.val = (win0_2.index t 0 * 1 + 1 * 0) * 1024 + (win0_2.index t 1 * 1024 + 1 * k.val)
  rw [e0, e1]; omega

/-- The weights' block: the point's columns. -/
theorem weight_block (t : Fin cfg0.N) (e : Fin 1024) (k : Fin 768) : iblk m c 3 t (ix3 0 e k) = W m c (ix2 e (colOf t k)) := by
  obtain ⟨⟨e0, e1, e2⟩, -⟩ := named_columns t
  unfold iblk
  rw [View.read_apply]
  show V m c main_v1 _ = _
  rw [V_grouped m c]
  refine (transpose_apply _ _ _ _ (ix3 e ⟨t.val % 8 / 2, by omega⟩ ⟨768 * (t.val % 2) + k.val, by omega⟩) ?_).trans ?_
  · intro b
    match b with
    | ⟨0, _⟩ =>
      show t.val % 8 / 2 = win0_3.index t 0 * 1 + 1 * 0
      rw [e0]; omega
    | ⟨1, _⟩ =>
      show e.val = win0_3.index t 1 * 1024 + 1 * e.val
      rw [e1]; omega
    | ⟨2, _⟩ =>
      show 768 * (t.val % 2) + k.val = win0_3.index t 2 * 768 + 1 * k.val
      rw [e2]; omega
  refine shapeCast_apply _ _ _ _ ?_
  rw [Shape.rowMajor_val_three, Shape.rowMajor_val_two]
  show e.val * 6144 + (768 * (t.val % 8) + k.val) = (e.val * 4 + t.val % 8 / 2) * 1536 + (768 * (t.val % 2) + k.val)
  omega

/-! ## What a point leaves -/

/-- The rows a point's tile holds are the modulated norms of its sequence's rows. -/
theorem rows_apply (t : Fin cfg0.N) (r : Fin 2048) (k : Fin 1024) : rows m c t (ix2 r k) = normed m c (seqOf t) r k := by
  have h (x : Vec Ideal S2048x1024 .f32) (s : Vec Ideal S1x1x3072 .f32) (g : Vec Ideal S1x1024 .f32) :
      k0_pay1 (F := Ideal) x s g (ix2 r k)
        = (x (ix2 r k) * Ideal.rsqrt (Ideal.div (∑ e : Fin 1024, x (ix2 r e) * x (ix2 r e)) (Ideal.ofBits .f32 0x44800000#32)
              + Ideal.ofBits .f32 0x358637BD#32) * g (ix2 0 k) * (1 + s (ix3 0 0 ⟨1024 + k.val, by omega⟩))
            + s (ix3 0 0 ⟨k.val, by omega⟩) : EReal) := by
    unfold_payloads
    pointwise
  unfold rows normed
  rw [h]
  simp only [stream_block, modulation_block, gain_block]

/-- The product a point leaves is the projection's on its rows and columns. -/
theorem product_apply (t : Fin cfg0.N) (r : Fin 2048) (k : Fin 768) :
    k0_pay2 (F := Ideal) (rows m c t) (iblk m c 3 t) (ix2 r k) = projected m c (seqOf t) r (colOf t k) := by
  have h (x : Vec Ideal S2048x1024 .bf16) (w : Vec Ideal S1x1024x768 .bf16) :
      k0_pay2 (F := Ideal) x w (ix2 r k) = (∑ e : Fin 1024, x (ix2 r e) * w (ix3 0 e k) : EReal) := by
    unfold_payloads
    pointwise
  rw [h]
  exact Finset.sum_congr rfl fun e _ => by rw [rows_apply, weight_block]

/-! ## The reference at an index -/

open Cert.InpRefIdeal.Read

/-- The reference's modulated norm. -/
theorem ref_normed (b : Fin 2) (p : Fin 2048) (k : Fin 1024) :
    val_main_v22 (F := Ideal) (X m c) (MOD m c) (GAIN m c) (ix3 b p k) = normed m c b p k := by
  have i1 (e : Fin 1024) : idx_main_v5 (idx_main_v6 (idx_main_v12 (ix3 b p k))) e = ix3 b p e := ext3 rfl rfl rfl
  have i2 : idx_main_v14 (idx_main_v15 (ix3 b p k)) = ix1 k := by
    funext a
    match a with
    | ⟨0, _⟩ => rfl
  have i3 : idx_main_v2 (idx_main_v3 (idx_main_v19 (ix3 b p k))) = ix2 b ⟨1024 + k.val, by omega⟩ := Shape.idx_ext₂ rfl rfl
  have i4 : idx_main_v0 (idx_main_v1 (idx_main_v21 (ix3 b p k))) = ix2 b ⟨k.val, by omega⟩ := Shape.idx_ext₂ rfl rfl
  have z : val_main_cst (F := Ideal) (Shape.Idx.first InpRefIdeal.Gen.h_S_) = (0 : EReal) := by
    rw [val_main_cst_apply]; pointwise
  have o (j) : val_main_cst_2 (F := Ideal) j = (1 : EReal) := by
    rw [val_main_cst_2_apply]; pointwise
  rw [val_main_v22_apply, val_main_v20_apply, val_main_v16_apply, val_main_v13_apply, val_main_v12_apply, val_main_v11_apply,
    val_main_v10_apply, val_main_v8_apply, val_main_v6_apply, val_main_v5_apply, val_main_v7_apply, val_main_v9_apply,
    val_main_v15_apply, val_main_v14_apply, val_main_v19_apply, val_main_v18_apply, val_main_v17_apply, val_main_v3_apply,
    val_main_v2_apply, val_main_v21_apply, val_main_v1_apply, val_main_v0_apply, i2, i3, i4, z, o, zero_add]
  simp only [i1, val_main_v4_apply]
  rfl

/-- The reference's rounded norms, flattened. -/
theorem ref_rows (t : Fin cfg0.N) (r : Fin 2048) (k : Fin 1024) :
    val_main_v27 (F := Ideal) (X m c) (MOD m c) (GAIN m c) (ix2 (flatOf t r) k) = normed m c (seqOf t) r k :=
  (flat_rows (val_main_v26 (F := Ideal) (X m c) (MOD m c) (GAIN m c)) t r k).trans (ref_normed m c (seqOf t) r k)

/-- The reference's projection, flattened. -/
theorem ref_projected (t : Fin cfg0.N) (r : Fin 2048) (n : Fin 6144) :
    val_main_v25 (F := Ideal) (X m c) (MOD m c) (GAIN m c) (W m c) (ix2 (flatOf t r) n) = projected m c (seqOf t) r n := by
  refine (shapeCast_apply (val_main_v24 (F := Ideal) (X m c) (MOD m c) (GAIN m c) (W m c)) _ _ (ix3 (seqOf t) r n) ?_).trans ?_
  · rw [Shape.rowMajor_val_three, Shape.rowMajor_val_two]
    show ((t.val / 8) * 2048 + r.val) * 6144 + n.val = (2048 * (t.val / 8) + r.val) * 6144 + n.val
    omega
  · rw [val_main_v24_apply]
    refine Finset.sum_congr rfl fun e _ => ?_
    rw [show lidx_main_v24 (ix3 (seqOf t) r n) e = ix3 (seqOf t) r e from ext3 rfl rfl rfl, ref_normed, val_main_v23_apply]
    exact congrArg (fun i => normed m c (seqOf t) r e * W m c i) (Shape.idx_ext₂ rfl rfl)

/-! ## What a run leaves -/

/-- A run ends with the two output arrays as the pipeline's write-backs make them and the arguments as launched. -/
theorem run_arrays (ρ : Dev nD → PrngReg) :
    θ_run defs (onTc (τ := τ) (main (F := Ideal))) ⟨m, fun _ => 0, ρ⟩ fun r => ∀ c : Dev nD,
      (r.2.mem ((c : Thread nD τ).loc main_v5_0) = (leaves m 0 c).arrAt 4 cfg0.N
        ∧ r.2.mem ((c : Thread nD τ).loc main_v5_1) = (leaves m 0 c).arrAt 5 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono ?_ (θ_run_and (runs m ρ) (keeps m ρ))
  exact fun _ h c => ⟨⟨(h.1.1 c).1 4, (h.1.1 c).1 5⟩, h.2.1 c⟩

end Cert.InpFwdIdeal.Rows
-- ==== Proof.Inp.Final.lean ====
/-
  The input projection's forward call against the reference: both output arrays end holding the reference's terms.
-/
module

public import proofs.«01_k».proof.Proof.Inp.Value

@[expose] public section

set_option maxRecDepth 16384

noncomputable section

namespace Cert.InpFwdIdeal.Rows

open Cert.InpFwdIdeal Cert.InpFwdIdeal.Gen Idealize.ShloMosaic Idealize.ShloMosaic.TcCoe Idealize.SL.Sem
open Idealize.ShloMosaic.Pipeline (Dat)
open Cert.InpRefIdeal.Read

variable (m : (ℓ : Loc nD τ sig) → Buf (Elt Ideal) ℓ) (c : Dev nD)

/-! ## Which point writes an element back -/

/-- Every element of the projection is in the block of the point of its sequence and its columns, which writes it back. -/
theorem cover4 (i : S4096x6144.Idx) : ∃ t, (cfg0.win 4).flush t = true ∧ i ∈ ((cfg0.win 4).blk t).view.set := by
  have h0 : (i 0 : Nat) < 4096 := (i 0).isLt
  have h1 : (i 1 : Nat) < 6144 := (i 1).isLt
  have hN : cfg0.N = 16 := N_0
  obtain ⟨t, ht⟩ : ∃ t : Fin cfg0.N, t.val = (i 0).val / 2048 * 8 + (i 1).val / 768 := ⟨⟨_, by rw [hN]; omega⟩, rfl⟩
  obtain ⟨-, ⟨e0, e1⟩, -⟩ := named_columns t
  refine ⟨t, flush0_4 _, ?_⟩
  show i ∈ ((View.whole main_v5_0).slice (win0_4.rect t)).set
  rw [View.set_slice_whole, Rect.mem_set_unit]
  intro a
  match a with
  | ⟨0, _⟩ =>
    show win0_4.index t 0 * 2048 ≤ (i 0 : Nat) ∧ (i 0 : Nat) < win0_4.index t 0 * 2048 + 2048
    rw [e0]; omega
  | ⟨1, _⟩ =>
    show win0_4.index t 1 * 768 ≤ (i 1 : Nat) ∧ (i 1 : Nat) < win0_4.index t 1 * 768 + 768
    rw [e1]; omega

/-- Every element of the saved norm is in its sequence's block, written back at the sequence's last point. -/
theorem cover5 (i : S4096x1024.Idx) : ∃ t, (cfg0.win 5).flush t = true ∧ i ∈ ((cfg0.win 5).blk t).view.set := by
  have h0 : (i 0 : Nat) < 4096 := (i 0).isLt
  have h1 : (i 1 : Nat) < 1024 := (i 1).isLt
  have hN : cfg0.N = 16 := N_0
  obtain ⟨t, ht⟩ : ∃ t : Fin cfg0.N, t.val = (i 0).val / 2048 * 8 + 7 := ⟨⟨_, by rw [hN]; omega⟩, rfl⟩
  obtain ⟨-, -, e0, e1⟩ := named_columns t
  refine ⟨t, (flush0_5 t).mpr (by omega), ?_⟩
  show i ∈ ((View.whole main_v5_1).slice (win0_5.rect t)).set
  rw [View.set_slice_whole, Rect.mem_set_unit]
  intro a
  match a with
  | ⟨0, _⟩ =>
    show win0_5.index t 0 * 2048 ≤ (i 0 : Nat) ∧ (i 0 : Nat) < win0_5.index t 0 * 2048 + 2048
    rw [e0]; omega
  | ⟨1, _⟩ =>
    show win0_5.index t 1 * 1024 ≤ (i 1 : Nat) ∧ (i 1 : Nat) < win0_5.index t 1 * 1024 + 1024
    rw [e1]; omega

/-! ## The arrays after the run -/

/-- The projection is the reference's. -/
theorem final4 : (leaves m 0 c).arrAt 4 cfg0.N = val_main_v25 (F := Ideal) (X m c) (MOD m c) (GAIN m c) (W m c) := by
  refine (leaves m 0 c).arrAt_eq_of_cover 4 _ (fun t _ => ?_) cover4
  obtain ⟨-, ⟨e0, e1⟩, -⟩ := named_columns t
  show (cfg0.win 4).cut (grid0.coords t) ((leaves m 0 c).after 4 t) = _
  rw [left4]
  funext y
  refine (congrArg (k0_pay2 (F := Ideal) (rows m c t) (iblk m c 3 t)) (eq_ix2 (n0 := 2048) (n1 := 768) y)).trans ?_
  refine ((product_apply m c t (y 0) (y 1)).trans (ref_projected m c t (y 0) (colOf t (y 1))).symm).trans ?_
  rw [View.read_apply]
  refine congrArg (val_main_v25 (F := Ideal) (X m c) (MOD m c) (GAIN m c) (W m c)) (Shape.idx_ext₂ ?_ ?_)
  · show 2048 * (t.val / 8) + (y 0).val = win0_4.index t 0 * 2048 + 1 * (y 0).val
    rw [e0]; omega
  · show 768 * (t.val % 8) + (y 1).val = win0_4.index t 1 * 768 + 1 * (y 1).val
    rw [e1]; omega

/-- The saved norm is the reference's. -/
theorem final5 : (leaves m 0 c).arrAt 5 cfg0.N = val_main_v27 (F := Ideal) (X m c) (MOD m c) (GAIN m c) := by
  refine (leaves m 0 c).arrAt_eq_of_cover 5 _ (fun t _ => ?_) cover5
  obtain ⟨-, -, e0, e1⟩ := named_columns t
  show (cfg0.win 5).cut (grid0.coords t) ((leaves m 0 c).after 5 t) = _
  rw [left5]
  funext y
  refine (congrArg (rows m c t) (eq_ix2 (n0 := 2048) (n1 := 1024) y)).trans ?_
  refine ((rows_apply m c t (y 0) (y 1)).trans (ref_rows m c t (y 0) (y 1)).symm).trans ?_
  rw [View.read_apply]
  refine congrArg (val_main_v27 (F := Ideal) (X m c) (MOD m c) (GAIN m c)) (Shape.idx_ext₂ ?_ ?_)
  · show 2048 * (t.val / 8) + (y 0).val = win0_5.index t 0 * 2048 + 1 * (y 0).val
    rw [e0]; omega
  · show (y 1).val = win0_5.index t 1 * 1024 + 1 * (y 1).val
    rw [e1]; omega

end Cert.InpFwdIdeal.Rows
-- ==== Proof.Inp.Claims.lean ====
/-
  The claims about the input projection's forward call, assembled: the kernel's two frames from one run, the reference's
  frame, and the equality of the two programs.
-/
module

public import proofs.«01_k».proof.Defs
public import proofs.«01_k».proof.Proof.Inp.Final
public import proofs.«01_k».proof.Proof.Gen.InpFwd
public import proofs.«01_k».proof.Proof.Gen.InpRefIdeal
public import proofs.«01_k».proof.Proof.Gen.InpRefIdeal.Run
public import Idealize.ShloMosaic.Lib.Quiescent

@[expose] public section

set_option maxRecDepth 16384

noncomputable section

namespace Cert.Proof.Inp

open Idealize.ShloMosaic Idealize.ShloMosaic.TcCoe Idealize.ShloMosaic.Tactic Idealize.SL.Sem

/-- Over words the program as printed and its idealization are one program: no operation was rewritten. -/
theorem same_run (m : (ℓ : Loc Cert.InpFwd.nD Cert.InpFwd.τ Cert.InpFwd.sig) → Buf (Elt Bits) ℓ)
    (ρ : Dev Cert.InpFwd.nD → PrngReg) (Q) :
    θ_run (Cert.InpFwd.defs (F := Bits)) (onTc (τ := Cert.InpFwd.τ) (Cert.InpFwd.main (F := Bits))) ⟨m, fun _ => 0, ρ⟩ Q
      = θ_run (Cert.InpFwdIdeal.defs (F := Bits)) (onTc (τ := Cert.InpFwdIdeal.τ) (Cert.InpFwdIdeal.main (F := Bits)))
          ⟨m, fun _ => 0, ρ⟩ Q := by
  sl_kernel_rfl

/-- Over words the kernel runs, keeps its arguments, and leaves every semaphore at zero. -/
theorem frame_word : quiescent_InpFwd := fun m ρ _ =>
  (same_run m ρ _).mpr (Cert.InpFwdIdeal.Rows.keeps (F := Bits) m ρ)

/-- And over the extended reals. -/
theorem frame_ideal : quiescent_InpFwdIdeal := fun m ρ _ => Cert.InpFwdIdeal.Rows.keeps (F := Ideal) m ρ

/-- The reference runs, keeps its arguments, and has no semaphore. -/
theorem frame_ref : quiescent_InpRefIdeal := fun m ρ _ =>
  (θ_run Cert.InpRefIdeal.defs _ _).mono
    (fun r h => ⟨fun c => (h c).2.2,
      Idealize.ShloMosaic.sem_eq_zero_of_no_sems (by decide) r.2⟩)
    (Cert.InpRefIdeal.Value.run (F := Ideal) m ρ)

/-- From the same arguments the kernel's two results and the reference's are the same arrays over the extended reals. -/
theorem algebraic : algebraic_InpFwdIdeal_InpRefIdeal := by
  intro m ρ m' ρ' _ hagree
  refine ⟨fun c => Cert.InpRefIdeal.Read.val_main_v25 (F := Ideal) (InpFwdIdeal.Rows.X m c) (InpFwdIdeal.Rows.MOD m c)
      (InpFwdIdeal.Rows.GAIN m c) (InpFwdIdeal.Rows.W m c),
    fun c => Cert.InpRefIdeal.Read.val_main_v27 (F := Ideal) (InpFwdIdeal.Rows.X m c) (InpFwdIdeal.Rows.MOD m c)
      (InpFwdIdeal.Rows.GAIN m c), ?_, ?_⟩
  · refine (θ_run Cert.InpFwdIdeal.defs _ _).mono (fun r h c => ?_) (Cert.InpFwdIdeal.Rows.run_arrays m ρ)
    obtain ⟨⟨h4, h5⟩, rest⟩ := h c
    exact ⟨h4.trans (InpFwdIdeal.Rows.final4 m c), h5.trans (InpFwdIdeal.Rows.final5 m c), rest⟩
  · refine (θ_run Cert.InpRefIdeal.defs _ _).mono (fun r h c => ?_) (Cert.InpRefIdeal.Value.run (F := Ideal) m' ρ')
    obtain ⟨h0, h1, rest⟩ := h c
    obtain ⟨e0, e1, e2, e3⟩ := hagree c
    rw [e0, e1, e2, e3] at h0
    rw [e0, e1, e2] at h1
    exact ⟨h0.trans (Cert.InpRefIdeal.Read.val_main_v25_eq _ _ _ _), h1.trans (Cert.InpRefIdeal.Read.val_main_v27_eq _ _ _), rest⟩

end Cert.Proof.Inp

end
-- ==== Proof.Ada.Spec.lean ====
/-
  The mathematics of the modulation's weights and bias: the logistic function by the hyperbolic tangent, and the
  optimiser's step, over the extended reals.
-/
module

public import proofs.«01_k».proof.Proof.Sgu.Spec
public import Idealize.ShloMosaic.Lib.Pointwise

@[expose] public section

noncomputable section

namespace Ada

open Idealize.ShloMosaic

/-- A first moment after a gradient. -/
def first (g p : EReal) : EReal := Ideal.ofBits .f32 0x3F666666#32 * p + Ideal.ofBits .f32 0x3DCCCCCD#32 * g

/-- A second moment after a gradient. -/
def second (g q : EReal) : EReal := Ideal.ofBits .f32 0x3F7FBE77#32 * q + Ideal.ofBits .f32 0x3A83126F#32 * (g * g)

/-- The change of a weight, from itself and its two moments. -/
def change (w p q : EReal) : EReal :=
  Ideal.ofBits .f32 0xBA83126F#32
    * (Ideal.div (Ideal.div p (Ideal.ofBits .f32 0x3F26BD02#32))
          (Ideal.sqrt (Ideal.div q (Ideal.ofBits .f32 0x3C231ACC#32)) + Ideal.ofBits .f32 0x322BCC77#32)
        + Ideal.ofBits .f32 0x3C23D70A#32 * w)

/-- The kernel's form of the logistic function, by the hyperbolic tangent, is the function: at the infinities too. -/
theorem logistic_tanh (x : EReal) :
    Ideal.ofBits .f32 0x3F000000#32 * Ideal.tanh (Ideal.ofBits .f32 0x3F000000#32 * x) + Ideal.ofBits .f32 0x3F000000#32
      = Ideal.logistic x := by
  rw [Sgu.ofBits_half]
  have hp : (0 : ℝ) < 1 / 2 := by norm_num
  induction x with
  | bot =>
    rw [EReal.coe_mul_bot_of_pos hp, Ideal.tanh_bot, Ideal.logistic_bot, mul_neg_one]
    norm_cast
    norm_num
  | top =>
    rw [EReal.coe_mul_top_of_pos hp, Ideal.tanh_top, Ideal.logistic_top, mul_one]
    norm_cast
    norm_num
  | coe r =>
    rw [← EReal.coe_mul, Ideal.tanh_coe, Ideal.logistic_coe, ← EReal.coe_mul, ← EReal.coe_add, EReal.coe_eq_coe_iff,
      Real.tanh_eq_sinh_div_cosh, Real.sinh_eq, Real.cosh_eq, show -r = -(1 / 2 * r) + -(1 / 2 * r) by ring, Real.exp_add, Real.exp_neg]
    have h := Real.exp_pos (1 / 2 * r)
    generalize Real.exp (1 / 2 * r) = E at h ⊢
    field_simp
    ring

theorem ext3 {n0 n1 n2 : Nat} {i j : (⟨3, ![n0, n1, n2]⟩ : Shape).Idx} (h0 : i 0 = j 0) (h1 : i 1 = j 1) (h2 : i 2 = j 2) : i = j := by
  funext a
  match a with
  | ⟨0, _⟩ => exact h0
  | ⟨1, _⟩ => exact h1
  | ⟨2, _⟩ => exact h2

theorem zeros2 : (![0, 0] : Fin 2 → Nat) = fun _ => 0 := by
  funext a
  match a with
  | ⟨0, _⟩ => rfl
  | ⟨1, _⟩ => rfl

theorem zeros3 : (![0, 0, 0] : Fin 3 → Nat) = fun _ => 0 := by
  funext a
  match a with
  | ⟨0, _⟩ => rfl
  | ⟨1, _⟩ => rfl
  | ⟨2, _⟩ => rfl

end Ada
-- ==== Proof.Ada.Value.lean ====
/-
  The call that forms the gradient of the modulation's weights and takes their optimiser step, read as values over the
  extended reals: what a grid point leaves in its four output blocks, and what the reference holds there.
-/
module

public import proofs.«01_k».proof.Proof.Gen.AdaBwdIdeal.Frame
public import proofs.«01_k».proof.Proof.Gen.AdaBwdIdeal.Value
public import proofs.«01_k».proof.Proof.Gen.AdaRefIdeal.Read
public import proofs.«01_k».proof.Proof.Ada.Spec
public import Idealize.ShloMosaic.Lib.Pipeline.Value
public import Idealize.ShloMosaic.Lib.Pointwise

@[expose] public section

set_option maxRecDepth 16384

noncomputable section

namespace Cert.AdaBwdIdeal.Layers

open Cert.AdaBwdIdeal Cert.AdaBwdIdeal.Gen Idealize.ShloMosaic Idealize.ShloMosaic.TcCoe Idealize.SL.Sem Ada

variable (m : (ℓ : Loc nD τ sig) → Buf (Elt Ideal) ℓ) (c : Dev nD)

/-- The conditioning rows of every sequence. -/
abbrev C : Vec Ideal S16x1024 .f32 := m ((c : Thread nD τ).loc main_arg0)
/-- The modulation's cotangent, layer by layer. -/
abbrev DMOD : Vec Ideal S2x16x768 .f32 := m ((c : Thread nD τ).loc main_arg1)
/-- The weights. -/
abbrev W : Vec Ideal S2x1024x768 .f32 := m ((c : Thread nD τ).loc main_arg2)
/-- The optimiser's first moment. -/
abbrev M : Vec Ideal S2x1024x768 .f32 := m ((c : Thread nD τ).loc main_arg3)
/-- The optimiser's second moment. -/
abbrev U : Vec Ideal S2x1024x768 .f32 := m ((c : Thread nD τ).loc main_arg4)

/-! ## The mathematics -/

/-- The gradient of a weight: the sum over sequences of the activated condition times the cotangent. -/
def grad (l : Fin 2) (e : Fin 1024) (k : Fin 768) : EReal :=
  ∑ b : Fin 16, C m c (ix2 b e) * Ideal.logistic (C m c (ix2 b e)) * DMOD m c (ix3 l b k)

/-! ## The blocks a point works on -/

/-- A point is a layer. -/
abbrev layer (t : Fin cfg0.N) : Fin 2 := ⟨t.val, by have := t.isLt; have : cfg0.N = 2 := N_0; omega⟩

/-- The blocks at a point: the whole condition, and the layer of the other arrays. -/
theorem named_blocks : ∀ t : Fin grid0.N,
    (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0) := by
  decide +kernel

/-- The index of an array of two layers that element `x` of point `t`'s block of it is. -/
abbrev inLayer (t : Fin cfg0.N) (x : S1x1024x768.Idx) : S2x1024x768.Idx := ix3 (layer t) (x 1) (x 2)

/-- Where a block of the weights, of a moment or of a result lies. -/
theorem layer_idx (t : Fin cfg0.N) (x : S1x1024x768.Idx) (i : S2x1024x768.Idx) (h0 : (i 0).val = win0_2.index t 0 * 1 + 1 * (x 0).val)
    (h1 : (i 1).val = win0_2.index t 1 * 1024 + 1 * (x 1).val) (h2 : (i 2).val = win0_2.index t 2 * 768 + 1 * (x 2).val) :
    i = inLayer t x := by
  obtain ⟨-, -, e0, e1, e2⟩ := named_blocks t
  rw [e0] at h0; rw [e1] at h1; rw [e2] at h2
  have : (x 0).val < 1 := (x 0).isLt
  refine ext3 (Fin.ext ?_) (Fin.ext ?_) (Fin.ext ?_)
  · show (i 0).val = t.val
    omega
  · show (i 1).val = (x 1).val
    omega
  · show (i 2).val = (x 2).val
    omega

/-- The condition's block: all of it. -/
theorem condition_block (t : Fin cfg0.N) (b : Fin 16) (e : Fin 1024) : iblk m c 0 t (ix2 b e) = C m c (ix2 b e) := by
  obtain ⟨⟨e0, e1⟩, -⟩ := named_blocks t
  unfold iblk
  rw [View.read_apply]
  show V m c main_arg0 _ = _
  rw [V_main_arg0]
  refine congrArg (C m c) (Shape.idx_ext₂ ?_ ?_)
  · show win0_0.index t 0 * 16 + 1 * b.val = b.val
    rw [e0]; omega
  · show win0_0.index t 1 * 1024 + 1 * e.val = e.val
    rw [e1]; omega

/-- The cotangent's block: the layer. -/
theorem cotangent_block (t : Fin cfg0.N) (b : Fin 16) (k : Fin 768) :
    iblk m c 1 t (ix3 0 b k) = DMOD m c (ix3 (layer t) b k) := by
  obtain ⟨-, ⟨e0, e1, e2⟩, -⟩ := named_blocks t
  unfold iblk
  rw [View.read_apply]
  show V m c main_arg1 _ = _
  rw [V_main_arg1]
  refine congrArg (DMOD m c) (ext3 (Fin.ext ?_) (Fin.ext ?_) (Fin.ext ?_))
  · show win0_1.index t 0 * 1 + 1 * 0 = t.val
    rw [e0]; omega
  · show win0_1.index t 1 * 16 + 1 * b.val = b.val
    rw [e1]; omega
  · show win0_1.index t 2 * 768 + 1 * k.val = k.val
    rw [e2]; omega

/-- The blocks of the weights and of the two moments. -/
theorem layer_blocks (t : Fin cfg0.N) (x : S1x1024x768.Idx) :
    iblk m c 2 t x = W m c (inLayer t x) ∧ iblk m c 3 t x = M m c (inLayer t x) ∧ iblk m c 4 t x = U m c (inLayer t x) := by
  unfold iblk
  refine ⟨?_, ?_, ?_⟩ <;> rw [View.read_apply]
  · show V m c main_arg2 _ = _
    rw [V_main_arg2]
    exact congrArg (W m c) (layer_idx t x _ rfl rfl rfl)
  · show V m c main_arg3 _ = _
    rw [V_main_arg3]
    exact congrArg (M m c) (layer_idx t x _ rfl rfl rfl)
  · show V m c main_arg4 _ = _
    rw [V_main_arg4]
    exact congrArg (U m c) (layer_idx t x _ rfl rfl rfl)

/-! ## What a point leaves -/

/-- The product a point computes is the gradient of its layer. -/
theorem product_apply (t : Fin cfg0.N) (e : Fin 1024) (k : Fin 768) :
    k0_pay5 (F := Ideal) (iblk m c 0 t) (iblk m c 1 t) (ix2 e k) = grad m c (layer t) e k := by
  have h (x : Vec Ideal S16x1024 .f32) (d : Vec Ideal S1x16x768 .f32) :
      k0_pay5 (F := Ideal) x d (ix2 e k) = (∑ b : Fin 16, x (ix2 b e) * Ideal.logistic (x (ix2 b e)) * d (ix3 0 b k) : EReal) := by
    simp only [← logistic_tanh]
    unfold_payloads
    pointwise
  rw [h]
  exact Finset.sum_congr rfl fun b _ => by rw [condition_block, cotangent_block]

/-- The first moment a point computes. -/
theorem first_apply (t : Fin cfg0.N) (e : Fin 1024) (k : Fin 768) :
    k0_pay7 (F := Ideal) (iblk m c 0 t) (iblk m c 1 t) (iblk m c 3 t) (ix2 e k)
      = first (grad m c (layer t) e k) (M m c (ix3 (layer t) e k)) := by
  rw [← product_apply]
  refine Eq.trans ?_ (congrArg (first _) (layer_blocks m c t (ix3 0 e k)).2.1)
  unfold k0_pay7 first
  generalize k0_pay5 (F := Ideal) (iblk m c 0 t) (iblk m c 1 t) = g
  generalize iblk m c 3 t = p
  pointwise

/-- The second moment a point computes. -/
theorem second_apply (t : Fin cfg0.N) (e : Fin 1024) (k : Fin 768) :
    k0_pay8 (F := Ideal) (iblk m c 0 t) (iblk m c 1 t) (iblk m c 4 t) (ix2 e k)
      = second (grad m c (layer t) e k) (U m c (ix3 (layer t) e k)) := by
  rw [← product_apply]
  refine Eq.trans ?_ (congrArg (second _) (layer_blocks m c t (ix3 0 e k)).2.2)
  unfold k0_pay8 second
  generalize k0_pay5 (F := Ideal) (iblk m c 0 t) (iblk m c 1 t) = g
  generalize iblk m c 4 t = q
  pointwise

/-- The change from a weight and two moments. -/
theorem change_apply (x : Vec Ideal S16x1024 .f32) (d : Vec Ideal S1x16x768 .f32) (w p : Vec Ideal S1x1024x768 .f32)
    (q : FVec Ideal S1024x768 .f32) (e : Fin 1024) (k : Fin 768) :
    k0_pay2 (F := Ideal) (k0_pay6 w) q (k0_pay9 x d p) k0_pay10 (ix3 0 e k)
      = change (w (ix3 0 e k)) (k0_pay7 (F := Ideal) x d p (ix2 e k)) (q (ix2 e k)) := by
  unfold k0_pay2 k0_pay6 k0_pay9 k0_pay10 change
  generalize k0_pay7 (F := Ideal) x d p = g
  pointwise

/-- The gradient, as the array of both layers. -/
def gradients : S2x1024x768.Idx → EReal := fun i => grad m c (i 0) (i 1) (i 2)
/-- The first moments after the step. -/
def firsts : S2x1024x768.Idx → EReal := fun i => first (gradients m c i) (M m c i)
/-- The second moments after the step. -/
def seconds : S2x1024x768.Idx → EReal := fun i => second (gradients m c i) (U m c i)
/-- The changes of the weights. -/
def changes : S2x1024x768.Idx → EReal := fun i => change (W m c i) (firsts m c i) (seconds m c i)

/-- The kernel relays a layer's array of 1024 rows as a block of one layer. -/
theorem relaid (v : FVec Ideal S1024x768 .f32) (x : S1x1024x768.Idx) :
    shapeCast S1x1024x768 v shapeCasts_S1024x768_S1x1024x768 x = v (ix2 (x 1) (x 2)) := by
  refine shapeCast_apply _ _ _ _ ?_
  rw [Shape.rowMajor_val_three, Shape.rowMajor_val_two]
  have : (x 0).val < 1 := (x 0).isLt
  show (x 1).val * 768 + (x 2).val = ((x 0).val * 1024 + (x 1).val) * 768 + (x 2).val
  omega

/-- The four blocks a point leaves: its layer of the gradient, of the changes and of the two moments. -/
theorem left_gradient (t : Fin cfg0.N) (x : S1x1024x768.Idx) :
    out0_5 (iblk m c 0 t) (iblk m c 1 t) (iblk m c 2 t) (iblk m c 3 t) (iblk m c 4 t) x = gradients m c (inLayer t x) := by
  unfold out0_5
  rw [View.canon_unit_zero zeros3, View.ld_unit_zero (S := S16x1024) zeros2, View.ld_unit_zero (S := S1x16x768) zeros3]
  exact (relaid _ x).trans (product_apply m c t (x 1) (x 2))

theorem left_first (t : Fin cfg0.N) (x : S1x1024x768.Idx) :
    out0_7 (iblk m c 0 t) (iblk m c 1 t) (iblk m c 2 t) (iblk m c 3 t) (iblk m c 4 t) x = firsts m c (inLayer t x) := by
  unfold out0_7
  rw [View.canon_unit_zero zeros3, View.ld_unit_zero (S := S16x1024) zeros2, View.ld_unit_zero (S := S1x16x768) zeros3,
    View.ld_unit_zero (S := S1x1024x768) zeros3]
  exact (relaid _ x).trans (first_apply m c t (x 1) (x 2))

theorem left_second (t : Fin cfg0.N) (x : S1x1024x768.Idx) :
    out0_8 (iblk m c 0 t) (iblk m c 1 t) (iblk m c 2 t) (iblk m c 3 t) (iblk m c 4 t) x = seconds m c (inLayer t x) := by
  unfold out0_8 k0_pay11
  rw [View.canon_unit_zero zeros3, View.ld_unit_zero (S := S16x1024) zeros2, View.ld_unit_zero (S := S1x16x768) zeros3,
    View.ld_unit_zero (S := S1x1024x768) zeros3]
  exact (relaid _ x).trans (second_apply m c t (x 1) (x 2))

theorem left_change (t : Fin cfg0.N) (x : S1x1024x768.Idx) :
    out0_6 (iblk m c 0 t) (iblk m c 1 t) (iblk m c 2 t) (iblk m c 3 t) (iblk m c 4 t) x = changes m c (inLayer t x) := by
  unfold out0_6 k0_pay11
  rw [View.canon_unit_zero zeros3]
  simp only [View.ld_unit_zero (S := S16x1024) zeros2, View.ld_unit_zero (S := S1x16x768) zeros3,
    View.ld_unit_zero (S := S1x1024x768) zeros3]
  obtain ⟨e, k, rfl⟩ : ∃ (e : Fin 1024) (k : Fin 768), x = ix3 0 e k :=
    ⟨x 1, x 2, ext3 (Fin.ext (by have : (x 0).val < 1 := (x 0).isLt; show (x 0).val = 0; omega)) rfl rfl⟩
  rw [change_apply, first_apply, second_apply, (layer_blocks m c t (ix3 0 e k)).1]
  rfl

/-! ## The reference at an index -/

open Cert.AdaRefIdeal.Read

/-- The reference's activated condition. -/
theorem ref_activated (b : Fin 16) (e : Fin 1024) :
    val_main_v0 (F := Ideal) (C m c) (ix2 b e) = C m c (ix2 b e) * Ideal.logistic (C m c (ix2 b e)) := by
  have o (j) : val_main_call0_cst (F := Ideal) j = (1 : EReal) := by
    rw [val_main_call0_cst_apply]; pointwise
  have o' (j) : val_main_call0_cst_0 (F := Ideal) j = (1 : EReal) := by
    rw [val_main_call0_cst_0_apply]; pointwise
  rw [val_main_v0_apply, val_main_call0_v5_apply, val_main_call0_v4_apply, val_main_call0_v3_apply, val_main_call0_v2_apply,
    val_main_call0_v1_apply, val_main_call0_v0_apply, o, o']
  rfl

/-- The reference's gradient. -/
theorem ref_gradients : val_main_v5 (F := Ideal) (C m c) (DMOD m c) = gradients m c := by
  funext i
  rw [val_main_v5_apply, val_main_v4_apply]
  show _ = ∑ b : Fin 16, C m c (ix2 b (i 1)) * Ideal.logistic (C m c (ix2 b (i 1))) * DMOD m c (ix3 (i 0) b (i 2))
  refine Finset.sum_congr rfl fun b _ => ?_
  rw [val_main_v3_apply, mul_comm]
  refine congrArg₂ (· * ·) ?_ (congrArg (DMOD m c) (ext3 rfl rfl rfl))
  rw [show ridx_main_v4 (idx_main_v5 i) b = ix2 b (i 1) from Shape.idx_ext₂ rfl rfl]
  exact ref_activated m c b (i 1)

/-- The reference's first moments. -/
theorem ref_firsts : val_main_v10 (F := Ideal) (C m c) (DMOD m c) (M m c) = firsts m c := by
  funext i
  rw [val_main_v10_apply, val_main_v9_apply, val_main_v8_apply, val_main_v7_apply, val_main_v6_apply, ref_gradients]
  rfl

/-- The reference's second moments. -/
theorem ref_seconds : val_main_v16 (F := Ideal) (C m c) (DMOD m c) (U m c) = seconds m c := by
  funext i
  rw [val_main_v16_apply, val_main_v15_apply, val_main_v14_apply, val_main_v13_apply, val_main_v12_apply, val_main_v11_apply,
    ref_gradients]
  rfl

/-- The reference's changes of the weights. -/
theorem ref_changes : val_main_v29 (F := Ideal) (C m c) (DMOD m c) (W m c) (M m c) (U m c) = changes m c := by
  funext i
  rw [val_main_v29_apply, val_main_v28_apply, val_main_v27_apply, val_main_v26_apply, val_main_v25_apply, val_main_v24_apply,
    val_main_v23_apply, val_main_v22_apply, val_main_v21_apply, val_main_v20_apply, val_main_v19_apply, val_main_v18_apply,
    val_main_v17_apply, ref_firsts, ref_seconds]
  rfl

/-! ## The arrays after the run -/

/-- Every element of a result is in its layer's block. -/
theorem in_layer (i : S2x1024x768.Idx) : ∃ t : Fin cfg0.N, ∀ a : Fin 3,
    win0_2.index t a * S1x1024x768.size a ≤ (i a).val ∧ (i a).val < win0_2.index t a * S1x1024x768.size a + S1x1024x768.size a := by
  have h0 : (i 0).val < 2 := (i 0).isLt
  have h1 : (i 1).val < 1024 := (i 1).isLt
  have h2 : (i 2).val < 768 := (i 2).isLt
  have hN : cfg0.N = 2 := N_0
  obtain ⟨t, ht⟩ : ∃ t : Fin cfg0.N, t.val = (i 0).val := ⟨⟨(i 0).val, by rw [hN]; exact h0⟩, rfl⟩
  obtain ⟨-, -, e0, e1, e2⟩ := named_blocks t
  refine ⟨t, fun a => ?_⟩
  match a with
  | ⟨0, _⟩ =>
    show win0_2.index t 0 * 1 ≤ (i 0).val ∧ (i 0).val < win0_2.index t 0 * 1 + 1
    rw [e0]; omega
  | ⟨1, _⟩ =>
    show win0_2.index t 1 * 1024 ≤ (i 1).val ∧ (i 1).val < win0_2.index t 1 * 1024 + 1024
    rw [e1]; omega
  | ⟨2, _⟩ =>
    show win0_2.index t 2 * 768 ≤ (i 2).val ∧ (i 2).val < win0_2.index t 2 * 768 + 768
    rw [e2]; omega

/-- The gradient's array. -/
theorem final5 : (dats m 0 c).arrAt 5 cfg0.N = val_main_v5 (F := Ideal) (C m c) (DMOD m c) := by
  rw [ref_gradients]
  refine (dats m 0 c).arrAt_eq_of_cover 5 _ (fun t _ => ?_) (fun i => ?_)
  · show (cfg0.win 5).cut (grid0.coords t) ((dats m 0 c).after 5 t) = _
    rw [after0_5]
    funext x
    refine (left_gradient m c t x).trans ?_
    rw [View.read_apply]
    exact congrArg (gradients m c) (layer_idx t x _ rfl rfl rfl).symm
  · obtain ⟨t, ht⟩ := in_layer i
    refine ⟨t, flush0_5 _, ?_⟩
    show i ∈ ((View.whole main_v0_0).slice (win0_5.rect t)).set
    rw [View.set_slice_whole, Rect.mem_set_unit]
    exact ht

/-- The changes' array. -/
theorem final6 : (dats m 0 c).arrAt 6 cfg0.N = val_main_v29 (F := Ideal) (C m c) (DMOD m c) (W m c) (M m c) (U m c) := by
  rw [ref_changes]
  refine (dats m 0 c).arrAt_eq_of_cover 6 _ (fun t _ => ?_) (fun i => ?_)
  · show (cfg0.win 6).cut (grid0.coords t) ((dats m 0 c).after 6 t) = _
    rw [after0_6]
    funext x
    refine (left_change m c t x).trans ?_
    rw [View.read_apply]
    exact congrArg (changes m c) (layer_idx t x _ rfl rfl rfl).symm
  · obtain ⟨t, ht⟩ := in_layer i
    refine ⟨t, flush0_6 _, ?_⟩
    show i ∈ ((View.whole main_v0_1).slice (win0_6.rect t)).set
    rw [View.set_slice_whole, Rect.mem_set_unit]
    exact ht

/-- The first moments' array. -/
theorem final7 : (dats m 0 c).arrAt 7 cfg0.N = val_main_v10 (F := Ideal) (C m c) (DMOD m c) (M m c) := by
  rw [ref_firsts]
  refine (dats m 0 c).arrAt_eq_of_cover 7 _ (fun t _ => ?_) (fun i => ?_)
  · show (cfg0.win 7).cut (grid0.coords t) ((dats m 0 c).after 7 t) = _
    rw [after0_7]
    funext x
    refine (left_first m c t x).trans ?_
    rw [View.read_apply]
    exact congrArg (firsts m c) (layer_idx t x _ rfl rfl rfl).symm
  · obtain ⟨t, ht⟩ := in_layer i
    refine ⟨t, flush0_7 _, ?_⟩
    show i ∈ ((View.whole main_v0_2).slice (win0_7.rect t)).set
    rw [View.set_slice_whole, Rect.mem_set_unit]
    exact ht

/-- The second moments' array. -/
theorem final8 : (dats m 0 c).arrAt 8 cfg0.N = val_main_v16 (F := Ideal) (C m c) (DMOD m c) (U m c) := by
  rw [ref_seconds]
  refine (dats m 0 c).arrAt_eq_of_cover 8 _ (fun t _ => ?_) (fun i => ?_)
  · show (cfg0.win 8).cut (grid0.coords t) ((dats m 0 c).after 8 t) = _
    rw [after0_8]
    funext x
    refine (left_second m c t x).trans ?_
    rw [View.read_apply]
    exact congrArg (seconds m c) (layer_idx t x _ rfl rfl rfl).symm
  · obtain ⟨t, ht⟩ := in_layer i
    refine ⟨t, flush0_8 _, ?_⟩
    show i ∈ ((View.whole main_v0_3).slice (win0_8.rect t)).set
    rw [View.set_slice_whole, Rect.mem_set_unit]
    exact ht

end Cert.AdaBwdIdeal.Layers
-- ==== Proof.Ada.Claims.lean ====
/-
  The claims about the call for the modulation's weights, assembled: the reference's frame and the equality of the two
  programs.
-/
module

public import proofs.«01_k».proof.Defs
public import proofs.«01_k».proof.Proof.Ada.Value
public import proofs.«01_k».proof.Proof.Gen.AdaRefIdeal
public import proofs.«01_k».proof.Proof.Gen.AdaRefIdeal.Run
public import Idealize.ShloMosaic.Lib.Quiescent

@[expose] public section

noncomputable section

namespace Cert.Proof.Ada

open Idealize.ShloMosaic Idealize.SL.Sem

/-- The reference runs, keeps its arguments, and has no semaphore. -/
theorem frame_ref : quiescent_AdaRefIdeal := fun m ρ _ =>
  (θ_run Cert.AdaRefIdeal.defs _ _).mono
    (fun r h => ⟨fun c => (h c).2.2.2.2,
      Idealize.ShloMosaic.sem_eq_zero_of_no_sems (by decide) r.2⟩)
    (Cert.AdaRefIdeal.Value.run (F := Ideal) m ρ)

open AdaBwdIdeal.Layers AdaRefIdeal.Read in
/-- From the same arguments the kernel's four results and the reference's are the same arrays over the extended reals. -/
theorem algebraic : algebraic_AdaBwdIdeal_AdaRefIdeal := by
  intro m ρ m' ρ' _ hagree
  refine ⟨fun c => val_main_v5 (F := Ideal) (C m c) (DMOD m c),
    fun c => val_main_v29 (F := Ideal) (C m c) (DMOD m c) (W m c) (M m c) (U m c),
    fun c => val_main_v10 (F := Ideal) (C m c) (DMOD m c) (M m c),
    fun c => val_main_v16 (F := Ideal) (C m c) (DMOD m c) (U m c), ?_, ?_⟩
  · refine (θ_run Cert.AdaBwdIdeal.defs _ _).mono (fun r h c => ?_) (Cert.AdaBwdIdeal.Value.run_blocks m ρ)
    obtain ⟨h5, h6, h7, h8, rest⟩ := h c
    exact ⟨h5.trans (final5 m c), h6.trans (final6 m c), h7.trans (final7 m c), h8.trans (final8 m c), rest⟩
  · refine (θ_run Cert.AdaRefIdeal.defs _ _).mono (fun r h c => ?_) (Cert.AdaRefIdeal.Value.run (F := Ideal) m' ρ')
    obtain ⟨h0, h1, h2, h3, rest⟩ := h c
    obtain ⟨e0, e1, e2, e3, e4⟩ := hagree c
    rw [e0, e1] at h0
    rw [e0, e1, e2, e3, e4] at h1
    rw [e0, e1, e3] at h2
    rw [e0, e1, e4] at h3
    exact ⟨h0.trans (val_main_v5_eq _ _), h1.trans (val_main_v29_eq _ _ _ _ _), h2.trans (val_main_v10_eq _ _ _),
      h3.trans (val_main_v16_eq _ _ _), rest⟩

end Cert.Proof.Ada

end
-- ==== Proof.Bias.Value.lean ====
/-
  The call that sums the modulation's cotangent into its bias's gradient and takes the bias's optimiser step, read as
  values over the extended reals: its one point's four results, and what the reference holds there.
-/
module

public import proofs.«01_k».proof.Proof.Gen.BiasUpdIdeal.Value
public import proofs.«01_k».proof.Proof.Gen.BiasRefIdeal.Read
public import proofs.«01_k».proof.Proof.Ada.Spec

@[expose] public section

set_option maxRecDepth 16384

noncomputable section

namespace Cert.BiasUpdIdeal.Row

open Cert.BiasUpdIdeal Cert.BiasUpdIdeal.Gen Idealize.ShloMosaic Idealize.ShloMosaic.TcCoe Idealize.SL.Sem Ada

variable (m : (ℓ : Loc nD τ sig) → Buf (Elt Ideal) ℓ) (c : Dev nD)

/-- The modulation's cotangent, sequence by sequence. -/
abbrev DMOD : Vec Ideal S16x2x3072 .f32 := m ((c : Thread nD τ).loc main_arg0)
/-- The bias. -/
abbrev W : Vec Ideal S2x3072 .f32 := m ((c : Thread nD τ).loc main_arg1)
/-- The optimiser's first moment. -/
abbrev M : Vec Ideal S2x3072 .f32 := m ((c : Thread nD τ).loc main_arg2)
/-- The optimiser's second moment. -/
abbrev U : Vec Ideal S2x3072 .f32 := m ((c : Thread nD τ).loc main_arg3)

/-! ## The mathematics, over the call's one row of both layers -/

/-- Where entry `j` of the row is in an array of two layers. -/
abbrev layer (j : Fin 6144) : Fin 2 := ⟨j.val / 3072, by omega⟩
abbrev col (j : Fin 6144) : Fin 3072 := ⟨j.val % 3072, by omega⟩

/-- The gradient: the cotangent's sum over sequences. -/
def grad (j : Fin 6144) : EReal := ∑ b : Fin 16, DMOD m c (ix3 b (layer j) (col j))
/-- The first moment after the step. -/
def moment (j : Fin 6144) : EReal := first (grad m c j) (M m c (ix2 (layer j) (col j)))
/-- The second moment after the step. -/
def square (j : Fin 6144) : EReal := second (grad m c j) (U m c (ix2 (layer j) (col j)))
/-- The bias's change. -/
def delta (j : Fin 6144) : EReal := change (W m c (ix2 (layer j) (col j))) (moment m c j) (square m c j)

/-! ## The blocks: the whole arrays -/

/-- The region finds the arrays as the host's reshapes of them. -/
theorem V_reshaped : V m c main_v0 = shapeCast S16x6144 (DMOD m c) shapeCasts_S16x2x3072_S16x6144
    ∧ V m c main_v1 = shapeCast S1x6144 (W m c) shapeCasts_S2x3072_S1x6144
    ∧ V m c main_v2 = shapeCast S1x6144 (M m c) shapeCasts_S2x3072_S1x6144
    ∧ V m c main_v3 = shapeCast S1x6144 (U m c) shapeCasts_S2x3072_S1x6144 := by
  unfold V
  refine ⟨?_, ?_, ?_, ?_⟩ <;> after_results <;> rfl

/-- An array of two layers as one row. -/
theorem row_of (x : Vec Ideal S2x3072 .f32) (j : Fin 6144) :
    shapeCast S1x6144 x shapeCasts_S2x3072_S1x6144 (ix2 0 j) = x (ix2 (layer j) (col j)) := by
  refine shapeCast_apply _ _ _ _ ?_
  rw [Shape.rowMajor_val_two, Shape.rowMajor_val_two]
  show j.val / 3072 * 3072 + j.val % 3072 = 0 * 6144 + j.val
  omega

/-- Every window names block zero. -/
theorem named_blocks : ∀ t : Fin grid0.N,
    (win0_0.index t 0 = 0 ∧ win0_0.index t 1 = 0) ∧ (win0_1.index t 0 = 0 ∧ win0_1.index t 1 = 0) := by
  decide +kernel

/-- Where an entry of a row's block lies: where it is. -/
theorem row_idx (t : Fin cfg0.N) (x i : S1x6144.Idx) (h0 : (i 0).val = win0_1.index t 0 * 1 + 1 * (x 0).val)
    (h1 : (i 1).val = win0_1.index t 1 * 6144 + 1 * (x 1).val) : i = x := by
  obtain ⟨-, e0, e1⟩ := named_blocks t
  rw [e0] at h0; rw [e1] at h1
  exact Shape.idx_ext₂ (by omega) (by omega)

/-- The cotangent's block. -/
theorem cotangent_block (t : Fin cfg0.N) (b : Fin 16) (j : Fin 6144) :
    iblk m c 0 t (ix2 b j) = DMOD m c (ix3 b (layer j) (col j)) := by
  obtain ⟨⟨e0, e1⟩, -⟩ := named_blocks t
  unfold iblk
  rw [View.read_apply]
  show V m c main_v0 _ = _
  rw [(V_reshaped m c).1]
  refine shapeCast_apply _ _ _ _ ?_
  rw [Shape.rowMajor_val_three, Shape.rowMajor_val_two]
  show (b.val * 2 + j.val / 3072) * 3072 + j.val % 3072 = (win0_0.index t 0 * 16 + 1 * b.val) * 6144 + (win0_0.index t 1 * 6144 + 1 * j.val)
  rw [e0, e1]; omega

/-- The blocks of the bias and of the two moments. -/
theorem row_blocks (t : Fin cfg0.N) (j : Fin 6144) : iblk m c 1 t (ix2 0 j) = W m c (ix2 (layer j) (col j))
    ∧ iblk m c 2 t (ix2 0 j) = M m c (ix2 (layer j) (col j)) ∧ iblk m c 3 t (ix2 0 j) = U m c (ix2 (layer j) (col j)) := by
  obtain ⟨-, v1, v2, v3⟩ := V_reshaped m c
  unfold iblk
  refine ⟨?_, ?_, ?_⟩ <;> rw [View.read_apply]
  · exact (congrArg (V m c main_v1) (row_idx t (ix2 0 j) _ rfl rfl)).trans ((congrFun v1 _).trans (row_of _ j))
  · exact (congrArg (V m c main_v2) (row_idx t (ix2 0 j) _ rfl rfl)).trans ((congrFun v2 _).trans (row_of _ j))
  · exact (congrArg (V m c main_v3) (row_idx t (ix2 0 j) _ rfl rfl)).trans ((congrFun v3 _).trans (row_of _ j))

/-! ## What the point leaves -/

theorem sum_apply (x : Vec Ideal S16x6144 .f32) (j : Fin 6144) : k0_pay1 (F := Ideal) x (ix2 0 j) = (∑ b : Fin 16, x (ix2 b j) : EReal) := by
  unfold_payloads
  pointwise
theorem first_apply (x : Vec Ideal S16x6144 .f32) (p : Vec Ideal S1x6144 .f32) (j : Fin 6144) :
    k0_pay2 (F := Ideal) x p (ix2 0 j) = first (k0_pay1 (F := Ideal) x (ix2 0 j)) (p (ix2 0 j)) := by
  unfold k0_pay2 first
  generalize k0_pay1 (F := Ideal) x = g
  pointwise
theorem second_apply (x : Vec Ideal S16x6144 .f32) (q : Vec Ideal S1x6144 .f32) (j : Fin 6144) :
    k0_pay3 (F := Ideal) x q (ix2 0 j) = second (k0_pay1 (F := Ideal) x (ix2 0 j)) (q (ix2 0 j)) := by
  unfold k0_pay3 second
  generalize k0_pay1 (F := Ideal) x = g
  pointwise
theorem change_apply (x : Vec Ideal S16x6144 .f32) (w p q : Vec Ideal S1x6144 .f32) (j : Fin 6144) :
    k0_pay4 (F := Ideal) x w p q (ix2 0 j)
      = change (w (ix2 0 j)) (k0_pay2 (F := Ideal) x p (ix2 0 j)) (k0_pay3 (F := Ideal) x q (ix2 0 j)) := by
  unfold k0_pay4 change
  generalize k0_pay2 (F := Ideal) x p = f
  generalize k0_pay3 (F := Ideal) x q = s
  pointwise

/-- The four payloads over the point's blocks. -/
theorem payloads (t : Fin cfg0.N) (j : Fin 6144) :
    k0_pay1 (F := Ideal) (iblk m c 0 t) (ix2 0 j) = grad m c j
    ∧ k0_pay4 (F := Ideal) (iblk m c 0 t) (iblk m c 1 t) (iblk m c 2 t) (iblk m c 3 t) (ix2 0 j) = delta m c j
    ∧ k0_pay2 (F := Ideal) (iblk m c 0 t) (iblk m c 2 t) (ix2 0 j) = moment m c j
    ∧ k0_pay3 (F := Ideal) (iblk m c 0 t) (iblk m c 3 t) (ix2 0 j) = square m c j := by
  obtain ⟨e1, e2, e3⟩ := row_blocks m c t j
  have g : k0_pay1 (F := Ideal) (iblk m c 0 t) (ix2 0 j) = grad m c j :=
    (sum_apply _ j).trans (Finset.sum_congr rfl fun b _ => cotangent_block m c t b j)
  have f : k0_pay2 (F := Ideal) (iblk m c 0 t) (iblk m c 2 t) (ix2 0 j) = moment m c j := by
    rw [first_apply, g, e2]; rfl
  have s : k0_pay3 (F := Ideal) (iblk m c 0 t) (iblk m c 3 t) (ix2 0 j) = square m c j := by
    rw [second_apply, g, e3]; rfl
  exact ⟨g, by rw [change_apply, f, s, e1]; rfl, f, s⟩

/-! ## The reference at an index -/

open Cert.BiasRefIdeal.Read

/-- A row, as an array of the call's shape. -/
abbrev asRow (f : Fin 6144 → EReal) : S1x6144.Idx → EReal := fun i => f (i 1)

theorem ref_grad (j : Fin 6144) : val_main_v4 (F := Ideal) (DMOD m c) (ix2 (layer j) (col j)) = grad m c j := by
  have o (k) : val_main_cst (F := Ideal) k = (0 : EReal) := by
    rw [val_main_cst_apply]; pointwise
  have o' (k) : val_main_cst_0 (F := Ideal) k = (0 : EReal) := by
    rw [val_main_cst_0_apply]; pointwise
  rw [val_main_v4_apply, o', zero_add, Fin.sum_univ_one, val_main_v3_apply, val_main_v2_apply, o, zero_add]
  exact Finset.sum_congr rfl fun b _ => congrArg (DMOD m c) (ext3 rfl rfl rfl)

/-- An index of the row, as the reference's reshapes read it. -/
theorem unflat (i : S1x6144.Idx) : idx_main_v29 i = ix2 (layer (i 1)) (col (i 1)) := by
  have : (i 0).val < 1 := (i 0).isLt
  refine Shape.idx_ext₂ ?_ ?_
  · show ((i 0).val * 6144 + (i 1).val) / 3072 = (i 1).val / 3072
    rw [show (i 0).val = 0 by omega, zero_mul, zero_add]
  · show ((i 0).val * 6144 + (i 1).val) % 3072 = (i 1).val % 3072
    rw [show (i 0).val = 0 by omega, zero_mul, zero_add]

theorem ref_gradients : val_main_v29 (F := Ideal) (DMOD m c) = asRow (grad m c) := by
  funext i
  rw [val_main_v29_apply]
  exact (congrArg _ (unflat i)).trans (ref_grad m c (i 1))

theorem ref_moment (j : Fin 6144) : val_main_v9 (F := Ideal) (DMOD m c) (M m c) (ix2 (layer j) (col j)) = moment m c j := by
  rw [val_main_v9_apply, val_main_v8_apply, val_main_v7_apply, val_main_v6_apply, val_main_v5_apply, ref_grad]
  rfl
theorem ref_moments : val_main_v31 (F := Ideal) (DMOD m c) (M m c) = asRow (moment m c) := by
  funext i
  rw [val_main_v31_apply]
  exact (congrArg _ (unflat i)).trans (ref_moment m c (i 1))

theorem ref_square (j : Fin 6144) : val_main_v15 (F := Ideal) (DMOD m c) (U m c) (ix2 (layer j) (col j)) = square m c j := by
  rw [val_main_v15_apply, val_main_v14_apply, val_main_v13_apply, val_main_v12_apply, val_main_v11_apply, val_main_v10_apply, ref_grad]
  rfl
theorem ref_squares : val_main_v32 (F := Ideal) (DMOD m c) (U m c) = asRow (square m c) := by
  funext i
  rw [val_main_v32_apply]
  exact (congrArg _ (unflat i)).trans (ref_square m c (i 1))

theorem ref_delta (j : Fin 6144) :
    val_main_v28 (F := Ideal) (DMOD m c) (W m c) (M m c) (U m c) (ix2 (layer j) (col j)) = delta m c j := by
  rw [val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, ref_moment, ref_square]
  rfl
theorem ref_changes : val_main_v30 (F := Ideal) (DMOD m c) (W m c) (M m c) (U m c) = asRow (delta m c) := by
  funext i
  rw [val_main_v30_apply]
  exact (congrArg _ (unflat i)).trans (ref_delta m c (i 1))

/-! ## The arrays after the run -/

theorem row_covered (t : Fin cfg0.N) (i : S1x6144.Idx) (a : Fin 2) :
    win0_1.index t a * S1x6144.size a ≤ (i a).val ∧ (i a).val < win0_1.index t a * S1x6144.size a + S1x6144.size a := by
  obtain ⟨-, e0, e1⟩ := named_blocks t
  have h0 : (i 0).val < 1 := (i 0).isLt
  have h1 : (i 1).val < 6144 := (i 1).isLt
  match a with
  | ⟨0, _⟩ =>
    show win0_1.index t 0 * 1 ≤ (i 0).val ∧ (i 0).val < win0_1.index t 0 * 1 + 1
    rw [e0]; omega
  | ⟨1, _⟩ =>
    show win0_1.index t 1 * 6144 ≤ (i 1).val ∧ (i 1).val < win0_1.index t 1 * 6144 + 6144
    rw [e1]; omega

/-- The first entry of every index of a row. -/
theorem eq_row (x : S1x6144.Idx) : x = ix2 0 (x 1) :=
  Shape.idx_ext₂ (by have : (x 0).val < 1 := (x 0).isLt; show (x 0).val = 0; omega) rfl

/-- The gradient's array. -/
theorem final4 : (dats m 0 c).arrAt 4 cfg0.N = val_main_v29 (F := Ideal) (DMOD m c) := by
  rw [ref_gradients]
  refine (dats m 0 c).arrAt_eq_of_cover 4 _ (fun t _ => ?_) (fun i => ?_)
  · show (cfg0.win 4).cut (grid0.coords t) ((dats m 0 c).after 4 t) = _
    rw [after0_4]
    unfold out0_4
    rw [View.canon_unit_zero zeros2, View.ld_unit_zero (S := S16x6144) zeros2]
    funext x
    rw [View.read_apply]
    refine Eq.trans ?_ (congrArg (asRow (grad m c)) (row_idx t x _ rfl rfl).symm)
    exact (congrArg _ (eq_row x)).trans (payloads m c t (x 1)).1
  · refine ⟨t0_0, flush0_4 _, ?_⟩
    show i ∈ ((View.whole main_v4_0).slice (win0_4.rect t0_0)).set
    rw [View.set_slice_whole, Rect.mem_set_unit]
    exact row_covered t0_0 i

/-- The change's array. -/
theorem final5 : (dats m 0 c).arrAt 5 cfg0.N = val_main_v30 (F := Ideal) (DMOD m c) (W m c) (M m c) (U m c) := by
  rw [ref_changes]
  refine (dats m 0 c).arrAt_eq_of_cover 5 _ (fun t _ => ?_) (fun i => ?_)
  · show (cfg0.win 5).cut (grid0.coords t) ((dats m 0 c).after 5 t) = _
    rw [after0_5]
    unfold out0_5
    rw [View.canon_unit_zero zeros2]
    simp only [View.ld_unit_zero (S := S16x6144) zeros2, View.ld_unit_zero (S := S1x6144) zeros2]
    funext x
    rw [View.read_apply]
    refine Eq.trans ?_ (congrArg (asRow (delta m c)) (row_idx t x _ rfl rfl).symm)
    exact (congrArg _ (eq_row x)).trans (payloads m c t (x 1)).2.1
  · refine ⟨t0_0, flush0_5 _, ?_⟩
    show i ∈ ((View.whole main_v4_1).slice (win0_5.rect t0_0)).set
    rw [View.set_slice_whole, Rect.mem_set_unit]
    exact row_covered t0_0 i

/-- The first moment's array. -/
theorem final6 : (dats m 0 c).arrAt 6 cfg0.N = val_main_v31 (F := Ideal) (DMOD m c) (M m c) := by
  rw [ref_moments]
  refine (dats m 0 c).arrAt_eq_of_cover 6 _ (fun t _ => ?_) (fun i => ?_)
  · show (cfg0.win 6).cut (grid0.coords t) ((dats m 0 c).after 6 t) = _
    rw [after0_6]
    unfold out0_6
    rw [View.canon_unit_zero zeros2, View.ld_unit_zero (S := S16x6144) zeros2, View.ld_unit_zero (S := S1x6144) zeros2]
    funext x
    rw [View.read_apply]
    refine Eq.trans ?_ (congrArg (asRow (moment m c)) (row_idx t x _ rfl rfl).symm)
    exact (congrArg _ (eq_row x)).trans (payloads m c t (x 1)).2.2.1
  · refine ⟨t0_0, flush0_6 _, ?_⟩
    show i ∈ ((View.whole main_v4_2).slice (win0_6.rect t0_0)).set
    rw [View.set_slice_whole, Rect.mem_set_unit]
    exact row_covered t0_0 i

/-- The second moment's array. -/
theorem final7 : (dats m 0 c).arrAt 7 cfg0.N = val_main_v32 (F := Ideal) (DMOD m c) (U m c) := by
  rw [ref_squares]
  refine (dats m 0 c).arrAt_eq_of_cover 7 _ (fun t _ => ?_) (fun i => ?_)
  · show (cfg0.win 7).cut (grid0.coords t) ((dats m 0 c).after 7 t) = _
    rw [after0_7]
    unfold out0_7
    rw [View.canon_unit_zero zeros2, View.ld_unit_zero (S := S16x6144) zeros2, View.ld_unit_zero (S := S1x6144) zeros2]
    funext x
    rw [View.read_apply]
    refine Eq.trans ?_ (congrArg (asRow (square m c)) (row_idx t x _ rfl rfl).symm)
    exact (congrArg _ (eq_row x)).trans (payloads m c t (x 1)).2.2.2
  · refine ⟨t0_0, flush0_7 _, ?_⟩
    show i ∈ ((View.whole main_v4_3).slice (win0_7.rect t0_0)).set
    rw [View.set_slice_whole, Rect.mem_set_unit]
    exact row_covered t0_0 i

end Cert.BiasUpdIdeal.Row
-- ==== Proof.Bias.Claims.lean ====
/-
  The claims about the modulation's bias, assembled: the reference's frame and the equality of the two programs.
-/
module

public import proofs.«01_k».proof.Defs
public import proofs.«01_k».proof.Proof.Bias.Value
public import proofs.«01_k».proof.Proof.Gen.BiasRefIdeal
public import proofs.«01_k».proof.Proof.Gen.BiasRefIdeal.Run
public import Idealize.ShloMosaic.Lib.Quiescent

@[expose] public section

noncomputable section

namespace Cert.Proof.Bias

open Idealize.ShloMosaic Idealize.SL.Sem

/-- The reference runs, keeps its arguments, and has no semaphore. -/
theorem frame_ref : quiescent_BiasRefIdeal := fun m ρ _ =>
  (θ_run Cert.BiasRefIdeal.defs _ _).mono
    (fun r h => ⟨fun c => (h c).2.2.2.2,
      Idealize.ShloMosaic.sem_eq_zero_of_no_sems (by decide) r.2⟩)
    (Cert.BiasRefIdeal.Value.run (F := Ideal) m ρ)

open BiasUpdIdeal.Row BiasRefIdeal.Read in
/-- From the same arguments the kernel's four results and the reference's are the same arrays over the extended reals. -/
theorem algebraic : algebraic_BiasUpdIdeal_BiasRefIdeal := by
  intro m ρ m' ρ' _ hagree
  refine ⟨fun c => val_main_v29 (F := Ideal) (DMOD m c), fun c => val_main_v30 (F := Ideal) (DMOD m c) (W m c) (M m c) (U m c),
    fun c => val_main_v31 (F := Ideal) (DMOD m c) (M m c), fun c => val_main_v32 (F := Ideal) (DMOD m c) (U m c), ?_, ?_⟩
  · refine (θ_run Cert.BiasUpdIdeal.defs _ _).mono (fun r h c => ?_) (Cert.BiasUpdIdeal.Value.run_blocks m ρ)
    obtain ⟨h4, h5, h6, h7, rest⟩ := h c
    exact ⟨h4.trans (final4 m c), h5.trans (final5 m c), h6.trans (final6 m c), h7.trans (final7 m c), rest⟩
  · refine (θ_run Cert.BiasRefIdeal.defs _ _).mono (fun r h c => ?_) (Cert.BiasRefIdeal.Value.run (F := Ideal) m' ρ')
    obtain ⟨h0, h1, h2, h3, rest⟩ := h c
    obtain ⟨e0, e1, e2, e3⟩ := hagree c
    rw [e0] at h0
    rw [e0, e1, e2, e3] at h1
    rw [e0, e2] at h2
    rw [e0, e3] at h3
    exact ⟨h0.trans (val_main_v29_eq _), h1.trans (val_main_v30_eq _ _ _ _), h2.trans (val_main_v31_eq _ _),
      h3.trans (val_main_v32_eq _ _), rest⟩

end Cert.Proof.Bias

end
-- ==== Proof.Modu.Value.lean ====
/-
  The modulation's forward call, read as values over the extended reals: what a grid point leaves in its block of the
  result, and what the reference holds there.
-/
module

public import proofs.«01_k».proof.Proof.Gen.ModuFwdIdeal.Value
public import proofs.«01_k».proof.Proof.Gen.ModuRefIdeal.Read
public import proofs.«01_k».proof.Proof.Ada.Spec

@[expose] public section

set_option maxRecDepth 16384

noncomputable section

namespace Cert.ModuFwdIdeal.Layers

open Cert.ModuFwdIdeal Cert.ModuFwdIdeal.Gen Idealize.ShloMosaic Idealize.ShloMosaic.TcCoe Idealize.SL.Sem Ada

variable (m : (ℓ : Loc nD τ sig) → Buf (Elt Ideal) ℓ) (c : Dev nD)

/-- The conditioning rows of every sequence. -/
abbrev C : Vec Ideal S16x1024 .f32 := m ((c : Thread nD τ).loc main_arg0)
/-- The weights, layer by layer. -/
abbrev W : Vec Ideal S2x1024x768 .f32 := m ((c : Thread nD τ).loc main_arg1)
/-- The bias. -/
abbrev B : Vec Ideal S2x768 .f32 := m ((c : Thread nD τ).loc main_arg2)

/-- The modulation: the activated condition through a layer's weights, and the bias. -/
def modulation : S2x16x768.Idx → EReal := fun i =>
  (∑ e : Fin 1024, C m c (ix2 (i 1) e) * Ideal.logistic (C m c (ix2 (i 1) e)) * W m c (ix3 (i 0) e (i 2))) + B m c (ix2 (i 0) (i 2))

/-! ## The blocks a point works on -/

/-- A point is a layer. -/
abbrev layer (t : Fin cfg0.N) : Fin 2 := ⟨t.val, by have := t.isLt; have : cfg0.N = 2 := N_0; omega⟩

/-- The blocks at a point: the whole condition, and the layer of the other arrays. -/
theorem named_blocks : ∀ t : Fin grid0.N,
    (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) := by
  decide +kernel

/-- The condition's block: all of it. -/
theorem condition_block (t : Fin cfg0.N) (b : Fin 16) (e : Fin 1024) : iblk m c 0 t (ix2 b e) = C m c (ix2 b e) := by
  obtain ⟨⟨e0, e1⟩, -⟩ := named_blocks t
  unfold iblk
  rw [View.read_apply]
  show V m c main_arg0 _ = _
  rw [V_main_arg0]
  refine congrArg (C m c) (Shape.idx_ext₂ ?_ ?_)
  · show win0_0.index t 0 * 16 + 1 * b.val = b.val
    rw [e0]; omega
  · show win0_0.index t 1 * 1024 + 1 * e.val = e.val
    rw [e1]; omega

/-- The weights' block: the layer's. -/
theorem weight_block (t : Fin cfg0.N) (e : Fin 1024) (k : Fin 768) : iblk m c 1 t (ix3 0 e k) = W m c (ix3 (layer t) e k) := by
  obtain ⟨-, ⟨e0, e1, e2⟩, -⟩ := named_blocks t
  unfold iblk
  rw [View.read_apply]
  show V m c main_arg1 _ = _
  rw [V_main_arg1]
  refine congrArg (W m c) (ext3 (Fin.ext ?_) (Fin.ext ?_) (Fin.ext ?_))
  · show win0_1.index t 0 * 1 + 1 * 0 = t.val
    rw [e0]; omega
  · show win0_1.index t 1 * 1024 + 1 * e.val = e.val
    rw [e1]; omega
  · show win0_1.index t 2 * 768 + 1 * k.val = k.val
    rw [e2]; omega

/-- The region finds the bias with an axis of one row for each layer. -/
theorem V_bias : V m c main_v0 = broadcastInDim S2x1x768 ![0, 2] bcast_S2x768_S2x1x768_0_2 (B m c) := by
  unfold V
  after_results

/-- The bias's block: the layer's row. -/
theorem bias_block (t : Fin cfg0.N) (k : Fin 768) : iblk m c 2 t (ix3 0 0 k) = B m c (ix2 (layer t) k) := by
  obtain ⟨-, -, ⟨e0, e1, e2⟩, -⟩ := named_blocks t
  unfold iblk
  rw [View.read_apply]
  show V m c main_v0 _ = _
  rw [V_bias]
  refine broadcastInDim_apply _ _ _ _ _ fun a => ?_
  match a with
  | ⟨0, _⟩ =>
    show t.val = win0_2.index t 0 * 1 + 1 * 0
    rw [e0]; omega
  | ⟨1, _⟩ =>
    show k.val = win0_2.index t 2 * 768 + 1 * k.val
    rw [e2]; omega

/-! ## What a point leaves -/

/-- The payload at an index. -/
theorem pay_apply (x : Vec Ideal S16x1024 .f32) (w : Vec Ideal S1x1024x768 .f32) (b : Vec Ideal S1x1x768 .f32) (r : Fin 16) (k : Fin 768) :
    k0_pay1 (F := Ideal) x w b (ix3 0 r k)
      = ((∑ e : Fin 1024, x (ix2 r e) * Ideal.logistic (x (ix2 r e)) * w (ix3 0 e k)) + b (ix3 0 0 k) : EReal) := by
  simp only [← logistic_tanh]
  unfold_payloads
  pointwise

/-- A point leaves the payload over its blocks. -/
theorem left_payload (t : Fin cfg0.N) : outsAt0 m c t = k0_pay1 (F := Ideal) (iblk m c 0 t) (iblk m c 1 t) (iblk m c 2 t) := by
  unfold outsAt0 out0_A_3
  rw [View.read_writes_junk_eq_canon]
  unfold kernelRun0_A
  dsimp only
  sl_unfold_words
  simp only [View.readAt_eq_ld, (hs0_0 t).read_unread, (hs0_1 t).read_unread, (hs0_2 t).read_unread]
  rw [View.canon_unit_zero zeros3, View.ld_unit_zero (S := S16x1024) zeros2, View.ld_unit_zero (S := S1x1024x768) zeros3,
    View.ld_unit_zero (S := S1x1x768) zeros3]

/-- A point leaves its layer of the modulation. -/
theorem left (t : Fin cfg0.N) (r : Fin 16) (k : Fin 768) : outsAt0 m c t (ix3 0 r k) = modulation m c (ix3 (layer t) r k) := by
  rw [left_payload, pay_apply, bias_block]
  refine congrArg (fun s : EReal => s + B m c (ix2 (layer t) k)) (Finset.sum_congr rfl fun e _ => ?_)
  rw [condition_block, weight_block]
  rfl

/-! ## The reference at an index -/

open Cert.ModuRefIdeal.Read

/-- The reference's activated condition. -/
theorem ref_activated (b : Fin 16) (e : Fin 1024) :
    val_main_v0 (F := Ideal) (C m c) (ix2 b e) = C m c (ix2 b e) * Ideal.logistic (C m c (ix2 b e)) := by
  have o (j) : val_main_call0_cst (F := Ideal) j = (1 : EReal) := by
    rw [val_main_call0_cst_apply]; pointwise
  have o' (j) : val_main_call0_cst_0 (F := Ideal) j = (1 : EReal) := by
    rw [val_main_call0_cst_0_apply]; pointwise
  rw [val_main_v0_apply, val_main_call0_v5_apply, val_main_call0_v4_apply, val_main_call0_v3_apply, val_main_call0_v2_apply,
    val_main_call0_v1_apply, val_main_call0_v0_apply, o, o']
  rfl

/-- The reference's modulation. -/
theorem ref_modulation : val_main_v5 (F := Ideal) (C m c) (W m c) (B m c) = modulation m c := by
  funext i
  rw [val_main_v5_apply, val_main_v4_apply, val_main_v3_apply, val_main_v2_apply, val_main_v1_apply]
  refine congrArg₂ (fun a b : EReal => a + b) ?_ (congrArg (B m c) (Shape.idx_ext₂ rfl rfl))
  show _ = ∑ e : Fin 1024, C m c (ix2 (i 1) e) * Ideal.logistic (C m c (ix2 (i 1) e)) * W m c (ix3 (i 0) e (i 2))
  refine Finset.sum_congr rfl fun e _ => ?_
  refine congrArg₂ (· * ·) ?_ (congrArg (W m c) (ext3 rfl rfl rfl))
  rw [show lidx_main_v1 (idx_main_v2 i) e = ix2 (i 1) e from Shape.idx_ext₂ rfl rfl]
  exact ref_activated m c (i 1) e

/-! ## The array after the run -/

/-- The result's array. -/
theorem final3 : (dats m 0 c).arrAt 3 cfg0.N = val_main_v5 (F := Ideal) (C m c) (W m c) (B m c) := by
  rw [ref_modulation]
  refine (dats m 0 c).arrAt_eq_of_cover 3 _ (fun t _ => ?_) (fun i => ?_)
  · show (cfg0.win 3).cut (grid0.coords t) ((dats m 0 c).after 3 t) = _
    rw [after0_3]
    obtain ⟨-, -, -, e0, e1, e2⟩ := named_blocks t
    funext x
    obtain ⟨r, k, rfl⟩ : ∃ (r : Fin 16) (k : Fin 768), x = ix3 0 r k :=
      ⟨x 1, x 2, ext3 (Fin.ext (by have : (x 0).val < 1 := (x 0).isLt; show (x 0).val = 0; omega)) rfl rfl⟩
    refine (left m c t r k).trans ?_
    rw [View.read_apply]
    refine congrArg (modulation m c) (ext3 (Fin.ext ?_) (Fin.ext ?_) (Fin.ext ?_))
    · show t.val = win0_3.index t 0 * 1 + 1 * 0
      rw [e0]; omega
    · show r.val = win0_3.index t 1 * 16 + 1 * r.val
      rw [e1]; omega
    · show k.val = win0_3.index t 2 * 768 + 1 * k.val
      rw [e2]; omega
  · have h0 : (i 0).val < 2 := (i 0).isLt
    have h1 : (i 1).val < 16 := (i 1).isLt
    have h2 : (i 2).val < 768 := (i 2).isLt
    have hN : cfg0.N = 2 := N_0
    obtain ⟨t, ht⟩ : ∃ t : Fin cfg0.N, t.val = (i 0).val := ⟨⟨(i 0).val, by rw [hN]; exact h0⟩, rfl⟩
    obtain ⟨-, -, -, e0, e1, e2⟩ := named_blocks t
    refine ⟨t, flush0_3 _, ?_⟩
    show i ∈ ((View.whole main_v1).slice (win0_3.rect t)).set
    rw [View.set_slice_whole, Rect.mem_set_unit]
    intro a
    match a with
    | ⟨0, _⟩ =>
      show win0_3.index t 0 * 1 ≤ (i 0).val ∧ (i 0).val < win0_3.index t 0 * 1 + 1
      rw [e0]; omega
    | ⟨1, _⟩ =>
      show win0_3.index t 1 * 16 ≤ (i 1).val ∧ (i 1).val < win0_3.index t 1 * 16 + 16
      rw [e1]; omega
    | ⟨2, _⟩ =>
      show win0_3.index t 2 * 768 ≤ (i 2).val ∧ (i 2).val < win0_3.index t 2 * 768 + 768
      rw [e2]; omega

end Cert.ModuFwdIdeal.Layers
-- ==== Proof.Modu.Claims.lean ====
/-
  The claims about the modulation's forward call, assembled: the reference's frame and the equality of the two programs.
-/
module

public import proofs.«01_k».proof.Defs
public import proofs.«01_k».proof.Proof.Modu.Value
public import proofs.«01_k».proof.Proof.Gen.ModuRefIdeal
public import proofs.«01_k».proof.Proof.Gen.ModuRefIdeal.Run
public import Idealize.ShloMosaic.Lib.Quiescent

@[expose] public section

noncomputable section

namespace Cert.Proof.Modu

open Idealize.ShloMosaic Idealize.SL.Sem

/-- The reference runs, keeps its arguments, and has no semaphore. -/
theorem frame_ref : quiescent_ModuRefIdeal := fun m ρ _ =>
  (θ_run Cert.ModuRefIdeal.defs _ _).mono
    (fun r h => ⟨fun c => (h c).2,
      Idealize.ShloMosaic.sem_eq_zero_of_no_sems (by decide) r.2⟩)
    (Cert.ModuRefIdeal.Value.run (F := Ideal) m ρ)

open ModuFwdIdeal.Layers ModuRefIdeal.Read in
/-- From the same arguments the kernel's modulation and the reference's are the same array over the extended reals. -/
theorem algebraic : algebraic_ModuFwdIdeal_ModuRefIdeal := by
  intro m ρ m' ρ' _ hagree
  refine ⟨fun c => val_main_v5 (F := Ideal) (C m c) (W m c) (B m c), ?_, ?_⟩
  · refine (θ_run Cert.ModuFwdIdeal.defs _ _).mono (fun r h c => ?_) (Cert.ModuFwdIdeal.Value.run_blocks m ρ)
    obtain ⟨h3, rest⟩ := h c
    exact ⟨h3.trans (final3 m c), rest⟩
  · refine (θ_run Cert.ModuRefIdeal.defs _ _).mono (fun r h c => ?_) (Cert.ModuRefIdeal.Value.run (F := Ideal) m' ρ')
    obtain ⟨h0, rest⟩ := h c
    obtain ⟨e0, e1, e2, -⟩ := hagree c
    rw [e0, e1, e2] at h0
    exact ⟨h0.trans (val_main_v5_eq _ _ _), rest⟩

end Cert.Proof.Modu

end
-- ==== Proof.Win.Spec.lean ====
/-
  A sum over 4096 rows taken in four tiles of 1024 by an accumulator that starts over at every fourth point.
-/
module

public import proofs.«01_k».proof.Proof.Ada.Spec

@[expose] public section

noncomputable section

namespace Win

/-- Row `k` of tile `q`. -/
abbrev row (q : ℕ) (k : Fin 1024) : Fin 4096 := ⟨(1024 * q + k.val) % 4096, by omega⟩

/-- The sum over the first `n` tiles. -/
def part (f : Fin 4096 → EReal) (n : ℕ) : EReal := ∑ q ∈ Finset.range n, ∑ k : Fin 1024, f (row q k)

theorem part_succ (f : Fin 4096 → EReal) (n : ℕ) : part f (n + 1) = part f n + ∑ k : Fin 1024, f (row n k) :=
  Finset.sum_range_succ _ _

/-- The four tiles are all the rows. -/
theorem part_all (f : Fin 4096 → EReal) : part f 4 = ∑ k, f k := by
  unfold part
  rw [Finset.sum_range, ← Fintype.sum_prod_type', ← Equiv.sum_comp (finProdFinEquiv (m := 4) (n := 1024)) f]
  refine Finset.sum_congr rfl fun p _ => congrArg f (Fin.ext ?_)
  have h0 := p.1.isLt
  have h1 := p.2.isLt
  show (1024 * p.1.val + p.2.val) % 4096 = p.2.val + 1024 * p.1.val
  omega

/-- An accumulator that holds a first tile's sum at every fourth point and adds the next tile's at the others holds, at
    each point, the sum over the tiles since it started over. -/
theorem held {N : ℕ} (s : (n : ℕ) → n < N → EReal) (f : ℕ → Fin 4096 → EReal)
    (start : ∀ n h, n % 4 = 0 → s n h = ∑ k : Fin 1024, f (n / 4) (row (n % 4) k))
    (step : ∀ n h, ¬n % 4 = 0 → s n h = s (n - 1) (Nat.lt_of_le_of_lt (Nat.sub_le _ _) h) + ∑ k : Fin 1024, f (n / 4) (row (n % 4) k)) :
    ∀ n h, s n h = part (f (n / 4)) (n % 4 + 1) := by
  intro n
  induction n with
  | zero =>
    intro h
    rw [start 0 h rfl, part_succ, part, Finset.sum_range_zero, zero_add]
  | succ n ih =>
    intro h
    by_cases h0 : (n + 1) % 4 = 0
    · rw [start _ h h0, part_succ, h0, part, Finset.sum_range_zero, zero_add]
    · refine (step _ h h0).trans ?_
      rw [part_succ]
      refine congrArg (· + _) ?_
      refine (ih _).trans ?_
      rw [show n / 4 = (n + 1) / 4 by omega, show n % 4 + 1 = (n + 1) % 4 by omega]

end Win

end
-- ==== Proof.Win.Value.lean ====
/-
  The input projection's weights' gradient, read as values over the extended reals: what the accumulator and the output
  array end holding, beside the reference's terms.
-/
module

public import proofs.«01_k».proof.Proof.Gen.WinBwdIdeal.Value
public import proofs.«01_k».proof.Proof.Gen.WinRefIdeal.Read
public import proofs.«01_k».proof.Proof.Win.Spec

@[expose] public section

set_option maxRecDepth 16384

noncomputable section

namespace Cert.WinBwdIdeal.Sums

open Cert.WinBwdIdeal Cert.WinBwdIdeal.Gen Idealize.ShloMosaic Idealize.ShloMosaic.TcCoe Idealize.SL.Sem Ada Win
open Cert.WinRefIdeal.Read

variable (m : (ℓ : Loc nD τ sig) → Buf (Elt Ideal) ℓ) (c : Dev nD)

/-- The projection's left operand. -/
abbrev H : Vec Ideal S2x2048x1024 .bf16 := m ((c : Thread nD τ).loc main_arg0)
/-- The projection's cotangent. -/
abbrev CT : Vec Ideal S2x2048x8192 .bf16 := m ((c : Thread nD τ).loc main_arg1)

/-- Column `j` of section `s`. -/
abbrev wide (s : Fin 4) (j : Fin 2048) : Fin 8192 := ⟨2048 * s.val + j.val, by omega⟩

/-- One row's product. -/
def term (s : Fin 4) (r : Fin 1024) (j : Fin 2048) (k : Fin 4096) : EReal :=
  val_main_v0 (F := Ideal) (H m c) (ix2 k r) * val_main_v4 (F := Ideal) (CT m c) (ix2 k (wide s j))

/-! ## The blocks -/

/-- The region finds the arrays as the host's lines leave them. -/
theorem V_lines : V m c main_v2 = val_main_v0 (F := Ideal) (H m c)
    ∧ V m c main_v1 = transpose S4x4096x2048 [1, 0, 2] (shapeCast S4096x4x2048 (CT m c) shapeCasts_S2x2048x8192_S4096x4x2048)
        transposes_S4096x4x2048_S4x4096x2048_1_0_2 := by
  unfold V
  refine ⟨?_, ?_⟩ <;> after_results <;> rfl

/-- The cotangent's sections. -/
theorem sections (s : Fin 4) (k : Fin 4096) (j : Fin 2048) :
    V m c main_v1 (ix3 s k j) = val_main_v4 (F := Ideal) (CT m c) (ix2 k (wide s j)) := by
  rw [(V_lines m c).2, val_main_v4_apply]
  refine (transpose_apply [1, 0, 2] _ transposes_S4096x4x2048_S4x4096x2048_1_0_2 _ (ix3 k s j) (fun b => match b with
    | ⟨0, _⟩ => rfl
    | ⟨1, _⟩ => rfl
    | ⟨2, _⟩ => rfl)).trans ?_
  refine shapeCast_apply _ _ _ _ ?_
  rw [Shape.rowMajor_val_three, Shape.rowMajor_val_three]
  show ((k.val * 8192 + (2048 * s.val + j.val)) / 16777216 * 2048 + (k.val * 8192 + (2048 * s.val + j.val)) / 8192 % 2048) * 8192
      + (k.val * 8192 + (2048 * s.val + j.val)) % 8192 = (k.val * 4 + s.val) * 2048 + j.val
  omega

/-- The block every window names at a point. -/
theorem named : ∀ t : Fin grid0.N,
    (win0_0.index t 0 = t.val % 4 ∧ win0_0.index t 1 = 0)
    ∧ (win0_1.index t 0 = t.val / 4 ∧ win0_1.index t 1 = t.val % 4 ∧ win0_1.index t 2 = 0)
    ∧ (win0_2.index t 0 = t.val / 4 ∧ win0_2.index t 1 = 0 ∧ win0_2.index t 2 = 0) := by
  decide +kernel

theorem lt16 (t : Fin cfg0.N) : t.val < 16 := by have := t.isLt; have : cfg0.N = 16 := N_0; omega

/-- The section a point works on. -/
abbrev sec (n : ℕ) : Fin 4 := ⟨n % 4, by omega⟩

theorem left_block (t : Fin cfg0.N) (k r : Fin 1024) :
    iblk m c 0 t (ix2 k r) = val_main_v0 (F := Ideal) (H m c) (ix2 (row (t.val % 4) k) r) := by
  obtain ⟨⟨e0, e1⟩, -⟩ := named t
  rw [← (V_lines m c).1]
  unfold iblk
  rw [View.read_apply]
  refine congrArg (V m c main_v2) (Shape.idx_ext₂ ?_ ?_)
  · show win0_0.index t 0 * 1024 + 1 * k.val = (1024 * (t.val % 4) + k.val) % 4096
    rw [e0]; omega
  · show win0_0.index t 1 * 1024 + 1 * r.val = r.val
    rw [e1]; omega

theorem right_block (t : Fin cfg0.N) (k : Fin 1024) (j : Fin 2048) :
    iblk m c 1 t (ix3 0 k j) = val_main_v4 (F := Ideal) (CT m c) (ix2 (row (t.val % 4) k) (wide (sec (t.val / 4)) j)) := by
  obtain ⟨-, ⟨e0, e1, e2⟩, -⟩ := named t
  have := lt16 t
  rw [← sections]
  unfold iblk
  rw [View.read_apply]
  refine congrArg (V m c main_v1) (funext fun a => Fin.ext ?_)
  match a with
  | ⟨0, _⟩ =>
    show win0_1.index t 0 * 1 + 1 * 0 = t.val / 4 % 4
    rw [e0]; omega
  | ⟨1, _⟩ =>
    show win0_1.index t 1 * 1024 + 1 * k.val = (1024 * (t.val % 4) + k.val) % 4096
    rw [e1]; omega
  | ⟨2, _⟩ =>
    show win0_1.index t 2 * 2048 + 1 * j.val = j.val
    rw [e2]; omega

/-! ## The payloads -/

theorem zero_apply (r : Fin 1024) (j : Fin 2048) : k0_pay1 (F := Ideal) (ix2 r j) = (0 : EReal) := by
  unfold_payloads
  pointwise
theorem add_apply (v : Vec Ideal S1024x2048 .f32) (x : Vec Ideal S1024x1024 .bf16) (y : Vec Ideal S1x1024x2048 .bf16)
    (r : Fin 1024) (j : Fin 2048) :
    k0_pay2 (F := Ideal) v x y (ix2 r j) = (v (ix2 r j) + ∑ k : Fin 1024, x (ix2 k r) * y (ix3 0 k j) : EReal) := by
  unfold_payloads
  pointwise
theorem out_apply (v : Vec Ideal S1024x2048 .f32) (r : Fin 1024) (j : Fin 2048) :
    k0_pay3 (F := Ideal) v (ix3 0 r j) = (v (ix2 r j) : EReal) := by
  unfold_payloads
  pointwise

/-! ## What the points leave -/

/-- What the point before left in the accumulator. -/
abbrev before (t : Fin cfg0.N) : Vec Ideal S1024x2048 .f32 := (outsAt0 m c (t.val - 1) (Nat.lt_of_le_of_lt (Nat.sub_le _ _) t.isLt)).2

/-- A section's first point starts the accumulator over. -/
theorem at_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0
  rw [View.read_writes_junk_eq_canon]
  unfold kernelRun0_A
  dsimp only
  sl_unfold_words
  rw [View.canon_cons_unit_zero (S := S1024x2048) zeros2]
  simp only [View.readCov_unit_zero (S := S1024x2048) _ zeros2, View.readAt_eq_ld, (hs0_0 t).read_unread, (hs0_1 t).read_unread,
    (Memref.isWhole_whole _).read_unread, View.ld_unit_zero (S := S1x1024x2048) zeros3, View.ld_unit_zero (S := S1024x1024) zeros2,
    View.ld_unit_zero (S := S1024x2048) zeros2]

/-- The middle points add to it. -/
theorem at_B (t : Fin cfg0.N) (h0 : ¬t.val % 4 = 0) (h1 : ¬t.val % 4 = 3) :
    (outsAt0 m c t.val t.isLt).2 = k0_pay2 (F := Ideal) (before m c t) (iblk m c 0 t) (iblk m c 1 t) := by
  rw [outsAt0_B m c t h0 h1]
  dsimp only
  unfold before
  generalize (outsAt0 m c (t.val - 1) (Nat.lt_of_le_of_lt (Nat.sub_le _ _) t.isLt)).2 = x
  unfold sout0_B_0
  rw [View.read_writes_junk_eq_canon]
  unfold kernelRun0_B
  dsimp only
  sl_unfold_words
  rw [View.canon_unit_zero zeros2]
  simp only [View.readCov_unit_zero (S := S1024x2048) _ zeros2, View.readAt_eq_ld, (hs0_0 t).read_unread, (hs0_1 t).read_unread,
    (Memref.isWhole_whole _).read_unread, View.ld_unit_zero (S := S1x1024x2048) zeros3, View.ld_unit_zero (S := S1024x1024) zeros2,
    View.ld_unit_zero (S := S1024x2048) zeros2]

/-- The last point adds to it and writes the section out. -/
theorem at_C (t : Fin cfg0.N) (h0 : ¬t.val % 4 = 0) (h1 : t.val % 4 = 3) :
    outsAt0 m c t.val t.isLt = (k0_pay3 (F := Ideal) (k0_pay2 (F := Ideal) (before m c t) (iblk m c 0 t) (iblk m c 1 t)),
      k0_pay2 (F := Ideal) (before m c t) (iblk m c 0 t) (iblk m c 1 t)) := by
  rw [outsAt0_C m c t h0 h1]
  unfold before
  generalize (outsAt0 m c (t.val - 1) (Nat.lt_of_le_of_lt (Nat.sub_le _ _) t.isLt)).2 = x
  unfold out0_C_2 sout0_C_0
  rw [View.read_writes_junk_eq_canon, View.read_writes_junk_eq_canon]
  unfold kernelRun0_C
  dsimp only
  sl_unfold_words
  rw [View.canon_unit_zero zeros3, View.canon_unit_zero zeros2]
  simp only [View.readCov_unit_zero (S := S1024x2048) _ zeros2, View.readAt_eq_ld, (hs0_0 t).read_unread, (hs0_1 t).read_unread,
    (Memref.isWhole_whole _).read_unread, View.ld_unit_zero (S := S1x1024x2048) zeros3, View.ld_unit_zero (S := S1024x1024) zeros2,
    View.ld_unit_zero (S := S1024x2048) zeros2]

/-- A point's two blocks. -/
abbrev left (t : Fin cfg0.N) : Vec Ideal S1024x1024 .bf16 := iblk m c 0 t
abbrev right (t : Fin cfg0.N) : Vec Ideal S1x1024x2048 .bf16 := iblk m c 1 t

/-- A point's products. -/
theorem product (t : Fin cfg0.N) (r : Fin 1024) (j : Fin 2048) :
    (∑ k : Fin 1024, left m c t (ix2 k r) * right m c t (ix3 0 k j) : EReal)
      = ∑ k : Fin 1024, term m c (sec (t.val / 4)) r j (row (t.val % 4) k) :=
  Finset.sum_congr rfl fun k _ => congrArg₂ (fun a b : EReal => a * b) (left_block m c t k r) (right_block m c t k j)

/-- What the accumulator holds after a point. -/
theorem acc (r : Fin 1024) (j : Fin 2048) (n : ℕ) (h : n < cfg0.N) :
    (outsAt0 m c n h).2 (ix2 r j) = part (term m c (sec (n / 4)) r j) (n % 4 + 1) := by
  refine held (fun n h => (outsAt0 m c n h).2 (ix2 r j)) (fun q => term m c (sec q) r j) (fun n h h0 => ?_) (fun n h h0 => ?_) n h
  · refine (congrFun (at_A m c ⟨n, h⟩ h0 (by show ¬n % 4 = 3; omega)) _).trans ?_
    rw [add_apply, zero_apply, zero_add]
    exact product m c ⟨n, h⟩ r j
  · have e : (outsAt0 m c n h).2 = k0_pay2 (F := Ideal) (before m c ⟨n, h⟩) (iblk m c 0 ⟨n, h⟩) (iblk m c 1 ⟨n, h⟩) := by
      by_cases h1 : n % 4 = 3
      · exact congrArg Prod.snd (at_C m c ⟨n, h⟩ h0 h1)
      · exact at_B m c ⟨n, h⟩ h0 h1
    refine (congrFun e _).trans ?_
    rw [add_apply]
    exact congrArg (_ + ·) (product m c ⟨n, h⟩ r j)

/-- What a section's last point writes out. -/
theorem written (t : Fin cfg0.N) (h1 : t.val % 4 = 3) (r : Fin 1024) (j : Fin 2048) :
    (outsAt0 m c t.val t.isLt).1 (ix3 0 r j) = ∑ k, term m c (sec (t.val / 4)) r j k := by
  have e := at_C m c t (by omega) h1
  have a := acc m c r j t.val t.isLt
  rw [h1, part_all] at a
  rw [← a, congrArg Prod.fst e, congrArg Prod.snd e]
  exact out_apply _ r j

/-! ## The reference, and the array after the run -/

theorem ref_apply (s : Fin 4) (r : Fin 1024) (j : Fin 2048) :
    val_main_v10 (F := Ideal) (H m c) (CT m c) (ix3 s r j) = ∑ k, term m c s r j k := by
  have e : idx_main_v7 (idx_main_v9 (idx_main_v10 (ix3 s r j))) = ix2 (wide s j) r := by
    refine Shape.idx_ext₂ ?_ ?_
    · show ((r.val * 4 + s.val) * 2048 + j.val) % 8192 = 2048 * s.val + j.val
      omega
    · show ((r.val * 4 + s.val) * 2048 + j.val) / 8192 = r.val
      omega
  rw [val_main_v10_apply, val_main_v9_apply, val_main_v8_apply, val_main_v7_apply, e]
  refine (val_main_v6_apply (H m c) (CT m c) _).trans (Finset.sum_congr rfl fun k _ => ?_)
  rw [val_main_v5_apply, val_main_v1_apply]
  refine (mul_comm _ _).trans (congrArg₂ (fun a b : EReal => a * b) (congrArg (val_main_v0 (F := Ideal) (H m c)) (Shape.idx_ext₂ rfl rfl))
    (congrArg (val_main_v4 (F := Ideal) (CT m c)) (Shape.idx_ext₂ rfl rfl)))

/-- The gradient's array. -/
theorem final2 : (dats m 0 c).arrAt 2 cfg0.N = val_main_v10 (F := Ideal) (H m c) (CT m c) := by
  refine (dats m 0 c).arrAt_eq_of_cover 2 _ (fun t hf => ?_) (fun i => ?_)
  · obtain ⟨-, -, e0, e1, e2⟩ := named t
    have := lt16 t
    show (cfg0.win 2).cut (grid0.coords t) ((dats m 0 c).after 2 t) = _
    rw [after0_2]
    funext y
    have y0 : (y 0).val < 1 := (y 0).isLt
    have hy : y = ix3 (n0 := 1) (n1 := 1024) (n2 := 2048) 0 (y 1) (y 2) := ext3 (Subsingleton.elim (α := Fin 1) _ _) rfl rfl
    refine (congrArg (outsAt0 m c t.val t.isLt).1 hy).trans ?_
    refine (written m c t ((flush0_2 t).mp hf) (y 1) (y 2)).trans ?_
    refine (ref_apply m c _ _ _).symm.trans ?_
    rw [View.read_apply]
    refine congrArg (val_main_v10 (F := Ideal) (H m c) (CT m c)) (funext fun a => Fin.ext ?_)
    match a with
    | ⟨0, _⟩ => show t.val / 4 % 4 = win0_2.index t 0 * 1 + 1 * (y 0).val; rw [e0]; omega
    | ⟨1, _⟩ => show (y 1).val = win0_2.index t 1 * 1024 + 1 * (y 1).val; rw [e1]; omega
    | ⟨2, _⟩ => show (y 2).val = win0_2.index t 2 * 2048 + 1 * (y 2).val; rw [e2]; omega
  · have h0 : (i 0 : Nat) < 4 := (i 0).isLt
    have h1 : (i 1 : Nat) < 1024 := (i 1).isLt
    have h2 : (i 2 : Nat) < 2048 := (i 2).isLt
    have hN : cfg0.N = 16 := N_0
    have ht : 4 * (i 0).val + 3 < cfg0.N := by rw [hN]; omega
    refine ⟨⟨_, ht⟩, (flush0_2 _).mpr (by show (4 * (i 0).val + 3) % 4 = 3; omega), ?_⟩
    obtain ⟨-, -, e0, e1, e2⟩ := named ⟨_, ht⟩
    show i ∈ ((View.whole main_v3).slice (win0_2.rect ⟨_, ht⟩)).set
    rw [View.set_slice_whole, Rect.mem_set_unit]
    intro a
    match a with
    | ⟨0, _⟩ =>
      show win0_2.index _ 0 * 1 ≤ (i 0 : Nat) ∧ (i 0 : Nat) < win0_2.index _ 0 * 1 + 1
      rw [e0]; dsimp only; omega
    | ⟨1, _⟩ =>
      show win0_2.index _ 1 * 1024 ≤ (i 1 : Nat) ∧ (i 1 : Nat) < win0_2.index _ 1 * 1024 + 1024
      rw [e1]; omega
    | ⟨2, _⟩ =>
      show win0_2.index _ 2 * 2048 ≤ (i 2 : Nat) ∧ (i 2 : Nat) < win0_2.index _ 2 * 2048 + 2048
      rw [e2]; omega

end Cert.WinBwdIdeal.Sums
-- ==== Proof.Win.Claims.lean ====
/-
  The claims about the input projection's weights' gradient, assembled: the reference's frame and the equality of the
  two programs.
-/
module

public import proofs.«01_k».proof.Defs
public import proofs.«01_k».proof.Proof.Win.Value
public import proofs.«01_k».proof.Proof.Gen.WinRefIdeal
public import proofs.«01_k».proof.Proof.Gen.WinRefIdeal.Run
public import Idealize.ShloMosaic.Lib.Quiescent

@[expose] public section

noncomputable section

namespace Cert.Proof.Win

open Idealize.ShloMosaic Idealize.SL.Sem

/-- The reference runs, keeps its arguments, and has no semaphore. -/
theorem frame_ref : quiescent_WinRefIdeal := fun m ρ _ =>
  (θ_run Cert.WinRefIdeal.defs _ _).mono
    (fun r h => ⟨fun c => (h c).2,
      Idealize.ShloMosaic.sem_eq_zero_of_no_sems (by decide) r.2⟩)
    (Cert.WinRefIdeal.Value.run (F := Ideal) m ρ)

open WinBwdIdeal.Sums WinRefIdeal.Read in
/-- From the same arguments the kernel's gradient and the reference's are the same array over the extended reals. -/
theorem algebraic : algebraic_WinBwdIdeal_WinRefIdeal := by
  intro m ρ m' ρ' _ hagree
  refine ⟨fun c => val_main_v10 (F := Ideal) (H m c) (CT m c), ?_, ?_⟩
  · refine (θ_run Cert.WinBwdIdeal.defs _ _).mono (fun r h c => ?_) (Cert.WinBwdIdeal.Value.run_blocks m ρ)
    obtain ⟨h0, rest⟩ := h c
    exact ⟨h0.trans (final2 m c), rest⟩
  · refine (θ_run Cert.WinRefIdeal.defs _ _).mono (fun r h c => ?_) (Cert.WinRefIdeal.Value.run (F := Ideal) m' ρ')
    obtain ⟨h0, rest⟩ := h c
    obtain ⟨e0, e1⟩ := hagree c
    rw [e0, e1] at h0
    exact ⟨h0.trans (val_main_v10_eq _ _), rest⟩

end Cert.Proof.Win

end
-- ==== Proof.Wout.Value.lean ====
/-
  The branch's product's weights' gradient, read as values over the extended reals: what the accumulator and the output
  array end holding, beside the reference's terms.
-/
module

public import proofs.«01_k».proof.Proof.Gen.WoutBwdIdeal.Value
public import proofs.«01_k».proof.Proof.Gen.WoutRefIdeal.Read
public import proofs.«01_k».proof.Proof.Win.Spec

@[expose] public section

set_option maxRecDepth 16384

noncomputable section

namespace Cert.WoutBwdIdeal.Sums

open Cert.WoutBwdIdeal Cert.WoutBwdIdeal.Gen Idealize.ShloMosaic Idealize.ShloMosaic.TcCoe Idealize.SL.Sem Ada Win
open Cert.WoutRefIdeal.Read

variable (m : (ℓ : Loc nD τ sig) → Buf (Elt Ideal) ℓ) (c : Dev nD)

/-- The product's left operand. -/
abbrev Y : Vec Ideal S4096x2048 .bf16 := m ((c : Thread nD τ).loc main_arg0)
/-- The product's cotangent. -/
abbrev D : Vec Ideal S4096x1024 .bf16 := m ((c : Thread nD τ).loc main_arg1)

/-- One row's product. -/
def term (r : Fin 2048) (j : Fin 1024) (k : Fin 4096) : EReal := Y m c (ix2 k r) * D m c (ix2 k j)

/-! ## The blocks -/

/-- The block every window names at a point. -/
theorem named : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) := by
  decide +kernel

theorem lt4 (t : Fin cfg0.N) : t.val < 4 := by have := t.isLt; have : cfg0.N = 4 := N_0; omega

theorem left_block (t : Fin cfg0.N) (k : Fin 1024) (r : Fin 2048) : iblk m c 0 t (ix2 k r) = Y m c (ix2 (row (t.val % 4) k) r) := by
  obtain ⟨⟨e0, e1⟩, -⟩ := named t
  have := lt4 t
  unfold iblk
  rw [View.read_apply]
  show V m c main_arg0 _ = _
  rw [V_main_arg0]
  refine congrArg (Y m c) (Shape.idx_ext₂ ?_ ?_)
  · show win0_0.index t 0 * 1024 + 1 * k.val = (1024 * (t.val % 4) + k.val) % 4096
    rw [e0]; omega
  · show win0_0.index t 1 * 2048 + 1 * r.val = r.val
    rw [e1]; omega

theorem right_block (t : Fin cfg0.N) (k j : Fin 1024) : iblk m c 1 t (ix2 k j) = D m c (ix2 (row (t.val % 4) k) j) := by
  obtain ⟨-, ⟨e0, e1⟩, -⟩ := named t
  have := lt4 t
  unfold iblk
  rw [View.read_apply]
  show V m c main_arg1 _ = _
  rw [V_main_arg1]
  refine congrArg (D m c) (Shape.idx_ext₂ ?_ ?_)
  · show win0_1.index t 0 * 1024 + 1 * k.val = (1024 * (t.val % 4) + k.val) % 4096
    rw [e0]; omega
  · show win0_1.index t 1 * 1024 + 1 * j.val = j.val
    rw [e1]; omega

/-! ## The payloads -/

theorem zero_apply (r : Fin 2048) (j : Fin 1024) : k0_pay1 (F := Ideal) (ix2 r j) = (0 : EReal) := by
  unfold_payloads
  pointwise
theorem add_apply (v : Vec Ideal S2048x1024 .f32) (x : Vec Ideal S1024x2048 .bf16) (y : Vec Ideal S1024x1024 .bf16)
    (r : Fin 2048) (j : Fin 1024) :
    k0_pay2 (F := Ideal) v x y (ix2 r j) = (v (ix2 r j) + ∑ k : Fin 1024, x (ix2 k r) * y (ix2 k j) : EReal) := by
  unfold_payloads
  pointwise
theorem out_apply (v : Vec Ideal S2048x1024 .f32) (r : Fin 2048) (j : Fin 1024) : k0_pay3 (F := Ideal) v (ix2 r j) = (v (ix2 r j) : EReal) := by
  unfold_payloads
  pointwise

/-! ## What the points leave -/

/-- What the point before left in the accumulator. -/
abbrev before (t : Fin cfg0.N) : Vec Ideal S2048x1024 .f32 := (outsAt0 m c (t.val - 1) (Nat.lt_of_le_of_lt (Nat.sub_le _ _) t.isLt)).2

/-- The first point starts the accumulator over. -/
theorem at_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0
  rw [View.read_writes_junk_eq_canon]
  unfold kernelRun0_A
  dsimp only
  sl_unfold_words
  rw [View.canon_cons_unit_zero (S := S2048x1024) zeros2]
  simp only [View.readCov_unit_zero (S := S2048x1024) _ zeros2, View.readAt_eq_ld, (hs0_0 t).read_unread, (hs0_1 t).read_unread,
    (Memref.isWhole_whole _).read_unread, View.ld_unit_zero (S := S1024x2048) zeros2, View.ld_unit_zero (S := S1024x1024) zeros2,
    View.ld_unit_zero (S := S2048x1024) zeros2]

/-- The middle points add to it. -/
theorem at_B (t : Fin cfg0.N) (h0 : ¬t.val % 4 = 0) (h1 : ¬t.val % 4 = 3) :
    (outsAt0 m c t.val t.isLt).2 = k0_pay2 (F := Ideal) (before m c t) (iblk m c 0 t) (iblk m c 1 t) := by
  rw [outsAt0_B m c t h0 h1]
  dsimp only
  unfold before
  generalize (outsAt0 m c (t.val - 1) (Nat.lt_of_le_of_lt (Nat.sub_le _ _) t.isLt)).2 = x
  unfold sout0_B_0
  rw [View.read_writes_junk_eq_canon]
  unfold kernelRun0_B
  dsimp only
  sl_unfold_words
  rw [View.canon_unit_zero zeros2]
  simp only [View.readCov_unit_zero (S := S2048x1024) _ zeros2, View.readAt_eq_ld, (hs0_0 t).read_unread, (hs0_1 t).read_unread,
    (Memref.isWhole_whole _).read_unread, View.ld_unit_zero (S := S1024x2048) zeros2, View.ld_unit_zero (S := S1024x1024) zeros2,
    View.ld_unit_zero (S := S2048x1024) zeros2]

/-- The last point adds to it and writes it out. -/
theorem at_C (t : Fin cfg0.N) (h0 : ¬t.val % 4 = 0) (h1 : t.val % 4 = 3) :
    outsAt0 m c t.val t.isLt = (k0_pay3 (F := Ideal) (k0_pay2 (F := Ideal) (before m c t) (iblk m c 0 t) (iblk m c 1 t)),
      k0_pay2 (F := Ideal) (before m c t) (iblk m c 0 t) (iblk m c 1 t)) := by
  rw [outsAt0_C m c t h0 h1]
  unfold before
  generalize (outsAt0 m c (t.val - 1) (Nat.lt_of_le_of_lt (Nat.sub_le _ _) t.isLt)).2 = x
  unfold out0_C_2 sout0_C_0
  rw [View.read_writes_junk_eq_canon, View.read_writes_junk_eq_canon]
  unfold kernelRun0_C
  dsimp only
  sl_unfold_words
  rw [View.canon_unit_zero zeros2, View.canon_unit_zero zeros2]
  simp only [View.readCov_unit_zero (S := S2048x1024) _ zeros2, View.readAt_eq_ld, (hs0_0 t).read_unread, (hs0_1 t).read_unread,
    (Memref.isWhole_whole _).read_unread, View.ld_unit_zero (S := S1024x2048) zeros2, View.ld_unit_zero (S := S1024x1024) zeros2,
    View.ld_unit_zero (S := S2048x1024) zeros2]

/-- A point's two blocks. -/
abbrev left (t : Fin cfg0.N) : Vec Ideal S1024x2048 .bf16 := iblk m c 0 t
abbrev right (t : Fin cfg0.N) : Vec Ideal S1024x1024 .bf16 := iblk m c 1 t

/-- A point's products. -/
theorem product (t : Fin cfg0.N) (r : Fin 2048) (j : Fin 1024) :
    (∑ k : Fin 1024, left m c t (ix2 k r) * right m c t (ix2 k j) : EReal) = ∑ k : Fin 1024, term m c r j (row (t.val % 4) k) :=
  Finset.sum_congr rfl fun k _ => congrArg₂ (fun a b : EReal => a * b) (left_block m c t k r) (right_block m c t k j)

/-- What the accumulator holds after a point. -/
theorem acc (r : Fin 2048) (j : Fin 1024) (n : ℕ) (h : n < cfg0.N) : (outsAt0 m c n h).2 (ix2 r j) = part (term m c r j) (n % 4 + 1) := by
  refine held (fun n h => (outsAt0 m c n h).2 (ix2 r j)) (fun _ => term m c r j) (fun n h h0 => ?_) (fun n h h0 => ?_) n h
  · refine (congrFun (at_A m c ⟨n, h⟩ h0 (by show ¬n % 4 = 3; omega)) _).trans ?_
    rw [add_apply, zero_apply, zero_add]
    exact product m c ⟨n, h⟩ r j
  · have e : (outsAt0 m c n h).2 = k0_pay2 (F := Ideal) (before m c ⟨n, h⟩) (iblk m c 0 ⟨n, h⟩) (iblk m c 1 ⟨n, h⟩) := by
      by_cases h1 : n % 4 = 3
      · exact congrArg Prod.snd (at_C m c ⟨n, h⟩ h0 h1)
      · exact at_B m c ⟨n, h⟩ h0 h1
    refine (congrFun e _).trans ?_
    rw [add_apply]
    exact congrArg (_ + ·) (product m c ⟨n, h⟩ r j)

/-- What the last point writes out. -/
theorem written (t : Fin cfg0.N) (h1 : t.val % 4 = 3) (r : Fin 2048) (j : Fin 1024) :
    (outsAt0 m c t.val t.isLt).1 (ix2 r j) = ∑ k, term m c r j k := by
  have e := at_C m c t (by omega) h1
  have a := acc m c r j t.val t.isLt
  rw [h1, part_all] at a
  rw [← a, congrArg Prod.fst e, congrArg Prod.snd e]
  exact out_apply _ r j

/-! ## The reference, and the array after the run -/

theorem ref_apply (r : Fin 2048) (j : Fin 1024) : val_main_v6 (F := Ideal) (Y m c) (D m c) (ix2 r j) = ∑ k, term m c r j k := by
  rw [val_main_v6_apply, val_main_v5_apply]
  refine (val_main_v4_apply (Y m c) (D m c) _).trans (Finset.sum_congr rfl fun k _ => ?_)
  rw [val_main_v3_apply, val_main_v1_apply]
  exact (mul_comm _ _).trans (congrArg₂ (fun a b : EReal => a * b) (congrArg (Y m c) (Shape.idx_ext₂ rfl rfl)) (congrArg (D m c) (Shape.idx_ext₂ rfl rfl)))

/-- The gradient's array. -/
theorem final2 : (dats m 0 c).arrAt 2 cfg0.N = val_main_v6 (F := Ideal) (Y m c) (D m c) := by
  refine (dats m 0 c).arrAt_eq_of_cover 2 _ (fun t hf => ?_) (fun i => ?_)
  · obtain ⟨-, -, e0, e1⟩ := named t
    show (cfg0.win 2).cut (grid0.coords t) ((dats m 0 c).after 2 t) = _
    rw [after0_2]
    funext y
    refine (congrArg (outsAt0 m c t.val t.isLt).1 (eq_ix2 (n0 := 2048) (n1 := 1024) y)).trans ?_
    refine (written m c t ((flush0_2 t).mp hf) (y 0) (y 1)).trans ?_
    refine (ref_apply m c _ _).symm.trans ?_
    rw [View.read_apply]
    refine congrArg (val_main_v6 (F := Ideal) (Y m c) (D m c)) (Shape.idx_ext₂ ?_ ?_)
    · show (y 0).val = win0_2.index t 0 * 2048 + 1 * (y 0).val
      rw [e0]; omega
    · show (y 1).val = win0_2.index t 1 * 1024 + 1 * (y 1).val
      rw [e1]; omega
  · have h0 : (i 0 : Nat) < 2048 := (i 0).isLt
    have h1 : (i 1 : Nat) < 1024 := (i 1).isLt
    have hN : cfg0.N = 4 := N_0
    have ht : 3 < cfg0.N := by rw [hN]; omega
    refine ⟨⟨_, ht⟩, (flush0_2 _).mpr rfl, ?_⟩
    obtain ⟨-, -, e0, e1⟩ := named ⟨_, ht⟩
    show i ∈ ((View.whole main_v0).slice (win0_2.rect ⟨_, ht⟩)).set
    rw [View.set_slice_whole, Rect.mem_set_unit]
    intro a
    match a with
    | ⟨0, _⟩ =>
      show win0_2.index _ 0 * 2048 ≤ (i 0 : Nat) ∧ (i 0 : Nat) < win0_2.index _ 0 * 2048 + 2048
      rw [e0]; omega
    | ⟨1, _⟩ =>
      show win0_2.index _ 1 * 1024 ≤ (i 1 : Nat) ∧ (i 1 : Nat) < win0_2.index _ 1 * 1024 + 1024
      rw [e1]; omega

end Cert.WoutBwdIdeal.Sums
-- ==== Proof.Wout.Claims.lean ====
/-
  The claims about the branch's product's weights' gradient, assembled: the reference's frame and the equality of the
  two programs.
-/
module

public import proofs.«01_k».proof.Defs
public import proofs.«01_k».proof.Proof.Wout.Value
public import proofs.«01_k».proof.Proof.Gen.WoutRefIdeal
public import proofs.«01_k».proof.Proof.Gen.WoutRefIdeal.Run
public import Idealize.ShloMosaic.Lib.Quiescent

@[expose] public section

noncomputable section

namespace Cert.Proof.Wout

open Idealize.ShloMosaic Idealize.SL.Sem

/-- The reference runs, keeps its arguments, and has no semaphore. -/
theorem frame_ref : quiescent_WoutRefIdeal := fun m ρ _ =>
  (θ_run Cert.WoutRefIdeal.defs _ _).mono
    (fun r h => ⟨fun c => (h c).2,
      Idealize.ShloMosaic.sem_eq_zero_of_no_sems (by decide) r.2⟩)
    (Cert.WoutRefIdeal.Value.run (F := Ideal) m ρ)

open WoutBwdIdeal.Sums WoutRefIdeal.Read in
/-- From the same arguments the kernel's gradient and the reference's are the same array over the extended reals. -/
theorem algebraic : algebraic_WoutBwdIdeal_WoutRefIdeal := by
  intro m ρ m' ρ' _ hagree
  refine ⟨fun c => val_main_v6 (F := Ideal) (Y m c) (D m c), ?_, ?_⟩
  · refine (θ_run Cert.WoutBwdIdeal.defs _ _).mono (fun r h c => ?_) (Cert.WoutBwdIdeal.Value.run_blocks m ρ)
    obtain ⟨h0, rest⟩ := h c
    exact ⟨h0.trans (final2 m c), rest⟩
  · refine (θ_run Cert.WoutRefIdeal.defs _ _).mono (fun r h c => ?_) (Cert.WoutRefIdeal.Value.run (F := Ideal) m' ρ')
    obtain ⟨h0, rest⟩ := h c
    obtain ⟨e0, e1⟩ := hagree c
    rw [e0, e1] at h0
    exact ⟨h0.trans (val_main_v6_eq _ _), rest⟩

end Cert.Proof.Wout

end
-- ==== Proof.Sum.Table.lean ====
/-
  The sum of a device's parts: the call reads which part is the device's own from a prefetched word. The word is the
  device's place, here 0, so that the windows it names lie in their array.
-/
module

public import proofs.«01_k».proof.Proof.Gen.SumParts.Frame
public import proofs.«01_k».proof.Proof.Gen.SumPartsIdeal.Frame
public import proofs.«01_k».proof.Proof.Gen.SumRefIdeal.Run

@[expose] public section

set_option maxRecDepth 16384

noncomputable section

namespace Cert.SumParts.Place

open Cert.SumParts Cert.SumParts.Gen Idealize.ShloMosaic Idealize.ShloMosaic.TcCoe Idealize.SL.Sem

variable {F : FTy → Type} [FloatOps F] (m : (ℓ : Loc nD τ sig) → Buf (Elt F) ℓ)

/-- The prefetched word. -/
theorem word : V m (0 : Dev nD) main_v0 = fun _ => 0#32 := by
  unfold V hostOps0
  after_results <;> rfl

/-- The block the first window names at a point. -/
theorem named (i : grid0.Coords) : cc0_transform_0 inb_S1_S1_0 numel1_S1 (tbl m) i = ![0, (BitVec.ofNat 32 (i 0).val).toNat, 0] := by
  unfold cc0_transform_0
  have e : (tbl m).at 0 (Rect.unit (s := S1) ![0] S1.size inb_S1_S1_0) numel1_S1 = 0#32 := congrFun (word m) _
  rw [e]
  rfl

theorem ok : Ok m := by
  have e : (fun i => cc0_transform_0 inb_S1_S1_0 numel1_S1 (tbl m) i) = fun i : grid0.Coords => ![0, (BitVec.ofNat 32 (i 0).val).toNat, 0] :=
    funext (named m)
  intro i
  rw [congrFun e i]
  have h : ∀ (i : grid0.Coords) a, ((![0, (BitVec.ofNat 32 (i 0).val).toNat, 0] : Fin 3 → Nat) a + 1) * S1x256x2048.size a ≤ S4x1024x2048.size a := by
    decide +kernel
  exact ⟨h i, .inr (Affine.block_words_dvd (of_decide_eq_true rfl) (by decide))⟩

end Cert.SumParts.Place

namespace Cert.SumPartsIdeal.Place

open Cert.SumPartsIdeal Cert.SumPartsIdeal.Gen Idealize.ShloMosaic Idealize.ShloMosaic.TcCoe Idealize.SL.Sem

variable {F : FTy → Type} [FloatOps F] (m : (ℓ : Loc nD τ sig) → Buf (Elt F) ℓ)

/-- The prefetched word. -/
theorem word : V m (0 : Dev nD) main_v0 = fun _ => 0#32 := by
  unfold V hostOps0
  after_results <;> rfl

/-- The block the first window names at a point. -/
theorem named (i : grid0.Coords) : cc0_transform_0 inb_S1_S1_0 numel1_S1 (tbl m) i = ![0, (BitVec.ofNat 32 (i 0).val).toNat, 0] := by
  unfold cc0_transform_0
  have e : (tbl m).at 0 (Rect.unit (s := S1) ![0] S1.size inb_S1_S1_0) numel1_S1 = 0#32 := congrFun (word m) _
  rw [e]
  rfl

theorem ok : Ok m := by
  have e : (fun i => cc0_transform_0 inb_S1_S1_0 numel1_S1 (tbl m) i) = fun i : grid0.Coords => ![0, (BitVec.ofNat 32 (i 0).val).toNat, 0] :=
    funext (named m)
  intro i
  rw [congrFun e i]
  have h : ∀ (i : grid0.Coords) a, ((![0, (BitVec.ofNat 32 (i 0).val).toNat, 0] : Fin 3 → Nat) a + 1) * S1x256x2048.size a ≤ S4x1024x2048.size a := by
    decide +kernel
  exact ⟨h i, .inr (Affine.block_words_dvd (of_decide_eq_true rfl) (by decide))⟩

end Cert.SumPartsIdeal.Place

end
-- ==== Proof.Sum.Value.lean ====
/-
  The sum of a device's parts, read as values over the extended reals: what a grid point stores, and the array after the
  run beside the reference's term.
-/
module

public import proofs.«01_k».proof.Proof.Sum.Table
public import proofs.«01_k».proof.Proof.Gen.SumPartsIdeal.Frame
public import proofs.«01_k».proof.Proof.Gen.SumRefIdeal.Read
public import proofs.«01_k».proof.Proof.Ada.Spec
public import Idealize.ShloMosaic.Lib.Pipeline.Value
public import Idealize.ShloMosaic.Lib.Pointwise
public import Idealize.ShloMosaic.Lib.ValueIdx

@[expose] public section

set_option maxRecDepth 16384

noncomputable section

namespace Cert.SumPartsIdeal.Sums

open Cert.SumPartsIdeal Cert.SumPartsIdeal.Gen Cert.SumPartsIdeal.Place Idealize.ShloMosaic Idealize.ShloMosaic.TcCoe Idealize.SL.Sem Ada
open Cert.SumRefIdeal.Read

variable (m : (ℓ : Loc nD τ sig) → Buf (Elt Ideal) ℓ) (c : Dev nD)

/-- The device's parts, one for each place. -/
abbrev P : Vec Ideal S4x1024x2048 .bf16 := m ((c : Thread nD τ).loc main_arg0)
/-- The parts that the other three places sent. -/
abbrev L : Vec Ideal S3x1024x2048 .bf16 := m ((c : Thread nD τ).loc main_arg1)

/-- The pipeline at the word. -/
abbrev cfg : Pipeline.Cfg sig Λ₀ := cfgM m (ok m)

theorem lt4 (t : Fin (cfg m).N) : t.val < 4 := t.isLt

/-- The blocks the other two windows name at a point. -/
theorem named12 : ∀ t : Fin grid0.N, (cc0_transform_1 (grid0.coords t) 0 = 0 ∧ cc0_transform_1 (grid0.coords t) 1 = t.val ∧ cc0_transform_1 (grid0.coords t) 2 = 0)
    ∧ (cc0_transform_2 (grid0.coords t) 0 = t.val ∧ cc0_transform_2 (grid0.coords t) 1 = 0)
    ∧ (BitVec.ofNat 32 ((grid0.coords t) 0).val).toNat = t.val := by
  decide +kernel

theorem own_block (t : Fin (cfg m).N) (r : Fin 256) (j : Fin 2048) :
    iblk m (ok m) c 0 t (ix3 0 r j) = P m c (ix3 0 ⟨256 * t.val + r.val, by have := lt4 m t; omega⟩ j) := by
  have e := named m (grid0.coords t)
  obtain ⟨-, -, e1⟩ := named12 t
  rw [e1] at e
  unfold iblk
  refine (View.read_apply _ _).trans ?_
  show V m c main_arg0 _ = _
  rw [V_main_arg0]
  refine congrArg (P m c) (ext3 (Fin.ext ?_) (Fin.ext ?_) (Fin.ext ?_))
  · show cc0_transform_0 inb_S1_S1_0 numel1_S1 (tbl m) (grid0.coords t) 0 * 1 + 1 * 0 = 0
    rw [e]; rfl
  · show cc0_transform_0 inb_S1_S1_0 numel1_S1 (tbl m) (grid0.coords t) 1 * 256 + 1 * r.val = 256 * t.val + r.val
    rw [e]; show t.val * 256 + 1 * r.val = _; omega
  · show cc0_transform_0 inb_S1_S1_0 numel1_S1 (tbl m) (grid0.coords t) 2 * 2048 + 1 * j.val = j.val
    rw [e]; show 0 * 2048 + 1 * j.val = _; omega

theorem sent_block (t : Fin (cfg m).N) (k : Fin 3) (r : Fin 256) (j : Fin 2048) :
    iblk m (ok m) c 1 t (ix3 k r j) = L m c (ix3 k ⟨256 * t.val + r.val, by have := lt4 m t; omega⟩ j) := by
  obtain ⟨⟨e0, e1, e2⟩, -⟩ := named12 t
  unfold iblk
  refine (View.read_apply _ _).trans ?_
  show V m c main_arg1 _ = _
  rw [V_main_arg1]
  refine congrArg (L m c) (ext3 (Fin.ext ?_) (Fin.ext ?_) (Fin.ext ?_))
  · show cc0_transform_1 (grid0.coords t) 0 * 3 + 1 * k.val = k.val
    rw [e0]; omega
  · show cc0_transform_1 (grid0.coords t) 1 * 256 + 1 * r.val = 256 * t.val + r.val
    rw [e1]; omega
  · show cc0_transform_1 (grid0.coords t) 2 * 2048 + 1 * j.val = j.val
    rw [e2]; omega

/-- The stored sum, entry by entry. -/
theorem sum_apply (v0 v3 v7 v11 : Vec Ideal S1x256x2048 .bf16) (r : Fin 256) (j : Fin 2048) :
    k0_pay1 (F := Ideal) v0 v3 v7 v11 (ix2 r j) = (v0 (ix3 0 r j) + v3 (ix3 0 r j) + v7 (ix3 0 r j) + v11 (ix3 0 r j) : EReal) := by
  unfold_payloads
  pointwise

/-- A part's sum over the four places, as the reference has it. -/
theorem ref_apply (r : Fin 1024) (j : Fin 2048) : val_main_v6 (F := Ideal) (P m c) (L m c) (ix2 r j)
    = (P m c (ix3 0 r j) + L m c (ix3 0 r j) + L m c (ix3 1 r j) + L m c (ix3 2 r j) : EReal) := by
  rw [val_main_v6_apply, val_main_v5_apply, val_main_v4_apply, val_main_v2_apply, val_main_v1_apply, val_main_v0_apply, Fin.sum_univ_three]
  have z : val_main_cst (F := Ideal) (Shape.Idx.first SumRefIdeal.Gen.h_S_) = (0 : EReal) := by
    rw [val_main_cst_apply]
    exact Ideal.ofBits_zero .f32
  have e0 : idx_main_v0 (idx_main_v1 (ix2 r j)) = ix3 0 r j :=
    ext3 rfl (Fin.ext (show (r.val * 2048 + j.val) / 2048 % 1024 = r.val by omega)) (Fin.ext (show (r.val * 2048 + j.val) % 2048 = j.val by omega))
  have e : ∀ k : Fin 3, idx_main_v4 (ix2 r j) k = ix3 k r j := fun k => ext3 rfl rfl rfl
  rw [z, e0, e, e, e, zero_add]
  show (P m c (ix3 0 r j) + (L m c (ix3 0 r j) + L m c (ix3 1 r j) + L m c (ix3 2 r j)) : EReal) = _
  rw [← add_assoc, ← add_assoc]

/-- One sent part's rows, loaded from their block. -/
theorem loaded (x : Vec Ideal S3x256x2048 .bf16) (k : Fin 3) (inb : ∀ a, (![k.val, 0, 0] : Fin 3 → Nat) a + S1x256x2048.size a ≤ S3x256x2048.size a)
    (r : Fin 256) (j : Fin 2048) : View.ld x (Rect.unit (s := S3x256x2048) ![k.val, 0, 0] S1x256x2048.size inb) (ix3 0 r j) = x (ix3 k r j) := by
  refine congrArg x (ext3 (Fin.ext ?_) (Fin.ext ?_) (Fin.ext ?_))
  · show k.val + 1 * 0 = k.val; omega
  · show 0 + 1 * r.val = r.val; omega
  · show 0 + 1 * j.val = j.val; omega

/-- What the body stores from two blocks. -/
theorem body (i : grid0.Coords) (a2 : Memref sig .tc .vmem S1x256x2048 .bf16) (h2 : a2.IsWhole) (a3 : Memref sig .tc .vmem S3x256x2048 .bf16)
    (h3 : a3.IsWhole) (a4 : Memref sig .tc .vmem S256x2048 .bf16) (h4 : a4.IsWhole) (x : Vec Ideal S1x256x2048 .bf16)
    (y : Vec Ideal S3x256x2048 .bf16) (w : TbBuf0 (F := Ideal) c tbM0_0) (r : Fin 256) (j : Fin 2048) :
    out0_A_2 c i a2 h2 a3 h3 a4 h4 x y w (ix2 r j) = (x (ix3 0 r j) + y (ix3 0 r j) + y (ix3 1 r j) + y (ix3 2 r j) : EReal) := by
  unfold out0_A_2
  rw [View.read_writes_junk_eq_canon]
  unfold kernelRun0_A
  dsimp only
  sl_unfold_words
  rw [View.canon_unit_zero zeros2, sum_apply]
  simp only [View.readAt_eq_ld, h2.read_unread, h3.read_unread, View.ld_unit_zero (S := S1x256x2048) zeros3]
  have own : View.ld x (Rect.unit (s := S1x256x2048) ![0, 0, 0] S1x256x2048.size inb_S1x256x2048_S1x256x2048_0_0_0) (ix3 0 r j) = x (ix3 0 r j) :=
    congrFun (View.ld_unit_zero (S := S1x256x2048) zeros3 _ _) _
  have l0 := loaded y 0 inb_S3x256x2048_S1x256x2048_0_0_0 r j
  have l1 := loaded y 1 inb_S3x256x2048_S1x256x2048_1_0_0 r j
  have l2 := loaded y 2 inb_S3x256x2048_S1x256x2048_2_0_0 r j
  exact congrArg₂ (fun a b : EReal => a + b) (congrArg₂ (fun a b : EReal => a + b) (congrArg₂ (fun a b : EReal => a + b) own l0) l1) l2

/-- What a point stores. -/
theorem stored (t : Fin (cfg m).N) (r : Fin 256) (j : Fin 2048) :
    outsAt0 m (ok m) c t (ix2 r j) = val_main_v6 (F := Ideal) (P m c) (L m c) (ix2 ⟨256 * t.val + r.val, by have := lt4 m t; omega⟩ j) := by
  rw [ref_apply, ← own_block, ← sent_block, ← sent_block, ← sent_block]
  exact body c _ _ _ _ _ _ _ (iblk m (ok m) c 0 t) (iblk m (ok m) c 1 t) _ r j

/-- The sum's array. -/
theorem final2 : (dats m (ok m) 0 c).arrAt 2 (cfg m).N = val_main_v6 (F := Ideal) (P m c) (L m c) := by
  refine (dats m (ok m) 0 c).arrAt_eq_of_cover 2 _ (fun t hf => ?_) (fun (i : S1024x2048.Idx) => ?_)
  · obtain ⟨-, ⟨e0, e1⟩, -⟩ := named12 t
    show ((cfg m).win 2).cut (grid0.coords t) ((dats m (ok m) 0 c).after 2 t) = _
    rw [after0_2]
    refine funext fun (y : S256x2048.Idx) => ?_
    show outsAt0 m (ok m) c t y = _
    refine (congrArg (outsAt0 m (ok m) c t) (eq_ix2 (n0 := 256) (n1 := 2048) y)).trans ?_
    refine (stored m c t (y 0) (y 1)).trans ?_
    refine Eq.trans ?_ (View.read_apply _ _).symm
    refine congrArg (val_main_v6 (F := Ideal) (P m c) (L m c)) (Shape.idx_ext₂ ?_ ?_)
    · show 256 * t.val + (y 0).val = cc0_transform_2 (grid0.coords t) 0 * 256 + 1 * (y 0).val
      rw [e0]; omega
    · show (y 1).val = cc0_transform_2 (grid0.coords t) 1 * 2048 + 1 * (y 1).val
      rw [e1]; omega
  · have h0 : (i 0 : Nat) < 1024 := (i 0).isLt
    have h1 : (i 1 : Nat) < 2048 := (i 1).isLt
    have ht : (i 0 : Nat) / 256 < (cfg m).N := by show _ < 4; omega
    refine ⟨⟨_, ht⟩, flush0_2 _ _, ?_⟩
    obtain ⟨-, ⟨e0, e1⟩, -⟩ := named12 ⟨_, ht⟩
    show i ∈ ((View.whole main_v1).slice (Rect.block (s := S1024x2048) S256x2048.size (cc0_transform_2 (grid0.coords ⟨_, ht⟩)) (hinb0_2 _))).set
    rw [View.set_slice_whole, Rect.mem_set_unit]
    intro a
    match a with
    | ⟨0, _⟩ =>
      show cc0_transform_2 (grid0.coords ⟨_, ht⟩) 0 * 256 ≤ (i 0 : Nat) ∧ (i 0 : Nat) < cc0_transform_2 (grid0.coords ⟨_, ht⟩) 0 * 256 + 256
      rw [e0]; show (i 0 : Nat) / 256 * 256 ≤ (i 0 : Nat) ∧ (i 0 : Nat) < (i 0 : Nat) / 256 * 256 + 256; omega
    | ⟨1, _⟩ =>
      show cc0_transform_2 (grid0.coords ⟨_, ht⟩) 1 * 2048 ≤ (i 1 : Nat) ∧ (i 1 : Nat) < cc0_transform_2 (grid0.coords ⟨_, ht⟩) 1 * 2048 + 2048
      rw [e1]; omega

end Cert.SumPartsIdeal.Sums

end
-- ==== Proof.Sum.Claims.lean ====
/-
  The claims about the sum of a device's parts, assembled: the frames and the equality of the two programs.
-/
module

public import proofs.«01_k».proof.Defs
public import proofs.«01_k».proof.Proof.Sum.Value
public import proofs.«01_k».proof.Proof.Gen.SumRefIdeal
public import proofs.«01_k».proof.Proof.Gen.SumRefIdeal.Run
public import Idealize.ShloMosaic.Lib.Quiescent

@[expose] public section

noncomputable section

namespace Cert.Proof.Sum

open Idealize.ShloMosaic Idealize.SL.Sem

/-- The printed kernel's frame: the word it prefetches names a part that is there. -/
theorem frame_word : quiescent_SumParts := fun m ρ _ => Cert.SumParts.Gen.frame m ρ (Cert.SumParts.Place.ok m)
/-- The idealized kernel's frame. -/
theorem frame_ideal : quiescent_SumPartsIdeal := fun m ρ _ => Cert.SumPartsIdeal.Gen.frame m ρ (Cert.SumPartsIdeal.Place.ok m)

/-- The reference runs, keeps its arguments, and has no semaphore. -/
theorem frame_ref : quiescent_SumRefIdeal := fun m ρ _ =>
  (θ_run Cert.SumRefIdeal.defs _ _).mono
    (fun r h => ⟨fun c => (h c).2,
      Idealize.ShloMosaic.sem_eq_zero_of_no_sems (by decide) r.2⟩)
    (Cert.SumRefIdeal.Value.run (F := Ideal) m ρ)

open SumPartsIdeal.Sums SumPartsIdeal.Place SumRefIdeal.Read in
/-- From the same arguments the kernel's sum and the reference's are the same array over the extended reals. -/
theorem algebraic : algebraic_SumPartsIdeal_SumRefIdeal := by
  intro m ρ m' ρ' _ hagree
  refine ⟨fun c => val_main_v6 (F := Ideal) (P m c) (L m c), ?_, ?_⟩
  · exact (θ_run Cert.SumPartsIdeal.defs _ _).mono (fun r h c => ⟨((h.1 c).1 2).trans (final2 m c), h.2 c⟩)
      (θ_run_and (Cert.SumPartsIdeal.Gen.run_main m ρ (ok m)) (Cert.SumPartsIdeal.Gen.unchanged m ρ (ok m)))
  · refine (θ_run Cert.SumRefIdeal.defs _ _).mono (fun r h c => ?_) (Cert.SumRefIdeal.Value.run (F := Ideal) m' ρ')
    obtain ⟨h0, rest⟩ := h c
    obtain ⟨e0, e1⟩ := hagree c
    rw [e0, e1] at h0
    exact ⟨h0.trans (val_main_v6_eq _ _), rest⟩

end Cert.Proof.Sum

end
-- ==== Proof.Pair.Claims.lean ====
/-
  The claims about the optimiser's step on a gathered weight, assembled: every entry of the four results is the same
  operations of the same entries in both programs.
-/
module

public import proofs.«01_k».proof.Defs
public import proofs.«01_k».proof.Proof.Gen.PairUpdIdeal.Value
public import proofs.«01_k».proof.Proof.Gen.PairRefIdeal
public import proofs.«01_k».proof.Proof.Gen.PairRefIdeal.Run
public import proofs.«01_k».proof.Proof.Gen.PairRefIdeal.Read
public import Idealize.ShloMosaic.Lib.Quiescent

@[expose] public section

set_option maxRecDepth 16384

noncomputable section

namespace Cert.Proof.Pair

open Idealize.ShloMosaic Idealize.SL.Sem

/-- The reference runs, keeps its arguments, and has no semaphore. -/
theorem frame_ref : quiescent_PairRefIdeal := fun m ρ _ =>
  (θ_run Cert.PairRefIdeal.defs _ _).mono
    (fun r h => ⟨fun c => (h c).2.2.2.2,
      Idealize.ShloMosaic.sem_eq_zero_of_no_sems (by decide) r.2⟩)
    (Cert.PairRefIdeal.Value.run (F := Ideal) m ρ)

open PairRefIdeal.Read

section
variable (a b : Vec Ideal PairUpdIdeal.S1024x2048 .bf16) (w p q : Vec Ideal PairUpdIdeal.S1024x2048 .f32)

/-- The gradient: the two parts' sum. -/
theorem gradient : PairUpdIdeal.Value.G5 (F := Ideal) a b = val_main_v2 (F := Ideal) a b := by
  funext i
  rw [val_main_v2_apply, val_main_v1_apply, val_main_v0_apply]

/-- The first moment. -/
theorem moment : PairUpdIdeal.Value.G7 (F := Ideal) a b p = val_main_v7 (F := Ideal) a b p := by
  funext i
  rw [val_main_v7_apply, val_main_v6_apply, val_main_v5_apply, val_main_v4_apply, val_main_v3_apply, ← gradient]
  rfl

/-- The second moment. -/
theorem square : PairUpdIdeal.Value.G8 (F := Ideal) a b q = val_main_v13 (F := Ideal) a b q := by
  funext i
  rw [val_main_v13_apply, val_main_v12_apply, val_main_v11_apply, val_main_v10_apply, val_main_v9_apply, val_main_v8_apply, ← gradient]
  rfl

/-- The weight's change. -/
theorem change : PairUpdIdeal.Value.G6 (F := Ideal) a b w p q = val_main_v26 (F := Ideal) a b w p q := by
  funext i
  rw [val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_v14_apply, ← moment, ← square]
  rfl

end

/-- From the same arguments the kernel's four results and the reference's are the same arrays over the extended reals. -/
theorem algebraic : algebraic_PairUpdIdeal_PairRefIdeal := by
  intro m ρ m' ρ' _ hagree
  refine ⟨_, _, _, _, (θ_run Cert.PairUpdIdeal.defs _ _).mono (fun r h c => h c) (Cert.PairUpdIdeal.Value.run m ρ), ?_⟩
  refine (θ_run Cert.PairRefIdeal.defs _ _).mono (fun r h c => ?_) (Cert.PairRefIdeal.Value.run (F := Ideal) m' ρ')
  obtain ⟨h0, h1, h2, h3, rest⟩ := h c
  obtain ⟨e0, e1, e2, e3, e4⟩ := hagree c
  rw [e0, e1] at h0
  rw [e0, e1, e2, e3, e4] at h1
  rw [e0, e1, e3] at h2
  rw [e0, e1, e4] at h3
  exact ⟨h0.trans ((val_main_v2_eq _ _).trans (gradient _ _).symm), h1.trans ((val_main_v26_eq _ _ _ _ _).trans (change _ _ _ _ _).symm),
    h2.trans ((val_main_v7_eq _ _ _).trans (moment _ _ _).symm), h3.trans ((val_main_v13_eq _ _ _).trans (square _ _ _).symm), rest⟩

end Cert.Proof.Pair

end
-- ==== Proof.lean ====
/-
  The certificate: the claims of the statement about every pair of programs, put together.
-/
module

public import proofs.«01_k».proof.Defs
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gate.Claims
public import proofs.«01_k».proof.Proof.Gen.SguBwd
public import proofs.«01_k».proof.Proof.Gen.SguBwd.Skeleton
public import proofs.«01_k».proof.Proof.Gen.SguBwd.Launch
public import proofs.«01_k».proof.Proof.Gen.SguBwd.Points
public import proofs.«01_k».proof.Proof.Gen.SguBwd.Frame
public import proofs.«01_k».proof.Proof.Gen.SguBwdIdeal
public import proofs.«01_k».proof.Proof.Gen.SguBwdIdeal.Skeleton
public import proofs.«01_k».proof.Proof.Gen.SguBwdIdeal.Launch
public import proofs.«01_k».proof.Proof.Gen.SguBwdIdeal.Points
public import proofs.«01_k».proof.Proof.Gen.SguBwdIdeal.Frame
public import proofs.«01_k».proof.Proof.Gen.SguBwdIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.Pre_sgu_finite
public import proofs.«01_k».proof.Proof.Sgu.Claims
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Loss.Claims
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Pre_norm_finite
public import proofs.«01_k».proof.Proof.Norm.Claims
public import proofs.«01_k».proof.Proof.Gen.NormABwd
public import proofs.«01_k».proof.Proof.Gen.NormABwd.Skeleton
public import proofs.«01_k».proof.Proof.Gen.NormABwd.Launch
public import proofs.«01_k».proof.Proof.Gen.NormABwd.Points
public import proofs.«01_k».proof.Proof.Gen.NormABwd.Frame
public import proofs.«01_k».proof.Proof.Gen.NormABwdIdeal
public import proofs.«01_k».proof.Proof.Gen.NormABwdIdeal.Skeleton
public import proofs.«01_k».proof.Proof.Gen.NormABwdIdeal.Launch
public import proofs.«01_k».proof.Proof.Gen.NormABwdIdeal.Points
public import proofs.«01_k».proof.Proof.Gen.NormABwdIdeal.Frame
public import proofs.«01_k».proof.Proof.Gen.NormABwdIdeal.Value
public import proofs.«01_k».proof.Proof.Gen.NormARefIdeal
public import proofs.«01_k».proof.Proof.Gen.NormARefIdeal.Run
public import proofs.«01_k».proof.Proof.Gen.NormARefIdeal.Read
public import proofs.«01_k».proof.Proof.Gen.Pre_first_norm_finite
public import proofs.«01_k».proof.Proof.NormA.Claims
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_mix_finite
public import proofs.«01_k».proof.Proof.Mix.Claims
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Out.Claims
public import proofs.«01_k».proof.Proof.Gen.InpFwd
public import proofs.«01_k».proof.Proof.Gen.InpFwd.Skeleton
public import proofs.«01_k».proof.Proof.Gen.InpFwd.Launch
public import proofs.«01_k».proof.Proof.Gen.InpFwd.Points
public import proofs.«01_k».proof.Proof.Gen.InpFwd.Frame
public import proofs.«01_k».proof.Proof.Gen.InpFwdIdeal
public import proofs.«01_k».proof.Proof.Gen.InpFwdIdeal.Skeleton
public import proofs.«01_k».proof.Proof.Gen.InpFwdIdeal.Launch
public import proofs.«01_k».proof.Proof.Gen.InpFwdIdeal.Points
public import proofs.«01_k».proof.Proof.Gen.InpFwdIdeal.Frame
public import proofs.«01_k».proof.Proof.Gen.InpRefIdeal
public import proofs.«01_k».proof.Proof.Gen.InpRefIdeal.Run
public import proofs.«01_k».proof.Proof.Gen.InpRefIdeal.Read
public import proofs.«01_k».proof.Proof.Inp.Claims
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Ada.Claims
public import proofs.«01_k».proof.Proof.Gen.BiasUpd
public import proofs.«01_k».proof.Proof.Gen.BiasUpd.Skeleton
public import proofs.«01_k».proof.Proof.Gen.BiasUpd.Launch
public import proofs.«01_k».proof.Proof.Gen.BiasUpd.Points
public import proofs.«01_k».proof.Proof.Gen.BiasUpd.Frame
public import proofs.«01_k».proof.Proof.Gen.BiasUpdIdeal
public import proofs.«01_k».proof.Proof.Gen.BiasUpdIdeal.Skeleton
public import proofs.«01_k».proof.Proof.Gen.BiasUpdIdeal.Launch
public import proofs.«01_k».proof.Proof.Gen.BiasUpdIdeal.Points
public import proofs.«01_k».proof.Proof.Gen.BiasUpdIdeal.Frame
public import proofs.«01_k».proof.Proof.Gen.BiasUpdIdeal.Value
public import proofs.«01_k».proof.Proof.Gen.BiasRefIdeal
public import proofs.«01_k».proof.Proof.Gen.BiasRefIdeal.Run
public import proofs.«01_k».proof.Proof.Gen.BiasRefIdeal.Read
public import proofs.«01_k».proof.Proof.Bias.Claims
public import proofs.«01_k».proof.Proof.Gen.ModuFwd
public import proofs.«01_k».proof.Proof.Gen.ModuFwd.Skeleton
public import proofs.«01_k».proof.Proof.Gen.ModuFwd.Launch
public import proofs.«01_k».proof.Proof.Gen.ModuFwd.Points
public import proofs.«01_k».proof.Proof.Gen.ModuFwd.Frame
public import proofs.«01_k».proof.Proof.Gen.ModuFwdIdeal
public import proofs.«01_k».proof.Proof.Gen.ModuFwdIdeal.Skeleton
public import proofs.«01_k».proof.Proof.Gen.ModuFwdIdeal.Launch
public import proofs.«01_k».proof.Proof.Gen.ModuFwdIdeal.Points
public import proofs.«01_k».proof.Proof.Gen.ModuFwdIdeal.Frame
public import proofs.«01_k».proof.Proof.Gen.ModuFwdIdeal.Value
public import proofs.«01_k».proof.Proof.Gen.ModuRefIdeal
public import proofs.«01_k».proof.Proof.Gen.ModuRefIdeal.Run
public import proofs.«01_k».proof.Proof.Gen.ModuRefIdeal.Read
public import proofs.«01_k».proof.Proof.Modu.Claims
public import proofs.«01_k».proof.Proof.Gen.ScanFwd
public import proofs.«01_k».proof.Proof.Gen.ScanFwd.Skeleton
public import proofs.«01_k».proof.Proof.Gen.ScanFwd.Launch
public import proofs.«01_k».proof.Proof.Gen.ScanFwd.Points
public import proofs.«01_k».proof.Proof.Gen.ScanFwd.Frame
public import proofs.«01_k».proof.Proof.Gen.ScanFwdIdeal
public import proofs.«01_k».proof.Proof.Gen.ScanFwdIdeal.Skeleton
public import proofs.«01_k».proof.Proof.Gen.ScanFwdIdeal.Launch
public import proofs.«01_k».proof.Proof.Gen.ScanFwdIdeal.Points
public import proofs.«01_k».proof.Proof.Gen.ScanFwdIdeal.Frame
public import proofs.«01_k».proof.Proof.Gen.WinBwd
public import proofs.«01_k».proof.Proof.Gen.WinBwd.Skeleton
public import proofs.«01_k».proof.Proof.Gen.WinBwd.Launch
public import proofs.«01_k».proof.Proof.Gen.WinBwd.Points
public import proofs.«01_k».proof.Proof.Gen.WinBwd.Frame
public import proofs.«01_k».proof.Proof.Gen.WinBwdIdeal
public import proofs.«01_k».proof.Proof.Gen.WinBwdIdeal.Skeleton
public import proofs.«01_k».proof.Proof.Gen.WinBwdIdeal.Launch
public import proofs.«01_k».proof.Proof.Gen.WinBwdIdeal.Points
public import proofs.«01_k».proof.Proof.Gen.WinBwdIdeal.Frame
public import proofs.«01_k».proof.Proof.Gen.WinBwdIdeal.Value
public import proofs.«01_k».proof.Proof.Gen.WinRefIdeal
public import proofs.«01_k».proof.Proof.Gen.WinRefIdeal.Run
public import proofs.«01_k».proof.Proof.Gen.WinRefIdeal.Read
public import proofs.«01_k».proof.Proof.Win.Claims
public import proofs.«01_k».proof.Proof.Gen.WoutBwd
public import proofs.«01_k».proof.Proof.Gen.WoutBwd.Skeleton
public import proofs.«01_k».proof.Proof.Gen.WoutBwd.Launch
public import proofs.«01_k».proof.Proof.Gen.WoutBwd.Points
public import proofs.«01_k».proof.Proof.Gen.WoutBwd.Frame
public import proofs.«01_k».proof.Proof.Gen.WoutBwdIdeal
public import proofs.«01_k».proof.Proof.Gen.WoutBwdIdeal.Skeleton
public import proofs.«01_k».proof.Proof.Gen.WoutBwdIdeal.Launch
public import proofs.«01_k».proof.Proof.Gen.WoutBwdIdeal.Points
public import proofs.«01_k».proof.Proof.Gen.WoutBwdIdeal.Frame
public import proofs.«01_k».proof.Proof.Gen.WoutBwdIdeal.Value
public import proofs.«01_k».proof.Proof.Gen.WoutRefIdeal
public import proofs.«01_k».proof.Proof.Gen.WoutRefIdeal.Run
public import proofs.«01_k».proof.Proof.Gen.WoutRefIdeal.Read
public import proofs.«01_k».proof.Proof.Wout.Claims
public import proofs.«01_k».proof.Proof.Gen.SumParts
public import proofs.«01_k».proof.Proof.Gen.SumParts.Skeleton
public import proofs.«01_k».proof.Proof.Gen.SumParts.Launch
public import proofs.«01_k».proof.Proof.Gen.SumParts.Points
public import proofs.«01_k».proof.Proof.Gen.SumParts.Frame
public import proofs.«01_k».proof.Proof.Gen.SumPartsIdeal
public import proofs.«01_k».proof.Proof.Gen.SumPartsIdeal.Skeleton
public import proofs.«01_k».proof.Proof.Gen.SumPartsIdeal.Launch
public import proofs.«01_k».proof.Proof.Gen.SumPartsIdeal.Points
public import proofs.«01_k».proof.Proof.Gen.SumPartsIdeal.Frame
public import proofs.«01_k».proof.Proof.Gen.SumRefIdeal
public import proofs.«01_k».proof.Proof.Gen.SumRefIdeal.Run
public import proofs.«01_k».proof.Proof.Gen.SumRefIdeal.Read
public import proofs.«01_k».proof.Proof.Sum.Claims
public import proofs.«01_k».proof.Proof.Gen.PairUpd
public import proofs.«01_k».proof.Proof.Gen.PairUpd.Skeleton
public import proofs.«01_k».proof.Proof.Gen.PairUpd.Launch
public import proofs.«01_k».proof.Proof.Gen.PairUpd.Points
public import proofs.«01_k».proof.Proof.Gen.PairUpd.Frame
public import proofs.«01_k».proof.Proof.Gen.PairUpdIdeal
public import proofs.«01_k».proof.Proof.Gen.PairUpdIdeal.Skeleton
public import proofs.«01_k».proof.Proof.Gen.PairUpdIdeal.Launch
public import proofs.«01_k».proof.Proof.Gen.PairUpdIdeal.Points
public import proofs.«01_k».proof.Proof.Gen.PairUpdIdeal.Frame
public import proofs.«01_k».proof.Proof.Gen.PairUpdIdeal.Value
public import proofs.«01_k».proof.Proof.Gen.PairRefIdeal
public import proofs.«01_k».proof.Proof.Gen.PairRefIdeal.Run
public import proofs.«01_k».proof.Proof.Gen.PairRefIdeal.Read
public import proofs.«01_k».proof.Proof.Pair.Claims
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨
  Cert.GateBwd.Gen.facts,
  Cert.GateBwdIdeal.Gen.facts,
  Cert.GateRefIdeal.Gen.facts,
  Cert.SguBwd.Gen.facts,
  Cert.SguBwdIdeal.Gen.facts,
  Cert.SguRefIdeal.Gen.facts,
  Cert.LossBwd.Gen.facts,
  Cert.LossBwdIdeal.Gen.facts,
  Cert.LossRefIdeal.Gen.facts,
  Cert.NormBwd.Gen.facts,
  Cert.NormBwdIdeal.Gen.facts,
  Cert.NormRefIdeal.Gen.facts,
  Cert.NormABwd.Gen.facts,
  Cert.NormABwdIdeal.Gen.facts,
  Cert.NormARefIdeal.Gen.facts,
  Cert.MixFwd.Gen.facts,
  Cert.MixFwdIdeal.Gen.facts,
  Cert.MixRefIdeal.Gen.facts,
  Cert.OutFwd.Gen.facts,
  Cert.OutFwdIdeal.Gen.facts,
  Cert.OutRefIdeal.Gen.facts,
  Cert.InpFwd.Gen.facts,
  Cert.InpFwdIdeal.Gen.facts,
  Cert.InpRefIdeal.Gen.facts,
  Cert.AdaBwd.Gen.facts,
  Cert.AdaBwdIdeal.Gen.facts,
  Cert.AdaRefIdeal.Gen.facts,
  Cert.BiasUpd.Gen.facts,
  Cert.BiasUpdIdeal.Gen.facts,
  Cert.BiasRefIdeal.Gen.facts,
  Cert.ModuFwd.Gen.facts,
  Cert.ModuFwdIdeal.Gen.facts,
  Cert.ModuRefIdeal.Gen.facts,
  Cert.ScanFwd.Gen.facts,
  Cert.ScanFwdIdeal.Gen.facts,
  Cert.WinBwd.Gen.facts,
  Cert.WinBwdIdeal.Gen.facts,
  Cert.WinRefIdeal.Gen.facts,
  Cert.WoutBwd.Gen.facts,
  Cert.WoutBwdIdeal.Gen.facts,
  Cert.WoutRefIdeal.Gen.facts,
  Cert.SumParts.Gen.facts,
  Cert.SumPartsIdeal.Gen.facts,
  Cert.SumRefIdeal.Gen.facts,
  Cert.PairUpd.Gen.facts,
  Cert.PairUpdIdeal.Gen.facts,
  Cert.PairRefIdeal.Gen.facts,
  Cert.Pre_sgu_finite.Gen.facts,
  Cert.Pre_loss_finite.Gen.facts,
  Cert.Pre_norm_finite.Gen.facts,
  Cert.Pre_first_norm_finite.Gen.facts,
  Cert.Pre_mix_finite.Gen.facts,
  fun m ρ _ => Cert.GateBwd.Gen.frame m ρ, fun m ρ _ => Cert.GateBwdIdeal.Gen.frame m ρ, Gate.frame_ref,
  fun m ρ _ => Cert.SguBwd.Gen.frame m ρ, fun m ρ _ => Cert.SguBwdIdeal.Gen.frame m ρ, fun m ρ _ => Cert.SguBwdIdeal.Gen.frame m ρ, Sgu.frame_ref, fun m ρ _ => Sgu.frame_ref m ρ trivial,
  fun m ρ _ => Cert.LossBwd.Gen.frame m ρ, fun m ρ _ => Cert.LossBwdIdeal.Gen.frame m ρ, fun m ρ _ => Cert.LossBwdIdeal.Gen.frame m ρ, Loss.frame_ref, fun m ρ _ => Loss.frame_ref m ρ trivial,
  fun m ρ _ => Cert.NormBwd.Gen.frame m ρ, fun m ρ _ => Cert.NormBwdIdeal.Gen.frame m ρ, fun m ρ _ => Cert.NormBwdIdeal.Gen.frame m ρ, Norm.frame_ref, fun m ρ _ => Norm.frame_ref m ρ trivial,
  fun m ρ _ => Cert.NormABwd.Gen.frame m ρ, fun m ρ _ => Cert.NormABwdIdeal.Gen.frame m ρ, fun m ρ _ => Cert.NormABwdIdeal.Gen.frame m ρ, NormA.frame_ref, fun m ρ _ => NormA.frame_ref m ρ trivial,
  fun m ρ _ => Cert.MixFwd.Gen.frame m ρ, fun m ρ _ => Cert.MixFwdIdeal.Gen.frame m ρ, fun m ρ _ => Cert.MixFwdIdeal.Gen.frame m ρ, Mix.frame_ref, fun m ρ _ => Mix.frame_ref m ρ trivial,
  fun m ρ _ => Cert.OutFwd.Gen.frame m ρ, fun m ρ _ => Cert.OutFwdIdeal.Gen.frame m ρ, Out.frame_ref,
  Inp.frame_word, Inp.frame_ideal, Inp.frame_ref,
  fun m ρ _ => Cert.AdaBwd.Gen.frame m ρ, fun m ρ _ => Cert.AdaBwdIdeal.Gen.frame m ρ, Ada.frame_ref,
  fun m ρ _ => Cert.BiasUpd.Gen.frame m ρ, fun m ρ _ => Cert.BiasUpdIdeal.Gen.frame m ρ, Bias.frame_ref,
  fun m ρ _ => Cert.ModuFwd.Gen.frame m ρ, fun m ρ _ => Cert.ModuFwdIdeal.Gen.frame m ρ, Modu.frame_ref,
  fun m ρ _ => Cert.ScanFwd.Gen.frame m ρ, fun m ρ _ => Cert.ScanFwdIdeal.Gen.frame m ρ,
  fun m ρ _ => Cert.WinBwd.Gen.frame m ρ, fun m ρ _ => Cert.WinBwdIdeal.Gen.frame m ρ, Win.frame_ref,
  fun m ρ _ => Cert.WoutBwd.Gen.frame m ρ, fun m ρ _ => Cert.WoutBwdIdeal.Gen.frame m ρ, Wout.frame_ref,
  Sum.frame_word, Sum.frame_ideal, Sum.frame_ref,
  fun m ρ _ => Cert.PairUpd.Gen.frame m ρ, fun m ρ _ => Cert.PairUpdIdeal.Gen.frame m ρ, Pair.frame_ref,
  trivial, Gate.algebraic,
  Sgu.names, Sgu.algebraic,
  trivial, Loss.algebraic,
  trivial, Norm.algebraic,
  trivial, NormA.algebraic,
  Mix.names, Mix.algebraic,
  trivial, Out.algebraic,
  trivial, Inp.algebraic,
  trivial, Ada.algebraic,
  trivial, Bias.algebraic,
  trivial, Modu.algebraic,
  trivial,
  trivial, Win.algebraic,
  trivial, Wout.algebraic,
  trivial, Sum.algebraic,
  trivial, Pair.algebraic⟩

end Cert.Proof

end
